-- ==== Defs.lean ====
def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_finite_out [hPre_finite_out : Cert.Pre_finite_out.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_finite_out.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite_out [hPre_finite_out : Cert.Pre_finite_out.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite_out.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_bb [hPre_finite_bb : Cert.Pre_finite_bb.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_bb.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_bb [hPre_finite_bb : Cert.Pre_finite_bb.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_bb.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))) = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_fwd [hPre_finite_fwd : Cert.Pre_finite_fwd.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4)) (m ((c.tc : Thread Cert.FwdKernelIdeal.nD Cert.FwdKernelIdeal.τ).loc Cert.FwdKernelIdeal.main_arg5)) (m ((c.tc : Thread Cert.FwdKernelIdeal.nD Cert.FwdKernelIdeal.τ).loc Cert.FwdKernelIdeal.main_arg6)) (m ((c.tc : Thread Cert.FwdKernelIdeal.nD Cert.FwdKernelIdeal.τ).loc Cert.FwdKernelIdeal.main_arg7)) (m ((c.tc : Thread Cert.FwdKernelIdeal.nD Cert.FwdKernelIdeal.τ).loc Cert.FwdKernelIdeal.main_arg8))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4)) (m ((c.tc : Thread Cert.FwdReferenceIdeal.nD Cert.FwdReferenceIdeal.τ).loc Cert.FwdReferenceIdeal.main_arg5)) (m ((c.tc : Thread Cert.FwdReferenceIdeal.nD Cert.FwdReferenceIdeal.τ).loc Cert.FwdReferenceIdeal.main_arg6)) (m ((c.tc : Thread Cert.FwdReferenceIdeal.nD Cert.FwdReferenceIdeal.τ).loc Cert.FwdReferenceIdeal.main_arg7)) (m ((c.tc : Thread Cert.FwdReferenceIdeal.nD Cert.FwdReferenceIdeal.τ).loc Cert.FwdReferenceIdeal.main_arg8))) = (fun _ => 1#1)

def Pre_InbKernel (m : (ℓ : Loc Cert.InbKernel.nD Cert.InbKernel.τ Cert.InbKernel.sig) → Buf (Elt Bits) ℓ) : Prop :=
  True

def Pre_InbKernelIdeal (m : (ℓ : Loc Cert.InbKernelIdeal.nD Cert.InbKernelIdeal.τ Cert.InbKernelIdeal.sig) → Buf (Elt Ideal) ℓ) : Prop :=
  True

def Pre_InbKernelIdeal_finite_inb [hPre_finite_inb : Cert.Pre_finite_inb.Facts] (m : (ℓ : Loc Cert.InbKernelIdeal.nD Cert.InbKernelIdeal.τ Cert.InbKernelIdeal.sig) → Buf (Elt Ideal) ℓ) : Prop :=
  ∀ c : Dev Cert.InbKernelIdeal.nD,
    (Cert.Pre_finite_inb.fn (F := Ideal) (m ((c.tc : Thread Cert.InbKernelIdeal.nD Cert.InbKernelIdeal.τ).loc Cert.InbKernelIdeal.main_arg0)) (m ((c.tc : Thread Cert.InbKernelIdeal.nD Cert.InbKernelIdeal.τ).loc Cert.InbKernelIdeal.main_arg1)) (m ((c.tc : Thread Cert.InbKernelIdeal.nD Cert.InbKernelIdeal.τ).loc Cert.InbKernelIdeal.main_arg2)) (m ((c.tc : Thread Cert.InbKernelIdeal.nD Cert.InbKernelIdeal.τ).loc Cert.InbKernelIdeal.main_arg3)) (m ((c.tc : Thread Cert.InbKernelIdeal.nD Cert.InbKernelIdeal.τ).loc Cert.InbKernelIdeal.main_arg4)) (m ((c.tc : Thread Cert.InbKernelIdeal.nD Cert.InbKernelIdeal.τ).loc Cert.InbKernelIdeal.main_arg5)) (m ((c.tc : Thread Cert.InbKernelIdeal.nD Cert.InbKernelIdeal.τ).loc Cert.InbKernelIdeal.main_arg6))) = (fun _ => 1#1)

def Pre_InbReferenceIdeal (m : (ℓ : Loc Cert.InbReferenceIdeal.nD Cert.InbReferenceIdeal.τ Cert.InbReferenceIdeal.sig) → Buf (Elt Ideal) ℓ) : Prop :=
  True

def Pre_InbReferenceIdeal_finite_inb [hPre_finite_inb : Cert.Pre_finite_inb.Facts] (m : (ℓ : Loc Cert.InbReferenceIdeal.nD Cert.InbReferenceIdeal.τ Cert.InbReferenceIdeal.sig) → Buf (Elt Ideal) ℓ) : Prop :=
  ∀ c : Dev Cert.InbReferenceIdeal.nD,
    (Cert.Pre_finite_inb.fn (F := Ideal) (m ((c.tc : Thread Cert.InbReferenceIdeal.nD Cert.InbReferenceIdeal.τ).loc Cert.InbReferenceIdeal.main_arg0)) (m ((c.tc : Thread Cert.InbReferenceIdeal.nD Cert.InbReferenceIdeal.τ).loc Cert.InbReferenceIdeal.main_arg1)) (m ((c.tc : Thread Cert.InbReferenceIdeal.nD Cert.InbReferenceIdeal.τ).loc Cert.InbReferenceIdeal.main_arg2)) (m ((c.tc : Thread Cert.InbReferenceIdeal.nD Cert.InbReferenceIdeal.τ).loc Cert.InbReferenceIdeal.main_arg3)) (m ((c.tc : Thread Cert.InbReferenceIdeal.nD Cert.InbReferenceIdeal.τ).loc Cert.InbReferenceIdeal.main_arg4)) (m ((c.tc : Thread Cert.InbReferenceIdeal.nD Cert.InbReferenceIdeal.τ).loc Cert.InbReferenceIdeal.main_arg5)) (m ((c.tc : Thread Cert.InbReferenceIdeal.nD Cert.InbReferenceIdeal.τ).loc Cert.InbReferenceIdeal.main_arg6))) = (fun _ => 1#1)

def Pre_InaKernel (m : (ℓ : Loc Cert.InaKernel.nD Cert.InaKernel.τ Cert.InaKernel.sig) → Buf (Elt Bits) ℓ) : Prop :=
  True

def Pre_InaKernelIdeal (m : (ℓ : Loc Cert.InaKernelIdeal.nD Cert.InaKernelIdeal.τ Cert.InaKernelIdeal.sig) → Buf (Elt Ideal) ℓ) : Prop :=
  True

def Pre_InaKernelIdeal_finite_ina [hPre_finite_ina : Cert.Pre_finite_ina.Facts] (m : (ℓ : Loc Cert.InaKernelIdeal.nD Cert.InaKernelIdeal.τ Cert.InaKernelIdeal.sig) → Buf (Elt Ideal) ℓ) : Prop :=
  ∀ c : Dev Cert.InaKernelIdeal.nD,
    (Cert.Pre_finite_ina.fn (F := Ideal) (m ((c.tc : Thread Cert.InaKernelIdeal.nD Cert.InaKernelIdeal.τ).loc Cert.InaKernelIdeal.main_arg0)) (m ((c.tc : Thread Cert.InaKernelIdeal.nD Cert.InaKernelIdeal.τ).loc Cert.InaKernelIdeal.main_arg1)) (m ((c.tc : Thread Cert.InaKernelIdeal.nD Cert.InaKernelIdeal.τ).loc Cert.InaKernelIdeal.main_arg2)) (m ((c.tc : Thread Cert.InaKernelIdeal.nD Cert.InaKernelIdeal.τ).loc Cert.InaKernelIdeal.main_arg3)) (m ((c.tc : Thread Cert.InaKernelIdeal.nD Cert.InaKernelIdeal.τ).loc Cert.InaKernelIdeal.main_arg4))) = (fun _ => 1#1)

def Pre_InaReferenceIdeal (m : (ℓ : Loc Cert.InaReferenceIdeal.nD Cert.InaReferenceIdeal.τ Cert.InaReferenceIdeal.sig) → Buf (Elt Ideal) ℓ) : Prop :=
  True

def Pre_InaReferenceIdeal_finite_ina [hPre_finite_ina : Cert.Pre_finite_ina.Facts] (m : (ℓ : Loc Cert.InaReferenceIdeal.nD Cert.InaReferenceIdeal.τ Cert.InaReferenceIdeal.sig) → Buf (Elt Ideal) ℓ) : Prop :=
  ∀ c : Dev Cert.InaReferenceIdeal.nD,
    (Cert.Pre_finite_ina.fn (F := Ideal) (m ((c.tc : Thread Cert.InaReferenceIdeal.nD Cert.InaReferenceIdeal.τ).loc Cert.InaReferenceIdeal.main_arg0)) (m ((c.tc : Thread Cert.InaReferenceIdeal.nD Cert.InaReferenceIdeal.τ).loc Cert.InaReferenceIdeal.main_arg1)) (m ((c.tc : Thread Cert.InaReferenceIdeal.nD Cert.InaReferenceIdeal.τ).loc Cert.InaReferenceIdeal.main_arg2)) (m ((c.tc : Thread Cert.InaReferenceIdeal.nD Cert.InaReferenceIdeal.τ).loc Cert.InaReferenceIdeal.main_arg3)) (m ((c.tc : Thread Cert.InaReferenceIdeal.nD Cert.InaReferenceIdeal.τ).loc Cert.InaReferenceIdeal.main_arg4))) = (fun _ => 1#1)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutKernelIdeal_pre_finite_out [hOutKernelIdeal : Cert.OutKernelIdeal.Facts] [hPre_finite_out : Cert.Pre_finite_out.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_finite_out m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_OutReferenceIdeal_pre_finite_out [hOutReferenceIdeal : Cert.OutReferenceIdeal.Facts] [hPre_finite_out : Cert.Pre_finite_out.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite_out m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixKernelIdeal_pre_finite_bb [hMixKernelIdeal : Cert.MixKernelIdeal.Facts] [hPre_finite_bb : Cert.Pre_finite_bb.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_bb m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_MixReferenceIdeal_pre_finite_bb [hMixReferenceIdeal : Cert.MixReferenceIdeal.Facts] [hPre_finite_bb : Cert.Pre_finite_bb.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_bb m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6)
      ∧ r.2.mem ((c.tc : Thread Cert.FwdKernel.nD Cert.FwdKernel.τ).loc Cert.FwdKernel.main_arg7) = m ((c.tc : Thread Cert.FwdKernel.nD Cert.FwdKernel.τ).loc Cert.FwdKernel.main_arg7)
      ∧ r.2.mem ((c.tc : Thread Cert.FwdKernel.nD Cert.FwdKernel.τ).loc Cert.FwdKernel.main_arg8) = m ((c.tc : Thread Cert.FwdKernel.nD Cert.FwdKernel.τ).loc Cert.FwdKernel.main_arg8))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
      ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8))
      ∧ r.2.sem = fun _ => 0)

def quiescent_FwdKernelIdeal_pre_finite_fwd [hFwdKernelIdeal : Cert.FwdKernelIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_fwd m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
      ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
      ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6)
      ∧ r.2.mem ((c.tc : Thread Cert.FwdReferenceIdeal.nD Cert.FwdReferenceIdeal.τ).loc Cert.FwdReferenceIdeal.main_arg7) = m ((c.tc : Thread Cert.FwdReferenceIdeal.nD Cert.FwdReferenceIdeal.τ).loc Cert.FwdReferenceIdeal.main_arg7)
      ∧ r.2.mem ((c.tc : Thread Cert.FwdReferenceIdeal.nD Cert.FwdReferenceIdeal.τ).loc Cert.FwdReferenceIdeal.main_arg8) = m ((c.tc : Thread Cert.FwdReferenceIdeal.nD Cert.FwdReferenceIdeal.τ).loc Cert.FwdReferenceIdeal.main_arg8))
      ∧ r.2.sem = fun _ => 0)

def quiescent_InbKernel [hInbKernel : Cert.InbKernel.Facts] : Prop :=
  ∀ (m : (ℓ : Loc Cert.InbKernel.nD Cert.InbKernel.τ Cert.InbKernel.sig) → Buf (Elt Bits) ℓ) (g : Dev Cert.InbKernel.nD → PrngReg), Pre_InbKernel m →
    θ_run (Cert.InbKernel.defs (F := Bits)) (onTc (τ := Cert.InbKernel.τ) (Cert.InbKernel.main (F := Bits))) ⟨m, fun _ => 0, g⟩ (fun r => (∀ c : Dev Cert.InbKernel.nD,
      r.2.mem ((c.tc : Thread Cert.InbKernel.nD Cert.InbKernel.τ).loc Cert.InbKernel.main_arg0) = m ((c.tc : Thread Cert.InbKernel.nD Cert.InbKernel.τ).loc Cert.InbKernel.main_arg0)
      ∧ r.2.mem ((c.tc : Thread Cert.InbKernel.nD Cert.InbKernel.τ).loc Cert.InbKernel.main_arg1) = m ((c.tc : Thread Cert.InbKernel.nD Cert.InbKernel.τ).loc Cert.InbKernel.main_arg1)
      ∧ r.2.mem ((c.tc : Thread Cert.InbKernel.nD Cert.InbKernel.τ).loc Cert.InbKernel.main_arg2) = m ((c.tc : Thread Cert.InbKernel.nD Cert.InbKernel.τ).loc Cert.InbKernel.main_arg2)
      ∧ r.2.mem ((c.tc : Thread Cert.InbKernel.nD Cert.InbKernel.τ).loc Cert.InbKernel.main_arg3) = m ((c.tc : Thread Cert.InbKernel.nD Cert.InbKernel.τ).loc Cert.InbKernel.main_arg3)
      ∧ r.2.mem ((c.tc : Thread Cert.InbKernel.nD Cert.InbKernel.τ).loc Cert.InbKernel.main_arg4) = m ((c.tc : Thread Cert.InbKernel.nD Cert.InbKernel.τ).loc Cert.InbKernel.main_arg4)
      ∧ r.2.mem ((c.tc : Thread Cert.InbKernel.nD Cert.InbKernel.τ).loc Cert.InbKernel.main_arg5) = m ((c.tc : Thread Cert.InbKernel.nD Cert.InbKernel.τ).loc Cert.InbKernel.main_arg5)
      ∧ r.2.mem ((c.tc : Thread Cert.InbKernel.nD Cert.InbKernel.τ).loc Cert.InbKernel.main_arg6) = m ((c.tc : Thread Cert.InbKernel.nD Cert.InbKernel.τ).loc Cert.InbKernel.main_arg6))
      ∧ r.2.sem = fun _ => 0)

def quiescent_InbKernelIdeal [hInbKernelIdeal : Cert.InbKernelIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg), Pre_InbKernelIdeal m →
    θ_run (Cert.InbKernelIdeal.defs (F := Ideal)) (onTc (τ := Cert.InbKernelIdeal.τ) (Cert.InbKernelIdeal.main (F := Ideal))) ⟨m, fun _ => 0, g⟩ (fun r => (∀ c : Dev Cert.InbKernelIdeal.nD,
      r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
      ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
      ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
      ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3)
      ∧ r.2.mem ((c.tc : Thread Cert.InbKernelIdeal.nD Cert.InbKernelIdeal.τ).loc Cert.InbKernelIdeal.main_arg4) = m ((c.tc : Thread Cert.InbKernelIdeal.nD Cert.InbKernelIdeal.τ).loc Cert.InbKernelIdeal.main_arg4)
      ∧ r.2.mem ((c.tc : Thread Cert.InbKernelIdeal.nD Cert.InbKernelIdeal.τ).loc Cert.InbKernelIdeal.main_arg5) = m ((c.tc : Thread Cert.InbKernelIdeal.nD Cert.InbKernelIdeal.τ).loc Cert.InbKernelIdeal.main_arg5)
      ∧ r.2.mem ((c.tc : Thread Cert.InbKernelIdeal.nD Cert.InbKernelIdeal.τ).loc Cert.InbKernelIdeal.main_arg6) = m ((c.tc : Thread Cert.InbKernelIdeal.nD Cert.InbKernelIdeal.τ).loc Cert.InbKernelIdeal.main_arg6))
      ∧ r.2.sem = fun _ => 0)

def quiescent_InbKernelIdeal_pre_finite_inb [hInbKernelIdeal : Cert.InbKernelIdeal.Facts] [hPre_finite_inb : Cert.Pre_finite_inb.Facts] : Prop :=
  ∀ (m : (ℓ : Loc Cert.InbKernelIdeal.nD Cert.InbKernelIdeal.τ Cert.InbKernelIdeal.sig) → Buf (Elt Ideal) ℓ) (g : Dev Cert.InbKernelIdeal.nD → PrngReg), Pre_InbKernelIdeal_finite_inb m →
    θ_run (Cert.InbKernelIdeal.defs (F := Ideal)) (onTc (τ := Cert.InbKernelIdeal.τ) (Cert.InbKernelIdeal.main (F := Ideal))) ⟨m, fun _ => 0, g⟩ (fun r => (∀ c : Dev Cert.InbKernelIdeal.nD,
      r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
      ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
      ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
      ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3)
      ∧ r.2.mem ((c.tc : Thread Cert.InbKernelIdeal.nD Cert.InbKernelIdeal.τ).loc Cert.InbKernelIdeal.main_arg4) = m ((c.tc : Thread Cert.InbKernelIdeal.nD Cert.InbKernelIdeal.τ).loc Cert.InbKernelIdeal.main_arg4)
      ∧ r.2.mem ((c.tc : Thread Cert.InbKernelIdeal.nD Cert.InbKernelIdeal.τ).loc Cert.InbKernelIdeal.main_arg5) = m ((c.tc : Thread Cert.InbKernelIdeal.nD Cert.InbKernelIdeal.τ).loc Cert.InbKernelIdeal.main_arg5)
      ∧ r.2.mem ((c.tc : Thread Cert.InbKernelIdeal.nD Cert.InbKernelIdeal.τ).loc Cert.InbKernelIdeal.main_arg6) = m ((c.tc : Thread Cert.InbKernelIdeal.nD Cert.InbKernelIdeal.τ).loc Cert.InbKernelIdeal.main_arg6))
      ∧ r.2.sem = fun _ => 0)

def quiescent_InbReferenceIdeal [hInbReferenceIdeal : Cert.InbReferenceIdeal.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1)
      ∧ r.2.mem ((c.tc : Thread Cert.InbReferenceIdeal.nD Cert.InbReferenceIdeal.τ).loc Cert.InbReferenceIdeal.main_arg2) = m ((c.tc : Thread Cert.InbReferenceIdeal.nD Cert.InbReferenceIdeal.τ).loc Cert.InbReferenceIdeal.main_arg2)
      ∧ r.2.mem ((c.tc : Thread Cert.InbReferenceIdeal.nD Cert.InbReferenceIdeal.τ).loc Cert.InbReferenceIdeal.main_arg3) = m ((c.tc : Thread Cert.InbReferenceIdeal.nD Cert.InbReferenceIdeal.τ).loc Cert.InbReferenceIdeal.main_arg3)
      ∧ r.2.mem ((c.tc : Thread Cert.InbReferenceIdeal.nD Cert.InbReferenceIdeal.τ).loc Cert.InbReferenceIdeal.main_arg4) = m ((c.tc : Thread Cert.InbReferenceIdeal.nD Cert.InbReferenceIdeal.τ).loc Cert.InbReferenceIdeal.main_arg4)
      ∧ r.2.mem ((c.tc : Thread Cert.InbReferenceIdeal.nD Cert.InbReferenceIdeal.τ).loc Cert.InbReferenceIdeal.main_arg5) = m ((c.tc : Thread Cert.InbReferenceIdeal.nD Cert.InbReferenceIdeal.τ).loc Cert.InbReferenceIdeal.main_arg5)
      ∧ r.2.mem ((c.tc : Thread Cert.InbReferenceIdeal.nD Cert.InbReferenceIdeal.τ).loc Cert.InbReferenceIdeal.main_arg6) = m ((c.tc : Thread Cert.InbReferenceIdeal.nD Cert.InbReferenceIdeal.τ).loc Cert.InbReferenceIdeal.main_arg6))
      ∧ r.2.sem = fun _ => 0)

def quiescent_InbReferenceIdeal_pre_finite_inb [hInbReferenceIdeal : Cert.InbReferenceIdeal.Facts] [hPre_finite_inb : Cert.Pre_finite_inb.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal_finite_inb m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1)
      ∧ r.2.mem ((c.tc : Thread Cert.InbReferenceIdeal.nD Cert.InbReferenceIdeal.τ).loc Cert.InbReferenceIdeal.main_arg2) = m ((c.tc : Thread Cert.InbReferenceIdeal.nD Cert.InbReferenceIdeal.τ).loc Cert.InbReferenceIdeal.main_arg2)
      ∧ r.2.mem ((c.tc : Thread Cert.InbReferenceIdeal.nD Cert.InbReferenceIdeal.τ).loc Cert.InbReferenceIdeal.main_arg3) = m ((c.tc : Thread Cert.InbReferenceIdeal.nD Cert.InbReferenceIdeal.τ).loc Cert.InbReferenceIdeal.main_arg3)
      ∧ r.2.mem ((c.tc : Thread Cert.InbReferenceIdeal.nD Cert.InbReferenceIdeal.τ).loc Cert.InbReferenceIdeal.main_arg4) = m ((c.tc : Thread Cert.InbReferenceIdeal.nD Cert.InbReferenceIdeal.τ).loc Cert.InbReferenceIdeal.main_arg4)
      ∧ r.2.mem ((c.tc : Thread Cert.InbReferenceIdeal.nD Cert.InbReferenceIdeal.τ).loc Cert.InbReferenceIdeal.main_arg5) = m ((c.tc : Thread Cert.InbReferenceIdeal.nD Cert.InbReferenceIdeal.τ).loc Cert.InbReferenceIdeal.main_arg5)
      ∧ r.2.mem ((c.tc : Thread Cert.InbReferenceIdeal.nD Cert.InbReferenceIdeal.τ).loc Cert.InbReferenceIdeal.main_arg6) = m ((c.tc : Thread Cert.InbReferenceIdeal.nD Cert.InbReferenceIdeal.τ).loc Cert.InbReferenceIdeal.main_arg6))
      ∧ r.2.sem = fun _ => 0)

def quiescent_InaKernel [hInaKernel : Cert.InaKernel.Facts] : Prop :=
  ∀ (m : (ℓ : Loc Cert.InaKernel.nD Cert.InaKernel.τ Cert.InaKernel.sig) → Buf (Elt Bits) ℓ) (g : Dev Cert.InaKernel.nD → PrngReg), Pre_InaKernel m →
    θ_run (Cert.InaKernel.defs (F := Bits)) (onTc (τ := Cert.InaKernel.τ) (Cert.InaKernel.main (F := Bits))) ⟨m, fun _ => 0, g⟩ (fun r => (∀ c : Dev Cert.InaKernel.nD,
      r.2.mem ((c.tc : Thread Cert.InaKernel.nD Cert.InaKernel.τ).loc Cert.InaKernel.main_arg0) = m ((c.tc : Thread Cert.InaKernel.nD Cert.InaKernel.τ).loc Cert.InaKernel.main_arg0)
      ∧ r.2.mem ((c.tc : Thread Cert.InaKernel.nD Cert.InaKernel.τ).loc Cert.InaKernel.main_arg1) = m ((c.tc : Thread Cert.InaKernel.nD Cert.InaKernel.τ).loc Cert.InaKernel.main_arg1)
      ∧ r.2.mem ((c.tc : Thread Cert.InaKernel.nD Cert.InaKernel.τ).loc Cert.InaKernel.main_arg2) = m ((c.tc : Thread Cert.InaKernel.nD Cert.InaKernel.τ).loc Cert.InaKernel.main_arg2)
      ∧ r.2.mem ((c.tc : Thread Cert.InaKernel.nD Cert.InaKernel.τ).loc Cert.InaKernel.main_arg3) = m ((c.tc : Thread Cert.InaKernel.nD Cert.InaKernel.τ).loc Cert.InaKernel.main_arg3)
      ∧ r.2.mem ((c.tc : Thread Cert.InaKernel.nD Cert.InaKernel.τ).loc Cert.InaKernel.main_arg4) = m ((c.tc : Thread Cert.InaKernel.nD Cert.InaKernel.τ).loc Cert.InaKernel.main_arg4))
      ∧ r.2.sem = fun _ => 0)

def quiescent_InaKernelIdeal [hInaKernelIdeal : Cert.InaKernelIdeal.Facts] : Prop :=
  ∀ (m : (ℓ : Loc Cert.InaKernelIdeal.nD Cert.InaKernelIdeal.τ Cert.InaKernelIdeal.sig) → Buf (Elt Ideal) ℓ) (g : Dev Cert.InaKernelIdeal.nD → PrngReg), Pre_InaKernelIdeal m →
    θ_run (Cert.InaKernelIdeal.defs (F := Ideal)) (onTc (τ := Cert.InaKernelIdeal.τ) (Cert.InaKernelIdeal.main (F := Ideal))) ⟨m, fun _ => 0, g⟩ (fun r => (∀ c : Dev Cert.InaKernelIdeal.nD,
      r.2.mem ((c.tc : Thread Cert.InaKernelIdeal.nD Cert.InaKernelIdeal.τ).loc Cert.InaKernelIdeal.main_arg0) = m ((c.tc : Thread Cert.InaKernelIdeal.nD Cert.InaKernelIdeal.τ).loc Cert.InaKernelIdeal.main_arg0)
      ∧ r.2.mem ((c.tc : Thread Cert.InaKernelIdeal.nD Cert.InaKernelIdeal.τ).loc Cert.InaKernelIdeal.main_arg1) = m ((c.tc : Thread Cert.InaKernelIdeal.nD Cert.InaKernelIdeal.τ).loc Cert.InaKernelIdeal.main_arg1)
      ∧ r.2.mem ((c.tc : Thread Cert.InaKernelIdeal.nD Cert.InaKernelIdeal.τ).loc Cert.InaKernelIdeal.main_arg2) = m ((c.tc : Thread Cert.InaKernelIdeal.nD Cert.InaKernelIdeal.τ).loc Cert.InaKernelIdeal.main_arg2)
      ∧ r.2.mem ((c.tc : Thread Cert.InaKernelIdeal.nD Cert.InaKernelIdeal.τ).loc Cert.InaKernelIdeal.main_arg3) = m ((c.tc : Thread Cert.InaKernelIdeal.nD Cert.InaKernelIdeal.τ).loc Cert.InaKernelIdeal.main_arg3)
      ∧ r.2.mem ((c.tc : Thread Cert.InaKernelIdeal.nD Cert.InaKernelIdeal.τ).loc Cert.InaKernelIdeal.main_arg4) = m ((c.tc : Thread Cert.InaKernelIdeal.nD Cert.InaKernelIdeal.τ).loc Cert.InaKernelIdeal.main_arg4))
      ∧ r.2.sem = fun _ => 0)

def quiescent_InaKernelIdeal_pre_finite_ina [hInaKernelIdeal : Cert.InaKernelIdeal.Facts] [hPre_finite_ina : Cert.Pre_finite_ina.Facts] : Prop :=
  ∀ (m : (ℓ : Loc Cert.InaKernelIdeal.nD Cert.InaKernelIdeal.τ Cert.InaKernelIdeal.sig) → Buf (Elt Ideal) ℓ) (g : Dev Cert.InaKernelIdeal.nD → PrngReg), Pre_InaKernelIdeal_finite_ina m →
    θ_run (Cert.InaKernelIdeal.defs (F := Ideal)) (onTc (τ := Cert.InaKernelIdeal.τ) (Cert.InaKernelIdeal.main (F := Ideal))) ⟨m, fun _ => 0, g⟩ (fun r => (∀ c : Dev Cert.InaKernelIdeal.nD,
      r.2.mem ((c.tc : Thread Cert.InaKernelIdeal.nD Cert.InaKernelIdeal.τ).loc Cert.InaKernelIdeal.main_arg0) = m ((c.tc : Thread Cert.InaKernelIdeal.nD Cert.InaKernelIdeal.τ).loc Cert.InaKernelIdeal.main_arg0)
      ∧ r.2.mem ((c.tc : Thread Cert.InaKernelIdeal.nD Cert.InaKernelIdeal.τ).loc Cert.InaKernelIdeal.main_arg1) = m ((c.tc : Thread Cert.InaKernelIdeal.nD Cert.InaKernelIdeal.τ).loc Cert.InaKernelIdeal.main_arg1)
      ∧ r.2.mem ((c.tc : Thread Cert.InaKernelIdeal.nD Cert.InaKernelIdeal.τ).loc Cert.InaKernelIdeal.main_arg2) = m ((c.tc : Thread Cert.InaKernelIdeal.nD Cert.InaKernelIdeal.τ).loc Cert.InaKernelIdeal.main_arg2)
      ∧ r.2.mem ((c.tc : Thread Cert.InaKernelIdeal.nD Cert.InaKernelIdeal.τ).loc Cert.InaKernelIdeal.main_arg3) = m ((c.tc : Thread Cert.InaKernelIdeal.nD Cert.InaKernelIdeal.τ).loc Cert.InaKernelIdeal.main_arg3)
      ∧ r.2.mem ((c.tc : Thread Cert.InaKernelIdeal.nD Cert.InaKernelIdeal.τ).loc Cert.InaKernelIdeal.main_arg4) = m ((c.tc : Thread Cert.InaKernelIdeal.nD Cert.InaKernelIdeal.τ).loc Cert.InaKernelIdeal.main_arg4))
      ∧ r.2.sem = fun _ => 0)

def quiescent_InaReferenceIdeal [hInaReferenceIdeal : Cert.InaReferenceIdeal.Facts] : Prop :=
  ∀ (m : (ℓ : Loc Cert.InaReferenceIdeal.nD Cert.InaReferenceIdeal.τ Cert.InaReferenceIdeal.sig) → Buf (Elt Ideal) ℓ) (g : Dev Cert.InaReferenceIdeal.nD → PrngReg), Pre_InaReferenceIdeal m →
    θ_run (Cert.InaReferenceIdeal.defs (F := Ideal)) (onTc (τ := Cert.InaReferenceIdeal.τ) (Cert.InaReferenceIdeal.main (F := Ideal))) ⟨m, fun _ => 0, g⟩ (fun r => (∀ c : Dev Cert.InaReferenceIdeal.nD,
      r.2.mem ((c.tc : Thread Cert.InaReferenceIdeal.nD Cert.InaReferenceIdeal.τ).loc Cert.InaReferenceIdeal.main_arg0) = m ((c.tc : Thread Cert.InaReferenceIdeal.nD Cert.InaReferenceIdeal.τ).loc Cert.InaReferenceIdeal.main_arg0)
      ∧ r.2.mem ((c.tc : Thread Cert.InaReferenceIdeal.nD Cert.InaReferenceIdeal.τ).loc Cert.InaReferenceIdeal.main_arg1) = m ((c.tc : Thread Cert.InaReferenceIdeal.nD Cert.InaReferenceIdeal.τ).loc Cert.InaReferenceIdeal.main_arg1)
      ∧ r.2.mem ((c.tc : Thread Cert.InaReferenceIdeal.nD Cert.InaReferenceIdeal.τ).loc Cert.InaReferenceIdeal.main_arg2) = m ((c.tc : Thread Cert.InaReferenceIdeal.nD Cert.InaReferenceIdeal.τ).loc Cert.InaReferenceIdeal.main_arg2)
      ∧ r.2.mem ((c.tc : Thread Cert.InaReferenceIdeal.nD Cert.InaReferenceIdeal.τ).loc Cert.InaReferenceIdeal.main_arg3) = m ((c.tc : Thread Cert.InaReferenceIdeal.nD Cert.InaReferenceIdeal.τ).loc Cert.InaReferenceIdeal.main_arg3)
      ∧ r.2.mem ((c.tc : Thread Cert.InaReferenceIdeal.nD Cert.InaReferenceIdeal.τ).loc Cert.InaReferenceIdeal.main_arg4) = m ((c.tc : Thread Cert.InaReferenceIdeal.nD Cert.InaReferenceIdeal.τ).loc Cert.InaReferenceIdeal.main_arg4))
      ∧ r.2.sem = fun _ => 0)

def quiescent_InaReferenceIdeal_pre_finite_ina [hInaReferenceIdeal : Cert.InaReferenceIdeal.Facts] [hPre_finite_ina : Cert.Pre_finite_ina.Facts] : Prop :=
  ∀ (m : (ℓ : Loc Cert.InaReferenceIdeal.nD Cert.InaReferenceIdeal.τ Cert.InaReferenceIdeal.sig) → Buf (Elt Ideal) ℓ) (g : Dev Cert.InaReferenceIdeal.nD → PrngReg), Pre_InaReferenceIdeal_finite_ina m →
    θ_run (Cert.InaReferenceIdeal.defs (F := Ideal)) (onTc (τ := Cert.InaReferenceIdeal.τ) (Cert.InaReferenceIdeal.main (F := Ideal))) ⟨m, fun _ => 0, g⟩ (fun r => (∀ c : Dev Cert.InaReferenceIdeal.nD,
      r.2.mem ((c.tc : Thread Cert.InaReferenceIdeal.nD Cert.InaReferenceIdeal.τ).loc Cert.InaReferenceIdeal.main_arg0) = m ((c.tc : Thread Cert.InaReferenceIdeal.nD Cert.InaReferenceIdeal.τ).loc Cert.InaReferenceIdeal.main_arg0)
      ∧ r.2.mem ((c.tc : Thread Cert.InaReferenceIdeal.nD Cert.InaReferenceIdeal.τ).loc Cert.InaReferenceIdeal.main_arg1) = m ((c.tc : Thread Cert.InaReferenceIdeal.nD Cert.InaReferenceIdeal.τ).loc Cert.InaReferenceIdeal.main_arg1)
      ∧ r.2.mem ((c.tc : Thread Cert.InaReferenceIdeal.nD Cert.InaReferenceIdeal.τ).loc Cert.InaReferenceIdeal.main_arg2) = m ((c.tc : Thread Cert.InaReferenceIdeal.nD Cert.InaReferenceIdeal.τ).loc Cert.InaReferenceIdeal.main_arg2)
      ∧ r.2.mem ((c.tc : Thread Cert.InaReferenceIdeal.nD Cert.InaReferenceIdeal.τ).loc Cert.InaReferenceIdeal.main_arg3) = m ((c.tc : Thread Cert.InaReferenceIdeal.nD Cert.InaReferenceIdeal.τ).loc Cert.InaReferenceIdeal.main_arg3)
      ∧ r.2.mem ((c.tc : Thread Cert.InaReferenceIdeal.nD Cert.InaReferenceIdeal.τ).loc Cert.InaReferenceIdeal.main_arg4) = m ((c.tc : Thread Cert.InaReferenceIdeal.nD Cert.InaReferenceIdeal.τ).loc Cert.InaReferenceIdeal.main_arg4))
      ∧ r.2.sem = fun _ => 0)

def preserves_OutKernel_OutKernelIdeal : Prop :=
  True

def algebraic_OutKernelIdeal_OutReferenceIdeal_pre_finite_out [hOutKernelIdeal : Cert.OutKernelIdeal.Facts] [hOutReferenceIdeal : Cert.OutReferenceIdeal.Facts] [hPre_finite_out : Cert.Pre_finite_out.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_finite_out m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v6_0)) (v1 : (c : Dev Cert.OutKernelIdeal.nD) → Buf (Elt Ideal) ((c.tc : Thread Cert.OutKernelIdeal.nD Cert.OutKernelIdeal.τ).loc Cert.OutKernelIdeal.main_v6_1)) (v2 : (c : Dev Cert.OutKernelIdeal.nD) → Buf (Elt Ideal) ((c.tc : Thread Cert.OutKernelIdeal.nD Cert.OutKernelIdeal.τ).loc Cert.OutKernelIdeal.main_v6_2)) (v3 : (c : Dev Cert.OutKernelIdeal.nD) → Buf (Elt Ideal) ((c.tc : Thread Cert.OutKernelIdeal.nD Cert.OutKernelIdeal.τ).loc Cert.OutKernelIdeal.main_v6_3)) (v4 : (c : Dev Cert.OutKernelIdeal.nD) → Buf (Elt Ideal) ((c.tc : Thread Cert.OutKernelIdeal.nD Cert.OutKernelIdeal.τ).loc Cert.OutKernelIdeal.main_v6_4)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6_0) = v0 c
          ∧ r.2.mem ((c.tc : Thread Cert.OutKernelIdeal.nD Cert.OutKernelIdeal.τ).loc Cert.OutKernelIdeal.main_v6_1) = v1 c
          ∧ r.2.mem ((c.tc : Thread Cert.OutKernelIdeal.nD Cert.OutKernelIdeal.τ).loc Cert.OutKernelIdeal.main_v6_2) = v2 c
          ∧ r.2.mem ((c.tc : Thread Cert.OutKernelIdeal.nD Cert.OutKernelIdeal.τ).loc Cert.OutKernelIdeal.main_v6_3) = v3 c
          ∧ r.2.mem ((c.tc : Thread Cert.OutKernelIdeal.nD Cert.OutKernelIdeal.τ).loc Cert.OutKernelIdeal.main_v6_4) = v4 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v81) = v0 c
          ∧ r.2.mem ((c.tc : Thread Cert.OutReferenceIdeal.nD Cert.OutReferenceIdeal.τ).loc Cert.OutReferenceIdeal.main_v83) = v1 c
          ∧ r.2.mem ((c.tc : Thread Cert.OutReferenceIdeal.nD Cert.OutReferenceIdeal.τ).loc Cert.OutReferenceIdeal.main_v84) = v2 c
          ∧ r.2.mem ((c.tc : Thread Cert.OutReferenceIdeal.nD Cert.OutReferenceIdeal.τ).loc Cert.OutReferenceIdeal.main_v85) = v3 c
          ∧ r.2.mem ((c.tc : Thread Cert.OutReferenceIdeal.nD Cert.OutReferenceIdeal.τ).loc Cert.OutReferenceIdeal.main_v80) = v4 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_MixKernel_MixKernelIdeal : Prop :=
  True

def algebraic_MixKernelIdeal_MixReferenceIdeal_pre_finite_bb [hMixKernelIdeal : Cert.MixKernelIdeal.Facts] [hMixReferenceIdeal : Cert.MixReferenceIdeal.Facts] [hPre_finite_bb : Cert.Pre_finite_bb.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_bb m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)) →
    ∃ (v0 : (c : Dev Cert.MixKernelIdeal.nD) → Buf (Elt Ideal) ((c.tc : Thread Cert.MixKernelIdeal.nD Cert.MixKernelIdeal.τ).loc Cert.MixKernelIdeal.main_v42_0)) (v1 : (c : Dev Cert.MixKernelIdeal.nD) → Buf (Elt Ideal) ((c.tc : Thread Cert.MixKernelIdeal.nD Cert.MixKernelIdeal.τ).loc Cert.MixKernelIdeal.main_v42_1)) (v2 : (c : Dev Cert.MixKernelIdeal.nD) → Buf (Elt Ideal) ((c.tc : Thread Cert.MixKernelIdeal.nD Cert.MixKernelIdeal.τ).loc Cert.MixKernelIdeal.main_v42_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v42_0) = v0 c
          ∧ r.2.mem ((c.tc : Thread Cert.MixKernelIdeal.nD Cert.MixKernelIdeal.τ).loc Cert.MixKernelIdeal.main_v42_1) = v1 c
          ∧ r.2.mem ((c.tc : Thread Cert.MixKernelIdeal.nD Cert.MixKernelIdeal.τ).loc Cert.MixKernelIdeal.main_v42_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v230) = v0 c
          ∧ r.2.mem ((c.tc : Thread Cert.MixReferenceIdeal.nD Cert.MixReferenceIdeal.τ).loc Cert.MixReferenceIdeal.main_v228) = v1 c
          ∧ r.2.mem ((c.tc : Thread Cert.MixReferenceIdeal.nD Cert.MixReferenceIdeal.τ).loc Cert.MixReferenceIdeal.main_v231) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_FwdKernel_FwdKernelIdeal : Prop :=
  True

def algebraic_FwdKernelIdeal_FwdReferenceIdeal_pre_finite_fwd [hFwdKernelIdeal : Cert.FwdKernelIdeal.Facts] [hFwdReferenceIdeal : Cert.FwdReferenceIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_fwd m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)
      ∧ m' ((c.tc : Thread Cert.FwdReferenceIdeal.nD Cert.FwdReferenceIdeal.τ).loc Cert.FwdReferenceIdeal.main_arg7) = m ((c.tc : Thread Cert.FwdKernelIdeal.nD Cert.FwdKernelIdeal.τ).loc Cert.FwdKernelIdeal.main_arg7)
      ∧ m' ((c.tc : Thread Cert.FwdReferenceIdeal.nD Cert.FwdReferenceIdeal.τ).loc Cert.FwdReferenceIdeal.main_arg8) = m ((c.tc : Thread Cert.FwdKernelIdeal.nD Cert.FwdKernelIdeal.τ).loc Cert.FwdKernelIdeal.main_arg8)) →
    ∃ (v0 : (c : Dev Cert.FwdKernelIdeal.nD) → Buf (Elt Ideal) ((c.tc : Thread Cert.FwdKernelIdeal.nD Cert.FwdKernelIdeal.τ).loc Cert.FwdKernelIdeal.main_v6_0)) (v1 : (c : Dev Cert.FwdKernelIdeal.nD) → Buf (Elt Ideal) ((c.tc : Thread Cert.FwdKernelIdeal.nD Cert.FwdKernelIdeal.τ).loc Cert.FwdKernelIdeal.main_v6_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v6_0) = v0 c
          ∧ r.2.mem ((c.tc : Thread Cert.FwdKernelIdeal.nD Cert.FwdKernelIdeal.τ).loc Cert.FwdKernelIdeal.main_v6_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6)
          ∧ r.2.mem ((c.tc : Thread Cert.FwdKernelIdeal.nD Cert.FwdKernelIdeal.τ).loc Cert.FwdKernelIdeal.main_arg7) = m ((c.tc : Thread Cert.FwdKernelIdeal.nD Cert.FwdKernelIdeal.τ).loc Cert.FwdKernelIdeal.main_arg7)
          ∧ r.2.mem ((c.tc : Thread Cert.FwdKernelIdeal.nD Cert.FwdKernelIdeal.τ).loc Cert.FwdKernelIdeal.main_arg8) = m ((c.tc : Thread Cert.FwdKernelIdeal.nD Cert.FwdKernelIdeal.τ).loc Cert.FwdKernelIdeal.main_arg8))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v128) = v0 c
          ∧ r.2.mem ((c.tc : Thread Cert.FwdReferenceIdeal.nD Cert.FwdReferenceIdeal.τ).loc Cert.FwdReferenceIdeal.main_v129) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6)
          ∧ r.2.mem ((c.tc : Thread Cert.FwdReferenceIdeal.nD Cert.FwdReferenceIdeal.τ).loc Cert.FwdReferenceIdeal.main_arg7) = m' ((c.tc : Thread Cert.FwdReferenceIdeal.nD Cert.FwdReferenceIdeal.τ).loc Cert.FwdReferenceIdeal.main_arg7)
          ∧ r.2.mem ((c.tc : Thread Cert.FwdReferenceIdeal.nD Cert.FwdReferenceIdeal.τ).loc Cert.FwdReferenceIdeal.main_arg8) = m' ((c.tc : Thread Cert.FwdReferenceIdeal.nD Cert.FwdReferenceIdeal.τ).loc Cert.FwdReferenceIdeal.main_arg8))

def preserves_InbKernel_InbKernelIdeal : Prop :=
  True

def algebraic_InbKernelIdeal_InbReferenceIdeal_pre_finite_inb [hInbKernelIdeal : Cert.InbKernelIdeal.Facts] [hInbReferenceIdeal : Cert.InbReferenceIdeal.Facts] [hPre_finite_inb : Cert.Pre_finite_inb.Facts] : Prop :=
  ∀ (m : (ℓ : Loc Cert.InbKernelIdeal.nD Cert.InbKernelIdeal.τ Cert.InbKernelIdeal.sig) → Buf (Elt Ideal) ℓ) (g : Dev Cert.InbKernelIdeal.nD → PrngReg)
    (m' : (ℓ : Loc Cert.InbReferenceIdeal.nD Cert.InbReferenceIdeal.τ Cert.InbReferenceIdeal.sig) → Buf (Elt Ideal) ℓ) (g' : Dev Cert.InbReferenceIdeal.nD → PrngReg), Pre_InbKernelIdeal_finite_inb m →
    (∀ c : Dev Cert.InbKernelIdeal.nD,
      m' ((c.tc : Thread Cert.InbReferenceIdeal.nD Cert.InbReferenceIdeal.τ).loc Cert.InbReferenceIdeal.main_arg0) = m ((c.tc : Thread Cert.InbKernelIdeal.nD Cert.InbKernelIdeal.τ).loc Cert.InbKernelIdeal.main_arg0)
      ∧ m' ((c.tc : Thread Cert.InbReferenceIdeal.nD Cert.InbReferenceIdeal.τ).loc Cert.InbReferenceIdeal.main_arg1) = m ((c.tc : Thread Cert.InbKernelIdeal.nD Cert.InbKernelIdeal.τ).loc Cert.InbKernelIdeal.main_arg1)
      ∧ m' ((c.tc : Thread Cert.InbReferenceIdeal.nD Cert.InbReferenceIdeal.τ).loc Cert.InbReferenceIdeal.main_arg2) = m ((c.tc : Thread Cert.InbKernelIdeal.nD Cert.InbKernelIdeal.τ).loc Cert.InbKernelIdeal.main_arg2)
      ∧ m' ((c.tc : Thread Cert.InbReferenceIdeal.nD Cert.InbReferenceIdeal.τ).loc Cert.InbReferenceIdeal.main_arg3) = m ((c.tc : Thread Cert.InbKernelIdeal.nD Cert.InbKernelIdeal.τ).loc Cert.InbKernelIdeal.main_arg3)
      ∧ m' ((c.tc : Thread Cert.InbReferenceIdeal.nD Cert.InbReferenceIdeal.τ).loc Cert.InbReferenceIdeal.main_arg4) = m ((c.tc : Thread Cert.InbKernelIdeal.nD Cert.InbKernelIdeal.τ).loc Cert.InbKernelIdeal.main_arg4)
      ∧ m' ((c.tc : Thread Cert.InbReferenceIdeal.nD Cert.InbReferenceIdeal.τ).loc Cert.InbReferenceIdeal.main_arg5) = m ((c.tc : Thread Cert.InbKernelIdeal.nD Cert.InbKernelIdeal.τ).loc Cert.InbKernelIdeal.main_arg5)
      ∧ m' ((c.tc : Thread Cert.InbReferenceIdeal.nD Cert.InbReferenceIdeal.τ).loc Cert.InbReferenceIdeal.main_arg6) = m ((c.tc : Thread Cert.InbKernelIdeal.nD Cert.InbKernelIdeal.τ).loc Cert.InbKernelIdeal.main_arg6)) →
    ∃ (v0 : (c : Dev Cert.InbKernelIdeal.nD) → Buf (Elt Ideal) ((c.tc : Thread Cert.InbKernelIdeal.nD Cert.InbKernelIdeal.τ).loc Cert.InbKernelIdeal.main_v6_0)) (v1 : (c : Dev Cert.InbKernelIdeal.nD) → Buf (Elt Ideal) ((c.tc : Thread Cert.InbKernelIdeal.nD Cert.InbKernelIdeal.τ).loc Cert.InbKernelIdeal.main_v6_1)),
      θ_run (Cert.InbKernelIdeal.defs (F := Ideal)) (onTc (τ := Cert.InbKernelIdeal.τ) (Cert.InbKernelIdeal.main (F := Ideal))) ⟨m, fun _ => 0, g⟩ (fun r => ∀ c : Dev Cert.InbKernelIdeal.nD,
          r.2.mem ((c.tc : Thread Cert.InbKernelIdeal.nD Cert.InbKernelIdeal.τ).loc Cert.InbKernelIdeal.main_v6_0) = v0 c
          ∧ r.2.mem ((c.tc : Thread Cert.InbKernelIdeal.nD Cert.InbKernelIdeal.τ).loc Cert.InbKernelIdeal.main_v6_1) = v1 c
          ∧ r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
          ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
          ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
          ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3)
          ∧ r.2.mem ((c.tc : Thread Cert.InbKernelIdeal.nD Cert.InbKernelIdeal.τ).loc Cert.InbKernelIdeal.main_arg4) = m ((c.tc : Thread Cert.InbKernelIdeal.nD Cert.InbKernelIdeal.τ).loc Cert.InbKernelIdeal.main_arg4)
          ∧ r.2.mem ((c.tc : Thread Cert.InbKernelIdeal.nD Cert.InbKernelIdeal.τ).loc Cert.InbKernelIdeal.main_arg5) = m ((c.tc : Thread Cert.InbKernelIdeal.nD Cert.InbKernelIdeal.τ).loc Cert.InbKernelIdeal.main_arg5)
          ∧ r.2.mem ((c.tc : Thread Cert.InbKernelIdeal.nD Cert.InbKernelIdeal.τ).loc Cert.InbKernelIdeal.main_arg6) = m ((c.tc : Thread Cert.InbKernelIdeal.nD Cert.InbKernelIdeal.τ).loc Cert.InbKernelIdeal.main_arg6))
      ∧ θ_run (Cert.InbReferenceIdeal.defs (F := Ideal)) (onTc (τ := Cert.InbReferenceIdeal.τ) (Cert.InbReferenceIdeal.main (F := Ideal))) ⟨m', fun _ => 0, g'⟩ (fun r => ∀ c : Dev Cert.InbReferenceIdeal.nD,
          r.2.mem ((c.tc : Thread Cert.InbReferenceIdeal.nD Cert.InbReferenceIdeal.τ).loc Cert.InbReferenceIdeal.main_v54) = v0 c
          ∧ r.2.mem ((c.tc : Thread Cert.InbReferenceIdeal.nD Cert.InbReferenceIdeal.τ).loc Cert.InbReferenceIdeal.main_v56) = v1 c
          ∧ r.2.mem ((c.tc : Thread Cert.InbReferenceIdeal.nD Cert.InbReferenceIdeal.τ).loc Cert.InbReferenceIdeal.main_arg0) = m' ((c.tc : Thread Cert.InbReferenceIdeal.nD Cert.InbReferenceIdeal.τ).loc Cert.InbReferenceIdeal.main_arg0)
          ∧ r.2.mem ((c.tc : Thread Cert.InbReferenceIdeal.nD Cert.InbReferenceIdeal.τ).loc Cert.InbReferenceIdeal.main_arg1) = m' ((c.tc : Thread Cert.InbReferenceIdeal.nD Cert.InbReferenceIdeal.τ).loc Cert.InbReferenceIdeal.main_arg1)
          ∧ r.2.mem ((c.tc : Thread Cert.InbReferenceIdeal.nD Cert.InbReferenceIdeal.τ).loc Cert.InbReferenceIdeal.main_arg2) = m' ((c.tc : Thread Cert.InbReferenceIdeal.nD Cert.InbReferenceIdeal.τ).loc Cert.InbReferenceIdeal.main_arg2)
          ∧ r.2.mem ((c.tc : Thread Cert.InbReferenceIdeal.nD Cert.InbReferenceIdeal.τ).loc Cert.InbReferenceIdeal.main_arg3) = m' ((c.tc : Thread Cert.InbReferenceIdeal.nD Cert.InbReferenceIdeal.τ).loc Cert.InbReferenceIdeal.main_arg3)
          ∧ r.2.mem ((c.tc : Thread Cert.InbReferenceIdeal.nD Cert.InbReferenceIdeal.τ).loc Cert.InbReferenceIdeal.main_arg4) = m' ((c.tc : Thread Cert.InbReferenceIdeal.nD Cert.InbReferenceIdeal.τ).loc Cert.InbReferenceIdeal.main_arg4)
          ∧ r.2.mem ((c.tc : Thread Cert.InbReferenceIdeal.nD Cert.InbReferenceIdeal.τ).loc Cert.InbReferenceIdeal.main_arg5) = m' ((c.tc : Thread Cert.InbReferenceIdeal.nD Cert.InbReferenceIdeal.τ).loc Cert.InbReferenceIdeal.main_arg5)
          ∧ r.2.mem ((c.tc : Thread Cert.InbReferenceIdeal.nD Cert.InbReferenceIdeal.τ).loc Cert.InbReferenceIdeal.main_arg6) = m' ((c.tc : Thread Cert.InbReferenceIdeal.nD Cert.InbReferenceIdeal.τ).loc Cert.InbReferenceIdeal.main_arg6))

def preserves_InaKernel_InaKernelIdeal : Prop :=
  True

def algebraic_InaKernelIdeal_InaReferenceIdeal_pre_finite_ina [hInaKernelIdeal : Cert.InaKernelIdeal.Facts] [hInaReferenceIdeal : Cert.InaReferenceIdeal.Facts] [hPre_finite_ina : Cert.Pre_finite_ina.Facts] : Prop :=
  ∀ (m : (ℓ : Loc Cert.InaKernelIdeal.nD Cert.InaKernelIdeal.τ Cert.InaKernelIdeal.sig) → Buf (Elt Ideal) ℓ) (g : Dev Cert.InaKernelIdeal.nD → PrngReg)
    (m' : (ℓ : Loc Cert.InaReferenceIdeal.nD Cert.InaReferenceIdeal.τ Cert.InaReferenceIdeal.sig) → Buf (Elt Ideal) ℓ) (g' : Dev Cert.InaReferenceIdeal.nD → PrngReg), Pre_InaKernelIdeal_finite_ina m →
    (∀ c : Dev Cert.InaKernelIdeal.nD,
      m' ((c.tc : Thread Cert.InaReferenceIdeal.nD Cert.InaReferenceIdeal.τ).loc Cert.InaReferenceIdeal.main_arg0) = m ((c.tc : Thread Cert.InaKernelIdeal.nD Cert.InaKernelIdeal.τ).loc Cert.InaKernelIdeal.main_arg0)
      ∧ m' ((c.tc : Thread Cert.InaReferenceIdeal.nD Cert.InaReferenceIdeal.τ).loc Cert.InaReferenceIdeal.main_arg1) = m ((c.tc : Thread Cert.InaKernelIdeal.nD Cert.InaKernelIdeal.τ).loc Cert.InaKernelIdeal.main_arg1)
      ∧ m' ((c.tc : Thread Cert.InaReferenceIdeal.nD Cert.InaReferenceIdeal.τ).loc Cert.InaReferenceIdeal.main_arg2) = m ((c.tc : Thread Cert.InaKernelIdeal.nD Cert.InaKernelIdeal.τ).loc Cert.InaKernelIdeal.main_arg2)
      ∧ m' ((c.tc : Thread Cert.InaReferenceIdeal.nD Cert.InaReferenceIdeal.τ).loc Cert.InaReferenceIdeal.main_arg3) = m ((c.tc : Thread Cert.InaKernelIdeal.nD Cert.InaKernelIdeal.τ).loc Cert.InaKernelIdeal.main_arg3)
      ∧ m' ((c.tc : Thread Cert.InaReferenceIdeal.nD Cert.InaReferenceIdeal.τ).loc Cert.InaReferenceIdeal.main_arg4) = m ((c.tc : Thread Cert.InaKernelIdeal.nD Cert.InaKernelIdeal.τ).loc Cert.InaKernelIdeal.main_arg4)) →
    ∃ (v0 : (c : Dev Cert.InaKernelIdeal.nD) → Buf (Elt Ideal) ((c.tc : Thread Cert.InaKernelIdeal.nD Cert.InaKernelIdeal.τ).loc Cert.InaKernelIdeal.main_v7)) (v1 : (c : Dev Cert.InaKernelIdeal.nD) → Buf (Elt Ideal) ((c.tc : Thread Cert.InaKernelIdeal.nD Cert.InaKernelIdeal.τ).loc Cert.InaKernelIdeal.main_v6_1)),
      θ_run (Cert.InaKernelIdeal.defs (F := Ideal)) (onTc (τ := Cert.InaKernelIdeal.τ) (Cert.InaKernelIdeal.main (F := Ideal))) ⟨m, fun _ => 0, g⟩ (fun r => ∀ c : Dev Cert.InaKernelIdeal.nD,
          r.2.mem ((c.tc : Thread Cert.InaKernelIdeal.nD Cert.InaKernelIdeal.τ).loc Cert.InaKernelIdeal.main_v7) = v0 c
          ∧ r.2.mem ((c.tc : Thread Cert.InaKernelIdeal.nD Cert.InaKernelIdeal.τ).loc Cert.InaKernelIdeal.main_v6_1) = v1 c
          ∧ r.2.mem ((c.tc : Thread Cert.InaKernelIdeal.nD Cert.InaKernelIdeal.τ).loc Cert.InaKernelIdeal.main_arg0) = m ((c.tc : Thread Cert.InaKernelIdeal.nD Cert.InaKernelIdeal.τ).loc Cert.InaKernelIdeal.main_arg0)
          ∧ r.2.mem ((c.tc : Thread Cert.InaKernelIdeal.nD Cert.InaKernelIdeal.τ).loc Cert.InaKernelIdeal.main_arg1) = m ((c.tc : Thread Cert.InaKernelIdeal.nD Cert.InaKernelIdeal.τ).loc Cert.InaKernelIdeal.main_arg1)
          ∧ r.2.mem ((c.tc : Thread Cert.InaKernelIdeal.nD Cert.InaKernelIdeal.τ).loc Cert.InaKernelIdeal.main_arg2) = m ((c.tc : Thread Cert.InaKernelIdeal.nD Cert.InaKernelIdeal.τ).loc Cert.InaKernelIdeal.main_arg2)
          ∧ r.2.mem ((c.tc : Thread Cert.InaKernelIdeal.nD Cert.InaKernelIdeal.τ).loc Cert.InaKernelIdeal.main_arg3) = m ((c.tc : Thread Cert.InaKernelIdeal.nD Cert.InaKernelIdeal.τ).loc Cert.InaKernelIdeal.main_arg3)
          ∧ r.2.mem ((c.tc : Thread Cert.InaKernelIdeal.nD Cert.InaKernelIdeal.τ).loc Cert.InaKernelIdeal.main_arg4) = m ((c.tc : Thread Cert.InaKernelIdeal.nD Cert.InaKernelIdeal.τ).loc Cert.InaKernelIdeal.main_arg4))
      ∧ θ_run (Cert.InaReferenceIdeal.defs (F := Ideal)) (onTc (τ := Cert.InaReferenceIdeal.τ) (Cert.InaReferenceIdeal.main (F := Ideal))) ⟨m', fun _ => 0, g'⟩ (fun r => ∀ c : Dev Cert.InaReferenceIdeal.nD,
          r.2.mem ((c.tc : Thread Cert.InaReferenceIdeal.nD Cert.InaReferenceIdeal.τ).loc Cert.InaReferenceIdeal.main_v52) = v0 c
          ∧ r.2.mem ((c.tc : Thread Cert.InaReferenceIdeal.nD Cert.InaReferenceIdeal.τ).loc Cert.InaReferenceIdeal.main_v53) = v1 c
          ∧ r.2.mem ((c.tc : Thread Cert.InaReferenceIdeal.nD Cert.InaReferenceIdeal.τ).loc Cert.InaReferenceIdeal.main_arg0) = m' ((c.tc : Thread Cert.InaReferenceIdeal.nD Cert.InaReferenceIdeal.τ).loc Cert.InaReferenceIdeal.main_arg0)
          ∧ r.2.mem ((c.tc : Thread Cert.InaReferenceIdeal.nD Cert.InaReferenceIdeal.τ).loc Cert.InaReferenceIdeal.main_arg1) = m' ((c.tc : Thread Cert.InaReferenceIdeal.nD Cert.InaReferenceIdeal.τ).loc Cert.InaReferenceIdeal.main_arg1)
          ∧ r.2.mem ((c.tc : Thread Cert.InaReferenceIdeal.nD Cert.InaReferenceIdeal.τ).loc Cert.InaReferenceIdeal.main_arg2) = m' ((c.tc : Thread Cert.InaReferenceIdeal.nD Cert.InaReferenceIdeal.τ).loc Cert.InaReferenceIdeal.main_arg2)
          ∧ r.2.mem ((c.tc : Thread Cert.InaReferenceIdeal.nD Cert.InaReferenceIdeal.τ).loc Cert.InaReferenceIdeal.main_arg3) = m' ((c.tc : Thread Cert.InaReferenceIdeal.nD Cert.InaReferenceIdeal.τ).loc Cert.InaReferenceIdeal.main_arg3)
          ∧ r.2.mem ((c.tc : Thread Cert.InaReferenceIdeal.nD Cert.InaReferenceIdeal.τ).loc Cert.InaReferenceIdeal.main_arg4) = m' ((c.tc : Thread Cert.InaReferenceIdeal.nD Cert.InaReferenceIdeal.τ).loc Cert.InaReferenceIdeal.main_arg4))

def Claim : Prop :=
  ∃ (hOutKernel : Cert.OutKernel.Facts) (hOutKernelIdeal : Cert.OutKernelIdeal.Facts) (hOutReferenceIdeal : Cert.OutReferenceIdeal.Facts) (hMixKernel : Cert.MixKernel.Facts) (hMixKernelIdeal : Cert.MixKernelIdeal.Facts) (hMixReferenceIdeal : Cert.MixReferenceIdeal.Facts) (hFwdKernel : Cert.FwdKernel.Facts) (hFwdKernelIdeal : Cert.FwdKernelIdeal.Facts) (hFwdReferenceIdeal : Cert.FwdReferenceIdeal.Facts) (hInbKernel : Cert.InbKernel.Facts) (hInbKernelIdeal : Cert.InbKernelIdeal.Facts) (hInbReferenceIdeal : Cert.InbReferenceIdeal.Facts) (hInaKernel : Cert.InaKernel.Facts) (hInaKernelIdeal : Cert.InaKernelIdeal.Facts) (hInaReferenceIdeal : Cert.InaReferenceIdeal.Facts) (hPre_finite_out : Cert.Pre_finite_out.Facts) (hPre_finite_bb : Cert.Pre_finite_bb.Facts) (hPre_finite_fwd : Cert.Pre_finite_fwd.Facts) (hPre_finite_inb : Cert.Pre_finite_inb.Facts) (hPre_finite_ina : Cert.Pre_finite_ina.Facts),
    quiescent_OutKernel (hOutKernel := hOutKernel)
    ∧ quiescent_OutKernelIdeal (hOutKernelIdeal := hOutKernelIdeal)
    ∧ quiescent_OutKernelIdeal_pre_finite_out (hOutKernelIdeal := hOutKernelIdeal) (hPre_finite_out := hPre_finite_out)
    ∧ quiescent_OutReferenceIdeal (hOutReferenceIdeal := hOutReferenceIdeal)
    ∧ quiescent_OutReferenceIdeal_pre_finite_out (hOutReferenceIdeal := hOutReferenceIdeal) (hPre_finite_out := hPre_finite_out)
    ∧ quiescent_MixKernel (hMixKernel := hMixKernel)
    ∧ quiescent_MixKernelIdeal (hMixKernelIdeal := hMixKernelIdeal)
    ∧ quiescent_MixKernelIdeal_pre_finite_bb (hMixKernelIdeal := hMixKernelIdeal) (hPre_finite_bb := hPre_finite_bb)
    ∧ quiescent_MixReferenceIdeal (hMixReferenceIdeal := hMixReferenceIdeal)
    ∧ quiescent_MixReferenceIdeal_pre_finite_bb (hMixReferenceIdeal := hMixReferenceIdeal) (hPre_finite_bb := hPre_finite_bb)
    ∧ quiescent_FwdKernel (hFwdKernel := hFwdKernel)
    ∧ quiescent_FwdKernelIdeal (hFwdKernelIdeal := hFwdKernelIdeal)
    ∧ quiescent_FwdKernelIdeal_pre_finite_fwd (hFwdKernelIdeal := hFwdKernelIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_InbKernel (hInbKernel := hInbKernel)
    ∧ quiescent_InbKernelIdeal (hInbKernelIdeal := hInbKernelIdeal)
    ∧ quiescent_InbKernelIdeal_pre_finite_inb (hInbKernelIdeal := hInbKernelIdeal) (hPre_finite_inb := hPre_finite_inb)
    ∧ quiescent_InbReferenceIdeal (hInbReferenceIdeal := hInbReferenceIdeal)
    ∧ quiescent_InbReferenceIdeal_pre_finite_inb (hInbReferenceIdeal := hInbReferenceIdeal) (hPre_finite_inb := hPre_finite_inb)
    ∧ quiescent_InaKernel (hInaKernel := hInaKernel)
    ∧ quiescent_InaKernelIdeal (hInaKernelIdeal := hInaKernelIdeal)
    ∧ quiescent_InaKernelIdeal_pre_finite_ina (hInaKernelIdeal := hInaKernelIdeal) (hPre_finite_ina := hPre_finite_ina)
    ∧ quiescent_InaReferenceIdeal (hInaReferenceIdeal := hInaReferenceIdeal)
    ∧ quiescent_InaReferenceIdeal_pre_finite_ina (hInaReferenceIdeal := hInaReferenceIdeal) (hPre_finite_ina := hPre_finite_ina)
    ∧ preserves_OutKernel_OutKernelIdeal
    ∧ algebraic_OutKernelIdeal_OutReferenceIdeal_pre_finite_out (hOutKernelIdeal := hOutKernelIdeal) (hOutReferenceIdeal := hOutReferenceIdeal) (hPre_finite_out := hPre_finite_out)
    ∧ preserves_MixKernel_MixKernelIdeal
    ∧ algebraic_MixKernelIdeal_MixReferenceIdeal_pre_finite_bb (hMixKernelIdeal := hMixKernelIdeal) (hMixReferenceIdeal := hMixReferenceIdeal) (hPre_finite_bb := hPre_finite_bb)
    ∧ preserves_FwdKernel_FwdKernelIdeal
    ∧ algebraic_FwdKernelIdeal_FwdReferenceIdeal_pre_finite_fwd (hFwdKernelIdeal := hFwdKernelIdeal) (hFwdReferenceIdeal := hFwdReferenceIdeal) (hPre_finite_fwd := hPre_finite_fwd)
    ∧ preserves_InbKernel_InbKernelIdeal
    ∧ algebraic_InbKernelIdeal_InbReferenceIdeal_pre_finite_inb (hInbKernelIdeal := hInbKernelIdeal) (hInbReferenceIdeal := hInbReferenceIdeal) (hPre_finite_inb := hPre_finite_inb)
    ∧ preserves_InaKernel_InaKernelIdeal
    ∧ algebraic_InaKernelIdeal_InaReferenceIdeal_pre_finite_ina (hInaKernelIdeal := hInaKernelIdeal) (hInaReferenceIdeal := hInaReferenceIdeal) (hPre_finite_ina := hPre_finite_ina)
-- ==== Pre_finite_bb.lean ====
abbrev S8192x6144 : Shape := ⟨2, ![8192, 6144]⟩
abbrev S8192x2048 : Shape := ⟨2, ![8192, 2048]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x1024 : Shape := ⟨2, ![8, 1024]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x31x1024 : S_.BroadcastsInDim S1x31x1024 (![] : Fin 0 → Fin S1x31x1024.rank)
  reducesTo_S1x31x1024_S_d0_1_2 : S1x31x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part2 {F : FTy → Type} [FloatOps F] (main_arg7 : FVec F S1x1024 .f32) (main_arg8 : FVec F S1x8x128x128 .f32) (main_arg9 : FVec F S1x8x128 .f32) (main_v30 : IVec S_ 1) (main_v33 : IVec S1x1024 1) (main_c_11 : IVec S_ 1) : IVec S_ 1 :=
  let main_v34 : IVec S_ 1 := (fun x v => Host.reduce IntOp.andi x v reducesTo_S1x1024_S_d0_1 h_S_) main_v33 main_c_11
  let main_v35 : IVec S_ 1 := andi main_v30 main_v34
  let main_v36 : FVec F S1x1024 .f32 := Host.absf main_arg7
  let main_cst_12 : FVec F S_ .f32 := constant S_ .f32 0x7F800000#32
  let main_v37 : FVec F S1x1024 .f32 := broadcastInDim S1x1024 ![] bcast_S_S1x1024 main_cst_12
  let main_v38 : IVec S1x1024 1 := cmpf .olt main_v36 main_v37
  let main_c_13 : IVec S_ 1 := constantI S_ 1 1#1
  let main_v39 : IVec S_ 1 := (fun x v => Host.reduce IntOp.andi x v reducesTo_S1x1024_S_d0_1 h_S_) main_v38 main_c_13
  let main_v40 : IVec S_ 1 := andi main_v35 main_v39
  let main_v41 : FVec F S1x8x128x128 .f32 := Host.absf main_arg8
  let main_cst_14 : FVec F S_ .f32 := constant S_ .f32 0x7F800000#32
  let main_v42 : FVec F S1x8x128x128 .f32 := broadcastInDim S1x8x128x128 ![] bcast_S_S1x8x128x128 main_cst_14
  let main_v43 : IVec S1x8x128x128 1 := cmpf .olt main_v41 main_v42
  let main_c_15 : IVec S_ 1 := constantI S_ 1 1#1
  let main_v44 : IVec S_ 1 := (fun x v => Host.reduce IntOp.andi x v reducesTo_S1x8x128x128_S_d0_1_2_3 h_S_) main_v43 main_c_15
  let main_v45 : IVec S_ 1 := andi main_v40 main_v44
  let main_v46 : FVec F S1x8x128 .f32 := Host.absf main_arg9
  let main_cst_16 : FVec F S_ .f32 := constant S_ .f32 0x7F800000#32
  let main_v47 : FVec F S1x8x128 .f32 := broadcastInDim S1x8x128 ![] bcast_S_S1x8x128 main_cst_16
  let main_v48 : IVec S1x8x128 1 := cmpf .olt main_v46 main_v47
  let main_c_17 : IVec S_ 1 := constantI S_ 1 1#1
  let main_v49 : IVec S_ 1 := (fun x v => Host.reduce IntOp.andi x v reducesTo_S1x8x128_S_d0_1_2 h_S_) main_v48 main_c_17
  let main_v50 : IVec S_ 1 := andi main_v45 main_v49
  main_v50

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x8x128x128 .f32) (main_arg9 : FVec F S1x8x128 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  let main_v31 : FVec F S1x1024 .f32 := Host.absf main_arg6
  let main_cst_10 : FVec F S_ .f32 := constant S_ .f32 0x7F800000#32
  let main_v32 : FVec F S1x1024 .f32 := broadcastInDim S1x1024 ![] bcast_S_S1x1024 main_cst_10
  let main_v33 : IVec S1x1024 1 := cmpf .olt main_v31 main_v32
  let main_c_11 : IVec S_ 1 := constantI S_ 1 1#1
  fn_part2 (F := F) main_arg7 main_arg8 main_arg9 main_v30 main_v33 main_c_11

def fn {F : FTy → Type} [FloatOps F] (main_arg0 : FVec F S8192x6144 .bf16) (main_arg1 : FVec F S8192x2048 .bf16) (main_arg2 : FVec F S1x31x1024 .f32) (main_arg3 : FVec F S1x1024 .f32) (main_arg4 : FVec F S1x1024 .f32) (main_arg5 : FVec F S1x1024 .f32) (main_arg6 : FVec F S1x1024 .f32) (main_arg7 : FVec F S1x1024 .f32) (main_arg8 : FVec F S1x8x128x128 .f32) (main_arg9 : FVec F S1x8x128 .f32) (main_arg10 : FVec F S8x1024 .f32) (main_arg11 : FVec F S8x1024 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S1x31x1024 .f32 := Host.absf main_arg2
  let main_cst_2 : FVec F S_ .f32 := constant S_ .f32 0x7F800000#32
  let main_v12 : FVec F S1x31x1024 .f32 := broadcastInDim S1x31x1024 ![] bcast_S_S1x31x1024 main_cst_2
  let main_v13 : IVec S1x31x1024 1 := cmpf .olt main_v11 main_v12
  let main_c_3 : IVec S_ 1 := constantI S_ 1 1#1
  let main_v14 : IVec S_ 1 := (fun x v => Host.reduce IntOp.andi x v reducesTo_S1x31x1024_S_d0_1_2 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_arg5 main_arg6 main_arg7 main_arg8 main_arg9 main_v15 main_v16 main_cst_4
-- ==== Pre_finite_fwd.lean ====
abbrev S8192x6144 : Shape := ⟨2, ![8192, 6144]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x6144 .bf16) (main_arg1 : FVec F S1x31x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1x8x128x128 .f32) (main_arg8 : FVec F S1x8x128 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S1x1024 .f32 := Host.absf main_arg3
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S1x1024 .f32 := Host.absf main_arg4
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  main_v14
-- ==== Pre_finite_ina.lean ====
abbrev S1x8192x1024 : Shape := ⟨3, ![1, 8192, 1024]⟩
abbrev S1x1024 : Shape := ⟨2, ![1, 1024]⟩
abbrev S1x1024x6144 : Shape := ⟨3, ![1, 1024, 6144]⟩
abbrev S8192x6144 : Shape := ⟨2, ![8192, 6144]⟩
abbrev S8192x1024 : Shape := ⟨2, ![8192, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x6144 : S_.BroadcastsInDim S1x1024x6144 (![] : Fin 0 → Fin S1x1024x6144.rank)
  reducesTo_S1x1024x6144_S_d0_1_2 : S1x1024x6144.ReducesTo [0, 1, 2] S_
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_

variable [Facts]

def fn_part1 {F : FTy → Type} [FloatOps F] (main_v13 : IVec S_ 1) (main_v15 : FVec F S8192x6144 .f32) (main_v16 : FVec F S8192x6144 .f32) : IVec S_ 1 :=
  let main_v17 : IVec S8192x6144 1 := cmpf .olt main_v15 main_v16
  let main_c_5 : IVec S_ 1 := constantI S_ 1 1#1
  let main_v18 : IVec S_ 1 := (fun x v => Host.reduce IntOp.andi x v reducesTo_S8192x6144_S_d0_1 h_S_) main_v17 main_c_5
  let main_v19 : IVec S_ 1 := andi main_v13 main_v18
  main_v19

def fn {F : FTy → Type} [FloatOps F] (main_arg0 : FVec F S1x8192x1024 .f32) (main_arg1 : FVec F S1x1024 .f32) (main_arg2 : FVec F S1x1024x6144 .f32) (main_arg3 : FVec F S8192x6144 .bf16) (main_arg4 : FVec F S8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x6144 .f32 := Host.absf main_arg2
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_c_3 : IVec S_ 1 := constantI S_ 1 1#1
  let main_v12 : IVec S_ 1 := (fun x v => Host.reduce IntOp.andi x v reducesTo_S1x1024x6144_S_d0_1_2 h_S_) main_v11 main_c_3
  let main_v13 : IVec S_ 1 := andi main_v8 main_v12
  let main_v14 : FVec F S8192x6144 .f32 := (extf .f32 · bitsLt_bf16_f32) main_arg3
  let main_v15 : FVec F S8192x6144 .f32 := Host.absf main_v14
  let main_cst_4 : FVec F S_ .f32 := constant S_ .f32 0x7F800000#32
  let main_v16 : FVec F S8192x6144 .f32 := broadcastInDim S8192x6144 ![] bcast_S_S8192x6144 main_cst_4
  fn_part1 (F := F) main_v13 main_v15 main_v16
-- ==== Pre_finite_inb.lean ====
abbrev S1x8192x1024 : Shape := ⟨3, ![1, 8192, 1024]⟩
abbrev S1x1024 : Shape := ⟨2, ![1, 1024]⟩
abbrev S1x1024x6144 : Shape := ⟨3, ![1, 1024, 6144]⟩
abbrev S8192x6144 : Shape := ⟨2, ![8192, 6144]⟩
abbrev S8192x1024 : Shape := ⟨2, ![8192, 1024]⟩
abbrev S8x1024 : Shape := ⟨2, ![8, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x6144 : S_.BroadcastsInDim S1x1024x6144 (![] : Fin 0 → Fin S1x1024x6144.rank)
  reducesTo_S1x1024x6144_S_d0_1_2 : S1x1024x6144.ReducesTo [0, 1, 2] S_
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_

variable [Facts]

def fn_part1 {F : FTy → Type} [FloatOps F] (main_v13 : IVec S_ 1) (main_v15 : FVec F S8192x6144 .f32) (main_v16 : FVec F S8192x6144 .f32) : IVec S_ 1 :=
  let main_v17 : IVec S8192x6144 1 := cmpf .olt main_v15 main_v16
  let main_c_5 : IVec S_ 1 := constantI S_ 1 1#1
  let main_v18 : IVec S_ 1 := (fun x v => Host.reduce IntOp.andi x v reducesTo_S8192x6144_S_d0_1 h_S_) main_v17 main_c_5
  let main_v19 : IVec S_ 1 := andi main_v13 main_v18
  main_v19

def fn {F : FTy → Type} [FloatOps F] (main_arg0 : FVec F S1x8192x1024 .f32) (main_arg1 : FVec F S1x1024 .f32) (main_arg2 : FVec F S1x1024x6144 .f32) (main_arg3 : FVec F S8192x6144 .bf16) (main_arg4 : FVec F S8192x1024 .f32) (main_arg5 : FVec F S8192x1024 .f32) (main_arg6 : FVec F S8x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x6144 .f32 := Host.absf main_arg2
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_c_3 : IVec S_ 1 := constantI S_ 1 1#1
  let main_v12 : IVec S_ 1 := (fun x v => Host.reduce IntOp.andi x v reducesTo_S1x1024x6144_S_d0_1_2 h_S_) main_v11 main_c_3
  let main_v13 : IVec S_ 1 := andi main_v8 main_v12
  let main_v14 : FVec F S8192x6144 .f32 := (extf .f32 · bitsLt_bf16_f32) main_arg3
  let main_v15 : FVec F S8192x6144 .f32 := Host.absf main_v14
  let main_cst_4 : FVec F S_ .f32 := constant S_ .f32 0x7F800000#32
  let main_v16 : FVec F S8192x6144 .f32 := broadcastInDim S8192x6144 ![] bcast_S_S8192x6144 main_cst_4
  fn_part1 (F := F) main_v13 main_v15 main_v16
-- ==== Pre_finite_out.lean ====
abbrev S8192x2048 : Shape := ⟨2, ![8192, 2048]⟩
abbrev S1x8192x1024 : Shape := ⟨3, ![1, 8192, 1024]⟩
abbrev S1x2048x1024 : Shape := ⟨3, ![1, 2048, 1024]⟩
abbrev S1024 : Shape := ⟨1, ![1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v14 : IVec S_ 1) (main_v15 : FVec F S1x2048x1024 .f32) (main_v16 : FVec F S1x2048x1024 .f32) : IVec S_ 1 :=
  let main_v17 : IVec S1x2048x1024 1 := cmpf .olt main_v15 main_v16
  let main_c_5 : IVec S_ 1 := constantI S_ 1 1#1
  let main_v18 : IVec S_ 1 := (fun x v => Host.reduce IntOp.andi x v reducesTo_S1x2048x1024_S_d0_1_2 h_S_) main_v17 main_c_5
  let main_v19 : IVec S_ 1 := andi main_v14 main_v18
  let main_v20 : FVec F S1024 .f32 := Host.absf main_arg4
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  main_v24

def fn {F : FTy → Type} [FloatOps F] (main_arg0 : FVec F S8192x2048 .bf16) (main_arg1 : FVec F S1x8192x1024 .f32) (main_arg2 : FVec F S1x8192x1024 .f32) (main_arg3 : FVec F S1x2048x1024 .f32) (main_arg4 : FVec F S1024 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S1x8192x1024 .f32 := Host.absf main_arg1
  let main_cst_0 : FVec F S_ .f32 := constant S_ .f32 0x7F800000#32
  let main_v6 : FVec F S1x8192x1024 .f32 := broadcastInDim S1x8192x1024 ![] bcast_S_S1x8192x1024 main_cst_0
  let main_v7 : IVec S1x8192x1024 1 := cmpf .olt main_v5 main_v6
  let main_c_1 : IVec S_ 1 := constantI S_ 1 1#1
  let main_v8 : IVec S_ 1 := (fun x v => Host.reduce IntOp.andi x v reducesTo_S1x8192x1024_S_d0_1_2 h_S_) main_v7 main_c_1
  let main_v9 : IVec S_ 1 := andi main_v4 main_v8
  let main_v10 : FVec F S1x8192x1024 .f32 := Host.absf main_arg2
  let main_cst_2 : FVec F S_ .f32 := constant S_ .f32 0x7F800000#32
  let main_v11 : FVec F S1x8192x1024 .f32 := broadcastInDim S1x8192x1024 ![] bcast_S_S1x8192x1024 main_cst_2
  let main_v12 : IVec S1x8192x1024 1 := cmpf .olt main_v10 main_v11
  let main_c_3 : IVec S_ 1 := constantI S_ 1 1#1
  let main_v13 : IVec S_ 1 := (fun x v => Host.reduce IntOp.andi x v reducesTo_S1x8192x1024_S_d0_1_2 h_S_) main_v12 main_c_3
  let main_v14 : IVec S_ 1 := andi main_v9 main_v13
  let main_v15 : FVec F S1x2048x1024 .f32 := Host.absf main_arg3
  let main_cst_4 : FVec F S_ .f32 := constant S_ .f32 0x7F800000#32
  let main_v16 : FVec F S1x2048x1024 .f32 := broadcastInDim S1x2048x1024 ![] bcast_S_S1x2048x1024 main_cst_4
  fn_part1 (F := F) main_arg4 main_v14 main_v15 main_v16
-- ==== OutKernel.lean ====
abbrev S8192x2048 : Shape := ⟨2, ![8192, 2048]⟩
abbrev S1x8192x1024 : Shape := ⟨3, ![1, 8192, 1024]⟩
abbrev S1x2048x1024 : Shape := ⟨3, ![1, 2048, 1024]⟩
abbrev S1024 : Shape := ⟨1, ![1024]⟩
abbrev S2048x1024 : Shape := ⟨2, ![2048, 1024]⟩
abbrev S4x512x1024 : Shape := ⟨3, ![4, 512, 1024]⟩
abbrev S8192x1024 : Shape := ⟨2, ![8192, 1024]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 16
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1x8192x1024, .f32⟩
  | .hbm, ⟨2, _⟩ => ⟨S1x8192x1024, .f32⟩
  | .hbm, ⟨3, _⟩ => ⟨S1x2048x1024, .f32⟩
  | .hbm, ⟨4, _⟩ => ⟨S1024, .f32⟩
  | .hbm, ⟨5, _⟩ => ⟨S2048x1024, .f32⟩
  | .hbm, ⟨6, _⟩ => ⟨S4x512x1024, .f32⟩
  | .hbm, ⟨7, _⟩ => ⟨S4x512x1024, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x2048, .bf16⟩
  | .hbm, ⟨13, _⟩ => ⟨S2048x1024, .f32⟩
  | .hbm, ⟨14, _⟩ => ⟨S8x1024, .f32⟩
  | .hbm, ⟨15, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x512x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S2048x1024, .f32⟩
  | .local _ .vmem, ⟨13, _⟩ => ⟨S8x1024, .f32⟩
  | .local _ .vmem, ⟨14, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutReferenceIdeal.lean ====
abbrev S8192x2048 : Shape := ⟨2, ![8192, 2048]⟩
abbrev S1x8192x1024 : Shape := ⟨3, ![1, 8192, 1024]⟩
abbrev S1x2048x1024 : Shape := ⟨3, ![1, 2048, 1024]⟩
abbrev S1024 : Shape := ⟨1, ![1024]⟩
abbrev S1x8192x2048 : Shape := ⟨3, ![1, 8192, 2048]⟩
abbrev S2048x1024 : Shape := ⟨2, ![2048, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S1024x2048 : Shape := ⟨2, ![1024, 2048]⟩
abbrev S1024x8x1024 : Shape := ⟨3, ![1024, 8, 1024]⟩
abbrev S8x1024 : Shape := ⟨2, ![8, 1024]⟩
abbrev S8192x1024 : Shape := ⟨2, ![8192, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8192x1024, .f32⟩
  | .hbm, ⟨2, _⟩ => ⟨S1x8192x1024, .f32⟩
  | .hbm, ⟨3, _⟩ => ⟨S1x2048x1024, .f32⟩
  | .hbm, ⟨4, _⟩ => ⟨S1024, .f32⟩
  | .hbm, ⟨5, _⟩ => ⟨S8192x2048, .f32⟩
  | .hbm, ⟨6, _⟩ => ⟨S1x8192x2048, .f32⟩
  | .hbm, ⟨7, _⟩ => ⟨S2048x1024, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1x8192, .f32⟩
  | .hbm, ⟨37, _⟩ => ⟨S_, .f32⟩
  | .hbm, ⟨38, _⟩ => ⟨S1x8192, .f32⟩
  | .hbm, ⟨39, _⟩ => ⟨S1x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x8192, .f32⟩
  | .hbm, ⟨48, _⟩ => ⟨S_, .f32⟩
  | .hbm, ⟨49, _⟩ => ⟨S1x8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S_, .f32⟩
  | .hbm, ⟨55, _⟩ => ⟨S1x1024, .f32⟩
  | .hbm, ⟨56, _⟩ => ⟨S1x1x1024, .f32⟩
  | .hbm, ⟨57, _⟩ => ⟨S1x8192x1024, .f32⟩
  | .hbm, ⟨58, _⟩ => ⟨S1x8192x1024, .f32⟩
  | .hbm, ⟨59, _⟩ => ⟨S_, .f32⟩
  | .hbm, ⟨60, _⟩ => ⟨S1024, .f32⟩
  | .hbm, ⟨61, _⟩ => ⟨S1x8192x1024, .f32⟩
  | .hbm, ⟨62, _⟩ => ⟨S_, .f32⟩
  | .hbm, ⟨63, _⟩ => ⟨S1x8192, .f32⟩
  | .hbm, ⟨64, _⟩ => ⟨S1x8192x1, .f32⟩
  | .hbm, ⟨65, _⟩ => ⟨S1x8192x1024, .f32⟩
  | .hbm, ⟨66, _⟩ => ⟨S1x8192x1024, .f32⟩
  | .hbm, ⟨67, _⟩ => ⟨S1x8192x1, .f32⟩
  | .hbm, ⟨68, _⟩ => ⟨S_, .f32⟩
  | .hbm, ⟨69, _⟩ => ⟨S1x8192x1, .f32⟩
  | .hbm, ⟨70, _⟩ => ⟨S1x8192x1, .f32⟩
  | .hbm, ⟨71, _⟩ => ⟨S_, .f32⟩
  | .hbm, ⟨72, _⟩ => ⟨S8192, .f32⟩
  | .hbm, ⟨73, _⟩ => ⟨S1x8192, .f32⟩
  | .hbm, ⟨74, _⟩ => ⟨S1x8192x1024, .f32⟩
  | .hbm, ⟨75, _⟩ => ⟨S1x8192x1024, .f32⟩
  | .hbm, ⟨76, _⟩ => ⟨S1x8192x1024, .f32⟩
  | .hbm, ⟨77, _⟩ => ⟨S1x8192x1024, .f32⟩
  | .hbm, ⟨78, _⟩ => ⟨S1x8192x1024, .f32⟩
  | .hbm, ⟨79, _⟩ => ⟨S1024x2048, .f32⟩
  | .hbm, ⟨80, _⟩ => ⟨S2048x1024, .f32⟩
  | .hbm, ⟨81, _⟩ => ⟨S1x8192x2048, .f32⟩
  | .hbm, ⟨82, _⟩ => ⟨S1x2048x1024, .f32⟩
  | .hbm, ⟨83, _⟩ => ⟨S2048x1024, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S_, .f32⟩
  | .hbm, ⟨88, _⟩ => ⟨S1x8192, .f32⟩
  | .hbm, ⟨89, _⟩ => ⟨S1x8192x1, .f32⟩
  | .hbm, ⟨90, _⟩ => ⟨S_, .f32⟩
  | .hbm, ⟨91, _⟩ => ⟨S1x8192x1, .f32⟩
  | .hbm, ⟨92, _⟩ => ⟨S1x8192x1, .f32⟩
  | .hbm, ⟨93, _⟩ => ⟨S_, .f32⟩
  | .hbm, ⟨94, _⟩ => ⟨S1x8192x1, .f32⟩
  | .hbm, ⟨95, _⟩ => ⟨S1x8192x1, .f32⟩
  | .hbm, ⟨96, _⟩ => ⟨S1x8192x1, .f32⟩
  | .hbm, ⟨97, _⟩ => ⟨S1x8192x1024, .f32⟩
  | .hbm, ⟨98, _⟩ => ⟨S1x8192x1024, .f32⟩
  | .hbm, ⟨99, _⟩ => ⟨S1x1x1024, .f32⟩
  | .hbm, ⟨100, _⟩ => ⟨S1x8192x1024, .f32⟩
  | .hbm, ⟨101, _⟩ => ⟨S1x8192x1024, .f32⟩
  | .hbm, ⟨102, _⟩ => ⟨S1x8192x1024, .f32⟩
  | .hbm, ⟨103, _⟩ => ⟨S1x8192x1024, .f32⟩
  | .hbm, ⟨104, _⟩ => ⟨S1024x8x1024, .f32⟩
  | .hbm, ⟨105, _⟩ => ⟨S_, .f32⟩
  | .hbm, ⟨106, _⟩ => ⟨S8x1024, .f32⟩
  | .hbm, ⟨107, _⟩ => ⟨S8192x1024, .f32⟩
  | .hbm, ⟨108, _⟩ => ⟨S8192x2048, .f32⟩
  | .hbm, ⟨109, _⟩ => ⟨S8192x2048, .bf16⟩
  | .hbm, ⟨110, _⟩ => ⟨S2048x1024, .f32⟩
  | .hbm, ⟨111, _⟩ => ⟨S8x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_cst_18 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== MixKernel.lean ====
abbrev S8192x6144 : Shape := ⟨2, ![8192, 6144]⟩
abbrev S8192x2048 : Shape := ⟨2, ![8192, 2048]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x1024 : Shape := ⟨2, ![8, 1024]⟩
abbrev S8x128x128 : Shape := ⟨3, ![8, 128, 128]⟩
abbrev S8x128 : Shape := ⟨2, ![8, 128]⟩
abbrev S128x8 : Shape := ⟨2, ![128, 8]⟩
abbrev S31x1024 : Shape := ⟨2, ![31, 1024]⟩
abbrev S31x4x256 : Shape := ⟨3, ![31, 4, 256]⟩
abbrev S4x31x256 : Shape := ⟨3, ![4, 31, 256]⟩
abbrev S8192x1024 : Shape := ⟨2, ![8192, 1024]⟩
abbrev S1x8192x1024 : Shape := ⟨3, ![1, 8192, 1024]⟩
abbrev S_ : Shape := ⟨0, ![]⟩
abbrev S1x8222x1024 : Shape := ⟨3, ![1, 8222, 1024]⟩
abbrev S8222x1024 : Shape := ⟨2, ![8222, 1024]⟩
abbrev S8192x31 : Shape := ⟨2, ![8192, 31]⟩
abbrev S8192x31x1 : Shape := ⟨3, ![8192, 31, 1]⟩
abbrev S8192x31x1024 : Shape := ⟨3, ![8192, 31, 1024]⟩
abbrev S1024 : Shape := ⟨1, ![1024]⟩
abbrev S40x1024 : Shape := ⟨2, ![40, 1024]⟩
abbrev S256x6144 : Shape := ⟨2, ![256, 6144]⟩
abbrev S256x2048 : Shape := ⟨2, ![256, 2048]⟩
abbrev S256x1024 : Shape := ⟨2, ![256, 1024]⟩
abbrev S16x1024 : Shape := ⟨2, ![16, 1024]⟩
abbrev S8x288x128 : Shape := ⟨3, ![8, 288, 128]⟩
abbrev S256x128 : Shape := ⟨2, ![256, 128]⟩
abbrev S288x1024 : Shape := ⟨2, ![288, 1024]⟩
abbrev S248x1024 : Shape := ⟨2, ![248, 1024]⟩
abbrev S128x1024 : Shape := ⟨2, ![128, 1024]⟩
abbrev S144x1024 : Shape := ⟨2, ![144, 1024]⟩
abbrev S144 : Shape := ⟨1, ![144]⟩
abbrev S144x1 : Shape := ⟨2, ![144, 1]⟩
abbrev S16x8x1024 : Shape := ⟨3, ![16, 8, 1024]⟩
abbrev S288x128 : Shape := ⟨2, ![288, 128]⟩
abbrev S1x288x128 : Shape := ⟨3, ![1, 288, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S64x128 : Shape := ⟨2, ![64, 128]⟩
abbrev S1x64x128 : Shape := ⟨3, ![1, 64, 128]⟩
abbrev S8x8x128 : Shape := ⟨3, ![8, 8, 128]⟩
abbrev S256 : Shape := ⟨1, ![256]⟩
abbrev S256x1 : Shape := ⟨2, ![256, 1]⟩
abbrev S128x1 : Shape := ⟨2, ![128, 1]⟩
abbrev S32x8x1024 : Shape := ⟨3, ![32, 8, 1024]⟩

abbrev nBuf : Space → Nat
  | .hbm => 65
  | .vmem => 40
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x8x128x128, .f32⟩
  | .hbm, ⟨9, _⟩ => ⟨S1x8x128, .f32⟩
  | .hbm, ⟨10, _⟩ => ⟨S8x1024, .f32⟩
  | .hbm, ⟨11, _⟩ => ⟨S8x1024, .f32⟩
  | .hbm, ⟨12, _⟩ => ⟨S8x128x128, .f32⟩
  | .hbm, ⟨13, _⟩ => ⟨S8x128x128, .f32⟩
  | .hbm, ⟨14, _⟩ => ⟨S8x128, .f32⟩
  | .hbm, ⟨15, _⟩ => ⟨S128x8, .f32⟩
  | .hbm, ⟨16, _⟩ => ⟨S31x1024, .f32⟩
  | .hbm, ⟨17, _⟩ => ⟨S31x4x256, .f32⟩
  | .hbm, ⟨18, _⟩ => ⟨S4x31x256, .f32⟩
  | .hbm, ⟨19, _⟩ => ⟨S8192x1024, .bf16⟩
  | .hbm, ⟨20, _⟩ => ⟨S1x8192x1024, .bf16⟩
  | .hbm, ⟨21, _⟩ => ⟨S1x8192x1024, .f32⟩
  | .hbm, ⟨22, _⟩ => ⟨S8192x1024, .bf16⟩
  | .hbm, ⟨23, _⟩ => ⟨S1x8192x1024, .bf16⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S_, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S_, .i32⟩
  | .hbm, ⟨35, _⟩ => ⟨S_, .f32⟩
  | .hbm, ⟨36, _⟩ => ⟨S1x8222x1024, .f32⟩
  | .hbm, ⟨37, _⟩ => ⟨S8222x1024, .f32⟩
  | .hbm, ⟨38, _⟩ => ⟨S8192x31, .i32⟩
  | .hbm, ⟨39, _⟩ => ⟨S8192x31, .i32⟩
  | .hbm, ⟨40, _⟩ => ⟨S8192x31, .i32⟩
  | .hbm, ⟨41, _⟩ => ⟨S_, .i32⟩
  | .hbm, ⟨42, _⟩ => ⟨S8192x31, .i32⟩
  | .hbm, ⟨43, _⟩ => ⟨S8192x31, .i1⟩
  | .hbm, ⟨44, _⟩ => ⟨S_, .i32⟩
  | .hbm, ⟨45, _⟩ => ⟨S8192x31, .i32⟩
  | .hbm, ⟨46, _⟩ => ⟨S8192x31, .i32⟩
  | .hbm, ⟨47, _⟩ => ⟨S8192x31, .i32⟩
  | .hbm, ⟨48, _⟩ => ⟨S8192x31x1, .i32⟩
  | .hbm, ⟨49, _⟩ => ⟨S8192x31x1024, .f32⟩
  | .hbm, ⟨50, _⟩ => ⟨S31x1024, .f32⟩
  | .hbm, ⟨51, _⟩ => ⟨S1x31x1024, .f32⟩
  | .hbm, ⟨52, _⟩ => ⟨S8192x31x1024, .f32⟩
  | .hbm, ⟨53, _⟩ => ⟨S8192x31x1024, .f32⟩
  | .hbm, ⟨54, _⟩ => ⟨S_, .f32⟩
  | .hbm, ⟨55, _⟩ => ⟨S8192x1024, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8x128, .f32⟩
  | .hbm, ⟨62, _⟩ => ⟨S8192x6144, .bf16⟩
  | .hbm, ⟨63, _⟩ => ⟨S40x1024, .f32⟩
  | .hbm, ⟨64, _⟩ => ⟨S8x128x128, .f32⟩
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S4x31x256, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S8x128x128, .f32⟩
  | .local _ .vmem, ⟨24, _⟩ => ⟨S8x128x128, .f32⟩
  | .local _ .vmem, ⟨25, _⟩ => ⟨S128x8, .f32⟩
  | .local _ .vmem, ⟨26, _⟩ => ⟨S8x1024, .f32⟩
  | .local _ .vmem, ⟨27, _⟩ => ⟨S8x1024, .f32⟩
  | .local _ .vmem, ⟨28, _⟩ => ⟨S8x128, .f32⟩
  | .local _ .vmem, ⟨29, _⟩ => ⟨S256x6144, .bf16⟩
  | .local _ .vmem, ⟨30, _⟩ => ⟨S256x6144, .bf16⟩
  | .local _ .vmem, ⟨31, _⟩ => ⟨S40x1024, .f32⟩
  | .local _ .vmem, ⟨32, _⟩ => ⟨S8x128x128, .f32⟩
  | .local _ .vmem, ⟨33, _⟩ => ⟨S8x288x128, .f32⟩
  | .local _ .vmem, ⟨34, _⟩ => ⟨S256x128, .f32⟩
  | .local _ .vmem, ⟨35, _⟩ => ⟨S256x128, .f32⟩
  | .local _ .vmem, ⟨36, _⟩ => ⟨S288x1024, .f32⟩
  | .local _ .vmem, ⟨37, _⟩ => ⟨S40x1024, .f32⟩
  | .local _ .vmem, ⟨38, _⟩ => ⟨S248x1024, .f32⟩
  | .local _ .vmem, ⟨39, _⟩ => ⟨S128x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42_0 : Ref sig .tc := ⟨.hbm, 62, rfl⟩
abbrev main_v42_1 : Ref sig .tc := ⟨.hbm, 63, rfl⟩
abbrev main_v42_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg22_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31
abbrev cc0_sem22_0 : DmaSem sig := 32

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_130 : BitVec 32 := 0#32
  let c2_i32 : BitVec 32 := 2#32
  let v315 : BitVec 32 := Scalar.addi c0_i32_130 c2_i32
  let c1_i32 : BitVec 32 := 1#32
  ⟨c0_i32_130, v315, c1_i32⟩
def k0_mult1 (k0_t1 : Fin k0_t1_loop.trips) : BitVec 32 :=
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  v3164
def k0_off1 (k0_t1 : Fin k0_t1_loop.trips) (c0_i32_2238 : BitVec 32) : Fin 3 → Nat :=
  let c1_2239 : Index := 1#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off2 (k0_t1 : Fin k0_t1_loop.trips) (c0_i32_2243 : BitVec 32) : Fin 3 → Nat :=
  let c2_2244 : Index := 2#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off3 (k0_t1 : Fin k0_t1_loop.trips) (c0_i32_2248 : BitVec 32) : Fin 3 → Nat :=
  let c3_2249 : Index := 3#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off4 (k0_t1 : Fin k0_t1_loop.trips) (c0_i32_2253 : BitVec 32) : Fin 3 → Nat :=
  let c4_2254 : Index := 4#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off5 (k0_t1 : Fin k0_t1_loop.trips) (c0_i32_2258 : BitVec 32) : Fin 3 → Nat :=
  let c5_2259 : Index := 5#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off6 (k0_t1 : Fin k0_t1_loop.trips) (c0_i32_2263 : BitVec 32) : Fin 3 → Nat :=
  let c6_2264 : Index := 6#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off7 (k0_t1 : Fin k0_t1_loop.trips) (c0_i32_2268 : BitVec 32) : Fin 3 → Nat :=
  let c7_2269 : Index := 7#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off8 (k0_t1 : Fin k0_t1_loop.trips) (c8_i32 : BitVec 32) : Fin 3 → Nat :=
  let c0_2274 : Index := 0#32
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off9 (k0_t1 : Fin k0_t1_loop.trips) : Fin 2 → Nat :=
  let c0_i32_130 : BitVec 32 := 0#32
  let c1_i32 : BitVec 32 := 1#32
  let arg31 : BitVec 32 := Scf.iv c0_i32_130 c1_i32 k0_t1
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t2_loop : Scf.Loop 32 :=
  let c0_i32_163 : BitVec 32 := 0#32
  let c4_i32 : BitVec 32 := 4#32
  let v347 : BitVec 32 := Scalar.addi c0_i32_163 c4_i32
  let c1_i32_164 : BitVec 32 := 1#32
  ⟨c0_i32_163, v347, c1_i32_164⟩
def k0_mult2 (k0_t2 : Fin k0_t2_loop.trips) : BitVec 32 :=
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  v3164
def k0_off10 (k0_t2 : Fin k0_t2_loop.trips) : Fin 2 → Nat :=
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off11 (k0_t2 : Fin k0_t2_loop.trips) (c0_i32_2237 : BitVec 32) : Fin 3 → Nat :=
  let c1_2238 : Index := 1#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off12 (k0_t2 : Fin k0_t2_loop.trips) (c0_i32_2241 : BitVec 32) : Fin 3 → Nat :=
  let c2_2242 : Index := 2#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off13 (k0_t2 : Fin k0_t2_loop.trips) (c0_i32_2245 : BitVec 32) : Fin 3 → Nat :=
  let c3_2246 : Index := 3#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off14 (k0_t2 : Fin k0_t2_loop.trips) (c0_i32_2249 : BitVec 32) : Fin 3 → Nat :=
  let c4_2250 : Index := 4#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off15 (k0_t2 : Fin k0_t2_loop.trips) (c0_i32_2253 : BitVec 32) : Fin 3 → Nat :=
  let c5_2254 : Index := 5#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off16 (k0_t2 : Fin k0_t2_loop.trips) (c0_i32_2257 : BitVec 32) : Fin 3 → Nat :=
  let c6_2258 : Index := 6#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off17 (k0_t2 : Fin k0_t2_loop.trips) (c0_i32_2261 : BitVec 32) : Fin 3 → Nat :=
  let c7_2262 : Index := 7#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off18 (k0_t2 : Fin k0_t2_loop.trips) (c8_i32 : BitVec 32) : Fin 3 → Nat :=
  let c0_2265 : Index := 0#32
  let c0_i32_163 : BitVec 32 := 0#32
  let c1_i32_164 : BitVec 32 := 1#32
  let arg31 : BitVec 32 := Scf.iv c0_i32_163 c1_i32_164 k0_t2
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
@[reducible] def k0_t3_loop : Scf.Loop 32 :=
  let c0_i32_312 : BitVec 32 := 0#32
  let c2_i32_313 : BitVec 32 := 2#32
  let v562 : BitVec 32 := Scalar.addi c0_i32_312 c2_i32_313
  let c1_i32_314 : BitVec 32 := 1#32
  ⟨c0_i32_312, v562, c1_i32_314⟩
def k0_mult3 (k0_t3 : Fin k0_t3_loop.trips) : BitVec 32 :=
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  v3164
def k0_off19 (k0_t3 : Fin k0_t3_loop.trips) (c0_i32_2238 : BitVec 32) : Fin 3 → Nat :=
  let c1_2239 : Index := 1#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off20 (k0_t3 : Fin k0_t3_loop.trips) (c0_i32_2243 : BitVec 32) : Fin 3 → Nat :=
  let c2_2244 : Index := 2#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off21 (k0_t3 : Fin k0_t3_loop.trips) (c0_i32_2248 : BitVec 32) : Fin 3 → Nat :=
  let c3_2249 : Index := 3#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off22 (k0_t3 : Fin k0_t3_loop.trips) (c0_i32_2253 : BitVec 32) : Fin 3 → Nat :=
  let c4_2254 : Index := 4#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off23 (k0_t3 : Fin k0_t3_loop.trips) (c0_i32_2258 : BitVec 32) : Fin 3 → Nat :=
  let c5_2259 : Index := 5#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off24 (k0_t3 : Fin k0_t3_loop.trips) (c0_i32_2263 : BitVec 32) : Fin 3 → Nat :=
  let c6_2264 : Index := 6#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off25 (k0_t3 : Fin k0_t3_loop.trips) (c0_i32_2268 : BitVec 32) : Fin 3 → Nat :=
  let c7_2269 : Index := 7#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off26 (k0_t3 : Fin k0_t3_loop.trips) (c8_i32 : BitVec 32) : Fin 3 → Nat :=
  let c0_2274 : Index := 0#32
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off27 (k0_t3 : Fin k0_t3_loop.trips) : Fin 2 → Nat :=
  let c0_i32_312 : BitVec 32 := 0#32
  let c1_i32_314 : BitVec 32 := 1#32
  let arg31 : BitVec 32 := Scf.iv c0_i32_312 c1_i32_314 k0_t3
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t4_loop : Scf.Loop 32 :=
  let c0_i32_347 : BitVec 32 := 0#32
  let c4_i32_348 : BitVec 32 := 4#32
  let v594 : BitVec 32 := Scalar.addi c0_i32_347 c4_i32_348
  let c1_i32_349 : BitVec 32 := 1#32
  ⟨c0_i32_347, v594, c1_i32_349⟩
def k0_mult4 (k0_t4 : Fin k0_t4_loop.trips) : BitVec 32 :=
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  v3164
def k0_off28 (k0_t4 : Fin k0_t4_loop.trips) : Fin 2 → Nat :=
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off29 (k0_t4 : Fin k0_t4_loop.trips) (c0_i32_2237 : BitVec 32) : Fin 3 → Nat :=
  let c1_2238 : Index := 1#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off30 (k0_t4 : Fin k0_t4_loop.trips) (c0_i32_2241 : BitVec 32) : Fin 3 → Nat :=
  let c2_2242 : Index := 2#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off31 (k0_t4 : Fin k0_t4_loop.trips) (c0_i32_2245 : BitVec 32) : Fin 3 → Nat :=
  let c3_2246 : Index := 3#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off32 (k0_t4 : Fin k0_t4_loop.trips) (c0_i32_2249 : BitVec 32) : Fin 3 → Nat :=
  let c4_2250 : Index := 4#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off33 (k0_t4 : Fin k0_t4_loop.trips) (c0_i32_2253 : BitVec 32) : Fin 3 → Nat :=
  let c5_2254 : Index := 5#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off34 (k0_t4 : Fin k0_t4_loop.trips) (c0_i32_2257 : BitVec 32) : Fin 3 → Nat :=
  let c6_2258 : Index := 6#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off35 (k0_t4 : Fin k0_t4_loop.trips) (c0_i32_2261 : BitVec 32) : Fin 3 → Nat :=
  let c7_2262 : Index := 7#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off36 (k0_t4 : Fin k0_t4_loop.trips) (c8_i32 : BitVec 32) : Fin 3 → Nat :=
  let c0_2265 : Index := 0#32
  let c0_i32_347 : BitVec 32 := 0#32
  let c1_i32_349 : BitVec 32 := 1#32
  let arg31 : BitVec 32 := Scf.iv c0_i32_347 c1_i32_349 k0_t4
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
@[reducible] def k0_t5_loop : Scf.Loop 32 :=
  let c0_i32_522 : BitVec 32 := 0#32
  let c2_i32_523 : BitVec 32 := 2#32
  let v809 : BitVec 32 := Scalar.addi c0_i32_522 c2_i32_523
  let c1_i32_524 : BitVec 32 := 1#32
  ⟨c0_i32_522, v809, c1_i32_524⟩
def k0_mult5 (k0_t5 : Fin k0_t5_loop.trips) : BitVec 32 :=
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  v3164
def k0_off37 (k0_t5 : Fin k0_t5_loop.trips) (c0_i32_2238 : BitVec 32) : Fin 3 → Nat :=
  let c1_2239 : Index := 1#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off38 (k0_t5 : Fin k0_t5_loop.trips) (c0_i32_2243 : BitVec 32) : Fin 3 → Nat :=
  let c2_2244 : Index := 2#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off39 (k0_t5 : Fin k0_t5_loop.trips) (c0_i32_2248 : BitVec 32) : Fin 3 → Nat :=
  let c3_2249 : Index := 3#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off40 (k0_t5 : Fin k0_t5_loop.trips) (c0_i32_2253 : BitVec 32) : Fin 3 → Nat :=
  let c4_2254 : Index := 4#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off41 (k0_t5 : Fin k0_t5_loop.trips) (c0_i32_2258 : BitVec 32) : Fin 3 → Nat :=
  let c5_2259 : Index := 5#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off42 (k0_t5 : Fin k0_t5_loop.trips) (c0_i32_2263 : BitVec 32) : Fin 3 → Nat :=
  let c6_2264 : Index := 6#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off43 (k0_t5 : Fin k0_t5_loop.trips) (c0_i32_2268 : BitVec 32) : Fin 3 → Nat :=
  let c7_2269 : Index := 7#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off44 (k0_t5 : Fin k0_t5_loop.trips) (c8_i32 : BitVec 32) : Fin 3 → Nat :=
  let c0_2274 : Index := 0#32
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off45 (k0_t5 : Fin k0_t5_loop.trips) : Fin 2 → Nat :=
  let c0_i32_522 : BitVec 32 := 0#32
  let c1_i32_524 : BitVec 32 := 1#32
  let arg31 : BitVec 32 := Scf.iv c0_i32_522 c1_i32_524 k0_t5
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t6_loop : Scf.Loop 32 :=
  let c0_i32_557 : BitVec 32 := 0#32
  let c4_i32_558 : BitVec 32 := 4#32
  let v841 : BitVec 32 := Scalar.addi c0_i32_557 c4_i32_558
  let c1_i32_559 : BitVec 32 := 1#32
  ⟨c0_i32_557, v841, c1_i32_559⟩
def k0_mult6 (k0_t6 : Fin k0_t6_loop.trips) : BitVec 32 :=
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  v3164
def k0_off46 (k0_t6 : Fin k0_t6_loop.trips) : Fin 2 → Nat :=
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off47 (k0_t6 : Fin k0_t6_loop.trips) (c0_i32_2237 : BitVec 32) : Fin 3 → Nat :=
  let c1_2238 : Index := 1#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off48 (k0_t6 : Fin k0_t6_loop.trips) (c0_i32_2241 : BitVec 32) : Fin 3 → Nat :=
  let c2_2242 : Index := 2#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off49 (k0_t6 : Fin k0_t6_loop.trips) (c0_i32_2245 : BitVec 32) : Fin 3 → Nat :=
  let c3_2246 : Index := 3#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off50 (k0_t6 : Fin k0_t6_loop.trips) (c0_i32_2249 : BitVec 32) : Fin 3 → Nat :=
  let c4_2250 : Index := 4#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off51 (k0_t6 : Fin k0_t6_loop.trips) (c0_i32_2253 : BitVec 32) : Fin 3 → Nat :=
  let c5_2254 : Index := 5#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off52 (k0_t6 : Fin k0_t6_loop.trips) (c0_i32_2257 : BitVec 32) : Fin 3 → Nat :=
  let c6_2258 : Index := 6#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off53 (k0_t6 : Fin k0_t6_loop.trips) (c0_i32_2261 : BitVec 32) : Fin 3 → Nat :=
  let c7_2262 : Index := 7#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off54 (k0_t6 : Fin k0_t6_loop.trips) (c8_i32 : BitVec 32) : Fin 3 → Nat :=
  let c0_2265 : Index := 0#32
  let c0_i32_557 : BitVec 32 := 0#32
  let c1_i32_559 : BitVec 32 := 1#32
  let arg31 : BitVec 32 := Scf.iv c0_i32_557 c1_i32_559 k0_t6
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
@[reducible] def k0_t7_loop : Scf.Loop 32 :=
  let c0_i32_732 : BitVec 32 := 0#32
  let c2_i32_733 : BitVec 32 := 2#32
  let v1056 : BitVec 32 := Scalar.addi c0_i32_732 c2_i32_733
  let c1_i32_734 : BitVec 32 := 1#32
  ⟨c0_i32_732, v1056, c1_i32_734⟩
def k0_mult7 (k0_t7 : Fin k0_t7_loop.trips) : BitVec 32 :=
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  v3164
def k0_off55 (k0_t7 : Fin k0_t7_loop.trips) (c0_i32_2238 : BitVec 32) : Fin 3 → Nat :=
  let c1_2239 : Index := 1#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off56 (k0_t7 : Fin k0_t7_loop.trips) (c0_i32_2243 : BitVec 32) : Fin 3 → Nat :=
  let c2_2244 : Index := 2#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off57 (k0_t7 : Fin k0_t7_loop.trips) (c0_i32_2248 : BitVec 32) : Fin 3 → Nat :=
  let c3_2249 : Index := 3#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off58 (k0_t7 : Fin k0_t7_loop.trips) (c0_i32_2253 : BitVec 32) : Fin 3 → Nat :=
  let c4_2254 : Index := 4#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off59 (k0_t7 : Fin k0_t7_loop.trips) (c0_i32_2258 : BitVec 32) : Fin 3 → Nat :=
  let c5_2259 : Index := 5#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off60 (k0_t7 : Fin k0_t7_loop.trips) (c0_i32_2263 : BitVec 32) : Fin 3 → Nat :=
  let c6_2264 : Index := 6#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off61 (k0_t7 : Fin k0_t7_loop.trips) (c0_i32_2268 : BitVec 32) : Fin 3 → Nat :=
  let c7_2269 : Index := 7#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off62 (k0_t7 : Fin k0_t7_loop.trips) (c8_i32 : BitVec 32) : Fin 3 → Nat :=
  let c0_2274 : Index := 0#32
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off63 (k0_t7 : Fin k0_t7_loop.trips) : Fin 2 → Nat :=
  let c0_i32_732 : BitVec 32 := 0#32
  let c1_i32_734 : BitVec 32 := 1#32
  let arg31 : BitVec 32 := Scf.iv c0_i32_732 c1_i32_734 k0_t7
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t8_loop : Scf.Loop 32 :=
  let c0_i32_767 : BitVec 32 := 0#32
  let c4_i32_768 : BitVec 32 := 4#32
  let v1088 : BitVec 32 := Scalar.addi c0_i32_767 c4_i32_768
  let c1_i32_769 : BitVec 32 := 1#32
  ⟨c0_i32_767, v1088, c1_i32_769⟩
def k0_mult8 (k0_t8 : Fin k0_t8_loop.trips) : BitVec 32 :=
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  v3164
def k0_off64 (k0_t8 : Fin k0_t8_loop.trips) : Fin 2 → Nat :=
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off65 (k0_t8 : Fin k0_t8_loop.trips) (c0_i32_2237 : BitVec 32) : Fin 3 → Nat :=
  let c1_2238 : Index := 1#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off66 (k0_t8 : Fin k0_t8_loop.trips) (c0_i32_2241 : BitVec 32) : Fin 3 → Nat :=
  let c2_2242 : Index := 2#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off67 (k0_t8 : Fin k0_t8_loop.trips) (c0_i32_2245 : BitVec 32) : Fin 3 → Nat :=
  let c3_2246 : Index := 3#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off68 (k0_t8 : Fin k0_t8_loop.trips) (c0_i32_2249 : BitVec 32) : Fin 3 → Nat :=
  let c4_2250 : Index := 4#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off69 (k0_t8 : Fin k0_t8_loop.trips) (c0_i32_2253 : BitVec 32) : Fin 3 → Nat :=
  let c5_2254 : Index := 5#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off70 (k0_t8 : Fin k0_t8_loop.trips) (c0_i32_2257 : BitVec 32) : Fin 3 → Nat :=
  let c6_2258 : Index := 6#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off71 (k0_t8 : Fin k0_t8_loop.trips) (c0_i32_2261 : BitVec 32) : Fin 3 → Nat :=
  let c7_2262 : Index := 7#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off72 (k0_t8 : Fin k0_t8_loop.trips) (c8_i32 : BitVec 32) : Fin 3 → Nat :=
  let c0_2265 : Index := 0#32
  let c0_i32_767 : BitVec 32 := 0#32
  let c1_i32_769 : BitVec 32 := 1#32
  let arg31 : BitVec 32 := Scf.iv c0_i32_767 c1_i32_769 k0_t8
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
@[reducible] def k0_t9_loop : Scf.Loop 32 :=
  let c0_i32_942 : BitVec 32 := 0#32
  let c2_i32_943 : BitVec 32 := 2#32
  let v1303 : BitVec 32 := Scalar.addi c0_i32_942 c2_i32_943
  let c1_i32_944 : BitVec 32 := 1#32
  ⟨c0_i32_942, v1303, c1_i32_944⟩
def k0_mult9 (k0_t9 : Fin k0_t9_loop.trips) : BitVec 32 :=
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  v3164
def k0_off73 (k0_t9 : Fin k0_t9_loop.trips) (c0_i32_2238 : BitVec 32) : Fin 3 → Nat :=
  let c1_2239 : Index := 1#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off74 (k0_t9 : Fin k0_t9_loop.trips) (c0_i32_2243 : BitVec 32) : Fin 3 → Nat :=
  let c2_2244 : Index := 2#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off75 (k0_t9 : Fin k0_t9_loop.trips) (c0_i32_2248 : BitVec 32) : Fin 3 → Nat :=
  let c3_2249 : Index := 3#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off76 (k0_t9 : Fin k0_t9_loop.trips) (c0_i32_2253 : BitVec 32) : Fin 3 → Nat :=
  let c4_2254 : Index := 4#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off77 (k0_t9 : Fin k0_t9_loop.trips) (c0_i32_2258 : BitVec 32) : Fin 3 → Nat :=
  let c5_2259 : Index := 5#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off78 (k0_t9 : Fin k0_t9_loop.trips) (c0_i32_2263 : BitVec 32) : Fin 3 → Nat :=
  let c6_2264 : Index := 6#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off79 (k0_t9 : Fin k0_t9_loop.trips) (c0_i32_2268 : BitVec 32) : Fin 3 → Nat :=
  let c7_2269 : Index := 7#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off80 (k0_t9 : Fin k0_t9_loop.trips) (c8_i32 : BitVec 32) : Fin 3 → Nat :=
  let c0_2274 : Index := 0#32
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off81 (k0_t9 : Fin k0_t9_loop.trips) : Fin 2 → Nat :=
  let c0_i32_942 : BitVec 32 := 0#32
  let c1_i32_944 : BitVec 32 := 1#32
  let arg31 : BitVec 32 := Scf.iv c0_i32_942 c1_i32_944 k0_t9
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t10_loop : Scf.Loop 32 :=
  let c0_i32_977 : BitVec 32 := 0#32
  let c4_i32_978 : BitVec 32 := 4#32
  let v1335 : BitVec 32 := Scalar.addi c0_i32_977 c4_i32_978
  let c1_i32_979 : BitVec 32 := 1#32
  ⟨c0_i32_977, v1335, c1_i32_979⟩
def k0_mult10 (k0_t10 : Fin k0_t10_loop.trips) : BitVec 32 :=
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  v3164
def k0_off82 (k0_t10 : Fin k0_t10_loop.trips) : Fin 2 → Nat :=
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off83 (k0_t10 : Fin k0_t10_loop.trips) (c0_i32_2237 : BitVec 32) : Fin 3 → Nat :=
  let c1_2238 : Index := 1#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off84 (k0_t10 : Fin k0_t10_loop.trips) (c0_i32_2241 : BitVec 32) : Fin 3 → Nat :=
  let c2_2242 : Index := 2#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off85 (k0_t10 : Fin k0_t10_loop.trips) (c0_i32_2245 : BitVec 32) : Fin 3 → Nat :=
  let c3_2246 : Index := 3#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off86 (k0_t10 : Fin k0_t10_loop.trips) (c0_i32_2249 : BitVec 32) : Fin 3 → Nat :=
  let c4_2250 : Index := 4#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off87 (k0_t10 : Fin k0_t10_loop.trips) (c0_i32_2253 : BitVec 32) : Fin 3 → Nat :=
  let c5_2254 : Index := 5#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off88 (k0_t10 : Fin k0_t10_loop.trips) (c0_i32_2257 : BitVec 32) : Fin 3 → Nat :=
  let c6_2258 : Index := 6#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off89 (k0_t10 : Fin k0_t10_loop.trips) (c0_i32_2261 : BitVec 32) : Fin 3 → Nat :=
  let c7_2262 : Index := 7#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off90 (k0_t10 : Fin k0_t10_loop.trips) (c8_i32 : BitVec 32) : Fin 3 → Nat :=
  let c0_2265 : Index := 0#32
  let c0_i32_977 : BitVec 32 := 0#32
  let c1_i32_979 : BitVec 32 := 1#32
  let arg31 : BitVec 32 := Scf.iv c0_i32_977 c1_i32_979 k0_t10
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
@[reducible] def k0_t11_loop : Scf.Loop 32 :=
  let c0_i32_1152 : BitVec 32 := 0#32
  let c2_i32_1153 : BitVec 32 := 2#32
  let v1550 : BitVec 32 := Scalar.addi c0_i32_1152 c2_i32_1153
  let c1_i32_1154 : BitVec 32 := 1#32
  ⟨c0_i32_1152, v1550, c1_i32_1154⟩
def k0_mult11 (k0_t11 : Fin k0_t11_loop.trips) : BitVec 32 :=
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  v3164
def k0_off91 (k0_t11 : Fin k0_t11_loop.trips) (c0_i32_2238 : BitVec 32) : Fin 3 → Nat :=
  let c1_2239 : Index := 1#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off92 (k0_t11 : Fin k0_t11_loop.trips) (c0_i32_2243 : BitVec 32) : Fin 3 → Nat :=
  let c2_2244 : Index := 2#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off93 (k0_t11 : Fin k0_t11_loop.trips) (c0_i32_2248 : BitVec 32) : Fin 3 → Nat :=
  let c3_2249 : Index := 3#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off94 (k0_t11 : Fin k0_t11_loop.trips) (c0_i32_2253 : BitVec 32) : Fin 3 → Nat :=
  let c4_2254 : Index := 4#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off95 (k0_t11 : Fin k0_t11_loop.trips) (c0_i32_2258 : BitVec 32) : Fin 3 → Nat :=
  let c5_2259 : Index := 5#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off96 (k0_t11 : Fin k0_t11_loop.trips) (c0_i32_2263 : BitVec 32) : Fin 3 → Nat :=
  let c6_2264 : Index := 6#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off97 (k0_t11 : Fin k0_t11_loop.trips) (c0_i32_2268 : BitVec 32) : Fin 3 → Nat :=
  let c7_2269 : Index := 7#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off98 (k0_t11 : Fin k0_t11_loop.trips) (c8_i32 : BitVec 32) : Fin 3 → Nat :=
  let c0_2274 : Index := 0#32
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off99 (k0_t11 : Fin k0_t11_loop.trips) : Fin 2 → Nat :=
  let c0_i32_1152 : BitVec 32 := 0#32
  let c1_i32_1154 : BitVec 32 := 1#32
  let arg31 : BitVec 32 := Scf.iv c0_i32_1152 c1_i32_1154 k0_t11
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t12_loop : Scf.Loop 32 :=
  let c0_i32_1187 : BitVec 32 := 0#32
  let c4_i32_1188 : BitVec 32 := 4#32
  let v1582 : BitVec 32 := Scalar.addi c0_i32_1187 c4_i32_1188
  let c1_i32_1189 : BitVec 32 := 1#32
  ⟨c0_i32_1187, v1582, c1_i32_1189⟩
def k0_mult12 (k0_t12 : Fin k0_t12_loop.trips) : BitVec 32 :=
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  v3164
def k0_off100 (k0_t12 : Fin k0_t12_loop.trips) : Fin 2 → Nat :=
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off101 (k0_t12 : Fin k0_t12_loop.trips) (c0_i32_2237 : BitVec 32) : Fin 3 → Nat :=
  let c1_2238 : Index := 1#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off102 (k0_t12 : Fin k0_t12_loop.trips) (c0_i32_2241 : BitVec 32) : Fin 3 → Nat :=
  let c2_2242 : Index := 2#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off103 (k0_t12 : Fin k0_t12_loop.trips) (c0_i32_2245 : BitVec 32) : Fin 3 → Nat :=
  let c3_2246 : Index := 3#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off104 (k0_t12 : Fin k0_t12_loop.trips) (c0_i32_2249 : BitVec 32) : Fin 3 → Nat :=
  let c4_2250 : Index := 4#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off105 (k0_t12 : Fin k0_t12_loop.trips) (c0_i32_2253 : BitVec 32) : Fin 3 → Nat :=
  let c5_2254 : Index := 5#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off106 (k0_t12 : Fin k0_t12_loop.trips) (c0_i32_2257 : BitVec 32) : Fin 3 → Nat :=
  let c6_2258 : Index := 6#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off107 (k0_t12 : Fin k0_t12_loop.trips) (c0_i32_2261 : BitVec 32) : Fin 3 → Nat :=
  let c7_2262 : Index := 7#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off108 (k0_t12 : Fin k0_t12_loop.trips) (c8_i32 : BitVec 32) : Fin 3 → Nat :=
  let c0_2265 : Index := 0#32
  let c0_i32_1187 : BitVec 32 := 0#32
  let c1_i32_1189 : BitVec 32 := 1#32
  let arg31 : BitVec 32 := Scf.iv c0_i32_1187 c1_i32_1189 k0_t12
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
@[reducible] def k0_t13_loop : Scf.Loop 32 :=
  let c0_i32_1362 : BitVec 32 := 0#32
  let c2_i32_1363 : BitVec 32 := 2#32
  let v1797 : BitVec 32 := Scalar.addi c0_i32_1362 c2_i32_1363
  let c1_i32_1364 : BitVec 32 := 1#32
  ⟨c0_i32_1362, v1797, c1_i32_1364⟩
def k0_mult13 (k0_t13 : Fin k0_t13_loop.trips) : BitVec 32 :=
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  v3164
def k0_off109 (k0_t13 : Fin k0_t13_loop.trips) (c0_i32_2238 : BitVec 32) : Fin 3 → Nat :=
  let c1_2239 : Index := 1#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off110 (k0_t13 : Fin k0_t13_loop.trips) (c0_i32_2243 : BitVec 32) : Fin 3 → Nat :=
  let c2_2244 : Index := 2#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off111 (k0_t13 : Fin k0_t13_loop.trips) (c0_i32_2248 : BitVec 32) : Fin 3 → Nat :=
  let c3_2249 : Index := 3#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off112 (k0_t13 : Fin k0_t13_loop.trips) (c0_i32_2253 : BitVec 32) : Fin 3 → Nat :=
  let c4_2254 : Index := 4#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off113 (k0_t13 : Fin k0_t13_loop.trips) (c0_i32_2258 : BitVec 32) : Fin 3 → Nat :=
  let c5_2259 : Index := 5#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off114 (k0_t13 : Fin k0_t13_loop.trips) (c0_i32_2263 : BitVec 32) : Fin 3 → Nat :=
  let c6_2264 : Index := 6#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off115 (k0_t13 : Fin k0_t13_loop.trips) (c0_i32_2268 : BitVec 32) : Fin 3 → Nat :=
  let c7_2269 : Index := 7#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off116 (k0_t13 : Fin k0_t13_loop.trips) (c8_i32 : BitVec 32) : Fin 3 → Nat :=
  let c0_2274 : Index := 0#32
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off117 (k0_t13 : Fin k0_t13_loop.trips) : Fin 2 → Nat :=
  let c0_i32_1362 : BitVec 32 := 0#32
  let c1_i32_1364 : BitVec 32 := 1#32
  let arg31 : BitVec 32 := Scf.iv c0_i32_1362 c1_i32_1364 k0_t13
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t14_loop : Scf.Loop 32 :=
  let c0_i32_1397 : BitVec 32 := 0#32
  let c4_i32_1398 : BitVec 32 := 4#32
  let v1829 : BitVec 32 := Scalar.addi c0_i32_1397 c4_i32_1398
  let c1_i32_1399 : BitVec 32 := 1#32
  ⟨c0_i32_1397, v1829, c1_i32_1399⟩
def k0_mult14 (k0_t14 : Fin k0_t14_loop.trips) : BitVec 32 :=
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  v3164
def k0_off118 (k0_t14 : Fin k0_t14_loop.trips) : Fin 2 → Nat :=
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off119 (k0_t14 : Fin k0_t14_loop.trips) (c0_i32_2237 : BitVec 32) : Fin 3 → Nat :=
  let c1_2238 : Index := 1#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off120 (k0_t14 : Fin k0_t14_loop.trips) (c0_i32_2241 : BitVec 32) : Fin 3 → Nat :=
  let c2_2242 : Index := 2#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off121 (k0_t14 : Fin k0_t14_loop.trips) (c0_i32_2245 : BitVec 32) : Fin 3 → Nat :=
  let c3_2246 : Index := 3#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off122 (k0_t14 : Fin k0_t14_loop.trips) (c0_i32_2249 : BitVec 32) : Fin 3 → Nat :=
  let c4_2250 : Index := 4#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off123 (k0_t14 : Fin k0_t14_loop.trips) (c0_i32_2253 : BitVec 32) : Fin 3 → Nat :=
  let c5_2254 : Index := 5#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off124 (k0_t14 : Fin k0_t14_loop.trips) (c0_i32_2257 : BitVec 32) : Fin 3 → Nat :=
  let c6_2258 : Index := 6#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off125 (k0_t14 : Fin k0_t14_loop.trips) (c0_i32_2261 : BitVec 32) : Fin 3 → Nat :=
  let c7_2262 : Index := 7#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off126 (k0_t14 : Fin k0_t14_loop.trips) (c8_i32 : BitVec 32) : Fin 3 → Nat :=
  let c0_2265 : Index := 0#32
  let c0_i32_1397 : BitVec 32 := 0#32
  let c1_i32_1399 : BitVec 32 := 1#32
  let arg31 : BitVec 32 := Scf.iv c0_i32_1397 c1_i32_1399 k0_t14
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
@[reducible] def k0_t15_loop : Scf.Loop 32 :=
  let c0_i32_1572 : BitVec 32 := 0#32
  let c2_i32_1573 : BitVec 32 := 2#32
  let v2044 : BitVec 32 := Scalar.addi c0_i32_1572 c2_i32_1573
  let c1_i32_1574 : BitVec 32 := 1#32
  ⟨c0_i32_1572, v2044, c1_i32_1574⟩
def k0_mult15 (k0_t15 : Fin k0_t15_loop.trips) : BitVec 32 :=
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  v3164
def k0_off127 (k0_t15 : Fin k0_t15_loop.trips) (c0_i32_2238 : BitVec 32) : Fin 3 → Nat :=
  let c1_2239 : Index := 1#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3167 : BitVec 32 := Scalar.addi v3165 c0_i32_2238
  let v3168 : Index := Scalar.indexCast v3167
  let c0_2240 : Index := 0#32
  ![1, v3168.toNat, 0]
def k0_off128 (k0_t15 : Fin k0_t15_loop.trips) (c0_i32_2243 : BitVec 32) : Fin 3 → Nat :=
  let c2_2244 : Index := 2#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3176 : BitVec 32 := Scalar.addi v3165 c0_i32_2243
  let v3177 : Index := Scalar.indexCast v3176
  let c0_2245 : Index := 0#32
  ![2, v3177.toNat, 0]
def k0_off129 (k0_t15 : Fin k0_t15_loop.trips) (c0_i32_2248 : BitVec 32) : Fin 3 → Nat :=
  let c3_2249 : Index := 3#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3185 : BitVec 32 := Scalar.addi v3165 c0_i32_2248
  let v3186 : Index := Scalar.indexCast v3185
  let c0_2250 : Index := 0#32
  ![3, v3186.toNat, 0]
def k0_off130 (k0_t15 : Fin k0_t15_loop.trips) (c0_i32_2253 : BitVec 32) : Fin 3 → Nat :=
  let c4_2254 : Index := 4#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3194 : BitVec 32 := Scalar.addi v3165 c0_i32_2253
  let v3195 : Index := Scalar.indexCast v3194
  let c0_2255 : Index := 0#32
  ![4, v3195.toNat, 0]
def k0_off131 (k0_t15 : Fin k0_t15_loop.trips) (c0_i32_2258 : BitVec 32) : Fin 3 → Nat :=
  let c5_2259 : Index := 5#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3203 : BitVec 32 := Scalar.addi v3165 c0_i32_2258
  let v3204 : Index := Scalar.indexCast v3203
  let c0_2260 : Index := 0#32
  ![5, v3204.toNat, 0]
def k0_off132 (k0_t15 : Fin k0_t15_loop.trips) (c0_i32_2263 : BitVec 32) : Fin 3 → Nat :=
  let c6_2264 : Index := 6#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3212 : BitVec 32 := Scalar.addi v3165 c0_i32_2263
  let v3213 : Index := Scalar.indexCast v3212
  let c0_2265 : Index := 0#32
  ![6, v3213.toNat, 0]
def k0_off133 (k0_t15 : Fin k0_t15_loop.trips) (c0_i32_2268 : BitVec 32) : Fin 3 → Nat :=
  let c7_2269 : Index := 7#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3221 : BitVec 32 := Scalar.addi v3165 c0_i32_2268
  let v3222 : Index := Scalar.indexCast v3221
  let c0_2270 : Index := 0#32
  ![7, v3222.toNat, 0]
def k0_off134 (k0_t15 : Fin k0_t15_loop.trips) (c8_i32 : BitVec 32) : Fin 3 → Nat :=
  let c0_2274 : Index := 0#32
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3230 : BitVec 32 := Scalar.addi v3165 c8_i32
  let v3231 : Index := Scalar.indexCast v3230
  let c0_2275 : Index := 0#32
  ![0, v3231.toNat, 0]
def k0_off135 (k0_t15 : Fin k0_t15_loop.trips) : Fin 2 → Nat :=
  let c0_i32_1572 : BitVec 32 := 0#32
  let c1_i32_1574 : BitVec 32 := 1#32
  let arg31 : BitVec 32 := Scf.iv c0_i32_1572 c1_i32_1574 k0_t15
  let c128_i32_2236 : BitVec 32 := 128#32
  let v3164 : BitVec 32 := Scalar.muli arg31 c128_i32_2236
  let v3165 : BitVec 32 := v3164
  let v3446 : Index := Scalar.indexCast v3165
  let c0_2402 : Index := 0#32
  ![v3446.toNat, 0]
@[reducible] def k0_t16_loop : Scf.Loop 32 :=
  let c0_i32_1607 : BitVec 32 := 0#32
  let c4_i32_1608 : BitVec 32 := 4#32
  let v2076 : BitVec 32 := Scalar.addi c0_i32_1607 c4_i32_1608
  let c1_i32_1609 : BitVec 32 := 1#32
  ⟨c0_i32_1607, v2076, c1_i32_1609⟩
def k0_mult16 (k0_t16 : Fin k0_t16_loop.trips) : BitVec 32 :=
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  v3164
def k0_off136 (k0_t16 : Fin k0_t16_loop.trips) : Fin 2 → Nat :=
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3166 : Index := Scalar.indexCast v3165
  let c0_2236 : Index := 0#32
  ![v3166.toNat, 0]
def k0_off137 (k0_t16 : Fin k0_t16_loop.trips) (c0_i32_2237 : BitVec 32) : Fin 3 → Nat :=
  let c1_2238 : Index := 1#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3168 : BitVec 32 := Scalar.addi v3165 c0_i32_2237
  let v3169 : Index := Scalar.indexCast v3168
  let c0_2239 : Index := 0#32
  ![1, v3169.toNat, 0]
def k0_off138 (k0_t16 : Fin k0_t16_loop.trips) (c0_i32_2241 : BitVec 32) : Fin 3 → Nat :=
  let c2_2242 : Index := 2#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3176 : BitVec 32 := Scalar.addi v3165 c0_i32_2241
  let v3177 : Index := Scalar.indexCast v3176
  let c0_2243 : Index := 0#32
  ![2, v3177.toNat, 0]
def k0_off139 (k0_t16 : Fin k0_t16_loop.trips) (c0_i32_2245 : BitVec 32) : Fin 3 → Nat :=
  let c3_2246 : Index := 3#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3184 : BitVec 32 := Scalar.addi v3165 c0_i32_2245
  let v3185 : Index := Scalar.indexCast v3184
  let c0_2247 : Index := 0#32
  ![3, v3185.toNat, 0]
def k0_off140 (k0_t16 : Fin k0_t16_loop.trips) (c0_i32_2249 : BitVec 32) : Fin 3 → Nat :=
  let c4_2250 : Index := 4#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3192 : BitVec 32 := Scalar.addi v3165 c0_i32_2249
  let v3193 : Index := Scalar.indexCast v3192
  let c0_2251 : Index := 0#32
  ![4, v3193.toNat, 0]
def k0_off141 (k0_t16 : Fin k0_t16_loop.trips) (c0_i32_2253 : BitVec 32) : Fin 3 → Nat :=
  let c5_2254 : Index := 5#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3200 : BitVec 32 := Scalar.addi v3165 c0_i32_2253
  let v3201 : Index := Scalar.indexCast v3200
  let c0_2255 : Index := 0#32
  ![5, v3201.toNat, 0]
def k0_off142 (k0_t16 : Fin k0_t16_loop.trips) (c0_i32_2257 : BitVec 32) : Fin 3 → Nat :=
  let c6_2258 : Index := 6#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3208 : BitVec 32 := Scalar.addi v3165 c0_i32_2257
  let v3209 : Index := Scalar.indexCast v3208
  let c0_2259 : Index := 0#32
  ![6, v3209.toNat, 0]
def k0_off143 (k0_t16 : Fin k0_t16_loop.trips) (c0_i32_2261 : BitVec 32) : Fin 3 → Nat :=
  let c7_2262 : Index := 7#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3216 : BitVec 32 := Scalar.addi v3165 c0_i32_2261
  let v3217 : Index := Scalar.indexCast v3216
  let c0_2263 : Index := 0#32
  ![7, v3217.toNat, 0]
def k0_off144 (k0_t16 : Fin k0_t16_loop.trips) (c8_i32 : BitVec 32) : Fin 3 → Nat :=
  let c0_2265 : Index := 0#32
  let c0_i32_1607 : BitVec 32 := 0#32
  let c1_i32_1609 : BitVec 32 := 1#32
  let arg31 : BitVec 32 := Scf.iv c0_i32_1607 c1_i32_1609 k0_t16
  let c64_i32 : BitVec 32 := 64#32
  let v3164 : BitVec 32 := Scalar.muli arg31 c64_i32
  let v3165 : BitVec 32 := v3164
  let v3224 : BitVec 32 := Scalar.addi v3165 c8_i32
  let v3225 : Index := Scalar.indexCast v3224
  let c0_2266 : Index := 0#32
  ![0, v3225.toNat, 0]
def k0_cond2 (i : grid0.Coords) : BitVec 1 :=
  let arg0 : BitVec 32 := BitVec.ofNat 32 (i 0).val
  let c31_i32_2234 : BitVec 32 := 31#32
  let v3161 : BitVec 1 := Scalar.cmpi .eq arg0 c31_i32_2234
  let v3162 : BitVec 32 := Scalar.extui v3161
  let c0_i32_2235 : BitVec 32 := 0#32
  let v3163 : BitVec 1 := Scalar.cmpi .ne v3162 c0_i32_2235
  v3163

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x31x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x6144 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S40x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixReferenceIdeal.lean ====
abbrev S8192x6144 : Shape := ⟨2, ![8192, 6144]⟩
abbrev S8192x2048 : Shape := ⟨2, ![8192, 2048]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x1024 : Shape := ⟨2, ![8, 1024]⟩
abbrev S1x8192x6144 : Shape := ⟨3, ![1, 8192, 6144]⟩
abbrev S1x8192x1024 : Shape := ⟨3, ![1, 8192, 1024]⟩
abbrev S31x1024 : Shape := ⟨2, ![31, 1024]⟩
abbrev S1024 : Shape := ⟨1, ![1024]⟩
abbrev S_ : Shape := ⟨0, ![]⟩
abbrev S8192x8192x31 : Shape := ⟨3, ![8192, 8192, 31]⟩
abbrev S1x1024x8192x31 : Shape := ⟨4, ![1, 1024, 8192, 31]⟩
abbrev S1x8192x31x1024 : Shape := ⟨4, ![1, 8192, 31, 1024]⟩
abbrev S1x1x31x1024 : Shape := ⟨4, ![1, 1, 31, 1024]⟩
abbrev S1x1x1024 : Shape := ⟨3, ![1, 1, 1024]⟩
abbrev S1x8192 : Shape := ⟨2, ![1, 8192]⟩
abbrev S1x8192x1 : Shape := ⟨3, ![1, 8192, 1]⟩
abbrev S8x128x128 : Shape := ⟨3, ![8, 128, 128]⟩
abbrev S8x128 : Shape := ⟨2, ![8, 128]⟩
abbrev S1x64x128x8x128 : Shape := ⟨5, ![1, 64, 128, 8, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S1x8192x2048 : Shape := ⟨3, ![1, 8192, 2048]⟩
abbrev S1x128x8 : Shape := ⟨3, ![1, 128, 8]⟩
abbrev S8192 : Shape := ⟨1, ![8192]⟩
abbrev S1x1024x8192 : Shape := ⟨3, ![1, 1024, 8192]⟩
abbrev S40x1024 : Shape := ⟨2, ![40, 1024]⟩

abbrev nBuf : Space → Nat
  | .hbm => 334
  | .vmem => 0
  | .smem => 0
  | _ => 0

abbrev hbmTy0_0 (i : Nat) : BufTy := match i % 128 with
  | 0 => ⟨S8192x6144, .bf16⟩
  | 1 => ⟨S8192x2048, .bf16⟩
  | 2 => ⟨S1x31x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x8x128x128, .f32⟩
  | 9 => ⟨S1x8x128, .f32⟩
  | 10 => ⟨S8x1024, .f32⟩
  | 11 => ⟨S8x1024, .f32⟩
  | 12 => ⟨S8192x6144, .f32⟩
  | 13 => ⟨S1x8192x6144, .f32⟩
  | 14 => ⟨S1x8192x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S31x1024, .f32⟩
  | 21 => ⟨S1024, .f32⟩
  | 22 => ⟨S1024, .f32⟩
  | 23 => ⟨S1024, .f32⟩
  | 24 => ⟨S1x8192x1024, .f32⟩
  | 25 => ⟨S1x8192x1024, .f32⟩
  | 26 => ⟨S_, .f32⟩
  | 27 => ⟨S1x8192x1024, .f32⟩
  | 28 => ⟨S1x8192x1024, .f32⟩
  | 29 => ⟨S_, .f32⟩
  | 30 => ⟨S1x8192x1024, .f32⟩
  | 31 => ⟨S1x8192x1024, .f32⟩
  | 32 => ⟨S_, .f32⟩
  | 33 => ⟨S1x8192x1024, .f32⟩
  | 34 => ⟨S1x8192x1024, .f32⟩
  | 35 => ⟨S1x8192x1024, .f32⟩
  | 36 => ⟨S1x8192x1024, .f32⟩
  | 37 => ⟨S8192x8192x31, .i32⟩
  | 38 => ⟨S8192x8192x31, .i32⟩
  | 39 => ⟨S8192x8192x31, .i32⟩
  | 40 => ⟨S8192x8192x31, .i32⟩
  | 41 => ⟨S_, .i32⟩
  | 42 => ⟨S8192x8192x31, .i32⟩
  | 43 => ⟨S8192x8192x31, .i32⟩
  | 44 => ⟨S8192x8192x31, .i1⟩
  | 45 => ⟨S8192x8192x31, .f32⟩
  | 46 => ⟨S1x1024x8192x31, .f32⟩
  | 47 => ⟨S1x8192x31x1024, .f32⟩
  | 48 => ⟨S1x1x31x1024, .f32⟩
  | 49 => ⟨S1x8192x31x1024, .f32⟩
  | 50 => ⟨S1x8192x31x1024, .f32⟩
  | 51 => ⟨S_, .f32⟩
  | 52 => ⟨S1x8192x1024, .f32⟩
  | 53 => ⟨S1x1x1024, .f32⟩
  | 54 => ⟨S1x8192x1024, .f32⟩
  | 55 => ⟨S1x8192x1024, .f32⟩
  | 56 => ⟨S_, .f32⟩
  | 57 => ⟨S1x8192, .f32⟩
  | 58 => ⟨S1x8192x1, .f32⟩
  | 59 => ⟨S_, .f32⟩
  | 60 => ⟨S1x8192x1, .f32⟩
  | 61 => ⟨S1x8192x1, .f32⟩
  | 62 => ⟨S1x8192x1024, .f32⟩
  | 63 => ⟨S1x8192x1024, .f32⟩
  | 64 => ⟨S1x8192x1024, .f32⟩
  | 65 => ⟨S_, .f32⟩
  | 66 => ⟨S1x8192, .f32⟩
  | 67 => ⟨S1x8192x1, .f32⟩
  | 68 => ⟨S_, .f32⟩
  | 69 => ⟨S1x8192x1, .f32⟩
  | 70 => ⟨S1x8192x1, .f32⟩
  | 71 => ⟨S_, .f32⟩
  | 72 => ⟨S1x8192x1, .f32⟩
  | 73 => ⟨S1x8192x1, .f32⟩
  | 74 => ⟨S1x8192x1, .f32⟩
  | 75 => ⟨S1x8192x1, .f32⟩
  | 76 => ⟨S_, .f32⟩
  | 77 => ⟨S1x8192x1, .f32⟩
  | 78 => ⟨S1x8192x1, .f32⟩
  | 79 => ⟨S1x8192x1024, .f32⟩
  | 80 => ⟨S1x8192x1024, .f32⟩
  | 81 => ⟨S1x1x1024, .f32⟩
  | 82 => ⟨S1x8192x1024, .f32⟩
  | 83 => ⟨S1x8192x1024, .f32⟩
  | 84 => ⟨S1x1x1024, .f32⟩
  | 85 => ⟨S1x8192x1024, .f32⟩
  | 86 => ⟨S1x8192x1024, .f32⟩
  | 87 => ⟨S1x8192x1024, .f32⟩
  | 88 => ⟨S1x8192x1024, .f32⟩
  | 89 => ⟨S_, .f32⟩
  | 90 => ⟨S1x8192x1024, .f32⟩
  | 91 => ⟨S1x8192x1024, .f32⟩
  | 92 => ⟨S_, .f32⟩
  | 93 => ⟨S1x8192x1024, .f32⟩
  | 94 => ⟨S1x8192x1024, .f32⟩
  | 95 => ⟨S_, .f32⟩
  | 96 => ⟨S1x8192x1024, .f32⟩
  | 97 => ⟨S1x8192x1024, .f32⟩
  | 98 => ⟨S1x8192x1024, .f32⟩
  | 99 => ⟨S1x8192x1024, .f32⟩
  | 100 => ⟨S1x8192x1024, .f32⟩
  | 101 => ⟨S1x8192x1024, .f32⟩
  | 102 => ⟨S_, .f32⟩
  | 103 => ⟨S1x8192x1024, .f32⟩
  | 104 => ⟨S1x8192x1024, .f32⟩
  | 105 => ⟨S_, .f32⟩
  | 106 => ⟨S1x8192x1024, .f32⟩
  | 107 => ⟨S1x8192x1024, .f32⟩
  | 108 => ⟨S_, .f32⟩
  | 109 => ⟨S1x8192x1024, .f32⟩
  | 110 => ⟨S1x8192x1024, .f32⟩
  | 111 => ⟨S1x8192x1024, .f32⟩
  | 112 => ⟨S1x8192x1024, .f32⟩
  | 113 => ⟨S1x8192x1024, .f32⟩
  | 114 => ⟨S1024, .f32⟩
  | 115 => ⟨S1024, .f32⟩
  | 116 => ⟨S8x128x128, .f32⟩
  | 117 => ⟨S8x128, .f32⟩
  | 118 => ⟨S_, .f32⟩
  | 119 => ⟨S1x8192, .f32⟩
  | 120 => ⟨S1x8192x1, .f32⟩
  | 121 => ⟨S_, .f32⟩
  | 122 => ⟨S1x8192x1, .f32⟩
  | 123 => ⟨S1x8192x1, .f32⟩
  | 124 => ⟨S1x8192x1024, .f32⟩
  | 125 => ⟨S1x8192x1024, .f32⟩
  | 126 => ⟨S1x8192x1024, .f32⟩
  | 127 => ⟨S_, .f32⟩
  | _ => ⟨S8192x6144, .bf16⟩

abbrev hbmTy0_1 (i : Nat) : BufTy := match i % 128 with
  | 0 => ⟨S1x8192, .f32⟩
  | 1 => ⟨S1x8192x1, .f32⟩
  | 2 => ⟨S_, .f32⟩
  | 3 => ⟨S1x8192x1, .f32⟩
  | 4 => ⟨S1x8192x1, .f32⟩
  | 5 => ⟨S_, .f32⟩
  | 6 => ⟨S1x8192x1, .f32⟩
  | 7 => ⟨S1x8192x1, .f32⟩
  | 8 => ⟨S1x8192x1, .f32⟩
  | 9 => ⟨S1x8192x1, .f32⟩
  | 10 => ⟨S_, .f32⟩
  | 11 => ⟨S1x8192x1, .f32⟩
  | 12 => ⟨S1x8192x1, .f32⟩
  | 13 => ⟨S1x8192x1024, .f32⟩
  | 14 => ⟨S1x8192x1024, .f32⟩
  | 15 => ⟨S1x1x1024, .f32⟩
  | 16 => ⟨S1x8192x1024, .f32⟩
  | 17 => ⟨S1x8192x1024, .f32⟩
  | 18 => ⟨S1x1x1024, .f32⟩
  | 19 => ⟨S1x8192x1024, .f32⟩
  | 20 => ⟨S1x8192x1024, .f32⟩
  | 21 => ⟨S1x64x128x8x128, .f32⟩
  | 22 => ⟨S8x1x64x128x128, .f32⟩
  | 23 => ⟨S1x64x128x8x128, .f32⟩
  | 24 => ⟨S128x8, .f32⟩
  | 25 => ⟨S1x1x128x8x1, .f32⟩
  | 26 => ⟨S1x64x128x8x128, .f32⟩
  | 27 => ⟨S1x64x128x8x128, .f32⟩
  | 28 => ⟨S1x8192x1024, .f32⟩
  | 29 => ⟨S1x8192x1024, .f32⟩
  | 30 => ⟨S1x8192x1024, .f32⟩
  | 31 => ⟨S1x8192x1024, .f32⟩
  | 32 => ⟨S_, .f32⟩
  | 33 => ⟨S1x8192x1024, .f32⟩
  | 34 => ⟨S1x8192x1024, .f32⟩
  | 35 => ⟨S_, .f32⟩
  | 36 => ⟨S1x8192x1024, .f32⟩
  | 37 => ⟨S1x8192x1024, .f32⟩
  | 38 => ⟨S_, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S1x8192x2048, .f32⟩
  | 45 => ⟨S8192x2048, .f32⟩
  | 46 => ⟨S1x8192x2048, .f32⟩
  | 47 => ⟨S1x8192x1024, .f32⟩
  | 48 => ⟨S1x8192x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x8192x1024, .f32⟩
  | 56 => ⟨S1x8192x1024, .f32⟩
  | 57 => ⟨S1x64x128x8x128, .f32⟩
  | 58 => ⟨S_, .f32⟩
  | 59 => ⟨S1x128x8, .f32⟩
  | 60 => ⟨S1x1x128x8x1, .f32⟩
  | 61 => ⟨S_, .f32⟩
  | 62 => ⟨S128x8, .f32⟩
  | 63 => ⟨S8x128, .f32⟩
  | 64 => ⟨S8x1x64x128x128, .f32⟩
  | 65 => ⟨S8x128x128, .f32⟩
  | 66 => ⟨S8x1x64x128x128, .f32⟩
  | 67 => ⟨S1x64x128x8x128, .f32⟩
  | 68 => ⟨S1x8192x1024, .f32⟩
  | 69 => ⟨S_, .f32⟩
  | 70 => ⟨S1x1024, .f32⟩
  | 71 => ⟨S1x1x1024, .f32⟩
  | 72 => ⟨S_, .f32⟩
  | 73 => ⟨S1024, .f32⟩
  | 74 => ⟨S1x8192x1024, .f32⟩
  | 75 => ⟨S_, .f32⟩
  | 76 => ⟨S1x1024, .f32⟩
  | 77 => ⟨S1x1x1024, .f32⟩
  | 78 => ⟨S1x8192x1024, .f32⟩
  | 79 => ⟨S1x8192x1024, .f32⟩
  | 80 => ⟨S_, .f32⟩
  | 81 => ⟨S1024, .f32⟩
  | 82 => ⟨S1x8192x1024, .f32⟩
  | 83 => ⟨S_, .f32⟩
  | 84 => ⟨S1x8192, .f32⟩
  | 85 => ⟨S1x8192x1, .f32⟩
  | 86 => ⟨S1x8192x1024, .f32⟩
  | 87 => ⟨S1x8192x1024, .f32⟩
  | 88 => ⟨S1x8192x1, .f32⟩
  | 89 => ⟨S_, .f32⟩
  | 90 => ⟨S1x8192x1, .f32⟩
  | 91 => ⟨S1x8192x1, .f32⟩
  | 92 => ⟨S_, .f32⟩
  | 93 => ⟨S8192, .f32⟩
  | 94 => ⟨S1x8192, .f32⟩
  | 95 => ⟨S1x8192x1024, .f32⟩
  | 96 => ⟨S1x8192x1024, .f32⟩
  | 97 => ⟨S1x8192x1024, .f32⟩
  | 98 => ⟨S1x8192x1024, .f32⟩
  | 99 => ⟨S1x8192x1024, .f32⟩
  | 100 => ⟨S1x8192x1024, .f32⟩
  | 101 => ⟨S_, .f32⟩
  | 102 => ⟨S1x8192, .f32⟩
  | 103 => ⟨S1x8192x1, .f32⟩
  | 104 => ⟨S_, .f32⟩
  | 105 => ⟨S1x8192x1, .f32⟩
  | 106 => ⟨S1x8192x1, .f32⟩
  | 107 => ⟨S_, .f32⟩
  | 108 => ⟨S8192, .f32⟩
  | 109 => ⟨S1x8192, .f32⟩
  | 110 => ⟨S1x8192x1024, .f32⟩
  | 111 => ⟨S1x8192x1024, .f32⟩
  | 112 => ⟨S1x8x128, .f32⟩
  | 113 => ⟨S1x8x128x128, .f32⟩
  | 114 => ⟨S1x1024, .f32⟩
  | 115 => ⟨S1x1024, .f32⟩
  | 116 => ⟨S1x8192x1024, .f32⟩
  | 117 => ⟨S1x8192x1024, .f32⟩
  | 118 => ⟨S1x8192x1024, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x8192x1024, .f32⟩
  | 124 => ⟨S1x8192x1024, .f32⟩
  | 125 => ⟨S1x8192x1024, .f32⟩
  | 126 => ⟨S_, .f32⟩
  | 127 => ⟨S1x1024, .f32⟩
  | _ => ⟨S8192x6144, .bf16⟩

abbrev hbmTy0_2 (i : Nat) : BufTy := match i % 128 with
  | 0 => ⟨S1x1x1024, .f32⟩
  | 1 => ⟨S_, .f32⟩
  | 2 => ⟨S1024, .f32⟩
  | 3 => ⟨S1x8192x1024, .f32⟩
  | 4 => ⟨S_, .f32⟩
  | 5 => ⟨S1x1024, .f32⟩
  | 6 => ⟨S1x1x1024, .f32⟩
  | 7 => ⟨S1x8192x1024, .f32⟩
  | 8 => ⟨S1x8192x1024, .f32⟩
  | 9 => ⟨S_, .f32⟩
  | 10 => ⟨S1024, .f32⟩
  | 11 => ⟨S1x8192x1024, .f32⟩
  | 12 => ⟨S_, .f32⟩
  | 13 => ⟨S1x8192, .f32⟩
  | 14 => ⟨S1x8192x1, .f32⟩
  | 15 => ⟨S1x8192x1024, .f32⟩
  | 16 => ⟨S1x8192x1024, .f32⟩
  | 17 => ⟨S1x8192x1, .f32⟩
  | 18 => ⟨S_, .f32⟩
  | 19 => ⟨S1x8192x1, .f32⟩
  | 20 => ⟨S1x8192x1, .f32⟩
  | 21 => ⟨S_, .f32⟩
  | 22 => ⟨S8192, .f32⟩
  | 23 => ⟨S1x8192, .f32⟩
  | 24 => ⟨S1x8192x1024, .f32⟩
  | 25 => ⟨S1x8192x1024, .f32⟩
  | 26 => ⟨S1x8192x1024, .f32⟩
  | 27 => ⟨S1x8192x1024, .f32⟩
  | 28 => ⟨S1x8192x1024, .f32⟩
  | 29 => ⟨S1x8192x1024, .f32⟩
  | 30 => ⟨S_, .f32⟩
  | 31 => ⟨S1x8192, .f32⟩
  | 32 => ⟨S1x8192x1, .f32⟩
  | 33 => ⟨S_, .f32⟩
  | 34 => ⟨S1x8192x1, .f32⟩
  | 35 => ⟨S1x8192x1, .f32⟩
  | 36 => ⟨S_, .f32⟩
  | 37 => ⟨S8192, .f32⟩
  | 38 => ⟨S1x8192, .f32⟩
  | 39 => ⟨S1x8192x1024, .f32⟩
  | 40 => ⟨S1x8192x1024, .f32⟩
  | 41 => ⟨S_, .f32⟩
  | 42 => ⟨S1x1024, .f32⟩
  | 43 => ⟨S1x1x1024, .f32⟩
  | 44 => ⟨S_, .f32⟩
  | 45 => ⟨S1024, .f32⟩
  | 46 => ⟨S1x8192x31x1024, .f32⟩
  | 47 => ⟨S1x8192x31x1024, .f32⟩
  | 48 => ⟨S_, .f32⟩
  | 49 => ⟨S1x31x1024, .f32⟩
  | 50 => ⟨S1x1x31x1024, .f32⟩
  | 51 => ⟨S1x8192x31x1024, .f32⟩
  | 52 => ⟨S1x8192x31x1024, .f32⟩
  | 53 => ⟨S_, .f32⟩
  | 54 => ⟨S31x1024, .f32⟩
  | 55 => ⟨S1x1024x8192x31, .f32⟩
  | 56 => ⟨S1x1024x8192, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x1024, .f32⟩
  | 62 => ⟨S1x1024, .f32⟩
  | 63 => ⟨S1x1024, .f32⟩
  | 64 => ⟨S1x31x1024, .f32⟩
  | 65 => ⟨S1x8192x6144, .f32⟩
  | 66 => ⟨S_, .f32⟩
  | 67 => ⟨S1024, .f32⟩
  | 68 => ⟨S1x1024, .f32⟩
  | 69 => ⟨S1x1024, .f32⟩
  | 70 => ⟨S1x1024, .f32⟩
  | 71 => ⟨S31x1024, .f32⟩
  | 72 => ⟨S_, .f32⟩
  | 73 => ⟨S1x1024, .f32⟩
  | 74 => ⟨S40x1024, .f32⟩
  | 75 => ⟨S8192x6144, .f32⟩
  | 76 => ⟨S8192x6144, .bf16⟩
  | 77 => ⟨S8x128x128, .f32⟩
  | _ => ⟨S8192x6144, .bf16⟩

abbrev hbmTy (i : Nat) : BufTy := match i / 128 with
  | 0 => hbmTy0_0 i
  | 1 => hbmTy0_1 i
  | 2 => hbmTy0_2 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_v64_2 : Ref sig .tc := ⟨.hbm, 94, rfl⟩
abbrev main_call0_cst_1 : Ref sig .tc := ⟨.hbm, 95, rfl⟩
abbrev main_call0_v6 : Ref sig .tc := ⟨.hbm, 96, rfl⟩
abbrev main_call0_v7 : Ref sig .tc := ⟨.hbm, 97, rfl⟩
abbrev main_v64_1 : Ref sig .tc := ⟨.hbm, 98, rfl⟩
abbrev main_v64_0 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_v65_2 : Ref sig .tc := ⟨.hbm, 107, rfl⟩
abbrev main_call1_cst_1 : Ref sig .tc := ⟨.hbm, 108, rfl⟩
abbrev main_call1_v6 : Ref sig .tc := ⟨.hbm, 109, rfl⟩
abbrev main_call1_v7 : Ref sig .tc := ⟨.hbm, 110, rfl⟩
abbrev main_v65_1 : Ref sig .tc := ⟨.hbm, 111, rfl⟩
abbrev main_v65_0 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_9 : Ref sig .tc := ⟨.hbm, 118, rfl⟩
abbrev main_v71 : Ref sig .tc := ⟨.hbm, 119, rfl⟩
abbrev main_v72 : Ref sig .tc := ⟨.hbm, 120, rfl⟩
abbrev main_cst_10 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_11 : Ref sig .tc := ⟨.hbm, 127, rfl⟩
abbrev main_v78 : Ref sig .tc := ⟨.hbm, 128, rfl⟩
abbrev main_v79 : Ref sig .tc := ⟨.hbm, 129, rfl⟩
abbrev main_cst_12 : Ref sig .tc := ⟨.hbm, 130, rfl⟩
abbrev main_v80 : Ref sig .tc := ⟨.hbm, 131, rfl⟩
abbrev main_v81 : Ref sig .tc := ⟨.hbm, 132, rfl⟩
abbrev main_cst_13 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_14 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_call2_v0 : Ref sig .tc := ⟨.hbm, 158, rfl⟩
abbrev main_call2_v1 : Ref sig .tc := ⟨.hbm, 159, rfl⟩
abbrev main_call2_cst : Ref sig .tc := ⟨.hbm, 160, rfl⟩
abbrev main_call2_v2 : Ref sig .tc := ⟨.hbm, 161, rfl⟩
abbrev main_call2_v3 : Ref sig .tc := ⟨.hbm, 162, rfl⟩
abbrev main_call2_cst_0 : Ref sig .tc := ⟨.hbm, 163, rfl⟩
abbrev main_call2_v4 : Ref sig .tc := ⟨.hbm, 164, rfl⟩
abbrev main_v105_2 : Ref sig .tc := ⟨.hbm, 165, rfl⟩
abbrev main_call2_cst_1 : Ref sig .tc := ⟨.hbm, 166, rfl⟩
abbrev main_call2_v6 : Ref sig .tc := ⟨.hbm, 167, rfl⟩
abbrev main_call2_v7 : Ref sig .tc := ⟨.hbm, 168, rfl⟩
abbrev main_v105_1 : Ref sig .tc := ⟨.hbm, 169, rfl⟩
abbrev main_v105_0 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_call3_v0 : Ref sig .tc := ⟨.hbm, 179, rfl⟩
abbrev main_call3_v1 : Ref sig .tc := ⟨.hbm, 180, rfl⟩
abbrev main_call3_v2 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_15 : Ref sig .tc := ⟨.hbm, 186, rfl⟩
abbrev main_v118 : Ref sig .tc := ⟨.hbm, 187, rfl⟩
abbrev main_v119 : Ref sig .tc := ⟨.hbm, 188, rfl⟩
abbrev main_cst_16 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_cst_17 : Ref sig .tc := ⟨.hbm, 197, rfl⟩
abbrev main_v127 : Ref sig .tc := ⟨.hbm, 198, rfl⟩
abbrev main_v128 : Ref sig .tc := ⟨.hbm, 199, rfl⟩
abbrev main_cst_18 : Ref sig .tc := ⟨.hbm, 200, rfl⟩
abbrev main_v129 : Ref sig .tc := ⟨.hbm, 201, rfl⟩
abbrev main_v130 : Ref sig .tc := ⟨.hbm, 202, rfl⟩
abbrev main_cst_19 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_20 : Ref sig .tc := ⟨.hbm, 208, rfl⟩
abbrev main_v135 : Ref sig .tc := ⟨.hbm, 209, rfl⟩
abbrev main_v136 : Ref sig .tc := ⟨.hbm, 210, rfl⟩
abbrev main_cst_21 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_cst_22 : Ref sig .tc := ⟨.hbm, 217, rfl⟩
abbrev main_v142 : Ref sig .tc := ⟨.hbm, 218, rfl⟩
abbrev main_v143 : Ref sig .tc := ⟨.hbm, 219, rfl⟩
abbrev main_cst_23 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_cst_24 : Ref sig .tc := ⟨.hbm, 229, rfl⟩
abbrev main_v152 : Ref sig .tc := ⟨.hbm, 230, rfl⟩
abbrev main_v153 : Ref sig .tc := ⟨.hbm, 231, rfl⟩
abbrev main_cst_25 : Ref sig .tc := ⟨.hbm, 232, rfl⟩
abbrev main_v154 : Ref sig .tc := ⟨.hbm, 233, rfl⟩
abbrev main_v155 : Ref sig .tc := ⟨.hbm, 234, rfl⟩
abbrev main_cst_26 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_call4_v0 : Ref sig .tc := ⟨.hbm, 246, rfl⟩
abbrev main_call4_v1 : Ref sig .tc := ⟨.hbm, 247, rfl⟩
abbrev main_call4_v2 : Ref sig .tc := ⟨.hbm, 248, rfl⟩
abbrev main_v166 : Ref sig .tc := ⟨.hbm, 249, rfl⟩
abbrev main_call5_v0 : Ref sig .tc := ⟨.hbm, 250, rfl⟩
abbrev main_call5_v1 : Ref sig .tc := ⟨.hbm, 251, rfl⟩
abbrev main_call5_v2 : Ref sig .tc := ⟨.hbm, 252, rfl⟩
abbrev main_v167 : Ref sig .tc := ⟨.hbm, 253, rfl⟩
abbrev main_cst_27 : Ref sig .tc := ⟨.hbm, 254, rfl⟩
abbrev main_v168 : Ref sig .tc := ⟨.hbm, 255, rfl⟩
abbrev main_v169 : Ref sig .tc := ⟨.hbm, 256, rfl⟩
abbrev main_cst_28 : Ref sig .tc := ⟨.hbm, 257, rfl⟩
abbrev main_v170 : Ref sig .tc := ⟨.hbm, 258, rfl⟩
abbrev main_v171 : Ref sig .tc := ⟨.hbm, 259, rfl⟩
abbrev main_cst_29 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_cst_30 : Ref sig .tc := ⟨.hbm, 265, rfl⟩
abbrev main_v176 : Ref sig .tc := ⟨.hbm, 266, rfl⟩
abbrev main_v177 : Ref sig .tc := ⟨.hbm, 267, rfl⟩
abbrev main_cst_31 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_cst_32 : Ref sig .tc := ⟨.hbm, 274, rfl⟩
abbrev main_v183 : Ref sig .tc := ⟨.hbm, 275, rfl⟩
abbrev main_v184 : Ref sig .tc := ⟨.hbm, 276, rfl⟩
abbrev main_cst_33 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_cst_34 : Ref sig .tc := ⟨.hbm, 286, rfl⟩
abbrev main_v193 : Ref sig .tc := ⟨.hbm, 287, rfl⟩
abbrev main_v194 : Ref sig .tc := ⟨.hbm, 288, rfl⟩
abbrev main_cst_35 : Ref sig .tc := ⟨.hbm, 289, rfl⟩
abbrev main_v195 : Ref sig .tc := ⟨.hbm, 290, rfl⟩
abbrev main_v196 : Ref sig .tc := ⟨.hbm, 291, rfl⟩
abbrev main_cst_36 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_cst_37 : Ref sig .tc := ⟨.hbm, 297, rfl⟩
abbrev main_v201 : Ref sig .tc := ⟨.hbm, 298, rfl⟩
abbrev main_v202 : Ref sig .tc := ⟨.hbm, 299, rfl⟩
abbrev main_cst_38 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_cst_39 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_cst_40 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_cst_41 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_cst_42 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩

abbrev nD : Nat := 1
abbrev τ : Topo := Topo.v7x

variable {F : FTy → Type} [FloatOps F]
-- ==== FwdKernel.lean ====
abbrev S8192x6144 : Shape := ⟨2, ![8192, 6144]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S31x1024 : Shape := ⟨2, ![31, 1024]⟩
abbrev S31x4x256 : Shape := ⟨3, ![31, 4, 256]⟩
abbrev S4x31x256 : Shape := ⟨3, ![4, 31, 256]⟩
abbrev S8x128x128 : Shape := ⟨3, ![8, 128, 128]⟩
abbrev S8x128 : Shape := ⟨2, ![8, 128]⟩
abbrev S128x8 : Shape := ⟨2, ![128, 8]⟩
abbrev S8192x2048 : Shape := ⟨2, ![8192, 2048]⟩
abbrev S8192x1024 : Shape := ⟨2, ![8192, 1024]⟩
abbrev S256x6144 : Shape := ⟨2, ![256, 6144]⟩
abbrev S16x2048 : Shape := ⟨2, ![16, 2048]⟩
abbrev S256x2048 : Shape := ⟨2, ![256, 2048]⟩
abbrev S256x1024 : Shape := ⟨2, ![256, 1024]⟩
abbrev S8x288x128 : Shape := ⟨3, ![8, 288, 128]⟩
abbrev S16x128 : Shape := ⟨2, ![16, 128]⟩
abbrev S256x128 : Shape := ⟨2, ![256, 128]⟩
abbrev S288x128 : Shape := ⟨2, ![288, 128]⟩
abbrev S1x288x128 : Shape := ⟨3, ![1, 288, 128]⟩
abbrev S1x128 : Shape := ⟨2, ![1, 128]⟩
abbrev S128x128 : Shape := ⟨2, ![128, 128]⟩
abbrev S1x128x128 : Shape := ⟨3, ![1, 128, 128]⟩
abbrev S1x1x128 : Shape := ⟨3, ![1, 1, 128]⟩
abbrev S256 : Shape := ⟨1, ![256]⟩
abbrev S256x1 : Shape := ⟨2, ![256, 1]⟩
abbrev S128x1 : Shape := ⟨2, ![128, 1]⟩

abbrev nBuf : Space → Nat
  | .hbm => 17
  | .vmem => 19
  | .smem => 0
  | _ => 0

abbrev bufTy : (tb : Table) → Fin (tcTables nBuf tb) → BufTy
  | .hbm, ⟨0, _⟩ => ⟨S8192x6144, .bf16⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x8x128x128, .f32⟩
  | .hbm, ⟨8, _⟩ => ⟨S1x8x128, .f32⟩
  | .hbm, ⟨9, _⟩ => ⟨S31x1024, .f32⟩
  | .hbm, ⟨10, _⟩ => ⟨S31x4x256, .f32⟩
  | .hbm, ⟨11, _⟩ => ⟨S4x31x256, .f32⟩
  | .hbm, ⟨12, _⟩ => ⟨S8x128x128, .f32⟩
  | .hbm, ⟨13, _⟩ => ⟨S8x128, .f32⟩
  | .hbm, ⟨14, _⟩ => ⟨S128x8, .f32⟩
  | .hbm, ⟨15, _⟩ => ⟨S8192x2048, .bf16⟩
  | .hbm, ⟨16, _⟩ => ⟨S8192x1024, .f32⟩
  | .local _ .vmem, ⟨0, _⟩ => ⟨S256x6144, .bf16⟩
  | .local _ .vmem, ⟨1, _⟩ => ⟨S256x6144, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S4x31x256, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S128x8, .f32⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S8x288x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_37 : BitVec 32 := 0#32
  let c2_i32 : BitVec 32 := 2#32
  let v79 : BitVec 32 := Scalar.addi c0_i32_37 c2_i32
  let c1_i32 : BitVec 32 := 1#32
  ⟨c0_i32_37, v79, c1_i32⟩
def k0_mult1 (k0_t1 : Fin k0_t1_loop.trips) : BitVec 32 :=
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  v974
def k0_off1 (k0_t1 : Fin k0_t1_loop.trips) (c0_i32_610 : BitVec 32) : Fin 3 → Nat :=
  let c1_611 : Index := 1#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off2 (k0_t1 : Fin k0_t1_loop.trips) (c0_i32_616 : BitVec 32) : Fin 3 → Nat :=
  let c2_617 : Index := 2#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off3 (k0_t1 : Fin k0_t1_loop.trips) (c0_i32_622 : BitVec 32) : Fin 3 → Nat :=
  let c3_623 : Index := 3#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off4 (k0_t1 : Fin k0_t1_loop.trips) (c0_i32_628 : BitVec 32) : Fin 3 → Nat :=
  let c4_629 : Index := 4#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off5 (k0_t1 : Fin k0_t1_loop.trips) (c0_i32_634 : BitVec 32) : Fin 3 → Nat :=
  let c5_635 : Index := 5#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off6 (k0_t1 : Fin k0_t1_loop.trips) (c0_i32_640 : BitVec 32) : Fin 3 → Nat :=
  let c6_641 : Index := 6#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off7 (k0_t1 : Fin k0_t1_loop.trips) (c0_i32_646 : BitVec 32) : Fin 3 → Nat :=
  let c7_647 : Index := 7#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off8 (k0_t1 : Fin k0_t1_loop.trips) (c8_i32 : BitVec 32) : Fin 3 → Nat :=
  let c0_652 : Index := 0#32
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off9 (k0_t1 : Fin k0_t1_loop.trips) : Fin 2 → Nat :=
  let c0_i32_37 : BitVec 32 := 0#32
  let c1_i32 : BitVec 32 := 1#32
  let arg15 : BitVec 32 := Scf.iv c0_i32_37 c1_i32 k0_t1
  let c128_i32 : BitVec 32 := 128#32
  let v974 : BitVec 32 := Scalar.muli arg15 c128_i32
  let v975 : BitVec 32 := v974
  let v1258 : Index := Scalar.indexCast v975
  let c0_770 : Index := 0#32
  ![v1258.toNat, 0]
@[reducible] def k0_t2_loop : Scf.Loop 32 :=
  let c0_i32_91 : BitVec 32 := 0#32
  let c2_i32_92 : BitVec 32 := 2#32
  let v153 : BitVec 32 := Scalar.addi c0_i32_91 c2_i32_92
  let c1_i32_93 : BitVec 32 := 1#32
  ⟨c0_i32_91, v153, c1_i32_93⟩
def k0_mult2 (k0_t2 : Fin k0_t2_loop.trips) : BitVec 32 :=
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  v974
def k0_off10 (k0_t2 : Fin k0_t2_loop.trips) (c0_i32_610 : BitVec 32) : Fin 3 → Nat :=
  let c1_611 : Index := 1#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off11 (k0_t2 : Fin k0_t2_loop.trips) (c0_i32_616 : BitVec 32) : Fin 3 → Nat :=
  let c2_617 : Index := 2#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off12 (k0_t2 : Fin k0_t2_loop.trips) (c0_i32_622 : BitVec 32) : Fin 3 → Nat :=
  let c3_623 : Index := 3#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off13 (k0_t2 : Fin k0_t2_loop.trips) (c0_i32_628 : BitVec 32) : Fin 3 → Nat :=
  let c4_629 : Index := 4#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off14 (k0_t2 : Fin k0_t2_loop.trips) (c0_i32_634 : BitVec 32) : Fin 3 → Nat :=
  let c5_635 : Index := 5#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off15 (k0_t2 : Fin k0_t2_loop.trips) (c0_i32_640 : BitVec 32) : Fin 3 → Nat :=
  let c6_641 : Index := 6#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off16 (k0_t2 : Fin k0_t2_loop.trips) (c0_i32_646 : BitVec 32) : Fin 3 → Nat :=
  let c7_647 : Index := 7#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off17 (k0_t2 : Fin k0_t2_loop.trips) (c8_i32 : BitVec 32) : Fin 3 → Nat :=
  let c0_652 : Index := 0#32
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off18 (k0_t2 : Fin k0_t2_loop.trips) : Fin 2 → Nat :=
  let c0_i32_91 : BitVec 32 := 0#32
  let c1_i32_93 : BitVec 32 := 1#32
  let arg15 : BitVec 32 := Scf.iv c0_i32_91 c1_i32_93 k0_t2
  let c128_i32 : BitVec 32 := 128#32
  let v974 : BitVec 32 := Scalar.muli arg15 c128_i32
  let v975 : BitVec 32 := v974
  let v1258 : Index := Scalar.indexCast v975
  let c128_770 : Index := 128#32
  ![v1258.toNat, 128]
@[reducible] def k0_t3_loop : Scf.Loop 32 :=
  let c0_i32_147 : BitVec 32 := 0#32
  let c2_i32_148 : BitVec 32 := 2#32
  let v227 : BitVec 32 := Scalar.addi c0_i32_147 c2_i32_148
  let c1_i32_149 : BitVec 32 := 1#32
  ⟨c0_i32_147, v227, c1_i32_149⟩
def k0_mult3 (k0_t3 : Fin k0_t3_loop.trips) : BitVec 32 :=
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  v974
def k0_off19 (k0_t3 : Fin k0_t3_loop.trips) (c0_i32_610 : BitVec 32) : Fin 3 → Nat :=
  let c1_611 : Index := 1#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off20 (k0_t3 : Fin k0_t3_loop.trips) (c0_i32_616 : BitVec 32) : Fin 3 → Nat :=
  let c2_617 : Index := 2#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off21 (k0_t3 : Fin k0_t3_loop.trips) (c0_i32_622 : BitVec 32) : Fin 3 → Nat :=
  let c3_623 : Index := 3#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off22 (k0_t3 : Fin k0_t3_loop.trips) (c0_i32_628 : BitVec 32) : Fin 3 → Nat :=
  let c4_629 : Index := 4#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off23 (k0_t3 : Fin k0_t3_loop.trips) (c0_i32_634 : BitVec 32) : Fin 3 → Nat :=
  let c5_635 : Index := 5#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off24 (k0_t3 : Fin k0_t3_loop.trips) (c0_i32_640 : BitVec 32) : Fin 3 → Nat :=
  let c6_641 : Index := 6#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off25 (k0_t3 : Fin k0_t3_loop.trips) (c0_i32_646 : BitVec 32) : Fin 3 → Nat :=
  let c7_647 : Index := 7#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off26 (k0_t3 : Fin k0_t3_loop.trips) (c8_i32 : BitVec 32) : Fin 3 → Nat :=
  let c0_652 : Index := 0#32
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off27 (k0_t3 : Fin k0_t3_loop.trips) : Fin 2 → Nat :=
  let c0_i32_147 : BitVec 32 := 0#32
  let c1_i32_149 : BitVec 32 := 1#32
  let arg15 : BitVec 32 := Scf.iv c0_i32_147 c1_i32_149 k0_t3
  let c128_i32 : BitVec 32 := 128#32
  let v974 : BitVec 32 := Scalar.muli arg15 c128_i32
  let v975 : BitVec 32 := v974
  let v1258 : Index := Scalar.indexCast v975
  let c256_770 : Index := 256#32
  ![v1258.toNat, 256]
@[reducible] def k0_t4_loop : Scf.Loop 32 :=
  let c0_i32_203 : BitVec 32 := 0#32
  let c2_i32_204 : BitVec 32 := 2#32
  let v301 : BitVec 32 := Scalar.addi c0_i32_203 c2_i32_204
  let c1_i32_205 : BitVec 32 := 1#32
  ⟨c0_i32_203, v301, c1_i32_205⟩
def k0_mult4 (k0_t4 : Fin k0_t4_loop.trips) : BitVec 32 :=
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  v974
def k0_off28 (k0_t4 : Fin k0_t4_loop.trips) (c0_i32_610 : BitVec 32) : Fin 3 → Nat :=
  let c1_611 : Index := 1#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off29 (k0_t4 : Fin k0_t4_loop.trips) (c0_i32_616 : BitVec 32) : Fin 3 → Nat :=
  let c2_617 : Index := 2#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off30 (k0_t4 : Fin k0_t4_loop.trips) (c0_i32_622 : BitVec 32) : Fin 3 → Nat :=
  let c3_623 : Index := 3#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off31 (k0_t4 : Fin k0_t4_loop.trips) (c0_i32_628 : BitVec 32) : Fin 3 → Nat :=
  let c4_629 : Index := 4#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off32 (k0_t4 : Fin k0_t4_loop.trips) (c0_i32_634 : BitVec 32) : Fin 3 → Nat :=
  let c5_635 : Index := 5#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off33 (k0_t4 : Fin k0_t4_loop.trips) (c0_i32_640 : BitVec 32) : Fin 3 → Nat :=
  let c6_641 : Index := 6#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off34 (k0_t4 : Fin k0_t4_loop.trips) (c0_i32_646 : BitVec 32) : Fin 3 → Nat :=
  let c7_647 : Index := 7#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off35 (k0_t4 : Fin k0_t4_loop.trips) (c8_i32 : BitVec 32) : Fin 3 → Nat :=
  let c0_652 : Index := 0#32
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off36 (k0_t4 : Fin k0_t4_loop.trips) : Fin 2 → Nat :=
  let c0_i32_203 : BitVec 32 := 0#32
  let c1_i32_205 : BitVec 32 := 1#32
  let arg15 : BitVec 32 := Scf.iv c0_i32_203 c1_i32_205 k0_t4
  let c128_i32 : BitVec 32 := 128#32
  let v974 : BitVec 32 := Scalar.muli arg15 c128_i32
  let v975 : BitVec 32 := v974
  let v1258 : Index := Scalar.indexCast v975
  let c384_770 : Index := 384#32
  ![v1258.toNat, 384]
@[reducible] def k0_t5_loop : Scf.Loop 32 :=
  let c0_i32_259 : BitVec 32 := 0#32
  let c2_i32_260 : BitVec 32 := 2#32
  let v375 : BitVec 32 := Scalar.addi c0_i32_259 c2_i32_260
  let c1_i32_261 : BitVec 32 := 1#32
  ⟨c0_i32_259, v375, c1_i32_261⟩
def k0_mult5 (k0_t5 : Fin k0_t5_loop.trips) : BitVec 32 :=
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  v974
def k0_off37 (k0_t5 : Fin k0_t5_loop.trips) (c0_i32_610 : BitVec 32) : Fin 3 → Nat :=
  let c1_611 : Index := 1#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off38 (k0_t5 : Fin k0_t5_loop.trips) (c0_i32_616 : BitVec 32) : Fin 3 → Nat :=
  let c2_617 : Index := 2#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off39 (k0_t5 : Fin k0_t5_loop.trips) (c0_i32_622 : BitVec 32) : Fin 3 → Nat :=
  let c3_623 : Index := 3#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off40 (k0_t5 : Fin k0_t5_loop.trips) (c0_i32_628 : BitVec 32) : Fin 3 → Nat :=
  let c4_629 : Index := 4#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off41 (k0_t5 : Fin k0_t5_loop.trips) (c0_i32_634 : BitVec 32) : Fin 3 → Nat :=
  let c5_635 : Index := 5#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off42 (k0_t5 : Fin k0_t5_loop.trips) (c0_i32_640 : BitVec 32) : Fin 3 → Nat :=
  let c6_641 : Index := 6#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off43 (k0_t5 : Fin k0_t5_loop.trips) (c0_i32_646 : BitVec 32) : Fin 3 → Nat :=
  let c7_647 : Index := 7#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off44 (k0_t5 : Fin k0_t5_loop.trips) (c8_i32 : BitVec 32) : Fin 3 → Nat :=
  let c0_652 : Index := 0#32
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off45 (k0_t5 : Fin k0_t5_loop.trips) : Fin 2 → Nat :=
  let c0_i32_259 : BitVec 32 := 0#32
  let c1_i32_261 : BitVec 32 := 1#32
  let arg15 : BitVec 32 := Scf.iv c0_i32_259 c1_i32_261 k0_t5
  let c128_i32 : BitVec 32 := 128#32
  let v974 : BitVec 32 := Scalar.muli arg15 c128_i32
  let v975 : BitVec 32 := v974
  let v1258 : Index := Scalar.indexCast v975
  let c512_770 : Index := 512#32
  ![v1258.toNat, 512]
@[reducible] def k0_t6_loop : Scf.Loop 32 :=
  let c0_i32_315 : BitVec 32 := 0#32
  let c2_i32_316 : BitVec 32 := 2#32
  let v449 : BitVec 32 := Scalar.addi c0_i32_315 c2_i32_316
  let c1_i32_317 : BitVec 32 := 1#32
  ⟨c0_i32_315, v449, c1_i32_317⟩
def k0_mult6 (k0_t6 : Fin k0_t6_loop.trips) : BitVec 32 :=
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  v974
def k0_off46 (k0_t6 : Fin k0_t6_loop.trips) (c0_i32_610 : BitVec 32) : Fin 3 → Nat :=
  let c1_611 : Index := 1#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off47 (k0_t6 : Fin k0_t6_loop.trips) (c0_i32_616 : BitVec 32) : Fin 3 → Nat :=
  let c2_617 : Index := 2#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off48 (k0_t6 : Fin k0_t6_loop.trips) (c0_i32_622 : BitVec 32) : Fin 3 → Nat :=
  let c3_623 : Index := 3#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off49 (k0_t6 : Fin k0_t6_loop.trips) (c0_i32_628 : BitVec 32) : Fin 3 → Nat :=
  let c4_629 : Index := 4#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off50 (k0_t6 : Fin k0_t6_loop.trips) (c0_i32_634 : BitVec 32) : Fin 3 → Nat :=
  let c5_635 : Index := 5#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off51 (k0_t6 : Fin k0_t6_loop.trips) (c0_i32_640 : BitVec 32) : Fin 3 → Nat :=
  let c6_641 : Index := 6#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off52 (k0_t6 : Fin k0_t6_loop.trips) (c0_i32_646 : BitVec 32) : Fin 3 → Nat :=
  let c7_647 : Index := 7#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off53 (k0_t6 : Fin k0_t6_loop.trips) (c8_i32 : BitVec 32) : Fin 3 → Nat :=
  let c0_652 : Index := 0#32
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off54 (k0_t6 : Fin k0_t6_loop.trips) : Fin 2 → Nat :=
  let c0_i32_315 : BitVec 32 := 0#32
  let c1_i32_317 : BitVec 32 := 1#32
  let arg15 : BitVec 32 := Scf.iv c0_i32_315 c1_i32_317 k0_t6
  let c128_i32 : BitVec 32 := 128#32
  let v974 : BitVec 32 := Scalar.muli arg15 c128_i32
  let v975 : BitVec 32 := v974
  let v1258 : Index := Scalar.indexCast v975
  let c640_770 : Index := 640#32
  ![v1258.toNat, 640]
@[reducible] def k0_t7_loop : Scf.Loop 32 :=
  let c0_i32_371 : BitVec 32 := 0#32
  let c2_i32_372 : BitVec 32 := 2#32
  let v523 : BitVec 32 := Scalar.addi c0_i32_371 c2_i32_372
  let c1_i32_373 : BitVec 32 := 1#32
  ⟨c0_i32_371, v523, c1_i32_373⟩
def k0_mult7 (k0_t7 : Fin k0_t7_loop.trips) : BitVec 32 :=
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  v974
def k0_off55 (k0_t7 : Fin k0_t7_loop.trips) (c0_i32_610 : BitVec 32) : Fin 3 → Nat :=
  let c1_611 : Index := 1#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off56 (k0_t7 : Fin k0_t7_loop.trips) (c0_i32_616 : BitVec 32) : Fin 3 → Nat :=
  let c2_617 : Index := 2#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off57 (k0_t7 : Fin k0_t7_loop.trips) (c0_i32_622 : BitVec 32) : Fin 3 → Nat :=
  let c3_623 : Index := 3#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off58 (k0_t7 : Fin k0_t7_loop.trips) (c0_i32_628 : BitVec 32) : Fin 3 → Nat :=
  let c4_629 : Index := 4#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off59 (k0_t7 : Fin k0_t7_loop.trips) (c0_i32_634 : BitVec 32) : Fin 3 → Nat :=
  let c5_635 : Index := 5#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off60 (k0_t7 : Fin k0_t7_loop.trips) (c0_i32_640 : BitVec 32) : Fin 3 → Nat :=
  let c6_641 : Index := 6#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off61 (k0_t7 : Fin k0_t7_loop.trips) (c0_i32_646 : BitVec 32) : Fin 3 → Nat :=
  let c7_647 : Index := 7#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off62 (k0_t7 : Fin k0_t7_loop.trips) (c8_i32 : BitVec 32) : Fin 3 → Nat :=
  let c0_652 : Index := 0#32
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off63 (k0_t7 : Fin k0_t7_loop.trips) : Fin 2 → Nat :=
  let c0_i32_371 : BitVec 32 := 0#32
  let c1_i32_373 : BitVec 32 := 1#32
  let arg15 : BitVec 32 := Scf.iv c0_i32_371 c1_i32_373 k0_t7
  let c128_i32 : BitVec 32 := 128#32
  let v974 : BitVec 32 := Scalar.muli arg15 c128_i32
  let v975 : BitVec 32 := v974
  let v1258 : Index := Scalar.indexCast v975
  let c768_770 : Index := 768#32
  ![v1258.toNat, 768]
@[reducible] def k0_t8_loop : Scf.Loop 32 :=
  let c0_i32_427 : BitVec 32 := 0#32
  let c2_i32_428 : BitVec 32 := 2#32
  let v597 : BitVec 32 := Scalar.addi c0_i32_427 c2_i32_428
  let c1_i32_429 : BitVec 32 := 1#32
  ⟨c0_i32_427, v597, c1_i32_429⟩
def k0_mult8 (k0_t8 : Fin k0_t8_loop.trips) : BitVec 32 :=
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  v974
def k0_off64 (k0_t8 : Fin k0_t8_loop.trips) (c0_i32_610 : BitVec 32) : Fin 3 → Nat :=
  let c1_611 : Index := 1#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v979 : BitVec 32 := Scalar.addi v975 c0_i32_610
  let v980 : Index := Scalar.indexCast v979
  let c0_612 : Index := 0#32
  ![1, v980.toNat, 0]
def k0_off65 (k0_t8 : Fin k0_t8_loop.trips) (c0_i32_616 : BitVec 32) : Fin 3 → Nat :=
  let c2_617 : Index := 2#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v988 : BitVec 32 := Scalar.addi v975 c0_i32_616
  let v989 : Index := Scalar.indexCast v988
  let c0_618 : Index := 0#32
  ![2, v989.toNat, 0]
def k0_off66 (k0_t8 : Fin k0_t8_loop.trips) (c0_i32_622 : BitVec 32) : Fin 3 → Nat :=
  let c3_623 : Index := 3#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v997 : BitVec 32 := Scalar.addi v975 c0_i32_622
  let v998 : Index := Scalar.indexCast v997
  let c0_624 : Index := 0#32
  ![3, v998.toNat, 0]
def k0_off67 (k0_t8 : Fin k0_t8_loop.trips) (c0_i32_628 : BitVec 32) : Fin 3 → Nat :=
  let c4_629 : Index := 4#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v1006 : BitVec 32 := Scalar.addi v975 c0_i32_628
  let v1007 : Index := Scalar.indexCast v1006
  let c0_630 : Index := 0#32
  ![4, v1007.toNat, 0]
def k0_off68 (k0_t8 : Fin k0_t8_loop.trips) (c0_i32_634 : BitVec 32) : Fin 3 → Nat :=
  let c5_635 : Index := 5#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v1015 : BitVec 32 := Scalar.addi v975 c0_i32_634
  let v1016 : Index := Scalar.indexCast v1015
  let c0_636 : Index := 0#32
  ![5, v1016.toNat, 0]
def k0_off69 (k0_t8 : Fin k0_t8_loop.trips) (c0_i32_640 : BitVec 32) : Fin 3 → Nat :=
  let c6_641 : Index := 6#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v1024 : BitVec 32 := Scalar.addi v975 c0_i32_640
  let v1025 : Index := Scalar.indexCast v1024
  let c0_642 : Index := 0#32
  ![6, v1025.toNat, 0]
def k0_off70 (k0_t8 : Fin k0_t8_loop.trips) (c0_i32_646 : BitVec 32) : Fin 3 → Nat :=
  let c7_647 : Index := 7#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v1033 : BitVec 32 := Scalar.addi v975 c0_i32_646
  let v1034 : Index := Scalar.indexCast v1033
  let c0_648 : Index := 0#32
  ![7, v1034.toNat, 0]
def k0_off71 (k0_t8 : Fin k0_t8_loop.trips) (c8_i32 : BitVec 32) : Fin 3 → Nat :=
  let c0_652 : Index := 0#32
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v1042 : BitVec 32 := Scalar.addi v975 c8_i32
  let v1043 : Index := Scalar.indexCast v1042
  let c0_653 : Index := 0#32
  ![0, v1043.toNat, 0]
def k0_off72 (k0_t8 : Fin k0_t8_loop.trips) : Fin 2 → Nat :=
  let c0_i32_427 : BitVec 32 := 0#32
  let c1_i32_429 : BitVec 32 := 1#32
  let arg15 : BitVec 32 := Scf.iv c0_i32_427 c1_i32_429 k0_t8
  let c128_i32 : BitVec 32 := 128#32
  let v974 : BitVec 32 := Scalar.muli arg15 c128_i32
  let v975 : BitVec 32 := v974
  let v1258 : Index := Scalar.indexCast v975
  let c896_770 : Index := 896#32
  ![v1258.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FwdReferenceIdeal.lean ====
abbrev S8192x6144 : Shape := ⟨2, ![8192, 6144]⟩
abbrev S1x31x1024 : Shape := ⟨3, ![1, 31, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1x8192x6144 : Shape := ⟨3, ![1, 8192, 6144]⟩
abbrev S1x8192x1024 : Shape := ⟨3, ![1, 8192, 1024]⟩
abbrev S31x1024 : Shape := ⟨2, ![31, 1024]⟩
abbrev S1024 : Shape := ⟨1, ![1024]⟩
abbrev S_ : Shape := ⟨0, ![]⟩
abbrev S8192x8192x31 : Shape := ⟨3, ![8192, 8192, 31]⟩
abbrev S1x1024x8192x31 : Shape := ⟨4, ![1, 1024, 8192, 31]⟩
abbrev S1x8192x31x1024 : Shape := ⟨4, ![1, 8192, 31, 1024]⟩
abbrev S1x1x31x1024 : Shape := ⟨4, ![1, 1, 31, 1024]⟩
abbrev S1x1x1024 : Shape := ⟨3, ![1, 1, 1024]⟩
abbrev S1x8192 : Shape := ⟨2, ![1, 8192]⟩
abbrev S1x8192x1 : Shape := ⟨3, ![1, 8192, 1]⟩
abbrev S8x128x128 : Shape := ⟨3, ![8, 128, 128]⟩
abbrev S8x128 : Shape := ⟨2, ![8, 128]⟩
abbrev S1x64x128x8x128 : Shape := ⟨5, ![1, 64, 128, 8, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S1x8192x2048 : Shape := ⟨3, ![1, 8192, 2048]⟩
abbrev S8192x2048 : Shape := ⟨2, ![8192, 2048]⟩
abbrev S8192x1024 : Shape := ⟨2, ![8192, 1024]⟩

abbrev nBuf : Space → Nat
  | .hbm => 181
  | .vmem => 0
  | .smem => 0
  | _ => 0

abbrev hbmTy0_0 (i : Nat) : BufTy := match i % 128 with
  | 0 => ⟨S8192x6144, .bf16⟩
  | 1 => ⟨S1x31x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x8x128x128, .f32⟩
  | 8 => ⟨S1x8x128, .f32⟩
  | 9 => ⟨S8192x6144, .f32⟩
  | 10 => ⟨S1x8192x6144, .f32⟩
  | 11 => ⟨S1x8192x1024, .f32⟩
  | 12 => ⟨S1x8192x1024, .f32⟩
  | 13 => ⟨S1x8192x1024, .f32⟩
  | 14 => ⟨S1x8192x1024, .f32⟩
  | 15 => ⟨S1x8192x1024, .f32⟩
  | 16 => ⟨S1x8192x1024, .f32⟩
  | 17 => ⟨S31x1024, .f32⟩
  | 18 => ⟨S1024, .f32⟩
  | 19 => ⟨S1024, .f32⟩
  | 20 => ⟨S1024, .f32⟩
  | 21 => ⟨S1x8192x1024, .f32⟩
  | 22 => ⟨S1x8192x1024, .f32⟩
  | 23 => ⟨S_, .f32⟩
  | 24 => ⟨S1x8192x1024, .f32⟩
  | 25 => ⟨S1x8192x1024, .f32⟩
  | 26 => ⟨S_, .f32⟩
  | 27 => ⟨S1x8192x1024, .f32⟩
  | 28 => ⟨S1x8192x1024, .f32⟩
  | 29 => ⟨S1x8192x1024, .f32⟩
  | 30 => ⟨S8192x8192x31, .i32⟩
  | 31 => ⟨S8192x8192x31, .i32⟩
  | 32 => ⟨S8192x8192x31, .i32⟩
  | 33 => ⟨S8192x8192x31, .i32⟩
  | 34 => ⟨S_, .i32⟩
  | 35 => ⟨S8192x8192x31, .i32⟩
  | 36 => ⟨S8192x8192x31, .i32⟩
  | 37 => ⟨S8192x8192x31, .i1⟩
  | 38 => ⟨S8192x8192x31, .f32⟩
  | 39 => ⟨S1x1024x8192x31, .f32⟩
  | 40 => ⟨S1x8192x31x1024, .f32⟩
  | 41 => ⟨S1x1x31x1024, .f32⟩
  | 42 => ⟨S1x8192x31x1024, .f32⟩
  | 43 => ⟨S1x8192x31x1024, .f32⟩
  | 44 => ⟨S_, .f32⟩
  | 45 => ⟨S1x8192x1024, .f32⟩
  | 46 => ⟨S1x1x1024, .f32⟩
  | 47 => ⟨S1x8192x1024, .f32⟩
  | 48 => ⟨S1x8192x1024, .f32⟩
  | 49 => ⟨S_, .f32⟩
  | 50 => ⟨S1x8192, .f32⟩
  | 51 => ⟨S1x8192x1, .f32⟩
  | 52 => ⟨S_, .f32⟩
  | 53 => ⟨S1x8192x1, .f32⟩
  | 54 => ⟨S1x8192x1, .f32⟩
  | 55 => ⟨S1x8192x1024, .f32⟩
  | 56 => ⟨S1x8192x1024, .f32⟩
  | 57 => ⟨S1x8192x1024, .f32⟩
  | 58 => ⟨S_, .f32⟩
  | 59 => ⟨S1x8192, .f32⟩
  | 60 => ⟨S1x8192x1, .f32⟩
  | 61 => ⟨S_, .f32⟩
  | 62 => ⟨S1x8192x1, .f32⟩
  | 63 => ⟨S1x8192x1, .f32⟩
  | 64 => ⟨S_, .f32⟩
  | 65 => ⟨S1x8192x1, .f32⟩
  | 66 => ⟨S1x8192x1, .f32⟩
  | 67 => ⟨S1x8192x1, .f32⟩
  | 68 => ⟨S1x8192x1024, .f32⟩
  | 69 => ⟨S1x8192x1024, .f32⟩
  | 70 => ⟨S1x1x1024, .f32⟩
  | 71 => ⟨S1x8192x1024, .f32⟩
  | 72 => ⟨S1x8192x1024, .f32⟩
  | 73 => ⟨S1x1x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S_, .f32⟩
  | 79 => ⟨S1x8192x1024, .f32⟩
  | 80 => ⟨S1x8192x1024, .f32⟩
  | 81 => ⟨S_, .f32⟩
  | 82 => ⟨S1x8192x1024, .f32⟩
  | 83 => ⟨S1x8192x1024, .f32⟩
  | 84 => ⟨S1x8192x1024, .f32⟩
  | 85 => ⟨S1x8192x1024, .f32⟩
  | 86 => ⟨S1x8192x1024, .f32⟩
  | 87 => ⟨S_, .f32⟩
  | 88 => ⟨S1x8192x1024, .f32⟩
  | 89 => ⟨S1x8192x1024, .f32⟩
  | 90 => ⟨S_, .f32⟩
  | 91 => ⟨S1x8192x1024, .f32⟩
  | 92 => ⟨S1x8192x1024, .f32⟩
  | 93 => ⟨S1x8192x1024, .f32⟩
  | 94 => ⟨S1x8192x1024, .f32⟩
  | 95 => ⟨S1024, .f32⟩
  | 96 => ⟨S1024, .f32⟩
  | 97 => ⟨S8x128x128, .f32⟩
  | 98 => ⟨S8x128, .f32⟩
  | 99 => ⟨S_, .f32⟩
  | 100 => ⟨S1x8192, .f32⟩
  | 101 => ⟨S1x8192x1, .f32⟩
  | 102 => ⟨S_, .f32⟩
  | 103 => ⟨S1x8192x1, .f32⟩
  | 104 => ⟨S1x8192x1, .f32⟩
  | 105 => ⟨S1x8192x1024, .f32⟩
  | 106 => ⟨S1x8192x1024, .f32⟩
  | 107 => ⟨S1x8192x1024, .f32⟩
  | 108 => ⟨S_, .f32⟩
  | 109 => ⟨S1x8192, .f32⟩
  | 110 => ⟨S1x8192x1, .f32⟩
  | 111 => ⟨S_, .f32⟩
  | 112 => ⟨S1x8192x1, .f32⟩
  | 113 => ⟨S1x8192x1, .f32⟩
  | 114 => ⟨S_, .f32⟩
  | 115 => ⟨S1x8192x1, .f32⟩
  | 116 => ⟨S1x8192x1, .f32⟩
  | 117 => ⟨S1x8192x1, .f32⟩
  | 118 => ⟨S1x8192x1024, .f32⟩
  | 119 => ⟨S1x8192x1024, .f32⟩
  | 120 => ⟨S1x1x1024, .f32⟩
  | 121 => ⟨S1x8192x1024, .f32⟩
  | 122 => ⟨S1x8192x1024, .f32⟩
  | 123 => ⟨S1x1x1024, .f32⟩
  | 124 => ⟨S1x8192x1024, .f32⟩
  | 125 => ⟨S1x8192x1024, .f32⟩
  | 126 => ⟨S1x64x128x8x128, .f32⟩
  | 127 => ⟨S8x1x64x128x128, .f32⟩
  | _ => ⟨S8192x6144, .bf16⟩

abbrev hbmTy0_1 (i : Nat) : BufTy := match i % 128 with
  | 0 => ⟨S1x64x128x8x128, .f32⟩
  | 1 => ⟨S128x8, .f32⟩
  | 2 => ⟨S1x1x128x8x1, .f32⟩
  | 3 => ⟨S1x64x128x8x128, .f32⟩
  | 4 => ⟨S1x64x128x8x128, .f32⟩
  | 5 => ⟨S1x8192x1024, .f32⟩
  | 6 => ⟨S1x8192x1024, .f32⟩
  | 7 => ⟨S1x8192x1024, .f32⟩
  | 8 => ⟨S1x8192x1024, .f32⟩
  | 9 => ⟨S_, .f32⟩
  | 10 => ⟨S1x8192x1024, .f32⟩
  | 11 => ⟨S1x8192x1024, .f32⟩
  | 12 => ⟨S_, .f32⟩
  | 13 => ⟨S1x8192x1024, .f32⟩
  | 14 => ⟨S1x8192x1024, .f32⟩
  | 15 => ⟨S1x8192x1024, .f32⟩
  | 16 => ⟨S1x8192x1024, .f32⟩
  | 17 => ⟨S1x8192x2048, .f32⟩
  | 18 => ⟨S1x8192x1024, .f32⟩
  | 19 => ⟨S1x8192x1024, .f32⟩
  | 20 => ⟨S1x8192x1024, .f32⟩
  | 21 => ⟨S1x8192x1024, .f32⟩
  | 22 => ⟨S_, .f32⟩
  | 23 => ⟨S1x8192x1024, .f32⟩
  | 24 => ⟨S1x8192x1024, .f32⟩
  | 25 => ⟨S_, .f32⟩
  | 26 => ⟨S1x8192x1024, .f32⟩
  | 27 => ⟨S1x8192x1024, .f32⟩
  | 28 => ⟨S1x8192x1024, .f32⟩
  | 29 => ⟨S31x1024, .f32⟩
  | 30 => ⟨S1024, .f32⟩
  | 31 => ⟨S8192x8192x31, .i32⟩
  | 32 => ⟨S8192x8192x31, .i32⟩
  | 33 => ⟨S8192x8192x31, .i32⟩
  | 34 => ⟨S8192x8192x31, .i32⟩
  | 35 => ⟨S_, .i32⟩
  | 36 => ⟨S8192x8192x31, .i32⟩
  | 37 => ⟨S8192x8192x31, .i32⟩
  | 38 => ⟨S8192x8192x31, .i1⟩
  | 39 => ⟨S8192x8192x31, .f32⟩
  | 40 => ⟨S1x1024x8192x31, .f32⟩
  | 41 => ⟨S1x8192x31x1024, .f32⟩
  | 42 => ⟨S1x1x31x1024, .f32⟩
  | 43 => ⟨S1x8192x31x1024, .f32⟩
  | 44 => ⟨S1x8192x31x1024, .f32⟩
  | 45 => ⟨S_, .f32⟩
  | 46 => ⟨S1x8192x1024, .f32⟩
  | 47 => ⟨S1x1x1024, .f32⟩
  | 48 => ⟨S1x8192x1024, .f32⟩
  | 49 => ⟨S1x8192x1024, .f32⟩
  | 50 => ⟨S8192x2048, .f32⟩
  | 51 => ⟨S8192x2048, .bf16⟩
  | 52 => ⟨S8192x1024, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v58 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_7 : Ref sig .tc := ⟨.hbm, 99, rfl⟩
abbrev main_v65 : Ref sig .tc := ⟨.hbm, 100, rfl⟩
abbrev main_v66 : Ref sig .tc := ⟨.hbm, 101, rfl⟩
abbrev main_cst_8 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_9 : Ref sig .tc := ⟨.hbm, 108, rfl⟩
abbrev main_v72 : Ref sig .tc := ⟨.hbm, 109, rfl⟩
abbrev main_v73 : Ref sig .tc := ⟨.hbm, 110, rfl⟩
abbrev main_cst_10 : Ref sig .tc := ⟨.hbm, 111, rfl⟩
abbrev main_v74 : Ref sig .tc := ⟨.hbm, 112, rfl⟩
abbrev main_v75 : Ref sig .tc := ⟨.hbm, 113, rfl⟩
abbrev main_cst_11 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_call2_v0 : Ref sig .tc := ⟨.hbm, 135, rfl⟩
abbrev main_call2_v1 : Ref sig .tc := ⟨.hbm, 136, rfl⟩
abbrev main_call2_cst : Ref sig .tc := ⟨.hbm, 137, rfl⟩
abbrev main_call2_v2 : Ref sig .tc := ⟨.hbm, 138, rfl⟩
abbrev main_call2_v3 : Ref sig .tc := ⟨.hbm, 139, rfl⟩
abbrev main_call2_cst_0 : Ref sig .tc := ⟨.hbm, 140, rfl⟩
abbrev main_call2_v4 : Ref sig .tc := ⟨.hbm, 141, rfl⟩
abbrev main_call2_v5 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_12 : Ref sig .tc := ⟨.hbm, 150, rfl⟩
abbrev main_v103 : Ref sig .tc := ⟨.hbm, 151, rfl⟩
abbrev main_v104 : Ref sig .tc := ⟨.hbm, 152, rfl⟩
abbrev main_cst_13 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_c_14 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_15 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩

abbrev nD : Nat := 1
abbrev τ : Topo := Topo.v7x

variable {F : FTy → Type} [FloatOps F]
-- ==== InbKernel.lean ====
abbrev S1x8192x1024 : Shape := ⟨3, ![1, 8192, 1024]⟩
abbrev S1x1024 : Shape := ⟨2, ![1, 1024]⟩
abbrev S1x1024x6144 : Shape := ⟨3, ![1, 1024, 6144]⟩
abbrev S8192x6144 : Shape := ⟨2, ![8192, 6144]⟩
abbrev S8192x1024 : Shape := ⟨2, ![8192, 1024]⟩
abbrev S8x1024 : Shape := ⟨2, ![8, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S_ : Shape := ⟨0, ![]⟩
abbrev S8x128 : Shape := ⟨2, ![8, 128]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 16
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x6144, .f32⟩
  | .hbm, ⟨3, _⟩ => ⟨S8192x6144, .bf16⟩
  | .hbm, ⟨4, _⟩ => ⟨S8192x1024, .f32⟩
  | .hbm, ⟨5, _⟩ => ⟨S8192x1024, .f32⟩
  | .hbm, ⟨6, _⟩ => ⟨S8x1024, .f32⟩
  | .hbm, ⟨7, _⟩ => ⟨S8192x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | .hbm, ⟨12, _⟩ => ⟨S_, .f32⟩
  | .hbm, ⟨13, _⟩ => ⟨S8x128, .f32⟩
  | .hbm, ⟨14, _⟩ => ⟨S8192x1024, .f32⟩
  | .hbm, ⟨15, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v60 : BitVec 1 := Scalar.cmpi .eq arg0 c7_i32
  let v61 : BitVec 32 := Scalar.extui v60
  let c0_i32_36 : BitVec 32 := 0#32
  let v62 : BitVec 1 := Scalar.cmpi .ne v61 c0_i32_36
  v62

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InbReferenceIdeal.lean ====
abbrev S1x8192x1024 : Shape := ⟨3, ![1, 8192, 1024]⟩
abbrev S1x1024 : Shape := ⟨2, ![1, 1024]⟩
abbrev S1x1024x6144 : Shape := ⟨3, ![1, 1024, 6144]⟩
abbrev S8192x6144 : Shape := ⟨2, ![8192, 6144]⟩
abbrev S8192x1024 : Shape := ⟨2, ![8192, 1024]⟩
abbrev S8x1024 : Shape := ⟨2, ![8, 1024]⟩
abbrev S4096x1024 : Shape := ⟨2, ![4096, 1024]⟩
abbrev S1x4096x1024 : Shape := ⟨3, ![1, 4096, 1024]⟩
abbrev S4096x6144 : Shape := ⟨2, ![4096, 6144]⟩
abbrev S1x4096x6144 : Shape := ⟨3, ![1, 4096, 6144]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x6144 : Shape := ⟨2, ![1024, 6144]⟩
abbrev S6144x1024 : Shape := ⟨2, ![6144, 1024]⟩
abbrev S4096 : Shape := ⟨1, ![4096]⟩

abbrev nBuf : Space → Nat
  | .hbm => 73
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x6144, .f32⟩
  | .hbm, ⟨3, _⟩ => ⟨S8192x6144, .bf16⟩
  | .hbm, ⟨4, _⟩ => ⟨S8192x1024, .f32⟩
  | .hbm, ⟨5, _⟩ => ⟨S8192x1024, .f32⟩
  | .hbm, ⟨6, _⟩ => ⟨S8x1024, .f32⟩
  | .hbm, ⟨7, _⟩ => ⟨S4096x1024, .f32⟩
  | .hbm, ⟨8, _⟩ => ⟨S1x4096x1024, .f32⟩
  | .hbm, ⟨9, _⟩ => ⟨S4096x6144, .bf16⟩
  | .hbm, ⟨10, _⟩ => ⟨S1x4096x6144, .bf16⟩
  | .hbm, ⟨11, _⟩ => ⟨S1x4096x6144, .f32⟩
  | .hbm, ⟨12, _⟩ => ⟨S1x4096x1024, .f32⟩
  | .hbm, ⟨13, _⟩ => ⟨S1024, .f32⟩
  | .hbm, ⟨14, _⟩ => ⟨S1x4096x1024, .f32⟩
  | .hbm, ⟨15, _⟩ => ⟨S_, .f32⟩
  | .hbm, ⟨16, _⟩ => ⟨S1x4096, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1, .f32⟩
  | .hbm, ⟨25, _⟩ => ⟨S1x4096x1, .f32⟩
  | .hbm, ⟨26, _⟩ => ⟨S_, .f32⟩
  | .hbm, ⟨27, _⟩ => ⟨S1x4096x1, .f32⟩
  | .hbm, ⟨28, _⟩ => ⟨S1x4096x1, .f32⟩
  | .hbm, ⟨29, _⟩ => ⟨S1x4096x1024, .f32⟩
  | .hbm, ⟨30, _⟩ => ⟨S1x4096x1024, .f32⟩
  | .hbm, ⟨31, _⟩ => ⟨S1x1x1024, .f32⟩
  | .hbm, ⟨32, _⟩ => ⟨S1x4096x1024, .f32⟩
  | .hbm, ⟨33, _⟩ => ⟨S1x4096x1024, .f32⟩
  | .hbm, ⟨34, _⟩ => ⟨S1024x6144, .f32⟩
  | .hbm, ⟨35, _⟩ => ⟨S1x4096x6144, .f32⟩
  | .hbm, ⟨36, _⟩ => ⟨S6144x1024, .f32⟩
  | .hbm, ⟨37, _⟩ => ⟨S1024x6144, .f32⟩
  | .hbm, ⟨38, _⟩ => ⟨S1x4096x1024, .f32⟩
  | .hbm, ⟨39, _⟩ => ⟨S1x1024x6144, .f32⟩
  | .hbm, ⟨40, _⟩ => ⟨S1x4096x1024, .f32⟩
  | .hbm, ⟨41, _⟩ => ⟨S_, .f32⟩
  | .hbm, ⟨42, _⟩ => ⟨S1x1024, .f32⟩
  | .hbm, ⟨43, _⟩ => ⟨S1x1x1024, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1024, .f32⟩
  | .hbm, ⟨48, _⟩ => ⟨S1x4096x1024, .f32⟩
  | .hbm, ⟨49, _⟩ => ⟨S_, .f32⟩
  | .hbm, ⟨50, _⟩ => ⟨S1x4096, .f32⟩
  | .hbm, ⟨51, _⟩ => ⟨S1x4096x1, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1, .f32⟩
  | .hbm, ⟨56, _⟩ => ⟨S_, .f32⟩
  | .hbm, ⟨57, _⟩ => ⟨S1x4096x1, .f32⟩
  | .hbm, ⟨58, _⟩ => ⟨S1x4096x1, .f32⟩
  | .hbm, ⟨59, _⟩ => ⟨S_, .f32⟩
  | .hbm, ⟨60, _⟩ => ⟨S4096, .f32⟩
  | .hbm, ⟨61, _⟩ => ⟨S1x4096, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S8192x1024, .f32⟩
  | .hbm, ⟨71, _⟩ => ⟨S8x1024, .f32⟩
  | .hbm, ⟨72, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== InaKernel.lean ====
abbrev S1x8192x1024 : Shape := ⟨3, ![1, 8192, 1024]⟩
abbrev S1x1024 : Shape := ⟨2, ![1, 1024]⟩
abbrev S1x1024x6144 : Shape := ⟨3, ![1, 1024, 6144]⟩
abbrev S8192x6144 : Shape := ⟨2, ![8192, 6144]⟩
abbrev S8192x1024 : Shape := ⟨2, ![8192, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S_ : Shape := ⟨0, ![]⟩
abbrev S8x128 : Shape := ⟨2, ![8, 128]⟩
abbrev S8x1024 : Shape := ⟨2, ![8, 1024]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S4096x1024 : Shape := ⟨2, ![4096, 1024]⟩

abbrev nBuf : Space → Nat
  | .hbm => 15
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x6144, .f32⟩
  | .hbm, ⟨3, _⟩ => ⟨S8192x6144, .bf16⟩
  | .hbm, ⟨4, _⟩ => ⟨S8192x1024, .f32⟩
  | .hbm, ⟨5, _⟩ => ⟨S8192x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | .hbm, ⟨10, _⟩ => ⟨S_, .f32⟩
  | .hbm, ⟨11, _⟩ => ⟨S8x128, .f32⟩
  | .hbm, ⟨12, _⟩ => ⟨S8192x1024, .f32⟩
  | .hbm, ⟨13, _⟩ => ⟨S8x1024, .f32⟩
  | .hbm, ⟨14, _⟩ => ⟨S4096x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v60 : BitVec 1 := Scalar.cmpi .eq arg0 c7_i32
  let v61 : BitVec 32 := Scalar.extui v60
  let c0_i32_36 : BitVec 32 := 0#32
  let v62 : BitVec 1 := Scalar.cmpi .ne v61 c0_i32_36
  v62

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InaReferenceIdeal.lean ====
abbrev S1x8192x1024 : Shape := ⟨3, ![1, 8192, 1024]⟩
abbrev S1x1024 : Shape := ⟨2, ![1, 1024]⟩
abbrev S1x1024x6144 : Shape := ⟨3, ![1, 1024, 6144]⟩
abbrev S8192x6144 : Shape := ⟨2, ![8192, 6144]⟩
abbrev S8192x1024 : Shape := ⟨2, ![8192, 1024]⟩
abbrev S4096x1024 : Shape := ⟨2, ![4096, 1024]⟩
abbrev S1x4096x1024 : Shape := ⟨3, ![1, 4096, 1024]⟩
abbrev S4096x6144 : Shape := ⟨2, ![4096, 6144]⟩
abbrev S1x4096x6144 : Shape := ⟨3, ![1, 4096, 6144]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x6144 : Shape := ⟨2, ![1024, 6144]⟩
abbrev S6144x1024 : Shape := ⟨2, ![6144, 1024]⟩
abbrev S4096 : Shape := ⟨1, ![4096]⟩
abbrev S8x1024 : Shape := ⟨2, ![8, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x6144, .f32⟩
  | .hbm, ⟨3, _⟩ => ⟨S8192x6144, .bf16⟩
  | .hbm, ⟨4, _⟩ => ⟨S8192x1024, .f32⟩
  | .hbm, ⟨5, _⟩ => ⟨S4096x1024, .f32⟩
  | .hbm, ⟨6, _⟩ => ⟨S1x4096x1024, .f32⟩
  | .hbm, ⟨7, _⟩ => ⟨S4096x6144, .bf16⟩
  | .hbm, ⟨8, _⟩ => ⟨S1x4096x6144, .bf16⟩
  | .hbm, ⟨9, _⟩ => ⟨S1x4096x6144, .f32⟩
  | .hbm, ⟨10, _⟩ => ⟨S1x4096x1024, .f32⟩
  | .hbm, ⟨11, _⟩ => ⟨S1024, .f32⟩
  | .hbm, ⟨12, _⟩ => ⟨S1x4096x1024, .f32⟩
  | .hbm, ⟨13, _⟩ => ⟨S_, .f32⟩
  | .hbm, ⟨14, _⟩ => ⟨S1x4096, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1, .f32⟩
  | .hbm, ⟨23, _⟩ => ⟨S1x4096x1, .f32⟩
  | .hbm, ⟨24, _⟩ => ⟨S_, .f32⟩
  | .hbm, ⟨25, _⟩ => ⟨S1x4096x1, .f32⟩
  | .hbm, ⟨26, _⟩ => ⟨S1x4096x1, .f32⟩
  | .hbm, ⟨27, _⟩ => ⟨S1x4096x1024, .f32⟩
  | .hbm, ⟨28, _⟩ => ⟨S1x4096x1024, .f32⟩
  | .hbm, ⟨29, _⟩ => ⟨S1x1x1024, .f32⟩
  | .hbm, ⟨30, _⟩ => ⟨S1x4096x1024, .f32⟩
  | .hbm, ⟨31, _⟩ => ⟨S1x4096x1024, .f32⟩
  | .hbm, ⟨32, _⟩ => ⟨S1024x6144, .f32⟩
  | .hbm, ⟨33, _⟩ => ⟨S1x4096x6144, .f32⟩
  | .hbm, ⟨34, _⟩ => ⟨S6144x1024, .f32⟩
  | .hbm, ⟨35, _⟩ => ⟨S1024x6144, .f32⟩
  | .hbm, ⟨36, _⟩ => ⟨S1x4096x1024, .f32⟩
  | .hbm, ⟨37, _⟩ => ⟨S1x1024x6144, .f32⟩
  | .hbm, ⟨38, _⟩ => ⟨S1x4096x1024, .f32⟩
  | .hbm, ⟨39, _⟩ => ⟨S_, .f32⟩
  | .hbm, ⟨40, _⟩ => ⟨S1x1024, .f32⟩
  | .hbm, ⟨41, _⟩ => ⟨S1x1x1024, .f32⟩
  | .hbm, ⟨42, _⟩ => ⟨S1x4096x1024, .f32⟩
  | .hbm, ⟨43, _⟩ => ⟨S1x4096x1024, .f32⟩
  | .hbm, ⟨44, _⟩ => ⟨S_, .f32⟩
  | .hbm, ⟨45, _⟩ => ⟨S1024, .f32⟩
  | .hbm, ⟨46, _⟩ => ⟨S1x4096x1024, .f32⟩
  | .hbm, ⟨47, _⟩ => ⟨S_, .f32⟩
  | .hbm, ⟨48, _⟩ => ⟨S1x4096, .f32⟩
  | .hbm, ⟨49, _⟩ => ⟨S1x4096x1, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1, .f32⟩
  | .hbm, ⟨54, _⟩ => ⟨S_, .f32⟩
  | .hbm, ⟨55, _⟩ => ⟨S1x4096x1, .f32⟩
  | .hbm, ⟨56, _⟩ => ⟨S1x4096x1, .f32⟩
  | .hbm, ⟨57, _⟩ => ⟨S_, .f32⟩
  | .hbm, ⟨58, _⟩ => ⟨S4096, .f32⟩
  | .hbm, ⟨59, _⟩ => ⟨S1x4096, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x1024, .f32⟩
  | .hbm, ⟨66, _⟩ => ⟨S4096x1024, .f32⟩
  | .hbm, ⟨67, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Proof.RealLib.lean ====
/-
  Finite values among the extended reals: what every value proof of this certificate needs to leave the extended
  reals for the real numbers and to come back. A sum of real numbers, a quotient by a nonzero real number, the
  reciprocal root of a positive one, the literals of the programs as real numbers, and the reading of a precondition
  that says of an array that all its elements are finite.
-/
module

public import Idealize.ShloMosaic.Lib.Pointwise
public import Idealize.ShloMosaic.Lib.ReduceAll
public import Idealize.ShloMosaic.Lib.KernelVsHost
public import Mathlib.Data.EReal.Operations
public import Mathlib.Tactic.FieldSimp
public import Mathlib.Tactic.Ring
public import Mathlib.Tactic.Positivity

@[expose] public section

set_option maxRecDepth 16384

noncomputable section

namespace Cert.RealLib

open Idealize.ShloMosaic

/-- The sum of real numbers is the same number as their sum among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The ideal quotient of two real numbers, the divisor not zero, is their quotient. -/
theorem div_coe_coe (x y : ℝ) (h : y ≠ 0) : Ideal.div (x : EReal) (y : EReal) = ((x / y : ℝ) : EReal) := by
  rw [Ideal.div_coe h, ← EReal.coe_mul]
  congr 1
  field_simp

/-- The ideal reciprocal root of a positive real number. -/
theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- The square of the reciprocal root of a positive real number is its reciprocal. -/
theorem inv_sqrt_mul_self (x : ℝ) (h : 0 < x) : (Real.sqrt x)⁻¹ * (Real.sqrt x)⁻¹ = x⁻¹ := by
  rw [← mul_inv, Real.mul_self_sqrt h.le]

/-! ## Literals -/

/-- The small number under the root of the root-mean-square norm, the rational of its float32 word. -/
def epsR : ℝ := 8796093 / 8796093022208

theorem epsR_pos : 0 < epsR := by unfold epsR; norm_num

theorem lit_eps : Ideal.ofBits .f32 0x358637BD#32 = ((epsR : ℝ) : EReal) := by
  simp [Ideal.ofBits, Ideal.ieee, epsR]; norm_num [← EReal.coe_mul]
theorem lit_1024 : Ideal.ofBits .f32 0x44800000#32 = ((1024 : ℝ) : EReal) := by
  simp [Ideal.ofBits, Ideal.ieee]; norm_num [← EReal.coe_mul]
theorem lit_inv_1024 : Ideal.ofBits .f32 0x3A800000#32 = ((1 / 1024 : ℝ) : EReal) := by
  simp [Ideal.ofBits, Ideal.ieee]; norm_num [← EReal.coe_mul]
theorem lit_two : Ideal.ofBits .f32 0x40000000#32 = ((2 : ℝ) : EReal) := by
  simp [Ideal.ofBits, Ideal.ieee]; norm_num [← EReal.coe_mul]
theorem lit_half : Ideal.ofBits .f32 0x3F000000#32 = ((1 / 2 : ℝ) : EReal) := by
  simp [Ideal.ofBits, Ideal.ieee]; norm_num [← EReal.coe_mul]
theorem lit_neg_half : Ideal.ofBits .f32 0xBF000000#32 = ((-(1 / 2) : ℝ) : EReal) := by
  simp [Ideal.ofBits, Ideal.ieee]; norm_num [← EReal.coe_mul]
theorem lit_one : Ideal.ofBits .f32 0x3F800000#32 = ((1 : ℝ) : EReal) := by
  simp [Ideal.ofBits, Ideal.ieee]; norm_num [← EReal.coe_mul]
theorem lit_zero : Ideal.ofBits .f32 0x00000000#32 = ((0 : ℝ) : EReal) := by
  simp [Ideal.ofBits, Ideal.ieee]

/-! ## A host sum over axes that are all of size one -/

/-- A host sum over axes of which only one operand element reduces into the result's is that element. -/
theorem hostReduceAdd_one {s t : Shape} {axes : List (Fin s.rank)} (h : s.ReducesTo axes t) (x : s.Idx → EReal) (init : EReal)
    (j : t.Idx) (k : s.Idx) (hk : ∀ i, h.drop i = j ↔ i = k) : Ideal.hostReduceAdd h x init j = init + x k := by
  unfold Ideal.hostReduceAdd
  rw [show Finset.univ.filter (fun i => h.drop i = j) = {k} from Finset.ext fun i => by simp [hk], Finset.sum_singleton]

/-- A host sum of a `1 × n × 1` array over its two axes of size one. -/
theorem hostReduceAdd_unit_02 {n : Nat} (h : (⟨3, ![1, n, 1]⟩ : Shape).ReducesTo [0, 2] ⟨1, ![n]⟩)
    (x : (⟨3, ![1, n, 1]⟩ : Shape).Idx → EReal) (init : EReal) (r : Fin n) :
    Ideal.hostReduceAdd h x init (ix1 r) = init + x (ix3 0 r 0) := by
  refine hostReduceAdd_one h x init _ _ fun i => ?_
  have hv : (h.drop i 0 : Nat) = i 1 := Shape.ReducesTo.drop_apply_val h i 0
  constructor
  · intro e
    have := congrArg (fun k : (⟨1, ![n]⟩ : Shape).Idx => (k 0 : Nat)) e
    funext a
    have h0 : (i 0 : Nat) < 1 := (i 0).isLt
    have h2 : (i 2 : Nat) < 1 := (i 2).isLt
    match a with
    | ⟨0, _⟩ => exact Fin.ext (Nat.lt_one_iff.mp h0)
    | ⟨1, _⟩ => exact Fin.ext (hv.symm.trans this)
    | ⟨2, _⟩ => exact Fin.ext (Nat.lt_one_iff.mp h2)
  · intro e
    subst e
    funext a
    match a with
    | ⟨0, _⟩ => exact Fin.ext hv

/-- A host sum of a `1 × 1 × n` array over its two axes of size one. -/
theorem hostReduceAdd_unit_01 {n : Nat} (h : (⟨3, ![1, 1, n]⟩ : Shape).ReducesTo [0, 1] ⟨1, ![n]⟩)
    (x : (⟨3, ![1, 1, n]⟩ : Shape).Idx → EReal) (init : EReal) (r : Fin n) :
    Ideal.hostReduceAdd h x init (ix1 r) = init + x (ix3 0 0 r) := by
  refine hostReduceAdd_one h x init _ _ fun i => ?_
  have hv : (h.drop i 0 : Nat) = i 2 := Shape.ReducesTo.drop_apply_val h i 0
  constructor
  · intro e
    have := congrArg (fun k : (⟨1, ![n]⟩ : Shape).Idx => (k 0 : Nat)) e
    funext a
    have h0 : (i 0 : Nat) < 1 := (i 0).isLt
    have h1 : (i 1 : Nat) < 1 := (i 1).isLt
    match a with
    | ⟨0, _⟩ => exact Fin.ext (Nat.lt_one_iff.mp h0)
    | ⟨1, _⟩ => exact Fin.ext (Nat.lt_one_iff.mp h1)
    | ⟨2, _⟩ => exact Fin.ext (hv.symm.trans this)
  · intro e
    subst e
    funext a
    match a with
    | ⟨0, _⟩ => exact Fin.ext hv

/-! ## Finite arrays -/

/-- A value whose absolute value compares below infinity is a real number. -/
theorem real_of_abs_lt (x : EReal) (h : Ideal.cmp .olt (max x (-x)) (Ideal.ofBits .f32 0x7F800000#32) = 1#1) :
    ∃ r : ℝ, x = ((r : ℝ) : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- An array of which "every absolute value is below infinity" computes to true is an array of real numbers. -/
theorem real_of_all {s u : Shape} {axes : List (Fin s.rank)} {φ : FTy} (x : FVec Ideal s φ) (b : FVec Ideal s .f32)
    (hb : b = fun _ => Ideal.ofBits .f32 0x7F800000#32) (a : FVec Ideal s .f32) (ha : ∀ i, a i = max (x i : EReal) (-(x i : EReal)))
    (init : u.Idx → BitVec 1) {t : Shape} [Subsingleton t.Idx] (h : s.ReducesTo axes t) (hu : 0 < u.numel) (j : t.Idx)
    (e : Host.reduce IntOp.andi (cmpf .olt a b) init h hu j = 1#1) : ∃ f : s.Idx → ℝ, ∀ i, x i = ((f i : ℝ) : EReal) := by
  have h1 : ∀ i, ∃ r : ℝ, (x i : EReal) = ((r : ℝ) : EReal) := fun i => by
    have := Host.reduce_andi_all _ init h hu j e i
    refine real_of_abs_lt (x i) ?_
    rw [← ha i]
    subst hb
    exact this
  exact ⟨fun i => (h1 i).choose, fun i => (h1 i).choose_spec⟩

end Cert.RealLib
-- ==== Proof.OutMath.lean ====
/-
  The out-projection with the final norm and the loss, in real numbers: the quantities that both programs compute, and
  the one identity by which the two texts of the norm's gradient agree.
-/
module

public import proofs.«01_k».proof.Proof.RealLib

@[expose] public section

noncomputable section

namespace Cert.OutMath

open Cert.RealLib

variable (y : Fin 8192 → Fin 2048 → ℝ) (x t : Fin 8192 → Fin 1024 → ℝ) (w : Fin 2048 → Fin 1024 → ℝ) (g : Fin 1024 → ℝ)

/-- The residual stream after the projection. -/
def X (r : Fin 8192) (d : Fin 1024) : ℝ := x r d + ∑ e, y r e * w e d
/-- The mean square of a row, with the small number under the root. -/
def ms (r : Fin 8192) : ℝ := (∑ d, X y x w r d * X y x w r d) / 1024 + epsR
/-- The reciprocal root mean square. -/
def rs (r : Fin 8192) : ℝ := (Real.sqrt (ms y x w r))⁻¹
/-- The row divided by its root mean square. -/
def nrm (r : Fin 8192) (d : Fin 1024) : ℝ := X y x w r d * rs y x w r
/-- The final output less the target. -/
def diff (r : Fin 8192) (d : Fin 1024) : ℝ := nrm y x w r d * g d - t r d
/-- The loss gradient at the final output. -/
def dout (r : Fin 8192) (d : Fin 1024) : ℝ := diff y x t w g r d * (1 / 1024)
/-- The gradient at the normalised row. -/
def dn (r : Fin 8192) (d : Fin 1024) : ℝ := dout y x t w g r d * g d
/-- The gradient at the residual stream: the gradient of the root-mean-square norm. -/
def dx (r : Fin 8192) (d : Fin 1024) : ℝ :=
  rs y x w r * (dn y x t w g r d - nrm y x w r d * ((∑ k, dn y x t w g r k * nrm y x w r k) / 1024))

theorem ms_pos (r : Fin 8192) : 0 < ms y x w r := by
  have h : 0 ≤ ∑ d, X y x w r d * X y x w r d := Finset.sum_nonneg fun d _ => mul_self_nonneg _
  have := epsR_pos
  unfold ms
  positivity

/-- The gradient of the norm as differentiation of the root gives it, two equal terms from the square: the same number. -/
theorem dx_eq (r : Fin 8192) (d : Fin 1024) :
    dn y x t w g r d * rs y x w r
      + X y x w r d * ((∑ k, X y x w r k * dn y x t w g r k) * (-(1 / 2) * (rs y x w r / ms y x w r)) / 1024)
      + ((∑ k, X y x w r k * dn y x t w g r k) * (-(1 / 2) * (rs y x w r / ms y x w r)) / 1024) * X y x w r d
    = dx y x t w g r d := by
  have hm := (ms_pos y x w r).ne'
  have h2 : rs y x w r * rs y x w r = (ms y x w r)⁻¹ := inv_sqrt_mul_self _ (ms_pos y x w r)
  have hs : ∑ k, dn y x t w g r k * nrm y x w r k = (∑ k, X y x w r k * dn y x t w g r k) * rs y x w r := by
    rw [Finset.sum_mul]
    exact Finset.sum_congr rfl fun k _ => by unfold nrm; ring
  unfold dx
  rw [hs, div_eq_mul_inv (rs y x w r) (ms y x w r), ← h2]
  unfold nrm
  ring

end Cert.OutMath
-- ==== Proof.OutPay.lean ====
/-
  The out-projection kernel's payloads in real numbers: on the rows `ρ r` of a tile each payload is the quantity of
  `OutMath` on those rows.
-/
module

public import proofs.«01_k».proof.Proof.OutMath
public import proofs.«01_k».proof.Proof.Gen.OutKernelIdeal.Value
public import Idealize.ShloMosaic.Lib.Pointwise

@[expose] public section

set_option maxRecDepth 16384

noncomputable section

namespace Cert.OutPay

open Cert.OutKernelIdeal Cert.OutKernelIdeal.Gen Cert.RealLib Idealize.ShloMosaic Idealize.ShloMosaic.TcCoe Idealize.SL.Sem

variable {y : Fin 8192 → Fin 2048 → ℝ} {x t : Fin 8192 → Fin 1024 → ℝ} {w : Fin 2048 → Fin 1024 → ℝ} {g : Fin 1024 → ℝ}
variable {ρ : Fin 512 → Fin 8192}
variable {b0 : Vec Ideal S512x2048 .bf16} {b1 b2 : Vec Ideal S512x1024 .f32}
variable {w0 w1 w2 w3 : Vec Ideal S1x512x1024 .bf16} {b4 : Vec Ideal S1x1024 .f32}

/-- A sum over 2048 is the sum of its four runs of 512. -/
theorem sum_four (f : Fin 2048 → ℝ) :
    ∑ e, f e = ((∑ e : Fin 512, f ⟨e.val, by omega⟩ + ∑ e : Fin 512, f ⟨512 + e.val, by omega⟩)
      + ∑ e : Fin 512, f ⟨1024 + e.val, by omega⟩) + ∑ e : Fin 512, f ⟨1536 + e.val, by omega⟩ := by
  rw [Fin.sum_univ_add (a := 1536) (b := 512) f, Fin.sum_univ_add (a := 1024) (b := 512) fun i => f (Fin.castAdd 512 i),
    Fin.sum_univ_add (a := 512) (b := 512) fun i => f (Fin.castAdd 512 (Fin.castAdd 512 i))]
  rfl

/-- The residual stream after the projection, from the four column runs. -/
theorem pay8 (h0 : ∀ r e, b0 (ix2 r e) = ((y (ρ r) e : ℝ) : EReal)) (h1 : ∀ r d, b1 (ix2 r d) = ((x (ρ r) d : ℝ) : EReal))
    (hw0 : ∀ e d, w0 (ix3 0 e d) = ((w ⟨e.val, by omega⟩ d : ℝ) : EReal))
    (hw1 : ∀ e d, w1 (ix3 0 e d) = ((w ⟨512 + e.val, by omega⟩ d : ℝ) : EReal))
    (hw2 : ∀ e d, w2 (ix3 0 e d) = ((w ⟨1024 + e.val, by omega⟩ d : ℝ) : EReal))
    (hw3 : ∀ e d, w3 (ix3 0 e d) = ((w ⟨1536 + e.val, by omega⟩ d : ℝ) : EReal)) (r : Fin 512) (d : Fin 1024) :
    k0_pay8 (F := Ideal) b0 b1 w0 w1 w2 w3 (ix2 r d) = ((OutMath.X y x w (ρ r) d : ℝ) : EReal) := by
  pointwise [k0_pay8]
  simp only [h0, h1, hw0, hw1, hw2, hw3, ← EReal.coe_mul, ← EReal.coe_add, coe_sum]
  unfold OutMath.X
  rw [sum_four]
  congr 1
  ring

/-- The mean square, as the kernel's column vector. -/
theorem pay9 (h8 : ∀ r d, k0_pay8 (F := Ideal) b0 b1 w0 w1 w2 w3 (ix2 r d) = ((OutMath.X y x w (ρ r) d : ℝ) : EReal))
    (r : Fin 512) : k0_pay9 (F := Ideal) b0 b1 w0 w1 w2 w3 (ix2 r 0) = ((OutMath.ms y x w (ρ r) : ℝ) : EReal) := by
  pointwise [k0_pay9]
  simp only [h8, lit_eps, lit_1024, ← EReal.coe_mul, ← EReal.coe_add, coe_sum]
  rw [div_coe_coe _ _ (by norm_num), ← EReal.coe_add]
  rfl

section
variable {X : FVec Ideal S512x1024 .f32} {M : FVec Ideal S512x1 .f32}
variable (hX : ∀ r d, X (ix2 r d) = ((OutMath.X y x w (ρ r) d : ℝ) : EReal))
variable (hM : ∀ r, M (ix2 r 0) = ((OutMath.ms y x w (ρ r) : ℝ) : EReal))
variable (ht : ∀ r d, b2 (ix2 r d) = ((t (ρ r) d : ℝ) : EReal)) (hg : ∀ d, b4 (ix2 0 d) = ((g d : ℝ) : EReal))

include hM in
theorem pay10 (r : Fin 512) : k0_pay10 (F := Ideal) M (ix2 r 0) = ((OutMath.rs y x w (ρ r) : ℝ) : EReal) := by
  pointwise [k0_pay10]
  rw [hM, rsqrt_pos _ (OutMath.ms_pos y x w (ρ r))]
  rfl

include hX hM in
theorem pay11 (r : Fin 512) (d : Fin 1024) :
    k0_pay11 (F := Ideal) X M (ix2 r d) = ((OutMath.nrm y x w (ρ r) d : ℝ) : EReal) := by
  pointwise [k0_pay11]
  rw [hX, pay10 hM, ← EReal.coe_mul]
  rfl

include hg in
theorem pay12 (d : Fin 1024) : k0_pay12 (F := Ideal) b4 (ix2 0 d) = ((g d : ℝ) : EReal) := by
  pointwise [k0_pay12]
  rw [hg]

include hX hM ht hg in
theorem pay13 (r : Fin 512) (d : Fin 1024) :
    k0_pay13 (F := Ideal) X M b4 b2 (ix2 r d) = ((OutMath.diff y x t w g (ρ r) d : ℝ) : EReal) := by
  pointwise [k0_pay13]
  rw [pay11 hX hM, pay12 hg, ht, ← EReal.coe_mul, ← EReal.coe_sub]
  rfl

include hX hM ht hg in
theorem pay15 (r : Fin 512) (d : Fin 1024) :
    k0_pay15 (F := Ideal) X M b4 b2 (ix2 r d) = ((OutMath.dout y x t w g (ρ r) d : ℝ) : EReal) := by
  pointwise [k0_pay15]
  rw [pay13 hX hM ht hg, lit_inv_1024, ← EReal.coe_mul]
  rfl

include hX hM ht hg in
/-- The gradient at the residual stream. -/
theorem pay17 (r : Fin 512) (d : Fin 1024) :
    k0_pay17 (F := Ideal) X M b4 b2 (ix2 r d) = ((OutMath.dx y x t w g (ρ r) d : ℝ) : EReal) := by
  pointwise [k0_pay17]
  simp only [pay15 hX hM ht hg, pay10 hM, pay11 hX hM, pay12 hg, lit_1024, ← EReal.coe_mul, coe_sum]
  rw [div_coe_coe _ _ (by norm_num), ← EReal.coe_mul, ← EReal.coe_sub, ← EReal.coe_mul]
  rfl

include hX hM ht hg in
/-- One tile's addition to the squared errors: row `j` takes every eighth row of the tile. -/
theorem pay14 (acc : Vec Ideal S8x1024 .f32) (j : Fin 8) (d : Fin 1024) :
    k0_pay14 (F := Ideal) X M b4 b2 acc (ix2 j d) = acc (ix2 j d)
      + ((∑ q : Fin 64, OutMath.diff y x t w g (ρ ⟨q.val * 8 + j.val, by omega⟩) d
            * OutMath.diff y x t w g (ρ ⟨q.val * 8 + j.val, by omega⟩) d : ℝ) : EReal) := by
  pointwise [k0_pay14]
  simp only [pay13 hX hM ht hg, ← EReal.coe_mul, coe_sum]

include hX hM ht hg in
/-- One tile's addition to the gradient of the final gain, eight partial sums. -/
theorem pay16 (acc : Vec Ideal S8x1024 .f32) (j : Fin 8) (d : Fin 1024) :
    k0_pay16 (F := Ideal) X M b4 b2 acc (ix2 j d) = acc (ix2 j d)
      + ((∑ q : Fin 64, OutMath.dout y x t w g (ρ ⟨q.val * 8 + j.val, by omega⟩) d
            * OutMath.nrm y x w (ρ ⟨q.val * 8 + j.val, by omega⟩) d : ℝ) : EReal) := by
  pointwise [k0_pay16]
  simp only [pay15 hX hM ht hg, pay11 hX hM, ← EReal.coe_mul, coe_sum]
end

/-- The eight partial sums, summed and repeated on every row. -/
theorem pay4 (a : Vec Ideal S8x1024 .f32) (j : Fin 8) (d : Fin 1024) :
    k0_pay4 (F := Ideal) a (ix2 j d) = ∑ k : Fin 8, a (ix2 k d) := by
  pointwise [k0_pay4]

section
variable {D : FVec Ideal S512x1024 .f32} {D' : FVec Ideal S512x1024 .bf16}
variable (hD : ∀ r d, D (ix2 r d) = ((OutMath.dx y x t w g (ρ r) d : ℝ) : EReal))

include hD in
theorem pay18 (r : Fin 512) (d : Fin 1024) :
    k0_pay18 (F := Ideal) D (ix2 r d) = ((OutMath.dx y x t w g (ρ r) d : ℝ) : EReal) := by
  pointwise [k0_pay18]
  rw [hD]

include hD in
theorem pay19 (hw0 : ∀ e d, w0 (ix3 0 e d) = ((w ⟨e.val, by omega⟩ d : ℝ) : EReal)) (r e : Fin 512) :
    k0_pay19 (F := Ideal) D w0 (ix2 r e)
      = ((∑ d, OutMath.dx y x t w g (ρ r) d * w ⟨e.val, by omega⟩ d : ℝ) : EReal) := by
  pointwise [k0_pay19]
  simp only [pay18 hD, hw0, ← EReal.coe_mul, coe_sum]

include hD in
theorem pay21 (hw1 : ∀ e d, w1 (ix3 0 e d) = ((w ⟨512 + e.val, by omega⟩ d : ℝ) : EReal)) (r e : Fin 512) :
    k0_pay21 (F := Ideal) D w1 (ix2 r e)
      = ((∑ d, OutMath.dx y x t w g (ρ r) d * w ⟨512 + e.val, by omega⟩ d : ℝ) : EReal) := by
  pointwise [k0_pay21]
  simp only [pay18 hD, hw1, ← EReal.coe_mul, coe_sum]

include hD in
theorem pay23 (hw2 : ∀ e d, w2 (ix3 0 e d) = ((w ⟨1024 + e.val, by omega⟩ d : ℝ) : EReal)) (r e : Fin 512) :
    k0_pay23 (F := Ideal) D w2 (ix2 r e)
      = ((∑ d, OutMath.dx y x t w g (ρ r) d * w ⟨1024 + e.val, by omega⟩ d : ℝ) : EReal) := by
  pointwise [k0_pay23]
  simp only [pay18 hD, hw2, ← EReal.coe_mul, coe_sum]

include hD in
theorem pay2 (hw3 : ∀ e d, w3 (ix3 0 e d) = ((w ⟨1536 + e.val, by omega⟩ d : ℝ) : EReal)) (r e : Fin 512) :
    k0_pay2 (F := Ideal) (k0_pay18 D) w3 (ix2 r e)
      = ((∑ d, OutMath.dx y x t w g (ρ r) d * w ⟨1536 + e.val, by omega⟩ d : ℝ) : EReal) := by
  pointwise [k0_pay2]
  simp only [pay18 hD, hw3, ← EReal.coe_mul, coe_sum]

variable (h0 : ∀ r e, b0 (ix2 r e) = ((y (ρ r) e : ℝ) : EReal))

include hD h0 in
theorem pay20 (acc : Vec Ideal S512x1024 .f32) (e : Fin 512) (d : Fin 1024) :
    k0_pay20 (F := Ideal) b0 D acc (ix2 e d) = acc (ix2 e d)
      + ((∑ r : Fin 512, y (ρ r) ⟨e.val, by omega⟩ * OutMath.dx y x t w g (ρ r) d : ℝ) : EReal) := by
  pointwise [k0_pay20]
  simp only [pay18 hD, h0, ← EReal.coe_mul, coe_sum]

include hD h0 in
theorem pay22 (acc : Vec Ideal S512x1024 .f32) (e : Fin 512) (d : Fin 1024) :
    k0_pay22 (F := Ideal) b0 D acc (ix2 e d) = acc (ix2 e d)
      + ((∑ r : Fin 512, y (ρ r) ⟨512 + e.val, by omega⟩ * OutMath.dx y x t w g (ρ r) d : ℝ) : EReal) := by
  pointwise [k0_pay22]
  simp only [pay18 hD, h0, ← EReal.coe_mul, coe_sum]

include hD h0 in
theorem pay1 (acc : Vec Ideal S512x1024 .f32) (e : Fin 512) (d : Fin 1024) :
    k0_pay1 (F := Ideal) b0 (k0_pay18 D) acc (ix2 e d) = acc (ix2 e d)
      + ((∑ r : Fin 512, y (ρ r) ⟨1024 + e.val, by omega⟩ * OutMath.dx y x t w g (ρ r) d : ℝ) : EReal) := by
  pointwise [k0_pay1]
  simp only [pay18 hD, h0, ← EReal.coe_mul, coe_sum]

include hD h0 in
theorem pay3 (acc : Vec Ideal S512x1024 .f32) (e : Fin 512) (d : Fin 1024) :
    k0_pay3 (F := Ideal) b0 (k0_pay18 D) acc (ix2 e d) = acc (ix2 e d)
      + ((∑ r : Fin 512, y (ρ r) ⟨1536 + e.val, by omega⟩ * OutMath.dx y x t w g (ρ r) d : ℝ) : EReal) := by
  pointwise [k0_pay3]
  simp only [pay18 hD, h0, ← EReal.coe_mul, coe_sum]
end

/-- The zero blocks. -/
theorem pay5 (i : S2048x1024.Idx) : k0_pay5 (F := Ideal) i = 0 := by
  unfold k0_pay5
  exact lit_zero
theorem pay6 (i : S8x1024.Idx) : k0_pay6 (F := Ideal) i = 0 := by
  unfold k0_pay6
  exact lit_zero
theorem pay7 (i : S8x1024.Idx) : k0_pay7 (F := Ideal) i = 0 := by
  unfold k0_pay7
  exact lit_zero

end Cert.OutPay
-- ==== Proof.OutBlocks.lean ====
/-
  The out-projection kernel's input blocks: what each window holds at tile `t`, as entries of @main's arguments.
-/
module

public import proofs.«01_k».proof.Proof.OutPay
public import Idealize.ShloMosaic.Lib.Pipeline.ValueKit
public import Idealize.ShloMosaic.Lib.Pipeline.ReadBack

@[expose] public section

set_option maxRecDepth 16384

noncomputable section

namespace Cert.OutBlocks

open Cert.OutKernelIdeal Cert.OutKernelIdeal.Gen Cert.RealLib Idealize.ShloMosaic Idealize.ShloMosaic.TcCoe Idealize.SL.Sem

/-! ## The host's changes of shape, at an index -/

theorem cast_x (A : Vec Ideal S1x8192x1024 .f32) (r : Fin 8192) (d : Fin 1024) :
    shapeCast S8192x1024 A shapeCasts_S1x8192x1024_S8192x1024 (ix2 r d) = A (ix3 0 r d) := by
  pointwise [id]

theorem cast_w (A : Vec Ideal S1x2048x1024 .f32) (k : Fin 4) (r : Fin 512) (d : Fin 1024) :
    truncf (F := Ideal) .bf16 (shapeCast S4x512x1024 (shapeCast S2048x1024 A shapeCasts_S1x2048x1024_S2048x1024 : Vec Ideal S2048x1024 .f32)
      shapeCasts_S2048x1024_S4x512x1024 : Vec Ideal S4x512x1024 .f32) bitsLt_bf16_f32 (ix3 k r d)
      = A (ix3 0 ⟨k.val * 512 + r.val, by omega⟩ d) := by
  pointwise [id]

theorem cast_g (A : Vec Ideal S1024 .f32) (d : Fin 1024) :
    shapeCast S1x1024 A shapeCasts_S1024_S1x1024 (ix2 0 d) = A (ix1 d) := by
  pointwise [id]

/-! ## The weight's four slices, at an index -/

theorem ld0 (X : Vec Ideal S4x512x1024 .bf16) (r : Fin 512) (d : Fin 1024) :
    View.ld X (Rect.unit ![0, 0, 0] ![1, 512, 1024] inb_S4x512x1024_S1x512x1024_0_0_0) (ix3 0 r d) = X (ix3 0 r d) := by
  pointwise []
theorem ld1 (X : Vec Ideal S4x512x1024 .bf16) (r : Fin 512) (d : Fin 1024) :
    View.ld X (Rect.unit ![1, 0, 0] ![1, 512, 1024] inb_S4x512x1024_S1x512x1024_1_0_0) (ix3 0 r d) = X (ix3 1 r d) := by
  pointwise []
theorem ld2 (X : Vec Ideal S4x512x1024 .bf16) (r : Fin 512) (d : Fin 1024) :
    View.ld X (Rect.unit ![2, 0, 0] ![1, 512, 1024] inb_S4x512x1024_S1x512x1024_2_0_0) (ix3 0 r d) = X (ix3 2 r d) := by
  pointwise []
theorem ld3 (X : Vec Ideal S4x512x1024 .bf16) (r : Fin 512) (d : Fin 1024) :
    View.ld X (Rect.unit ![3, 0, 0] ![1, 512, 1024] inb_S4x512x1024_S1x512x1024_3_0_0) (ix3 0 r d) = X (ix3 3 r d) := by
  pointwise []

/-! ## The windows -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0, 0] := by decide +kernel
theorem idx4 : ∀ t : Fin cfg0.N, win0_4.index t = ![0, 0] := by decide +kernel

/-- Row `r` of tile `t`. -/
def row (t : Fin cfg0.N) (r : Fin 512) : Fin 8192 :=
  ⟨t.val * 512 + r.val, by have := t.isLt; have : cfg0.N = 16 := N_0; omega⟩

variable (m : (ℓ : Loc nD τ sig) → Buf (Elt Ideal) ℓ) (c : Dev nD) (t : Fin cfg0.N)

theorem V3 (r : Fin 8192) (d : Fin 1024) : V m c main_v3 (ix2 r d) = m (c, Proc.tc.devRef main_arg1) (ix3 0 r d) := by
  unfold_abbrev_sides
  after_results
  exact cast_x _ r d

theorem V4 (r : Fin 8192) (d : Fin 1024) : V m c main_v4 (ix2 r d) = m (c, Proc.tc.devRef main_arg2) (ix3 0 r d) := by
  unfold_abbrev_sides
  after_results
  exact cast_x _ r d

theorem V2 (k : Fin 4) (r : Fin 512) (d : Fin 1024) :
    V m c main_v2 (ix3 k r d) = m (c, Proc.tc.devRef main_arg3) (ix3 0 ⟨k.val * 512 + r.val, by omega⟩ d) := by
  unfold_abbrev_sides
  after_results
  exact cast_w _ k r d

theorem V5 (d : Fin 1024) : V m c main_v5 (ix2 0 d) = m (c, Proc.tc.devRef main_arg4) (ix1 d) := by
  unfold_abbrev_sides
  after_results
  exact cast_g _ d

theorem blk0 (r : Fin 512) (e : Fin 2048) :
    iblk m c 0 t (ix2 r e) = m (c, Proc.tc.devRef main_arg0) (ix2 (row t r) e) := by
  blk_ext [iblk, V, idx0 t, row]

theorem blk1 (r : Fin 512) (d : Fin 1024) :
    iblk m c 1 t (ix2 r d) = m (c, Proc.tc.devRef main_arg1) (ix3 0 (row t r) d) := by
  refine Eq.trans ?_ (V3 m c (row t r) d)
  generalize hV : V m c main_v3 = X
  blk_ext [iblk, hV, idx1 t, row]

theorem blk2 (r : Fin 512) (d : Fin 1024) :
    iblk m c 2 t (ix2 r d) = m (c, Proc.tc.devRef main_arg2) (ix3 0 (row t r) d) := by
  refine Eq.trans ?_ (V4 m c (row t r) d)
  generalize hV : V m c main_v4 = X
  blk_ext [iblk, hV, idx2 t, row]

theorem blk3 (k : Fin 4) (r : Fin 512) (d : Fin 1024) :
    iblk m c 3 t (ix3 k r d) = m (c, Proc.tc.devRef main_arg3) (ix3 0 ⟨k.val * 512 + r.val, by omega⟩ d) := by
  refine Eq.trans ?_ (V2 m c k r d)
  generalize hV : V m c main_v2 = X
  blk_ext [iblk, hV, idx3 t]

theorem blk4 (d : Fin 1024) : iblk m c 4 t (ix2 0 d) = m (c, Proc.tc.devRef main_arg4) (ix1 d) := by
  refine Eq.trans ?_ (V5 m c d)
  generalize hV : V m c main_v5 = X
  blk_ext [iblk, hV, idx4 t]

end Cert.OutBlocks
-- ==== Proof.OutOuts.lean ====
/-
  What the out-projection kernel leaves in its output blocks at each tile, in real numbers.
-/
module

public import proofs.«01_k».proof.Proof.OutBlocks

@[expose] public section

set_option maxRecDepth 16384

noncomputable section

namespace Cert.OutOuts

open Cert.OutKernelIdeal Cert.OutKernelIdeal.Gen Cert.RealLib Cert.OutBlocks Idealize.ShloMosaic Idealize.ShloMosaic.TcCoe Idealize.SL.Sem

variable (m : (ℓ : Loc nD τ sig) → Buf (Elt Ideal) ℓ) (c : Dev nD)

/-- The arguments on device `c` hold the real arrays `y`, `x`, `t`, `w`, `g`. -/
structure Holds (y : Fin 8192 → Fin 2048 → ℝ) (x t : Fin 8192 → Fin 1024 → ℝ) (w : Fin 2048 → Fin 1024 → ℝ) (g : Fin 1024 → ℝ) : Prop where
  y : ∀ r e, (m (c, Proc.tc.devRef main_arg0) : Vec Ideal S8192x2048 .bf16) (ix2 r e) = ((y r e : ℝ) : EReal)
  x : ∀ r d, (m (c, Proc.tc.devRef main_arg1) : Vec Ideal S1x8192x1024 .f32) (ix3 0 r d) = ((x r d : ℝ) : EReal)
  t : ∀ r d, (m (c, Proc.tc.devRef main_arg2) : Vec Ideal S1x8192x1024 .f32) (ix3 0 r d) = ((t r d : ℝ) : EReal)
  w : ∀ e d, (m (c, Proc.tc.devRef main_arg3) : Vec Ideal S1x2048x1024 .f32) (ix3 0 e d) = ((w e d : ℝ) : EReal)
  g : ∀ d, (m (c, Proc.tc.devRef main_arg4) : Vec Ideal S1024 .f32) (ix1 d) = ((g d : ℝ) : EReal)

variable {m c} {y : Fin 8192 → Fin 2048 → ℝ} {x t : Fin 8192 → Fin 1024 → ℝ} {w : Fin 2048 → Fin 1024 → ℝ} {g : Fin 1024 → ℝ}

/-- A block of a matrix, its index placed: the offsets plus the index. -/
theorem emb_ix2 {A B a b o q : ℕ} (inb : ∀ k, ![o, q] k + ![a, b] k ≤ (⟨2, ![A, B]⟩ : Shape).size k) (i : Fin a) (j : Fin b) :
    (Rect.unit (s := ⟨2, ![A, B]⟩) ![o, q] ![a, b] inb).emb (ix2 i j)
      = ix2 ⟨o + i.val, by have := inb 0; have := i.isLt; simp at *; omega⟩ ⟨q + j.val, by have := inb 1; have := j.isLt; simp at *; omega⟩ := by
  funext k
  apply Fin.ext
  rw [ValueKit.rect_emb_unit_val]
  match k with
  | ⟨0, _⟩ => rfl
  | ⟨1, _⟩ => rfl

section
variable (h : Holds m c y x t w g) (p : Fin cfg0.N)

/-- The tile's residual stream, mean square and gradient as the kernel's payloads over the tile's input blocks. -/
abbrev tileX : FVec Ideal S512x1024 .f32 :=
  k0_pay8 (F := Ideal) (iblk m c 0 p) (iblk m c 1 p)
    (View.ld (iblk m c 3 p) (Rect.unit ![0, 0, 0] ![1, 512, 1024] inb_S4x512x1024_S1x512x1024_0_0_0))
    (View.ld (iblk m c 3 p) (Rect.unit ![1, 0, 0] ![1, 512, 1024] inb_S4x512x1024_S1x512x1024_1_0_0))
    (View.ld (iblk m c 3 p) (Rect.unit ![2, 0, 0] ![1, 512, 1024] inb_S4x512x1024_S1x512x1024_2_0_0))
    (View.ld (iblk m c 3 p) (Rect.unit ![3, 0, 0] ![1, 512, 1024] inb_S4x512x1024_S1x512x1024_3_0_0))
abbrev tileM : FVec Ideal S512x1 .f32 :=
  k0_pay9 (F := Ideal) (iblk m c 0 p) (iblk m c 1 p)
    (View.ld (iblk m c 3 p) (Rect.unit ![0, 0, 0] ![1, 512, 1024] inb_S4x512x1024_S1x512x1024_0_0_0))
    (View.ld (iblk m c 3 p) (Rect.unit ![1, 0, 0] ![1, 512, 1024] inb_S4x512x1024_S1x512x1024_1_0_0))
    (View.ld (iblk m c 3 p) (Rect.unit ![2, 0, 0] ![1, 512, 1024] inb_S4x512x1024_S1x512x1024_2_0_0))
    (View.ld (iblk m c 3 p) (Rect.unit ![3, 0, 0] ![1, 512, 1024] inb_S4x512x1024_S1x512x1024_3_0_0))

include h

theorem b0 (r : Fin 512) (e : Fin 2048) : iblk m c 0 p (ix2 r e) = ((y (row p r) e : ℝ) : EReal) := (blk0 m c p r e).trans (h.y _ _)
theorem b1 (r : Fin 512) (d : Fin 1024) : iblk m c 1 p (ix2 r d) = ((x (row p r) d : ℝ) : EReal) := (blk1 m c p r d).trans (h.x _ _)
theorem b2 (r : Fin 512) (d : Fin 1024) : iblk m c 2 p (ix2 r d) = ((t (row p r) d : ℝ) : EReal) := (blk2 m c p r d).trans (h.t _ _)
theorem b4 (d : Fin 1024) : iblk m c 4 p (ix2 0 d) = ((g d : ℝ) : EReal) := (blk4 m c p d).trans (h.g _)
theorem s0 (e : Fin 512) (d : Fin 1024) :
    View.ld (iblk m c 3 p) (Rect.unit ![0, 0, 0] ![1, 512, 1024] inb_S4x512x1024_S1x512x1024_0_0_0) (ix3 0 e d)
      = ((w ⟨e.val, by omega⟩ d : ℝ) : EReal) := by
  refine ((ld0 _ e d).trans (blk3 m c p 0 e d)).trans ((h.w _ d).trans ?_)
  congr 3; simp
theorem s1 (e : Fin 512) (d : Fin 1024) :
    View.ld (iblk m c 3 p) (Rect.unit ![1, 0, 0] ![1, 512, 1024] inb_S4x512x1024_S1x512x1024_1_0_0) (ix3 0 e d)
      = ((w ⟨512 + e.val, by omega⟩ d : ℝ) : EReal) :=
  ((ld1 _ e d).trans (blk3 m c p 1 e d)).trans (h.w _ d)
theorem s2 (e : Fin 512) (d : Fin 1024) :
    View.ld (iblk m c 3 p) (Rect.unit ![2, 0, 0] ![1, 512, 1024] inb_S4x512x1024_S1x512x1024_2_0_0) (ix3 0 e d)
      = ((w ⟨1024 + e.val, by omega⟩ d : ℝ) : EReal) :=
  ((ld2 _ e d).trans (blk3 m c p 2 e d)).trans (h.w _ d)
theorem s3 (e : Fin 512) (d : Fin 1024) :
    View.ld (iblk m c 3 p) (Rect.unit ![3, 0, 0] ![1, 512, 1024] inb_S4x512x1024_S1x512x1024_3_0_0) (ix3 0 e d)
      = ((w ⟨1536 + e.val, by omega⟩ d : ℝ) : EReal) :=
  ((ld3 _ e d).trans (blk3 m c p 3 e d)).trans (h.w _ d)

theorem hX (r : Fin 512) (d : Fin 1024) : tileX (m := m) (c := c) p (ix2 r d) = ((OutMath.X y x w (row p r) d : ℝ) : EReal) :=
  OutPay.pay8 (b0 h p) (b1 h p) (s0 h p) (s1 h p) (s2 h p) (s3 h p) r d
theorem hM (r : Fin 512) : tileM (m := m) (c := c) p (ix2 r 0) = ((OutMath.ms y x w (row p r) : ℝ) : EReal) :=
  OutPay.pay9 (hX h p) r
theorem hD (r : Fin 512) (d : Fin 1024) :
    k0_pay17 (F := Ideal) (tileX (m := m) (c := c) p) (tileM (m := m) (c := c) p) (iblk m c 4 p) (iblk m c 2 p) (ix2 r d)
      = ((OutMath.dx y x t w g (row p r) d : ℝ) : EReal) :=
  OutPay.pay17 (hX h p) (hM h p) (b2 h p) (b4 h p) r d

/-- The gradient's tile. -/
theorem out_dx (r : Fin 512) (d : Fin 1024) :
    (outsAt0 m c p.val p.isLt).1 (ix2 r d) = ((OutMath.dx y x t w g (row p r) d : ℝ) : EReal) := by
  by_cases h0 : p.val % 16 = 0
  · rw [outsAt0_A m c p h0 (by omega)]
    frame_out
    exact hD h p r d
  · by_cases h1 : p.val % 16 = 15
    · rw [outsAt0_C m c p h0 h1]
      frame_out
      exact hD h p r d
    · rw [outsAt0_B m c p h0 h1]
      frame_out
      exact hD h p r d

/-- The four column blocks of the gradient at the projection's input, laid side by side. -/
theorem cols {D : FVec Ideal S512x1024 .f32} (hD : ∀ r d, D (ix2 r d) = ((OutMath.dx y x t w g (row p r) d : ℝ) : EReal))
    (r : Fin 512) (e : Fin 2048) :
    View.canon (Val := Elt Ideal) (e := .bf16)
      [⟨Rect.unit ![0, 1536] ![512, 512] inb_S512x2048_S512x512_0_1536,
          k0_pay2 (k0_pay18 D) (View.ld (iblk m c 3 p) (Rect.unit ![3, 0, 0] ![1, 512, 1024] inb_S4x512x1024_S1x512x1024_3_0_0))⟩,
        ⟨Rect.unit ![0, 1024] ![512, 512] inb_S512x2048_S512x512_0_1024,
          k0_pay23 D (View.ld (iblk m c 3 p) (Rect.unit ![2, 0, 0] ![1, 512, 1024] inb_S4x512x1024_S1x512x1024_2_0_0))⟩,
        ⟨Rect.unit ![0, 512] ![512, 512] inb_S512x2048_S512x512_0_512,
          k0_pay21 D (View.ld (iblk m c 3 p) (Rect.unit ![1, 0, 0] ![1, 512, 1024] inb_S4x512x1024_S1x512x1024_1_0_0))⟩,
        ⟨Rect.unit ![0, 0] ![512, 512] inb_S512x2048_S512x512_0_0,
          k0_pay19 D (View.ld (iblk m c 3 p) (Rect.unit ![0, 0, 0] ![1, 512, 1024] inb_S4x512x1024_S1x512x1024_0_0_0))⟩]
      (ix2 r e) = ((∑ d, OutMath.dx y x t w g (row p r) d * w e d : ℝ) : EReal) := by
  refine View.canon_append_of_piecesOf (Val := Elt Ideal) (e := .bf16)
    (fun i : S512x2048.Idx => ((∑ d, OutMath.dx y x t w g (row p (i 0)) d * w (i 1) d : ℝ) : EReal)) [] [_, _, _, _]
    ⟨fun k => ?_, fun k => ?_, fun k => ?_, fun k => ?_, trivial⟩ (ix2 r e) (View.cover_of_tiledL _ ![512, 512] (by sl_kernel_rfl) _)
  · obtain ⟨i, j, rfl⟩ : ∃ i j : Fin 512, k = ix2 i j := ⟨k 0, k 1, eq_ix2 k⟩
    dsimp only
    rw [emb_ix2, OutPay.pay2 hD (s3 h p)]
    simp
  · obtain ⟨i, j, rfl⟩ : ∃ i j : Fin 512, k = ix2 i j := ⟨k 0, k 1, eq_ix2 k⟩
    dsimp only
    rw [emb_ix2, OutPay.pay23 hD (s2 h p)]
    simp
  · obtain ⟨i, j, rfl⟩ : ∃ i j : Fin 512, k = ix2 i j := ⟨k 0, k 1, eq_ix2 k⟩
    dsimp only
    rw [emb_ix2, OutPay.pay21 hD (s1 h p)]
    simp
  · obtain ⟨i, j, rfl⟩ : ∃ i j : Fin 512, k = ix2 i j := ⟨k 0, k 1, eq_ix2 k⟩
    dsimp only
    rw [emb_ix2, OutPay.pay19 hD (s0 h p)]
    simp

/-- The gradient's tile at the projection's input. -/
theorem out_dy (r : Fin 512) (e : Fin 2048) :
    (outsAt0 m c p.val p.isLt).2.1 (ix2 r e) = ((∑ d, OutMath.dx y x t w g (row p r) d * w e d : ℝ) : EReal) := by
  by_cases h0 : p.val % 16 = 0
  · rw [outsAt0_A m c p h0 (by omega)]
    frame_out
    exact cols h p (hD h p) r e
  · by_cases h1 : p.val % 16 = 15
    · rw [outsAt0_C m c p h0 h1]
      frame_out
      exact cols h p (hD h p) r e
    · rw [outsAt0_B m c p h0 h1]
      frame_out
      exact cols h p (hD h p) r e

omit h in
theorem ldAt (P : Vec Ideal S2048x1024 .f32) (o : Nat) (inb) (i : Fin 512) (j : Fin 1024) (ho : o + 512 ≤ 2048) :
    View.ld (Val := Elt Ideal) (e' := .f32) P (Rect.unit (s := S2048x1024) ![o, 0] ![512, 1024] inb) (ix2 i j) = P (ix2 ⟨o + i.val, by omega⟩ j) := by
  show P ((Rect.unit (s := S2048x1024) ![o, 0] ![512, 1024] inb).emb (ix2 i j)) = _
  rw [emb_ix2]
  simp

/-- The four row blocks of the weight gradient, each the block found plus the tile's product, one above the other. -/
theorem rows {D : FVec Ideal S512x1024 .f32} (hD : ∀ r d, D (ix2 r d) = ((OutMath.dx y x t w g (row p r) d : ℝ) : EReal))
    (P : Vec Ideal S2048x1024 .f32) (L : List (View.Piece (Elt Ideal) S2048x1024 .f32)) (e : Fin 2048) (d : Fin 1024) :
    View.canon (Val := Elt Ideal) (e := .f32)
      (⟨Rect.unit ![1536, 0] ![512, 1024] inb_S2048x1024_S512x1024_1536_0,
          k0_pay3 (iblk m c 0 p) (k0_pay18 D) (View.ld P (Rect.unit ![1536, 0] ![512, 1024] inb_S2048x1024_S512x1024_1536_0))⟩ ::
        ⟨Rect.unit ![1024, 0] ![512, 1024] inb_S2048x1024_S512x1024_1024_0,
          k0_pay1 (iblk m c 0 p) (k0_pay18 D) (View.ld P (Rect.unit ![1024, 0] ![512, 1024] inb_S2048x1024_S512x1024_1024_0))⟩ ::
        ⟨Rect.unit ![512, 0] ![512, 1024] inb_S2048x1024_S512x1024_512_0,
          k0_pay22 (iblk m c 0 p) D (View.ld P (Rect.unit ![512, 0] ![512, 1024] inb_S2048x1024_S512x1024_512_0))⟩ ::
        ⟨Rect.unit ![0, 0] ![512, 1024] inb_S2048x1024_S512x1024_0_0,
          k0_pay20 (iblk m c 0 p) D (View.ld P (Rect.unit ![0, 0] ![512, 1024] inb_S2048x1024_S512x1024_0_0))⟩ :: L)
      (ix2 e d) = P (ix2 e d) + ((∑ r : Fin 512, y (row p r) e * OutMath.dx y x t w g (row p r) d : ℝ) : EReal) := by
  refine View.canon_append_of_piecesOf (Val := Elt Ideal) (e := .f32)
    (fun i : S2048x1024.Idx => P (ix2 (i 0) (i 1)) + ((∑ r : Fin 512, y (row p r) (i 0) * OutMath.dx y x t w g (row p r) (i 1) : ℝ) : EReal)) L [_, _, _, _]
    ⟨fun k => ?_, fun k => ?_, fun k => ?_, fun k => ?_, trivial⟩ (ix2 e d) (View.cover_of_tiledL _ ![512, 1024] (by sl_kernel_rfl) _)
  · obtain ⟨i, j, rfl⟩ : ∃ (i : Fin 512) (j : Fin 1024), k = ix2 i j := ⟨k 0, k 1, eq_ix2 k⟩
    dsimp only
    rw [emb_ix2, OutPay.pay3 hD (b0 h p), ldAt _ 1536 _ _ _ (by omega)]
    simp
  · obtain ⟨i, j, rfl⟩ : ∃ (i : Fin 512) (j : Fin 1024), k = ix2 i j := ⟨k 0, k 1, eq_ix2 k⟩
    dsimp only
    rw [emb_ix2, OutPay.pay1 hD (b0 h p), ldAt _ 1024 _ _ _ (by omega)]
    simp
  · obtain ⟨i, j, rfl⟩ : ∃ (i : Fin 512) (j : Fin 1024), k = ix2 i j := ⟨k 0, k 1, eq_ix2 k⟩
    dsimp only
    rw [emb_ix2, OutPay.pay22 hD (b0 h p), ldAt _ 512 _ _ _ (by omega)]
    simp
  · obtain ⟨i, j, rfl⟩ : ∃ (i : Fin 512) (j : Fin 1024), k = ix2 i j := ⟨k 0, k 1, eq_ix2 k⟩
    dsimp only
    rw [emb_ix2, OutPay.pay20 hD (b0 h p), ldAt _ 0 _ _ _ (by omega)]
    simp

/-- The weight gradient's block at the first tile. -/
theorem gw_first (h0 : p.val % 16 = 0) (e : Fin 2048) (d : Fin 1024) :
    (outsAt0 m c p.val p.isLt).2.2.1 (ix2 e d) = 0 + ((∑ r : Fin 512, y (row p r) e * OutMath.dx y x t w g (row p r) d : ℝ) : EReal) := by
  rw [outsAt0_A m c p h0 (by omega)]
  frame_open
  simp (disch := decide) only [↓ View.readCov_skip, ↓ View.readCov_cons_toLoadRect, ↓ View.readCov_fill]
  frame_out
  refine (rows h p (hD h p) _ _ e d).trans ?_
  rw [OutPay.pay5]

/-- At a later tile: the block found plus the tile's product. -/
theorem gw_next (h0 : ¬p.val % 16 = 0) (e : Fin 2048) (d : Fin 1024) :
    (outsAt0 m c p.val p.isLt).2.2.1 (ix2 e d)
      = (outsAt0 m c (p.val - 1) (by have := p.isLt; omega)).2.2.1 (ix2 e d)
        + ((∑ r : Fin 512, y (row p r) e * OutMath.dx y x t w g (row p r) d : ℝ) : EReal) := by
  by_cases h1 : p.val % 16 = 15
  · rw [outsAt0_C m c p h0 h1]
    frame_open
    simp (disch := decide) only [↓ View.readCov_skip, ↓ View.readCov_cons_toLoadRect, ↓ View.readCov_fill]
    frame_out
    exact rows h p (hD h p) _ _ e d
  · rw [outsAt0_B m c p h0 h1]
    frame_open
    simp (disch := decide) only [↓ View.readCov_skip, ↓ View.readCov_cons_toLoadRect, ↓ View.readCov_fill]
    frame_out
    exact rows h p (hD h p) _ _ e d

/-- The squared errors' block at the first tile. -/
theorem se_first (h0 : p.val % 16 = 0) (j : Fin 8) (d : Fin 1024) :
    (outsAt0 m c p.val p.isLt).2.2.2.2 (ix2 j d)
      = 0 + ((∑ q : Fin 64, OutMath.diff y x t w g (row p ⟨q.val * 8 + j.val, by omega⟩) d
            * OutMath.diff y x t w g (row p ⟨q.val * 8 + j.val, by omega⟩) d : ℝ) : EReal) := by
  rw [outsAt0_A m c p h0 (by omega)]
  frame_open
  simp (disch := decide) only [↓ View.readCov_skip, ↓ View.readCov_cons_toLoadRect, ↓ View.readCov_fill]
  frame_out
  refine (OutPay.pay14 (hX h p) (hM h p) (b2 h p) (b4 h p) _ j d).trans ?_
  rw [OutPay.pay7]

/-- At a later tile: the block found plus the tile's. -/
theorem se_next (h0 : ¬p.val % 16 = 0) (j : Fin 8) (d : Fin 1024) :
    (outsAt0 m c p.val p.isLt).2.2.2.2 (ix2 j d)
      = (outsAt0 m c (p.val - 1) (by have := p.isLt; omega)).2.2.2.2 (ix2 j d)
        + ((∑ q : Fin 64, OutMath.diff y x t w g (row p ⟨q.val * 8 + j.val, by omega⟩) d
            * OutMath.diff y x t w g (row p ⟨q.val * 8 + j.val, by omega⟩) d : ℝ) : EReal) := by
  by_cases h1 : p.val % 16 = 15
  · rw [outsAt0_C m c p h0 h1]
    frame_open
    simp (disch := decide) only [↓ View.readCov_skip, ↓ View.readCov_cons_toLoadRect, ↓ View.readCov_fill]
    frame_out
    exact OutPay.pay14 (hX h p) (hM h p) (b2 h p) (b4 h p) _ j d
  · rw [outsAt0_B m c p h0 h1]
    frame_open
    simp (disch := decide) only [↓ View.readCov_skip, ↓ View.readCov_cons_toLoadRect, ↓ View.readCov_fill]
    frame_out
    exact OutPay.pay14 (hX h p) (hM h p) (b2 h p) (b4 h p) _ j d

/-- The tile's addition to row `j` of the final gain's eight partial sums. -/
abbrev gfTerm (y : Fin 8192 → Fin 2048 → ℝ) (x t : Fin 8192 → Fin 1024 → ℝ) (w : Fin 2048 → Fin 1024 → ℝ) (g : Fin 1024 → ℝ)
    (p : Fin cfg0.N) (j : Fin 8) (d : Fin 1024) : ℝ :=
  ∑ q : Fin 64, OutMath.dout y x t w g (row p ⟨q.val * 8 + j.val, by omega⟩) d * OutMath.nrm y x w (row p ⟨q.val * 8 + j.val, by omega⟩) d

/-- The final gain's block at the first tile. -/
theorem gf_first (h0 : p.val % 16 = 0) (j : Fin 8) (d : Fin 1024) :
    (outsAt0 m c p.val p.isLt).2.2.2.1 (ix2 j d) = 0 + ((gfTerm y x t w g p j d : ℝ) : EReal) := by
  rw [outsAt0_A m c p h0 (by omega)]
  frame_open
  simp (disch := decide) only [↓ View.readCov_skip, ↓ View.readCov_cons_toLoadRect, ↓ View.readCov_fill]
  frame_out
  refine (OutPay.pay16 (hX h p) (hM h p) (b2 h p) (b4 h p) _ j d).trans ?_
  rw [OutPay.pay6]

/-- At a middle tile: the block found plus the tile's. -/
theorem gf_next (h0 : ¬p.val % 16 = 0) (h1 : ¬p.val % 16 = 15) (j : Fin 8) (d : Fin 1024) :
    (outsAt0 m c p.val p.isLt).2.2.2.1 (ix2 j d)
      = (outsAt0 m c (p.val - 1) (by have := p.isLt; omega)).2.2.2.1 (ix2 j d) + ((gfTerm y x t w g p j d : ℝ) : EReal) := by
  rw [outsAt0_B m c p h0 h1]
  frame_open
  simp (disch := decide) only [↓ View.readCov_skip, ↓ View.readCov_cons_toLoadRect, ↓ View.readCov_fill]
  frame_out
  exact OutPay.pay16 (hX h p) (hM h p) (b2 h p) (b4 h p) _ j d

/-- At the last tile: the eight rows, with the tile's, summed and repeated on every row. -/
theorem gf_last (h0 : ¬p.val % 16 = 0) (h1 : p.val % 16 = 15) (j : Fin 8) (d : Fin 1024) :
    (outsAt0 m c p.val p.isLt).2.2.2.1 (ix2 j d)
      = ∑ k : Fin 8, ((outsAt0 m c (p.val - 1) (by have := p.isLt; omega)).2.2.2.1 (ix2 k d) + ((gfTerm y x t w g p k d : ℝ) : EReal)) := by
  rw [outsAt0_C m c p h0 h1]
  frame_open
  simp (disch := decide) only [↓ View.readCov_skip, ↓ View.readCov_cons_toLoadRect, ↓ View.readCov_fill]
  frame_out
  rw [OutPay.pay4]
  exact Finset.sum_congr rfl fun k _ => OutPay.pay16 (hX h p) (hM h p) (b2 h p) (b4 h p) _ k d

end

end Cert.OutOuts
-- ==== Proof.OutArr.lean ====
/-
  The out-projection kernel's five result arrays after the run, in real numbers.
-/
module

public import proofs.«01_k».proof.Proof.OutOuts

@[expose] public section

set_option maxRecDepth 16384

noncomputable section

namespace Cert.OutArr

open Cert.OutKernelIdeal Cert.OutKernelIdeal.Gen Cert.RealLib Cert.OutBlocks Cert.OutOuts Idealize.ShloMosaic Idealize.ShloMosaic.TcCoe Idealize.SL.Sem

variable {m : (ℓ : Loc nD τ sig) → Buf (Elt Ideal) ℓ} {c : Dev nD}
variable {y : Fin 8192 → Fin 2048 → ℝ} {x t : Fin 8192 → Fin 1024 → ℝ} {w : Fin 2048 → Fin 1024 → ℝ} {g : Fin 1024 → ℝ}

/-! ## Sums over the tiles -/

/-- The sixteen tiles' rows are the array's rows. -/
theorem sum_rows (f : Fin 8192 → ℝ) : ∑ p : Fin cfg0.N, ∑ r : Fin 512, f (row p r) = ∑ r, f r :=
  Fin.sum_mul_add_congr (S := cfg0.N) (n := 512) (f := f) (fun _ _ _ => rfl) (by rw [show cfg0.N = 16 from N_0])

/-- The rows of a tile, eight at a time. -/
theorem sum_eights (f : Fin 512 → ℝ) : ∑ k : Fin 8, ∑ q : Fin 64, f ⟨q.val * 8 + k.val, by omega⟩ = ∑ r, f r := by
  rw [Finset.sum_comm]
  exact Fin.sum_mul_add_congr (S := 64) (n := 8) (f := f) (fun _ _ _ => rfl) rfl

/-- Every eighth row, tile by tile. -/
theorem sum_eighth (f : Fin 8192 → ℝ) (j : Fin 8) :
    ∑ p : Fin cfg0.N, ∑ q : Fin 64, f (row p ⟨q.val * 8 + j.val, by omega⟩) = ∑ q : Fin 1024, f ⟨q.val * 8 + j.val, by omega⟩ :=
  Fin.sum_mul_add_congr (S := cfg0.N) (n := 64) (f := fun q : Fin 1024 => f ⟨q.val * 8 + j.val, by omega⟩)
    (fun p q _ => congrArg f (Fin.ext (by simp only [row]; omega))) (by rw [show cfg0.N = 16 from N_0])

/-- Eight accumulators added into at every tile, and at the last one summed: the sum over the tiles and the eight. -/
theorem last_fold (f : (n : ℕ) → n < cfg0.N → Fin 8 → EReal) (T : Fin cfg0.N → Fin 8 → ℝ)
    (h0 : ∀ p : Fin cfg0.N, p.val % 16 = 0 → ∀ k, f p.val p.isLt k = 0 + ((T p k : ℝ) : EReal))
    (hs : ∀ p : Fin cfg0.N, ¬p.val % 16 = 0 → ¬p.val % 16 = 15 → ∀ k,
      f p.val p.isLt k = f (p.val - 1) (by have := p.isLt; omega) k + ((T p k : ℝ) : EReal))
    (hl : ∀ p : Fin cfg0.N, ¬p.val % 16 = 0 → p.val % 16 = 15 → ∀ k,
      f p.val p.isLt k = ∑ k, (f (p.val - 1) (by have := p.isLt; omega) k + ((T p k : ℝ) : EReal))) (j : Fin 8) :
    f t0_15.val t0_15.isLt j = ((∑ p : Fin cfg0.N, ∑ k, T p k : ℝ) : EReal) := by
  have hN : cfg0.N = 16 := N_0
  have before : ∀ k : Fin 8, f 14 (by omega) k = ((∑ p : Fin 15, T ⟨p.val, by omega⟩ k : ℝ) : EReal) := fun k => by
    have := Pipeline.eq_sum_fin_of_reset_step_last (N := 15) (fun n hn => f n (by omega) k) 16 0
      (fun p => ((T ⟨p.val, by omega⟩ k : ℝ) : EReal)) (fun p h => h0 ⟨p.val, by omega⟩ h k)
      (fun p h => hs ⟨p.val, by omega⟩ h (by have := p.isLt; simp only; omega) k) (by omega) ⟨14, by omega⟩ rfl
    rw [coe_sum, zero_add] at this
    exact this
  refine (hl t0_15 (by decide) (by decide) j).trans ?_
  have e : ∀ k : Fin 8, f (t0_15.val - 1) (by have : t0_15.val = 15 := rfl; have : cfg0.N = 16 := N_0; omega) k + ((T t0_15 k : ℝ) : EReal)
      = ((∑ p : Fin cfg0.N, T p k : ℝ) : EReal) := fun k => by
    refine (congrArg (· + _) (before k)).trans ?_
    rw [← EReal.coe_add]
    exact congrArg _ (Fin.sum_univ_castSucc (n := 15) fun p => T ⟨p.val, by omega⟩ k).symm
  refine (Finset.sum_congr rfl fun k _ => e k).trans ?_
  rw [coe_sum, Finset.sum_comm]

/-! ## The accumulated blocks after the last tile -/

variable (h : Holds m c y x t w g)
include h

theorem gw_end (e : Fin 2048) (d : Fin 1024) :
    (outsAt0 m c t0_15.val t0_15.isLt).2.2.1 (ix2 e d) = ((∑ r, y r e * OutMath.dx y x t w g r d : ℝ) : EReal) := by
  rw [Pipeline.eq_sum_fin_of_reset_step_last (N := cfg0.N) (fun n hn => (outsAt0 m c n hn).2.2.1 (ix2 e d)) 16 0
    (fun p => ((∑ r : Fin 512, y (row p r) e * OutMath.dx y x t w g (row p r) d : ℝ) : EReal))
    (fun p h0 => gw_first h p h0 e d) (fun p h0 => gw_next h p h0 e d) (le_of_eq N_0) t0_15 rfl, coe_sum,
    sum_rows fun r => y r e * OutMath.dx y x t w g r d, zero_add]

theorem se_end (j : Fin 8) (d : Fin 1024) :
    (outsAt0 m c t0_15.val t0_15.isLt).2.2.2.2 (ix2 j d)
      = ((∑ q : Fin 1024, OutMath.diff y x t w g ⟨q.val * 8 + j.val, by omega⟩ d * OutMath.diff y x t w g ⟨q.val * 8 + j.val, by omega⟩ d : ℝ) : EReal) := by
  rw [Pipeline.eq_sum_fin_of_reset_step_last (N := cfg0.N) (fun n hn => (outsAt0 m c n hn).2.2.2.2 (ix2 j d)) 16 0 _
    (fun p h0 => se_first h p h0 j d) (fun p h0 => se_next h p h0 j d) (le_of_eq N_0) t0_15 rfl, coe_sum,
    sum_eighth (fun r => OutMath.diff y x t w g r d * OutMath.diff y x t w g r d) j, zero_add]

theorem gf_end (j : Fin 8) (d : Fin 1024) :
    (outsAt0 m c t0_15.val t0_15.isLt).2.2.2.1 (ix2 j d)
      = ((∑ r, OutMath.dout y x t w g r d * OutMath.nrm y x w r d : ℝ) : EReal) := by
  refine (last_fold (fun n hn k => (outsAt0 m c n hn).2.2.2.1 (ix2 k d)) (fun p k => gfTerm y x t w g p k d)
    (fun p h0 k => gf_first h p h0 k d) (fun p h0 h1 k => gf_next h p h0 h1 k d) (fun p h0 h1 k => gf_last h p h0 h1 k d) j).trans ?_
  refine congrArg _ (Eq.trans (Finset.sum_congr rfl fun p _ => ?_) (sum_rows fun r => OutMath.dout y x t w g r d * OutMath.nrm y x w r d))
  exact sum_eights fun r => OutMath.dout y x t w g (row p r) d * OutMath.nrm y x w (row p r) d

/-! ## The arrays -/

omit h in
theorem idx5 : ∀ t : Fin cfg0.N, win0_5.index t = ![t.val, 0] := by decide +kernel
omit h in
theorem idx6 : ∀ t : Fin cfg0.N, win0_6.index t = ![t.val, 0] := by decide +kernel

/-- The gradient at the residual stream. -/
theorem arr5 : (dats m 0 c).arrAt 5 cfg0.N = fun i : S8192x1024.Idx => ((OutMath.dx y x t w g (i 0) (i 1) : ℝ) : EReal) := by
  refine (dats m 0 c).arrAt_eq_of_covers 5 _ (by decide +kernel) fun p hf k => ?_
  obtain ⟨r, d, rfl⟩ : ∃ (r : Fin 512) (d : Fin 1024), k = ix2 r d := ⟨k 0, k 1, eq_ix2 k⟩
  have e : (win0_5.blk p).view.emb (ix2 r d) = ix2 (row p r) d := by blk_ext [idx5 p, row]
  blk_simp
  rw [after0_5]
  refine (out_dx h p r d).trans ?_
  rw [e]
  rfl

/-- The gradient at the projection's input. -/
theorem arr6 : (dats m 0 c).arrAt 6 cfg0.N
    = fun i : S8192x2048.Idx => ((∑ d, OutMath.dx y x t w g (i 0) d * w (i 1) d : ℝ) : EReal) := by
  refine (dats m 0 c).arrAt_eq_of_covers 6 _ (by decide +kernel) fun p hf k => ?_
  obtain ⟨r, d, rfl⟩ : ∃ (r : Fin 512) (d : Fin 2048), k = ix2 r d := ⟨k 0, k 1, eq_ix2 k⟩
  have e : (win0_6.blk p).view.emb (ix2 r d) = ix2 (row p r) d := by blk_ext [idx6 p, row]
  blk_simp
  rw [after0_6]
  refine (out_dy h p r d).trans ?_
  rw [e]
  rfl

/-- The weight's gradient. -/
theorem arr7 : (dats m 0 c).arrAt 7 cfg0.N
    = fun i : S2048x1024.Idx => ((∑ r, y r (i 0) * OutMath.dx y x t w g r (i 1) : ℝ) : EReal) := by
  refine (dats m 0 c).arrAt_eq_of_after_last 7 t0_15 (by decide +kernel) _ fun k => ?_
  obtain ⟨e, d, rfl⟩ : ∃ (e : Fin 2048) (d : Fin 1024), k = ix2 e d := ⟨k 0, k 1, eq_ix2 k⟩
  blk_simp
  rw [after0_7]
  exact gw_end h e d

/-- The final gain's gradient, in each of eight equal rows. -/
theorem arr8 : (dats m 0 c).arrAt 8 cfg0.N
    = fun i : S8x1024.Idx => ((∑ r, OutMath.dout y x t w g r (i 1) * OutMath.nrm y x w r (i 1) : ℝ) : EReal) := by
  refine (dats m 0 c).arrAt_eq_of_after_last 8 t0_15 (by decide +kernel) _ fun k => ?_
  obtain ⟨e, d, rfl⟩ : ∃ (e : Fin 8) (d : Fin 1024), k = ix2 e d := ⟨k 0, k 1, eq_ix2 k⟩
  blk_simp
  rw [after0_8]
  exact gf_end h e d

/-- The squared errors, the rows of equal remainder modulo eight added. -/
theorem arr9 : (dats m 0 c).arrAt 9 cfg0.N
    = fun i : S8x1024.Idx => ((∑ q : Fin 1024, OutMath.diff y x t w g ⟨q.val * 8 + (i 0).val, by have : (i 0).val < 8 := (i 0).isLt; omega⟩ (i 1)
        * OutMath.diff y x t w g ⟨q.val * 8 + (i 0).val, by have : (i 0).val < 8 := (i 0).isLt; omega⟩ (i 1) : ℝ) : EReal) := by
  refine (dats m 0 c).arrAt_eq_of_after_last 9 t0_15 (by decide +kernel) _ fun k => ?_
  obtain ⟨e, d, rfl⟩ : ∃ (e : Fin 8) (d : Fin 1024), k = ix2 e d := ⟨k 0, k 1, eq_ix2 k⟩
  blk_simp
  rw [after0_9]
  exact se_end h e d

end Cert.OutArr
-- ==== Proof.OutRef.lean ====
/-
  The reference of the out-projection's backward call, stage by stage at finite arguments: each result is the array of
  real numbers that `OutMath` names.
-/
module

public import proofs.«01_k».proof.Proof.OutMath
public import proofs.«01_k».proof.Proof.Gen.OutReferenceIdeal.Read

@[expose] public section

set_option maxRecDepth 16384

noncomputable section

namespace Cert.OutRef

open Cert.OutReferenceIdeal Cert.OutReferenceIdeal.Gen Cert.OutReferenceIdeal.Read Idealize.ShloMosaic
open Cert.RealLib Cert.OutMath

variable {x0 : (⟨S8192x2048, .bf16⟩ : BufTy).Contents (Elt Ideal)} {x1 x2 : (⟨S1x8192x1024, .f32⟩ : BufTy).Contents (Elt Ideal)}
  {x3 : (⟨S1x2048x1024, .f32⟩ : BufTy).Contents (Elt Ideal)} {x4 : (⟨S1024, .f32⟩ : BufTy).Contents (Elt Ideal)}
  {y : Fin 8192 → Fin 2048 → ℝ} {x t : Fin 8192 → Fin 1024 → ℝ} {w : Fin 2048 → Fin 1024 → ℝ} {g : Fin 1024 → ℝ}
  (h0 : ∀ r e, x0 (ix2 r e) = ((y r e : ℝ) : EReal)) (h1 : ∀ r d, x1 (ix3 0 r d) = ((x r d : ℝ) : EReal))
  (h2 : ∀ r d, x2 (ix3 0 r d) = ((t r d : ℝ) : EReal)) (h3 : ∀ e d, x3 (ix3 0 e d) = ((w e d : ℝ) : EReal))
  (h4 : ∀ d, x4 (ix1 d) = ((g d : ℝ) : EReal))

include h0 h1 h3

theorem v4 (r : Fin 8192) (d : Fin 1024) : val_main_v4 (F := Ideal) x0 x1 x3 (ix3 0 r d) = ((X y x w r d : ℝ) : EReal) := by
  pointwise [val_main_v4, val_main_v3, val_main_v2, val_main_v1, val_main_v0]
  simp only [h0, h1, h3, ← EReal.coe_mul, ← EReal.coe_add, coe_sum]
  rfl

theorem v11 (r : Fin 8192) : val_main_v11 (F := Ideal) x0 x1 x3 (ix3 0 r 0) = ((ms y x w r : ℝ) : EReal) := by
  pointwise [val_main_v11, val_main_v10, val_main_v9, val_main_v8, val_main_v7, val_main_v6, val_main_v5, val_main_cst, val_main_cst_0, val_main_cst_1]
  simp only [v4 h0 h1 h3, lit_1024, lit_eps, ← EReal.coe_mul, ← EReal.coe_add, coe_sum]
  rw [div_coe_coe _ _ (by norm_num), ← EReal.coe_add]
  rfl

theorem v12 (r : Fin 8192) : val_main_v12 (F := Ideal) x0 x1 x3 (ix3 0 r 0) = ((rs y x w r : ℝ) : EReal) := by
  pointwise [val_main_v12]
  rw [v11 h0 h1 h3, rsqrt_pos _ (ms_pos ..)]
  rfl

theorem v15 (r : Fin 8192) : val_main_v15 (F := Ideal) x0 x1 x3 (ix3 0 r 0) = ((-(1 / 2) * (rs y x w r / ms y x w r) : ℝ) : EReal) := by
  pointwise [val_main_v15, val_main_v14, val_main_v13, val_main_cst_2]
  rw [v11 h0 h1 h3, v12 h0 h1 h3, lit_neg_half, div_coe_coe _ _ (ms_pos ..).ne', ← EReal.coe_mul]

theorem v17 (r : Fin 8192) (d : Fin 1024) : val_main_v17 (F := Ideal) x0 x1 x3 (ix3 0 r d) = ((nrm y x w r d : ℝ) : EReal) := by
  pointwise [val_main_v17, val_main_v16]
  rw [v4 h0 h1 h3, v12 h0 h1 h3, ← EReal.coe_mul]
  rfl

include h2 h4

theorem v21 (r : Fin 8192) (d : Fin 1024) : val_main_v21 (F := Ideal) x0 x1 x2 x3 x4 (ix3 0 r d) = ((diff y x t w g r d : ℝ) : EReal) := by
  pointwise [val_main_v21, val_main_v20, val_main_v19, val_main_v18]
  rw [v17 h0 h1 h3, h2, h4, ← EReal.coe_mul, ← EReal.coe_sub]
  rfl

theorem v35 (r : Fin 8192) (d : Fin 1024) : val_main_v35 (F := Ideal) x0 x1 x2 x3 x4 (ix3 0 r d) = ((dout y x t w g r d : ℝ) : EReal) := by
  pointwise [val_main_v35, val_main_v34, val_main_v33, val_main_v32, val_main_v31, val_main_v30, val_main_v24, val_main_v23,
    val_main_cst_3, val_main_cst_8, val_main_cst_9, val_main_cst_10]
  simp only [v21 h0 h1 h2 h3 h4, lit_half, lit_one, lit_1024, lit_two, ← EReal.coe_mul]
  rw [div_coe_coe _ _ (by norm_num), ← EReal.coe_mul]
  congr 1
  unfold dout
  ring

theorem v40 (r : Fin 8192) (d : Fin 1024) : val_main_v40 (F := Ideal) x0 x1 x2 x3 x4 (ix3 0 r d) = ((dn y x t w g r d : ℝ) : EReal) := by
  pointwise [val_main_v40, val_main_v39, val_main_v18]
  rw [v35 h0 h1 h2 h3 h4, h4, ← EReal.coe_mul]
  rfl

theorem v50 (r : Fin 8192) : val_main_v50 (F := Ideal) x0 x1 x2 x3 x4 (ix1 r)
    = (((∑ k, X y x w r k * dn y x t w g r k) * (-(1 / 2) * (rs y x w r / ms y x w r)) / 1024 : ℝ) : EReal) := by
  pointwise [val_main_v50, val_main_cst_15]
  rw [hostReduceAdd_unit_02]
  pointwise [val_main_v49, val_main_v48, val_main_v47, val_main_v44, val_main_v43, val_main_v42, val_main_cst_13, val_main_cst_14]
  simp only [v4 h0 h1 h3, v40 h0 h1 h2 h3 h4, v15 h0 h1 h3, lit_1024, ← EReal.coe_mul, coe_sum]
  rw [div_coe_coe _ _ (by norm_num)]

theorem v56 (r : Fin 8192) (d : Fin 1024) : val_main_v56 (F := Ideal) x0 x1 x2 x3 x4 (ix3 0 r d) = ((dx y x t w g r d : ℝ) : EReal) := by
  pointwise [val_main_v56, val_main_v55, val_main_v54, val_main_v53, val_main_v52, val_main_v51, val_main_v46, val_main_v45]
  simp only [v50 h0 h1 h2 h3 h4, v4 h0 h1 h3, v40 h0 h1 h2 h3 h4, v12 h0 h1 h3, ← EReal.coe_mul, ← EReal.coe_add]
  rw [dx_eq]

/-- The gradient at the residual stream. -/
theorem v81 (r : Fin 8192) (d : Fin 1024) : val_main_v81 (F := Ideal) x0 x1 x2 x3 x4 (ix2 r d) = ((dx y x t w g r d : ℝ) : EReal) := by
  pointwise [val_main_v81]
  exact v56 h0 h1 h2 h3 h4 r d

/-- The gradient at the projection's input. -/
theorem v83 (r : Fin 8192) (e : Fin 2048) : val_main_v83 (F := Ideal) x0 x1 x2 x3 x4 (ix2 r e)
    = ((∑ d, dx y x t w g r d * w e d : ℝ) : EReal) := by
  pointwise [val_main_v83, val_main_v82, val_main_v59, val_main_v2]
  simp only [v56 h0 h1 h2 h3 h4, h3, ← EReal.coe_mul, coe_sum]

/-- The gradient at the projection's weight. -/
theorem v84 (e : Fin 2048) (d : Fin 1024) : val_main_v84 (F := Ideal) x0 x1 x2 x3 x4 (ix2 e d)
    = ((∑ r, y r e * dx y x t w g r d : ℝ) : EReal) := by
  pointwise [val_main_v84, val_main_v60, val_main_v58, val_main_v57, val_main_v1, val_main_v0]
  simp only [Fin.sum_univ_one]
  simp only [v56 h0 h1 h2 h3 h4, h0, ← EReal.coe_mul, coe_sum]
  exact congrArg _ (Finset.sum_congr rfl fun r _ => mul_comm _ _)

/-- The gradient at the final norm's gain, in each of eight equal rows. -/
theorem v85 (j : Fin 8) (d : Fin 1024) : val_main_v85 (F := Ideal) x0 x1 x2 x3 x4 (ix2 j d)
    = ((∑ r, dout y x t w g r d * nrm y x w r d : ℝ) : EReal) := by
  pointwise [val_main_v85, val_main_v41, val_main_cst_12]
  rw [hostReduceAdd_unit_01]
  pointwise [val_main_v38, val_main_v37, val_main_v36, val_main_cst_11]
  simp only [v17 h0 h1 h3, v35 h0 h1 h2 h3 h4, ← EReal.coe_mul, coe_sum]
  exact congrArg _ (Finset.sum_congr rfl fun r _ => mul_comm _ _)

/-- The squared error, the rows of equal remainder modulo eight added. -/
theorem v80 (j : Fin 8) (d : Fin 1024) : val_main_v80 (F := Ideal) x0 x1 x2 x3 x4 (ix2 j d)
    = ((∑ q : Fin 1024, diff y x t w g ⟨q.val * 8 + j.val, by omega⟩ d * diff y x t w g ⟨q.val * 8 + j.val, by omega⟩ d : ℝ) : EReal) := by
  have e : val_main_v77 (F := Ideal) x0 x1 x2 x3 x4 = val_main_v21 (F := Ideal) x0 x1 x2 x3 x4 := rfl
  pointwise [val_main_v80, val_main_v79, val_main_v78, val_main_cst_19]
  simp only [e, v21 h0 h1 h2 h3 h4, ← EReal.coe_mul, coe_sum]

end Cert.OutRef
-- ==== Proof.OutClaim.lean ====
/-
  The out-projection's kernel computes what its reference computes, wherever the arguments are finite.
-/
module

public import proofs.«01_k».proof.Defs
public import proofs.«01_k».proof.Proof.OutArr
public import proofs.«01_k».proof.Proof.OutRef

@[expose] public section

set_option maxRecDepth 16384

noncomputable section

namespace Cert.OutClaim

open Cert.RealLib Idealize.ShloMosaic Idealize.ShloMosaic.TcCoe Idealize.SL.Sem

section
variable [Cert.Pre_finite_out.Facts]

/-- Where the precondition holds every argument is an array of real numbers. -/
theorem reals {x0 : FVec Ideal Pre_finite_out.S8192x2048 .bf16} {x1 x2 : FVec Ideal Pre_finite_out.S1x8192x1024 .f32}
    {x3 : FVec Ideal Pre_finite_out.S1x2048x1024 .f32} {x4 : FVec Ideal Pre_finite_out.S1024 .f32}
    (h : Pre_finite_out.fn (F := Ideal) x0 x1 x2 x3 x4 = fun _ => 1#1) :
    (∃ f : _ → ℝ, ∀ i, x0 i = ((f i : ℝ) : EReal)) ∧ (∃ f : _ → ℝ, ∀ i, x1 i = ((f i : ℝ) : EReal)) ∧ (∃ f : _ → ℝ, ∀ i, x2 i = ((f i : ℝ) : EReal))
      ∧ (∃ f : _ → ℝ, ∀ i, x3 i = ((f i : ℝ) : EReal)) ∧ ∃ f : _ → ℝ, ∀ i, x4 i = ((f i : ℝ) : EReal) := by
  have h' := congrFun h ix0
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  haveI : Subsingleton Pre_finite_out.S_.Idx := ⟨fun a b => funext fun k => k.elim0⟩
  exact ⟨real_of_all x0 _ rfl _ (fun _ => rfl) _ _ _ _ e0, real_of_all x1 _ rfl _ (fun _ => rfl) _ _ _ _ e1,
    real_of_all x2 _ rfl _ (fun _ => rfl) _ _ _ _ e2, real_of_all x3 _ rfl _ (fun _ => rfl) _ _ _ _ e3,
    real_of_all x4 _ rfl _ (fun _ => rfl) _ _ _ _ e4⟩
end

open Cert.OutKernelIdeal (nD τ sig main_arg0 main_arg1 main_arg2 main_arg3 main_arg4) in
/-- The arguments of a device, where the precondition holds of them, as real arrays. -/
theorem holds [Cert.Pre_finite_out.Facts] (m : (ℓ : Loc nD τ sig) → Buf (Elt Ideal) ℓ) (h : Cert.Pre_OutKernelIdeal_finite_out m) (c : Dev nD) :
    ∃ y x t w g, OutOuts.Holds m c y x t w g := by
  obtain ⟨⟨y, hy⟩, ⟨x, hx⟩, ⟨t, ht⟩, ⟨w, hw⟩, ⟨g, hg⟩⟩ := reals (h c)
  exact ⟨fun r e => y (ix2 r e), fun r d => x (ix3 0 r d), fun r d => t (ix3 0 r d), fun e d => w (ix3 0 e d), fun d => g (ix1 d),
    ⟨fun _ _ => hy _, fun _ _ => hx _, fun _ _ => ht _, fun _ _ => hw _, fun _ => hg _⟩⟩

/-- The results of the two programs are equal. -/
theorem value [hp : Cert.Pre_finite_out.Facts] : Cert.algebraic_OutKernelIdeal_OutReferenceIdeal_pre_finite_out
    (hOutKernelIdeal := Cert.OutKernelIdeal.Gen.facts) (hOutReferenceIdeal := Cert.OutReferenceIdeal.Gen.facts) := by
  intro m ρ m' ρ' hpre hag
  refine ⟨_, _, _, _, _, OutKernelIdeal.Value.run_blocks m ρ, (θ_run _ _ _).mono (fun r hr c => ?_) (OutReferenceIdeal.Value.run m' ρ')⟩
  obtain ⟨y, x, t, w, g, H⟩ := holds m hpre c
  obtain ⟨a0, a1, a2, a3, a4⟩ := hag c
  obtain ⟨r0, r1, r2, r3, r4, k⟩ := hr c
  rw [OutReferenceIdeal.Read.val_main_v81_eq, a0, a1, a2, a3, a4] at r0
  rw [OutReferenceIdeal.Read.val_main_v83_eq, a0, a1, a2, a3, a4] at r1
  rw [OutReferenceIdeal.Read.val_main_v84_eq, a0, a1, a2, a3, a4] at r2
  rw [OutReferenceIdeal.Read.val_main_v85_eq, a0, a1, a2, a3, a4] at r3
  rw [OutReferenceIdeal.Read.val_main_v80_eq, a0, a1, a2, a3, a4] at r4
  refine ⟨r0.trans ?_, r1.trans ?_, r2.trans ?_, r3.trans ?_, r4.trans ?_, k⟩
  · refine Eq.trans (funext fun i => ?_) (OutArr.arr5 H).symm
    obtain ⟨a, b, rfl⟩ : ∃ (a : Fin 8192) (b : Fin 1024), i = ix2 a b := ⟨i 0, i 1, eq_ix2 i⟩
    exact OutRef.v81 H.y H.x H.t H.w H.g a b
  · refine Eq.trans (funext fun i => ?_) (OutArr.arr6 H).symm
    obtain ⟨a, b, rfl⟩ : ∃ (a : Fin 8192) (b : Fin 2048), i = ix2 a b := ⟨i 0, i 1, eq_ix2 i⟩
    exact OutRef.v83 H.y H.x H.t H.w H.g a b
  · refine Eq.trans (funext fun i => ?_) (OutArr.arr7 H).symm
    obtain ⟨a, b, rfl⟩ : ∃ (a : Fin 2048) (b : Fin 1024), i = ix2 a b := ⟨i 0, i 1, eq_ix2 i⟩
    exact OutRef.v84 H.y H.x H.t H.w H.g a b
  · refine Eq.trans (funext fun i => ?_) (OutArr.arr8 H).symm
    obtain ⟨a, b, rfl⟩ : ∃ (a : Fin 8) (b : Fin 1024), i = ix2 a b := ⟨i 0, i 1, eq_ix2 i⟩
    exact OutRef.v85 H.y H.x H.t H.w H.g a b
  · refine Eq.trans (funext fun i => ?_) (OutArr.arr9 H).symm
    obtain ⟨a, b, rfl⟩ : ∃ (a : Fin 8) (b : Fin 1024), i = ix2 a b := ⟨i 0, i 1, eq_ix2 i⟩
    exact OutRef.v80 H.y H.x H.t H.w H.g a b

end Cert.OutClaim
-- ==== Proof.MixProg.lean ====
/- The body of the branch's backward kernel, told in stages: the launch's first lines, the two halves of
   the tile for the convolution's norm and gate, the eight lane blocks of the convolution, the eight
   heads of the spatial gate, the end of the tile and the last grid point's row of sums. Each stage is a
   function of its position, so that one statement about a stage serves every lane block or head.
   `body_eq` states that the printed body is these stages in turn. -/
module

public import proofs.«01_k».proof.Proof.Gen.MixKernelIdeal.Skeleton

@[expose] public section

set_option maxRecDepth 65536

noncomputable section

namespace Cert.Mix

open Idealize.ShloMosaic Idealize.SL.Sem Cert.MixKernelIdeal Cert.MixKernelIdeal.Gen

variable {F : FTy → Type} [FloatOps F]

/-- A program of the kernel's core. -/
abbrev Pg (F : FTy → Type) [FloatOps F] (α : Type) := Prog (TpuEff nD τ sig (Elt F) Λ₀ .tc) α

/-- The arrays the body is called with. -/
structure Mems where
  pm : Memref sig .tc .vmem S256x6144 .bf16
  dym : Memref sig .tc .vmem S256x2048 .bf16
  cvm : Memref sig .tc .vmem S256x1024 .f32
  gcp : Memref sig .tc .vmem S16x1024 .bf16
  gcn : Memref sig .tc .vmem S16x1024 .bf16
  dyp : Memref sig .tc .vmem S16x1024 .bf16
  dyn : Memref sig .tc .vmem S16x1024 .bf16
  cvp : Memref sig .tc .vmem S16x1024 .f32
  cvn : Memref sig .tc .vmem S16x1024 .f32
  cw : Memref sig .tc .vmem S4x31x256 .f32
  clg : Memref sig .tc .vmem S1x1024 .f32
  clb : Memref sig .tc .vmem S1x1024 .f32
  slg : Memref sig .tc .vmem S1x1024 .f32
  slb : Memref sig .tc .vmem S1x1024 .f32
  ws : Memref sig .tc .vmem S8x128x128 .f32
  wst : Memref sig .tc .vmem S8x128x128 .f32
  bst : Memref sig .tc .vmem S128x8 .f32
  gf : Memref sig .tc .vmem S8x1024 .f32
  se : Memref sig .tc .vmem S8x1024 .f32
  dep : Memref sig .tc .vmem S8x128 .f32
  dp : Memref sig .tc .vmem S256x6144 .bf16
  small : Memref sig .tc .vmem S40x1024 .f32
  gws : Memref sig .tc .vmem S8x128x128 .f32
  sh : Memref sig .tc .vmem S8x288x128 .f32
  glu : Memref sig .tc .vmem S256x128 .f32
  dgl : Memref sig .tc .vmem S256x128 .f32
  dcv : Memref sig .tc .vmem S288x1024 .f32
  acc : Memref sig .tc .vmem S40x1024 .f32
  gcw : Memref sig .tc .vmem S248x1024 .f32
  gbs : Memref sig .tc .vmem S128x1024 .f32
  hdp : dp.IsWhole

/-- A read of the block of `m` at `off` of shape `s'`. -/
def ld {s : Shape} {e : EltTy} (m : Memref sig .tc .vmem s e) (off size : Fin s.rank → ℕ)
    (inb : ∀ a, off a + size a ≤ s.size a) (hn : 0 < (Rect.unit off size inb).toLoadRect.shape.numel) :
    Pg F ((Rect.unit off size inb).toLoadRect.shape.Idx → Elt F e) :=
  Prog.lift (.load m (Rect.unit off size inb).toLoadRect (View.loadsAt_vmem hn))

/-- A write of 32-bit elements to the block of `m` at `off`, which reads the block first and forgets it. -/
def put {s : Shape} {e : EltTy} (m : Memref sig .tc .vmem s e) (he : e.bits = 32) (off size : Fin s.rank → ℕ)
    (inb : ∀ a, off a + size a ≤ s.size a) (hn : 0 < (Rect.unit off size inb).shape.numel)
    (w : (Rect.unit off size inb).shape.Idx → Elt F e) : Pg F PUnit :=
  ld m off size inb hn >>= fun _ =>
    Prog.lift (.store m (Rect.unit off size inb) w Finset.univ (View.stores_vmem_bits_univ hn he) (.inl rfl))

/-- The same for the rounded result `dproj`. -/
def putDp (M : Mems) (off size : Fin 2 → ℕ) (inb : ∀ a, off a + size a ≤ S256x6144.size a)
    (hn : 0 < (Rect.unit (s := S256x6144) off size inb).shape.numel)
    (pk : (Rect.unit (s := S256x6144) off size inb).PackedRows (EltTy.packing .bf16))
    (w : (Rect.unit (s := S256x6144) off size inb).shape.Idx → Elt F .bf16) : Pg F PUnit :=
  ld M.dp off size inb hn >>= fun _ =>
    Prog.lift (.store M.dp (Rect.unit (s := S256x6144) off size inb) w Finset.univ
      (View.stores_vmem hn (M.hdp.storeExact_slice rfl _ pk) (fun _ => rfl)) (.inl rfl))

/-! ### The values computed -/

abbrev lit (s : Shape) (b : BitVec 32) : FVec F s .f32 := broadcast s (Scalar.ofBits (F := F) .f32 b)

/-- The logistic function, as half of one more than a hyperbolic tangent. -/
def sgm {s : Shape} (x : FVec F s .f32) : FVec F s .f32 :=
  addf (mulf (lit s 0x3F000000#32) (tanh (mulf (lit s 0x3F000000#32) x))) (lit s 0x3F000000#32)

/-- The derivative of `x ↦ x σ(x)`, from `x` and `σ(x)`. -/
def dsl {s : Shape} (x sg : FVec F s .f32) : FVec F s .f32 :=
  mulf sg (addf (lit s 0x3F800000#32) (mulf x (subf (lit s 0x3F800000#32) sg)))

/-- Row means of 144 rows. -/
def mean144 (x : FVec F S144x1024 .f32) : FVec F S144x1 .f32 :=
  divf (shapeCast S144x1 (multiReduction .add [1] S144 x 0x00000000#32 reduces_S144x1024_S144 (.inl rfl) rfl) shapeCasts_S144_S144x1)
    (lit S144x1 0x44800000#32)

def wide144 (x : FVec F S144x1 .f32) : FVec F S144x1024 .f32 := broadcastTo S144x1024 x broadcasts_S144x1_S144x1024
def row144 (x : Vec F S1x1024 .f32) : FVec F S144x1024 .f32 := broadcastTo S144x1024 x broadcasts_S1x1024_S144x1024
def cent144 (x : FVec F S144x1024 .f32) : FVec F S144x1024 .f32 := subf x (wide144 (mean144 x))
def rstd144 (x : FVec F S144x1024 .f32) : FVec F S144x1 .f32 :=
  rsqrt (addf (mean144 (mulf (cent144 x) (cent144 x))) (lit S144x1 0x358637BD#32))
def nrm144 (x : FVec F S144x1024 .f32) : FVec F S144x1024 .f32 := mulf (cent144 x) (wide144 (rstd144 x))
def lin144 (g b : Vec F S1x1024 .f32) (x : FVec F S144x1024 .f32) : FVec F S144x1024 .f32 :=
  addf (mulf (nrm144 x) (row144 g)) (row144 b)
/-- The cotangent at the convolution's norm. -/
def dln144 (g b : Vec F S1x1024 .f32) (cv gc dy : FVec F S144x1024 .f32) : FVec F S144x1024 .f32 :=
  mulf (mulf (mulf dy gc) (sgm gc)) (dsl (lin144 g b cv) (sgm (lin144 g b cv)))
/-- The norm's gradient of `d`, before the rows out of range are cleared. -/
def dcv144 (g : Vec F S1x1024 .f32) (cv d : FVec F S144x1024 .f32) : FVec F S144x1024 .f32 :=
  mulf (wide144 (rstd144 cv))
    (subf (subf (mulf d (row144 g)) (wide144 (mean144 (mulf d (row144 g)))))
      (mulf (nrm144 cv) (wide144 (mean144 (mulf (mulf d (row144 g)) (nrm144 cv))))))
/-- Rows where `k` fails are cleared. -/
def keep144 (k : IVec S144x1 1) (x : FVec F S144x1024 .f32) : FVec F S144x1024 .f32 :=
  select (broadcastTo S144x1024 (shapeCast S144x1 k shapeCasts_S144x1_S144x1) broadcasts_S144x1_S144x1024) x
    (lit S144x1024 0x00000000#32)
/-- The rows of the tile of the first half: those after the halo. -/
def main0 (x : FVec F S144x1024 .f32) : FVec F S128x1024 .f32 :=
  extractStridedSlice S128x1024 ![16, 0] x slices_S144x1024_o16_0_S128x1024
/-- The rows of the tile of the second half: those before the halo. -/
def main1 (x : FVec F S144x1024 .f32) : FVec F S128x1024 .f32 :=
  extractStridedSlice S128x1024 ![0, 0] x slices_S144x1024_o0_0_S128x1024
/-- Adds to eight rows the sums of every eighth of 128 rows. -/
def fold128 (a : Vec F S8x1024 .f32) (x : FVec F S128x1024 .f32) : FVec F S8x1024 .f32 :=
  shapeCast S8x1024 (addf a (multiReduction .add [0] S8x1024 (shapeCast S16x8x1024 x shapeCasts_S128x1024_S16x8x1024) 0x00000000#32
    reduces_S16x8x1024_S8x1024 (.inl rfl) rfl)) shapeCasts_S8x1024_S8x1024
/-- The same of 256 rows. -/
def fold256 (a : Vec F S8x1024 .f32) (x : FVec F S256x1024 .f32) : FVec F S8x1024 .f32 :=
  shapeCast S8x1024 (addf a (multiReduction .add [0] S8x1024 (shapeCast S32x8x1024 x shapeCasts_S256x1024_S32x8x1024) 0x00000000#32
    reduces_S32x8x1024_S8x1024 (.inl rfl) rfl)) shapeCasts_S8x1024_S8x1024

def catF0 (halo : Vec F S16x1024 .f32) (x : Vec F S128x1024 .f32) : FVec F S144x1024 .f32 :=
  concatenate S144x1024 0 [⟨S16x1024, shapeCast S16x1024 halo shapeCasts_S16x1024_S16x1024⟩,
    ⟨S128x1024, shapeCast S128x1024 x shapeCasts_S128x1024_S128x1024⟩] concatenates_S16x1024_S128x1024_S144x1024_d0
def catF1 (halo : Vec F S16x1024 .f32) (x : Vec F S128x1024 .f32) : FVec F S144x1024 .f32 :=
  concatenate S144x1024 0 [⟨S128x1024, shapeCast S128x1024 x shapeCasts_S128x1024_S128x1024⟩,
    ⟨S16x1024, shapeCast S16x1024 halo shapeCasts_S16x1024_S16x1024⟩] concatenates_S128x1024_S16x1024_S144x1024_d0
def catB0 (halo : Vec F S16x1024 .bf16) (x : Vec F S128x1024 .bf16) : FVec F S144x1024 .f32 :=
  concatenate S144x1024 0 [⟨S16x1024, (extf .f32 halo bitsLt_bf16_f32 : FVec F S16x1024 .f32)⟩,
    ⟨S128x1024, (extf .f32 x bitsLt_bf16_f32 : FVec F S128x1024 .f32)⟩] concatenates_S16x1024_S128x1024_S144x1024_d0
def catB1 (halo : Vec F S16x1024 .bf16) (x : Vec F S128x1024 .bf16) : FVec F S144x1024 .f32 :=
  concatenate S144x1024 0 [⟨S128x1024, (extf .f32 x bitsLt_bf16_f32 : FVec F S128x1024 .f32)⟩,
    ⟨S16x1024, (extf .f32 halo bitsLt_bf16_f32 : FVec F S16x1024 .f32)⟩] concatenates_S128x1024_S16x1024_S144x1024_d0

/-- The gradient of the gate's input on the tile's rows. -/
def dgate (dy ln sl gc sg : FVec F S128x1024 .f32) : FVec F S128x1024 .bf16 :=
  truncf .bf16 (mulf (mulf (mulf dy ln) sl) (dsl gc sg)) bitsLt_bf16_f32

/-- Which rows of the first half are in range: those of the tile, and the halo's unless the tile is the first. -/
def valid0 (i : grid0.Coords) : IVec S144x1 1 :=
  ori (cmpi .sge (iota .tc S144x1 32 [0] iota_S144x1_d0_w32) (broadcast S144x1 16#32))
    (broadcast S144x1 (Scalar.cmpi .sgt (BitVec.ofNat 32 (i 0).val) 0#32))
/-- Which rows of the second half are in range. -/
def valid1 (i : grid0.Coords) : IVec S144x1 1 :=
  ori (cmpi .slt (iota .tc S144x1 32 [0] iota_S144x1_d0_w32) (broadcast S144x1 128#32))
    (broadcast S144x1 (Scalar.cmpi .slt (BitVec.ofNat 32 (i 0).val) 31#32))

/-! ### The stages -/

/-- The first grid point clears the running sums. -/
def start (M : Mems) : Pg F PUnit := do
  put M.acc rfl ![0, 0] S40x1024.size inb_S40x1024_S40x1024_0_0 h_S40x1024 (k0_pay405 (F := F))
  put M.gcw rfl ![0, 0] S248x1024.size inb_S248x1024_S248x1024_0_0 h_S248x1024 (k0_pay406 (F := F))
  put M.gbs rfl ![0, 0] S128x1024.size inb_S128x1024_S128x1024_0_0 h_S128x1024 (k0_pay407 (F := F))
  put M.gws rfl ![0, 0, 0] S8x128x128.size inb_S8x128x128_S8x128x128_0_0_0 h_S8x128x128 (k0_pay408 (F := F))
  pure ⟨⟩

/-- The first half of the tile, with the rows before it. -/
def half0 (M : Mems) (i : grid0.Coords) (g : Vec F S1x1024 .f32) : Pg F PUnit := do
  let cm ← ld M.cvm ![0, 0] S128x1024.size inb_S256x1024_S128x1024_0_0 h_S128x1024
  let ch ← ld M.cvp ![0, 0] S16x1024.size inb_S16x1024_S16x1024_0_0 h_S16x1024
  let gm ← ld M.pm ![0, 2048] S128x1024.size inb_S256x6144_S128x1024_0_2048 h_S128x1024
  let gh ← ld M.gcp ![0, 0] S16x1024.size inb_S16x1024_S16x1024_0_0 h_S16x1024
  let dm ← ld M.dym ![0, 0] S128x1024.size inb_S256x2048_S128x1024_0_0 h_S128x1024
  let dh ← ld M.dyp ![0, 0] S16x1024.size inb_S16x1024_S16x1024_0_0 h_S16x1024
  let b ← ld M.clb ![0, 0] S1x1024.size inb_S1x1024_S1x1024_0_0 h_S1x1024
  putDp M ![0, 2048] S128x1024.size inb_S256x6144_S128x1024_0_2048 h_S128x1024 packedbf16_S256x6144_S128x1024_0_2048
    (dgate (main0 (catB0 dh dm)) (main0 (lin144 g b (catF0 ch cm))) (main0 (sgm (lin144 g b (catF0 ch cm))))
      (main0 (catB0 gh gm)) (main0 (sgm (catB0 gh gm))))
  put M.dcv rfl ![0, 0] S144x1024.size inb_S288x1024_S144x1024_0_0 h_S144x1024
    (shapeCast S144x1024 (keep144 (valid0 i) (dcv144 g (catF0 ch cm) (dln144 g b (catF0 ch cm) (catB0 gh gm) (catB0 dh dm))))
      shapeCasts_S144x1024_S144x1024)
  let a0 ← ld M.acc ![0, 0] S8x1024.size inb_S40x1024_S8x1024_0_0 h_S8x1024
  put M.acc rfl ![0, 0] S8x1024.size inb_S40x1024_S8x1024_0_0 h_S8x1024
    (fold128 a0 (main0 (keep144 (valid0 i) (dcv144 g (catF0 ch cm) (dln144 g b (catF0 ch cm) (catB0 gh gm) (catB0 dh dm))))))
  let a1 ← ld M.acc ![8, 0] S8x1024.size inb_S40x1024_S8x1024_8_0 h_S8x1024
  put M.acc rfl ![8, 0] S8x1024.size inb_S40x1024_S8x1024_8_0 h_S8x1024
    (fold128 a1 (mulf (main0 (dln144 g b (catF0 ch cm) (catB0 gh gm) (catB0 dh dm))) (main0 (nrm144 (catF0 ch cm)))))
  let a2 ← ld M.acc ![16, 0] S8x1024.size inb_S40x1024_S8x1024_16_0 h_S8x1024
  put M.acc rfl ![16, 0] S8x1024.size inb_S40x1024_S8x1024_16_0 h_S8x1024
    (fold128 a2 (main0 (dln144 g b (catF0 ch cm) (catB0 gh gm) (catB0 dh dm))))

/-- The second half of the tile, with the rows after it. -/
def half1 (M : Mems) (i : grid0.Coords) (g : Vec F S1x1024 .f32) : Pg F PUnit := do
  let cm ← ld M.cvm ![128, 0] S128x1024.size inb_S256x1024_S128x1024_128_0 h_S128x1024
  let ch ← ld M.cvn ![0, 0] S16x1024.size inb_S16x1024_S16x1024_0_0 h_S16x1024
  let gm ← ld M.pm ![128, 2048] S128x1024.size inb_S256x6144_S128x1024_128_2048 h_S128x1024
  let gh ← ld M.gcn ![0, 0] S16x1024.size inb_S16x1024_S16x1024_0_0 h_S16x1024
  let dm ← ld M.dym ![128, 0] S128x1024.size inb_S256x2048_S128x1024_128_0 h_S128x1024
  let dh ← ld M.dyn ![0, 0] S16x1024.size inb_S16x1024_S16x1024_0_0 h_S16x1024
  let b ← ld M.clb ![0, 0] S1x1024.size inb_S1x1024_S1x1024_0_0 h_S1x1024
  putDp M ![128, 2048] S128x1024.size inb_S256x6144_S128x1024_128_2048 h_S128x1024 packedbf16_S256x6144_S128x1024_128_2048
    (dgate (main1 (catB1 dh dm)) (main1 (lin144 g b (catF1 ch cm))) (main1 (sgm (lin144 g b (catF1 ch cm))))
      (main1 (catB1 gh gm)) (main1 (sgm (catB1 gh gm))))
  put M.dcv rfl ![144, 0] S144x1024.size inb_S288x1024_S144x1024_144_0 h_S144x1024
    (shapeCast S144x1024 (keep144 (valid1 i) (dcv144 g (catF1 ch cm) (dln144 g b (catF1 ch cm) (catB1 gh gm) (catB1 dh dm))))
      shapeCasts_S144x1024_S144x1024)
  let a0 ← ld M.acc ![0, 0] S8x1024.size inb_S40x1024_S8x1024_0_0 h_S8x1024
  put M.acc rfl ![0, 0] S8x1024.size inb_S40x1024_S8x1024_0_0 h_S8x1024
    (fold128 a0 (main1 (keep144 (valid1 i) (dcv144 g (catF1 ch cm) (dln144 g b (catF1 ch cm) (catB1 gh gm) (catB1 dh dm))))))
  let a1 ← ld M.acc ![8, 0] S8x1024.size inb_S40x1024_S8x1024_8_0 h_S8x1024
  put M.acc rfl ![8, 0] S8x1024.size inb_S40x1024_S8x1024_8_0 h_S8x1024
    (fold128 a1 (mulf (main1 (dln144 g b (catF1 ch cm) (catB1 gh gm) (catB1 dh dm))) (main1 (nrm144 (catF1 ch cm)))))
  let a2 ← ld M.acc ![16, 0] S8x1024.size inb_S40x1024_S8x1024_16_0 h_S8x1024
  put M.acc rfl ![16, 0] S8x1024.size inb_S40x1024_S8x1024_16_0 h_S8x1024
    (fold128 a2 (main1 (dln144 g b (catF1 ch cm) (catB1 gh gm) (catB1 dh dm))))

/-- The eight copies of a lane block of `dcv`, the `k`-th shifted by `k` rows. -/
def shifted (v : Vec F S288x128 .f32) (k : ℕ) : FVec F S1x288x128 .f32 :=
  if k = 0 then shapeCast S1x288x128 v shapeCasts_S288x128_S1x288x128
  else shapeCast S1x288x128 (dynamicRotate 0 (BitVec.ofNat 32 (288 - k)) none v rotates_S288x128_d0) shapeCasts_S288x128_S1x288x128

theorem inb_sh (k : ℕ) (h : k < 8) : ∀ a, (![k, 0, 0] : Fin 3 → ℕ) a + S1x288x128.size a ≤ S8x288x128.size a := by
  intro a; fin_cases a
  · show k + 1 ≤ 8; omega
  · exact Nat.le_refl _
  · exact Nat.le_refl _

def fill (M : Mems) (v : Vec F S288x128 .f32) : (n : ℕ) → n ≤ 8 → Pg F PUnit
  | 0, _ => pure ⟨⟩
  | n + 1, h => fill M v n (by omega) >>= fun _ =>
      put M.sh rfl ![n, 0, 0] S1x288x128.size (inb_sh n (by omega)) h_S1x288x128 (shifted v n)

/-- The rows of tap `j` (one less than its shift `o`) read by trip `k` of a loop of `w` rows a trip. -/
def offT (w : BitVec 32) (k : ℕ) (o : ℕ) : Fin 3 → ℕ :=
  ![o % 8, (Scalar.indexCast (Scalar.addi (Scalar.muli (Scf.iv 0#32 1#32 k) w) (BitVec.ofNat 32 (8 * (o / 8)))) : Index).toNat, 0]
/-- The rows of trip `k`. -/
def offR (w : BitVec 32) (k : ℕ) : Fin 2 → ℕ := ![(Scalar.indexCast (Scalar.muli (Scf.iv 0#32 1#32 k) w) : Index).toNat, 0]

theorem offT_128 : ∀ (k : Fin 2) (o : Fin 32), offT 128#32 k.val o.val = ![o.val % 8, 128 * k.val + 8 * (o.val / 8), 0] := by
  decide +kernel
theorem offT_64 : ∀ (k : Fin 4) (o : Fin 32), offT 64#32 k.val o.val = ![o.val % 8, 64 * k.val + 8 * (o.val / 8), 0] := by
  decide +kernel
theorem offR_128 : ∀ k : Fin 2, offR 128#32 k.val = ![128 * k.val, 0] := by decide +kernel
theorem offR_64 : ∀ k : Fin 4, offR 64#32 k.val = ![64 * k.val, 0] := by decide +kernel

theorem inb_offT_128 (k : Fin 2) (o : ℕ) (ho : o < 32) : ∀ a, offT 128#32 k.val o a + S1x128x128.size a ≤ S8x288x128.size a := by
  have h := offT_128 k ⟨o, ho⟩
  have hk := k.isLt
  simp only at h
  rw [h]
  intro a; fin_cases a
  · show o % 8 + 1 ≤ 8; omega
  · show 128 * k.val + 8 * (o / 8) + 128 ≤ 288; omega
  · exact Nat.le_refl _
theorem inb_offT_64 (k : Fin 4) (o : ℕ) (ho : o < 32) : ∀ a, offT 64#32 k.val o a + S1x64x128.size a ≤ S8x288x128.size a := by
  have h := offT_64 k ⟨o, ho⟩
  have hk := k.isLt
  simp only at h
  rw [h]
  intro a; fin_cases a
  · show o % 8 + 1 ≤ 8; omega
  · show 64 * k.val + 8 * (o / 8) + 64 ≤ 288; omega
  · exact Nat.le_refl _
theorem inb_offR_128 (k : Fin 2) : ∀ a, offR 128#32 k.val a + S128x128.size a ≤ S256x128.size a := by
  rw [offR_128]; have hk := k.isLt
  intro a; fin_cases a
  · show 128 * k.val + 128 ≤ 256; omega
  · exact Nat.le_refl _
theorem inb_offR_64 (k : Fin 4) : ∀ a, offR 64#32 k.val a + S64x128.size a ≤ S256x128.size a := by
  rw [offR_64]; have hk := k.isLt
  intro a; fin_cases a
  · show 64 * k.val + 64 ≤ 256; omega
  · exact Nat.le_refl _
theorem inb_cw (lb : Fin 8) (j : ℕ) (hj : j < 31) :
    ∀ a, (![lb.val / 2, 30 - j, 128 * (lb.val % 2)] : Fin 3 → ℕ) a + S1x1x128.size a ≤ S4x31x256.size a := by
  have h := lb.isLt
  intro a; fin_cases a
  · show lb.val / 2 + 1 ≤ 4; omega
  · show 30 - j + 1 ≤ 31; omega
  · show 128 * (lb.val % 2) + 128 ≤ 256; omega
theorem inb_gcw (lb : Fin 8) (n : ℕ) (hn : n < 31) : ∀ a, (![8 * n, 128 * lb.val] : Fin 2 → ℕ) a + S8x128.size a ≤ S248x1024.size a := by
  have h := lb.isLt
  intro a; fin_cases a
  · show 8 * n + 8 ≤ 248; omega
  · show 128 * lb.val + 128 ≤ 1024; omega
theorem inb_pmA (lb : Fin 8) : ∀ a, (![0, 128 * lb.val] : Fin 2 → ℕ) a + S256x128.size a ≤ S256x6144.size a := by
  revert lb; decide
theorem inb_pmB (lb : Fin 8) : ∀ a, (![0, 1024 + 128 * lb.val] : Fin 2 → ℕ) a + S256x128.size a ≤ S256x6144.size a := by
  revert lb; decide
theorem inb_dcv (lb : Fin 8) : ∀ a, (![0, 128 * lb.val] : Fin 2 → ℕ) a + S288x128.size a ≤ S288x1024.size a := by
  revert lb; decide
theorem pk_A (lb : Fin 8) : (Rect.unit (s := S256x6144) ![0, 128 * lb.val] S256x128.size (inb_pmA lb)).PackedRows (EltTy.packing .bf16) := by
  revert lb; decide
theorem pk_B (lb : Fin 8) : (Rect.unit (s := S256x6144) ![0, 1024 + 128 * lb.val] S256x128.size (inb_pmB lb)).PackedRows (EltTy.packing .bf16) := by
  revert lb; decide

/-- One tap of the convolution's input gradient. -/
def tapA (acc : FVec F S128x128 .f32) (d : Vec F S1x128x128 .f32) (w : Vec F S1x1x128 .f32) : FVec F S128x128 .f32 :=
  addf acc (mulf (shapeCast S128x128 d shapeCasts_S1x128x128_S128x128)
    (broadcastTo S128x128 (shapeCast S1x128 w shapeCasts_S1x1x128_S1x128) broadcasts_S1x128_S128x128))

def tapsA (M : Mems) (lb : Fin 8) (k : Fin 2) : (n : ℕ) → n ≤ 31 → Pg F (FVec F S128x128 .f32)
  | 0, _ => pure (lit S128x128 0x00000000#32)
  | n + 1, h => tapsA M lb k n (by omega) >>= fun acc =>
      ld M.sh (offT 128#32 k.val (n + 1)) S1x128x128.size (inb_offT_128 k (n + 1) (by omega)) h_S1x128x128 >>= fun d =>
      ld M.cw ![lb.val / 2, 30 - n, 128 * (lb.val % 2)] S1x1x128.size (inb_cw lb n (by omega)) h_S1x1x128 >>= fun w =>
      pure (tapA acc d w)

/-- A trip of the loop that computes the convolution's input gradient, 128 rows. -/
def tripA (M : Mems) (lb : Fin 8) (k : Fin 2) : Pg F Unit :=
  tapsA M lb k 31 (by omega) >>= fun acc =>
    put M.dgl rfl (offR 128#32 k.val) S128x128.size (inb_offR_128 k) h_S128x128
      (shapeCast S128x128 acc shapeCasts_S128x128_S128x128)

/-- One tap of the convolution's weight gradient. -/
def tapB (a : FVec F S8x128 .f32) (g : Vec F S64x128 .f32) (d : Vec F S1x64x128 .f32) : FVec F S8x128 .f32 :=
  addf a (multiReduction .add [0] S8x128 (shapeCast S8x8x128 (mulf g (shapeCast S64x128 d shapeCasts_S1x64x128_S64x128))
    shapeCasts_S64x128_S8x8x128) 0x00000000#32 reduces_S8x8x128_S8x128 (.inl rfl) rfl)

/-- The 31 carried rows. -/
abbrev T31 (F : FTy → Type) [FloatOps F] := FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32

def T31.get (t : T31 F) : ℕ → FVec F S8x128 .f32 := fun j =>
  match j with
  | 0 => t.1
  | 1 => t.2.1
  | 2 => t.2.2.1
  | 3 => t.2.2.2.1
  | 4 => t.2.2.2.2.1
  | 5 => t.2.2.2.2.2.1
  | 6 => t.2.2.2.2.2.2.1
  | 7 => t.2.2.2.2.2.2.2.1
  | 8 => t.2.2.2.2.2.2.2.2.1
  | 9 => t.2.2.2.2.2.2.2.2.2.1
  | 10 => t.2.2.2.2.2.2.2.2.2.2.1
  | 11 => t.2.2.2.2.2.2.2.2.2.2.2.1
  | 12 => t.2.2.2.2.2.2.2.2.2.2.2.2.1
  | 13 => t.2.2.2.2.2.2.2.2.2.2.2.2.2.1
  | 14 => t.2.2.2.2.2.2.2.2.2.2.2.2.2.2.1
  | 15 => t.2.2.2.2.2.2.2.2.2.2.2.2.2.2.2.1
  | 16 => t.2.2.2.2.2.2.2.2.2.2.2.2.2.2.2.2.1
  | 17 => t.2.2.2.2.2.2.2.2.2.2.2.2.2.2.2.2.2.1
  | 18 => t.2.2.2.2.2.2.2.2.2.2.2.2.2.2.2.2.2.2.1
  | 19 => t.2.2.2.2.2.2.2.2.2.2.2.2.2.2.2.2.2.2.2.1
  | 20 => t.2.2.2.2.2.2.2.2.2.2.2.2.2.2.2.2.2.2.2.2.1
  | 21 => t.2.2.2.2.2.2.2.2.2.2.2.2.2.2.2.2.2.2.2.2.2.1
  | 22 => t.2.2.2.2.2.2.2.2.2.2.2.2.2.2.2.2.2.2.2.2.2.2.1
  | 23 => t.2.2.2.2.2.2.2.2.2.2.2.2.2.2.2.2.2.2.2.2.2.2.2.1
  | 24 => t.2.2.2.2.2.2.2.2.2.2.2.2.2.2.2.2.2.2.2.2.2.2.2.2.1
  | 25 => t.2.2.2.2.2.2.2.2.2.2.2.2.2.2.2.2.2.2.2.2.2.2.2.2.2.1
  | 26 => t.2.2.2.2.2.2.2.2.2.2.2.2.2.2.2.2.2.2.2.2.2.2.2.2.2.2.1
  | 27 => t.2.2.2.2.2.2.2.2.2.2.2.2.2.2.2.2.2.2.2.2.2.2.2.2.2.2.2.1
  | 28 => t.2.2.2.2.2.2.2.2.2.2.2.2.2.2.2.2.2.2.2.2.2.2.2.2.2.2.2.2.1
  | 29 => t.2.2.2.2.2.2.2.2.2.2.2.2.2.2.2.2.2.2.2.2.2.2.2.2.2.2.2.2.2.1
  | 30 => t.2.2.2.2.2.2.2.2.2.2.2.2.2.2.2.2.2.2.2.2.2.2.2.2.2.2.2.2.2.2
  | _ => t.1
def T31.of (f : ℕ → FVec F S8x128 .f32) : T31 F := (f 0, f 1, f 2, f 3, f 4, f 5, f 6, f 7, f 8, f 9, f 10, f 11, f 12, f 13, f 14, f 15, f 16, f 17, f 18, f 19, f 20, f 21, f 22, f 23, f 24, f 25, f 26, f 27, f 28, f 29, f 30)

def tapsB (M : Mems) (k : Fin 4) (g : Vec F S64x128 .f32) (a : ℕ → FVec F S8x128 .f32) :
    (n : ℕ) → n ≤ 31 → Pg F (ℕ → FVec F S8x128 .f32)
  | 0, _ => pure a
  | n + 1, h => tapsB M k g a n (by omega) >>= fun f =>
      ld M.sh (offT 64#32 k.val (n + 1)) S1x64x128.size (inb_offT_64 k (n + 1) (by omega)) h_S1x64x128 >>= fun d =>
      pure (fun j => if j = n then tapB (a n) g d else f j)

/-- A trip of the loop that sums the convolution's weight gradient, 64 rows. -/
def tripB (M : Mems) (k : Fin 4) (t : T31 F) : Pg F (T31 F) :=
  ld M.glu (offR 64#32 k.val) S64x128.size (inb_offR_64 k) h_S64x128 >>= fun g =>
  tapsB M k g t.get 31 (by omega) >>= fun f => pure (T31.of f)

def gcwAdd (M : Mems) (lb : Fin 8) (f : ℕ → FVec F S8x128 .f32) : (n : ℕ) → n ≤ 31 → Pg F PUnit
  | 0, _ => pure ⟨⟩
  | n + 1, h => gcwAdd M lb f n (by omega) >>= fun _ =>
      ld M.gcw ![8 * n, 128 * lb.val] S8x128.size (inb_gcw lb n (by omega)) h_S8x128 >>= fun v =>
      put M.gcw rfl ![8 * n, 128 * lb.val] S8x128.size (inb_gcw lb n (by omega)) h_S8x128
        (shapeCast S8x128 (addf v (f n)) shapeCasts_S8x128_S8x128)

def laneA (M : Mems) (lb : Fin 8) : Pg F PUnit :=
  Scf.Loop.for k0_t1_loop k0_t1_ok () (fun k _ => tripA M lb k)

def laneB (M : Mems) : Pg F (T31 F) :=
  Scf.Loop.for k0_t2_loop k0_t2_ok (T31.of fun _ => lit S8x128 0x00000000#32) (fun k t => tripB M k t)

/-- A block of 128 lanes of the convolution. -/
def lane (M : Mems) (lb : Fin 8) : Pg F PUnit := do
  let av ← ld M.pm ![0, 128 * lb.val] S256x128.size (inb_pmA lb) h_S256x128
  let ag ← ld M.pm ![0, 1024 + 128 * lb.val] S256x128.size (inb_pmB lb) h_S256x128
  put M.glu rfl ![0, 0] S256x128.size inb_S256x128_S256x128_0_0 h_S256x128
    (shapeCast S256x128 (mulf (extf .f32 av bitsLt_bf16_f32) (sgm (extf .f32 ag bitsLt_bf16_f32))) shapeCasts_S256x128_S256x128)
  let v ← ld M.dcv ![0, 128 * lb.val] S288x128.size (inb_dcv lb) h_S288x128
  fill M v 8 (Nat.le_refl _)
  laneA M lb
  let t ← laneB M
  gcwAdd M lb t.get 31 (Nat.le_refl _)
  let d ← ld M.dgl ![0, 0] S256x128.size inb_S256x128_S256x128_0_0 h_S256x128
  putDp M ![0, 128 * lb.val] S256x128.size (inb_pmA lb) h_S256x128 (pk_A lb)
    (truncf .bf16 (mulf d (sgm (extf .f32 ag bitsLt_bf16_f32))) bitsLt_bf16_f32)
  putDp M ![0, 1024 + 128 * lb.val] S256x128.size (inb_pmB lb) h_S256x128 (pk_B lb)
    (truncf .bf16 (mulf (mulf (mulf d (extf .f32 av bitsLt_bf16_f32)) (sgm (extf .f32 ag bitsLt_bf16_f32)))
      (subf (lit S256x128 0x3F800000#32) (sgm (extf .f32 ag bitsLt_bf16_f32)))) bitsLt_bf16_f32)

end Cert.Mix

end
-- ==== Proof.MixBody.lean ====
/- The stages of the spatial gate, of the end of a tile and of the last grid point, and the theorem that
   the printed body is all the stages in turn. -/
module

public import proofs.«01_k».proof.Proof.MixProg

@[expose] public section

set_option maxRecDepth 65536

noncomputable section

namespace Cert.Mix

open Idealize.ShloMosaic Idealize.SL.Sem Cert.MixKernelIdeal Cert.MixKernelIdeal.Gen

variable {F : FTy → Type} [FloatOps F]

def mean256 (x : FVec F S256x1024 .f32) : FVec F S256x1 .f32 :=
  divf (shapeCast S256x1 (multiReduction .add [1] S256 x 0x00000000#32 reduces_S256x1024_S256 (.inl rfl) rfl) shapeCasts_S256_S256x1)
    (lit S256x1 0x44800000#32)
def wide256 (x : FVec F S256x1 .f32) : FVec F S256x1024 .f32 := broadcastTo S256x1024 x broadcasts_S256x1_S256x1024
def row256 (x : Vec F S1x1024 .f32) : FVec F S256x1024 .f32 := broadcastTo S256x1024 x broadcasts_S1x1024_S256x1024
def cent256 (x : Vec F S256x1024 .bf16) : FVec F S256x1024 .f32 :=
  subf (extf .f32 x bitsLt_bf16_f32 : FVec F S256x1024 .f32) (wide256 (mean256 (extf .f32 x bitsLt_bf16_f32)))
def rstd256 (x : Vec F S256x1024 .bf16) : FVec F S256x1 .f32 :=
  rsqrt (addf (mean256 (mulf (cent256 x) (cent256 x))) (lit S256x1 0x358637BD#32))
def nrm256 (x : Vec F S256x1024 .bf16) : FVec F S256x1024 .f32 := mulf (cent256 x) (wide256 (rstd256 x))
def lin256 (g b : Vec F S1x1024 .f32) (x : Vec F S256x1024 .bf16) : FVec F S256x1024 .bf16 :=
  truncf .bf16 (addf (mulf (nrm256 x) (row256 g)) (row256 b)) bitsLt_bf16_f32
/-- The gate norm's input gradient from the cotangent `d` of its output. -/
def dv256 (g : Vec F S1x1024 .f32) (x : Vec F S256x1024 .bf16) (d : FVec F S256x1024 .f32) : FVec F S256x1024 .bf16 :=
  truncf .bf16 (mulf (wide256 (rstd256 x))
    (subf (subf (mulf d (row256 g)) (wide256 (mean256 (mulf d (row256 g)))))
      (mulf (nrm256 x) (wide256 (mean256 (mulf (mulf d (row256 g)) (nrm256 x))))))) bitsLt_bf16_f32

theorem inb_hd (hd : Fin 8) : ∀ a, (![hd.val, 0, 0] : Fin 3 → ℕ) a + S1x128x128.size a ≤ S8x128x128.size a := by
  revert hd; decide
theorem inb_bs (hd : Fin 8) : ∀ a, (![0, hd.val] : Fin 2 → ℕ) a + S128x1.size a ≤ S128x8.size a := by
  revert hd; decide
theorem inb_pmU (ch : Fin 2) (hd : Fin 8) : ∀ a, (![128 * ch.val, 3072 + 128 * hd.val] : Fin 2 → ℕ) a + S128x128.size a ≤ S256x6144.size a := by
  revert ch hd; decide
theorem inb_pmS (ch : Fin 2) (hd : Fin 8) : ∀ a, (![128 * ch.val, 5120 + 128 * hd.val] : Fin 2 → ℕ) a + S128x128.size a ≤ S256x6144.size a := by
  revert ch hd; decide
theorem inb_dyS (ch : Fin 2) (hd : Fin 8) : ∀ a, (![128 * ch.val, 1024 + 128 * hd.val] : Fin 2 → ℕ) a + S128x128.size a ≤ S256x2048.size a := by
  revert ch hd; decide
theorem inb_dvn (ch : Fin 2) (hd : Fin 8) : ∀ a, (![16 + 128 * ch.val, 128 * hd.val] : Fin 2 → ℕ) a + S128x128.size a ≤ S288x1024.size a := by
  revert ch hd; decide
theorem inb_gbs (hd : Fin 8) : ∀ a, (![0, 128 * hd.val] : Fin 2 → ℕ) a + S128x128.size a ≤ S128x1024.size a := by
  revert hd; decide
theorem pk_U (ch : Fin 2) (hd : Fin 8) : (Rect.unit (s := S256x6144) ![128 * ch.val, 3072 + 128 * hd.val] S128x128.size (inb_pmU ch hd)).PackedRows (EltTy.packing .bf16) := by
  revert ch hd; decide
theorem pk_S (ch : Fin 2) (hd : Fin 8) : (Rect.unit (s := S256x6144) ![128 * ch.val, 5120 + 128 * hd.val] S128x128.size (inb_pmS ch hd)).PackedRows (EltTy.packing .bf16) := by
  revert ch hd; decide
theorem sl_vn (ch : Fin 2) (hd : Fin 8) : S256x1024.Slices ![128 * ch.val, 128 * hd.val] S128x128 := by
  revert ch hd; decide

def block (vn : FVec F S256x1024 .bf16) (ch : Fin 2) (hd : Fin 8) : FVec F S128x128 .bf16 :=
  extractStridedSlice S128x128 ![128 * ch.val, 128 * hd.val] vn (sl_vn ch hd)
def asB (w : Vec F S1x128x128 .f32) : FVec F S128x128 .bf16 :=
  truncf .bf16 (shapeCast S128x128 w shapeCasts_S1x128x128_S128x128) bitsLt_bf16_f32
def mixed (w : Vec F S1x128x128 .f32) (b : Vec F S128x1 .f32) (vn : FVec F S128x128 .bf16) : FVec F S128x128 .f32 :=
  addf (matmul dot_S128x128_S128x128_S128x128_1_0_0_1_n_n none (asB w) vn (constant S128x128 .f32 0x00000000#32))
    (broadcastTo S128x128 (shapeCast S128x1 b shapeCasts_S128x1_S128x1) broadcasts_S128x1_S128x128)
def up (x : Vec F S128x128 .bf16) : FVec F S128x128 .f32 := extf .f32 x bitsLt_bf16_f32
def dmix (u gs dy : Vec F S128x128 .bf16) : FVec F S128x128 .f32 := mulf (mulf (up dy) (up u)) (mulf (up gs) (sgm (up gs)))
def dmixB (u gs dy : Vec F S128x128 .bf16) : FVec F S128x128 .bf16 := truncf .bf16 (dmix u gs dy) bitsLt_bf16_f32

/-- One chunk of 128 rows of a head: returns the two running sums of the head. -/
def chunk (M : Mems) (vn : FVec F S256x1024 .bf16) (ch : Fin 2) (hd : Fin 8) (w wt : Vec F S1x128x128 .f32) (b : Vec F S128x1 .f32)
    (a : FVec F S128x128 .f32 × FVec F S128x128 .f32) : Pg F (FVec F S128x128 .f32 × FVec F S128x128 .f32) := do
  let u ← ld M.pm ![128 * ch.val, 3072 + 128 * hd.val] S128x128.size (inb_pmU ch hd) h_S128x128
  let gs ← ld M.pm ![128 * ch.val, 5120 + 128 * hd.val] S128x128.size (inb_pmS ch hd) h_S128x128
  let dy ← ld M.dym ![128 * ch.val, 1024 + 128 * hd.val] S128x128.size (inb_dyS ch hd) h_S128x128
  putDp M ![128 * ch.val, 3072 + 128 * hd.val] S128x128.size (inb_pmU ch hd) h_S128x128 (pk_U ch hd)
    (truncf .bf16 (mulf (mulf (up dy) (mixed w b (block vn ch hd))) (mulf (up gs) (sgm (up gs)))) bitsLt_bf16_f32)
  putDp M ![128 * ch.val, 5120 + 128 * hd.val] S128x128.size (inb_pmS ch hd) h_S128x128 (pk_S ch hd)
    (truncf .bf16 (mulf (mulf (mulf (up dy) (up u)) (mixed w b (block vn ch hd))) (dsl (up gs) (sgm (up gs)))) bitsLt_bf16_f32)
  put M.dcv rfl ![16 + 128 * ch.val, 128 * hd.val] S128x128.size (inb_dvn ch hd) h_S128x128
    (shapeCast S128x128 (matmul dot_S128x128_S128x128_S128x128_1_0_0_1_n_n none (asB wt) (dmixB u gs dy)
      (constant S128x128 .f32 0x00000000#32)) shapeCasts_S128x128_S128x128)
  pure (addf a.1 (matmul dot_S128x128_S128x128_S128x128_1_1_0_0_n_n none (dmixB u gs dy) (block vn ch hd)
      (constant S128x128 .f32 0x00000000#32)), addf a.2 (dmix u gs dy))

def head (M : Mems) (vn : FVec F S256x1024 .bf16) (hd : Fin 8) : Pg F PUnit := do
  let w ← ld M.ws ![hd.val, 0, 0] S1x128x128.size (inb_hd hd) h_S1x128x128
  let wt ← ld M.wst ![hd.val, 0, 0] S1x128x128.size (inb_hd hd) h_S1x128x128
  let b ← ld M.bst ![0, hd.val] S128x1.size (inb_bs hd) h_S128x1
  let a ← chunk M vn 0 hd w wt b (lit S128x128 0x00000000#32, lit S128x128 0x00000000#32)
  let a ← chunk M vn 1 hd w wt b a
  let g ← ld M.gws ![hd.val, 0, 0] S1x128x128.size (inb_hd hd) h_S1x128x128
  put M.gws rfl ![hd.val, 0, 0] S1x128x128.size (inb_hd hd) h_S1x128x128
    (shapeCast S1x128x128 (addf (shapeCast S128x128 g shapeCasts_S1x128x128_S128x128) a.1) shapeCasts_S128x128_S1x128x128)
  let s ← ld M.gbs ![0, 128 * hd.val] S128x128.size (inb_gbs hd) h_S128x128
  put M.gbs rfl ![0, 128 * hd.val] S128x128.size (inb_gbs hd) h_S128x128
    (shapeCast S128x128 (addf s a.2) shapeCasts_S128x128_S128x128)

def lanes (M : Mems) : (n : ℕ) → n ≤ 8 → Pg F PUnit
  | 0, _ => pure ⟨⟩
  | n + 1, h => lanes M n (by omega) >>= fun _ => lane M ⟨n, by omega⟩

def heads (M : Mems) (vn : FVec F S256x1024 .bf16) : (n : ℕ) → n ≤ 8 → Pg F PUnit
  | 0, _ => pure ⟨⟩
  | n + 1, h => heads M vn n (by omega) >>= fun _ => head M vn ⟨n, by omega⟩

/-- The spatial gate of a tile, and its norm's gradient. -/
def gate (M : Mems) : Pg F PUnit := do
  let x ← ld M.pm ![0, 4096] S256x1024.size inb_S256x6144_S256x1024_0_4096 h_S256x1024
  let g ← ld M.slg ![0, 0] S1x1024.size inb_S1x1024_S1x1024_0_0 h_S1x1024
  let b ← ld M.slb ![0, 0] S1x1024.size inb_S1x1024_S1x1024_0_0 h_S1x1024
  heads M (lin256 g b x) 8 (Nat.le_refl _)
  let d ← ld M.dcv ![16, 0] S256x1024.size inb_S288x1024_S256x1024_16_0 h_S256x1024
  let a ← ld M.acc ![24, 0] S8x1024.size inb_S40x1024_S8x1024_24_0 h_S8x1024
  put M.acc rfl ![24, 0] S8x1024.size inb_S40x1024_S8x1024_24_0 h_S8x1024 (fold256 a (mulf d (nrm256 x)))
  let a ← ld M.acc ![32, 0] S8x1024.size inb_S40x1024_S8x1024_32_0 h_S8x1024
  put M.acc rfl ![32, 0] S8x1024.size inb_S40x1024_S8x1024_32_0 h_S8x1024 (fold256 a d)
  putDp M ![0, 4096] S256x1024.size inb_S256x6144_S256x1024_0_4096 h_S256x1024 packedbf16_S256x6144_S256x1024_0_4096
    (dv256 g x d)

/-! ### The last grid point -/

def colsum (x : Vec F S8x1024 .f32) : FVec F S1x1024 .f32 :=
  shapeCast S1x1024 (multiReduction .add [0] S1024 x 0x00000000#32 reduces_S8x1024_S1024 (.inl rfl) rfl) shapeCasts_S1024_S1x1024
def rowsum (x : Vec F S128x128 .f32) : FVec F S1x128 .f32 :=
  extractStridedSlice S1x128 ![0, 0] (matmul dot_S8x128_S128x128_S8x128_1_1_0_0_n_n (some .fp32) (lit S8x128 0x3F800000#32) x
    (constant S8x128 .f32 0x00000000#32)) slices_S8x128_o0_0_S1x128

theorem inb_acc (a : Fin 5) : ∀ x, (![8 * a.val, 0] : Fin 2 → ℕ) x + S8x1024.size x ≤ S40x1024.size x := by
  revert a; decide
theorem inb_row (r : Fin 40) : ∀ x, (![r.val, 0] : Fin 2 → ℕ) x + S1x1024.size x ≤ S40x1024.size x := by
  revert r; decide
theorem inb_row6 (hd : Fin 8) : ∀ x, (![6, 128 * hd.val] : Fin 2 → ℕ) x + S1x128.size x ≤ S40x1024.size x := by
  revert hd; decide
theorem inb_tap (k : Fin 31) : ∀ x, (![8 * (30 - k.val), 0] : Fin 2 → ℕ) x + S8x1024.size x ≤ S248x1024.size x := by
  revert k; decide

def accRows (M : Mems) : (n : ℕ) → n ≤ 5 → Pg F PUnit
  | 0, _ => pure ⟨⟩
  | n + 1, h => accRows M n (by omega) >>= fun _ =>
      ld M.acc ![8 * n, 0] S8x1024.size (inb_acc ⟨n, by omega⟩) h_S8x1024 >>= fun v =>
      put M.small rfl ![n + 1, 0] S1x1024.size (inb_row ⟨n + 1, by omega⟩) h_S1x1024 (colsum v)
def biasRow (M : Mems) : (n : ℕ) → n ≤ 8 → Pg F PUnit
  | 0, _ => pure ⟨⟩
  | n + 1, h => biasRow M n (by omega) >>= fun _ =>
      ld M.gbs ![0, 128 * n] S128x128.size (inb_gbs ⟨n, by omega⟩) h_S128x128 >>= fun v =>
      put M.small rfl ![6, 128 * n] S1x128.size (inb_row6 ⟨n, by omega⟩) h_S1x128 (rowsum v)
def tapRows (M : Mems) : (n : ℕ) → n ≤ 31 → Pg F PUnit
  | 0, _ => pure ⟨⟩
  | n + 1, h => tapRows M n (by omega) >>= fun _ =>
      ld M.gcw ![8 * (30 - n), 0] S8x1024.size (inb_tap ⟨n, by omega⟩) h_S8x1024 >>= fun v =>
      put M.small rfl ![8 + n, 0] S1x1024.size (inb_row ⟨8 + n, by omega⟩) h_S1x1024 (colsum v)

def finish (M : Mems) : Pg F PUnit := do
  put M.small rfl ![0, 0] S40x1024.size inb_S40x1024_S40x1024_0_0 h_S40x1024 (k0_pay358 (F := F))
  accRows M 5 (Nat.le_refl _)
  biasRow M 8 (Nat.le_refl _)
  let v ← ld M.gf ![0, 0] S1x1024.size inb_S8x1024_S1x1024_0_0 h_S1x1024
  put M.small rfl ![7, 0] S1x1024.size inb_S40x1024_S1x1024_7_0 h_S1x1024 v
  let v ← ld M.se ![0, 0] S8x1024.size inb_S8x1024_S8x1024_0_0 h_S8x1024
  put M.small rfl ![0, 0] S1x1024.size inb_S40x1024_S1x1024_0_0 h_S1x1024 (colsum v)
  tapRows M 31 (Nat.le_refl _)

def first (i : grid0.Coords) : BitVec 1 :=
  Scalar.cmpi .ne (Scalar.extui (Scalar.cmpi .eq (BitVec.ofNat 32 (i 0).val) 0#32) : BitVec 32) 0#32

/-- The whole body at grid point `i`. -/
def body (M : Mems) (i : grid0.Coords) : Pg F PUnit := do
  if h : first i = 1#1 then start M else pure ⟨⟩
  let g ← ld M.clg ![0, 0] S1x1024.size inb_S1x1024_S1x1024_0_0 h_S1x1024
  half0 M i g
  half1 M i g
  lanes M 8 (Nat.le_refl _)
  gate M
  if h : k0_cond2 i = 1#1 then finish M else pure ⟨⟩
  pure ⟨⟩

end Cert.Mix

end
-- ==== Proof.MixRun.lean ====
/- How a program over the body's arrays runs: `St` is the contents of the arrays, `Own` the ownership of all of
   them, and `Runs P S a S'` says that `P` run from `S` ends with the value `a` at the contents `S'`. -/
module

public import proofs.«01_k».proof.Proof.MixBody
public import Idealize.ShloMosaic.Lib.Scf
public import Idealize.ShloMosaic.Lib.Memref
public import Idealize.ShloMosaic.Lib.Pipeline.Kit

@[expose] public section

set_option maxRecDepth 65536

noncomputable section

namespace Cert.Mix

open Idealize.ShloMosaic Idealize.SL Idealize.SL.Sem Cert.MixKernelIdeal Cert.MixKernelIdeal.Gen
open Idealize.SL.BI (sProp bigSep)
open scoped Idealize.SL.BI
open Idealize.SL.BI.BIBase Idealize.SL.BI.Laws Idealize.SL.ProofMode
open Idealize.SL.RA
open Idealize.ShloMosaic.TcCoe

variable {F : FTy → Type} [FloatOps F]

local notation "𝕄" => MT nD τ sig Unit (Elt F) ℕ (UR sig nD τ) ℕ

/-- The contents of the body's arrays. -/
structure St (F : FTy → Type) [FloatOps F] where
  pm : S256x6144.Idx → Elt F .bf16
  dym : S256x2048.Idx → Elt F .bf16
  cvm : S256x1024.Idx → Elt F .f32
  gcp : S16x1024.Idx → Elt F .bf16
  gcn : S16x1024.Idx → Elt F .bf16
  dyp : S16x1024.Idx → Elt F .bf16
  dyn : S16x1024.Idx → Elt F .bf16
  cvp : S16x1024.Idx → Elt F .f32
  cvn : S16x1024.Idx → Elt F .f32
  cw : S4x31x256.Idx → Elt F .f32
  clg : S1x1024.Idx → Elt F .f32
  clb : S1x1024.Idx → Elt F .f32
  slg : S1x1024.Idx → Elt F .f32
  slb : S1x1024.Idx → Elt F .f32
  ws : S8x128x128.Idx → Elt F .f32
  wst : S8x128x128.Idx → Elt F .f32
  bst : S128x8.Idx → Elt F .f32
  gf : S8x1024.Idx → Elt F .f32
  se : S8x1024.Idx → Elt F .f32
  dep : S8x128.Idx → Elt F .f32
  dp : S256x6144.Idx → Elt F .bf16
  small : S40x1024.Idx → Elt F .f32
  gws : S8x128x128.Idx → Elt F .f32
  sh : S8x288x128.Idx → Elt F .f32
  glu : S256x128.Idx → Elt F .f32
  dgl : S256x128.Idx → Elt F .f32
  dcv : S288x1024.Idx → Elt F .f32
  acc : S40x1024.Idx → Elt F .f32
  gcw : S248x1024.Idx → Elt F .f32
  gbs : S128x1024.Idx → Elt F .f32

/-! The contents with one array replaced. -/
def St.setDp (S : St F) (X : S256x6144.Idx → Elt F .bf16) : St F := { S with dp := X }
def St.setSmall (S : St F) (X : S40x1024.Idx → Elt F .f32) : St F := { S with small := X }
def St.setGws (S : St F) (X : S8x128x128.Idx → Elt F .f32) : St F := { S with gws := X }
def St.setSh (S : St F) (X : S8x288x128.Idx → Elt F .f32) : St F := { S with sh := X }
def St.setGlu (S : St F) (X : S256x128.Idx → Elt F .f32) : St F := { S with glu := X }
def St.setDgl (S : St F) (X : S256x128.Idx → Elt F .f32) : St F := { S with dgl := X }
def St.setDcv (S : St F) (X : S288x1024.Idx → Elt F .f32) : St F := { S with dcv := X }
def St.setAcc (S : St F) (X : S40x1024.Idx → Elt F .f32) : St F := { S with acc := X }
def St.setGcw (S : St F) (X : S248x1024.Idx → Elt F .f32) : St F := { S with gcw := X }
def St.setGbs (S : St F) (X : S128x1024.Idx → Elt F .f32) : St F := { S with gbs := X }

/-- Every array is owned, at the contents `S`. -/
def Own (c : Dev nD) (M : Mems) (S : St F) : sProp 𝕄 :=
  iprop(owns c M.pm fullShare S.pm ∗ owns c M.dym fullShare S.dym ∗ owns c M.cvm fullShare S.cvm ∗ owns c M.gcp fullShare S.gcp ∗ owns c M.gcn fullShare S.gcn ∗ owns c M.dyp fullShare S.dyp ∗ owns c M.dyn fullShare S.dyn ∗ owns c M.cvp fullShare S.cvp ∗ owns c M.cvn fullShare S.cvn ∗ owns c M.cw fullShare S.cw ∗ owns c M.clg fullShare S.clg ∗ owns c M.clb fullShare S.clb ∗ owns c M.slg fullShare S.slg ∗ owns c M.slb fullShare S.slb ∗ owns c M.ws fullShare S.ws ∗ owns c M.wst fullShare S.wst ∗ owns c M.bst fullShare S.bst ∗ owns c M.gf fullShare S.gf ∗ owns c M.se fullShare S.se ∗ owns c M.dep fullShare S.dep ∗ owns c M.dp fullShare S.dp ∗ owns c M.small fullShare S.small ∗ owns c M.gws fullShare S.gws ∗ owns c M.sh fullShare S.sh ∗ owns c M.glu fullShare S.glu ∗ owns c M.dgl fullShare S.dgl ∗ owns c M.dcv fullShare S.dcv ∗ owns c M.acc fullShare S.acc ∗ owns c M.gcw fullShare S.gcw ∗ owns c M.gbs fullShare S.gbs)

/-- `P` run from the contents `S` ends with `a` at the contents `S'`. -/
def Runs (c : Dev nD) (M : Mems) {α : Type} (P : Pg F α) (S : St F) (a : α) (S' : St F) : Prop :=
  ∀ Q : α → sProp 𝕄, (Own c M S' ⊢ Q a) → (Own c M S ⊢ wp frame (wpE (defs₀ (F := F)) Variants.none (c : Thread nD τ) none) Set.univ P Q)

variable {c : Dev nD} {M : Mems}

theorem Runs.ret {α : Type} (a : α) (S : St F) : Runs c M (pure a) S a S := fun Q h => by
  show _ ⊢ wp _ _ _ (.ret a) Q
  rw [wp_ret]; refine h.trans ?_
  iintro H; imodintro; iexact H

theorem Runs.bind {α β : Type} {P : Pg F α} {k : α → Pg F β} {S S' S'' : St F} {a : α} {b : β} (h : Runs c M P S a S')
    (hk : Runs c M (k a) S' b S'') : Runs c M (P >>= k) S b S'' := fun Q hQ => by
  rw [wp_bind]; exact h _ (hk Q hQ)

/-- One array among those owned. -/
def Fld (c : Dev nD) (M : Mems) {s : Shape} {e : EltTy} (m : Memref sig .tc .vmem s e) (get : St F → s.Idx → Elt F e)
    (set : St F → (s.Idx → Elt F e) → St F) : Prop :=
  ∀ S, Own c M S ⊢ iprop(owns (c : Thread nD τ) m fullShare (get S) ∗ (∀ X, owns (c : Thread nD τ) m fullShare X -∗ Own c M (set S X)))

theorem acc_head {X : Type} (A : X → sProp 𝕄) (x : X) (R : sProp 𝕄) :
    iprop(A x ∗ R) ⊢ iprop(A x ∗ (∀ y, A y -∗ iprop(A y ∗ R))) := by
  iintro ⟨H, HR⟩
  isplitl [H]; · iexact H
  iintro %y Hy
  isplitl [Hy]; · iexact Hy
  iexact HR

theorem acc_last {X : Type} (A : X → sProp 𝕄) (x : X) : A x ⊢ iprop(A x ∗ (∀ y, A y -∗ A y)) := by
  iintro H
  isplitl [H]; · iexact H
  iintro %y Hy
  iexact Hy

theorem acc_tail {X : Type} (A : X → sProp 𝕄) (x : X) (P R : sProp 𝕄) (R' : X → sProp 𝕄)
    (h : R ⊢ iprop(A x ∗ (∀ y, A y -∗ R' y))) :
    iprop(P ∗ R) ⊢ iprop(A x ∗ (∀ y, A y -∗ iprop(P ∗ R' y))) := by
  iintro ⟨HP, HR⟩
  ihave HR := h $$ HR
  icases HR with ⟨HA, HR⟩
  isplitl [HA]; · iexact HA
  iintro %y Hy
  isplitl [HP]; · iexact HP
  iapply HR; iexact Hy

theorem fld_pm : Fld c M M.pm (St.pm (F := F)) (fun S X => {S with pm := X}) :=
  fun S => acc_head _ _ _
theorem fld_dym : Fld c M M.dym (St.dym (F := F)) (fun S X => {S with dym := X}) :=
  fun S => acc_tail _ _ _ _ _ (acc_head _ _ _)
theorem fld_cvm : Fld c M M.cvm (St.cvm (F := F)) (fun S X => {S with cvm := X}) :=
  fun S => acc_tail _ _ _ _ _ (acc_tail _ _ _ _ _ (acc_head _ _ _))
theorem fld_gcp : Fld c M M.gcp (St.gcp (F := F)) (fun S X => {S with gcp := X}) :=
  fun S => acc_tail _ _ _ _ _ (acc_tail _ _ _ _ _ (acc_tail _ _ _ _ _ (acc_head _ _ _)))
theorem fld_gcn : Fld c M M.gcn (St.gcn (F := F)) (fun S X => {S with gcn := X}) :=
  fun S => acc_tail _ _ _ _ _ (acc_tail _ _ _ _ _ (acc_tail _ _ _ _ _ (acc_tail _ _ _ _ _ (acc_head _ _ _))))
theorem fld_dyp : Fld c M M.dyp (St.dyp (F := F)) (fun S X => {S with dyp := X}) :=
  fun S => acc_tail _ _ _ _ _ (acc_tail _ _ _ _ _ (acc_tail _ _ _ _ _ (acc_tail _ _ _ _ _ (acc_tail _ _ _ _ _ (acc_head _ _ _)))))
theorem fld_dyn : Fld c M M.dyn (St.dyn (F := F)) (fun S X => {S with dyn := X}) :=
  fun S => acc_tail _ _ _ _ _ (acc_tail _ _ _ _ _ (acc_tail _ _ _ _ _ (acc_tail _ _ _ _ _ (acc_tail _ _ _ _ _ (acc_tail _ _ _ _ _ (acc_head _ _ _))))))
theorem fld_cvp : Fld c M M.cvp (St.cvp (F := F)) (fun S X => {S with cvp := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))
theorem fld_cvn : Fld c M M.cvn (St.cvn (F := F)) (fun S X => {S with cvn := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))
theorem fld_cw : Fld c M M.cw (St.cw (F := F)) (fun S X => {S with cw := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))
theorem fld_clg : Fld c M M.clg (St.clg (F := F)) (fun S X => {S with clg := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))
theorem fld_clb : Fld c M M.clb (St.clb (F := F)) (fun S X => {S with clb := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))
theorem fld_slg : Fld c M M.slg (St.slg (F := F)) (fun S X => {S with slg := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))
theorem fld_slb : Fld c M M.slb (St.slb (F := F)) (fun S X => {S with slb := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))
theorem fld_ws : Fld c M M.ws (St.ws (F := F)) (fun S X => {S with ws := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))
theorem fld_wst : Fld c M M.wst (St.wst (F := F)) (fun S X => {S with wst := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))))
theorem fld_bst : Fld c M M.bst (St.bst (F := F)) (fun S X => {S with bst := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))))
theorem fld_gf : Fld c M M.gf (St.gf (F := F)) (fun S X => {S with gf := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))))))
theorem fld_se : Fld c M M.se (St.se (F := F)) (fun S X => {S with se := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))))))
theorem fld_dep : Fld c M M.dep (St.dep (F := F)) (fun S X => {S with dep := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))))))))
theorem fld_dp : Fld c M M.dp (St.dp (F := F)) St.setDp :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))))))))
theorem fld_small : Fld c M M.small (St.small (F := F)) St.setSmall :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))))))))))
theorem fld_gws : Fld c M M.gws (St.gws (F := F)) St.setGws :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))))))))))
theorem fld_sh : Fld c M M.sh (St.sh (F := F)) St.setSh :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))))))))))))
theorem fld_glu : Fld c M M.glu (St.glu (F := F)) St.setGlu :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))))))))))))
theorem fld_dgl : Fld c M M.dgl (St.dgl (F := F)) St.setDgl :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))))))))))))))
theorem fld_dcv : Fld c M M.dcv (St.dcv (F := F)) St.setDcv :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))))))))))))))
theorem fld_acc : Fld c M M.acc (St.acc (F := F)) St.setAcc :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))))))))))))))))))
theorem fld_gcw : Fld c M M.gcw (St.gcw (F := F)) St.setGcw :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))))))))))))))))))
theorem fld_gbs : Fld c M M.gbs (St.gbs (F := F)) St.setGbs :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_last _ _)))))))))))))))))))))))))))))

/-- The contents with the block of `r` replaced by `w`. -/
def upd {s : Shape} {V : Type} (X : s.Idx → V) (r : Rect s) (w : r.shape.Idx → V) : s.Idx → V := fun y =>
  open Classical in if h : ∃ x, r.emb x = y then w h.choose else X y

theorem upd_emb {s : Shape} {V : Type} (X : s.Idx → V) (r : Rect s) (w : r.shape.Idx → V) (x : r.shape.Idx) : upd X r w (r.emb x) = w x := by
  unfold upd
  have h : ∃ x', r.emb x' = r.emb x := ⟨x, rfl⟩
  rw [dif_pos h]
  exact congrArg w (r.emb.injective h.choose_spec)

theorem upd_miss {s : Shape} {V : Type} (X : s.Idx → V) (r : Rect s) (w : r.shape.Idx → V) (y : s.Idx) (h : ¬ ∃ x, r.emb x = y) :
    upd X r w y = X y := by
  unfold upd; rw [dif_neg h]

/-- What a block of `X` reads. -/
def blk {s : Shape} {V : Type} (X : s.Idx → V) (off size : Fin s.rank → ℕ) (inb : ∀ a, off a + size a ≤ s.size a) :
    (Rect.unit off size inb).toLoadRect.shape.Idx → V := fun x => X ((Rect.unit off size inb).toLoadRect.idx x)

theorem Runs.ld {s : Shape} {e : EltTy} {m : Memref sig .tc .vmem s e} {get : St F → s.Idx → Elt F e} {set : St F → (s.Idx → Elt F e) → St F}
    (hf : Fld c M m get set) (hgs : ∀ S, set S (get S) = S) (off size : Fin s.rank → ℕ) (inb : ∀ a, off a + size a ≤ s.size a)
    (hn : 0 < (Rect.unit off size inb).toLoadRect.shape.numel) (S : St F) :
    Runs c M (Mix.ld m off size inb hn) S (blk (get S) off size inb) S := fun Q hQ => by
  refine (hf S).trans ?_
  show _ ⊢ wp _ _ _ (.op _ .ret) Q
  unfold owns
  iintro ⟨⟨%f, %hf', Hm⟩, HR⟩
  iapply (wp_load (defs := defs₀ (F := F)) Variants.none (c : Thread nD τ) none Set.univ (m := m) (View.setOn_subset_set _ _)) $$ [Hm]
  · iexact Hm
  iintro Hm
  rw [wp_ret]
  imodintro
  have hv : m.view.readAt (Elt F) (Rect.unit off size inb).toLoadRect f = blk (get S) off size inb := by
    funext x; rw [View.readAt_apply, hf']; rfl
  rw [hv]
  have hQ' : Own c M (set S (get S)) ⊢ Q (blk (get S) off size inb) := by rw [hgs]; exact hQ
  iapply hQ'
  iapply HR
  iexists f; isplitr
  · ipureintro; exact hf'
  · iexact Hm

/-- What a store to a block leaves. -/
theorem Runs.store {s : Shape} {e : EltTy} {m : Memref sig .tc .vmem s e} {get : St F → s.Idx → Elt F e} {set : St F → (s.Idx → Elt F e) → St F}
    (hf : Fld c M m get set) (r : Rect s) (w : r.shape.Idx → Elt F e) (hx hm) (S : St F) :
    Runs c M (Prog.lift (.store m r w Finset.univ hx hm)) S ⟨⟩ (set S (upd (get S) r w)) := fun Q hQ => by
  refine (hf S).trans ?_
  show _ ⊢ wp _ _ _ (.op _ .ret) Q
  unfold owns
  iintro ⟨⟨%f, %hf', Hm⟩, HR⟩
  iapply (wp_store (defs := defs₀ (F := F)) Variants.none (c : Thread nD τ) none Set.univ (m := m) (r := r) (w := w) (S := m.view.set)
    ((m.view.slice r).setOn_subset_set _ |>.trans (by rw [View.set_slice]; exact View.setOn_subset_set _ _))) $$ [Hm]
  · iexact Hm
  iintro Hm
  rw [wp_ret]
  imodintro
  iapply hQ
  iapply HR
  iexists _; isplitr
  rotate_left
  · iexact Hm
  · ipureintro
    funext y
    by_cases h : ∃ x, r.emb x = y
    · obtain ⟨x, rfl⟩ := h
      rw [upd_emb]; exact View.read_slice_write_emb r _ w (Finset.mem_univ x)
    · rw [upd_miss _ _ _ _ h, ← hf']
      refine View.read_slice_write_of_not_mem r _ w _ fun hm => h ?_
      obtain ⟨x, -, hx⟩ := Finset.mem_map.mp hm
      exact ⟨x, hx⟩

/-- A write of a block: the block is read first and forgotten. -/
theorem Runs.put {s : Shape} {e : EltTy} {m : Memref sig .tc .vmem s e} {get : St F → s.Idx → Elt F e} {set : St F → (s.Idx → Elt F e) → St F}
    (hf : Fld c M m get set) (hgs : ∀ S, set S (get S) = S) (he : e.bits = 32) (off size : Fin s.rank → ℕ)
    (inb : ∀ a, off a + size a ≤ s.size a) (hn : 0 < (Rect.unit off size inb).shape.numel) (w : (Rect.unit off size inb).shape.Idx → Elt F e) (S : St F) :
    Runs c M (Mix.put m he off size inb hn w) S ⟨⟩ (set S (upd (get S) (Rect.unit off size inb) w)) :=
  (Runs.ld hf hgs off size inb hn S).bind (Runs.store hf _ w _ _ S)

theorem Runs.putDp (off size : Fin 2 → ℕ) (inb : ∀ a, off a + size a ≤ S256x6144.size a) (hn pk)
    (w : (Rect.unit (s := S256x6144) off size inb).shape.Idx → Elt F .bf16) (S : St F) :
    Runs c M (Mix.putDp M off size inb hn pk w) S ⟨⟩ (S.setDp (upd S.dp (Rect.unit (s := S256x6144) off size inb) w)) :=
  (Runs.ld (fld_dp (F := F)) (fun _ => rfl) off size inb hn S).bind (Runs.store (fld_dp (F := F)) _ w _ _ S)

/-- A counted loop, by an invariant over the trips. -/
theorem Runs.loop {w : ℕ} {σ : Type} (l : Scf.Loop w) (hok : l.OK) (body : Fin l.trips → σ → Pg F σ) (I : ℕ → σ → St F → Prop)
    (hstep : ∀ (k : Fin l.trips) (a : σ) (S : St F), I k.val a S → ∃ a' S', Runs c M (body k a) S a' S' ∧ I (k.val + 1) a' S')
    (a : σ) (S : St F) (h0 : I 0 a S) : ∃ a' S', Runs c M (Scf.Loop.for l hok a body) S a' S' ∧ I l.trips a' S' := by
  suffices H : ∀ (n k : ℕ) (hk : k + n = l.trips) (a : σ) (S : St F), I k a S →
      ∃ a' S', Runs c M (Scf.forFrom body ((List.finRange l.trips).drop k) a) S a' S' ∧ I l.trips a' S' by
    obtain ⟨a', S', h⟩ := H l.trips 0 (Nat.zero_add _) a S h0
    refine ⟨a', S', ?_⟩
    rw [Scf.Loop.for, Scf.for_eq]; exact h
  intro n
  induction n with
  | zero =>
    intro k hk a S h
    obtain rfl : k = l.trips := hk
    rw [List.drop_of_length_le (by simp)]
    exact ⟨a, S, Runs.ret a S, h⟩
  | succ n ih =>
    intro k hk a S h
    have hlt : k < l.trips := by omega
    obtain ⟨a₁, S₁, h₁, h₁'⟩ := hstep ⟨k, hlt⟩ a S h
    obtain ⟨a₂, S₂, h₂, h₂'⟩ := ih (k + 1) (by omega) a₁ S₁ h₁'
    refine ⟨a₂, S₂, ?_, h₂'⟩
    rw [List.drop_eq_getElem_cons (by simpa using hlt), List.getElem_finRange, Fin.cast_mk, Scf.forFrom_cons]
    exact h₁.bind h₂

/-- `P` run from the contents `S` ends with some value and contents of which `Φ` holds. -/
def Reach (c : Dev nD) (M : Mems) {α : Type} (P : Pg F α) (S : St F) (Φ : α → St F → Prop) : Prop :=
  ∃ a S', Runs c M P S a S' ∧ Φ a S'

theorem Reach.ret {α : Type} {a : α} {S : St F} {Φ : α → St F → Prop} (h : Φ a S) : Reach c M (pure a) S Φ := ⟨a, S, Runs.ret a S, h⟩

theorem Reach.bind {α β : Type} {P : Pg F α} {k : α → Pg F β} {S : St F} {Φ : β → St F → Prop}
    (h : Reach c M P S fun a S' => Reach c M (k a) S' Φ) : Reach c M (P >>= k) S Φ := by
  obtain ⟨a, S', h1, b, S'', h2, h3⟩ := h
  exact ⟨b, S'', h1.bind h2, h3⟩

theorem Reach.mono {α : Type} {P : Pg F α} {S : St F} {Φ Ψ : α → St F → Prop} (h : Reach c M P S Φ) (hΦ : ∀ a S', Φ a S' → Ψ a S') :
    Reach c M P S Ψ := by
  obtain ⟨a, S', h1, h2⟩ := h
  exact ⟨a, S', h1, hΦ a S' h2⟩

theorem Reach.ld {s : Shape} {e : EltTy} {m : Memref sig .tc .vmem s e} {get : St F → s.Idx → Elt F e} {set : St F → (s.Idx → Elt F e) → St F}
    (hf : Fld c M m get set) (hgs : ∀ S, set S (get S) = S) {off size : Fin s.rank → ℕ} {inb : ∀ a, off a + size a ≤ s.size a}
    {hn : 0 < (Rect.unit off size inb).toLoadRect.shape.numel} {S : St F} {Φ : _ → St F → Prop}
    (h : ∀ X, X = blk (get S) off size inb → Φ X S) : Reach c M (Mix.ld m off size inb hn) S Φ :=
  ⟨_, _, Runs.ld hf hgs off size inb hn S, h _ rfl⟩

theorem Reach.put {s : Shape} {e : EltTy} {m : Memref sig .tc .vmem s e} {get : St F → s.Idx → Elt F e} {set : St F → (s.Idx → Elt F e) → St F}
    (hf : Fld c M m get set) (hgs : ∀ S, set S (get S) = S) {he : e.bits = 32} {off size : Fin s.rank → ℕ}
    {inb : ∀ a, off a + size a ≤ s.size a} {hn : 0 < (Rect.unit off size inb).shape.numel} {w : (Rect.unit off size inb).shape.Idx → Elt F e}
    {S : St F} {Φ : PUnit → St F → Prop} (h : ∀ X, X = upd (get S) (Rect.unit off size inb) w → Φ ⟨⟩ (set S X)) :
    Reach c M (Mix.put m he off size inb hn w) S Φ :=
  ⟨_, _, Runs.put hf hgs he off size inb hn w S, h _ rfl⟩

theorem Reach.putDp {off size : Fin 2 → ℕ} {inb : ∀ a, off a + size a ≤ S256x6144.size a} {hn pk}
    {w : (Rect.unit (s := S256x6144) off size inb).shape.Idx → Elt F .bf16} {S : St F} {Φ : PUnit → St F → Prop}
    (h : ∀ X, X = upd S.dp (Rect.unit (s := S256x6144) off size inb) w → Φ ⟨⟩ (S.setDp X)) :
    Reach c M (Mix.putDp M off size inb hn pk w) S Φ :=
  ⟨_, _, Runs.putDp off size inb hn pk w S, h _ rfl⟩

theorem Reach.loop {w : ℕ} {σ : Type} {l : Scf.Loop w} {hok : l.OK} {body : Fin l.trips → σ → Pg F σ} (I : ℕ → σ → St F → Prop)
    (hstep : ∀ (k : Fin l.trips) (a : σ) (S : St F), I k.val a S → Reach c M (body k a) S (I (k.val + 1)))
    {a : σ} {S : St F} (h0 : I 0 a S) : Reach c M (Scf.Loop.for l hok a body) S (I l.trips) :=
  Runs.loop l hok body I hstep a S h0

end Cert.Mix

end
-- ==== Proof.MixRe.lean ====
/- Arrays of real numbers under the kernel's operations: `re2 f` and `re3 f` are the arrays of the real numbers
   `f r c` and `f k r c`, and each operation of the body on such arrays is such an array. -/
module

public import proofs.«01_k».proof.Proof.MixRun
public import proofs.«01_k».proof.Proof.RealLib
public import Idealize.ShloMosaic.Lib.Pointwise

@[expose] public section

set_option maxRecDepth 65536

noncomputable section

namespace Cert.Mix

open Idealize.ShloMosaic Idealize.SL.Sem Cert.MixKernelIdeal Cert.MixKernelIdeal.Gen Cert.RealLib

/-- Matrices of extended reals. -/
abbrev M2 (n m : ℕ) := FVec Ideal (⟨2, ![n, m]⟩ : Shape) .f32
/-- The matrix of the real numbers `f r c`. -/
def re2 {n m : ℕ} (f : ℕ → ℕ → ℝ) : (⟨2, ![n, m]⟩ : Shape).Idx → EReal := fun x => ((f (x 0).val (x 1).val : ℝ) : EReal)
/-- The three-way array of the real numbers `f k r c`. -/
def re3 {k n m : ℕ} (f : ℕ → ℕ → ℕ → ℝ) : (⟨3, ![k, n, m]⟩ : Shape).Idx → EReal :=
  fun x => ((f (x 0).val (x 1).val (x 2).val : ℝ) : EReal)

theorem re2_ix {n m : ℕ} (f : ℕ → ℕ → ℝ) (r : Fin n) (c : Fin m) : re2 f (ix2 r c) = ((f r.val c.val : ℝ) : EReal) := rfl
theorem re3_ix {k n m : ℕ} (f : ℕ → ℕ → ℕ → ℝ) (i : Fin k) (r : Fin n) (c : Fin m) :
    re3 f (ix3 i r c) = ((f i.val r.val c.val : ℝ) : EReal) := rfl

theorem ext2 {n m : ℕ} {X : (⟨2, ![n, m]⟩ : Shape).Idx → EReal} {f : ℕ → ℕ → ℝ}
    (h : ∀ (r : Fin n) (c : Fin m), X (ix2 r c) = ((f r.val c.val : ℝ) : EReal)) : X = re2 f := by
  funext x
  have hx : x = ix2 (x 0) (x 1) := by funext a; fin_cases a <;> rfl
  rw [hx]; exact h _ _
theorem ext3 {k n m : ℕ} {X : (⟨3, ![k, n, m]⟩ : Shape).Idx → EReal} {f : ℕ → ℕ → ℕ → ℝ}
    (h : ∀ (i : Fin k) (r : Fin n) (c : Fin m), X (ix3 i r c) = ((f i.val r.val c.val : ℝ) : EReal)) : X = re3 f := by
  funext x
  have hx : x = ix3 (x 0) (x 1) (x 2) := by funext a; fin_cases a <;> rfl
  rw [hx]; exact h _ _ _

section
variable {n m : ℕ} (f g : ℕ → ℕ → ℝ)

theorem addf_re : (addf (re2 f : M2 n m) (re2 g) : M2 n m) = re2 (fun r c => f r c + g r c) := by
  funext x; exact (EReal.coe_add _ _).symm
theorem subf_re : (subf (re2 f : M2 n m) (re2 g) : M2 n m) = re2 (fun r c => f r c - g r c) := by
  funext x; exact (EReal.coe_sub _ _).symm
theorem mulf_re : (mulf (re2 f : M2 n m) (re2 g) : M2 n m) = re2 (fun r c => f r c * g r c) := by
  funext x; exact (EReal.coe_mul _ _).symm
theorem tanh_re : (tanh (re2 f : M2 n m) : M2 n m) = re2 (fun r c => Real.tanh (f r c)) := by
  funext x; exact Ideal.tanh_coe _
theorem extf_re (h : FTy.bf16.bits < FTy.f32.bits) : (extf .f32 (re2 f : FVec Ideal (⟨2, ![n, m]⟩ : Shape) .bf16) h : M2 n m) = re2 f := rfl
theorem truncf_re (h : FTy.bf16.bits < FTy.f32.bits) : (truncf .bf16 (re2 f : M2 n m) h : FVec Ideal (⟨2, ![n, m]⟩ : Shape) .bf16) = re2 f := rfl
theorem lit0_re : (lit (⟨2, ![n, m]⟩ : Shape) 0x00000000#32 : M2 n m) = re2 (fun _ _ => 0) := by funext x; exact lit_zero
theorem lit1_re : (lit (⟨2, ![n, m]⟩ : Shape) 0x3F800000#32 : M2 n m) = re2 (fun _ _ => 1) := by funext x; exact lit_one
theorem lith_re : (lit (⟨2, ![n, m]⟩ : Shape) 0x3F000000#32 : M2 n m) = re2 (fun _ _ => 1 / 2) := by funext x; exact lit_half
theorem lite_re : (lit (⟨2, ![n, m]⟩ : Shape) 0x358637BD#32 : M2 n m) = re2 (fun _ _ => epsR) := by funext x; exact lit_eps
theorem litn_re : (lit (⟨2, ![n, m]⟩ : Shape) 0x44800000#32 : M2 n m) = re2 (fun _ _ => 1024) := by funext x; exact lit_1024
theorem divn_re : (divf (re2 f : M2 n m) (re2 (fun _ _ => 1024)) : M2 n m) = re2 (fun r c => f r c / 1024) := by
  funext x; exact div_coe_coe _ _ (by norm_num)
theorem rsqrt_re (h : ∀ r c, 0 < f r c) : (rsqrt (re2 f : M2 n m) : M2 n m) = re2 (fun r c => (Real.sqrt (f r c))⁻¹) := by
  funext x; exact rsqrt_pos _ (h _ _)
end

/-! ### Scalar and row formulas -/

/-- The logistic function. -/
def sgR (x : ℝ) : ℝ := 1 / 2 * Real.tanh (1 / 2 * x) + 1 / 2
/-- The derivative of `x ↦ x σ(x)`. -/
def dslR (x : ℝ) : ℝ := sgR x * (1 + x * (1 - sgR x))
/-- The mean of a row. -/
def mnR (v : ℕ → ℝ) : ℝ := (∑ c : Fin 1024, v c.val) / 1024
def varR (v : ℕ → ℝ) : ℝ := mnR fun c => (v c - mnR v) * (v c - mnR v)
def rstdR (v : ℕ → ℝ) : ℝ := (Real.sqrt (varR v + epsR))⁻¹
/-- The normalised row. -/
def nhR (v : ℕ → ℝ) (c : ℕ) : ℝ := (v c - mnR v) * rstdR v
def lnR (g b v : ℕ → ℝ) (c : ℕ) : ℝ := nhR v c * g c + b c
/-- The gradient of the norm's input for the cotangent `d`. -/
def lnG (g v d : ℕ → ℝ) (c : ℕ) : ℝ :=
  rstdR v * (d c * g c - (mnR fun c => d c * g c) - nhR v c * mnR fun c => d c * g c * nhR v c)
/-- The cotangent at the convolution's norm. -/
def dlnR (g b cv gc dy : ℕ → ℝ) (c : ℕ) : ℝ := dy c * gc c * sgR (gc c) * dslR (lnR g b cv c)

theorem varR_pos (v : ℕ → ℝ) : 0 < varR v + epsR := by
  have : 0 ≤ varR v := div_nonneg (Finset.sum_nonneg fun c _ => mul_self_nonneg _) (by norm_num)
  have := epsR_pos; linarith

section
variable {n m : ℕ} (f g : ℕ → ℕ → ℝ)

theorem sgm_re : sgm (F := Ideal) (s := ⟨2, ![n, m]⟩) (re2 f) = re2 (fun r c => sgR (f r c)) := by
  unfold sgm; rw [lith_re, mulf_re, tanh_re, mulf_re, addf_re]; rfl
theorem dsl_re : dsl (F := Ideal) (s := ⟨2, ![n, m]⟩) (re2 f) (re2 fun r c => sgR (f r c)) = re2 (fun r c => dslR (f r c)) := by
  unfold dsl; rw [lit1_re, subf_re, mulf_re, addf_re, mulf_re]; rfl
end

/-! ### 144 rows -/

theorem rowSum144 (A : FVec Ideal S144x1024 .f32) (r : Fin 144) (z : Fin 1) :
    shapeCast S144x1 (multiReduction .add [1] S144 A 0x00000000#32 reduces_S144x1024_S144 (.inl rfl) rfl) shapeCasts_S144_S144x1 (ix2 r z)
      = ∑ k : Fin 1024, A (ix2 r k) := by
  pointwise []

theorem mean144_re (x : ℕ → ℕ → ℝ) : mean144 (F := Ideal) (re2 x) = re2 (fun r _ => mnR (x r)) := by
  unfold mean144
  rw [litn_re]
  exact (congrArg (fun A : M2 144 1 => (divf A (re2 fun _ _ => 1024) : M2 144 1)) (ext2 fun r z => (rowSum144 _ r z).trans
    ((Finset.sum_congr rfl fun _ _ => rfl).trans (coe_sum _ fun c : Fin 1024 => x r.val c.val)))).trans (divn_re fun r _ => ∑ c : Fin 1024, x r c.val)
theorem wide144_re (x : ℕ → ℕ → ℝ) : wide144 (F := Ideal) (re2 x) = re2 (fun r _ => x r 0) := by
  refine ext2 fun r c => ?_; unfold wide144; generalize hA : (re2 x : FVec Ideal S144x1 .f32) = A; pointwise []; subst hA; rfl
theorem row144_re (x : ℕ → ℕ → ℝ) : row144 (F := Ideal) (re2 x) = re2 (fun _ c => x 0 c) := by
  refine ext2 fun r c => ?_; unfold row144; generalize hA : (re2 x : FVec Ideal S1x1024 .f32) = A; pointwise []; subst hA; rfl

section
variable (x cv gc dy d g b : ℕ → ℕ → ℝ)

theorem nrm144_re : nrm144 (F := Ideal) (re2 x) = re2 (fun r => nhR (x r)) := by
  unfold nrm144 cent144 rstd144 cent144
  rw [mean144_re, wide144_re, subf_re, mulf_re, mean144_re, lite_re, addf_re, rsqrt_re (fun r _ => (mnR fun c => (x r c - mnR (x r)) * (x r c - mnR (x r))) + epsR) fun r _ => varR_pos (x r), wide144_re, mulf_re]
  rfl
theorem rstd144_re : rstd144 (F := Ideal) (re2 x) = re2 (fun r _ => rstdR (x r)) := by
  unfold rstd144 cent144
  rw [mean144_re, wide144_re, subf_re, mulf_re, mean144_re, lite_re, addf_re, rsqrt_re (fun r _ => (mnR fun c => (x r c - mnR (x r)) * (x r c - mnR (x r))) + epsR) fun r _ => varR_pos (x r)]
  rfl
theorem lin144_re : lin144 (F := Ideal) (re2 g) (re2 b) (re2 x) = re2 (fun r => lnR (g 0) (b 0) (x r)) := by
  unfold lin144; rw [nrm144_re, row144_re, row144_re, mulf_re, addf_re]; rfl
theorem dln144_re : dln144 (F := Ideal) (re2 g) (re2 b) (re2 cv) (re2 gc) (re2 dy)
    = re2 (fun r => dlnR (g 0) (b 0) (cv r) (gc r) (dy r)) := by
  unfold dln144; rw [lin144_re, sgm_re, sgm_re, mulf_re, mulf_re, dsl_re (fun r => lnR (g 0) (b 0) (cv r)), mulf_re]; rfl
theorem dcv144_re : dcv144 (F := Ideal) (re2 g) (re2 cv) (re2 d) = re2 (fun r => lnG (g 0) (cv r) (d r)) := by
  unfold dcv144
  rw [rstd144_re, nrm144_re, wide144_re, row144_re, mulf_re, mean144_re, mulf_re, mean144_re, wide144_re, wide144_re, mulf_re, subf_re,
    subf_re, mulf_re]
  rfl
end

theorem main0_re (x : ℕ → ℕ → ℝ) : main0 (F := Ideal) (re2 x) = re2 (fun r c => x (16 + r) c) := by
  refine ext2 fun r c => ?_; unfold main0; generalize hA : (re2 x : FVec Ideal S144x1024 .f32) = A; pointwise []; subst hA; rfl
theorem main1_re (x : ℕ → ℕ → ℝ) : main1 (F := Ideal) (re2 x) = re2 x := by
  refine ext2 fun r c => ?_; unfold main1; generalize hA : (re2 x : FVec Ideal S144x1024 .f32) = A; pointwise []; subst hA; rfl

theorem fold128_re (a x : ℕ → ℕ → ℝ) :
    fold128 (F := Ideal) (re2 a) (re2 x) = re2 (fun r c => a r c + ∑ i : Fin 16, x (8 * i.val + r) c) := by
  refine ext2 fun r c => ?_; unfold fold128
  generalize hA : (re2 x : FVec Ideal S128x1024 .f32) = A
  generalize hB : (re2 a : FVec Ideal S8x1024 .f32) = B
  pointwise []
  subst hA hB
  simp only [re2_ix, coe_sum, ← EReal.coe_add, Nat.mul_comm 8]
theorem fold256_re (a x : ℕ → ℕ → ℝ) :
    fold256 (F := Ideal) (re2 a) (re2 x) = re2 (fun r c => a r c + ∑ i : Fin 32, x (8 * i.val + r) c) := by
  refine ext2 fun r c => ?_; unfold fold256
  generalize hA : (re2 x : FVec Ideal S256x1024 .f32) = A
  generalize hB : (re2 a : FVec Ideal S8x1024 .f32) = B
  pointwise []
  subst hA hB
  simp only [re2_ix, coe_sum, ← EReal.coe_add, Nat.mul_comm 8]

theorem catF0_re (h x : ℕ → ℕ → ℝ) : catF0 (F := Ideal) (re2 h) (re2 x) = re2 (fun r c => if r < 16 then h r c else x (r - 16) c) := by
  refine ext2 fun r c => ?_; unfold catF0
  generalize hA : (re2 h : FVec Ideal S16x1024 .f32) = A
  generalize hB : (re2 x : FVec Ideal S128x1024 .f32) = B
  pointwise []
  subst hA hB
  simp only [re2_ix]; split <;> rfl
theorem catF1_re (h x : ℕ → ℕ → ℝ) : catF1 (F := Ideal) (re2 h) (re2 x) = re2 (fun r c => if r < 128 then x r c else h (r - 128) c) := by
  refine ext2 fun r c => ?_; unfold catF1
  generalize hA : (re2 h : FVec Ideal S16x1024 .f32) = A
  generalize hB : (re2 x : FVec Ideal S128x1024 .f32) = B
  pointwise []
  subst hA hB
  simp only [re2_ix]; split <;> rfl
theorem catB0_re (h x : ℕ → ℕ → ℝ) : catB0 (F := Ideal) (re2 h) (re2 x) = re2 (fun r c => if r < 16 then h r c else x (r - 16) c) := by
  refine ext2 fun r c => ?_; unfold catB0
  generalize hA : (re2 h : FVec Ideal S16x1024 .bf16) = A
  generalize hB : (re2 x : FVec Ideal S128x1024 .bf16) = B
  pointwise []
  subst hA hB
  simp only [re2_ix]; split <;> rfl
theorem catB1_re (h x : ℕ → ℕ → ℝ) : catB1 (F := Ideal) (re2 h) (re2 x) = re2 (fun r c => if r < 128 then x r c else h (r - 128) c) := by
  refine ext2 fun r c => ?_; unfold catB1
  generalize hA : (re2 h : FVec Ideal S16x1024 .bf16) = A
  generalize hB : (re2 x : FVec Ideal S128x1024 .bf16) = B
  pointwise []
  subst hA hB
  simp only [re2_ix]; split <;> rfl

theorem dgate_re (dy ln sl gc : ℕ → ℕ → ℝ) :
    dgate (F := Ideal) (re2 dy) (re2 ln) (re2 sl) (re2 gc) (re2 fun r c => sgR (gc r c))
      = re2 (fun r c => dy r c * ln r c * sl r c * dslR (gc r c)) := by
  unfold dgate; rw [mulf_re, mulf_re, dsl_re, mulf_re, truncf_re]

/-- A select by rows, where the condition of each row is known. -/
theorem keep144_re (k : IVec S144x1 1) (p : ℕ → Prop) [DecidablePred p] (hk : ∀ r : Fin 144, k (ix2 r 0) = 1#1 ↔ p r.val) (x : ℕ → ℕ → ℝ) :
    keep144 (F := Ideal) k (re2 x) = re2 (fun r c => if p r then x r c else 0) := by
  refine ext2 fun r c => ?_; unfold keep144; rw [lit0_re]
  generalize hA : (re2 x : FVec Ideal S144x1024 .f32) = A
  generalize hB : (re2 (fun _ _ => 0) : FVec Ideal S144x1024 .f32) = B
  pointwise []
  subst hA hB
  simp only [re2_ix]
  by_cases h : p r.val
  · rw [(hk r).mpr h, if_pos h]; rfl
  · rw [show k (ix2 r 0) = 0#1 from BitVec.eq_zero_or_eq_one _ |>.resolve_right fun e => h ((hk r).mp e), if_neg h]; rfl

theorem valid0_bits : ∀ (r : Fin 144) (n : Fin 32), IntOp.ori (IntOp.cmpi CmpIPredicate.sge (BitVec.ofNat 32 r.val) 16#32)
    (Scalar.cmpi CmpIPredicate.sgt (BitVec.ofNat 32 n.val) 0#32) = 1#1 ↔ (16 ≤ r.val ∨ 0 < n.val) := by decide +kernel
theorem valid1_bits : ∀ (r : Fin 144) (n : Fin 32), IntOp.ori (IntOp.cmpi CmpIPredicate.slt (BitVec.ofNat 32 r.val) 128#32)
    (Scalar.cmpi CmpIPredicate.slt (BitVec.ofNat 32 n.val) 31#32) = 1#1 ↔ (r.val < 128 ∨ n.val < 31) := by decide +kernel

theorem valid0_iff (i : grid0.Coords) (r : Fin 144) : valid0 i (ix2 r 0) = 1#1 ↔ (16 ≤ r.val ∨ 0 < (i 0).val) := by
  unfold valid0
  pointwise []
  exact valid0_bits r (i 0)
theorem valid1_iff (i : grid0.Coords) (r : Fin 144) : valid1 i (ix2 r 0) = 1#1 ↔ (r.val < 128 ∨ (i 0).val < 31) := by
  unfold valid1
  pointwise []
  exact valid1_bits r (i 0)

/-! ### 256 rows -/

theorem rowSum256 (A : FVec Ideal S256x1024 .f32) (r : Fin 256) (z : Fin 1) :
    shapeCast S256x1 (multiReduction .add [1] S256 A 0x00000000#32 reduces_S256x1024_S256 (.inl rfl) rfl) shapeCasts_S256_S256x1 (ix2 r z)
      = ∑ k : Fin 1024, A (ix2 r k) := by
  pointwise []

theorem mean256_re (x : ℕ → ℕ → ℝ) : mean256 (F := Ideal) (re2 x) = re2 (fun r _ => mnR (x r)) := by
  unfold mean256
  rw [litn_re]
  exact (congrArg (fun A : M2 256 1 => (divf A (re2 fun _ _ => 1024) : M2 256 1)) (ext2 fun r z => (rowSum256 _ r z).trans
    ((Finset.sum_congr rfl fun _ _ => rfl).trans (coe_sum _ fun c : Fin 1024 => x r.val c.val)))).trans (divn_re fun r _ => ∑ c : Fin 1024, x r c.val)
theorem wide256_re (x : ℕ → ℕ → ℝ) : wide256 (F := Ideal) (re2 x) = re2 (fun r _ => x r 0) := by
  refine ext2 fun r c => ?_; unfold wide256; generalize hA : (re2 x : FVec Ideal S256x1 .f32) = A; pointwise []; subst hA; rfl
theorem row256_re (x : ℕ → ℕ → ℝ) : row256 (F := Ideal) (re2 x) = re2 (fun _ c => x 0 c) := by
  refine ext2 fun r c => ?_; unfold row256; generalize hA : (re2 x : FVec Ideal S1x1024 .f32) = A; pointwise []; subst hA; rfl

section
variable (x d g b : ℕ → ℕ → ℝ)

theorem nrm256_re : nrm256 (F := Ideal) (re2 x) = re2 (fun r => nhR (x r)) := by
  unfold nrm256 rstd256 cent256
  rw [extf_re, mean256_re, wide256_re, subf_re, mulf_re, mean256_re, lite_re, addf_re, rsqrt_re (fun r _ => (mnR fun c => (x r c - mnR (x r)) * (x r c - mnR (x r))) + epsR) fun r _ => varR_pos (x r), wide256_re, mulf_re]
  rfl
theorem rstd256_re : rstd256 (F := Ideal) (re2 x) = re2 (fun r _ => rstdR (x r)) := by
  unfold rstd256 cent256
  rw [extf_re, mean256_re, wide256_re, subf_re, mulf_re, mean256_re, lite_re, addf_re, rsqrt_re (fun r _ => (mnR fun c => (x r c - mnR (x r)) * (x r c - mnR (x r))) + epsR) fun r _ => varR_pos (x r)]
  rfl
theorem lin256_re : lin256 (F := Ideal) (re2 g) (re2 b) (re2 x) = re2 (fun r => lnR (g 0) (b 0) (x r)) := by
  unfold lin256; rw [nrm256_re, row256_re, row256_re, mulf_re, addf_re, truncf_re]; rfl
theorem dv256_re : dv256 (F := Ideal) (re2 g) (re2 x) (re2 d) = re2 (fun r => lnG (g 0) (x r) (d r)) := by
  unfold dv256
  rw [rstd256_re, nrm256_re, wide256_re, row256_re, mulf_re, mean256_re, mulf_re, mean256_re, wide256_re, wide256_re, mulf_re, subf_re,
    subf_re, mulf_re, truncf_re]
  rfl
end

/-! ### The heads -/

theorem block_re (x : ℕ → ℕ → ℝ) (ch : Fin 2) (hd : Fin 8) :
    block (F := Ideal) (re2 x) ch hd = re2 (fun r c => x (128 * ch.val + r) (128 * hd.val + c)) := by
  refine ext2 fun r c => ?_; unfold block; rfl
theorem asB_re (w : ℕ → ℕ → ℕ → ℝ) : asB (F := Ideal) (re3 w) = re2 (w 0) := by
  refine ext2 fun r c => ?_; unfold asB
  generalize hA : (re3 w : FVec Ideal S1x128x128 .f32) = A
  pointwise []; subst hA; rfl
theorem up_re (x : ℕ → ℕ → ℝ) : up (F := Ideal) (re2 x) = re2 x := rfl
theorem dmix_re (u gs dy : ℕ → ℕ → ℝ) :
    dmix (F := Ideal) (re2 u) (re2 gs) (re2 dy) = re2 (fun r c => dy r c * u r c * (gs r c * sgR (gs r c))) := by
  unfold dmix; rw [up_re, up_re, up_re, sgm_re, mulf_re, mulf_re, mulf_re]
theorem dmixB_re (u gs dy : ℕ → ℕ → ℝ) :
    dmixB (F := Ideal) (re2 u) (re2 gs) (re2 dy) = re2 (fun r c => dy r c * u r c * (gs r c * sgR (gs r c))) := by
  unfold dmixB; rw [dmix_re, truncf_re]
/-- A product of 128 by 128 blocks. -/
theorem mm_re (a b : ℕ → ℕ → ℝ) :
    matmul (F := Ideal) (φ₁ := .bf16) (φ₂ := .bf16) dot_S128x128_S128x128_S128x128_1_0_0_1_n_n none (re2 a : FVec Ideal S128x128 .bf16) (re2 b : FVec Ideal S128x128 .bf16) (constant S128x128 .f32 0x00000000#32)
      = re2 (fun r c => ∑ k : Fin 128, a r k.val * b k.val c) := by
  refine ext2 fun r c => ?_
  generalize hA : (re2 a : FVec Ideal S128x128 .bf16) = A
  generalize hB : (re2 b : FVec Ideal S128x128 .bf16) = B
  pointwise [id]; subst hA hB
  simp only [re2_ix, ← EReal.coe_mul, coe_sum]
/-- The product of the first with the second's transpose. -/
theorem mmT_re (a b : ℕ → ℕ → ℝ) :
    matmul (F := Ideal) (φ₁ := .bf16) (φ₂ := .bf16) dot_S128x128_S128x128_S128x128_1_1_0_0_n_n none (re2 a : FVec Ideal S128x128 .bf16) (re2 b : FVec Ideal S128x128 .bf16) (constant S128x128 .f32 0x00000000#32)
      = re2 (fun r c => ∑ k : Fin 128, a r k.val * b c k.val) := by
  refine ext2 fun r c => ?_
  generalize hA : (re2 a : FVec Ideal S128x128 .bf16) = A
  generalize hB : (re2 b : FVec Ideal S128x128 .bf16) = B
  pointwise [id]; subst hA hB
  simp only [re2_ix, ← EReal.coe_mul, coe_sum]
theorem mixed_re (w : ℕ → ℕ → ℕ → ℝ) (b v : ℕ → ℕ → ℝ) :
    mixed (F := Ideal) (re3 w) (re2 b) (re2 v) = re2 (fun r c => ∑ k : Fin 128, w 0 r k.val * v k.val c + b r 0) := by
  unfold mixed
  rw [asB_re, mm_re, show (broadcastTo S128x128 (shapeCast S128x1 (re2 b : FVec Ideal S128x1 .f32) shapeCasts_S128x1_S128x1)
    broadcasts_S128x1_S128x128 : M2 128 128) = re2 (fun r _ => b r 0) from ?_, addf_re]
  refine ext2 fun r c => ?_
  generalize hA : (re2 b : FVec Ideal S128x1 .f32) = A; pointwise [id]; subst hA; rfl

/-! ### The lanes of the convolution -/

theorem shifted_re (v : ℕ → ℕ → ℝ) (k : ℕ) (hk : k < 8) :
    shifted (F := Ideal) (re2 v) k = re3 (fun _ r c => v ((r + k) % 288) c) := by
  refine ext3 fun z r c => ?_
  unfold shifted
  split
  · subst k
    generalize hA : (re2 v : FVec Ideal S288x128 .f32) = A; pointwise [id]; subst hA
    show _ = ((v (r.val % 288) c.val : ℝ) : EReal)
    rw [re2_ix, Nat.mod_eq_of_lt r.isLt]
  · rename_i hk0
    refine Eq.trans (b := dynamicRotate 0 (BitVec.ofNat 32 (288 - k)) none (re2 v : FVec Ideal S288x128 .f32) rotates_S288x128_d0 (ix2 r c)) ?_ ?_
    · generalize hA : dynamicRotate 0 (BitVec.ofNat 32 (288 - k)) none (re2 v : FVec Ideal S288x128 .f32) rotates_S288x128_d0 = A
      pointwise [id]
    · show ((v ((r.val + 288 - ((BitVec.ofNat 32 (288 - k)).toNat + 0) % 288) % 288) c.val : ℝ) : EReal) = _
      rw [show (r.val + 288 - ((BitVec.ofNat 32 (288 - k)).toNat + 0) % 288) % 288 = (r.val + k) % 288 from by
        rw [BitVec.toNat_ofNat, Nat.mod_eq_of_lt (a := 288 - k) (by omega)]; omega]

theorem tapA_re (a : ℕ → ℕ → ℝ) (d w : ℕ → ℕ → ℕ → ℝ) :
    tapA (F := Ideal) (re2 a) (re3 d) (re3 w) = re2 (fun r c => a r c + d 0 r c * w 0 0 c) := by
  refine ext2 fun r c => ?_; unfold tapA
  generalize hA : (re2 a : FVec Ideal S128x128 .f32) = A
  generalize hB : (re3 d : FVec Ideal S1x128x128 .f32) = B
  generalize hC : (re3 w : FVec Ideal S1x1x128 .f32) = C
  pointwise []; subst hA hB hC
  simp only [re2_ix, re3_ix, ← EReal.coe_mul, ← EReal.coe_add]; rfl

theorem tapB_re (a g : ℕ → ℕ → ℝ) (d : ℕ → ℕ → ℕ → ℝ) :
    tapB (F := Ideal) (re2 a) (re2 g) (re3 d) = re2 (fun r c => a r c + ∑ i : Fin 8, g (8 * i.val + r) c * d 0 (8 * i.val + r) c) := by
  refine ext2 fun r c => ?_; unfold tapB
  generalize hA : (re2 a : FVec Ideal S8x128 .f32) = A
  generalize hB : (re2 g : FVec Ideal S64x128 .f32) = B
  generalize hC : (re3 d : FVec Ideal S1x64x128 .f32) = C
  pointwise []; subst hA hB hC
  simp only [re2_ix, re3_ix, ← EReal.coe_mul, coe_sum, ← EReal.coe_add, Nat.mul_comm 8]; rfl

/-! ### Sums of rows -/

theorem colsum_re (x : ℕ → ℕ → ℝ) : colsum (F := Ideal) (re2 x) = re2 (fun _ c => ∑ s : Fin 8, x s.val c) := by
  refine ext2 fun r c => ?_; unfold colsum
  generalize hA : (re2 x : FVec Ideal S8x1024 .f32) = A
  pointwise []; subst hA
  simp only [re2_ix, coe_sum]
theorem rowsum_re (x : ℕ → ℕ → ℝ) : rowsum (F := Ideal) (re2 x) = re2 (fun _ c => ∑ k : Fin 128, x c k.val) := by
  refine ext2 fun r c => ?_; unfold rowsum; rw [lit1_re]
  generalize hA : (re2 x : FVec Ideal S128x128 .f32) = A
  generalize hB : (re2 (fun _ _ => 1) : FVec Ideal S8x128 .f32) = B
  pointwise []; subst hA hB
  simp only [re2_ix, ← EReal.coe_mul, one_mul, coe_sum]

/-! ### Blocks -/

section
variable {N M K n m : ℕ}

theorem blk_re2 (f : ℕ → ℕ → ℝ) (o₀ o₁ : ℕ) (inb) :
    (blk (s := ⟨2, ![N, M]⟩) (re2 f) ![o₀, o₁] (⟨2, ![n, m]⟩ : Shape).size inb : (⟨2, ![n, m]⟩ : Shape).Idx → EReal)
      = re2 (fun r c => f (o₀ + r) (o₁ + c)) := by
  funext x
  show ((f (o₀ + 1 * (x 0).val) (o₁ + 1 * (x 1).val) : ℝ) : EReal) = _
  rw [Nat.one_mul, Nat.one_mul]; rfl
theorem blk_re3 (f : ℕ → ℕ → ℕ → ℝ) (o o₀ o₁ : ℕ) (inb) :
    (blk (s := ⟨3, ![K, N, M]⟩) (re3 f) ![o, o₀, o₁] (⟨3, ![1, n, m]⟩ : Shape).size inb : (⟨3, ![1, n, m]⟩ : Shape).Idx → EReal)
      = re3 (fun h r c => f (o + h) (o₀ + r) (o₁ + c)) := by
  funext x
  show ((f (o + 1 * (x 0).val) (o₀ + 1 * (x 1).val) (o₁ + 1 * (x 2).val) : ℝ) : EReal) = _
  rw [Nat.one_mul, Nat.one_mul, Nat.one_mul]; rfl

theorem re2_congr {f g : ℕ → ℕ → ℝ} (h : ∀ r c, r < N → c < M → f r c = g r c) :
    (re2 f : (⟨2, ![N, M]⟩ : Shape).Idx → EReal) = re2 g := by
  funext x; exact congrArg _ (h _ _ (x 0).isLt (x 1).isLt)
theorem re3_congr {f g : ℕ → ℕ → ℕ → ℝ} (h : ∀ k r c, k < K → r < N → c < M → f k r c = g k r c) :
    (re3 f : (⟨3, ![K, N, M]⟩ : Shape).Idx → EReal) = re3 g := by
  funext x; exact congrArg _ (h _ _ _ (x 0).isLt (x 1).isLt (x 2).isLt)
theorem blk_of {X : (⟨2, ![N, M]⟩ : Shape).Idx → EReal} {f : ℕ → ℕ → ℝ} (h : X = re2 f) (o₀ o₁ : ℕ) (inb) :
    (blk (s := ⟨2, ![N, M]⟩) X ![o₀, o₁] (⟨2, ![n, m]⟩ : Shape).size inb : (⟨2, ![n, m]⟩ : Shape).Idx → EReal)
      = re2 (fun r c => f (o₀ + r) (o₁ + c)) := by
  rw [h]; exact blk_re2 f o₀ o₁ inb
theorem blk_of3 {X : (⟨3, ![K, N, M]⟩ : Shape).Idx → EReal} {f : ℕ → ℕ → ℕ → ℝ} (h : X = re3 f) (o o₀ o₁ : ℕ) (inb) :
    (blk (s := ⟨3, ![K, N, M]⟩) X ![o, o₀, o₁] (⟨3, ![1, n, m]⟩ : Shape).size inb : (⟨3, ![1, n, m]⟩ : Shape).Idx → EReal)
      = re3 (fun h r c => f (o + h) (o₀ + r) (o₁ + c)) := by
  rw [h]; exact blk_re3 f o o₀ o₁ inb

theorem blk_at {X : (⟨2, ![N, M]⟩ : Shape).Idx → EReal} {f : ℕ → ℕ → ℝ} (h : X = re2 f) {off : Fin 2 → ℕ} {o₀ o₁ : ℕ}
    (ho : off = ![o₀, o₁]) (inb) :
    (blk (s := ⟨2, ![N, M]⟩) X off (⟨2, ![n, m]⟩ : Shape).size inb : (⟨2, ![n, m]⟩ : Shape).Idx → EReal)
      = re2 (fun r c => f (o₀ + r) (o₁ + c)) := by
  subst ho; exact blk_of h o₀ o₁ inb
theorem blk_at3 {X : (⟨3, ![K, N, M]⟩ : Shape).Idx → EReal} {f : ℕ → ℕ → ℕ → ℝ} (h : X = re3 f) {off : Fin 3 → ℕ} {o o₀ o₁ : ℕ}
    (ho : off = ![o, o₀, o₁]) (inb) :
    (blk (s := ⟨3, ![K, N, M]⟩) X off (⟨3, ![1, n, m]⟩ : Shape).size inb : (⟨3, ![1, n, m]⟩ : Shape).Idx → EReal)
      = re3 (fun h r c => f (o + h) (o₀ + r) (o₁ + c)) := by
  subst ho; exact blk_of3 h o o₀ o₁ inb

/-- `X` holds the numbers `f` where `R` says. -/
def Has2 (X : (⟨2, ![N, M]⟩ : Shape).Idx → EReal) (R : ℕ → ℕ → Prop) (f : ℕ → ℕ → ℝ) : Prop :=
  ∀ (r : Fin N) (c : Fin M), R r.val c.val → X (ix2 r c) = ((f r.val c.val : ℝ) : EReal)
def Has3 (X : (⟨3, ![K, N, M]⟩ : Shape).Idx → EReal) (R : ℕ → Prop) (f : ℕ → ℕ → ℕ → ℝ) : Prop :=
  ∀ (k : Fin K) (r : Fin N) (c : Fin M), R k.val → X (ix3 k r c) = ((f k.val r.val c.val : ℝ) : EReal)

theorem Has2.none (X : (⟨2, ![N, M]⟩ : Shape).Idx → EReal) (f : ℕ → ℕ → ℝ) : Has2 X (fun _ _ => False) f := fun _ _ h => h.elim
theorem Has3.none (X : (⟨3, ![K, N, M]⟩ : Shape).Idx → EReal) (f : ℕ → ℕ → ℕ → ℝ) : Has3 X (fun _ => False) f := fun _ _ _ h => h.elim
theorem Has2.all {X : (⟨2, ![N, M]⟩ : Shape).Idx → EReal} {R f} (h : Has2 X R f) (hR : ∀ r c, r < N → c < M → R r c) : X = re2 f :=
  ext2 fun r c => h r c (hR _ _ r.isLt c.isLt)
theorem Has3.all {X : (⟨3, ![K, N, M]⟩ : Shape).Idx → EReal} {R f} (h : Has3 X R f) (hR : ∀ k, k < K → R k) : X = re3 f :=
  ext3 fun k r c => h k r c (hR _ k.isLt)
theorem Has2.mono {X : (⟨2, ![N, M]⟩ : Shape).Idx → EReal} {R R' f} (h : Has2 X R f) (hR : ∀ r c, r < N → c < M → R' r c → R r c) : Has2 X R' f :=
  fun r c hr => h r c (hR _ _ r.isLt c.isLt hr)

theorem upd2_in (X : (⟨2, ![N, M]⟩ : Shape).Idx → EReal) (o₀ o₁ : ℕ) (inb) (w : (⟨2, ![n, m]⟩ : Shape).Idx → EReal)
    (r : Fin N) (c : Fin M) (hr : o₀ ≤ r.val ∧ r.val < o₀ + n) (hc : o₁ ≤ c.val ∧ c.val < o₁ + m) :
    upd X (Rect.unit (s := ⟨2, ![N, M]⟩) ![o₀, o₁] (⟨2, ![n, m]⟩ : Shape).size inb) w (ix2 r c)
      = w (ix2 ⟨r.val - o₀, by omega⟩ ⟨c.val - o₁, by omega⟩) := by
  have e : (Rect.unit (s := ⟨2, ![N, M]⟩) ![o₀, o₁] (⟨2, ![n, m]⟩ : Shape).size inb).emb (ix2 ⟨r.val - o₀, by omega⟩ ⟨c.val - o₁, by omega⟩) = ix2 r c := by
    funext a; apply Fin.ext; fin_cases a
    · show o₀ + 1 * (r.val - o₀) = r.val; omega
    · show o₁ + 1 * (c.val - o₁) = c.val; omega
  exact (congrArg _ e.symm).trans (upd_emb X (Rect.unit (s := ⟨2, ![N, M]⟩) ![o₀, o₁] (⟨2, ![n, m]⟩ : Shape).size inb) w _)
theorem upd2_out (X : (⟨2, ![N, M]⟩ : Shape).Idx → EReal) (o₀ o₁ : ℕ) (inb) (w : (⟨2, ![n, m]⟩ : Shape).Idx → EReal)
    (r : Fin N) (c : Fin M) (h : ¬ (o₀ ≤ r.val ∧ r.val < o₀ + n ∧ o₁ ≤ c.val ∧ c.val < o₁ + m)) :
    upd X (Rect.unit (s := ⟨2, ![N, M]⟩) ![o₀, o₁] (⟨2, ![n, m]⟩ : Shape).size inb) w (ix2 r c) = X (ix2 r c) := by
  refine upd_miss _ _ _ _ ?_
  rintro ⟨x, hx⟩
  have h0 : o₀ + 1 * (x 0).val = r.val := congrArg (fun z => (z 0).val) hx
  have h1 : o₁ + 1 * (x 1).val = c.val := congrArg (fun z => (z 1).val) hx
  have l0 : (x 0).val < n := (x 0).isLt
  have l1 : (x 1).val < m := (x 1).isLt
  omega

theorem Has2.upd {X : (⟨2, ![N, M]⟩ : Shape).Idx → EReal} {R f} (h : Has2 X R f) (o₀ o₁ : ℕ) (inb) (g : ℕ → ℕ → ℝ)
    (hg : ∀ r c, r < n → c < m → g r c = f (o₀ + r) (o₁ + c)) :
    Has2 (Mix.upd X (Rect.unit (s := ⟨2, ![N, M]⟩) ![o₀, o₁] (⟨2, ![n, m]⟩ : Shape).size inb) (re2 g : (⟨2, ![n, m]⟩ : Shape).Idx → EReal))
      (fun r c => R r c ∨ (o₀ ≤ r ∧ r < o₀ + n ∧ o₁ ≤ c ∧ c < o₁ + m)) f := fun r c hr => by
  by_cases hin : o₀ ≤ r.val ∧ r.val < o₀ + n ∧ o₁ ≤ c.val ∧ c.val < o₁ + m
  · rw [upd2_in X o₀ o₁ inb _ r c ⟨hin.1, hin.2.1⟩ hin.2.2, re2_ix]
    show ((g (r.val - o₀) (c.val - o₁) : ℝ) : EReal) = _
    rw [hg _ _ (by omega) (by omega), Nat.add_sub_cancel' hin.1, Nat.add_sub_cancel' hin.2.2.1]
  · rw [upd2_out X o₀ o₁ inb _ r c hin]
    exact h r c (hr.resolve_right hin)

theorem Has2.upd_at {X : (⟨2, ![N, M]⟩ : Shape).Idx → EReal} {R f} (h : Has2 X R f) {off : Fin 2 → ℕ} {o₀ o₁ : ℕ} (ho : off = ![o₀, o₁]) (inb)
    (g : ℕ → ℕ → ℝ) (hg : ∀ r c, r < n → c < m → g r c = f (o₀ + r) (o₁ + c)) :
    Has2 (Mix.upd X (Rect.unit (s := ⟨2, ![N, M]⟩) off (⟨2, ![n, m]⟩ : Shape).size inb) (re2 g : (⟨2, ![n, m]⟩ : Shape).Idx → EReal))
      (fun r c => R r c ∨ (o₀ ≤ r ∧ r < o₀ + n ∧ o₁ ≤ c ∧ c < o₁ + m)) f := by
  subst ho; exact h.upd o₀ o₁ inb g hg

/-- The same, of contents given by an equation. -/
theorem Has2.put {X X' : (⟨2, ![N, M]⟩ : Shape).Idx → EReal} {R f} (h : Has2 X R f) (o₀ o₁ : ℕ) {inb} {w : (⟨2, ![n, m]⟩ : Shape).Idx → EReal}
    (e : X' = Mix.upd X (Rect.unit (s := ⟨2, ![N, M]⟩) ![o₀, o₁] (⟨2, ![n, m]⟩ : Shape).size inb) w) (g : ℕ → ℕ → ℝ) (hw : w = re2 g)
    (hg : ∀ r c, r < n → c < m → g r c = f (o₀ + r) (o₁ + c)) :
    Has2 X' (fun r c => R r c ∨ (o₀ ≤ r ∧ r < o₀ + n ∧ o₁ ≤ c ∧ c < o₁ + m)) f := by
  subst hw; rw [e]; exact h.upd o₀ o₁ inb g hg

/-- The array of the extended reals `f r c`. -/
def ex2 {n m : ℕ} (f : ℕ → ℕ → EReal) : (⟨2, ![n, m]⟩ : Shape).Idx → EReal := fun x => f (x 0).val (x 1).val
theorem ex2_ix (f : ℕ → ℕ → EReal) (r : Fin n) (c : Fin m) : ex2 f (ix2 r c) = f r.val c.val := rfl
theorem ex2_re (f : ℕ → ℕ → ℝ) : (ex2 (fun r c => ((f r c : ℝ) : EReal)) : (⟨2, ![n, m]⟩ : Shape).Idx → EReal) = re2 f := rfl
theorem blk_ex2 {X : (⟨2, ![N, M]⟩ : Shape).Idx → EReal} {f : ℕ → ℕ → EReal} (h : X = ex2 f) (o₀ o₁ : ℕ) (inb) :
    (blk (s := ⟨2, ![N, M]⟩) X ![o₀, o₁] (⟨2, ![n, m]⟩ : Shape).size inb : (⟨2, ![n, m]⟩ : Shape).Idx → EReal)
      = ex2 (fun r c => f (o₀ + r) (o₁ + c)) := by
  rw [h]
  funext x
  obtain ⟨r, c, rfl⟩ : ∃ (r : Fin n) (c : Fin m), x = ix2 r c := ⟨x 0, x 1, eq_ix2 x⟩
  show f (o₀ + 1 * r.val) (o₁ + 1 * c.val) = _
  rw [Nat.one_mul, Nat.one_mul]; rfl
theorem colsum_ex (f : ℕ → ℕ → EReal) : colsum (F := Ideal) (ex2 f) = ex2 (fun _ c => ∑ s : Fin 8, f s.val c) := by
  funext x
  obtain ⟨r, c, rfl⟩ : ∃ (r : Fin 1) (c : Fin 1024), x = ix2 r c := ⟨x 0, x 1, eq_ix2 x⟩
  unfold colsum
  generalize hA : (ex2 f : FVec Ideal S8x1024 .f32) = A
  pointwise []; subst hA
  rfl

/-- `X` holds the extended reals `f` where `R` says. -/
def HasE (X : (⟨2, ![N, M]⟩ : Shape).Idx → EReal) (R : ℕ → ℕ → Prop) (f : ℕ → ℕ → EReal) : Prop :=
  ∀ (r : Fin N) (c : Fin M), R r.val c.val → X (ix2 r c) = f r.val c.val
theorem HasE.none (X : (⟨2, ![N, M]⟩ : Shape).Idx → EReal) (f : ℕ → ℕ → EReal) : HasE X (fun _ _ => False) f := fun _ _ h => h.elim
theorem HasE.all {X : (⟨2, ![N, M]⟩ : Shape).Idx → EReal} {R f} (h : HasE X R f) (hR : ∀ r c, r < N → c < M → R r c) : X = ex2 f := by
  funext x
  obtain ⟨r, c, rfl⟩ : ∃ (r : Fin N) (c : Fin M), x = ix2 r c := ⟨x 0, x 1, eq_ix2 x⟩
  exact h r c (hR _ _ r.isLt c.isLt)
theorem HasE.mono {X : (⟨2, ![N, M]⟩ : Shape).Idx → EReal} {R R' f} (h : HasE X R f) (hR : ∀ r c, r < N → c < M → R' r c → R r c) : HasE X R' f :=
  fun r c hr => h r c (hR _ _ r.isLt c.isLt hr)
/-- A store of a block that holds what is said there. -/
theorem HasE.put {X X' : (⟨2, ![N, M]⟩ : Shape).Idx → EReal} {R f} (h : HasE X R f) (o₀ o₁ : ℕ) {inb} {w : (⟨2, ![n, m]⟩ : Shape).Idx → EReal}
    (e : X' = Mix.upd X (Rect.unit (s := ⟨2, ![N, M]⟩) ![o₀, o₁] (⟨2, ![n, m]⟩ : Shape).size inb) w) (g : ℕ → ℕ → EReal) (hw : w = ex2 g)
    (hg : ∀ r c, r < n → c < m → g r c = f (o₀ + r) (o₁ + c)) :
    HasE X' (fun r c => R r c ∨ (o₀ ≤ r ∧ r < o₀ + n ∧ o₁ ≤ c ∧ c < o₁ + m)) f := fun r c hr => by
  subst hw
  rw [e]
  by_cases hin : o₀ ≤ r.val ∧ r.val < o₀ + n ∧ o₁ ≤ c.val ∧ c.val < o₁ + m
  · rw [upd2_in X o₀ o₁ inb _ r c ⟨hin.1, hin.2.1⟩ hin.2.2, ex2_ix]
    show g (r.val - o₀) (c.val - o₁) = _
    rw [hg _ _ (by omega) (by omega), Nat.add_sub_cancel' hin.1, Nat.add_sub_cancel' hin.2.2.1]
  · rw [upd2_out X o₀ o₁ inb _ r c hin]
    exact h r c (hr.resolve_right hin)

theorem upd_re2 (f g : ℕ → ℕ → ℝ) (o₀ o₁ : ℕ) (inb) :
    Mix.upd (re2 f : (⟨2, ![N, M]⟩ : Shape).Idx → EReal) (Rect.unit (s := ⟨2, ![N, M]⟩) ![o₀, o₁] (⟨2, ![n, m]⟩ : Shape).size inb)
      (re2 g : (⟨2, ![n, m]⟩ : Shape).Idx → EReal)
      = re2 (fun r c => if o₀ ≤ r ∧ r < o₀ + n ∧ o₁ ≤ c ∧ c < o₁ + m then g (r - o₀) (c - o₁) else f r c) := by
  refine ext2 fun r c => ?_
  by_cases hin : o₀ ≤ r.val ∧ r.val < o₀ + n ∧ o₁ ≤ c.val ∧ c.val < o₁ + m
  · rw [upd2_in _ o₀ o₁ inb _ r c ⟨hin.1, hin.2.1⟩ hin.2.2, if_pos hin]; rfl
  · rw [upd2_out _ o₀ o₁ inb _ r c hin, if_neg hin]; rfl

theorem put_re2 {X X' : (⟨2, ![N, M]⟩ : Shape).Idx → EReal} {f : ℕ → ℕ → ℝ} (h : X = re2 f) (o₀ o₁ : ℕ) {inb} {w : (⟨2, ![n, m]⟩ : Shape).Idx → EReal}
    (e : X' = Mix.upd X (Rect.unit (s := ⟨2, ![N, M]⟩) ![o₀, o₁] (⟨2, ![n, m]⟩ : Shape).size inb) w) (g : ℕ → ℕ → ℝ) (hw : w = re2 g) :
    X' = re2 (fun r c => if o₀ ≤ r ∧ r < o₀ + n ∧ o₁ ≤ c ∧ c < o₁ + m then g (r - o₀) (c - o₁) else f r c) := by
  subst hw; subst h; exact e.trans (upd_re2 f g o₀ o₁ inb)

theorem upd3_in (X : (⟨3, ![K, n, m]⟩ : Shape).Idx → EReal) (o : ℕ) (inb) (w : (⟨3, ![1, n, m]⟩ : Shape).Idx → EReal)
    (k : Fin K) (r : Fin n) (c : Fin m) (hk : k.val = o) :
    Mix.upd X (Rect.unit (s := ⟨3, ![K, n, m]⟩) ![o, 0, 0] (⟨3, ![1, n, m]⟩ : Shape).size inb) w (ix3 k r c) = w (ix3 0 r c) := by
  have e : (Rect.unit (s := ⟨3, ![K, n, m]⟩) ![o, 0, 0] (⟨3, ![1, n, m]⟩ : Shape).size inb).emb (ix3 0 r c) = ix3 k r c := by
    funext a; apply Fin.ext; fin_cases a
    · show o + 1 * 0 = k.val; omega
    · show 0 + 1 * r.val = r.val; omega
    · show 0 + 1 * c.val = c.val; omega
  exact (congrArg _ e.symm).trans (upd_emb X (Rect.unit (s := ⟨3, ![K, n, m]⟩) ![o, 0, 0] (⟨3, ![1, n, m]⟩ : Shape).size inb) w _)
theorem upd3_out (X : (⟨3, ![K, n, m]⟩ : Shape).Idx → EReal) (o : ℕ) (inb) (w : (⟨3, ![1, n, m]⟩ : Shape).Idx → EReal)
    (k : Fin K) (r : Fin n) (c : Fin m) (hk : k.val ≠ o) :
    Mix.upd X (Rect.unit (s := ⟨3, ![K, n, m]⟩) ![o, 0, 0] (⟨3, ![1, n, m]⟩ : Shape).size inb) w (ix3 k r c) = X (ix3 k r c) := by
  refine upd_miss _ _ _ _ ?_
  rintro ⟨x, hx⟩
  have h0 : o + 1 * (x 0).val = k.val := congrArg (fun z => (z 0).val) hx
  have l0 : (x 0).val < 1 := (x 0).isLt
  omega
theorem Has3.upd {X : (⟨3, ![K, n, m]⟩ : Shape).Idx → EReal} {R f} (h : Has3 X R f) (o : ℕ) (inb) (g : ℕ → ℕ → ℕ → ℝ)
    (hg : ∀ r c, r < n → c < m → g 0 r c = f o r c) :
    Has3 (Mix.upd X (Rect.unit (s := ⟨3, ![K, n, m]⟩) ![o, 0, 0] (⟨3, ![1, n, m]⟩ : Shape).size inb) (re3 g : (⟨3, ![1, n, m]⟩ : Shape).Idx → EReal))
      (fun k => R k ∨ k = o) f := fun k r c hk => by
  by_cases hin : k.val = o
  · rw [upd3_in X o inb _ k r c hin, re3_ix]
    show ((g 0 r.val c.val : ℝ) : EReal) = _
    rw [hg _ _ r.isLt c.isLt, hin]
  · rw [upd3_out X o inb _ k r c hin]
    exact h k r c (hk.resolve_right hin)
theorem Has3.put {X X' : (⟨3, ![K, n, m]⟩ : Shape).Idx → EReal} {R f} (h : Has3 X R f) (o : ℕ) {inb} {w : (⟨3, ![1, n, m]⟩ : Shape).Idx → EReal}
    (e : X' = Mix.upd X (Rect.unit (s := ⟨3, ![K, n, m]⟩) ![o, 0, 0] (⟨3, ![1, n, m]⟩ : Shape).size inb) w) (g : ℕ → ℕ → ℕ → ℝ) (hw : w = re3 g)
    (hg : ∀ r c, r < n → c < m → g 0 r c = f o r c) : Has3 X' (fun k => R k ∨ k = o) f := by
  subst hw; rw [e]; exact h.upd o inb g hg
theorem upd_re3 (f g : ℕ → ℕ → ℕ → ℝ) (o : ℕ) (inb) :
    Mix.upd (re3 f : (⟨3, ![K, n, m]⟩ : Shape).Idx → EReal) (Rect.unit (s := ⟨3, ![K, n, m]⟩) ![o, 0, 0] (⟨3, ![1, n, m]⟩ : Shape).size inb)
      (re3 g : (⟨3, ![1, n, m]⟩ : Shape).Idx → EReal)
      = re3 (fun k r c => if k = o then g 0 r c else f k r c) := by
  refine ext3 fun k r c => ?_
  by_cases hin : k.val = o
  · rw [upd3_in _ o inb _ k r c hin, if_pos hin]; rfl
  · rw [upd3_out _ o inb _ k r c hin, if_neg hin]; rfl
theorem put_re3 {X X' : (⟨3, ![K, n, m]⟩ : Shape).Idx → EReal} {f : ℕ → ℕ → ℕ → ℝ} (h : X = re3 f) (o : ℕ) {inb} {w : (⟨3, ![1, n, m]⟩ : Shape).Idx → EReal}
    (e : X' = Mix.upd X (Rect.unit (s := ⟨3, ![K, n, m]⟩) ![o, 0, 0] (⟨3, ![1, n, m]⟩ : Shape).size inb) w) (g : ℕ → ℕ → ℕ → ℝ) (hw : w = re3 g) :
    X' = re3 (fun k r c => if k = o then g 0 r c else f k r c) := by
  subst hw; subst h; exact e.trans (upd_re3 f g o inb)
end

end Cert.Mix

end
-- ==== Proof.MixData.lean ====
/- The real-valued specification of the kernel: its inputs as functions of global rows and columns, the gradients
   as formulas of them, and what the arrays of a grid point hold. -/
module

public import proofs.«01_k».proof.Proof.MixRe

@[expose] public section

set_option maxRecDepth 65536

noncomputable section

namespace Cert.Mix

open Idealize.ShloMosaic Idealize.SL.Sem Cert.MixKernelIdeal Cert.MixKernelIdeal.Gen Cert.RealLib

/-- The inputs as real numbers: rows are positions, columns channels; `w j c` is tap `j` of channel `c`. -/
structure Dt where
  proj : ℕ → ℕ → ℝ
  dy : ℕ → ℕ → ℝ
  cv : ℕ → ℕ → ℝ
  w : ℕ → ℕ → ℝ
  clg : ℕ → ℝ
  clb : ℕ → ℝ
  slg : ℕ → ℝ
  slb : ℕ → ℝ
  ws : ℕ → ℕ → ℕ → ℝ
  bs : ℕ → ℕ → ℝ
  gf : ℕ → ℕ → EReal
  se : ℕ → ℕ → EReal

namespace Dt
variable (D : Dt)

/-! ### The convolution branch -/

/-- The convolution gate's input. -/
def gc (n c : ℕ) : ℝ := D.proj n (2048 + c)
/-- The convolution's norm. -/
def ln (n : ℕ) : ℕ → ℝ := lnR D.clg D.clb (D.cv n)
/-- The cotangent at that norm. -/
def dln (n : ℕ) : ℕ → ℝ := dlnR D.clg D.clb (D.cv n) (D.gc n) (D.dy n)
/-- The cotangent at the convolution. -/
def dcv (n : ℕ) : ℕ → ℝ := lnG D.clg (D.cv n) (D.dln n)
/-- The same with sixteen rows of zeros before and after. -/
def dcvP (m c : ℕ) : ℝ := if 16 ≤ m ∧ m < 8208 then D.dcv (m - 16) c else 0
/-- The gated linear unit and its cotangent. -/
def glu (n c : ℕ) : ℝ := D.proj n c * sgR (D.proj n (1024 + c))
def dgluN (N n c : ℕ) : ℝ := ∑ j ∈ Finset.range N, D.dcvP (n + j + 1) c * D.w (30 - j) c
def dglu (n c : ℕ) : ℝ := D.dgluN 31 n c

/-! ### The spatial gate -/

def v (n c : ℕ) : ℝ := D.proj n (4096 + c)
def gs (n c : ℕ) : ℝ := D.proj n (5120 + c)
def vn (n : ℕ) : ℕ → ℝ := lnR D.slg D.slb (D.v n)
/-- The mixed chunk plus its bias. -/
def mix (n c : ℕ) : ℝ := ∑ k : Fin 128, D.ws (c / 128) (n % 128) k.val * D.vn (n - n % 128 + k.val) c + D.bs (c / 128) (n % 128)
/-- The cotangent at it. -/
def dmx (n c : ℕ) : ℝ := D.dy n (1024 + c) * D.proj n (3072 + c) * (D.gs n c * sgR (D.gs n c))
/-- The cotangent at the gate's norm. -/
def dvn (n c : ℕ) : ℝ := ∑ k : Fin 128, D.ws (c / 128) k.val (n % 128) * D.dmx (n - n % 128 + k.val) c

/-- The gradient of the projection. -/
def dp (n c : ℕ) : ℝ :=
  if c < 1024 then D.dglu n c * sgR (D.proj n (1024 + c))
  else if c < 2048 then D.dglu n (c - 1024) * D.proj n (c - 1024) * sgR (D.proj n c) * (1 - sgR (D.proj n c))
  else if c < 3072 then D.dy n (c - 2048) * D.ln n (c - 2048) * sgR (D.ln n (c - 2048)) * dslR (D.gc n (c - 2048))
  else if c < 4096 then D.dy n (1024 + (c - 3072)) * D.mix n (c - 3072) * (D.gs n (c - 3072) * sgR (D.gs n (c - 3072)))
  else if c < 5120 then lnG D.slg (D.v n) (D.dvn n) (c - 4096)
  else D.dy n (1024 + (c - 5120)) * D.proj n (3072 + (c - 5120)) * D.mix n (c - 5120) * dslR (D.gs n (c - 5120))

/-- The five sums over positions kept in eight rows each. -/
def q (a n c : ℕ) : ℝ :=
  if a = 0 then D.dcv n c else if a = 1 then D.dln n c * nhR (D.cv n) c else if a = 2 then D.dln n c
  else if a = 3 then D.dvn n c * nhR (D.v n) c else D.dvn n c
/-- Their values after `T` tiles. -/
def accT (T r c : ℕ) : ℝ := ∑ u ∈ Finset.range T, ∑ i : Fin 32, D.q (r / 8) (256 * u + 8 * i.val + r % 8) c
/-- The sums of the weight gradient after `T` tiles. -/
def gcwT (T r c : ℕ) : ℝ := ∑ u ∈ Finset.range T, ∑ k ∈ Finset.range 4, ∑ i : Fin 8,
  D.glu (256 * u + 64 * k + (8 * i.val + r % 8)) c * D.dcvP (256 * u + 64 * k + (8 * i.val + r % 8) + r / 8 + 1) c
def gbsT (T p c : ℕ) : ℝ := ∑ u ∈ Finset.range T, (D.dmx (256 * u + p) c + D.dmx (256 * u + 128 + p) c)
def gwsT (T h p q : ℕ) : ℝ := ∑ u ∈ Finset.range T,
  (∑ k : Fin 128, D.dmx (256 * u + p) (128 * h + k.val) * D.vn (256 * u + q) (128 * h + k.val)
    + ∑ k : Fin 128, D.dmx (256 * u + 128 + p) (128 * h + k.val) * D.vn (256 * u + 128 + q) (128 * h + k.val))
/-- The rows of small results. -/
def small (r c : ℕ) : EReal :=
  if r = 0 then ∑ s : Fin 8, D.se s.val c
  else if r < 6 then ((∑ s : Fin 8, D.accT 32 (8 * (r - 1) + s.val) c : ℝ) : EReal)
  else if r = 6 then ((∑ k : Fin 128, D.gbsT 32 (c % 128) (128 * (c / 128) + k.val) : ℝ) : EReal)
  else if r = 7 then D.gf 0 c
  else if r < 39 then ((∑ s : Fin 8, D.gcwT 32 (8 * (38 - r) + s.val) c : ℝ) : EReal)
  else 0
end Dt

/-- What the windows on the inputs hold at grid point `t`. -/
def Ins (D : Dt) (t : ℕ) (S : St Ideal) : Prop :=
  S.pm = re2 (fun r c => D.proj (256 * t + r) c) ∧ S.dym = re2 (fun r c => D.dy (256 * t + r) c) ∧
  S.cvm = re2 (fun r c => D.cv (256 * t + r) c) ∧
  S.gcp = re2 (fun r c => D.gc (16 * (16 * t - 1) + r) c) ∧ S.gcn = re2 (fun r c => D.gc (16 * min (16 * t + 16) 511 + r) c) ∧
  S.dyp = re2 (fun r c => D.dy (16 * (16 * t - 1) + r) c) ∧ S.dyn = re2 (fun r c => D.dy (16 * min (16 * t + 16) 511 + r) c) ∧
  S.cvp = re2 (fun r c => D.cv (16 * (16 * t - 1) + r) c) ∧ S.cvn = re2 (fun r c => D.cv (16 * min (16 * t + 16) 511 + r) c) ∧
  S.cw = re3 (fun s j c => D.w j (256 * s + c)) ∧ S.clg = re2 (fun _ c => D.clg c) ∧ S.clb = re2 (fun _ c => D.clb c) ∧
  S.slg = re2 (fun _ c => D.slg c) ∧ S.slb = re2 (fun _ c => D.slb c) ∧ S.ws = re3 D.ws ∧ S.wst = re3 (fun h p q => D.ws h q p) ∧
  S.bst = re2 (fun p h => D.bs h p) ∧ S.gf = ex2 D.gf ∧ S.se = ex2 D.se

end Cert.Mix

end
-- ==== Proof.MixLane.lean ====
/- A block of 128 lanes of the convolution: the input's gradient and the weight's running sums. -/
module

public import proofs.«01_k».proof.Proof.MixData

@[expose] public section

set_option maxRecDepth 65536

noncomputable section

namespace Cert.Mix

open Idealize.ShloMosaic Idealize.SL Idealize.SL.Sem Cert.MixKernelIdeal Cert.MixKernelIdeal.Gen Cert.RealLib

variable {c : Dev nD} {M : Mems} {D : Dt}

/-- The eight shifted copies. -/
abbrev rolled (f : ℕ → ℕ → ℝ) : ℕ → ℕ → ℕ → ℝ := fun k r c => f ((r + k) % 288) c

theorem fill_reach (v : Vec Ideal S288x128 .f32) (S : St Ideal) : ∀ (n : ℕ) (h : n ≤ 8),
    Reach c M (fill M v n h) S fun _ S' => ∃ sh, S' = S.setSh sh ∧
      ∀ f, v = re2 f → Has3 sh (fun k => k < n) (rolled f)
  | 0, _ => Reach.ret ⟨S.sh, rfl, fun f _ _ _ _ h => absurd h (Nat.not_lt_zero _)⟩
  | n + 1, h => by
    refine Reach.bind ((fill_reach v S n (by omega)).mono ?_)
    rintro - _ ⟨sh, rfl, hsh⟩
    refine Reach.put fld_sh (fun _ => rfl) fun X eX => ⟨X, rfl, fun f hv => ?_⟩
    rw [eX, hv, shifted_re f n (by omega)]
    intro k r c hk
    exact ((hsh f hv).upd n _ _ fun r c _ _ => rfl) k r c (by omega)

/-- The taps of the input's gradient. -/
theorem tapsA_reach (lb : Fin 8) (k : Fin 2) (S : St Ideal) : ∀ (n : ℕ) (h : n ≤ 31),
    Reach c M (tapsA M lb k n h) S fun a S' => S' = S ∧
      ∀ f w : ℕ → ℕ → ℝ, S.sh = re3 (rolled f) → S.cw = re3 (fun s j c => w j (256 * s + c)) →
        a = re2 (fun r c => ∑ j ∈ Finset.range n, f (128 * k.val + r + j + 1) c * w (30 - j) (128 * lb.val + c))
  | 0, _ => Reach.ret ⟨rfl, fun f w _ _ => by
      show lit _ _ = _
      rw [lit0_re]; simp only [Finset.sum_range_zero]⟩
  | n + 1, h => by
    refine Reach.bind ((tapsA_reach lb k S n (by omega)).mono ?_)
    rintro a _ ⟨rfl, ha⟩
    refine Reach.bind (Reach.ld fld_sh (fun _ => rfl) fun d ed => ?_)
    refine Reach.bind (Reach.ld fld_cw (fun _ => rfl) fun w ew => ?_)
    refine Reach.ret ⟨rfl, fun f W hs hw => ?_⟩
    rw [ha f W hs hw, show d = _ from ed.trans (blk_at3 hs (offT_128 k ⟨n + 1, by omega⟩) _), show w = _ from ew.trans (blk_of3 hw ..), tapA_re]
    refine re2_congr fun r c hr hc => ?_
    rw [Finset.sum_range_succ]
    have hl := lb.isLt; have hk := k.isLt
    show _ + f ((128 * k.val + 8 * ((n + 1) / 8) + r + ((n + 1) % 8 + 0)) % 288) (0 + c)
      * W (30 - n + 0) (256 * (lb.val / 2 + 0) + (128 * (lb.val % 2) + c)) = _
    rw [show (128 * k.val + 8 * ((n + 1) / 8) + r + ((n + 1) % 8 + 0)) % 288 = 128 * k.val + r + n + 1 from by
        rw [Nat.mod_eq_of_lt (by omega)]; omega,
      show 256 * (lb.val / 2 + 0) + (128 * (lb.val % 2) + c) = 128 * lb.val + c from by omega, Nat.zero_add] <;> rfl

/-- The input's gradient of the lane block. -/
abbrev gradA (lb : ℕ) (f w : ℕ → ℕ → ℝ) : ℕ → ℕ → ℝ := fun r c =>
  ∑ j ∈ Finset.range 31, f (r + j + 1) c * w (30 - j) (128 * lb + c)

theorem tripA_reach (lb : Fin 8) (k : Fin 2) (S : St Ideal) :
    Reach c M (tripA M lb k) S fun _ S' => ∃ dgl, S' = S.setDgl dgl ∧
      ∀ f w : ℕ → ℕ → ℝ, S.sh = re3 (rolled f) → S.cw = re3 (fun s j c => w j (256 * s + c)) →
        ∀ R, Has2 S.dgl R (gradA lb.val f w) →
          Has2 dgl (fun r c => R r c ∨ (128 * k.val ≤ r ∧ r < 128 * k.val + 128 ∧ 0 ≤ c ∧ c < 0 + 128)) (gradA lb.val f w) := by
  refine Reach.bind ((tapsA_reach lb k S 31 (by omega)).mono ?_)
  rintro a _ ⟨rfl, ha⟩
  refine Reach.put fld_dgl (fun _ => rfl) fun X eX => ⟨X, rfl, fun f w hs hw R hR => ?_⟩
  rw [eX, ha f w hs hw, shapeCast_self]
  exact hR.upd_at (offR_128 k) _ _ fun r c _ _ => by simp only [gradA, Nat.zero_add]

theorem laneA_reach (lb : Fin 8) (S : St Ideal) :
    Reach c M (laneA M lb) S fun _ S' => ∃ dgl, S' = S.setDgl dgl ∧
      ∀ f w : ℕ → ℕ → ℝ, S.sh = re3 (rolled f) → S.cw = re3 (fun s j c => w j (256 * s + c)) → dgl = re2 (gradA lb.val f w) := by
  refine Reach.mono (Reach.loop (fun n _ S' => ∃ dgl, S' = S.setDgl dgl ∧
      ∀ f w : ℕ → ℕ → ℝ, S.sh = re3 (rolled f) → S.cw = re3 (fun s j c => w j (256 * s + c)) → Has2 dgl (fun r _ => r < 128 * n) (gradA lb.val f w))
      (fun k _ S' hI => ?_) ⟨S.dgl, rfl, fun f w _ _ r c h => absurd h (by omega)⟩) ?_
  · obtain ⟨dgl, rfl, hd⟩ := hI
    refine (tripA_reach lb k (S.setDgl dgl)).mono ?_
    rintro - _ ⟨dgl', rfl, hd'⟩
    refine ⟨dgl', rfl, fun f w hs hw => ?_⟩
    exact (hd' f w hs hw _ (hd f w hs hw)).mono fun r c hr hc h => by
      show r < 128 * k.val ∨ _
      have : r < 128 * (k.val + 1) := h
      omega
  · rintro - _ ⟨dgl, rfl, hd⟩
    exact ⟨dgl, rfl, fun f w hs hw => (hd f w hs hw).all fun r c hr hc => hr⟩

/-- The taps of the weight's gradient over 64 rows. -/
theorem tapsB_reach (k : Fin 4) (g : Vec Ideal S64x128 .f32) (a : ℕ → FVec Ideal S8x128 .f32) (S : St Ideal) : ∀ (n : ℕ) (h : n ≤ 31),
    Reach c M (tapsB M k g a n h) S fun a' S' => S' = S ∧
      ∀ (f gl : ℕ → ℕ → ℝ) (A : ℕ → ℕ → ℕ → ℝ), S.sh = re3 (rolled f) → g = re2 gl → (∀ j, j < 31 → a j = re2 (A j)) →
        ∀ j, j < 31 → a' j = re2 (fun s c => if j < n then A j s c + ∑ i : Fin 8, gl (8 * i.val + s) c * f (64 * k.val + (8 * i.val + s) + j + 1) c else A j s c)
  | 0, _ => Reach.ret ⟨rfl, fun f gl A _ _ ha j hj => by
      rw [ha j hj]; exact re2_congr fun s c _ _ => (if_neg (Nat.not_lt_zero _)).symm⟩
  | n + 1, h => by
    refine Reach.bind ((tapsB_reach k g a S n (by omega)).mono ?_)
    rintro a' _ ⟨rfl, ha'⟩
    refine Reach.bind (Reach.ld fld_sh (fun _ => rfl) fun d ed => ?_)
    refine Reach.ret ⟨rfl, fun f gl A hs hg ha j hj => ?_⟩
    by_cases hjn : j = n
    · subst hjn
      show (if j = j then tapB (a j) g d else a' j) = _
      rw [if_pos rfl, ha j hj, hg, show d = _ from ed.trans (blk_at3 hs (offT_64 k ⟨j + 1, by omega⟩) _), tapB_re]
      refine re2_congr fun s c hs hc => ?_
      rw [if_pos (by omega)]
      refine congrArg _ (Finset.sum_congr rfl fun i _ => ?_)
      have hk := k.isLt; have hi := i.isLt
      show _ * f ((64 * k.val + 8 * ((j + 1) / 8) + (8 * i.val + s) + ((j + 1) % 8 + 0)) % 288) (0 + c) = _
      rw [show (64 * k.val + 8 * ((j + 1) / 8) + (8 * i.val + s) + ((j + 1) % 8 + 0)) % 288 = 64 * k.val + (8 * i.val + s) + j + 1 from by
        rw [Nat.mod_eq_of_lt (by omega)]; omega, Nat.zero_add]
    · show (if j = n then tapB (a n) g d else a' j) = _
      rw [if_neg hjn, ha' f gl A hs hg ha j hj]
      refine re2_congr fun s c _ _ => ?_
      by_cases h1 : j < n
      · rw [if_pos h1, if_pos (by omega)]
      · rw [if_neg h1, if_neg (by omega)]

theorem get_of (f : ℕ → FVec Ideal S8x128 .f32) (j : ℕ) (hj : j < 31) : (T31.of f).get j = f j := by
  interval_cases j <;> rfl

/-- The weight's gradient over the first `n` blocks of 64 rows. -/
abbrev gradB (n : ℕ) (f gl : ℕ → ℕ → ℝ) (j : ℕ) : ℕ → ℕ → ℝ := fun s c =>
  ∑ k ∈ Finset.range n, ∑ i : Fin 8, gl (64 * k + (8 * i.val + s)) c * f (64 * k + (8 * i.val + s) + j + 1) c

theorem laneB_reach (S : St Ideal) :
    Reach c M (laneB M) S fun t S' => S' = S ∧
      ∀ f gl : ℕ → ℕ → ℝ, S.sh = re3 (rolled f) → S.glu = re2 gl → ∀ j, j < 31 → t.get j = re2 (gradB 4 f gl j) := by
  refine Reach.mono (Reach.loop (fun n t S' => S' = S ∧
      ∀ f gl : ℕ → ℕ → ℝ, S.sh = re3 (rolled f) → S.glu = re2 gl → ∀ j, j < 31 → t.get j = re2 (gradB n f gl j))
      (fun k t S' hI => ?_) ⟨rfl, fun f gl _ _ j hj => ?_⟩) (fun t S' h => h)
  · obtain ⟨rfl, ht⟩ := hI
    refine Reach.bind (Reach.ld fld_glu (fun _ => rfl) fun g eg => ?_)
    refine Reach.bind ((tapsB_reach k g t.get S' 31 (by omega)).mono ?_)
    rintro a _ ⟨rfl, ha⟩
    refine Reach.ret ⟨rfl, fun f gl hs hg j hj => ?_⟩
    rw [get_of _ _ hj, ha f _ (gradB k.val f gl) hs (eg.trans (blk_at hg (offR_64 k) _)) (ht f gl hs hg) j hj]
    refine re2_congr fun s c _ _ => ?_
    rw [if_pos hj]
    simp only [gradB, Finset.sum_range_succ, Nat.zero_add]
  · rw [get_of _ _ hj]
    refine Eq.trans (lit0_re (n := 8) (m := 128)) (re2_congr fun s c _ _ => ?_)
    simp only [gradB, Finset.sum_range_zero]

theorem gcwAdd_reach (lb : Fin 8) (t : ℕ → FVec Ideal S8x128 .f32) (S : St Ideal) : ∀ (n : ℕ) (h : n ≤ 31),
    Reach c M (gcwAdd M lb t n h) S fun _ S' => ∃ gcw, S' = S.setGcw gcw ∧
      ∀ (A : ℕ → ℕ → ℝ) (B : ℕ → ℕ → ℕ → ℝ), S.gcw = re2 A → (∀ j, j < 31 → t j = re2 (B j)) →
        gcw = re2 (fun r c => if r / 8 < n ∧ 128 * lb.val ≤ c ∧ c < 128 * lb.val + 128 then A r c + B (r / 8) (r % 8) (c - 128 * lb.val) else A r c)
  | 0, _ => Reach.ret ⟨S.gcw, rfl, fun A B hA _ => by
      rw [hA]; exact re2_congr fun r c _ _ => (if_neg (by omega)).symm⟩
  | n + 1, h => by
    refine Reach.bind ((gcwAdd_reach lb t S n (by omega)).mono ?_)
    rintro - _ ⟨gcw, rfl, hg⟩
    refine Reach.bind (Reach.ld fld_gcw (fun _ => rfl) fun v ev => ?_)
    refine Reach.put fld_gcw (fun _ => rfl) fun X eX => ⟨X, rfl, fun A B hA hB => ?_⟩
    have h1 := hg A B hA hB
    have hsc : shapeCast S8x128 (addf v (t n)) shapeCasts_S8x128_S8x128 = re2 _ :=
      (shapeCast_self _ _).trans (by
        rw [show v = _ from ev.trans (blk_of h1 ..), hB n (by omega)]
        exact addf_re ..)
    rw [hsc] at eX
    refine (eX.trans ((congrArg (fun X => upd X _ _) h1).trans (upd_re2 ..))).trans (re2_congr fun r c _ _ => ?_)
    have hl := lb.isLt
    by_cases hc : 128 * lb.val ≤ c ∧ c < 128 * lb.val + 128
    · by_cases hr : r / 8 = n
      · rw [if_pos (by omega), if_neg (by omega), if_pos (by omega), show 8 * n + (r - 8 * n) = r from by omega, show r - 8 * n = r % 8 from by omega,
          show 128 * lb.val + (c - 128 * lb.val) = c from by omega, hr]
      · rw [if_neg (by omega)]
        by_cases hr' : r / 8 < n
        · rw [if_pos ⟨hr', hc⟩, if_pos (by omega)]
        · rw [if_neg (by omega), if_neg (by omega)]
    · rw [if_neg (by omega), if_neg (by omega), if_neg (by omega)]

/-- What a tile adds to the sums of the weight gradient. -/
abbrev gcwTile (D : Dt) (t r c : ℕ) : ℝ := ∑ k ∈ Finset.range 4, ∑ i : Fin 8,
  D.glu (256 * t + 64 * k + (8 * i.val + r % 8)) c * D.dcvP (256 * t + 64 * k + (8 * i.val + r % 8) + r / 8 + 1) c

theorem dp_lane0 (D : Dt) (t lb r c : ℕ) (hl : lb < 8) (hc : c < 128) :
    gradA lb (fun r c => D.dcvP (256 * t + r) (128 * lb + c)) D.w r c * sgR (D.proj (256 * t + r) (1024 + (128 * lb + c)))
      = D.dp (256 * t + r) (128 * lb + c) := by
  unfold Dt.dp
  rw [if_pos (by omega)]
  refine congrArg (· * _) ?_
  simp only [gradA, Dt.dglu, Dt.dgluN, Nat.add_assoc]

theorem dp_lane1 (D : Dt) (t lb r c : ℕ) (hl : lb < 8) (hc : c < 128) :
    gradA lb (fun r c => D.dcvP (256 * t + r) (128 * lb + c)) D.w r c * D.proj (256 * t + r) (128 * lb + c)
        * sgR (D.proj (256 * t + r) (1024 + (128 * lb + c))) * (1 - sgR (D.proj (256 * t + r) (1024 + (128 * lb + c))))
      = D.dp (256 * t + r) (1024 + 128 * lb + c) := by
  unfold Dt.dp
  rw [if_neg (by omega), if_pos (by omega), show 1024 + 128 * lb + c - 1024 = 128 * lb + c from by omega, Nat.add_assoc 1024]
  refine congrArg (· * _ * _ * _) ?_
  simp only [gradA, Dt.dglu, Dt.dgluN, Nat.add_assoc]

theorem glu_re (a g : ℕ → ℕ → ℝ) :
    (shapeCast S256x128 (mulf (re2 a : FVec Ideal S256x128 .f32) (re2 g : FVec Ideal S256x128 .f32)) shapeCasts_S256x128_S256x128 : M2 256 128)
      = re2 (fun r c => a r c * g r c) := (shapeCast_self _ _).trans (mulf_re ..)
theorem dpA_re (d s : ℕ → ℕ → ℝ) :
    (truncf .bf16 (mulf (re2 d : FVec Ideal S256x128 .f32) (re2 s : FVec Ideal S256x128 .f32)) bitsLt_bf16_f32 : FVec Ideal S256x128 .bf16)
      = re2 (fun r c => d r c * s r c) := mulf_re ..
theorem dpB_re (d a s : ℕ → ℕ → ℝ) :
    (truncf .bf16 (mulf (mulf (mulf (re2 d : FVec Ideal S256x128 .f32) (re2 a : FVec Ideal S256x128 .f32)) (re2 s : FVec Ideal S256x128 .f32))
      (subf (lit S256x128 0x3F800000#32) (re2 s : FVec Ideal S256x128 .f32))) bitsLt_bf16_f32 : FVec Ideal S256x128 .bf16)
      = re2 (fun r c => d r c * a r c * s r c * (1 - s r c)) := by
  have e : (subf (lit S256x128 0x3F800000#32) (re2 s : FVec Ideal S256x128 .f32) : M2 256 128) = re2 (fun r c => 1 - s r c) := by
    rw [show (lit S256x128 0x3F800000#32 : FVec Ideal S256x128 .f32) = re2 (fun _ _ => 1) from lit1_re]; exact subf_re ..
  rw [e]
  exact ((congrArg (fun z : M2 256 128 => (mulf (mulf z (re2 s)) (re2 fun r c => 1 - s r c) : M2 256 128)) (mulf_re d a)).trans
    ((congrArg (fun z : M2 256 128 => (mulf z (re2 fun r c => 1 - s r c) : M2 256 128)) (mulf_re ..)).trans (mulf_re ..)))

/-- The arrays a lane block writes. -/
def St.setLane {F : FTy → Type} [FloatOps F] (S : St F) (glu : S256x128.Idx → Elt F .f32) (sh : S8x288x128.Idx → Elt F .f32)
    (dgl : S256x128.Idx → Elt F .f32) (gcw : S248x1024.Idx → Elt F .f32) (dp : S256x6144.Idx → Elt F .bf16) : St F :=
  ((((S.setGlu glu).setSh sh).setDgl dgl).setGcw gcw).setDp dp

theorem setLane_setLane {F : FTy → Type} [FloatOps F] (S : St F) (a b c d e a' b' c' d' e') :
    (S.setLane a b c d e).setLane a' b' c' d' e' = S.setLane a' b' c' d' e' := by cases S; rfl
theorem setLane_self {F : FTy → Type} [FloatOps F] (S : St F) : S.setLane S.glu S.sh S.dgl S.gcw S.dp = S := by cases S; rfl

theorem ins_setLane (D : Dt) (t : ℕ) (S : St Ideal) (a b c d e) : Ins D t (S.setLane a b c d e) = Ins D t S := by cases S; rfl

/-- One lane block. -/
theorem lane_reach (lb : Fin 8) (t : ℕ) (S : St Ideal) :
    Reach c M (lane M lb) S fun _ S' => ∃ dp gcw sh glu dgl, S' = S.setLane glu sh dgl gcw dp ∧
      (Ins D t S → S.dcv = re2 (fun r c => D.dcvP (256 * t + r) c) →
        (∀ R, Has2 S.dp R (fun r c => D.dp (256 * t + r) c) →
          Has2 dp (fun r c => (R r c ∨ (0 ≤ r ∧ r < 0 + 256 ∧ 128 * lb.val ≤ c ∧ c < 128 * lb.val + 128))
            ∨ (0 ≤ r ∧ r < 0 + 256 ∧ 1024 + 128 * lb.val ≤ c ∧ c < 1024 + 128 * lb.val + 128)) (fun r c => D.dp (256 * t + r) c)) ∧
        ∀ A, S.gcw = re2 A → gcw = re2 (fun r c => if 128 * lb.val ≤ c ∧ c < 128 * lb.val + 128 then A r c + gcwTile D t r c else A r c)) := by
  unfold lane
  refine Reach.bind (Reach.ld fld_pm (fun _ => rfl) fun av eav => ?_)
  refine Reach.bind (Reach.ld fld_pm (fun _ => rfl) fun ag eag => ?_)
  refine Reach.bind (Reach.put fld_glu (fun _ => rfl) fun glu eglu => ?_)
  refine Reach.bind (Reach.ld fld_dcv (fun _ => rfl) fun v ev => ?_)
  refine Reach.bind ((fill_reach v _ 8 (Nat.le_refl _)).mono ?_)
  rintro - _ ⟨sh, rfl, hsh⟩
  refine Reach.bind ((laneA_reach lb _).mono ?_)
  rintro - _ ⟨dgl, rfl, hdgl⟩
  refine Reach.bind ((laneB_reach _).mono ?_)
  rintro T _ ⟨rfl, hT⟩
  refine Reach.bind ((gcwAdd_reach lb T.get _ 31 (Nat.le_refl _)).mono ?_)
  rintro - _ ⟨gcw, rfl, hgcw⟩
  refine Reach.bind (Reach.ld fld_dgl (fun _ => rfl) fun d ed => ?_)
  refine Reach.bind (Reach.putDp fun dp0 edp0 => ?_)
  refine Reach.putDp fun dp edp => ?_
  refine ⟨dp, gcw, sh, glu, dgl, rfl, fun hI hdcv => ?_⟩
  obtain ⟨h1, -, -, -, -, -, -, -, -, hw, -⟩ := hI
  have hlb := lb.isLt
  have hav : (extf .f32 av bitsLt_bf16_f32 : FVec Ideal S256x128 .f32) = re2 (fun r c => D.proj (256 * t + r) (128 * lb.val + c)) := by
    rw [show av = _ from eav.trans (blk_of h1 ..)]
    exact (extf_re _ bitsLt_bf16_f32).trans (re2_congr fun r c _ _ => by rw [Nat.zero_add])
  have hag : (extf .f32 ag bitsLt_bf16_f32 : FVec Ideal S256x128 .f32) = re2 (fun r c => D.proj (256 * t + r) (1024 + (128 * lb.val + c))) := by
    rw [show ag = _ from eag.trans (blk_of h1 ..)]
    exact (extf_re _ bitsLt_bf16_f32).trans (re2_congr fun r c _ _ => by rw [Nat.zero_add, Nat.add_assoc 1024])
  have hsg : sgm (F := Ideal) (extf .f32 ag bitsLt_bf16_f32 : FVec Ideal S256x128 .f32)
      = re2 (fun r c => sgR (D.proj (256 * t + r) (1024 + (128 * lb.val + c)))) := by rw [hag]; exact sgm_re _
  have hglu : glu = re2 (fun r c => D.glu (256 * t + r) (128 * lb.val + c)) := by
    exact ((Has2.none S.glu _).put 0 0 eglu (fun r c => D.proj (256 * t + r) (128 * lb.val + c) * sgR (D.proj (256 * t + r) (1024 + (128 * lb.val + c))))
      (by rw [hav, hsg]; exact glu_re ..) fun r c _ _ => by rw [Nat.zero_add, Nat.zero_add]; rfl).all fun r c hr hc => by omega
  have hv : v = re2 (fun r c => D.dcvP (256 * t + r) (128 * lb.val + c)) :=
    ev.trans ((blk_of hdcv ..).trans (re2_congr fun r c _ _ => by rw [Nat.zero_add]))
  have hs := (hsh _ hv).all fun k hk => hk
  have hdg := hdgl _ D.w hs hw
  have hd : d = re2 _ := ed.trans ((blk_of hdg ..).trans (re2_congr fun r c _ _ => by rw [Nat.zero_add, Nat.zero_add]))
  refine ⟨fun R hR => ?_, fun A hA => ?_⟩
  · have s0 := hR.put 0 (128 * lb.val) edp0 _ (by rw [hd, hsg]; exact dpA_re ..) fun r c _ hc =>
      (dp_lane0 D t lb.val r c hlb hc).trans (by rw [Nat.zero_add])
    exact s0.put 0 (1024 + 128 * lb.val) edp _ (by rw [hd, hav, hsg]; exact dpB_re ..) fun r c _ hc =>
      (dp_lane1 D t lb.val r c hlb hc).trans (by rw [Nat.zero_add])
  · refine (hgcw A _ hA (hT _ _ hs hglu)).trans (re2_congr fun r c hr hc => ?_)
    by_cases h : 128 * lb.val ≤ c ∧ c < 128 * lb.val + 128
    · rw [if_pos (by omega), if_pos h]
      refine congrArg _ ?_
      simp only [gradB, gcwTile, Nat.add_assoc, Nat.add_sub_cancel' h.1]
    · rw [if_neg (by omega), if_neg h]

set_option maxHeartbeats 1600000 in
/-- The first `n` lane blocks. -/
theorem lanes_reach (t : ℕ) (S : St Ideal) : ∀ (n : ℕ) (h : n ≤ 8),
    Reach c M (lanes M n h) S fun _ S' => ∃ dp gcw sh glu dgl, S' = S.setLane glu sh dgl gcw dp ∧
      (Ins D t S → S.dcv = re2 (fun r c => D.dcvP (256 * t + r) c) →
        (∀ R, Has2 S.dp R (fun r c => D.dp (256 * t + r) c) →
          Has2 dp (fun r c => R r c ∨ c < 128 * n ∨ (1024 ≤ c ∧ c < 1024 + 128 * n)) (fun r c => D.dp (256 * t + r) c)) ∧
        ∀ A, S.gcw = re2 A → gcw = re2 (fun r c => if c < 128 * n then A r c + gcwTile D t r c else A r c))
  | 0, _ => Reach.ret ⟨S.dp, S.gcw, S.sh, S.glu, S.dgl, (setLane_self S).symm, fun _ _ => ⟨fun R hR => hR.mono fun r c _ _ h => by
      rcases h with h | h | h
      · exact h
      · omega
      · omega, fun A hA => hA.trans (re2_congr fun r c _ _ => (if_neg (by omega)).symm)⟩⟩
  | n + 1, h => by
    refine Reach.bind ((lanes_reach t S n (by omega)).mono ?_)
    rintro - _ ⟨dp, gcw, sh, glu, dgl, rfl, hS⟩
    refine (lane_reach (D := D) ⟨n, by omega⟩ t _).mono ?_
    rintro - _ ⟨dp', gcw', sh', glu', dgl', rfl, hS'⟩
    refine ⟨dp', gcw', sh', glu', dgl', setLane_setLane .., fun hI hd => ?_⟩
    obtain ⟨a1, a2⟩ := hS hI hd
    obtain ⟨b1, b2⟩ := hS' ((ins_setLane ..).mpr hI) hd
    refine ⟨fun R hR => (b1 _ (a1 R hR)).mono fun r c hr _ h => ?_, fun A hA => (b2 _ (a2 A hA)).trans (re2_congr fun r c _ _ => ?_)⟩
    · show ((R r c ∨ c < 128 * n ∨ (1024 ≤ c ∧ c < 1024 + 128 * n)) ∨ (0 ≤ r ∧ r < 0 + 256 ∧ 128 * n ≤ c ∧ c < 128 * n + 128))
        ∨ (0 ≤ r ∧ r < 0 + 256 ∧ 1024 + 128 * n ≤ c ∧ c < 1024 + 128 * n + 128)
      rcases h with h | h | h
      · exact .inl (.inl (.inl h))
      · omega
      · omega
    · show (if 128 * n ≤ c ∧ c < 128 * n + 128 then (if c < 128 * n then A r c + gcwTile D t r c else A r c) + gcwTile D t r c
        else if c < 128 * n then A r c + gcwTile D t r c else A r c) = _
      by_cases h1 : c < 128 * n
      · rw [if_neg (by omega), if_pos h1, if_pos (by omega)]
      · rw [if_neg h1]
        by_cases h2 : c < 128 * n + 128
        · rw [if_pos (by omega), if_pos (by omega)]
        · rw [if_neg (by omega), if_neg (by omega)]

end Cert.Mix

end
-- ==== Proof.MixHalf.lean ====
/- The two halves of a tile: the gradient of the convolution's gate, the cotangent at the convolution and the running
   sums of the norm's parameters. -/
module

public import proofs.«01_k».proof.Proof.MixData

@[expose] public section

set_option maxRecDepth 65536

noncomputable section

namespace Cert.Mix

open Idealize.ShloMosaic Idealize.SL Idealize.SL.Sem Cert.MixKernelIdeal Cert.MixKernelIdeal.Gen Cert.RealLib

variable {c : Dev nD} {M : Mems} {D : Dt}

/-- The position of row `r` of the first half, the halo before it included. -/
def e0 (t r : ℕ) : ℕ := if r < 16 then 16 * (16 * t - 1) + r else 256 * t + (r - 16)
/-- The position of row `r` of the second half, the halo after it included. -/
def e1 (t r : ℕ) : ℕ := if r < 128 then 256 * t + (128 + r) else 16 * min (16 * t + 16) 511 + (r - 128)

theorem e0_cases (t r c : ℕ) (f : ℕ → ℕ → ℝ) :
    (if r < 16 then f (16 * (16 * t - 1) + (0 + r)) (0 + c) else f (256 * t + (0 + (r - 16))) (0 + c)) = f (e0 t r) c := by
  unfold e0; split <;> simp only [Nat.zero_add]

theorem dp_gate (D : Dt) (t r c : ℕ) (hc : c < 1024) : D.dp (256 * t + (0 + r)) (2048 + c)
    = D.dy (256 * t + r) c * D.ln (256 * t + r) c * sgR (D.ln (256 * t + r) c) * dslR (D.gc (256 * t + r) c) := by
  unfold Dt.dp
  rw [if_neg (by omega), if_neg (by omega), if_pos (by omega), Nat.zero_add, Nat.add_sub_cancel_left]

theorem e1_cases (t r c : ℕ) (f : ℕ → ℕ → ℝ) :
    (if r < 128 then f (256 * t + (128 + r)) (0 + c) else f (16 * min (16 * t + 16) 511 + (0 + (r - 128))) (0 + c)) = f (e1 t r) c := by
  unfold e1; split <;> simp only [Nat.zero_add]

/-- Adding to the eight rows kept for sum `n`. -/
theorem acc_add {X : S40x1024.Idx → EReal} {A : ℕ → ℕ → ℝ} (hX : X = re2 A) (n : ℕ) (inb) (s : ℕ → ℕ → ℝ) :
    upd X (Rect.unit (s := S40x1024) ![8 * n, 0] S8x1024.size inb) (re2 (fun r c => A (8 * n + r) (0 + c) + s r c) : S8x1024.Idx → EReal)
      = re2 (fun r c => if r / 8 = n then A r c + s (r % 8) c else A r c) := by
  rw [hX]
  refine (upd_re2 ..).trans (re2_congr fun r c _ hc => ?_)
  by_cases h : r / 8 = n
  · rw [if_pos h, if_pos (by omega), show 8 * n + (r - 8 * n) = r from by omega, show r - 8 * n = r % 8 from by omega, Nat.zero_add, Nat.sub_zero]
  · rw [if_neg h, if_neg (by omega)]

theorem acc_half (D : Dt) (t o r c : ℕ) (A : ℕ → ℕ → ℝ) :
    (if r / 8 = 2 then (if r / 8 = 1 then (if r / 8 = 0 then A r c + ∑ i : Fin 16, D.dcv (256 * t + o + (8 * i.val + r % 8)) c else A r c)
        + ∑ i : Fin 16, D.dln (256 * t + o + (8 * i.val + r % 8)) c * nhR (D.cv (256 * t + o + (8 * i.val + r % 8))) c
      else if r / 8 = 0 then A r c + ∑ i : Fin 16, D.dcv (256 * t + o + (8 * i.val + r % 8)) c else A r c)
      + ∑ i : Fin 16, D.dln (256 * t + o + (8 * i.val + r % 8)) c
    else if r / 8 = 1 then (if r / 8 = 0 then A r c + ∑ i : Fin 16, D.dcv (256 * t + o + (8 * i.val + r % 8)) c else A r c)
        + ∑ i : Fin 16, D.dln (256 * t + o + (8 * i.val + r % 8)) c * nhR (D.cv (256 * t + o + (8 * i.val + r % 8))) c
      else if r / 8 = 0 then A r c + ∑ i : Fin 16, D.dcv (256 * t + o + (8 * i.val + r % 8)) c else A r c)
    = if r < 24 then A r c + ∑ k : Fin 16, D.q (r / 8) (256 * t + o + (8 * k.val + r % 8)) c else A r c := by
  unfold Dt.q
  by_cases h0 : r / 8 = 0
  · rw [h0, if_neg (by omega), if_neg (by omega), if_pos rfl, if_pos (by omega)]; rfl
  by_cases h1 : r / 8 = 1
  · rw [h1, if_neg (by omega), if_pos rfl, if_neg (by omega), if_pos (by omega)]; rfl
  by_cases h2 : r / 8 = 2
  · rw [h2, if_pos rfl, if_neg (by omega), if_neg (by omega), if_pos (by omega)]; rfl
  · rw [if_neg h2, if_neg h1, if_neg h0, if_neg (by omega)]

theorem dcv_half0 (D : Dt) (t r c : ℕ) (hr : r < 144) (ht : t < 32) :
    (if 16 ≤ r ∨ 0 < t then D.dcv (e0 t r) c else 0) = D.dcvP (256 * t + (0 + r)) (0 + c) := by
  unfold Dt.dcvP e0
  by_cases h : 16 ≤ r ∨ 0 < t
  · rw [if_pos h, if_pos (show 16 ≤ 256 * t + (0 + r) ∧ 256 * t + (0 + r) < 8208 from by omega), Nat.zero_add, Nat.zero_add]
    split
    · rw [show 16 * (16 * t - 1) + r = 256 * t + r - 16 from by omega]
    · rw [show 256 * t + (r - 16) = 256 * t + r - 16 from by omega]
  · rw [if_neg h, if_neg (by omega)]
theorem dcv_half1 (D : Dt) (t r c : ℕ) (hr : r < 144) (ht : t < 32) :
    (if r < 128 ∨ t < 31 then D.dcv (e1 t r) c else 0) = D.dcvP (256 * t + (144 + r)) (0 + c) := by
  unfold Dt.dcvP e1
  by_cases h : r < 128 ∨ t < 31
  · rw [if_pos h, if_pos (show 16 ≤ 256 * t + (144 + r) ∧ 256 * t + (144 + r) < 8208 from by omega), Nat.zero_add]
    split
    · rw [show 256 * t + (128 + r) = 256 * t + (144 + r) - 16 from by omega]
    · rw [show 16 * min (16 * t + 16) 511 + (r - 128) = 256 * t + (144 + r) - 16 from by omega]
  · rw [if_neg h, if_neg (by omega)]

/-- The first half of a tile: its writes hold the specification's numbers. -/
theorem half0_reach (i : grid0.Coords) (g : Vec Ideal S1x1024 .f32) (S : St Ideal) :
    Reach c M (half0 M i g) S fun _ S' => ∃ dp dcv acc, S' = ((S.setDp dp).setDcv dcv).setAcc acc ∧
      (g = re2 (fun _ c => D.clg c) → Ins D (i 0).val S →
        (∀ R, Has2 S.dp R (fun r c => D.dp (256 * (i 0).val + r) c) →
          Has2 dp (fun r c => R r c ∨ (0 ≤ r ∧ r < 0 + 128 ∧ 2048 ≤ c ∧ c < 2048 + 1024)) (fun r c => D.dp (256 * (i 0).val + r) c)) ∧
        Has2 dcv (fun r c => False ∨ (0 ≤ r ∧ r < 0 + 144 ∧ 0 ≤ c ∧ c < 0 + 1024)) (fun r c => D.dcvP (256 * (i 0).val + r) c) ∧
        ∀ A, S.acc = re2 A → acc = re2 (fun r c => if r < 24 then A r c + ∑ k : Fin 16, D.q (r / 8) (256 * (i 0).val + 0 + (8 * k.val + r % 8)) c else A r c)) := by
  unfold half0
  refine Reach.bind (Reach.ld fld_cvm (fun _ => rfl) fun cm ecm => ?_)
  refine Reach.bind (Reach.ld fld_cvp (fun _ => rfl) fun ch ech => ?_)
  refine Reach.bind (Reach.ld fld_pm (fun _ => rfl) fun gm egm => ?_)
  refine Reach.bind (Reach.ld fld_gcp (fun _ => rfl) fun gh egh => ?_)
  refine Reach.bind (Reach.ld fld_dym (fun _ => rfl) fun dm edm => ?_)
  refine Reach.bind (Reach.ld fld_dyp (fun _ => rfl) fun dh edh => ?_)
  refine Reach.bind (Reach.ld fld_clb (fun _ => rfl) fun b eb => ?_)
  refine Reach.bind (Reach.putDp fun dp edp => ?_)
  refine Reach.bind (Reach.put fld_dcv (fun _ => rfl) fun dcv edcv => ?_)
  refine Reach.bind (Reach.ld fld_acc (fun _ => rfl) fun a0 ea0 => ?_)
  refine Reach.bind (Reach.put fld_acc (fun _ => rfl) fun acc0 eacc0 => ?_)
  refine Reach.bind (Reach.ld fld_acc (fun _ => rfl) fun a1 ea1 => ?_)
  refine Reach.bind (Reach.put fld_acc (fun _ => rfl) fun acc1 eacc1 => ?_)
  refine Reach.bind (Reach.ld fld_acc (fun _ => rfl) fun a2 ea2 => ?_)
  refine Reach.put fld_acc (fun _ => rfl) fun acc2 eacc2 => ?_
  refine ⟨dp, dcv, acc2, rfl, fun hg hI => ?_⟩
  obtain ⟨h1, h2, h3, h4, h5, h6, h7, h8, h9, -, h10, h11, -⟩ := hI
  generalize hT : (i 0).val = t at *
  have hcv : catF0 ch cm = re2 (fun r c => D.cv (e0 t r) c) := by
    rw [show ch = re2 (fun r c => D.cv (16 * (16 * t - 1) + (0 + r)) (0 + c)) from ech.trans (blk_of h8 ..),
      show cm = re2 (fun r c => D.cv (256 * t + (0 + r)) (0 + c)) from ecm.trans (blk_of h3 ..)]
    exact (catF0_re _ _).trans (re2_congr fun r c _ _ => e0_cases t r c D.cv)
  have hgc : catB0 gh gm = re2 (fun r c => D.gc (e0 t r) c) := by
    rw [show gh = re2 (fun r c => D.gc (16 * (16 * t - 1) + (0 + r)) (0 + c)) from egh.trans (blk_of h4 ..),
      show gm = re2 (fun r c => D.proj (256 * t + (0 + r)) (2048 + c)) from egm.trans (blk_of h1 ..)]
    exact (catB0_re _ _).trans (re2_congr fun r c _ _ => (by simp only [Nat.zero_add]; rfl : _ = _).trans (e0_cases t r c D.gc))
  have hdy : catB0 dh dm = re2 (fun r c => D.dy (e0 t r) c) := by
    rw [show dh = re2 (fun r c => D.dy (16 * (16 * t - 1) + (0 + r)) (0 + c)) from edh.trans (blk_of h6 ..),
      show dm = re2 (fun r c => D.dy (256 * t + (0 + r)) (0 + c)) from edm.trans (blk_of h2 ..)]
    exact (catB0_re _ _).trans (re2_congr fun r c _ _ => e0_cases t r c D.dy)
  have hb : b = re2 (fun _ c => D.clb c) := eb.trans ((blk_of h11 ..).trans (re2_congr fun r c _ _ => by simp only [Nat.zero_add]))
  have hln : lin144 (F := Ideal) g b (catF0 ch cm) = re2 (fun r => D.ln (e0 t r)) := by
    rw [hg, hb, hcv]; exact lin144_re _ _ _
  have hdln : dln144 (F := Ideal) g b (catF0 ch cm) (catB0 gh gm) (catB0 dh dm) = re2 (fun r => D.dln (e0 t r)) := by
    rw [hg, hb, hcv, hgc, hdy]; exact dln144_re _ _ _ _ _
  have hkeep : keep144 (F := Ideal) (valid0 i) (dcv144 g (catF0 ch cm) (dln144 g b (catF0 ch cm) (catB0 gh gm) (catB0 dh dm)))
      = re2 (fun r c => if 16 ≤ r ∨ 0 < t then D.dcv (e0 t r) c else 0) := by
    rw [hdln, hg, hcv, dcv144_re]
    exact keep144_re _ (fun r => 16 ≤ r ∨ 0 < t) (fun r => by rw [← hT]; exact valid0_iff i r) _
  have he : ∀ r, e0 t (16 + r) = 256 * t + r := fun r => by unfold e0; rw [if_neg (by omega)]; omega
  have hd : dgate (F := Ideal) (main0 (catB0 dh dm)) (main0 (lin144 g b (catF0 ch cm))) (main0 (sgm (lin144 g b (catF0 ch cm))))
      (main0 (catB0 gh gm)) (main0 (sgm (catB0 gh gm)))
      = re2 (fun r c => D.dy (256 * t + r) c * D.ln (256 * t + r) c * sgR (D.ln (256 * t + r) c) * dslR (D.gc (256 * t + r) c)) := by
    rw [hdy, hln, hgc, sgm_re, sgm_re, main0_re, main0_re, main0_re, main0_re, main0_re]
    simp only [he]
    exact dgate_re _ _ _ _
  have hm : main0 (F := Ideal) (keep144 (valid0 i) (dcv144 g (catF0 ch cm) (dln144 g b (catF0 ch cm) (catB0 gh gm) (catB0 dh dm))))
      = re2 (fun r c => D.dcv (256 * t + r) c) := by
    rw [hkeep, main0_re]; exact re2_congr fun r c _ _ => by rw [if_pos (by omega), he]
  have hml : main0 (F := Ideal) (dln144 g b (catF0 ch cm) (catB0 gh gm) (catB0 dh dm)) = re2 (fun r c => D.dln (256 * t + r) c) := by
    rw [hdln, main0_re]; simp only [he]
  have hmn : main0 (F := Ideal) (nrm144 (catF0 ch cm)) = re2 (fun r c => nhR (D.cv (256 * t + r)) c) := by
    rw [hcv, nrm144_re, main0_re]; simp only [he]
  refine ⟨fun R hR => ?_, ?_, fun A hA => ?_⟩
  · rw [edp, hd]
    exact hR.upd 0 2048 _ _ fun r c _ hc => (dp_gate D t r c hc).symm
  · rw [edcv, hkeep, shapeCast_self]
    refine (Has2.none _ _).upd 0 0 _ _ fun r c hr _ => ?_
    exact dcv_half0 D t r c hr (by rw [← hT]; exact (i 0).isLt)
  · rw [show a0 = _ from ea0.trans (blk_of hA ..), hm, fold128_re] at eacc0
    have e0' := eacc0.trans (acc_add hA 0 _ (fun r c => ∑ i : Fin 16, D.dcv (256 * t + (8 * i.val + r)) c))
    rw [show a1 = _ from ea1.trans (blk_of e0' ..), hml, hmn, mulf_re, fold128_re] at eacc1
    have e1' := eacc1.trans (acc_add e0' 1 _ (fun r c => ∑ i : Fin 16, D.dln (256 * t + (8 * i.val + r)) c * nhR (D.cv (256 * t + (8 * i.val + r))) c))
    rw [show a2 = _ from ea2.trans (blk_of e1' ..), hml, fold128_re] at eacc2
    refine (eacc2.trans (acc_add e1' 2 _ (fun r c => ∑ i : Fin 16, D.dln (256 * t + (8 * i.val + r)) c))).trans (re2_congr fun r c _ _ => ?_)
    exact acc_half D t 0 r c A

/-- The second half of a tile: its writes hold the specification's numbers. -/
theorem half1_reach (i : grid0.Coords) (g : Vec Ideal S1x1024 .f32) (S : St Ideal) :
    Reach c M (half1 M i g) S fun _ S' => ∃ dp dcv acc, S' = ((S.setDp dp).setDcv dcv).setAcc acc ∧
      (g = re2 (fun _ c => D.clg c) → Ins D (i 0).val S →
        (∀ R, Has2 S.dp R (fun r c => D.dp (256 * (i 0).val + r) c) →
          Has2 dp (fun r c => R r c ∨ (128 ≤ r ∧ r < 128 + 128 ∧ 2048 ≤ c ∧ c < 2048 + 1024)) (fun r c => D.dp (256 * (i 0).val + r) c)) ∧
        (∀ R, Has2 S.dcv R (fun r c => D.dcvP (256 * (i 0).val + r) c) →
          Has2 dcv (fun r c => R r c ∨ (144 ≤ r ∧ r < 144 + 144 ∧ 0 ≤ c ∧ c < 0 + 1024)) (fun r c => D.dcvP (256 * (i 0).val + r) c)) ∧
        ∀ A, S.acc = re2 A → acc = re2 (fun r c => if r < 24 then A r c + ∑ k : Fin 16, D.q (r / 8) (256 * (i 0).val + 128 + (8 * k.val + r % 8)) c else A r c)) := by
  unfold half1
  refine Reach.bind (Reach.ld fld_cvm (fun _ => rfl) fun cm ecm => ?_)
  refine Reach.bind (Reach.ld fld_cvn (fun _ => rfl) fun ch ech => ?_)
  refine Reach.bind (Reach.ld fld_pm (fun _ => rfl) fun gm egm => ?_)
  refine Reach.bind (Reach.ld fld_gcn (fun _ => rfl) fun gh egh => ?_)
  refine Reach.bind (Reach.ld fld_dym (fun _ => rfl) fun dm edm => ?_)
  refine Reach.bind (Reach.ld fld_dyn (fun _ => rfl) fun dh edh => ?_)
  refine Reach.bind (Reach.ld fld_clb (fun _ => rfl) fun b eb => ?_)
  refine Reach.bind (Reach.putDp fun dp edp => ?_)
  refine Reach.bind (Reach.put fld_dcv (fun _ => rfl) fun dcv edcv => ?_)
  refine Reach.bind (Reach.ld fld_acc (fun _ => rfl) fun a0 ea0 => ?_)
  refine Reach.bind (Reach.put fld_acc (fun _ => rfl) fun acc0 eacc0 => ?_)
  refine Reach.bind (Reach.ld fld_acc (fun _ => rfl) fun a1 ea1 => ?_)
  refine Reach.bind (Reach.put fld_acc (fun _ => rfl) fun acc1 eacc1 => ?_)
  refine Reach.bind (Reach.ld fld_acc (fun _ => rfl) fun a2 ea2 => ?_)
  refine Reach.put fld_acc (fun _ => rfl) fun acc2 eacc2 => ?_
  refine ⟨dp, dcv, acc2, rfl, fun hg hI => ?_⟩
  obtain ⟨h1, h2, h3, h4, h5, h6, h7, h8, h9, -, h10, h11, -⟩ := hI
  generalize hT : (i 0).val = t at *
  have hcv : catF1 ch cm = re2 (fun r c => D.cv (e1 t r) c) := by
    rw [show ch = re2 (fun r c => D.cv (16 * min (16 * t + 16) 511 + (0 + r)) (0 + c)) from ech.trans (blk_of h9 ..),
      show cm = re2 (fun r c => D.cv (256 * t + (128 + r)) (0 + c)) from ecm.trans (blk_of h3 ..)]
    exact (catF1_re _ _).trans (re2_congr fun r c _ _ => e1_cases t r c D.cv)
  have hgc : catB1 gh gm = re2 (fun r c => D.gc (e1 t r) c) := by
    rw [show gh = re2 (fun r c => D.gc (16 * min (16 * t + 16) 511 + (0 + r)) (0 + c)) from egh.trans (blk_of h5 ..),
      show gm = re2 (fun r c => D.proj (256 * t + (128 + r)) (2048 + c)) from egm.trans (blk_of h1 ..)]
    exact (catB1_re _ _).trans (re2_congr fun r c _ _ => (by simp only [Nat.zero_add]; rfl : _ = _).trans (e1_cases t r c D.gc))
  have hdy : catB1 dh dm = re2 (fun r c => D.dy (e1 t r) c) := by
    rw [show dh = re2 (fun r c => D.dy (16 * min (16 * t + 16) 511 + (0 + r)) (0 + c)) from edh.trans (blk_of h7 ..),
      show dm = re2 (fun r c => D.dy (256 * t + (128 + r)) (0 + c)) from edm.trans (blk_of h2 ..)]
    exact (catB1_re _ _).trans (re2_congr fun r c _ _ => e1_cases t r c D.dy)
  have hb : b = re2 (fun _ c => D.clb c) := eb.trans ((blk_of h11 ..).trans (re2_congr fun r c _ _ => by simp only [Nat.zero_add]))
  have hln : lin144 (F := Ideal) g b (catF1 ch cm) = re2 (fun r => D.ln (e1 t r)) := by
    rw [hg, hb, hcv]; exact lin144_re _ _ _
  have hdln : dln144 (F := Ideal) g b (catF1 ch cm) (catB1 gh gm) (catB1 dh dm) = re2 (fun r => D.dln (e1 t r)) := by
    rw [hg, hb, hcv, hgc, hdy]; exact dln144_re _ _ _ _ _
  have hkeep : keep144 (F := Ideal) (valid1 i) (dcv144 g (catF1 ch cm) (dln144 g b (catF1 ch cm) (catB1 gh gm) (catB1 dh dm)))
      = re2 (fun r c => if r < 128 ∨ t < 31 then D.dcv (e1 t r) c else 0) := by
    rw [hdln, hg, hcv, dcv144_re]
    exact keep144_re _ (fun r => r < 128 ∨ t < 31) (fun r => by rw [← hT]; exact valid1_iff i r) _
  have he : ∀ r, r < 128 → e1 t r = 256 * t + 128 + r := fun r hr => by unfold e1; rw [if_pos hr]; omega
  have hd : dgate (F := Ideal) (main1 (catB1 dh dm)) (main1 (lin144 g b (catF1 ch cm))) (main1 (sgm (lin144 g b (catF1 ch cm))))
      (main1 (catB1 gh gm)) (main1 (sgm (catB1 gh gm)))
      = re2 (fun r c => D.dy (256 * t + 128 + r) c * D.ln (256 * t + 128 + r) c * sgR (D.ln (256 * t + 128 + r) c) * dslR (D.gc (256 * t + 128 + r) c)) := by
    rw [hdy, hln, hgc, sgm_re, sgm_re, main1_re, main1_re, main1_re, main1_re, main1_re]
    exact (dgate_re _ _ _ _).trans (re2_congr fun r c hr _ => by rw [he r hr])
  have hm : main1 (F := Ideal) (keep144 (valid1 i) (dcv144 g (catF1 ch cm) (dln144 g b (catF1 ch cm) (catB1 gh gm) (catB1 dh dm))))
      = re2 (fun r c => D.dcv (256 * t + 128 + r) c) := by
    rw [hkeep, main1_re]; exact re2_congr fun r c hr _ => by rw [if_pos (.inl hr), he r hr]
  have hml : main1 (F := Ideal) (dln144 g b (catF1 ch cm) (catB1 gh gm) (catB1 dh dm)) = re2 (fun r c => D.dln (256 * t + 128 + r) c) := by
    rw [hdln, main1_re]; exact re2_congr fun r c hr _ => by rw [he r hr]
  have hmn : main1 (F := Ideal) (nrm144 (catF1 ch cm)) = re2 (fun r c => nhR (D.cv (256 * t + 128 + r)) c) := by
    rw [hcv, nrm144_re, main1_re]; exact re2_congr fun r c hr _ => by rw [he r hr]
  refine ⟨fun R hR => ?_, fun R hR => ?_, fun A hA => ?_⟩
  · rw [edp, hd]
    exact hR.upd 128 2048 _ _ fun r c _ hc => by
      rw [Nat.add_assoc (256 * t) 128 r]; exact (dp_gate D t (128 + r) c hc).symm.trans (by rw [Nat.zero_add])
  · rw [edcv, hkeep, shapeCast_self]
    exact hR.upd 144 0 _ _ fun r c hr _ => dcv_half1 D t r c hr (by rw [← hT]; exact (i 0).isLt)
  · rw [show a0 = _ from ea0.trans (blk_of hA ..), hm, fold128_re] at eacc0
    have e0' := eacc0.trans (acc_add hA 0 _ (fun r c => ∑ i : Fin 16, D.dcv (256 * t + 128 + (8 * i.val + r)) c))
    rw [show a1 = _ from ea1.trans (blk_of e0' ..), hml, hmn, mulf_re, fold128_re] at eacc1
    have e1' := eacc1.trans (acc_add e0' 1 _ (fun r c => ∑ i : Fin 16, D.dln (256 * t + 128 + (8 * i.val + r)) c * nhR (D.cv (256 * t + 128 + (8 * i.val + r))) c))
    rw [show a2 = _ from ea2.trans (blk_of e1' ..), hml, fold128_re] at eacc2
    refine (eacc2.trans (acc_add e1' 2 _ (fun r c => ∑ i : Fin 16, D.dln (256 * t + 128 + (8 * i.val + r)) c))).trans (re2_congr fun r c _ _ => ?_)
    exact acc_half D t 128 r c A

end Cert.Mix

end
-- ==== Proof.MixGate.lean ====
/- The spatial gate of a tile: the heads' mixing, its gradients, and the gate norm's gradient. -/
module

public import proofs.«01_k».proof.Proof.MixHalf

@[expose] public section

set_option maxRecDepth 65536

noncomputable section

namespace Cert.Mix

open Idealize.ShloMosaic Idealize.SL Idealize.SL.Sem Cert.MixKernelIdeal Cert.MixKernelIdeal.Gen Cert.RealLib

variable {c : Dev nD} {M : Mems} {D : Dt}

theorem gateU_re (dy mx gs : ℕ → ℕ → ℝ) :
    (truncf .bf16 (mulf (mulf (up (F := Ideal) (re2 dy)) (re2 mx)) (mulf (up (re2 gs)) (sgm (up (re2 gs))))) bitsLt_bf16_f32 : FVec Ideal S128x128 .bf16)
      = re2 (fun r c => dy r c * mx r c * (gs r c * sgR (gs r c))) := by
  rw [up_re, up_re, sgm_re, mulf_re, mulf_re, mulf_re, truncf_re]
theorem gateS_re (dy u mx gs : ℕ → ℕ → ℝ) :
    (truncf .bf16 (mulf (mulf (mulf (up (F := Ideal) (re2 dy)) (up (re2 u))) (re2 mx)) (dsl (up (re2 gs)) (sgm (up (re2 gs))))) bitsLt_bf16_f32 : FVec Ideal S128x128 .bf16)
      = re2 (fun r c => dy r c * u r c * mx r c * dslR (gs r c)) := by
  rw [up_re, up_re, up_re, sgm_re, dsl_re, mulf_re, mulf_re, mulf_re, truncf_re]
theorem gwsAdd_re (g : ℕ → ℕ → ℕ → ℝ) (a : ℕ → ℕ → ℝ) :
    (shapeCast S1x128x128 (addf (shapeCast S128x128 (re3 g : FVec Ideal S1x128x128 .f32) shapeCasts_S1x128x128_S128x128) (re2 a : FVec Ideal S128x128 .f32))
      shapeCasts_S128x128_S1x128x128 : FVec Ideal (⟨3, ![1, 128, 128]⟩ : Shape) .f32) = re3 (fun _ p q => g 0 p q + a p q) := by
  refine ext3 fun k r c => ?_
  obtain rfl : k = 0 := Subsingleton.elim _ _
  generalize hA : (re3 g : FVec Ideal S1x128x128 .f32) = A
  generalize hB : (re2 a : FVec Ideal S128x128 .f32) = B
  pointwise []; subst hA hB
  rfl

/-- The mixed chunk at a row of the tile's chunk `ch`. -/
theorem mix_at (D : Dt) (t : ℕ) (ch : Fin 2) (hd : Fin 8) (p c : ℕ) (hp : p < 128) (hc : c < 128) :
    ∑ k : Fin 128, D.ws hd.val p k.val * D.vn (256 * t + (128 * ch.val + k.val)) (128 * hd.val + c) + D.bs hd.val p
      = D.mix (256 * t + (128 * ch.val + p)) (128 * hd.val + c) := by
  unfold Dt.mix
  rw [show (128 * hd.val + c) / 128 = hd.val from by omega, show (256 * t + (128 * ch.val + p)) % 128 = p from by omega]
  refine congrArg (· + _) (Finset.sum_congr rfl fun k _ => ?_)
  rw [show 256 * t + (128 * ch.val + p) - p + k.val = 256 * t + (128 * ch.val + k.val) from by omega]
theorem dvn_at (D : Dt) (t : ℕ) (ch : Fin 2) (hd : Fin 8) (p c : ℕ) (hp : p < 128) (hc : c < 128) :
    ∑ k : Fin 128, D.ws hd.val k.val p * D.dmx (256 * t + (128 * ch.val + k.val)) (128 * hd.val + c)
      = D.dvn (256 * t + (128 * ch.val + p)) (128 * hd.val + c) := by
  unfold Dt.dvn
  rw [show (128 * hd.val + c) / 128 = hd.val from by omega, show (256 * t + (128 * ch.val + p)) % 128 = p from by omega]
  refine Finset.sum_congr rfl fun k _ => ?_
  rw [show 256 * t + (128 * ch.val + p) - p + k.val = 256 * t + (128 * ch.val + k.val) from by omega]

theorem dp_up (D : Dt) (n h c : ℕ) (hh : h < 8) (hc : c < 128) :
    D.dy n (1024 + (128 * h + c)) * D.mix n (128 * h + c) * (D.gs n (128 * h + c) * sgR (D.gs n (128 * h + c))) = D.dp n (3072 + 128 * h + c) := by
  unfold Dt.dp
  rw [if_neg (by omega), if_neg (by omega), if_neg (by omega), if_pos (by omega), show 3072 + 128 * h + c - 3072 = 128 * h + c from by omega]
theorem dp_gs (D : Dt) (n h c : ℕ) (hh : h < 8) (hc : c < 128) :
    D.dy n (1024 + (128 * h + c)) * D.proj n (3072 + (128 * h + c)) * D.mix n (128 * h + c) * dslR (D.gs n (128 * h + c)) = D.dp n (5120 + 128 * h + c) := by
  unfold Dt.dp
  rw [if_neg (by omega), if_neg (by omega), if_neg (by omega), if_neg (by omega), if_neg (by omega), show 5120 + 128 * h + c - 5120 = 128 * h + c from by omega]
theorem dp_v (D : Dt) (n c : ℕ) (hc : c < 1024) : lnG D.slg (D.v n) (D.dvn n) c = D.dp n (4096 + c) := by
  unfold Dt.dp
  rw [if_neg (by omega), if_neg (by omega), if_neg (by omega), if_neg (by omega), if_pos (by omega), show 4096 + c - 4096 = c from by omega]

/-- The arrays a head writes. -/
def St.setHead {F : FTy → Type} [FloatOps F] (S : St F) (dp : S256x6144.Idx → Elt F .bf16) (dcv : S288x1024.Idx → Elt F .f32)
    (gws : S8x128x128.Idx → Elt F .f32) (gbs : S128x1024.Idx → Elt F .f32) : St F := (((S.setDp dp).setDcv dcv).setGws gws).setGbs gbs
theorem setHead_setHead {F : FTy → Type} [FloatOps F] (S : St F) (a b c d a' b' c' d') :
    (S.setHead a b c d).setHead a' b' c' d' = S.setHead a' b' c' d' := by cases S; rfl
theorem setHead_gws {F : FTy → Type} [FloatOps F] (S : St F) (a b c d) : (S.setHead a b c d).gws = c := by cases S; rfl
theorem setHead_gbs {F : FTy → Type} [FloatOps F] (S : St F) (a b c d) : (S.setHead a b c d).gbs = d := by cases S; rfl
theorem setHead_self {F : FTy → Type} [FloatOps F] (S : St F) : S.setHead S.dp S.dcv S.gws S.gbs = S := by cases S; rfl
theorem ins_setHead (D : Dt) (t : ℕ) (S : St Ideal) (a b c d) : Ins D t (S.setHead a b c d) = Ins D t S := by cases S; rfl

/-- One chunk of a head. -/
theorem chunk_reach (vn : FVec Ideal S256x1024 .bf16) (ch : Fin 2) (hd : Fin 8) (w wt : Vec Ideal S1x128x128 .f32) (b : Vec Ideal S128x1 .f32)
    (a : FVec Ideal S128x128 .f32 × FVec Ideal S128x128 .f32) (t : ℕ) (S : St Ideal) :
    Reach c M (chunk M vn ch hd w wt b a) S fun a' S' => ∃ dp dcv, S' = S.setHead dp dcv S.gws S.gbs ∧
      (Ins D t S → vn = re2 (fun r c => D.vn (256 * t + r) c) → w = re3 (fun _ p q => D.ws hd.val p q) → wt = re3 (fun _ p q => D.ws hd.val q p) →
        b = re2 (fun p _ => D.bs hd.val p) →
        (∀ R, Has2 S.dp R (fun r c => D.dp (256 * t + r) c) →
          Has2 dp (fun r c => (R r c ∨ (128 * ch.val ≤ r ∧ r < 128 * ch.val + 128 ∧ 3072 + 128 * hd.val ≤ c ∧ c < 3072 + 128 * hd.val + 128))
            ∨ (128 * ch.val ≤ r ∧ r < 128 * ch.val + 128 ∧ 5120 + 128 * hd.val ≤ c ∧ c < 5120 + 128 * hd.val + 128)) (fun r c => D.dp (256 * t + r) c)) ∧
        (∀ R, Has2 S.dcv R (fun r c => D.dvn (256 * t + (r - 16)) c) →
          Has2 dcv (fun r c => R r c ∨ (16 + 128 * ch.val ≤ r ∧ r < 16 + 128 * ch.val + 128 ∧ 128 * hd.val ≤ c ∧ c < 128 * hd.val + 128))
            (fun r c => D.dvn (256 * t + (r - 16)) c)) ∧
        (∀ A, a.1 = re2 A → a'.1 = re2 (fun p q => A p q + ∑ k : Fin 128, D.dmx (256 * t + (128 * ch.val + p)) (128 * hd.val + k.val)
          * D.vn (256 * t + (128 * ch.val + q)) (128 * hd.val + k.val))) ∧
        (∀ A, a.2 = re2 A → a'.2 = re2 (fun p c => A p c + D.dmx (256 * t + (128 * ch.val + p)) (128 * hd.val + c)))) := by
  unfold chunk
  refine Reach.bind (Reach.ld fld_pm (fun _ => rfl) fun u eu => ?_)
  refine Reach.bind (Reach.ld fld_pm (fun _ => rfl) fun gs egs => ?_)
  refine Reach.bind (Reach.ld fld_dym (fun _ => rfl) fun dy edy => ?_)
  refine Reach.bind (Reach.putDp fun dp0 edp0 => ?_)
  refine Reach.bind (Reach.putDp fun dp edp => ?_)
  refine Reach.bind (Reach.put fld_dcv (fun _ => rfl) fun dcv edcv => ?_)
  refine Reach.ret ⟨dp, dcv, by cases S; rfl, fun hI hvn hw hwt hb => ?_⟩
  obtain ⟨h1, h2, -⟩ := hI
  have hh := hd.isLt
  have hu : u = re2 (fun p c => D.proj (256 * t + (128 * ch.val + p)) (3072 + (128 * hd.val + c))) :=
    eu.trans ((blk_of h1 ..).trans (re2_congr fun r c _ _ => by rw [Nat.add_assoc 3072]))
  have hgs : gs = re2 (fun p c => D.gs (256 * t + (128 * ch.val + p)) (128 * hd.val + c)) :=
    egs.trans ((blk_of h1 ..).trans (re2_congr fun r c _ _ => by rw [Nat.add_assoc 5120]; rfl))
  have hdy : dy = re2 (fun p c => D.dy (256 * t + (128 * ch.val + p)) (1024 + (128 * hd.val + c))) :=
    edy.trans ((blk_of h2 ..).trans (re2_congr fun r c _ _ => by rw [Nat.add_assoc 1024]))
  have hvb : block vn ch hd = re2 (fun p c => D.vn (256 * t + (128 * ch.val + p)) (128 * hd.val + c)) := by rw [hvn]; exact block_re _ ch hd
  have hmx : mixed w b (block vn ch hd) = re2 (fun p c => D.mix (256 * t + (128 * ch.val + p)) (128 * hd.val + c)) := by
    rw [hw, hb, hvb]
    exact (mixed_re _ _ _).trans (re2_congr fun p c hp hc => mix_at D t ch hd p c hp hc)
  have hdm : dmix u gs dy = re2 (fun p c => D.dmx (256 * t + (128 * ch.val + p)) (128 * hd.val + c)) := by rw [hu, hgs, hdy]; exact dmix_re _ _ _
  have hdb : dmixB u gs dy = re2 (fun p c => D.dmx (256 * t + (128 * ch.val + p)) (128 * hd.val + c)) := by rw [hu, hgs, hdy]; exact dmixB_re _ _ _
  refine ⟨fun R hR => ?_, fun R hR => ?_, fun A hA => ?_, fun A hA => ?_⟩
  · have s0 := hR.put (128 * ch.val) (3072 + 128 * hd.val) edp0 _ (by rw [hmx, hdy, hgs]; exact gateU_re ..) fun r c hr hc =>
      dp_up D (256 * t + (128 * ch.val + r)) hd.val c hh hc
    exact s0.put (128 * ch.val) (5120 + 128 * hd.val) edp _ (by rw [hmx, hdy, hgs, hu]; exact gateS_re ..) fun r c hr hc =>
      dp_gs D (256 * t + (128 * ch.val + r)) hd.val c hh hc
  · exact hR.put (16 + 128 * ch.val) (128 * hd.val) edcv (fun p c => ∑ k : Fin 128, D.ws hd.val k.val p * D.dmx (256 * t + (128 * ch.val + k.val)) (128 * hd.val + c))
      (by rw [hdb, hwt]; exact (shapeCast_self _ _).trans ((congrArg (fun z : FVec Ideal S128x128 .bf16 => matmul (F := Ideal) (φ₁ := .bf16) (φ₂ := .bf16) dot_S128x128_S128x128_S128x128_1_0_0_1_n_n none z _ (constant S128x128 .f32 0x00000000#32)) (asB_re _)).trans (mm_re _ _)))
      fun r c hr hc => (dvn_at D t ch hd r c hr hc).trans (by rw [Nat.add_assoc 16, Nat.add_sub_cancel_left])
  · show addf a.1 _ = _
    rw [hA, hdb, hvb]
    exact (congrArg (fun z : M2 128 128 => (addf (re2 A : M2 128 128) z : M2 128 128)) (mmT_re _ _)).trans (addf_re ..)
  · show addf a.2 _ = _
    rw [hA, hdm]
    exact addf_re ..

abbrev gwsTile (D : Dt) (t h p q : ℕ) : ℝ :=
  ∑ k : Fin 128, D.dmx (256 * t + p) (128 * h + k.val) * D.vn (256 * t + q) (128 * h + k.val)
    + ∑ k : Fin 128, D.dmx (256 * t + 128 + p) (128 * h + k.val) * D.vn (256 * t + 128 + q) (128 * h + k.val)
abbrev gbsTile (D : Dt) (t p c : ℕ) : ℝ := D.dmx (256 * t + p) c + D.dmx (256 * t + 128 + p) c

set_option maxHeartbeats 1600000 in
/-- One head. -/
theorem head_reach (vn : FVec Ideal S256x1024 .bf16) (hd : Fin 8) (t : ℕ) (S : St Ideal) :
    Reach c M (head M vn hd) S fun _ S' => ∃ dp dcv gws gbs, S' = S.setHead dp dcv gws gbs ∧
      (Ins D t S → vn = re2 (fun r c => D.vn (256 * t + r) c) →
        (∀ R, Has2 S.dp R (fun r c => D.dp (256 * t + r) c) →
          Has2 dp (fun r c => R r c ∨ (3072 + 128 * hd.val ≤ c ∧ c < 3072 + 128 * hd.val + 128)
            ∨ (5120 + 128 * hd.val ≤ c ∧ c < 5120 + 128 * hd.val + 128)) (fun r c => D.dp (256 * t + r) c)) ∧
        (∀ R, Has2 S.dcv R (fun r c => D.dvn (256 * t + (r - 16)) c) →
          Has2 dcv (fun r c => R r c ∨ (16 ≤ r ∧ r < 272 ∧ 128 * hd.val ≤ c ∧ c < 128 * hd.val + 128)) (fun r c => D.dvn (256 * t + (r - 16)) c)) ∧
        (∀ A, S.gws = re3 A → gws = re3 (fun k p q => if k = hd.val then A k p q + gwsTile D t k p q else A k p q)) ∧
        (∀ A, S.gbs = re2 A → gbs = re2 (fun p c => if 128 * hd.val ≤ c ∧ c < 128 * hd.val + 128 then A p c + gbsTile D t p c else A p c))) := by
  unfold head
  refine Reach.bind (Reach.ld fld_ws (fun _ => rfl) fun w ew => ?_)
  refine Reach.bind (Reach.ld fld_wst (fun _ => rfl) fun wt ewt => ?_)
  refine Reach.bind (Reach.ld fld_bst (fun _ => rfl) fun b eb => ?_)
  refine Reach.bind ((chunk_reach (D := D) vn 0 hd w wt b _ t S).mono ?_)
  rintro a0 _ ⟨dp0, dcv0, rfl, h0⟩
  refine Reach.bind ((chunk_reach (D := D) vn 1 hd w wt b a0 t _).mono ?_)
  rintro a1 _ ⟨dp, dcv, rfl, h1⟩
  rw [setHead_setHead, setHead_gws, setHead_gbs]
  refine Reach.bind (Reach.ld fld_gws (fun _ => rfl) fun g eg => ?_)
  refine Reach.bind (Reach.put fld_gws (fun _ => rfl) fun gws egws => ?_)
  refine Reach.bind (Reach.ld fld_gbs (fun _ => rfl) fun s es => ?_)
  refine Reach.put fld_gbs (fun _ => rfl) fun gbs egbs => ?_
  refine ⟨dp, dcv, gws, gbs, by cases S; rfl, fun hI hvn => ?_⟩
  have hh := hd.isLt
  obtain ⟨-, -, -, -, -, -, -, -, -, -, -, -, -, -, iw, iwt, ib, -⟩ := id hI
  have hw : w = re3 (fun _ p q => D.ws hd.val p q) :=
    ew.trans ((blk_of3 iw ..).trans (re3_congr fun k p q hk _ _ => by rw [Nat.zero_add, Nat.zero_add, show hd.val + k = hd.val from by omega]))
  have hwt : wt = re3 (fun _ p q => D.ws hd.val q p) :=
    ewt.trans ((blk_of3 iwt ..).trans (re3_congr fun k p q hk _ _ => by rw [Nat.zero_add, Nat.zero_add, show hd.val + k = hd.val from by omega]))
  have hb : b = re2 (fun p _ => D.bs hd.val p) :=
    eb.trans ((blk_of ib ..).trans (re2_congr fun p c _ hc => by rw [Nat.zero_add, show hd.val + c = hd.val from by omega]))
  obtain ⟨u1, u2, u3, u4⟩ := h0 hI hvn hw hwt hb
  obtain ⟨v1, v2, v3, v4⟩ := h1 ((ins_setHead ..).mpr hI) hvn hw hwt hb
  refine ⟨fun R hR => (v1 _ (u1 R hR)).mono fun r c hr _ h => ?_, fun R hR => (v2 _ (u2 R hR)).mono fun r c hr _ h => ?_, fun A hA => ?_, fun A hA => ?_⟩
  · rcases h with h | h | h
    · exact .inl (.inl (.inl (.inl h)))
    · by_cases h' : r < 128
      · exact .inl (.inl (.inl (.inr ⟨by show 128 * 0 ≤ r; omega, by show r < 128 * 0 + 128; omega, h⟩)))
      · exact .inl (.inr ⟨by show 128 * 1 ≤ r; omega, by show r < 128 * 1 + 128; omega, h⟩)
    · by_cases h' : r < 128
      · exact .inl (.inl (.inr ⟨by show 128 * 0 ≤ r; omega, by show r < 128 * 0 + 128; omega, h⟩))
      · exact .inr ⟨by show 128 * 1 ≤ r; omega, by show r < 128 * 1 + 128; omega, h⟩
  · rcases h with h | ⟨h1, h2, h⟩
    · exact .inl (.inl h)
    · by_cases h' : r < 144
      · exact .inl (.inr ⟨by show 16 + 128 * 0 ≤ r; omega, by show r < 16 + 128 * 0 + 128; omega, h⟩)
      · exact .inr ⟨by show 16 + 128 * 1 ≤ r; omega, by show r < 16 + 128 * 1 + 128; omega, h⟩
  · have hg : g = re3 (fun k p q => A (hd.val + k) (0 + p) (0 + q)) := eg.trans (blk_of3 hA ..)
    refine (put_re3 hA hd.val egws _ (by rw [hg, v3 _ (u3 _ lit0_re)]; exact gwsAdd_re ..)).trans (re3_congr fun k p q _ _ _ => ?_)
    by_cases h : k = hd.val
    · rw [if_pos h, if_pos h]
      subst h
      show A (hd.val + 0) (0 + p) (0 + q) + (0 + ∑ k : Fin 128, D.dmx (256 * t + (128 * 0 + p)) (128 * hd.val + k.val) * D.vn (256 * t + (128 * 0 + q)) (128 * hd.val + k.val)
        + ∑ k : Fin 128, D.dmx (256 * t + (128 * 1 + p)) (128 * hd.val + k.val) * D.vn (256 * t + (128 * 1 + q)) (128 * hd.val + k.val)) = _
      simp only [gwsTile, Nat.zero_add, Nat.add_zero, Nat.mul_zero, Nat.mul_one, zero_add, Nat.add_assoc]
    · rw [if_neg h, if_neg h]
  · have hs : s = re2 (fun p c => A (0 + p) (128 * hd.val + c)) := es.trans (blk_of hA ..)
    refine (put_re2 hA 0 (128 * hd.val) egbs _ (by rw [hs, v4 _ (u4 _ lit0_re)]; exact (shapeCast_self _ _).trans (addf_re ..))).trans (re2_congr fun p c hp _ => ?_)
    by_cases h : 128 * hd.val ≤ c ∧ c < 128 * hd.val + 128
    · rw [if_pos (by omega), if_pos h]
      show A (0 + (p - 0)) (128 * hd.val + (c - 128 * hd.val)) + (0 + D.dmx (256 * t + (128 * 0 + (p - 0))) (128 * hd.val + (c - 128 * hd.val))
        + D.dmx (256 * t + (128 * 1 + (p - 0))) (128 * hd.val + (c - 128 * hd.val))) = _
      simp only [gbsTile, Nat.zero_add, Nat.sub_zero, Nat.mul_zero, Nat.mul_one, zero_add, Nat.add_assoc, Nat.add_sub_cancel' h.1]
    · rw [if_neg (by omega), if_neg h]

set_option maxHeartbeats 1600000 in
/-- The first `n` heads. -/
theorem heads_reach (vn : FVec Ideal S256x1024 .bf16) (t : ℕ) (S : St Ideal) : ∀ (n : ℕ) (h : n ≤ 8),
    Reach c M (heads M vn n h) S fun _ S' => ∃ dp dcv gws gbs, S' = S.setHead dp dcv gws gbs ∧
      (Ins D t S → vn = re2 (fun r c => D.vn (256 * t + r) c) →
        (∀ R, Has2 S.dp R (fun r c => D.dp (256 * t + r) c) →
          Has2 dp (fun r c => R r c ∨ (3072 ≤ c ∧ c < 3072 + 128 * n) ∨ (5120 ≤ c ∧ c < 5120 + 128 * n)) (fun r c => D.dp (256 * t + r) c)) ∧
        Has2 dcv (fun r c => 16 ≤ r ∧ r < 272 ∧ c < 128 * n) (fun r c => D.dvn (256 * t + (r - 16)) c) ∧
        (∀ A, S.gws = re3 A → gws = re3 (fun k p q => if k < n then A k p q + gwsTile D t k p q else A k p q)) ∧
        (∀ A, S.gbs = re2 A → gbs = re2 (fun p c => if c < 128 * n then A p c + gbsTile D t p c else A p c)))
  | 0, _ => Reach.ret ⟨S.dp, S.dcv, S.gws, S.gbs, (setHead_self S).symm, fun _ _ => ⟨fun R hR => hR.mono fun r c _ _ h => by
      rcases h with h | h | h
      · exact h
      · omega
      · omega, fun r c h => absurd h.2.2 (by omega), fun A hA => hA.trans (re3_congr fun k p q _ _ _ => (if_neg (by omega)).symm),
      fun A hA => hA.trans (re2_congr fun r c _ _ => (if_neg (by omega)).symm)⟩⟩
  | n + 1, h => by
    refine Reach.bind ((heads_reach vn t S n (by omega)).mono ?_)
    rintro - _ ⟨dp, dcv, gws, gbs, rfl, hS⟩
    refine (head_reach (D := D) vn ⟨n, by omega⟩ t _).mono ?_
    rintro - _ ⟨dp', dcv', gws', gbs', rfl, hS'⟩
    refine ⟨dp', dcv', gws', gbs', setHead_setHead .., fun hI hvn => ?_⟩
    obtain ⟨a1, a2, a3, a4⟩ := hS hI hvn
    obtain ⟨b1, b2, b3, b4⟩ := hS' ((ins_setHead ..).mpr hI) hvn
    refine ⟨fun R hR => (b1 _ (a1 R hR)).mono fun r c hr _ h => ?_, (b2 _ a2).mono fun r c hr _ h => ?_,
      fun A hA => (b3 _ (a3 A hA)).trans (re3_congr fun k p q _ _ _ => ?_), fun A hA => (b4 _ (a4 A hA)).trans (re2_congr fun r c _ _ => ?_)⟩
    · show (R r c ∨ (3072 ≤ c ∧ c < 3072 + 128 * n) ∨ (5120 ≤ c ∧ c < 5120 + 128 * n)) ∨ (3072 + 128 * n ≤ c ∧ c < 3072 + 128 * n + 128)
        ∨ (5120 + 128 * n ≤ c ∧ c < 5120 + 128 * n + 128)
      rcases h with h | h | h
      · exact .inl (.inl h)
      · omega
      · omega
    · show (16 ≤ r ∧ r < 272 ∧ c < 128 * n) ∨ (16 ≤ r ∧ r < 272 ∧ 128 * n ≤ c ∧ c < 128 * n + 128)
      omega
    · show (if k = n then (if k < n then A k p q + gwsTile D t k p q else A k p q) + gwsTile D t k p q
        else if k < n then A k p q + gwsTile D t k p q else A k p q) = _
      by_cases h1 : k < n
      · rw [if_neg (by omega), if_pos h1, if_pos (by omega)]
      · rw [if_neg h1]
        by_cases h2 : k = n
        · rw [if_pos h2, if_pos (by omega)]
        · rw [if_neg h2, if_neg (by omega)]
    · show (if 128 * n ≤ c ∧ c < 128 * n + 128 then (if c < 128 * n then A r c + gbsTile D t r c else A r c) + gbsTile D t r c
        else if c < 128 * n then A r c + gbsTile D t r c else A r c) = _
      by_cases h1 : c < 128 * n
      · rw [if_neg (by omega), if_pos h1, if_pos (by omega)]
      · rw [if_neg h1]
        by_cases h2 : c < 128 * n + 128
        · rw [if_pos (by omega), if_pos (by omega)]
        · rw [if_neg (by omega), if_neg (by omega)]

theorem acc_gate (D : Dt) (t r c : ℕ) (A : ℕ → ℕ → ℝ) (hr : r < 40) :
    (if r / 8 = 4 then (if r / 8 = 3 then A r c + ∑ i : Fin 32, D.dvn (256 * t + (8 * i.val + r % 8)) c * nhR (D.v (256 * t + (8 * i.val + r % 8))) c else A r c)
        + ∑ i : Fin 32, D.dvn (256 * t + (8 * i.val + r % 8)) c
      else if r / 8 = 3 then A r c + ∑ i : Fin 32, D.dvn (256 * t + (8 * i.val + r % 8)) c * nhR (D.v (256 * t + (8 * i.val + r % 8))) c else A r c)
    = if 24 ≤ r then A r c + ∑ k : Fin 32, D.q (r / 8) (256 * t + (8 * k.val + r % 8)) c else A r c := by
  by_cases h4 : r / 8 = 4
  · rw [if_pos h4, if_neg (by omega), if_pos (by omega), h4]; rfl
  · rw [if_neg h4]
    by_cases h3 : r / 8 = 3
    · rw [if_pos h3, if_pos (by omega), h3]; rfl
    · rw [if_neg h3, if_neg (by omega)]

set_option maxHeartbeats 1600000 in
/-- The spatial gate of a tile. -/
theorem gate_reach (t : ℕ) (S : St Ideal) :
    Reach c M (gate M) S fun _ S' => ∃ dp dcv gws gbs acc, S' = (S.setHead dp dcv gws gbs).setAcc acc ∧
      (Ins D t S →
        (∀ R, Has2 S.dp R (fun r c => D.dp (256 * t + r) c) →
          Has2 dp (fun r c => R r c ∨ 3072 ≤ c) (fun r c => D.dp (256 * t + r) c)) ∧
        (∀ A, S.gws = re3 A → gws = re3 (fun k p q => A k p q + gwsTile D t k p q)) ∧
        (∀ A, S.gbs = re2 A → gbs = re2 (fun p c => A p c + gbsTile D t p c)) ∧
        (∀ A, S.acc = re2 A → acc = re2 (fun r c => if 24 ≤ r then A r c + ∑ k : Fin 32, D.q (r / 8) (256 * t + (8 * k.val + r % 8)) c else A r c))) := by
  unfold gate
  refine Reach.bind (Reach.ld fld_pm (fun _ => rfl) fun x ex => ?_)
  refine Reach.bind (Reach.ld fld_slg (fun _ => rfl) fun g eg => ?_)
  refine Reach.bind (Reach.ld fld_slb (fun _ => rfl) fun b eb => ?_)
  refine Reach.bind ((heads_reach (D := D) _ t S 8 (Nat.le_refl _)).mono ?_)
  rintro - _ ⟨dp0, dcv, gws, gbs, rfl, hS⟩
  refine Reach.bind (Reach.ld fld_dcv (fun _ => rfl) fun d ed => ?_)
  refine Reach.bind (Reach.ld fld_acc (fun _ => rfl) fun a3 ea3 => ?_)
  refine Reach.bind (Reach.put fld_acc (fun _ => rfl) fun acc0 eacc0 => ?_)
  refine Reach.bind (Reach.ld fld_acc (fun _ => rfl) fun a4 ea4 => ?_)
  refine Reach.bind (Reach.put fld_acc (fun _ => rfl) fun acc eacc => ?_)
  refine Reach.putDp fun dp edp => ?_
  refine ⟨dp, dcv, gws, gbs, acc, by cases S; rfl, fun hI => ?_⟩
  obtain ⟨i1, -, -, -, -, -, -, -, -, -, -, -, i13, i14, -⟩ := id hI
  have hx : x = re2 (fun r c => D.v (256 * t + r) c) := ex.trans ((blk_of i1 ..).trans (re2_congr fun r c _ _ => by rw [Nat.zero_add]; rfl))
  have hg : g = re2 (fun _ c => D.slg c) := eg.trans ((blk_of i13 ..).trans (re2_congr fun r c _ _ => by rw [Nat.zero_add]))
  have hb : b = re2 (fun _ c => D.slb c) := eb.trans ((blk_of i14 ..).trans (re2_congr fun r c _ _ => by rw [Nat.zero_add]))
  obtain ⟨s1, s2, s3, s4⟩ := hS hI (by rw [hx, hg, hb]; exact lin256_re _ _ _)
  have hd : d = re2 (fun r c => D.dvn (256 * t + r) c) := by
    refine ed.trans (ext2 fun r c => ?_)
    have hr := r.isLt; have hc := c.isLt
    have e : (Rect.unit (s := S288x1024) ![16, 0] S256x1024.size inb_S288x1024_S256x1024_16_0).emb (ix2 r c) = ix2 (⟨16 + r.val, by omega⟩ : Fin 288) c := by
      funext a; apply Fin.ext; fin_cases a
      · show 16 + 1 * r.val = 16 + r.val; omega
      · show 0 + 1 * c.val = c.val; omega
    refine (congrArg dcv e).trans ((s2 ⟨16 + r.val, by omega⟩ c ⟨by show 16 ≤ 16 + r.val; omega, by show 16 + r.val < 272; omega, by omega⟩).trans ?_)
    show ((D.dvn (256 * t + (16 + r.val - 16)) c.val : ℝ) : EReal) = _
    rw [Nat.add_sub_cancel_left]
  refine ⟨fun R hR => ?_, fun A hA => (s3 A hA).trans (re3_congr fun k p q hk _ _ => if_pos hk), fun A hA => (s4 A hA).trans (re2_congr fun p c _ hc => if_pos hc), fun A hA => ?_⟩
  · refine ((s1 R hR).put 0 4096 edp _ (by rw [hg, hx, hd]; exact dv256_re _ _ _) fun r c _ hc => ?_).mono fun r c hr hc h => ?_
    · rw [Nat.zero_add]; exact dp_v D _ c hc
    · show (R r c ∨ (3072 ≤ c ∧ c < 3072 + 128 * 8) ∨ (5120 ≤ c ∧ c < 5120 + 128 * 8)) ∨ (0 ≤ r ∧ r < 0 + 256 ∧ 4096 ≤ c ∧ c < 4096 + 1024)
      rcases h with h | h
      · exact .inl (.inl h)
      · omega
  · have hn : nrm256 (F := Ideal) x = re2 (fun r c => nhR (D.v (256 * t + r)) c) := by rw [hx]; exact nrm256_re _
    rw [show a3 = _ from ea3.trans (blk_of hA ..), hn, hd, mulf_re, fold256_re] at eacc0
    have e0' := eacc0.trans (acc_add hA 3 _ (fun r c => ∑ i : Fin 32, D.dvn (256 * t + (8 * i.val + r)) c * nhR (D.v (256 * t + (8 * i.val + r))) c))
    rw [show a4 = _ from ea4.trans (blk_of e0' ..), hd, fold256_re] at eacc
    refine (eacc.trans (acc_add e0' 4 _ (fun r c => ∑ i : Fin 32, D.dvn (256 * t + (8 * i.val + r)) c))).trans (re2_congr fun r c hr _ => ?_)
    exact acc_gate D t r c A hr

end Cert.Mix

end
-- ==== Proof.MixTile.lean ====
/- The whole body at a grid point: what it writes, from what the windows and the running sums hold. -/
module

public import proofs.«01_k».proof.Proof.MixLane
public import proofs.«01_k».proof.Proof.MixGate

@[expose] public section

set_option maxRecDepth 65536

noncomputable section

namespace Cert.Mix

open Idealize.ShloMosaic Idealize.SL Idealize.SL.Sem Cert.MixKernelIdeal Cert.MixKernelIdeal.Gen Cert.RealLib

variable {c : Dev nD} {M : Mems} {D : Dt}

/-- The arrays the body writes. -/
def St.setAll {F : FTy → Type} [FloatOps F] (S : St F) (dp : S256x6144.Idx → Elt F .bf16) (small : S40x1024.Idx → Elt F .f32) (gws : S8x128x128.Idx → Elt F .f32)
    (sh : S8x288x128.Idx → Elt F .f32) (glu dgl : S256x128.Idx → Elt F .f32) (dcv : S288x1024.Idx → Elt F .f32)
    (acc : S40x1024.Idx → Elt F .f32) (gcw : S248x1024.Idx → Elt F .f32) (gbs : S128x1024.Idx → Elt F .f32) : St F :=
  { S with dp := dp, small := small, gws := gws, sh := sh, glu := glu, dgl := dgl, dcv := dcv, acc := acc, gcw := gcw, gbs := gbs }
theorem ins_setAll (D : Dt) (t : ℕ) (S : St Ideal) (a b c d e f g h i j) : Ins D t (S.setAll a b c d e f g h i j) = Ins D t S := by cases S; rfl

/-! ### The first grid point -/

/-- The running sums at the start of tile `t`. -/
def Sums (D : Dt) (t : ℕ) (S : St Ideal) : Prop :=
  S.acc = re2 (D.accT t) ∧ S.gcw = re2 (D.gcwT t) ∧ S.gbs = re2 (D.gbsT t) ∧ S.gws = re3 (D.gwsT t)

theorem upd_whole2 {N K : ℕ} (X w : (⟨2, ![N, K]⟩ : Shape).Idx → EReal) (inb) (f : ℕ → ℕ → ℝ) (hw : w = re2 f) :
    upd X (Rect.unit (s := ⟨2, ![N, K]⟩) ![0, 0] (⟨2, ![N, K]⟩ : Shape).size inb) w = re2 f :=
  ((Has2.none X f).put 0 0 (inb := inb) rfl f hw fun r c _ _ => by rw [Nat.zero_add, Nat.zero_add]).all fun r c hr hc => by omega

theorem start_reach (S : St Ideal) :
    Reach c M (start M) S fun _ S' => ∃ acc gcw gbs gws, S' = S.setAll S.dp S.small gws S.sh S.glu S.dgl S.dcv acc gcw gbs ∧ Sums D 0 S' := by
  unfold start
  refine Reach.bind (Reach.put fld_acc (fun _ => rfl) fun acc e1 => ?_)
  refine Reach.bind (Reach.put fld_gcw (fun _ => rfl) fun gcw e2 => ?_)
  refine Reach.bind (Reach.put fld_gbs (fun _ => rfl) fun gbs e3 => ?_)
  refine Reach.bind (Reach.put fld_gws (fun _ => rfl) fun gws e4 => ?_)
  refine Reach.ret ⟨acc, gcw, gbs, gws, by cases S; rfl, ?_, ?_, ?_, ?_⟩
  · exact e1.trans (upd_whole2 _ _ _ _ ((shapeCast_self _ _).trans lit0_re))
  · exact e2.trans (upd_whole2 _ _ _ _ ((shapeCast_self _ _).trans lit0_re))
  · exact e3.trans (upd_whole2 _ _ _ _ ((shapeCast_self _ _).trans lit0_re))
  · refine e4.trans (ext3 fun k p q => ?_)
    show upd _ _ _ _ = _
    have e : (Rect.unit (s := S8x128x128) ![0, 0, 0] S8x128x128.size inb_S8x128x128_S8x128x128_0_0_0).emb (ix3 k p q) = ix3 k p q := by
      funext a; apply Fin.ext; fin_cases a
      · show 0 + 1 * k.val = k.val; omega
      · show 0 + 1 * p.val = p.val; omega
      · show 0 + 1 * q.val = q.val; omega
    exact (congrArg _ e.symm).trans ((upd_emb _ (Rect.unit (s := S8x128x128) ![0, 0, 0] S8x128x128.size inb_S8x128x128_S8x128x128_0_0_0) _ _).trans lit_zero)

/-! ### The last grid point -/

theorem accRows_reach (S : St Ideal) : ∀ (n : ℕ) (h : n ≤ 5),
    Reach c M (accRows M n h) S fun _ S' => ∃ sm, S' = S.setSmall sm ∧
      (S.acc = re2 (D.accT 32) → ∀ R, HasE S.small R D.small → HasE sm (fun r c => R r c ∨ (1 ≤ r ∧ r < 1 + n)) D.small)
  | 0, _ => Reach.ret ⟨S.small, by cases S; rfl, fun _ R hR => hR.mono fun r c _ _ h => h.resolve_right (by omega)⟩
  | n + 1, h => by
    refine Reach.bind ((accRows_reach S n (by omega)).mono ?_)
    rintro - _ ⟨sm, rfl, hs⟩
    refine Reach.bind (Reach.ld fld_acc (fun _ => rfl) fun v ev => ?_)
    refine Reach.put fld_small (fun _ => rfl) fun X eX => ⟨X, rfl, fun hA R hR => ?_⟩
    refine ((hs hA R hR).put (n + 1) 0 eX _ (by rw [show v = _ from ev.trans (blk_of hA ..)]; exact (colsum_re _).trans (ex2_re _).symm) fun r c hr hc => ?_).mono fun r c hr hc h => ?_
    · obtain rfl : r = 0 := by omega
      unfold Dt.small
      rw [if_neg (by omega), if_pos (by omega)]
      simp only [Nat.zero_add, Nat.add_zero, Nat.add_sub_cancel]
    · show (R r c ∨ (1 ≤ r ∧ r < 1 + n)) ∨ (n + 1 ≤ r ∧ r < n + 1 + 1 ∧ 0 ≤ c ∧ c < 0 + 1024)
      rcases h with h | h
      · exact .inl (.inl h)
      · omega

theorem biasRow_reach (S : St Ideal) : ∀ (n : ℕ) (h : n ≤ 8),
    Reach c M (biasRow M n h) S fun _ S' => ∃ sm, S' = S.setSmall sm ∧
      (S.gbs = re2 (D.gbsT 32) → ∀ R, HasE S.small R D.small → HasE sm (fun r c => R r c ∨ (r = 6 ∧ c < 128 * n)) D.small)
  | 0, _ => Reach.ret ⟨S.small, by cases S; rfl, fun _ R hR => hR.mono fun r c _ _ h => h.resolve_right (by omega)⟩
  | n + 1, h => by
    refine Reach.bind ((biasRow_reach S n (by omega)).mono ?_)
    rintro - _ ⟨sm, rfl, hs⟩
    refine Reach.bind (Reach.ld fld_gbs (fun _ => rfl) fun v ev => ?_)
    refine Reach.put fld_small (fun _ => rfl) fun X eX => ⟨X, rfl, fun hA R hR => ?_⟩
    refine ((hs hA R hR).put 6 (128 * n) eX _ (by rw [show v = _ from ev.trans (blk_of hA ..)]; exact (rowsum_re _).trans (ex2_re _).symm) fun r c hr hc => ?_).mono fun r c hr hc h => ?_
    · obtain rfl : r = 0 := by omega
      unfold Dt.small
      rw [if_neg (by omega), if_neg (by omega), if_pos (by omega), show (128 * n + c) % 128 = c from by omega, show (128 * n + c) / 128 = n from by omega]
      simp only [Nat.zero_add]
    · show (R r c ∨ (r = 6 ∧ c < 128 * n)) ∨ (6 ≤ r ∧ r < 6 + 1 ∧ 128 * n ≤ c ∧ c < 128 * n + 128)
      rcases h with h | h
      · exact .inl (.inl h)
      · omega

theorem tapRows_reach (S : St Ideal) : ∀ (n : ℕ) (h : n ≤ 31),
    Reach c M (tapRows M n h) S fun _ S' => ∃ sm, S' = S.setSmall sm ∧
      (S.gcw = re2 (D.gcwT 32) → ∀ R, HasE S.small R D.small → HasE sm (fun r c => R r c ∨ (8 ≤ r ∧ r < 8 + n)) D.small)
  | 0, _ => Reach.ret ⟨S.small, by cases S; rfl, fun _ R hR => hR.mono fun r c _ _ h => h.resolve_right (by omega)⟩
  | n + 1, h => by
    refine Reach.bind ((tapRows_reach S n (by omega)).mono ?_)
    rintro - _ ⟨sm, rfl, hs⟩
    refine Reach.bind (Reach.ld fld_gcw (fun _ => rfl) fun v ev => ?_)
    refine Reach.put fld_small (fun _ => rfl) fun X eX => ⟨X, rfl, fun hA R hR => ?_⟩
    refine ((hs hA R hR).put (8 + n) 0 eX _ (by rw [show v = _ from ev.trans (blk_of hA ..)]; exact (colsum_re _).trans (ex2_re _).symm) fun r c hr hc => ?_).mono fun r c hr hc h => ?_
    · obtain rfl : r = 0 := by omega
      unfold Dt.small
      rw [if_neg (by omega), if_neg (by omega), if_neg (by omega), if_neg (by omega), if_pos (by omega), show 38 - (8 + n + 0) = 30 - n from by omega]
    · show (R r c ∨ (8 ≤ r ∧ r < 8 + n)) ∨ (8 + n ≤ r ∧ r < 8 + n + 1 ∧ 0 ≤ c ∧ c < 0 + 1024)
      rcases h with h | h
      · exact .inl (.inl h)
      · omega

set_option maxHeartbeats 1600000 in
theorem finish_reach (t : ℕ) (S : St Ideal) :
    Reach c M (finish M) S fun _ S' => ∃ sm, S' = S.setSmall sm ∧ (Ins D t S → Sums D 32 S → sm = ex2 D.small) := by
  unfold finish
  refine Reach.bind (Reach.put fld_small (fun _ => rfl) fun s0 e0 => ?_)
  refine Reach.bind ((accRows_reach (D := D) _ 5 (Nat.le_refl _)).mono ?_)
  rintro - _ ⟨s1, rfl, h1⟩
  refine Reach.bind ((biasRow_reach (D := D) _ 8 (Nat.le_refl _)).mono ?_)
  rintro - _ ⟨s2, rfl, h2⟩
  refine Reach.bind (Reach.ld fld_gf (fun _ => rfl) fun v3 ev3 => ?_)
  refine Reach.bind (Reach.put fld_small (fun _ => rfl) fun s3 e3 => ?_)
  refine Reach.bind (Reach.ld fld_se (fun _ => rfl) fun v4 ev4 => ?_)
  refine Reach.bind (Reach.put fld_small (fun _ => rfl) fun s4 e4 => ?_)
  refine (tapRows_reach (D := D) _ 31 (Nat.le_refl _)).mono ?_
  rintro - _ ⟨s5, rfl, h5⟩
  refine ⟨s5, by cases S; rfl, fun hI hS => ?_⟩
  obtain ⟨-, -, -, -, -, -, -, -, -, -, -, -, -, -, -, -, -, i18, i19⟩ := hI
  obtain ⟨a1, a2, a3, -⟩ := hS
  have hv3 : v3 = ex2 (fun r c => D.gf (0 + r) (0 + c)) := ev3.trans (blk_ex2 i18 ..)
  have hv4 : v4 = ex2 (fun r c => D.se (0 + r) (0 + c)) := ev4.trans (blk_ex2 i19 ..)
  have b0 : HasE s0 (fun r _ => r = 39) D.small := fun r c hr => by
    have z : s0 = re2 (fun _ _ => 0) := e0.trans (upd_whole2 _ _ _ _ lit0_re)
    rw [z, re2_ix, hr]
    unfold Dt.small
    rw [if_neg (by omega), if_neg (by omega), if_neg (by omega), if_neg (by omega), if_neg (by omega)]
    rfl
  have b2 := h2 a3 _ (h1 a1 _ b0)
  have b3 := b2.put 7 0 e3 _ hv3 fun r c hr hc => by
    obtain rfl : r = 0 := by omega
    unfold Dt.small
    rw [if_neg (by omega), if_neg (by omega), if_neg (by omega), if_pos (by omega)]
  have b4 := b3.put 0 0 e4 _ (by rw [hv4]; exact colsum_ex _) fun r c hr hc => by
    obtain rfl : r = 0 := by omega
    unfold Dt.small
    rw [if_pos (by omega)]
    simp only [Nat.zero_add]
  exact (h5 a2 _ b4).all fun r c hr hc => by
    show ((((r = 39 ∨ (1 ≤ r ∧ r < 1 + 5)) ∨ (r = 6 ∧ c < 128 * 8)) ∨ (7 ≤ r ∧ r < 7 + 1 ∧ 0 ≤ c ∧ c < 0 + 1024))
      ∨ (0 ≤ r ∧ r < 0 + 1 ∧ 0 ≤ c ∧ c < 0 + 1024)) ∨ (8 ≤ r ∧ r < 8 + 31)
    omega

/-! ### The body -/

theorem accT_step (D : Dt) (t r c : ℕ) (x : ℝ) (hr : r < 40) (hx : x = D.accT t r c) :
    (if 24 ≤ r then
        (if r < 24 then (if r < 24 then x + ∑ k : Fin 16, D.q (r / 8) (256 * t + 0 + (8 * k.val + r % 8)) c else x)
          + ∑ k : Fin 16, D.q (r / 8) (256 * t + 128 + (8 * k.val + r % 8)) c
        else if r < 24 then x + ∑ k : Fin 16, D.q (r / 8) (256 * t + 0 + (8 * k.val + r % 8)) c else x)
          + ∑ k : Fin 32, D.q (r / 8) (256 * t + (8 * k.val + r % 8)) c
      else
        if r < 24 then (if r < 24 then x + ∑ k : Fin 16, D.q (r / 8) (256 * t + 0 + (8 * k.val + r % 8)) c else x)
          + ∑ k : Fin 16, D.q (r / 8) (256 * t + 128 + (8 * k.val + r % 8)) c
        else if r < 24 then x + ∑ k : Fin 16, D.q (r / 8) (256 * t + 0 + (8 * k.val + r % 8)) c else x)
      = D.accT (t + 1) r c := by
  have e : D.accT (t + 1) r c = x + ∑ k : Fin 32, D.q (r / 8) (256 * t + (8 * k.val + r % 8)) c := by
    rw [hx]; unfold Dt.accT
    rw [Finset.sum_range_succ]
    simp only [Nat.add_assoc]
  rw [e]
  by_cases h : 24 ≤ r
  · rw [if_pos h, if_neg (by omega), if_neg (by omega)]
  · rw [if_neg h, if_pos (by omega), if_pos (by omega)]
    rw [show (∑ k : Fin 32, D.q (r / 8) (256 * t + (8 * k.val + r % 8)) c) = _ from Fin.sum_univ_add (a := 16) (b := 16) (fun k : Fin 32 => D.q (r / 8) (256 * t + (8 * k.val + r % 8)) c)]
    rw [← add_assoc]
    refine congrArg₂ _ rfl (Finset.sum_congr rfl fun k _ => ?_)
    show _ = D.q (r / 8) (256 * t + (8 * (16 + k.val) + r % 8)) c
    rw [show 256 * t + (8 * (16 + k.val) + r % 8) = 256 * t + 128 + (8 * k.val + r % 8) from by omega]

/-- The body after its first lines. -/
def rest {F : FTy → Type} [FloatOps F] (M : Mems) (i : grid0.Coords) : Pg F PUnit :=
  ld M.clg ![0, 0] S1x1024.size inb_S1x1024_S1x1024_0_0 h_S1x1024 >>= fun g =>
  half0 M i g >>= fun _ => half1 M i g >>= fun _ => lanes M 8 (Nat.le_refl _) >>= fun _ => gate M >>= fun _ =>
  if h : k0_cond2 i = 1#1 then finish M >>= fun _ => pure ⟨⟩ else pure ⟨⟩
theorem body_rest {F : FTy → Type} [FloatOps F] (M : Mems) (i : grid0.Coords) :
    body (F := F) M i = if h : first i = 1#1 then start M >>= fun _ => rest M i else rest M i := rfl

theorem first_iff (i : grid0.Coords) : first i = 1#1 ↔ (i 0).val = 0 :=
  (by decide : ∀ n : Fin 32, (Scalar.cmpi .ne (Scalar.extui (Scalar.cmpi .eq (BitVec.ofNat 32 n.val) 0#32) : BitVec 32) 0#32 = 1#1 ↔ n.val = 0)) (i 0)
theorem last_iff (i : grid0.Coords) : k0_cond2 i = 1#1 ↔ (i 0).val = 31 :=
  (by decide : ∀ n : Fin 32, (Scalar.cmpi .ne (Scalar.extui (Scalar.cmpi .eq (BitVec.ofNat 32 n.val) 31#32) : BitVec 32) 0#32 = 1#1 ↔ n.val = 31)) (i 0)

set_option maxHeartbeats 3200000 in
theorem rest_reach (i : grid0.Coords) (S : St Ideal) :
    Reach c M (rest M i) S fun _ S' => ∃ dp small gws sh glu dgl dcv acc gcw gbs, S' = S.setAll dp small gws sh glu dgl dcv acc gcw gbs ∧
      (Ins D (i 0).val S → Sums D (i 0).val S → Sums D ((i 0).val + 1) S' ∧ dp = re2 (fun r c => D.dp (256 * (i 0).val + r) c) ∧
        ((i 0).val = 31 → small = ex2 D.small)) := by
  unfold rest
  refine Reach.bind (Reach.ld fld_clg (fun _ => rfl) fun g eg => ?_)
  refine Reach.bind ((half0_reach (D := D) i g S).mono ?_)
  rintro - _ ⟨dp0, dcv0, acc0, rfl, H0⟩
  rw [show ((S.setDp dp0).setDcv dcv0).setAcc acc0 = S.setAll dp0 S.small S.gws S.sh S.glu S.dgl dcv0 acc0 S.gcw S.gbs from by cases S; rfl]
  refine Reach.bind ((half1_reach (D := D) i g _).mono ?_)
  rintro - _ ⟨dp1, dcv1, acc1, rfl, H1⟩
  rw [show (((S.setAll dp0 S.small S.gws S.sh S.glu S.dgl dcv0 acc0 S.gcw S.gbs).setDp dp1).setDcv dcv1).setAcc acc1
    = S.setAll dp1 S.small S.gws S.sh S.glu S.dgl dcv1 acc1 S.gcw S.gbs from by cases S; rfl]
  refine Reach.bind ((lanes_reach (D := D) (i 0).val _ 8 (Nat.le_refl _)).mono ?_)
  rintro - _ ⟨dp2, gcw, sh, glu, dgl, rfl, H2⟩
  rw [show (S.setAll dp1 S.small S.gws S.sh S.glu S.dgl dcv1 acc1 S.gcw S.gbs).setLane glu sh dgl gcw dp2
    = S.setAll dp2 S.small S.gws sh glu dgl dcv1 acc1 gcw S.gbs from by cases S; rfl]
  refine Reach.bind ((gate_reach (D := D) (i 0).val _).mono ?_)
  rintro - _ ⟨dp3, dcv3, gws, gbs, acc2, rfl, H3⟩
  rw [show ((S.setAll dp2 S.small S.gws sh glu dgl dcv1 acc1 gcw S.gbs).setHead dp3 dcv3 gws gbs).setAcc acc2
    = S.setAll dp3 S.small gws sh glu dgl dcv3 acc2 gcw gbs from by cases S; rfl]
  have key : Ins D (i 0).val S → Sums D (i 0).val S →
      Sums D ((i 0).val + 1) (S.setAll dp3 S.small gws sh glu dgl dcv3 acc2 gcw gbs) ∧ dp3 = re2 (fun r c => D.dp (256 * (i 0).val + r) c) := by
    intro hI hS
    obtain ⟨s1, s2, s3, s4⟩ := hS
    have hg : g = re2 (fun _ c => D.clg c) := by
      obtain ⟨-, -, -, -, -, -, -, -, -, -, i11, -⟩ := hI
      exact eg.trans ((blk_of i11 ..).trans (re2_congr fun r c _ _ => by rw [Nat.zero_add]))
    obtain ⟨a1, a2, a3⟩ := H0 hg hI
    obtain ⟨b1, b2, b3⟩ := H1 hg ((ins_setAll ..).mpr hI)
    have hdcv : dcv1 = re2 (fun r c => D.dcvP (256 * (i 0).val + r) c) := (b2 _ a2).all fun r c hr hc => by omega
    obtain ⟨l1, l2⟩ := H2 ((ins_setAll ..).mpr hI) hdcv
    obtain ⟨g1, g2, g3, g4⟩ := H3 ((ins_setAll ..).mpr hI)
    refine ⟨⟨?_, ?_, ?_, ?_⟩, ?_⟩
    · exact (g4 _ (b3 _ (a3 _ s1))).trans (re2_congr fun r c hr hc => accT_step D (i 0).val r c _ hr rfl)
    · exact (l2 _ s2).trans (re2_congr fun r c hr hc => by
        rw [if_pos (by omega)]; unfold Dt.gcwT; rw [Finset.sum_range_succ])
    · exact (g3 _ s3).trans (re2_congr fun r c hr hc => by unfold Dt.gbsT; rw [Finset.sum_range_succ])
    · exact (g2 _ s4).trans (re3_congr fun k p q _ _ _ => by unfold Dt.gwsT; rw [Finset.sum_range_succ])
    · exact (g1 _ (l1 _ (b1 _ (a1 _ (Has2.none _ _))))).all fun r c hr hc => by
        show (((False ∨ (0 ≤ r ∧ r < 0 + 128 ∧ 2048 ≤ c ∧ c < 2048 + 1024)) ∨ (128 ≤ r ∧ r < 128 + 128 ∧ 2048 ≤ c ∧ c < 2048 + 1024))
          ∨ c < 128 * 8 ∨ (1024 ≤ c ∧ c < 1024 + 128 * 8)) ∨ 3072 ≤ c
        omega
  by_cases h31 : k0_cond2 i = 1#1
  · rw [dif_pos h31]
    refine Reach.bind ((finish_reach (D := D) (i 0).val _).mono ?_)
    rintro - _ ⟨sm, rfl, H4⟩
    refine Reach.ret ⟨dp3, sm, gws, sh, glu, dgl, dcv3, acc2, gcw, gbs, by cases S; rfl, fun hI hS => ?_⟩
    obtain ⟨k1, k2⟩ := key hI hS
    refine ⟨?_, k2, fun ht => H4 ((ins_setAll ..).mpr hI) (by rw [ht] at k1; exact k1)⟩
    obtain ⟨x1, x2, x3, x4⟩ := k1
    exact ⟨x1, x2, x3, x4⟩
  · rw [dif_neg h31]
    refine Reach.ret ⟨dp3, S.small, gws, sh, glu, dgl, dcv3, acc2, gcw, gbs, rfl, fun hI hS => ?_⟩
    obtain ⟨k1, k2⟩ := key hI hS
    exact ⟨k1, k2, fun ht => absurd ((last_iff i).mpr ht) h31⟩

/-- The body: with the inputs' blocks in place and the running sums of the tiles before, it writes the tile of `dproj`, the
    running sums with this tile's, and at the last grid point the small results. -/
theorem body_reach (D : Dt) (i : grid0.Coords) (S : St Ideal) :
    Reach c M (body M i) S fun _ S' => ∃ dp small gws sh glu dgl dcv acc gcw gbs, S' = S.setAll dp small gws sh glu dgl dcv acc gcw gbs ∧
      (Ins D (i 0).val S → ((i 0).val ≠ 0 → Sums D (i 0).val S) → Sums D ((i 0).val + 1) S' ∧ dp = re2 (fun r c => D.dp (256 * (i 0).val + r) c) ∧
        ((i 0).val = 31 → small = ex2 D.small)) := by
  rw [body_rest]
  by_cases h0 : first i = 1#1
  · rw [dif_pos h0]
    refine Reach.bind ((start_reach (D := D) S).mono ?_)
    rintro - _ ⟨acc', gcw', gbs', gws', rfl, hS0⟩
    refine (rest_reach (D := D) i _).mono ?_
    rintro - _ ⟨dp, small, gws, sh, glu, dgl, dcv, acc, gcw, gbs, rfl, H⟩
    refine ⟨dp, small, gws, sh, glu, dgl, dcv, acc, gcw, gbs, by cases S; rfl, fun hI _ => H ((ins_setAll ..).mpr hI) ?_⟩
    rw [(first_iff i).mp h0]; exact hS0
  · rw [dif_neg h0]
    refine (rest_reach (D := D) i S).mono ?_
    rintro - _ ⟨dp, small, gws, sh, glu, dgl, dcv, acc, gcw, gbs, rfl, H⟩
    exact ⟨dp, small, gws, sh, glu, dgl, dcv, acc, gcw, gbs, rfl, fun hI hS => H hI (hS fun h => h0 ((first_iff i).mpr h))⟩

end Cert.Mix

end
-- ==== Proof.MixKeep.lean ====
/- The body writes none of its input arrays: whatever the arithmetic, it runs to its end and leaves the twenty
   input arrays as they were. -/
module

public import proofs.«01_k».proof.Proof.MixTile

@[expose] public section

set_option maxRecDepth 65536
set_option synthInstance.maxSize 4096
set_option synthInstance.maxHeartbeats 400000

noncomputable section

namespace Cert.Mix

open Idealize.ShloMosaic Idealize.SL Idealize.SL.Sem Cert.MixKernelIdeal Cert.MixKernelIdeal.Gen
open Idealize.ShloMosaic.TcCoe

variable {F : FTy → Type} [FloatOps F] {c : Dev nD} {M : Mems}

/-- Two contents agree on the input arrays. -/
def St.Same (S S' : St F) : Prop := ∃ dp small gws sh glu dgl dcv acc gcw gbs,
  S' = { S with dp := dp, small := small, gws := gws, sh := sh, glu := glu, dgl := dgl, dcv := dcv, acc := acc, gcw := gcw, gbs := gbs }

theorem St.Same.refl (S : St F) : S.Same S := ⟨S.dp, S.small, S.gws, S.sh, S.glu, S.dgl, S.dcv, S.acc, S.gcw, S.gbs, rfl⟩
theorem St.Same.trans {S S' S'' : St F} (h : S.Same S') (h' : S'.Same S'') : S.Same S'' := by
  obtain ⟨_, _, _, _, _, _, _, _, _, _, rfl⟩ := h
  obtain ⟨dp, small, gws, sh, glu, dgl, dcv, acc, gcw, gbs, rfl⟩ := h'
  exact ⟨dp, small, gws, sh, glu, dgl, dcv, acc, gcw, gbs, rfl⟩

/-- `P` runs to its end and writes no input array. -/
class Keeps (c : Dev nD) (M : Mems) {α : Type} (P : Pg F α) : Prop where
  reach : ∀ S, Reach c M P S fun _ S' => S.Same S'

instance Keeps.ret {α : Type} (a : α) : Keeps (F := F) c M (pure a) := ⟨fun S => Reach.ret (.refl S)⟩
instance Keeps.bind {α β : Type} {P : Pg F α} {k : α → Pg F β} [hP : Keeps c M P] [hk : ∀ a, Keeps c M (k a)] : Keeps c M (P >>= k) :=
  ⟨fun S => Reach.bind ((hP.reach S).mono fun a S' h => ((hk a).reach S').mono fun _ _ h' => h.trans h')⟩
instance Keeps.ite {α : Type} {p : Prop} [Decidable p] {P Q : Pg F α} [hP : Keeps c M P] [hQ : Keeps c M Q] :
    Keeps c M (if _h : p then P else Q) := by
  by_cases h : p
  · rw [dif_pos h]; exact hP
  · rw [dif_neg h]; exact hQ
instance Keeps.loop {w : ℕ} {σ : Type} {l : Scf.Loop w} {hok : l.OK} {body : Fin l.trips → σ → Pg F σ} [h : ∀ k a, Keeps c M (body k a)]
    (a : σ) : Keeps c M (Scf.Loop.for l hok a body) :=
  ⟨fun S => Reach.loop (fun _ _ S' => S.Same S') (fun k a S' hS => ((h k a).reach S').mono fun _ _ h' => hS.trans h') (.refl S)⟩

theorem Keeps.ld {s : Shape} {e : EltTy} {m : Memref sig .tc .vmem s e} {get : St F → s.Idx → Elt F e} {set : St F → (s.Idx → Elt F e) → St F}
    (hf : Fld c M m get set) (hgs : ∀ S, set S (get S) = S) {off size : Fin s.rank → ℕ} {inb : ∀ a, off a + size a ≤ s.size a}
    {hn : 0 < (Rect.unit off size inb).toLoadRect.shape.numel} : Keeps (F := F) c M (Mix.ld m off size inb hn) :=
  ⟨fun S => Reach.ld hf hgs fun _ _ => .refl S⟩
theorem Keeps.put {s : Shape} {e : EltTy} {m : Memref sig .tc .vmem s e} {get : St F → s.Idx → Elt F e} {set : St F → (s.Idx → Elt F e) → St F}
    (hf : Fld c M m get set) (hgs : ∀ S, set S (get S) = S) (hs : ∀ (S : St F) X, S.Same (set S X)) {he : e.bits = 32} {off size : Fin s.rank → ℕ}
    {inb : ∀ a, off a + size a ≤ s.size a} {hn : 0 < (Rect.unit off size inb).shape.numel} {w : (Rect.unit off size inb).shape.Idx → Elt F e} :
    Keeps (F := F) c M (Mix.put m he off size inb hn w) :=
  ⟨fun S => Reach.put hf hgs fun X _ => hs S X⟩
instance Keeps.putDp {off size : Fin 2 → ℕ} {inb : ∀ a, off a + size a ≤ S256x6144.size a} {hn pk}
    {w : (Rect.unit (s := S256x6144) off size inb).shape.Idx → Elt F .bf16} : Keeps (F := F) c M (Mix.putDp M off size inb hn pk w) :=
  ⟨fun S => Reach.putDp fun X _ => ⟨X, S.small, S.gws, S.sh, S.glu, S.dgl, S.dcv, S.acc, S.gcw, S.gbs, rfl⟩⟩

instance {off size inb hn} : Keeps (F := F) c M (Mix.ld M.pm off size inb hn) := Keeps.ld fld_pm fun _ => rfl
instance {off size inb hn} : Keeps (F := F) c M (Mix.ld M.dym off size inb hn) := Keeps.ld fld_dym fun _ => rfl
instance {off size inb hn} : Keeps (F := F) c M (Mix.ld M.cvm off size inb hn) := Keeps.ld fld_cvm fun _ => rfl
instance {off size inb hn} : Keeps (F := F) c M (Mix.ld M.gcp off size inb hn) := Keeps.ld fld_gcp fun _ => rfl
instance {off size inb hn} : Keeps (F := F) c M (Mix.ld M.gcn off size inb hn) := Keeps.ld fld_gcn fun _ => rfl
instance {off size inb hn} : Keeps (F := F) c M (Mix.ld M.dyp off size inb hn) := Keeps.ld fld_dyp fun _ => rfl
instance {off size inb hn} : Keeps (F := F) c M (Mix.ld M.dyn off size inb hn) := Keeps.ld fld_dyn fun _ => rfl
instance {off size inb hn} : Keeps (F := F) c M (Mix.ld M.cvp off size inb hn) := Keeps.ld fld_cvp fun _ => rfl
instance {off size inb hn} : Keeps (F := F) c M (Mix.ld M.cvn off size inb hn) := Keeps.ld fld_cvn fun _ => rfl
instance {off size inb hn} : Keeps (F := F) c M (Mix.ld M.cw off size inb hn) := Keeps.ld fld_cw fun _ => rfl
instance {off size inb hn} : Keeps (F := F) c M (Mix.ld M.clg off size inb hn) := Keeps.ld fld_clg fun _ => rfl
instance {off size inb hn} : Keeps (F := F) c M (Mix.ld M.clb off size inb hn) := Keeps.ld fld_clb fun _ => rfl
instance {off size inb hn} : Keeps (F := F) c M (Mix.ld M.slg off size inb hn) := Keeps.ld fld_slg fun _ => rfl
instance {off size inb hn} : Keeps (F := F) c M (Mix.ld M.slb off size inb hn) := Keeps.ld fld_slb fun _ => rfl
instance {off size inb hn} : Keeps (F := F) c M (Mix.ld M.ws off size inb hn) := Keeps.ld fld_ws fun _ => rfl
instance {off size inb hn} : Keeps (F := F) c M (Mix.ld M.wst off size inb hn) := Keeps.ld fld_wst fun _ => rfl
instance {off size inb hn} : Keeps (F := F) c M (Mix.ld M.bst off size inb hn) := Keeps.ld fld_bst fun _ => rfl
instance {off size inb hn} : Keeps (F := F) c M (Mix.ld M.gf off size inb hn) := Keeps.ld fld_gf fun _ => rfl
instance {off size inb hn} : Keeps (F := F) c M (Mix.ld M.se off size inb hn) := Keeps.ld fld_se fun _ => rfl
instance {off size inb hn} : Keeps (F := F) c M (Mix.ld M.dp off size inb hn) := Keeps.ld fld_dp fun _ => rfl
instance {off size inb hn} : Keeps (F := F) c M (Mix.ld M.small off size inb hn) := Keeps.ld fld_small fun _ => rfl
instance {off size inb hn} : Keeps (F := F) c M (Mix.ld M.gws off size inb hn) := Keeps.ld fld_gws fun _ => rfl
instance {off size inb hn} : Keeps (F := F) c M (Mix.ld M.sh off size inb hn) := Keeps.ld fld_sh fun _ => rfl
instance {off size inb hn} : Keeps (F := F) c M (Mix.ld M.glu off size inb hn) := Keeps.ld fld_glu fun _ => rfl
instance {off size inb hn} : Keeps (F := F) c M (Mix.ld M.dgl off size inb hn) := Keeps.ld fld_dgl fun _ => rfl
instance {off size inb hn} : Keeps (F := F) c M (Mix.ld M.dcv off size inb hn) := Keeps.ld fld_dcv fun _ => rfl
instance {off size inb hn} : Keeps (F := F) c M (Mix.ld M.acc off size inb hn) := Keeps.ld fld_acc fun _ => rfl
instance {off size inb hn} : Keeps (F := F) c M (Mix.ld M.gcw off size inb hn) := Keeps.ld fld_gcw fun _ => rfl
instance {off size inb hn} : Keeps (F := F) c M (Mix.ld M.gbs off size inb hn) := Keeps.ld fld_gbs fun _ => rfl
instance keeps_put_small {he off size inb hn w} : Keeps (F := F) c M (Mix.put M.small he off size inb hn w) :=
  Keeps.put fld_small (fun _ => rfl) fun S X => ⟨S.dp, X, S.gws, S.sh, S.glu, S.dgl, S.dcv, S.acc, S.gcw, S.gbs, rfl⟩
instance keeps_put_gws {he off size inb hn w} : Keeps (F := F) c M (Mix.put M.gws he off size inb hn w) :=
  Keeps.put fld_gws (fun _ => rfl) fun S X => ⟨S.dp, S.small, X, S.sh, S.glu, S.dgl, S.dcv, S.acc, S.gcw, S.gbs, rfl⟩
instance keeps_put_sh {he off size inb hn w} : Keeps (F := F) c M (Mix.put M.sh he off size inb hn w) :=
  Keeps.put fld_sh (fun _ => rfl) fun S X => ⟨S.dp, S.small, S.gws, X, S.glu, S.dgl, S.dcv, S.acc, S.gcw, S.gbs, rfl⟩
instance keeps_put_glu {he off size inb hn w} : Keeps (F := F) c M (Mix.put M.glu he off size inb hn w) :=
  Keeps.put fld_glu (fun _ => rfl) fun S X => ⟨S.dp, S.small, S.gws, S.sh, X, S.dgl, S.dcv, S.acc, S.gcw, S.gbs, rfl⟩
instance keeps_put_dgl {he off size inb hn w} : Keeps (F := F) c M (Mix.put M.dgl he off size inb hn w) :=
  Keeps.put fld_dgl (fun _ => rfl) fun S X => ⟨S.dp, S.small, S.gws, S.sh, S.glu, X, S.dcv, S.acc, S.gcw, S.gbs, rfl⟩
instance keeps_put_dcv {he off size inb hn w} : Keeps (F := F) c M (Mix.put M.dcv he off size inb hn w) :=
  Keeps.put fld_dcv (fun _ => rfl) fun S X => ⟨S.dp, S.small, S.gws, S.sh, S.glu, S.dgl, X, S.acc, S.gcw, S.gbs, rfl⟩
instance keeps_put_acc {he off size inb hn w} : Keeps (F := F) c M (Mix.put M.acc he off size inb hn w) :=
  Keeps.put fld_acc (fun _ => rfl) fun S X => ⟨S.dp, S.small, S.gws, S.sh, S.glu, S.dgl, S.dcv, X, S.gcw, S.gbs, rfl⟩
instance keeps_put_gcw {he off size inb hn w} : Keeps (F := F) c M (Mix.put M.gcw he off size inb hn w) :=
  Keeps.put fld_gcw (fun _ => rfl) fun S X => ⟨S.dp, S.small, S.gws, S.sh, S.glu, S.dgl, S.dcv, S.acc, X, S.gbs, rfl⟩
instance keeps_put_gbs {he off size inb hn w} : Keeps (F := F) c M (Mix.put M.gbs he off size inb hn w) :=
  Keeps.put fld_gbs (fun _ => rfl) fun S X => ⟨S.dp, S.small, S.gws, S.sh, S.glu, S.dgl, S.dcv, S.acc, S.gcw, X, rfl⟩

attribute [local irreducible] Mix.put Mix.putDp Mix.ld

instance keeps_start  : Keeps (F := F) c M (start M ) := by
  unfold start
  repeat' (first | infer_instance | refine @Keeps.bind _ _ _ _ _ _ _ _ ?_ fun _ => ?_ | exact keeps_put_gws | exact keeps_put_acc | exact keeps_put_gcw | exact keeps_put_gbs)
instance keeps_half0 (i : grid0.Coords) (g : Vec F S1x1024 .f32) : Keeps (F := F) c M (half0 M i g) := by
  unfold half0
  repeat' (first | infer_instance | refine @Keeps.bind _ _ _ _ _ _ _ _ ?_ fun _ => ?_ | exact keeps_put_dcv | exact keeps_put_acc)
instance keeps_half1 (i : grid0.Coords) (g : Vec F S1x1024 .f32) : Keeps (F := F) c M (half1 M i g) := by
  unfold half1
  repeat' (first | infer_instance | refine @Keeps.bind _ _ _ _ _ _ _ _ ?_ fun _ => ?_ | exact keeps_put_dcv | exact keeps_put_acc)
instance keeps_fill (v : Vec F S288x128 .f32) (n : ℕ) (h : n ≤ 8) : Keeps (F := F) c M (fill M v n h) := by
  induction n with
  | zero => unfold fill; infer_instance
  | succ n ih =>
    haveI := ih (by omega); unfold fill
    repeat' (first | infer_instance | refine @Keeps.bind _ _ _ _ _ _ _ _ ?_ fun _ => ?_ | exact keeps_put_sh)
instance keeps_tapsA (lb : Fin 8) (k : Fin 2) (n : ℕ) (h : n ≤ 31) : Keeps (F := F) c M (tapsA M lb k n h) := by
  induction n with
  | zero => unfold tapsA; infer_instance
  | succ n ih =>
    haveI := ih (by omega); unfold tapsA
    repeat' (first | infer_instance | refine @Keeps.bind _ _ _ _ _ _ _ _ ?_ fun _ => ?_)
instance keeps_tripA (lb : Fin 8) (k : Fin 2) : Keeps (F := F) c M (tripA M lb k) := by
  unfold tripA
  repeat' (first | infer_instance | refine @Keeps.bind _ _ _ _ _ _ _ _ ?_ fun _ => ?_ | exact keeps_put_dgl)
instance keeps_tapsB (k : Fin 4) (g : Vec F S64x128 .f32) (a : ℕ → FVec F S8x128 .f32) (n : ℕ) (h : n ≤ 31) : Keeps (F := F) c M (tapsB M k g a n h) := by
  induction n with
  | zero => unfold tapsB; infer_instance
  | succ n ih =>
    haveI := ih (by omega); unfold tapsB
    repeat' (first | infer_instance | refine @Keeps.bind _ _ _ _ _ _ _ _ ?_ fun _ => ?_)
instance keeps_tripB (k : Fin 4) (t : T31 F) : Keeps (F := F) c M (tripB M k t) := by
  unfold tripB
  repeat' (first | infer_instance | refine @Keeps.bind _ _ _ _ _ _ _ _ ?_ fun _ => ?_)
instance keeps_gcwAdd (lb : Fin 8) (f : ℕ → FVec F S8x128 .f32) (n : ℕ) (h : n ≤ 31) : Keeps (F := F) c M (gcwAdd M lb f n h) := by
  induction n with
  | zero => unfold gcwAdd; infer_instance
  | succ n ih =>
    haveI := ih (by omega); unfold gcwAdd
    repeat' (first | infer_instance | refine @Keeps.bind _ _ _ _ _ _ _ _ ?_ fun _ => ?_ | exact keeps_put_gcw)
instance keeps_laneA (lb : Fin 8) : Keeps (F := F) c M (laneA M lb) := by
  unfold laneA
  haveI : ∀ (k : Fin k0_t1_loop.trips) (_ : PUnit.{1}), Keeps (F := F) c M (tripA M lb k) := fun k _ => keeps_tripA lb k
  exact @Keeps.loop F _ c M _ _ _ _ _ this _
instance keeps_laneB  : Keeps (F := F) c M (laneB M ) := by
  unfold laneB
  haveI : ∀ (k : Fin k0_t2_loop.trips) (t : T31 F), Keeps (F := F) c M (tripB M k t) := fun k t => keeps_tripB k t
  exact Keeps.loop _
instance keeps_lane (lb : Fin 8) : Keeps (F := F) c M (lane M lb) := by
  unfold lane
  repeat' (first | infer_instance | refine @Keeps.bind _ _ _ _ _ _ _ _ ?_ fun _ => ?_ | exact keeps_put_glu)
instance keeps_chunk (vn : FVec F S256x1024 .bf16) (ch : Fin 2) (hd : Fin 8) (w wt : Vec F S1x128x128 .f32) (b : Vec F S128x1 .f32) (a : FVec F S128x128 .f32 × FVec F S128x128 .f32) : Keeps (F := F) c M (chunk M vn ch hd w wt b a) := by
  unfold chunk
  repeat' (first | infer_instance | refine @Keeps.bind _ _ _ _ _ _ _ _ ?_ fun _ => ?_ | exact keeps_put_dcv)
instance keeps_head (vn : FVec F S256x1024 .bf16) (hd : Fin 8) : Keeps (F := F) c M (head M vn hd) := by
  unfold head
  repeat' (first | infer_instance | refine @Keeps.bind _ _ _ _ _ _ _ _ ?_ fun _ => ?_ | exact keeps_put_gws | exact keeps_put_gbs)
instance keeps_lanes  (n : ℕ) (h : n ≤ 8) : Keeps (F := F) c M (lanes M  n h) := by
  induction n with
  | zero => unfold lanes; infer_instance
  | succ n ih =>
    haveI := ih (by omega); unfold lanes
    repeat' (first | infer_instance | refine @Keeps.bind _ _ _ _ _ _ _ _ ?_ fun _ => ?_)
instance keeps_heads (vn : FVec F S256x1024 .bf16) (n : ℕ) (h : n ≤ 8) : Keeps (F := F) c M (heads M vn n h) := by
  induction n with
  | zero => unfold heads; infer_instance
  | succ n ih =>
    haveI := ih (by omega); unfold heads
    repeat' (first | infer_instance | refine @Keeps.bind _ _ _ _ _ _ _ _ ?_ fun _ => ?_)
instance keeps_gate  : Keeps (F := F) c M (gate M ) := by
  unfold gate
  repeat' (first | infer_instance | refine @Keeps.bind _ _ _ _ _ _ _ _ ?_ fun _ => ?_ | exact keeps_put_acc)
instance keeps_accRows  (n : ℕ) (h : n ≤ 5) : Keeps (F := F) c M (accRows M  n h) := by
  induction n with
  | zero => unfold accRows; infer_instance
  | succ n ih =>
    haveI := ih (by omega); unfold accRows
    repeat' (first | infer_instance | refine @Keeps.bind _ _ _ _ _ _ _ _ ?_ fun _ => ?_ | exact keeps_put_small)
instance keeps_biasRow  (n : ℕ) (h : n ≤ 8) : Keeps (F := F) c M (biasRow M  n h) := by
  induction n with
  | zero => unfold biasRow; infer_instance
  | succ n ih =>
    haveI := ih (by omega); unfold biasRow
    repeat' (first | infer_instance | refine @Keeps.bind _ _ _ _ _ _ _ _ ?_ fun _ => ?_ | exact keeps_put_small)
instance keeps_tapRows  (n : ℕ) (h : n ≤ 31) : Keeps (F := F) c M (tapRows M  n h) := by
  induction n with
  | zero => unfold tapRows; infer_instance
  | succ n ih =>
    haveI := ih (by omega); unfold tapRows
    repeat' (first | infer_instance | refine @Keeps.bind _ _ _ _ _ _ _ _ ?_ fun _ => ?_ | exact keeps_put_small)
instance keeps_finish  : Keeps (F := F) c M (finish M ) := by
  unfold finish
  repeat' (first | infer_instance | refine @Keeps.bind _ _ _ _ _ _ _ _ ?_ fun _ => ?_ | exact keeps_put_small)
instance keeps_rest (i : grid0.Coords) : Keeps (F := F) c M (rest M i) := by
  unfold rest
  by_cases h : k0_cond2 i = 1#1
  · simp only [dif_pos h]
    repeat' (first | infer_instance | refine @Keeps.bind _ _ _ _ _ _ _ _ ?_ fun _ => ?_)
  · simp only [dif_neg h]
    repeat' (first | infer_instance | refine @Keeps.bind _ _ _ _ _ _ _ _ ?_ fun _ => ?_)
/-- The whole body runs to its end and writes no input array. -/
theorem keeps_body (i : grid0.Coords) : Keeps (F := F) c M (body M i) := by
  rw [body_rest]
  by_cases h : first i = 1#1
  · rw [dif_pos h]; infer_instance
  · rw [dif_neg h]; infer_instance

end Cert.Mix

end
-- ==== Proof.MixBodyEq.lean ====
module

public import proofs.«01_k».proof.Proof.MixBody
public import Idealize.ShloMosaic.Lib.Tactic

@[expose] public section

set_option maxRecDepth 1000000
set_option maxHeartbeats 0

noncomputable section

namespace Cert.Mix

open Idealize.ShloMosaic Idealize.SL.Sem Cert.MixKernelIdeal Cert.MixKernelIdeal.Gen

variable {F : FTy → Type} [FloatOps F]

/-- The printed body is the stages in turn. -/
theorem body_eq (i : grid0.Coords) (arg1 : Memref sig .tc .vmem S256x6144 .bf16) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S4x31x256 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S128x8 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S8x128 .f32) (harg20 : arg20.IsWhole) (arg21 : Memref sig .tc .vmem S256x6144 .bf16) (harg21 : arg21.IsWhole) (arg22 : Memref sig .tc .vmem S40x1024 .f32) (harg22 : arg22.IsWhole) (arg23 : Memref sig .tc .vmem S8x128x128 .f32) (harg23 : arg23.IsWhole) (arg24 : Memref sig .tc .vmem S8x288x128 .f32) (harg24 : arg24.IsWhole) (arg25 : Memref sig .tc .vmem S256x128 .f32) (harg25 : arg25.IsWhole) (arg26 : Memref sig .tc .vmem S256x128 .f32) (harg26 : arg26.IsWhole) (arg27 : Memref sig .tc .vmem S288x1024 .f32) (harg27 : arg27.IsWhole) (arg28 : Memref sig .tc .vmem S40x1024 .f32) (harg28 : arg28.IsWhole) (arg29 : Memref sig .tc .vmem S248x1024 .f32) (harg29 : arg29.IsWhole) (arg30 : Memref sig .tc .vmem S128x1024 .f32) (harg30 : arg30.IsWhole) :
    cc0_branch_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 = body ⟨arg1, arg2, arg3, arg4, arg5, arg6, arg7, arg8, arg9, arg10, arg11, arg12, arg13, arg14, arg15, arg16, arg17, arg18, arg19, arg20, arg21, arg22, arg23, arg24, arg25, arg26, arg27, arg28, arg29, arg30, harg21⟩ i := by
  by_cases h : Scalar.cmpi .ne (Scalar.extui (Scalar.cmpi .eq (BitVec.ofNat 32 (i 0).val) 0#32) : BitVec 32) 0#32 = 1#1
  · simp only [cc0_branch_bwd, k0_part218, k0_part219, k0_part120, k0_part128, k0_part129, k0_part136, k0_part137, k0_part145, k0_part146, k0_part153, k0_part154, k0_part161, k0_part162,
      k0_part170, k0_part171, k0_part178, k0_part179, k0_part186, k0_part187,
      body, lanes, lane, laneA, laneB, Scf.Loop.for, Scf.for_eq, first, dif_pos h]
    sl_kernel_rfl
  · simp only [cc0_branch_bwd, k0_part218, k0_part219, k0_part120, k0_part128, k0_part129, k0_part136, k0_part137, k0_part145, k0_part146, k0_part153, k0_part154, k0_part161, k0_part162,
      k0_part170, k0_part171, k0_part178, k0_part179, k0_part186, k0_part187,
      body, lanes, lane, laneA, laneB, Scf.Loop.for, Scf.for_eq, first, dif_neg h]
    sl_kernel_rfl

end Cert.Mix

end
-- ==== Proof.MixLaunch.lean ====
/- The launch of the branch's backward kernel, at any arithmetic: from a law that each grid point keeps, what the
   arrays hold when the program has ended. The frame of the program is the law that asks nothing. -/
module

public import proofs.«01_k».proof.Proof.MixKeep
public import proofs.«01_k».proof.Proof.MixBodyEq
public import proofs.«01_k».proof.Proof.Gen.MixKernelIdeal.Frame
public import Idealize.ShloMosaic.Lib.Pipeline.DatRel
public import Idealize.ShloMosaic.Lib.Pipeline.ArrRel

@[expose] public section

set_option maxRecDepth 65536

noncomputable section

namespace Cert.Mix

open Idealize.ShloMosaic Idealize.ShloMosaic.TcCoe Idealize.SL Idealize.SL.Sem Cert.MixKernelIdeal Cert.MixKernelIdeal.Gen
open Idealize.SL.RA Idealize.SL.BI
open scoped Idealize.SL.BI
open Idealize.SL.BI.BIBase Idealize.SL.BI.Laws Idealize.SL.ProofMode
open Idealize.ShloMosaic.Pipeline (Dat RDat)

variable {F : FTy → Type} [FloatOps F]

local notation "𝕄" => MT nD τ sig Unit (Elt F) ℕ (UR sig nD τ) ℕ

/-- The arrays the body is called with at point `t`. -/
abbrev memsAt (t : Fin cfg0.N) : Mems :=
  ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), win0_11.stage (cfg0.slots t 11), win0_12.stage (cfg0.slots t 12), win0_13.stage (cfg0.slots t 13), win0_14.stage (cfg0.slots t 14), win0_15.stage (cfg0.slots t 15), win0_16.stage (cfg0.slots t 16), win0_17.stage (cfg0.slots t 17), win0_18.stage (cfg0.slots t 18), win0_19.stage (cfg0.slots t 19), win0_20.stage (cfg0.slots t 20), win0_21.stage (cfg0.slots t 21), win0_22.stage (cfg0.slots t 22), Memref.whole cc0_scratch0, Memref.whole cc0_scratch1, Memref.whole cc0_scratch2, Memref.whole cc0_scratch3, Memref.whole cc0_scratch4, Memref.whole cc0_scratch5, Memref.whole cc0_scratch6,
    hstage0_20 ((cfg0.slots t 20).cast nbuf0_20)⟩

variable (m : (ℓ : Loc nD τ sig) → Buf (Elt F) ℓ) (ρ : Dev nD → PrngReg)

/-- The contents at point `t`: the blocks of the inputs, and the given outputs and scratch. -/
def stAt (c : Dev nD) (t : Fin cfg0.N) (dp : S256x6144.Idx → Elt F .bf16) (small : S40x1024.Idx → Elt F .f32) (gws : S8x128x128.Idx → Elt F .f32) (sh : S8x288x128.Idx → Elt F .f32) (glu : S256x128.Idx → Elt F .f32) (dgl : S256x128.Idx → Elt F .f32) (dcv : S288x1024.Idx → Elt F .f32) (acc : S40x1024.Idx → Elt F .f32) (gcw : S248x1024.Idx → Elt F .f32) (gbs : S128x1024.Idx → Elt F .f32) : St F :=
  { pm := iblk m c 0 t, dym := iblk m c 1 t, cvm := iblk m c 2 t, gcp := iblk m c 3 t, gcn := iblk m c 4 t, dyp := iblk m c 5 t, dyn := iblk m c 6 t, cvp := iblk m c 7 t, cvn := iblk m c 8 t, cw := iblk m c 9 t, clg := iblk m c 10 t, clb := iblk m c 11 t, slg := iblk m c 12 t, slb := iblk m c 13 t, ws := iblk m c 14 t, wst := iblk m c 15 t, bst := iblk m c 16 t, gf := iblk m c 17 t, se := iblk m c 18 t, dep := iblk m c 19 t,
    dp := dp, small := small, gws := gws, sh := sh, glu := glu, dgl := dgl, dcv := dcv, acc := acc, gcw := gcw, gbs := gbs }

/-- What each point keeps: of the sums it carries, of the array it writes back at every point and of the two it
    writes back at the end. -/
structure Law where
  sums : Dev nD → ℕ → (S40x1024.Idx → Elt F .f32) → (S248x1024.Idx → Elt F .f32) → (S128x1024.Idx → Elt F .f32) → Prop
  gws : Dev nD → ℕ → (S8x128x128.Idx → Elt F .f32) → Prop
  dp : Dev nD → Fin cfg0.N → (S256x6144.Idx → Elt F .bf16) → Prop
  small : Dev nD → Fin cfg0.N → (S40x1024.Idx → Elt F .f32) → Prop
  step : ∀ (c : Dev nD) (M : Mems) (t : Fin cfg0.N) (S : St F), (∃ dp small gws sh glu dgl dcv acc gcw gbs, S = stAt m c t dp small gws sh glu dgl dcv acc gcw gbs) →
    (t.val ≠ 0 → sums c t.val S.acc S.gcw S.gbs ∧ gws c t.val S.gws) →
    Reach c M (body M (grid0.coords t)) S fun _ S' => (∃ dp small gws sh glu dgl dcv acc gcw gbs, S' = stAt m c t dp small gws sh glu dgl dcv acc gcw gbs) ∧
      sums c (t.val + 1) S'.acc S'.gcw S'.gbs ∧ gws c (t.val + 1) S'.gws ∧ dp c t S'.dp ∧ small c t S'.small

variable {m} (K : Law m)

/-- The scratch between points: the three running sums are as the law says. -/
def phi (c : Dev nD) (n : ℕ) : sProp 𝕄 :=
  iprop((∃ sh glu dgl dcv acc gcw gbs, ⌜n ≠ 0 → K.sums c n acc gcw gbs⌝ ∗ owns (c : Thread nD τ) (Memref.whole cc0_scratch0) fullShare sh ∗ owns (c : Thread nD τ) (Memref.whole cc0_scratch1) fullShare glu ∗ owns (c : Thread nD τ) (Memref.whole cc0_scratch2) fullShare dgl ∗ owns (c : Thread nD τ) (Memref.whole cc0_scratch3) fullShare dcv ∗ owns (c : Thread nD τ) (Memref.whole cc0_scratch4) fullShare acc ∗ owns (c : Thread nD τ) (Memref.whole cc0_scratch5) fullShare gcw ∗ owns (c : Thread nD τ) (Memref.whole cc0_scratch6) fullShare gbs) ∗ ∃ r, prngReg c r)

/-- The launch's proof data: the inputs' blocks stay in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨_ + 23, h⟩ => absurd h (Nat.not_lt.2 (Nat.le_add_left _ _))
  Φ t := phi K c t.val
  q w := Pipeline.shareOf spec0 w
  owed _ := 0

/-- The outputs are named by what the law says of them alone. -/
def marks : Fin cfg0.W → Bool := fun w => match w with
  | ⟨20, _⟩ => true
  | ⟨21, _⟩ => true
  | ⟨22, _⟩ => true
  | _ => false

/-- What the body leaves in the outputs. -/
def left (c : Dev nD) (w : Fin cfg0.W) (t : Fin cfg0.N) : ((cfg0.win w).block.Idx → Elt F (cfg0.win w).elt) → Prop := match w with
  | ⟨20, _⟩ => fun X => K.dp c t X
  | ⟨21, _⟩ => fun X => K.small c t X
  | ⟨22, _⟩ => fun X => K.gws c (t.val + 1) X
  | _ => fun _ => True

theorem A_eq (c : Dev nD) (w : Fin cfg0.W) : (dats K 0 c).A w = V m c (Pipeline.arrRef spec0 w) := by
  dsimp only [dats]

theorem before_0 (c : Dev nD) (t : Fin cfg0.N) (d) : (dats K 0 c).before 0 t d = iblk m c 0 t :=
  before0_0_of m (dats K 0 c) (A_eq K c 0) (fun t => by dsimp only [dats]) t d
theorem before_1 (c : Dev nD) (t : Fin cfg0.N) (d) : (dats K 0 c).before 1 t d = iblk m c 1 t :=
  before0_1_of m (dats K 0 c) (A_eq K c 1) (fun t => by dsimp only [dats]) t d
theorem before_2 (c : Dev nD) (t : Fin cfg0.N) (d) : (dats K 0 c).before 2 t d = iblk m c 2 t :=
  before0_2_of m (dats K 0 c) (A_eq K c 2) (fun t => by dsimp only [dats]) t d
theorem before_3 (c : Dev nD) (t : Fin cfg0.N) (d) : (dats K 0 c).before 3 t d = iblk m c 3 t :=
  before0_3_of m (dats K 0 c) (A_eq K c 3) (fun t => by dsimp only [dats]) t d
theorem before_4 (c : Dev nD) (t : Fin cfg0.N) (d) : (dats K 0 c).before 4 t d = iblk m c 4 t :=
  before0_4_of m (dats K 0 c) (A_eq K c 4) (fun t => by dsimp only [dats]) t d
theorem before_5 (c : Dev nD) (t : Fin cfg0.N) (d) : (dats K 0 c).before 5 t d = iblk m c 5 t :=
  before0_5_of m (dats K 0 c) (A_eq K c 5) (fun t => by dsimp only [dats]) t d
theorem before_6 (c : Dev nD) (t : Fin cfg0.N) (d) : (dats K 0 c).before 6 t d = iblk m c 6 t :=
  before0_6_of m (dats K 0 c) (A_eq K c 6) (fun t => by dsimp only [dats]) t d
theorem before_7 (c : Dev nD) (t : Fin cfg0.N) (d) : (dats K 0 c).before 7 t d = iblk m c 7 t :=
  before0_7_of m (dats K 0 c) (A_eq K c 7) (fun t => by dsimp only [dats]) t d
theorem before_8 (c : Dev nD) (t : Fin cfg0.N) (d) : (dats K 0 c).before 8 t d = iblk m c 8 t :=
  before0_8_of m (dats K 0 c) (A_eq K c 8) (fun t => by dsimp only [dats]) t d
theorem before_9 (c : Dev nD) (t : Fin cfg0.N) (d) : (dats K 0 c).before 9 t d = iblk m c 9 t :=
  before0_9_of m (dats K 0 c) (A_eq K c 9) (fun t => by dsimp only [dats]) t d
theorem before_10 (c : Dev nD) (t : Fin cfg0.N) (d) : (dats K 0 c).before 10 t d = iblk m c 10 t :=
  before0_10_of m (dats K 0 c) (A_eq K c 10) (fun t => by dsimp only [dats]) t d
theorem before_11 (c : Dev nD) (t : Fin cfg0.N) (d) : (dats K 0 c).before 11 t d = iblk m c 11 t :=
  before0_11_of m (dats K 0 c) (A_eq K c 11) (fun t => by dsimp only [dats]) t d
theorem before_12 (c : Dev nD) (t : Fin cfg0.N) (d) : (dats K 0 c).before 12 t d = iblk m c 12 t :=
  before0_12_of m (dats K 0 c) (A_eq K c 12) (fun t => by dsimp only [dats]) t d
theorem before_13 (c : Dev nD) (t : Fin cfg0.N) (d) : (dats K 0 c).before 13 t d = iblk m c 13 t :=
  before0_13_of m (dats K 0 c) (A_eq K c 13) (fun t => by dsimp only [dats]) t d
theorem before_14 (c : Dev nD) (t : Fin cfg0.N) (d) : (dats K 0 c).before 14 t d = iblk m c 14 t :=
  before0_14_of m (dats K 0 c) (A_eq K c 14) (fun t => by dsimp only [dats]) t d
theorem before_15 (c : Dev nD) (t : Fin cfg0.N) (d) : (dats K 0 c).before 15 t d = iblk m c 15 t :=
  before0_15_of m (dats K 0 c) (A_eq K c 15) (fun t => by dsimp only [dats]) t d
theorem before_16 (c : Dev nD) (t : Fin cfg0.N) (d) : (dats K 0 c).before 16 t d = iblk m c 16 t :=
  before0_16_of m (dats K 0 c) (A_eq K c 16) (fun t => by dsimp only [dats]) t d
theorem before_17 (c : Dev nD) (t : Fin cfg0.N) (d) : (dats K 0 c).before 17 t d = iblk m c 17 t :=
  before0_17_of m (dats K 0 c) (A_eq K c 17) (fun t => by dsimp only [dats]) t d
theorem before_18 (c : Dev nD) (t : Fin cfg0.N) (d) : (dats K 0 c).before 18 t d = iblk m c 18 t :=
  before0_18_of m (dats K 0 c) (A_eq K c 18) (fun t => by dsimp only [dats]) t d
theorem before_19 (c : Dev nD) (t : Fin cfg0.N) (d) : (dats K 0 c).before 19 t d = iblk m c 19 t :=
  before0_19_of m (dats K 0 c) (A_eq K c 19) (fun t => by dsimp only [dats]) t d

/-- What the third output holds when a point begins is what the one before it left. -/
theorem found_gws (c : Dev nD) (t : Fin cfg0.N) (X) (h : ((dats K 0 c).toRRel marks (left K c)).Finds 22 t X) (ht : t.val ≠ 0) :
    K.gws c t.val X := by
  have hlt : t.val < 32 := N_0 ▸ t.isLt
  have hfl : (cfg0.win 22).flush ⟨t.val - 1, Nat.lt_of_le_of_lt (Nat.sub_le _ _) t.isLt⟩ ≠ true := fun h' => by
    have := (flush0_22 _).mp h'
    simp only at this
    omega
  have := (((RDat.finds_of_pos _ (by rfl) ht X).mp h).resolve_left hfl)
  have := (dats K 0 c).toRRel_leaves (by rfl) this
  have e : (t.val - 1) + 1 = t.val := by omega
  exact e ▸ this

theorem defs₀_row (t : Fin cfg0.N) : defs₀ (F := F) .tc cfg0.body (cfg0.bodyArgs t (cfg0.slots t)) = bodyAt0 t := by
  unfold defs₀; rw [Defs.onTc_tc]

end Cert.Mix

end
-- ==== Proof.MixFrame.lean ====
/- The body's triple at each grid point, and the run of the whole program under a law. -/
module

public import proofs.«01_k».proof.Proof.MixLaunch

@[expose] public section

set_option maxRecDepth 65536

noncomputable section

namespace Cert.Mix

open Idealize.ShloMosaic Idealize.ShloMosaic.TcCoe Idealize.SL Idealize.SL.Sem Cert.MixKernelIdeal Cert.MixKernelIdeal.Gen
open Idealize.SL.RA Idealize.SL.BI
open scoped Idealize.SL.BI
open Idealize.SL.BI.BIBase Idealize.SL.BI.Laws Idealize.SL.ProofMode
open Idealize.ShloMosaic.Pipeline (Dat RDat)

variable {F : FTy → Type} [FloatOps F]

local notation "𝕄" => MT nD τ sig Unit (Elt F) ℕ (UR sig nD τ) ℕ

variable {m : (ℓ : Loc nD τ sig) → Buf (Elt F) ℓ} (ρ : Dev nD → PrngReg) (K : Law m)

/-- The body at point `t` is the body read in stages. -/
theorem bodyAt_eq (t : Fin cfg0.N) : bodyAt0 (F := F) t = body (memsAt t) (grid0.coords t) :=
  body_eq _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- Point `t` keeps the law: from the inputs' blocks and the scratch of the point before it leaves the outputs and the
    scratch as the law says. -/
theorem triple (c : Dev nD) (t : Fin cfg0.N) :
    iprop(phi K c t.val ∗ (dats K 0 c).owesAt () t.castSucc ∗ (∃ d, owns (c : Thread nD τ) (stage0_0 (cfg0.slots t 0)) fullShare ((dats K 0 c).before 0 t d)) ∗ (∃ d, owns (c : Thread nD τ) (stage0_1 (cfg0.slots t 1)) fullShare ((dats K 0 c).before 1 t d)) ∗ (∃ d, owns (c : Thread nD τ) (stage0_2 (cfg0.slots t 2)) fullShare ((dats K 0 c).before 2 t d)) ∗ (∃ d, owns (c : Thread nD τ) (stage0_3 (cfg0.slots t 3)) fullShare ((dats K 0 c).before 3 t d)) ∗ (∃ d, owns (c : Thread nD τ) (stage0_4 (cfg0.slots t 4)) fullShare ((dats K 0 c).before 4 t d)) ∗ (∃ d, owns (c : Thread nD τ) (stage0_5 (cfg0.slots t 5)) fullShare ((dats K 0 c).before 5 t d)) ∗ (∃ d, owns (c : Thread nD τ) (stage0_6 (cfg0.slots t 6)) fullShare ((dats K 0 c).before 6 t d)) ∗ (∃ d, owns (c : Thread nD τ) (stage0_7 (cfg0.slots t 7)) fullShare ((dats K 0 c).before 7 t d)) ∗ (∃ d, owns (c : Thread nD τ) (stage0_8 (cfg0.slots t 8)) fullShare ((dats K 0 c).before 8 t d)) ∗ (∃ d, owns (c : Thread nD τ) (stage0_9 (cfg0.slots t 9)) fullShare ((dats K 0 c).before 9 t d)) ∗ (∃ d, owns (c : Thread nD τ) (stage0_10 (cfg0.slots t 10)) fullShare ((dats K 0 c).before 10 t d)) ∗ (∃ d, owns (c : Thread nD τ) (stage0_11 (cfg0.slots t 11)) fullShare ((dats K 0 c).before 11 t d)) ∗ (∃ d, owns (c : Thread nD τ) (stage0_12 (cfg0.slots t 12)) fullShare ((dats K 0 c).before 12 t d)) ∗ (∃ d, owns (c : Thread nD τ) (stage0_13 (cfg0.slots t 13)) fullShare ((dats K 0 c).before 13 t d)) ∗ (∃ d, owns (c : Thread nD τ) (stage0_14 (cfg0.slots t 14)) fullShare ((dats K 0 c).before 14 t d)) ∗ (∃ d, owns (c : Thread nD τ) (stage0_15 (cfg0.slots t 15)) fullShare ((dats K 0 c).before 15 t d)) ∗ (∃ d, owns (c : Thread nD τ) (stage0_16 (cfg0.slots t 16)) fullShare ((dats K 0 c).before 16 t d)) ∗ (∃ d, owns (c : Thread nD τ) (stage0_17 (cfg0.slots t 17)) fullShare ((dats K 0 c).before 17 t d)) ∗ (∃ d, owns (c : Thread nD τ) (stage0_18 (cfg0.slots t 18)) fullShare ((dats K 0 c).before 18 t d)) ∗ (∃ d, owns (c : Thread nD τ) (stage0_19 (cfg0.slots t 19)) fullShare ((dats K 0 c).before 19 t d)) ∗ (∃ Y, ⌜((dats K 0 c).toRRel marks (left K c)).Finds 20 t Y⌝ ∗ owns (c : Thread nD τ) (stage0_20 (cfg0.slots t 20)) fullShare (Y)) ∗ (∃ Y, ⌜((dats K 0 c).toRRel marks (left K c)).Finds 21 t Y⌝ ∗ owns (c : Thread nD τ) (stage0_21 (cfg0.slots t 21)) fullShare (Y)) ∗ (∃ Y, ⌜((dats K 0 c).toRRel marks (left K c)).Finds 22 t Y⌝ ∗ owns (c : Thread nD τ) (stage0_22 (cfg0.slots t 22)) fullShare (Y))) ⊢
    wp frame (wpE (defs₀ (F := F)) Variants.none (c : Thread nD τ) none) Set.univ (body (memsAt t) (grid0.coords t)) fun _ =>
      iprop(phi K c (t.val + 1) ∗ (dats K 0 c).owesAt () t.succ ∗ owns (c : Thread nD τ) (stage0_0 (cfg0.slots t 0)) fullShare (iblk m c 0 t) ∗ owns (c : Thread nD τ) (stage0_1 (cfg0.slots t 1)) fullShare (iblk m c 1 t) ∗ owns (c : Thread nD τ) (stage0_2 (cfg0.slots t 2)) fullShare (iblk m c 2 t) ∗ owns (c : Thread nD τ) (stage0_3 (cfg0.slots t 3)) fullShare (iblk m c 3 t) ∗ owns (c : Thread nD τ) (stage0_4 (cfg0.slots t 4)) fullShare (iblk m c 4 t) ∗ owns (c : Thread nD τ) (stage0_5 (cfg0.slots t 5)) fullShare (iblk m c 5 t) ∗ owns (c : Thread nD τ) (stage0_6 (cfg0.slots t 6)) fullShare (iblk m c 6 t) ∗ owns (c : Thread nD τ) (stage0_7 (cfg0.slots t 7)) fullShare (iblk m c 7 t) ∗ owns (c : Thread nD τ) (stage0_8 (cfg0.slots t 8)) fullShare (iblk m c 8 t) ∗ owns (c : Thread nD τ) (stage0_9 (cfg0.slots t 9)) fullShare (iblk m c 9 t) ∗ owns (c : Thread nD τ) (stage0_10 (cfg0.slots t 10)) fullShare (iblk m c 10 t) ∗ owns (c : Thread nD τ) (stage0_11 (cfg0.slots t 11)) fullShare (iblk m c 11 t) ∗ owns (c : Thread nD τ) (stage0_12 (cfg0.slots t 12)) fullShare (iblk m c 12 t) ∗ owns (c : Thread nD τ) (stage0_13 (cfg0.slots t 13)) fullShare (iblk m c 13 t) ∗ owns (c : Thread nD τ) (stage0_14 (cfg0.slots t 14)) fullShare (iblk m c 14 t) ∗ owns (c : Thread nD τ) (stage0_15 (cfg0.slots t 15)) fullShare (iblk m c 15 t) ∗ owns (c : Thread nD τ) (stage0_16 (cfg0.slots t 16)) fullShare (iblk m c 16 t) ∗ owns (c : Thread nD τ) (stage0_17 (cfg0.slots t 17)) fullShare (iblk m c 17 t) ∗ owns (c : Thread nD τ) (stage0_18 (cfg0.slots t 18)) fullShare (iblk m c 18 t) ∗ owns (c : Thread nD τ) (stage0_19 (cfg0.slots t 19)) fullShare (iblk m c 19 t) ∗ (∃ X, ⌜K.dp c t X⌝ ∗ owns (c : Thread nD τ) (stage0_20 (cfg0.slots t 20)) fullShare (X)) ∗ (∃ X, ⌜K.small c t X⌝ ∗ owns (c : Thread nD τ) (stage0_21 (cfg0.slots t 21)) fullShare (X)) ∗ (∃ X, ⌜K.gws c (t.val + 1) X⌝ ∗ owns (c : Thread nD τ) (stage0_22 (cfg0.slots t 22)) fullShare (X))) := by
  unfold phi
  iintro ⟨⟨⟨%sh, %glu, %dgl, %dcv, %acc, %gcw, %gbs, %hs, C0, C1, C2, C3, C4, C5, C6⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y20, %h20, H20⟩, ⟨%Y21, %h21, H21⟩, ⟨%Y22, %h22, H22⟩⟩
  rw [before_0, before_1, before_2, before_3, before_4, before_5, before_6, before_7, before_8, before_9, before_10, before_11, before_12, before_13, before_14, before_15, before_16, before_17, before_18, before_19]
  obtain ⟨a, S', hrun, ⟨dp', small', gws', sh', glu', dgl', dcv', acc', gcw', gbs', hS⟩, hsum, hgws, hdp, hsm⟩ :=
    K.step c (memsAt t) t (stAt m c t Y20 Y21 Y22 sh glu dgl dcv acc gcw gbs) ⟨_, _, _, _, _, _, _, _, _, _, rfl⟩
      fun ht => ⟨hs ht, found_gws K c t Y22 h22 ht⟩
  subst hS
  have key : iprop(Own c (memsAt t) (stAt m c t Y20 Y21 Y22 sh glu dgl dcv acc gcw gbs) ∗ ((dats K 0 c).owesAt () t.castSucc ∗ ∃ r, prngReg c r)) ⊢
      wp frame (wpE (defs₀ (F := F)) Variants.none (c : Thread nD τ) none) Set.univ (body (memsAt t) (grid0.coords t)) fun _ =>
        iprop(Own c (memsAt t) (stAt m c t dp' small' gws' sh' glu' dgl' dcv' acc' gcw' gbs') ∗ ((dats K 0 c).owesAt () t.castSucc ∗ ∃ r, prngReg c r)) :=
    (sep_mono (hrun (fun _ => Own c (memsAt t) (stAt m c t dp' small' gws' sh' glu' dgl' dcv' acc' gcw' gbs')) .rfl) .rfl).trans (wp_frame_r _ _ _)
  iapply wp_wand_r
  isplitl
  · iapply key
    dsimp only [Own, memsAt, stAt]
    iframe
  · iintro %_ ⟨HH, HO, HR⟩
    dsimp only [Own, memsAt, stAt]
    icases HH with ⟨H0, H1, H2, H3, H4, H5, H6, H7, H8, H9, H10, H11, H12, H13, H14, H15, H16, H17, H18, H19, H20, H21, H22, C0, C1, C2, C3, C4, C5, C6⟩
    iframe
    isplitl [C0 C1 C2 C3 C4 C5 C6]
    · iexists sh', glu', dgl', dcv', acc', gcw', gbs'
      iframe
      ipureintro
      exact fun _ => hsum
    isplitl [HO]
    · iexact HO
    isplitl [H20]
    · iexists dp'
      iframe
      ipureintro
      exact hdp
    isplitl [H21]
    · iexists small'
      iframe
      ipureintro
      exact hsm
    iexists gws'
    iframe
    ipureintro
    exact hgws

/-- What holds of a program holds of an equal one. -/
theorem at_eq (c : Dev nD) {p q : Prog (TpuEff nD τ sig (Elt F) Λ₀ .tc) PUnit} (e : p = q) {P : sProp 𝕄} {Q : PUnit → sProp 𝕄}
    (h : P ⊢ wp frame (wpE (defs₀ (F := F)) Variants.none (c : Thread nD τ) none) Set.univ q Q) :
    P ⊢ wp frame (wpE (defs₀ (F := F)) Variants.none (c : Thread nD τ) none) Set.univ p Q := by
  subst e
  exact h

set_option maxHeartbeats 4000000 in
/-- The same as the launch asks it. -/
theorem body_obl (c : Dev nD) :
    Pipeline.BodyObligationRel (dats K 0 c) (defs₀ (F := F)) Variants.none () Set.univ marks (left K c) := fun t => by
  rw [bigSep_W0, bigSep_W0, defs₀_row]
  exact triple_restated (at_eq c (bodyAt_eq t) (triple K c t)) rfl .rfl fun _ => .rfl

/-- At the start the scratch holds anything. -/
theorem hin (c : Dev nD) : Pipeline.ΦA (U := UR sig nD τ) (Val := Elt F) spec0 c ⊢ (((dats K 0 c).toRRel marks (left K c)).Φ 0 : sProp 𝕄) := by
  have h : (Pipeline.ΦA (U := UR sig nD τ) (Val := Elt F) spec0 c : sProp 𝕄) ⊢ phi K c 0 := by
    unfold Pipeline.ΦA phi
    rw [scopedRest0_eq]
    simp only [owns_whole]
    iintro ⟨⟨⟨%d0, C0⟩, ⟨%d1, C1⟩, ⟨%d2, C2⟩, ⟨%d3, C3⟩, ⟨%d4, C4⟩, ⟨%d5, C5⟩, ⟨%d6, C6⟩⟩, HR⟩
    isplitl [C0 C1 C2 C3 C4 C5 C6]
    · iexists d0, d1, d2, d3, d4, d5, d6
      iframe
      ipureintro
      exact fun h => absurd rfl h
    iexact HR
  exact h

/-- At the end it is given back. -/
theorem hout (c : Dev nD) : (((dats K 0 c).toRRel marks (left K c)).Φ (Fin.last cfg0.N) : sProp 𝕄) ⊢ Pipeline.ΦA spec0 c := by
  have h : phi K c cfg0.N ⊢ (Pipeline.ΦA (U := UR sig nD τ) (Val := Elt F) spec0 c : sProp 𝕄) := by
    unfold Pipeline.ΦA phi
    rw [scopedRest0_eq]
    simp only [owns_whole]
    iintro ⟨⟨%d0, %d1, %d2, %d3, %d4, %d5, %d6, %_, C0, C1, C2, C3, C4, C5, C6⟩, HR⟩
    isplitr [HR]
    · isplitl [C0]
      · iexists d0
        iexact C0
      isplitl [C1]
      · iexists d1
        iexact C1
      isplitl [C2]
      · iexists d2
        iexact C2
      isplitl [C3]
      · iexists d3
        iexact C3
      isplitl [C4]
      · iexists d4
        iexact C4
      isplitl [C5]
      · iexists d5
        iexact C5
      iexists d6
      iexact C6
    iexact HR
  exact h

set_option backward.isDefEq.respectTransparency.types false in
/-- The whole program under the law: it ends with every buffer it does not write as it was, and with the outputs as
    the law says. -/
theorem run : θ_run defs (onTc main) (s₀ m ρ) fun r =>
    RDat.FramePost (cfgs 0) (fun c => (dats K 0 c).toRRel marks (left K c)) (V m) r ∧ r.2.sem = fun _ => 0 :=
  RDat.θ_run_frame_track_shared (Q' := _) cfgs (0 : Fin 1) launch₀0 defs₀ Variants.none (fun c => (dats K 0 c).toRRel marks (left K c)) m ρ main
    (hbody := fun c => (body_obl K c).toRRel) (hq := fun _ _ _ => rfl) (howed := fun _ _ => rfl) (V := V m) (hmain := hmain m Variants.none)
    (hA := A_eq K) (hin := hin K) (hout := hout K) (hQ' := fun _ h => h)

set_option maxHeartbeats 1000000 in
/-- What has the same inputs as the contents at a point is the contents at that point. -/
theorem St.Same.stAt {c : Dev nD} {t : Fin cfg0.N} {S S' : St F} (h : S.Same S') (hS : ∃ dp small gws sh glu dgl dcv acc gcw gbs, S = stAt m c t dp small gws sh glu dgl dcv acc gcw gbs) :
    ∃ dp small gws sh glu dgl dcv acc gcw gbs, S' = Mix.stAt m c t dp small gws sh glu dgl dcv acc gcw gbs := by
  obtain ⟨dp, small, gws, sh, glu, dgl, dcv, acc, gcw, gbs, h⟩ := h
  obtain ⟨_, _, _, _, _, _, _, _, _, _, hS⟩ := hS
  refine ⟨dp, small, gws, sh, glu, dgl, dcv, acc, gcw, gbs, ?_⟩
  rw [h, hS]
  rfl

/-- The law that asks nothing. -/
def noLaw (m : (ℓ : Loc nD τ sig) → Buf (Elt F) ℓ) : Law m where
  sums _ _ _ _ _ := True
  gws _ _ _ := True
  dp _ _ _ := True
  small _ _ _ := True
  step c M t S h _ := ((keeps_body _).reach S).mono fun _ S' h' => ⟨h'.stAt h, trivial, trivial, trivial, trivial⟩

set_option maxHeartbeats 4000000 in
/-- The program ends, with its arguments as they were and nothing in flight. -/
theorem frame_main : θ_run (defs (F := F)) (onTc (τ := τ) main) (s₀ m ρ) fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11)) ∧ r.2.sem = fun _ => 0 :=
  (θ_run defs _ _).mono (fun r h => ⟨fun c => ⟨(RDat.FramePost.arr_in h.1 c 4 rfl).trans ((A_eq (noLaw m) c 4).trans (V_main_arg0 m c)),
    (RDat.FramePost.arr_in h.1 c 6 rfl).trans ((A_eq (noLaw m) c 6).trans (V_main_arg1 m c)),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    (RDat.FramePost.arr_in h.1 c 10 rfl).trans ((A_eq (noLaw m) c 10).trans (V_main_arg4 m c)),
    (RDat.FramePost.arr_in h.1 c 11 rfl).trans ((A_eq (noLaw m) c 11).trans (V_main_arg5 m c)),
    (RDat.FramePost.arr_in h.1 c 12 rfl).trans ((A_eq (noLaw m) c 12).trans (V_main_arg6 m c)),
    (RDat.FramePost.arr_in h.1 c 13 rfl).trans ((A_eq (noLaw m) c 13).trans (V_main_arg7 m c)),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    (RDat.FramePost.arr_in h.1 c 17 rfl).trans ((A_eq (noLaw m) c 17).trans (V_main_arg10 m c)),
    (RDat.FramePost.arr_in h.1 c 18 rfl).trans ((A_eq (noLaw m) c 18).trans (V_main_arg11 m c))⟩, h.2⟩) (run ρ (noLaw m))

end Cert.Mix
-- ==== Proof.MixFrames.lean ====
/- The frames of the branch's backward kernel: one run for both printed programs, which are the same text. -/
module

public import proofs.«01_k».proof.Defs
public import proofs.«01_k».proof.Proof.MixFrame
public import proofs.«01_k».proof.Proof.Gen.MixKernel
public import Idealize.ShloMosaic.Lib.Tactic

@[expose] public section

set_option maxRecDepth 65536

noncomputable section

namespace Cert.Mix

open Idealize.ShloMosaic Idealize.SL.Sem

/-- The idealized kernel ends with its arguments unchanged and nothing in flight. -/
theorem frame_ideal : Cert.quiescent_MixKernelIdeal := fun m ρ _ => frame_main (F := Ideal) (m := m) ρ

/-- The kernel's claim at machine arithmetic is the idealized text's at machine arithmetic: the two programs are the
    same text. -/
theorem kernel_eq : Cert.quiescent_MixKernel =
    ∀ (m : (ℓ : Loc MixKernelIdeal.nD MixKernelIdeal.τ MixKernelIdeal.sig) → Buf (Elt Bits) ℓ) (g : Dev MixKernelIdeal.nD → PrngReg), True →
      θ_run (MixKernelIdeal.defs (F := Bits)) (onTc (τ := MixKernelIdeal.τ) (MixKernelIdeal.main (F := Bits))) ⟨m, fun _ => 0, g⟩ fun r =>
        (∀ c : Dev MixKernelIdeal.nD, r.2.mem ((c.tc : Thread MixKernelIdeal.nD MixKernelIdeal.τ).loc MixKernelIdeal.main_arg0) = m ((c.tc : Thread MixKernelIdeal.nD MixKernelIdeal.τ).loc MixKernelIdeal.main_arg0) ∧ r.2.mem ((c.tc : Thread MixKernelIdeal.nD MixKernelIdeal.τ).loc MixKernelIdeal.main_arg1) = m ((c.tc : Thread MixKernelIdeal.nD MixKernelIdeal.τ).loc MixKernelIdeal.main_arg1) ∧ r.2.mem ((c.tc : Thread MixKernelIdeal.nD MixKernelIdeal.τ).loc MixKernelIdeal.main_arg2) = m ((c.tc : Thread MixKernelIdeal.nD MixKernelIdeal.τ).loc MixKernelIdeal.main_arg2) ∧ r.2.mem ((c.tc : Thread MixKernelIdeal.nD MixKernelIdeal.τ).loc MixKernelIdeal.main_arg3) = m ((c.tc : Thread MixKernelIdeal.nD MixKernelIdeal.τ).loc MixKernelIdeal.main_arg3) ∧ r.2.mem ((c.tc : Thread MixKernelIdeal.nD MixKernelIdeal.τ).loc MixKernelIdeal.main_arg4) = m ((c.tc : Thread MixKernelIdeal.nD MixKernelIdeal.τ).loc MixKernelIdeal.main_arg4) ∧ r.2.mem ((c.tc : Thread MixKernelIdeal.nD MixKernelIdeal.τ).loc MixKernelIdeal.main_arg5) = m ((c.tc : Thread MixKernelIdeal.nD MixKernelIdeal.τ).loc MixKernelIdeal.main_arg5) ∧ r.2.mem ((c.tc : Thread MixKernelIdeal.nD MixKernelIdeal.τ).loc MixKernelIdeal.main_arg6) = m ((c.tc : Thread MixKernelIdeal.nD MixKernelIdeal.τ).loc MixKernelIdeal.main_arg6) ∧ r.2.mem ((c.tc : Thread MixKernelIdeal.nD MixKernelIdeal.τ).loc MixKernelIdeal.main_arg7) = m ((c.tc : Thread MixKernelIdeal.nD MixKernelIdeal.τ).loc MixKernelIdeal.main_arg7) ∧ r.2.mem ((c.tc : Thread MixKernelIdeal.nD MixKernelIdeal.τ).loc MixKernelIdeal.main_arg8) = m ((c.tc : Thread MixKernelIdeal.nD MixKernelIdeal.τ).loc MixKernelIdeal.main_arg8) ∧ r.2.mem ((c.tc : Thread MixKernelIdeal.nD MixKernelIdeal.τ).loc MixKernelIdeal.main_arg9) = m ((c.tc : Thread MixKernelIdeal.nD MixKernelIdeal.τ).loc MixKernelIdeal.main_arg9) ∧ r.2.mem ((c.tc : Thread MixKernelIdeal.nD MixKernelIdeal.τ).loc MixKernelIdeal.main_arg10) = m ((c.tc : Thread MixKernelIdeal.nD MixKernelIdeal.τ).loc MixKernelIdeal.main_arg10) ∧ r.2.mem ((c.tc : Thread MixKernelIdeal.nD MixKernelIdeal.τ).loc MixKernelIdeal.main_arg11) = m ((c.tc : Thread MixKernelIdeal.nD MixKernelIdeal.τ).loc MixKernelIdeal.main_arg11)) ∧ r.2.sem = fun _ => 0 := by
  sl_kernel_rfl

/-- So does the kernel at machine arithmetic. -/
theorem frame_kernel : Cert.quiescent_MixKernel := kernel_eq.mpr fun m ρ _ => frame_main (F := Bits) (m := m) ρ

end Cert.Mix
-- ==== Proof.MixHost.lean ====
/- The host lines of the branch's backward call: the convolution that the forward saved, computed again, and the
   changes of layout of the weights. -/
module

public import proofs.«01_k».proof.Proof.MixFrame
public import proofs.«01_k».proof.Proof.MixTile
public import Idealize.ShloMosaic.Lib.Pipeline.ValueKit
public import Idealize.ShloMosaic.Lib.Pipeline.ReadBack

@[expose] public section
set_option maxRecDepth 65536
noncomputable section
namespace Cert.Mix
open Cert.MixKernelIdeal Cert.MixKernelIdeal.Gen Cert.RealLib Idealize.ShloMosaic Idealize.ShloMosaic.TcCoe Idealize.SL.Sem

/-- The logistic function's two forms. -/
theorem sig_eq (x : ℝ) : 1 / (1 + Real.exp (-x)) = sgR x := by
  unfold sgR
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add, add_neg_cancel, Real.exp_zero]
  have h3 := Real.exp_pos (1 / 2 * x)
  have h4 := Real.exp_pos (-(1 / 2 * x))
  rw [h1]
  generalize Real.exp (1 / 2 * x) = a at *
  generalize Real.exp (-(1 / 2 * x)) = b at *
  have h5 : (0 : ℝ) < 1 + b * b := by positivity
  have h6 : (0 : ℝ) < a + b := by positivity
  rw [div_eq_iff h5.ne']
  have h7 : (a - b) / 2 / ((a + b) / 2) = (a - b) / (a + b) := by field_simp
  rw [h7]
  have h8 : 1 / 2 * ((a - b) / (a + b)) + 1 / 2 = a / (a + b) := by field_simp; ring
  rw [h8, div_mul_eq_mul_div, eq_div_iff h6.ne']
  linear_combination (-b) * h2

/-- The gated linear unit of the two first column groups. -/
def glu3 (A : FVec Ideal S8192x6144 .bf16) : FVec Ideal S1x8192x1024 .f32 :=
  mulf (extf .f32 (broadcastInDim S1x8192x1024 ![1, 2] bcast_S8192x1024_S1x8192x1024_1_2 (extractStridedSlice S8192x1024 ![0, 0] A slices_S8192x6144_S8192x1024_0_0)) bitsLt_bf16_f32)
    (Host.divf (broadcastInDim S1x8192x1024 ![] bcast_S_S1x8192x1024 (constant S_ .f32 1065353216#32))
      (addf (broadcastInDim S1x8192x1024 ![] bcast_S_S1x8192x1024 (constant S_ .f32 1065353216#32))
        (Host.exp (Host.negf (extf .f32 (broadcastInDim S1x8192x1024 ![1, 2] bcast_S8192x1024_S1x8192x1024_1_2 (extractStridedSlice S8192x1024 ![0, 1024] A slices_S8192x6144_S8192x1024_0_1024)) bitsLt_bf16_f32)))))

/-- Its entries. -/
theorem glu3_at (P : ℕ → ℕ → ℝ) (r : Fin 8192) (d : Fin 1024) : glu3 (re2 P) (ix3 0 r d) = ((P r.val d.val * sgR (P r.val (1024 + d.val)) : ℝ) : EReal) := by
  generalize hA : (re2 P : FVec Ideal S8192x6144 .bf16) = A
  have h : glu3 A (ix3 0 r d) = A (ix2 r ⟨d.val, by omega⟩) * Ideal.div (Ideal.ofBits .f32 0x3F800000#32) (Ideal.ofBits .f32 0x3F800000#32 + Ideal.exp (-(A (ix2 r ⟨1024 + d.val, by omega⟩)))) := by
    pointwise [glu3]
  rw [h]
  subst hA
  rw [re2_ix, re2_ix, lit_one, ← EReal.coe_neg, Ideal.exp_coe, ← EReal.coe_add, div_coe_coe _ _ (by positivity), ← EReal.coe_mul, sig_eq]

/-- The same with fifteen rows of zeros before and after. -/
def gluPad (A : FVec Ideal S8192x6144 .bf16) : FVec Ideal S8222x1024 .f32 :=
  shapeCast S8222x1024 (pad S1x8222x1024 ![0, 15, 0] ![0, 15, 0] ![0, 0, 0] (glu3 A) (sitofp .f32 (constantI S_ 32 0#32)) pads_S1x8192x1024_S1x8222x1024_000_15150_000 h_S_)
    shapeCasts_S1x8222x1024_S8222x1024

/-- Its entries. -/
theorem gluPad_at (X : FVec Ideal S8192x6144 .bf16) (r : Fin 8222) (d : Fin 1024) : gluPad X (ix2 r d) =
    if h : 15 ≤ r.val ∧ r.val < 8207 then glu3 X (ix3 0 ⟨r.val - 15, by omega⟩ d) else 0 := by
  unfold gluPad
  generalize glu3 X = Y
  refine Eq.trans (b := if h : 15 ≤ r.val ∧ r.val - 15 < 8192 then Y (ix3 0 ⟨r.val - 15, h.2⟩ d) else FloatOps.sitofp (F := Ideal) .f32 0#32) ?_ ?_
  · pointwise []
  have h0 : (FloatOps.sitofp (F := Ideal) .f32 0#32) = 0 := sitofp_zero
  rw [h0]
  by_cases h : 15 ≤ r.val ∧ r.val < 8207
  · rw [dif_pos h, dif_pos ⟨h.1, by omega⟩]
  · rw [dif_neg h, dif_neg (by omega)]

/-- The row of window `j` at position `r`. -/
def tapIdx : IVec S8192x31x1 32 :=
  broadcastInDim S8192x31x1 ![0, 1] bcast_S8192x31_S8192x31x1_0_1
    (select (cmpi CmpIPredicate.slt (addi (iotaInDim S8192x31 32 0) (iotaInDim S8192x31 32 1)) (broadcastInDim S8192x31 ![] bcast_S_S8192x31 (constantI S_ 32 0#32)))
      (addi (addi (iotaInDim S8192x31 32 0) (iotaInDim S8192x31 32 1)) (broadcastInDim S8192x31 ![] bcast_S_S8192x31 (constantI S_ 32 8222#32)))
      (addi (iotaInDim S8192x31 32 0) (iotaInDim S8192x31 32 1)))

/-- Its entries. -/
theorem tapIdx_at (r : Fin 8192) (j : Fin 31) : tapIdx (ix3 r j 0) = BitVec.ofNat 32 (r.val + j.val) := by
  have h : tapIdx (ix3 r j 0) = Scalar.select (IntOp.cmpi .slt (IntOp.addi (BitVec.ofNat 32 r.val) (BitVec.ofNat 32 j.val)) 0#32)
      (IntOp.addi (IntOp.addi (BitVec.ofNat 32 r.val) (BitVec.ofNat 32 j.val)) 8222#32) (IntOp.addi (BitVec.ofNat 32 r.val) (BitVec.ofNat 32 j.val)) := by
    pointwise [tapIdx]
  have ha : IntOp.addi (BitVec.ofNat 32 r.val) (BitVec.ofNat 32 j.val) = BitVec.ofNat 32 (r.val + j.val) := (BitVec.ofNat_add _ _).symm
  rw [h, ha, show (0#32 : BitVec 32) = BitVec.ofNat 32 0 from rfl, WordCmp.cmpi_slt_ofNat (by omega) (by omega)]
  simp [Scalar.select]

/-- The windows' gather at an index. -/
theorem gather_at (x : FVec Ideal S8222x1024 .f32) (idx : IVec S8192x31x1 32) (r : Fin 8192) (j : Fin 31) (d : Fin 1024) :
    Host.gather gather_S8222x1024_S8192x31x1_S8192x31x1024_2_0_n_n_0_2_11024 x idx (ix3 r j d)
      = x (ix2 ⟨min (idx (ix3 r j 0)).toInt.toNat 8221, by omega⟩ d) := by
  unfold Host.gather
  congr 1
  funext a
  refine Fin.ext ?_
  match a with
  | ⟨0, _⟩ =>
    have hsi : (gather_S8222x1024_S8192x31x1_S8192x31x1024_2_0_n_n_0_2_11024).siIdx (ix3 r j d) ⟨0, by decide⟩ = ix3 r j 0 := by
      funext b; refine Fin.ext ?_
      match b with
      | ⟨0, _⟩ => rfl
      | ⟨1, _⟩ => rfl
      | ⟨2, _⟩ => rfl
    show min (idx ((gather_S8222x1024_S8192x31x1_S8192x31x1024_2_0_n_n_0_2_11024).siIdx (ix3 r j d) ⟨0, by decide⟩)).toInt.toNat 8221 + 0 + 0 = _
    rw [hsi]
    rfl
  | ⟨1, _⟩ =>
    show 0 + 0 + d.val = d.val
    omega

/-- The padded unit at row `n` of the padded array. -/
def gluP (P : ℕ → ℕ → ℝ) (n d : ℕ) : ℝ := if 15 ≤ n ∧ n < 8207 then P (n - 15) d * sgR (P (n - 15) (1024 + d)) else 0

/-- The convolution as the host computes it. -/
def convR (P w : ℕ → ℕ → ℝ) (b : ℕ → ℝ) (n d : ℕ) : ℝ := ∑ j : Fin 31, gluP P (n + j.val) d * w j.val d + b d

/-- The host's lines for it. -/
def cvOf (A : FVec Ideal S8192x6144 .bf16) (W : FVec Ideal S1x31x1024 .f32) (B : FVec Ideal S1x1024 .f32) : FVec Ideal S8192x1024 .f32 :=
  addf (Host.reduceAdd (mulf (Host.gather gather_S8222x1024_S8192x31x1_S8192x31x1024_2_0_n_n_0_2_11024 (gluPad A) tapIdx)
      (broadcastInDim S8192x31x1024 ![0, 1, 2] bcast_S1x31x1024_S8192x31x1024_0_1_2 (broadcastInDim S1x31x1024 ![1, 2] bcast_S31x1024_S1x31x1024_1_2
        (shapeCast S31x1024 W shapeCasts_S1x31x1024_S31x1024)))) (constant S_ .f32 0#32) reducesTo_S8192x31x1024_S8192x1024_d1 h_S_)
    (broadcastInDim S8192x1024 ![0, 1] bcast_S1x1024_S8192x1024_0_1 (broadcastInDim S1x1024 ![1] bcast_S1024_S1x1024_1 (shapeCast S1024 B shapeCasts_S1x1024_S1024)))

/-- They compute it. -/
theorem cvOf_re (P : ℕ → ℕ → ℝ) (w : ℕ → ℕ → ℕ → ℝ) (b : ℕ → ℕ → ℝ) : cvOf (re2 P) (re3 w) (re2 b) = re2 (convR P (w 0) (b 0)) := by
  refine ext2 fun r d => ?_
  have hg : ∀ j : Fin 31, Host.gather gather_S8222x1024_S8192x31x1_S8192x31x1024_2_0_n_n_0_2_11024 (gluPad (re2 P)) tapIdx (ix3 r j d) = ((gluP P (r.val + j.val) d.val : ℝ) : EReal) := by
    intro j
    have hm : min (tapIdx (ix3 r j 0)).toInt.toNat 8221 = r.val + j.val := by
      rw [tapIdx_at, WordCmp.toInt_ofNat_of_lt (by omega)]
      omega
    rw [gather_at, gluPad_at]
    simp only [hm]
    unfold gluP
    by_cases h : 15 ≤ r.val + j.val ∧ r.val + j.val < 8207
    · rw [dif_pos h, if_pos h, glu3_at]
    · rw [dif_neg h, if_neg h]
      rfl
  unfold cvOf
  generalize Host.gather gather_S8222x1024_S8192x31x1_S8192x31x1024_2_0_n_n_0_2_11024 (gluPad (re2 P)) tapIdx = G at hg ⊢
  generalize hW : (re3 w : FVec Ideal S1x31x1024 .f32) = W
  generalize hB : (re2 b : FVec Ideal S1x1024 .f32) = B
  refine Eq.trans (b := ∑ j : Fin 31, G (ix3 r j d) * W (ix3 0 j d) + B (ix2 0 d)) ?_ ?_
  · pointwise []
  · subst hW hB
    simp only [hg, re3_ix, re2_ix, ← EReal.coe_mul]
    rw [coe_sum, ← EReal.coe_add]
    rfl

variable (m : (ℓ : Loc nD τ sig) → Buf (Elt Ideal) ℓ) (c : Dev nD)

/-- The convolution as the call finds it. -/
theorem V40 : V m c main_v40 = cvOf (m (c, Proc.tc.devRef main_arg0)) (m (c, Proc.tc.devRef main_arg2)) (m (c, Proc.tc.devRef main_arg3)) := by
  unfold_abbrev_sides
  simp only [hostOps0, hostOps0_1, hostOps0_2, List.flatten_cons, List.flatten_nil, List.append_nil, List.cons_append, List.nil_append]
  after_results_simp
  rfl

/-- The weights by column group, as the call finds them. -/
theorem V6 (w : ℕ → ℕ → ℕ → ℝ) (h : m (c, Proc.tc.devRef main_arg2) = (re3 w : FVec Ideal S1x31x1024 .f32)) :
    V m c main_v6 = (re3 fun s j d => w 0 j (256 * s + d) : FVec Ideal S4x31x256 .f32) := by
  refine ext3 fun s j d => ?_
  unfold_abbrev_sides
  simp only [hostOps0, hostOps0_1, hostOps0_2, List.flatten_cons, List.flatten_nil, List.append_nil, List.cons_append, List.nil_append]
  after_results_simp
  rw [h]
  generalize hW : (re3 w : FVec Ideal S1x31x1024 .f32) = W
  refine Eq.trans (b := W (ix3 0 j ⟨s.val * 256 + d.val, by omega⟩)) ?_ (by subst hW; rw [re3_ix, Nat.mul_comm 256]; rfl)
  pointwise []

/-- The mixing weights. -/
theorem V0 (w : ℕ → ℕ → ℕ → ℕ → ℝ) (h : ∀ (a : Fin 8) (p q : Fin 128), m (c, Proc.tc.devRef main_arg8) (ix4 0 a p q) = ((w 0 a.val p.val q.val : ℝ) : EReal)) :
    V m c main_v0 = (re3 fun a p q => w 0 a p q : FVec Ideal S8x128x128 .f32) := by
  refine ext3 fun a p q => ?_
  unfold_abbrev_sides
  simp only [hostOps0, hostOps0_1, hostOps0_2, List.flatten_cons, List.flatten_nil, List.append_nil, List.cons_append, List.nil_append]
  after_results_simp
  refine Eq.trans ?_ (h a p q)
  pointwise []

/-- The mixing weights transposed. -/
theorem V1 (w : ℕ → ℕ → ℕ → ℕ → ℝ) (h : ∀ (a : Fin 8) (p q : Fin 128), m (c, Proc.tc.devRef main_arg8) (ix4 0 a p q) = ((w 0 a.val p.val q.val : ℝ) : EReal)) :
    V m c main_v1 = (re3 fun a p q => w 0 a q p : FVec Ideal S8x128x128 .f32) := by
  refine ext3 fun a p q => ?_
  unfold_abbrev_sides
  simp only [hostOps0, hostOps0_1, hostOps0_2, List.flatten_cons, List.flatten_nil, List.append_nil, List.cons_append, List.nil_append]
  after_results_simp
  refine Eq.trans ?_ (h a q p)
  pointwise []

/-- The mixing biases transposed. -/
theorem V3 (b : ℕ → ℕ → ℕ → ℝ) (h : m (c, Proc.tc.devRef main_arg9) = (re3 b : FVec Ideal S1x8x128 .f32)) :
    V m c main_v3 = (re2 fun p a => b 0 a p : FVec Ideal S128x8 .f32) := by
  refine ext2 fun p a => ?_
  unfold_abbrev_sides
  simp only [hostOps0, hostOps0_1, hostOps0_2, List.flatten_cons, List.flatten_nil, List.append_nil, List.cons_append, List.nil_append]
  after_results_simp
  rw [h]
  generalize hB : (re3 b : FVec Ideal S1x8x128 .f32) = B
  refine Eq.trans (b := B (ix3 0 a p)) ?_ (by subst hB; rfl)
  pointwise []

end Cert.Mix

end
-- ==== Proof.MixBlocks.lean ====
/- What the windows on the inputs of the branch's backward call hold at each grid point. -/
module

public import proofs.«01_k».proof.Proof.MixHost

@[expose] public section

set_option maxRecDepth 65536

noncomputable section

namespace Cert.Mix

open Cert.MixKernelIdeal Cert.MixKernelIdeal.Gen Cert.RealLib Idealize.ShloMosaic Idealize.ShloMosaic.TcCoe Idealize.SL.Sem

theorem coords_val : ∀ t : Fin cfg0.N, (grid0.coords t 0).val = t.val := by decide +kernel
theorem lt32 (t : Fin cfg0.N) : t.val < 32 := t.isLt

/-! ## The windows' blocks -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![16 * t.val - 1, 2] := by decide +kernel
theorem idx4 : ∀ t : Fin cfg0.N, win0_4.index t = ![min (16 * t.val + 16) 511, 2] := by decide +kernel
theorem idx5 : ∀ t : Fin cfg0.N, win0_5.index t = ![16 * t.val - 1, 0] := by decide +kernel
theorem idx6 : ∀ t : Fin cfg0.N, win0_6.index t = ![min (16 * t.val + 16) 511, 0] := by decide +kernel
theorem idx7 : ∀ t : Fin cfg0.N, win0_7.index t = ![16 * t.val - 1, 0] := by decide +kernel
theorem idx8 : ∀ t : Fin cfg0.N, win0_8.index t = ![min (16 * t.val + 16) 511, 0] := by decide +kernel
theorem idx9 : ∀ t : Fin cfg0.N, win0_9.index t = ![0, 0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0, 0] := by decide +kernel
theorem idx15 : ∀ t : Fin cfg0.N, win0_15.index t = ![0, 0, 0] := by decide +kernel
theorem idx16 : ∀ t : Fin cfg0.N, win0_16.index t = ![0, 0] := by decide +kernel
theorem idx17 : ∀ t : Fin cfg0.N, win0_17.index t = ![0, 0] := by decide +kernel
theorem idx18 : ∀ t : Fin cfg0.N, win0_18.index t = ![0, 0] := by decide +kernel

variable (m : (ℓ : Loc nD τ sig) → Buf (Elt Ideal) ℓ) (c : Dev nD) (t : Fin cfg0.N)

/-! ## Each block, of an array of real entries -/

theorem blk0 (f : ℕ → ℕ → ℝ) (h : V m c main_arg0 = (re2 f : FVec Ideal S8192x6144 .bf16)) : iblk m c 0 t = (re2 fun r d => f (256 * t.val + r) (d) : FVec Ideal S256x6144 .bf16) := by
  have ht := lt32 t
  refine ext2 fun r d => Eq.trans (b := V m c main_arg0 (ix2 ⟨256 * t.val + r.val, by omega⟩ ⟨d.val, by omega⟩)) ?_ (by rw [h, re2_ix])
  generalize hV : V m c main_arg0 = X
  blk_ext [iblk, hV, idx0 t]
theorem blk1 (f : ℕ → ℕ → ℝ) (h : V m c main_arg1 = (re2 f : FVec Ideal S8192x2048 .bf16)) : iblk m c 1 t = (re2 fun r d => f (256 * t.val + r) (d) : FVec Ideal S256x2048 .bf16) := by
  have ht := lt32 t
  refine ext2 fun r d => Eq.trans (b := V m c main_arg1 (ix2 ⟨256 * t.val + r.val, by omega⟩ ⟨d.val, by omega⟩)) ?_ (by rw [h, re2_ix])
  generalize hV : V m c main_arg1 = X
  blk_ext [iblk, hV, idx1 t]
theorem blk2 (f : ℕ → ℕ → ℝ) (h : V m c main_v40 = (re2 f : FVec Ideal S8192x1024 .f32)) : iblk m c 2 t = (re2 fun r d => f (256 * t.val + r) (d) : FVec Ideal S256x1024 .f32) := by
  have ht := lt32 t
  refine ext2 fun r d => Eq.trans (b := V m c main_v40 (ix2 ⟨256 * t.val + r.val, by omega⟩ ⟨d.val, by omega⟩)) ?_ (by rw [h, re2_ix])
  generalize hV : V m c main_v40 = X
  blk_ext [iblk, hV, idx2 t]
theorem blk3 (f : ℕ → ℕ → ℝ) (h : V m c main_arg0 = (re2 f : FVec Ideal S8192x6144 .bf16)) : iblk m c 3 t = (re2 fun r d => f (16 * (16 * t.val - 1) + r) (2048 + d) : FVec Ideal S16x1024 .bf16) := by
  have ht := lt32 t
  refine ext2 fun r d => Eq.trans (b := V m c main_arg0 (ix2 ⟨16 * (16 * t.val - 1) + r.val, by omega⟩ ⟨2048 + d.val, by omega⟩)) ?_ (by rw [h, re2_ix])
  generalize hV : V m c main_arg0 = X
  blk_ext [iblk, hV, idx3 t]
theorem blk4 (f : ℕ → ℕ → ℝ) (h : V m c main_arg0 = (re2 f : FVec Ideal S8192x6144 .bf16)) : iblk m c 4 t = (re2 fun r d => f (16 * min (16 * t.val + 16) 511 + r) (2048 + d) : FVec Ideal S16x1024 .bf16) := by
  have ht := lt32 t
  refine ext2 fun r d => Eq.trans (b := V m c main_arg0 (ix2 ⟨16 * min (16 * t.val + 16) 511 + r.val, by omega⟩ ⟨2048 + d.val, by omega⟩)) ?_ (by rw [h, re2_ix])
  generalize hV : V m c main_arg0 = X
  blk_ext [iblk, hV, idx4 t]
theorem blk5 (f : ℕ → ℕ → ℝ) (h : V m c main_arg1 = (re2 f : FVec Ideal S8192x2048 .bf16)) : iblk m c 5 t = (re2 fun r d => f (16 * (16 * t.val - 1) + r) (d) : FVec Ideal S16x1024 .bf16) := by
  have ht := lt32 t
  refine ext2 fun r d => Eq.trans (b := V m c main_arg1 (ix2 ⟨16 * (16 * t.val - 1) + r.val, by omega⟩ ⟨d.val, by omega⟩)) ?_ (by rw [h, re2_ix])
  generalize hV : V m c main_arg1 = X
  blk_ext [iblk, hV, idx5 t]
theorem blk6 (f : ℕ → ℕ → ℝ) (h : V m c main_arg1 = (re2 f : FVec Ideal S8192x2048 .bf16)) : iblk m c 6 t = (re2 fun r d => f (16 * min (16 * t.val + 16) 511 + r) (d) : FVec Ideal S16x1024 .bf16) := by
  have ht := lt32 t
  refine ext2 fun r d => Eq.trans (b := V m c main_arg1 (ix2 ⟨16 * min (16 * t.val + 16) 511 + r.val, by omega⟩ ⟨d.val, by omega⟩)) ?_ (by rw [h, re2_ix])
  generalize hV : V m c main_arg1 = X
  blk_ext [iblk, hV, idx6 t]
theorem blk7 (f : ℕ → ℕ → ℝ) (h : V m c main_v40 = (re2 f : FVec Ideal S8192x1024 .f32)) : iblk m c 7 t = (re2 fun r d => f (16 * (16 * t.val - 1) + r) (d) : FVec Ideal S16x1024 .f32) := by
  have ht := lt32 t
  refine ext2 fun r d => Eq.trans (b := V m c main_v40 (ix2 ⟨16 * (16 * t.val - 1) + r.val, by omega⟩ ⟨d.val, by omega⟩)) ?_ (by rw [h, re2_ix])
  generalize hV : V m c main_v40 = X
  blk_ext [iblk, hV, idx7 t]
theorem blk8 (f : ℕ → ℕ → ℝ) (h : V m c main_v40 = (re2 f : FVec Ideal S8192x1024 .f32)) : iblk m c 8 t = (re2 fun r d => f (16 * min (16 * t.val + 16) 511 + r) (d) : FVec Ideal S16x1024 .f32) := by
  have ht := lt32 t
  refine ext2 fun r d => Eq.trans (b := V m c main_v40 (ix2 ⟨16 * min (16 * t.val + 16) 511 + r.val, by omega⟩ ⟨d.val, by omega⟩)) ?_ (by rw [h, re2_ix])
  generalize hV : V m c main_v40 = X
  blk_ext [iblk, hV, idx8 t]
theorem blk9 (f : ℕ → ℕ → ℕ → ℝ) (h : V m c main_v6 = (re3 f : FVec Ideal S4x31x256 .f32)) : iblk m c 9 t = (re3 f : FVec Ideal S4x31x256 .f32) := by
  refine ext3 fun a r d => Eq.trans (b := V m c main_v6 (ix3 a r d)) ?_ (by rw [h, re3_ix])
  generalize hV : V m c main_v6 = X
  blk_ext [iblk, hV, idx9 t]
theorem blk10 (f : ℕ → ℕ → ℝ) (h : V m c main_arg4 = (re2 f : FVec Ideal S1x1024 .f32)) : iblk m c 10 t = (re2 fun r d => f (r) (d) : FVec Ideal S1x1024 .f32) := by
  have ht := lt32 t
  refine ext2 fun r d => Eq.trans (b := V m c main_arg4 (ix2 ⟨r.val, by omega⟩ ⟨d.val, by omega⟩)) ?_ (by rw [h, re2_ix])
  generalize hV : V m c main_arg4 = X
  blk_ext [iblk, hV, idx10 t]
theorem blk11 (f : ℕ → ℕ → ℝ) (h : V m c main_arg5 = (re2 f : FVec Ideal S1x1024 .f32)) : iblk m c 11 t = (re2 fun r d => f (r) (d) : FVec Ideal S1x1024 .f32) := by
  have ht := lt32 t
  refine ext2 fun r d => Eq.trans (b := V m c main_arg5 (ix2 ⟨r.val, by omega⟩ ⟨d.val, by omega⟩)) ?_ (by rw [h, re2_ix])
  generalize hV : V m c main_arg5 = X
  blk_ext [iblk, hV, idx11 t]
theorem blk12 (f : ℕ → ℕ → ℝ) (h : V m c main_arg6 = (re2 f : FVec Ideal S1x1024 .f32)) : iblk m c 12 t = (re2 fun r d => f (r) (d) : FVec Ideal S1x1024 .f32) := by
  have ht := lt32 t
  refine ext2 fun r d => Eq.trans (b := V m c main_arg6 (ix2 ⟨r.val, by omega⟩ ⟨d.val, by omega⟩)) ?_ (by rw [h, re2_ix])
  generalize hV : V m c main_arg6 = X
  blk_ext [iblk, hV, idx12 t]
theorem blk13 (f : ℕ → ℕ → ℝ) (h : V m c main_arg7 = (re2 f : FVec Ideal S1x1024 .f32)) : iblk m c 13 t = (re2 fun r d => f (r) (d) : FVec Ideal S1x1024 .f32) := by
  have ht := lt32 t
  refine ext2 fun r d => Eq.trans (b := V m c main_arg7 (ix2 ⟨r.val, by omega⟩ ⟨d.val, by omega⟩)) ?_ (by rw [h, re2_ix])
  generalize hV : V m c main_arg7 = X
  blk_ext [iblk, hV, idx13 t]
theorem blk14 (f : ℕ → ℕ → ℕ → ℝ) (h : V m c main_v0 = (re3 f : FVec Ideal S8x128x128 .f32)) : iblk m c 14 t = (re3 f : FVec Ideal S8x128x128 .f32) := by
  refine ext3 fun a r d => Eq.trans (b := V m c main_v0 (ix3 a r d)) ?_ (by rw [h, re3_ix])
  generalize hV : V m c main_v0 = X
  blk_ext [iblk, hV, idx14 t]
theorem blk15 (f : ℕ → ℕ → ℕ → ℝ) (h : V m c main_v1 = (re3 f : FVec Ideal S8x128x128 .f32)) : iblk m c 15 t = (re3 f : FVec Ideal S8x128x128 .f32) := by
  refine ext3 fun a r d => Eq.trans (b := V m c main_v1 (ix3 a r d)) ?_ (by rw [h, re3_ix])
  generalize hV : V m c main_v1 = X
  blk_ext [iblk, hV, idx15 t]
theorem blk16 (f : ℕ → ℕ → ℝ) (h : V m c main_v3 = (re2 f : FVec Ideal S128x8 .f32)) : iblk m c 16 t = (re2 fun r d => f (r) (d) : FVec Ideal S128x8 .f32) := by
  have ht := lt32 t
  refine ext2 fun r d => Eq.trans (b := V m c main_v3 (ix2 ⟨r.val, by omega⟩ ⟨d.val, by omega⟩)) ?_ (by rw [h, re2_ix])
  generalize hV : V m c main_v3 = X
  blk_ext [iblk, hV, idx16 t]
theorem blk17 (f : ℕ → ℕ → EReal) (h : V m c main_arg10 = (ex2 f : FVec Ideal S8x1024 .f32)) : iblk m c 17 t = (ex2 fun r d => f (r) (d) : FVec Ideal S8x1024 .f32) := by
  have ht := lt32 t
  funext x
  obtain ⟨r, d, rfl⟩ : ∃ (r : Fin 8) (d : Fin 1024), x = ix2 r d := ⟨x 0, x 1, eq_ix2 x⟩
  refine Eq.trans (b := V m c main_arg10 (ix2 ⟨r.val, by omega⟩ ⟨d.val, by omega⟩)) ?_ (by rw [h, ex2_ix])
  generalize hV : V m c main_arg10 = X
  blk_ext [iblk, hV, idx17 t]
theorem blk18 (f : ℕ → ℕ → EReal) (h : V m c main_arg11 = (ex2 f : FVec Ideal S8x1024 .f32)) : iblk m c 18 t = (ex2 fun r d => f (r) (d) : FVec Ideal S8x1024 .f32) := by
  have ht := lt32 t
  funext x
  obtain ⟨r, d, rfl⟩ : ∃ (r : Fin 8) (d : Fin 1024), x = ix2 r d := ⟨x 0, x 1, eq_ix2 x⟩
  refine Eq.trans (b := V m c main_arg11 (ix2 ⟨r.val, by omega⟩ ⟨d.val, by omega⟩)) ?_ (by rw [h, ex2_ix])
  generalize hV : V m c main_arg11 = X
  blk_ext [iblk, hV, idx18 t]

/-! ## All of them -/

/-- The arguments as real numbers. -/
structure Args where
  proj : ℕ → ℕ → ℝ
  dy : ℕ → ℕ → ℝ
  w : ℕ → ℕ → ℕ → ℝ
  cb : ℕ → ℕ → ℝ
  clg : ℕ → ℕ → ℝ
  clb : ℕ → ℕ → ℝ
  slg : ℕ → ℕ → ℝ
  slb : ℕ → ℕ → ℝ
  ws : ℕ → ℕ → ℕ → ℕ → ℝ
  bs : ℕ → ℕ → ℕ → ℝ
  gf : ℕ → ℕ → EReal
  se : ℕ → ℕ → EReal

/-- The data of the specification: the convolution computed from the arguments. -/
def Args.dt (R : Args) : Dt where
  proj := R.proj
  dy := R.dy
  cv := convR R.proj (R.w 0) (R.cb 0)
  w := R.w 0
  clg := R.clg 0
  clb := R.clb 0
  slg := R.slg 0
  slb := R.slb 0
  ws := R.ws 0
  bs := R.bs 0
  gf := R.gf
  se := R.se

/-- The arguments of the program are these real numbers. -/
structure Args.In (R : Args) : Prop where
  proj : m (c, Proc.tc.devRef main_arg0) = (re2 R.proj : FVec Ideal S8192x6144 .bf16)
  dy : m (c, Proc.tc.devRef main_arg1) = (re2 R.dy : FVec Ideal S8192x2048 .bf16)
  w : m (c, Proc.tc.devRef main_arg2) = (re3 R.w : FVec Ideal S1x31x1024 .f32)
  cb : m (c, Proc.tc.devRef main_arg3) = (re2 R.cb : FVec Ideal S1x1024 .f32)
  clg : m (c, Proc.tc.devRef main_arg4) = (re2 R.clg : FVec Ideal S1x1024 .f32)
  clb : m (c, Proc.tc.devRef main_arg5) = (re2 R.clb : FVec Ideal S1x1024 .f32)
  slg : m (c, Proc.tc.devRef main_arg6) = (re2 R.slg : FVec Ideal S1x1024 .f32)
  slb : m (c, Proc.tc.devRef main_arg7) = (re2 R.slb : FVec Ideal S1x1024 .f32)
  ws : ∀ (a : Fin 8) (p q : Fin 128), m (c, Proc.tc.devRef main_arg8) (ix4 0 a p q) = ((R.ws 0 a.val p.val q.val : ℝ) : EReal)
  bs : m (c, Proc.tc.devRef main_arg9) = (re3 R.bs : FVec Ideal S1x8x128 .f32)
  gf : m (c, Proc.tc.devRef main_arg10) = (ex2 R.gf : FVec Ideal S8x1024 .f32)
  se : m (c, Proc.tc.devRef main_arg11) = (ex2 R.se : FVec Ideal S8x1024 .f32)

set_option maxHeartbeats 4000000 in
/-- The windows on the inputs hold what the specification's step at `t` reads. -/
theorem ins {R : Args} (h : R.In m c) (dp small gws sh glu dgl dcv acc gcw gbs) :
    Ins R.dt t.val (stAt m c t dp small gws sh glu dgl dcv acc gcw gbs) := by
  have h40 : V m c main_v40 = (re2 R.dt.cv : FVec Ideal S8192x1024 .f32) := (V40 m c).trans (by rw [h.proj, h.w, h.cb]; exact cvOf_re _ _ _)
  have hp := (V_main_arg0 m c).trans h.proj
  have hd := (V_main_arg1 m c).trans h.dy
  have row1 : ∀ f : ℕ → ℕ → ℝ, (re2 f : FVec Ideal S1x1024 .f32) = re2 fun _ d => f 0 d := fun f => ext2 fun r d => by
    rw [re2_ix, Subsingleton.elim r 0]; rfl
  exact ⟨blk0 m c t _ hp, blk1 m c t _ hd, blk2 m c t _ h40, blk3 m c t _ hp, blk4 m c t _ hp, blk5 m c t _ hd, blk6 m c t _ hd, blk7 m c t _ h40,
    blk8 m c t _ h40, blk9 m c t _ (V6 m c _ h.w), (blk10 m c t _ ((V_main_arg4 m c).trans h.clg)).trans (row1 _), (blk11 m c t _ ((V_main_arg5 m c).trans h.clb)).trans (row1 _),
    (blk12 m c t _ ((V_main_arg6 m c).trans h.slg)).trans (row1 _), (blk13 m c t _ ((V_main_arg7 m c).trans h.slb)).trans (row1 _),
    blk14 m c t _ (V0 m c _ h.ws), blk15 m c t _ (V1 m c _ h.ws), blk16 m c t _ (V3 m c _ h.bs), blk17 m c t _ ((V_main_arg10 m c).trans h.gf), blk18 m c t _ ((V_main_arg11 m c).trans h.se)⟩

end Cert.Mix

end
-- ==== Proof.MixVals.lean ====
/- The values of the branch's backward call at ideal arithmetic, on arguments of real entries. -/
module

public import proofs.«01_k».proof.Proof.MixBlocks
public import proofs.«01_k».proof.Proof.MixTile

@[expose] public section

set_option maxRecDepth 65536

noncomputable section

namespace Cert.Mix

open Cert.MixKernelIdeal Cert.MixKernelIdeal.Gen Cert.RealLib Idealize.ShloMosaic Idealize.ShloMosaic.TcCoe Idealize.SL.Sem
open Idealize.ShloMosaic.Pipeline (Dat RDat)

variable {m : (ℓ : Loc nD τ sig) → Buf (Elt Ideal) ℓ} (ρ : Dev nD → PrngReg) {R : Dev nD → Args}

set_option maxHeartbeats 4000000 in
/-- What the body changes of the contents at a point. -/
theorem setAll_stAt (c : Dev nD) (t : Fin cfg0.N) (dp small gws sh glu dgl dcv acc gcw gbs dp' small' gws' sh' glu' dgl' dcv' acc' gcw' gbs') :
    (stAt m c t dp small gws sh glu dgl dcv acc gcw gbs).setAll dp' small' gws' sh' glu' dgl' dcv' acc' gcw' gbs' = stAt m c t dp' small' gws' sh' glu' dgl' dcv' acc' gcw' gbs' := rfl

/-- The law of the values: the running sums are those of the points so far. -/
def valLaw (h : ∀ c, (R c).In m c) : Law m where
  sums c n acc gcw gbs := acc = re2 ((R c).dt.accT n) ∧ gcw = re2 ((R c).dt.gcwT n) ∧ gbs = re2 ((R c).dt.gbsT n)
  gws c n g := g = re3 ((R c).dt.gwsT n)
  dp c t X := X = re2 fun r d => (R c).dt.dp (256 * t.val + r) d
  small c t X := t.val = 31 → X = ex2 (R c).dt.small
  step c M t S hS hs := by
    obtain ⟨dp, small, gws, sh, glu, dgl, dcv, acc, gcw, gbs, rfl⟩ := hS
    have e := coords_val t
    refine (body_reach (R c).dt (grid0.coords t) _).mono ?_
    rintro _ S' ⟨dp', small', gws', sh', glu', dgl', dcv', acc', gcw', gbs', hS', H⟩
    rw [e] at H
    rw [setAll_stAt] at hS'
    obtain ⟨⟨h1, h2, h3, h4⟩, h5, h6⟩ := H (ins m c t (h c) dp small gws sh glu dgl dcv acc gcw gbs)
      fun ht => ⟨(hs ht).1.1, (hs ht).1.2.1, (hs ht).1.2.2, (hs ht).2⟩
    subst hS'
    exact ⟨⟨_, _, _, _, _, _, _, _, _, _, rfl⟩, ⟨h1, h2, h3⟩, h4, h5, h6⟩

/-- The last point. -/
def last : Fin cfg0.N := ⟨31, by decide⟩

theorem idx20 (t : Fin cfg0.N) : win0_20.index t = ![t.val, 0] := by revert t; decide +kernel

section Arrays

variable (h : ∀ c, (R c).In m c) (c : Dev nD) (after : (w : Fin cfg0.W) → Fin cfg0.N → (cfg0.win w).block.Idx → Elt Ideal (cfg0.win w).elt)
  (hL : ∀ w u, (cfg0.win w).flush u = true → ((dats (valLaw h) 0 c).toRRel marks (left (valLaw h) c)).Leaves w u (after w u))

include hL

/-- The gradient at the projection, as the tiles leave it. -/
theorem arr20 : (((dats (valLaw h) 0 c).toRRel marks (left (valLaw h) c)).withAfter after).arrAt 20 cfg0.N = re2 (R c).dt.dp := by
  refine Dat.arrAt_eq_of_covers _ 20 _ (by decide +kernel) fun p hf k => ?_
  have e1 : after 20 p = re2 fun r d => (R c).dt.dp (256 * p.val + r) d := (dats (valLaw h) 0 c).toRRel_leaves rfl (hL 20 p hf)
  obtain ⟨r, d, rfl⟩ : ∃ (r : Fin 256) (d : Fin 6144), k = ix2 r d := ⟨k 0, k 1, eq_ix2 k⟩
  have hp : p.val < 32 := lt32 p
  have e : (win0_20.blk p).view.emb (ix2 r d) = ix2 ⟨256 * p.val + r.val, by omega⟩ d := by blk_ext [idx20 p]
  blk_simp
  rw [RDat.withAfter_after, e1, e]
  rfl

/-- The small results, written once after the last tile. -/
theorem arr21 : (((dats (valLaw h) 0 c).toRRel marks (left (valLaw h) c)).withAfter after).arrAt 21 cfg0.N = ex2 (R c).dt.small := by
  refine Dat.arrAt_eq_of_after_last _ 21 last (by decide +kernel) _ fun k => ?_
  have e1 : after 21 last = ex2 (R c).dt.small := (dats (valLaw h) 0 c).toRRel_leaves rfl (hL 21 last ((flush0_21 _).2 rfl)) rfl
  obtain ⟨r, d, rfl⟩ : ∃ (r : Fin 40) (d : Fin 1024), k = ix2 r d := ⟨k 0, k 1, eq_ix2 k⟩
  blk_simp
  rw [RDat.withAfter_after, e1]

/-- The gradient of the gating weights, written once after the last tile. -/
theorem arr22 : (((dats (valLaw h) 0 c).toRRel marks (left (valLaw h) c)).withAfter after).arrAt 22 cfg0.N = re3 ((R c).dt.gwsT 32) := by
  refine Dat.arrAt_eq_of_after_last _ 22 last (by decide +kernel) _ fun k => ?_
  have e1 : after 22 last = re3 ((R c).dt.gwsT 32) := (dats (valLaw h) 0 c).toRRel_leaves rfl (hL 22 last ((flush0_22 _).2 rfl))
  obtain ⟨r, d, e, rfl⟩ : ∃ (r : Fin 8) (d e : Fin 128), k = ix3 r d e := ⟨k 0, k 1, k 2, eq_ix3 k⟩
  blk_simp
  rw [RDat.withAfter_after, e1]

end Arrays

set_option maxHeartbeats 4000000 in
/-- The call's three results on arguments of real entries. -/
theorem kernel_run (h : ∀ c, (R c).In m c) : θ_run (defs (F := Ideal)) (onTc (τ := τ) main) (s₀ m ρ) fun r => (∀ c : Dev nD,
    r.2.mem ((c : Thread nD τ).loc main_v42_0) = re2 (R c).dt.dp
    ∧ r.2.mem ((c : Thread nD τ).loc main_v42_1) = ex2 (R c).dt.small
    ∧ r.2.mem ((c : Thread nD τ).loc main_v42_2) = re3 ((R c).dt.gwsT 32)) := by
  refine (θ_run defs _ _).mono (fun r hr c => ?_) (run ρ (valLaw h))
  obtain ⟨after, hL, hA⟩ := RDat.FramePost.exists_exact hr.1 c
  exact ⟨(hA 20).trans (arr20 h c after hL), (hA 21).trans (arr21 h c after hL), (hA 22).trans (arr22 h c after hL)⟩

end Cert.Mix

end
-- ==== Proof.MixSums.lean ====
/-
  The specification's sums, gathered tile by tile, as sums over all positions; the taps of the convolution as a product
  with zeros and ones; and the gradient of the norm as the chain rule gives it.
-/
module

public import proofs.«01_k».proof.Proof.MixHost
public import proofs.«01_k».proof.Proof.MixBlocks

@[expose] public section

noncomputable section

namespace Cert.Mix

open Cert.RealLib Idealize.ShloMosaic

/-! ### Sums over tiles -/

/-- A sum over `a` blocks of `b`. -/
theorem sum_blocks (a b : ℕ) (f : ℕ → ℝ) : ∑ u ∈ Finset.range a, ∑ i ∈ Finset.range b, f (b * u + i) = ∑ n ∈ Finset.range (a * b), f n := by
  induction a with
  | zero => simp
  | succ a ih => rw [Finset.sum_range_succ, ih, Nat.succ_mul, Finset.sum_range_add]; simp only [mul_comm]

/-- The five kept sums: eight rows, tiles of 256, every eighth position. -/
theorem sum_acc (f : ℕ → ℝ) : ∑ s : Fin 8, ∑ u ∈ Finset.range 32, ∑ i : Fin 32, f (256 * u + 8 * i.val + s.val) = ∑ n : Fin 8192, f n.val := by
  rw [Fin.sum_univ_eq_sum_range f, show (8192 : ℕ) = 32 * 256 from rfl, ← sum_blocks, Finset.sum_comm]
  refine Finset.sum_congr rfl fun u _ => ?_
  rw [show (256 : ℕ) = 32 * 8 from rfl, ← sum_blocks 32 8 fun n => f (32 * 8 * u + n), Finset.sum_comm,
    Fin.sum_univ_eq_sum_range fun i => ∑ s : Fin 8, f (32 * 8 * u + 8 * i + s.val)]
  refine Finset.sum_congr rfl fun i _ => ?_
  rw [Fin.sum_univ_eq_sum_range fun s => f (32 * 8 * u + 8 * i + s)]
  exact Finset.sum_congr rfl fun s _ => by rw [add_assoc]

/-- The sums of the convolution weight's gradient: the tile in four quarters. -/
theorem sum_gcw (f : ℕ → ℝ) : ∑ s : Fin 8, ∑ u ∈ Finset.range 32, ∑ k ∈ Finset.range 4, ∑ i : Fin 8, f (256 * u + 64 * k + (8 * i.val + s.val))
    = ∑ n : Fin 8192, f n.val := by
  rw [Fin.sum_univ_eq_sum_range f, show (8192 : ℕ) = 32 * 256 from rfl, ← sum_blocks, Finset.sum_comm]
  refine Finset.sum_congr rfl fun u _ => ?_
  rw [show (256 : ℕ) = 4 * 64 from rfl, ← sum_blocks 4 64 fun n => f (4 * 64 * u + n), Finset.sum_comm]
  refine Finset.sum_congr rfl fun k _ => ?_
  rw [show (64 : ℕ) = 8 * 8 from rfl, ← sum_blocks 8 8 fun n => f (4 * (8 * 8) * u + (8 * 8 * k + n)), Finset.sum_comm,
    Fin.sum_univ_eq_sum_range fun i => ∑ s : Fin 8, f (4 * (8 * 8) * u + 8 * 8 * k + (8 * i + s.val))]
  refine Finset.sum_congr rfl fun i _ => ?_
  rw [Fin.sum_univ_eq_sum_range fun s => f (4 * (8 * 8) * u + 8 * 8 * k + (8 * i + s))]
  exact Finset.sum_congr rfl fun s _ => by rw [add_assoc]

/-- Two chunks of each of 32 tiles are 64 chunks. -/
theorem sum_chunks (h : ℕ → ℝ) : ∑ u ∈ Finset.range 32, (h (256 * u) + h (256 * u + 128)) = ∑ a : Fin 64, h (128 * a.val) := by
  rw [Fin.sum_univ_eq_sum_range fun a => h (128 * a), show (64 : ℕ) = 32 * 2 from rfl, ← sum_blocks]
  refine Finset.sum_congr rfl fun u _ => ?_
  rw [Finset.sum_range_succ, Finset.sum_range_one]
  congr 2 <;> ring

/-! ### The norm's gradient -/

theorem sum_center (v : ℕ → ℝ) : ∑ k : Fin 1024, (v k.val - mnR v) = 0 := by
  rw [Finset.sum_sub_distrib, Finset.sum_const, Finset.card_univ, Fintype.card_fin, nsmul_eq_mul]
  unfold mnR
  push_cast
  ring

/-- The chain rule through the centred row, its variance and its mean. -/
theorem lnG_eq (g v d : ℕ → ℝ) (c : ℕ) (s : ℝ)
    (hs : s = (∑ k : Fin 1024, (v k.val - mnR v) * (d k.val * g k.val)) * (-(1 / 2) * (rstdR v / (varR v + epsR))) / 1024) :
    d c * g c * rstdR v + (v c - mnR v) * s + s * (v c - mnR v)
      + (∑ k : Fin 1024, -(d k.val * g k.val * rstdR v + (v k.val - mnR v) * s + s * (v k.val - mnR v))) / 1024 = lnG g v d c := by
  have h2 : rstdR v * rstdR v = (varR v + epsR)⁻¹ := inv_sqrt_mul_self _ (varR_pos v)
  have e1 : ∑ k : Fin 1024, -(d k.val * g k.val * rstdR v + (v k.val - mnR v) * s + s * (v k.val - mnR v))
      = -(rstdR v * ∑ k : Fin 1024, d k.val * g k.val) := by
    have : ∀ k : Fin 1024, -(d k.val * g k.val * rstdR v + (v k.val - mnR v) * s + s * (v k.val - mnR v))
        = -(rstdR v) * (d k.val * g k.val) + (-(2 * s)) * (v k.val - mnR v) := fun k => by ring
    simp only [this]
    rw [Finset.sum_add_distrib, ← Finset.mul_sum, ← Finset.mul_sum, sum_center]
    ring
  have e2 : mnR (fun c => d c * g c * nhR v c) = rstdR v * (∑ k : Fin 1024, (v k.val - mnR v) * (d k.val * g k.val)) / 1024 := by
    unfold mnR
    rw [Finset.mul_sum]
    congr 1
    exact Finset.sum_congr rfl fun k _ => by unfold nhR mnR; ring
  rw [e1]
  unfold lnG
  rw [e2, hs, div_eq_mul_inv (rstdR v), ← h2]
  unfold nhR
  rw [show mnR (fun c => d c * g c) = (∑ k : Fin 1024, d k.val * g k.val) / 1024 from rfl]
  ring

/-! ### The taps -/

/-- One where position `t` is `k` taps after position `s - 15`. -/
def hot (s t k : ℕ) : ℝ := if t + 15 = s + k then 1 else 0

/-- A row of positions against the taps. -/
theorem sum_hot (f : ℕ → ℝ) (s k : ℕ) : ∑ t : Fin 8192, f t.val * hot s t.val k = if 15 ≤ s + k ∧ s + k < 8207 then f (s + k - 15) else 0 := by
  unfold hot
  simp only [mul_ite, mul_one, mul_zero]
  by_cases h : 15 ≤ s + k ∧ s + k < 8207
  · rw [if_pos h, Finset.sum_eq_single (⟨s + k - 15, by omega⟩ : Fin 8192)]
    · rw [if_pos (by show s + k - 15 + 15 = s + k; omega)]
    · intro b _ hb
      rw [if_neg fun e => hb (Fin.ext (by show b.val = s + k - 15; omega))]
    · simp
  · rw [if_neg h]
    refine Finset.sum_eq_zero fun b _ => if_neg fun e => h ⟨by omega, by have := b.isLt; omega⟩

/-- The same, summed over the other position. -/
theorem sum_hot' (f : ℕ → ℝ) (t k : ℕ) (hk : k < 31) : ∑ s : Fin 8192, f s.val * hot s.val t k = if 16 ≤ t + (30 - k) + 1 ∧ t + (30 - k) + 1 < 8208 then f (t + (30 - k) + 1 - 16) else 0 := by
  unfold hot
  simp only [mul_ite, mul_one, mul_zero]
  by_cases h : 16 ≤ t + (30 - k) + 1 ∧ t + (30 - k) + 1 < 8208
  · rw [if_pos h, Finset.sum_eq_single (⟨t + (30 - k) + 1 - 16, by omega⟩ : Fin 8192)]
    · rw [if_pos (by show t + 15 = t + (30 - k) + 1 - 16 + k; omega)]
    · intro b _ hb
      rw [if_neg fun e => hb (Fin.ext (by show b.val = t + (30 - k) + 1 - 16; omega))]
    · simp
  · rw [if_neg h]
    refine Finset.sum_eq_zero fun b _ => if_neg fun e => h ⟨by omega, by have := b.isLt; omega⟩

variable (R : Args)

/-- The gated linear unit shifted by a tap. -/
theorem gluP_hot (s k d : ℕ) : ∑ t : Fin 8192, R.dt.glu t.val d * hot s t.val k = gluP R.proj (s + k) d := sum_hot (fun n => R.dt.glu n d) s k

/-- The cotangent at the gated linear unit, from the taps. -/
theorem dglu_hot (t d : ℕ) : ∑ s : Fin 8192, ∑ k : Fin 31, R.dt.dcv s.val d * R.w 0 k.val d * hot s.val t k.val = R.dt.dglu t d := by
  have e : R.dt.dglu t d = ∑ k : Fin 31, (∑ s : Fin 8192, R.dt.dcv s.val d * hot s.val t k.val) * R.w 0 k.val d := by
    unfold Dt.dglu Dt.dgluN
    rw [← Finset.sum_range_reflect, ← Fin.sum_univ_eq_sum_range fun j => R.dt.dcvP (t + (31 - 1 - j) + 1) d * R.dt.w (30 - (31 - 1 - j)) d]
    refine Finset.sum_congr rfl fun k _ => ?_
    rw [sum_hot' (fun n => R.dt.dcv n d) t k.val k.isLt, show 30 - (31 - 1 - k.val) = k.val by omega]
    rfl
  rw [e, Finset.sum_comm]
  refine Finset.sum_congr rfl fun k _ => ?_
  rw [Finset.sum_mul]
  exact Finset.sum_congr rfl fun s _ => by ring

/-- The gradient of a tap's weight. -/
theorem gcw_hot (k d : ℕ) (hk : k < 31) : ∑ s : Fin 8192, gluP R.proj (s.val + k) d * R.dt.dcv s.val d
    = ∑ n : Fin 8192, R.dt.glu n.val d * R.dt.dcvP (n.val + (30 - k) + 1) d := by
  have e : ∀ n, R.dt.dcvP (n + (30 - k) + 1) d = ∑ s : Fin 8192, R.dt.dcv s.val d * hot s.val n k := fun n => (sum_hot' (fun n => R.dt.dcv n d) n k hk).symm
  simp only [e, ← gluP_hot, Finset.sum_mul, Finset.mul_sum]
  rw [Finset.sum_comm]
  exact Finset.sum_congr rfl fun s _ => Finset.sum_congr rfl fun t _ => by ring

/-! ### The rows of small results -/

/-- The five rows of kept sums. -/
theorem small_acc (a d : ℕ) (ha : a < 5) : R.dt.small (a + 1) d = ((∑ n : Fin 8192, R.dt.q a n.val d : ℝ) : EReal) := by
  unfold Dt.small
  rw [if_neg (by omega), if_pos (by omega)]
  refine congrArg _ (Eq.trans ?_ (sum_acc fun n => R.dt.q a n d))
  refine Finset.sum_congr rfl fun s _ => ?_
  unfold Dt.accT
  rw [show (8 * (a + 1 - 1) + s.val) / 8 = a by omega, show (8 * (a + 1 - 1) + s.val) % 8 = s.val by omega]

/-- The gradient of the gating bias. -/
theorem small_bias (d : ℕ) (hd : d < 1024) : R.dt.small 6 d = ((∑ a : Fin 64, ∑ k : Fin 128, R.dt.dmx (128 * a.val + d % 128) (128 * (d / 128) + k.val) : ℝ) : EReal) := by
  unfold Dt.small
  rw [if_neg (by omega), if_neg (by omega), if_pos rfl, Finset.sum_comm]
  refine congrArg _ (Finset.sum_congr rfl fun k _ => ?_)
  exact sum_chunks fun n => R.dt.dmx (n + d % 128) (128 * (d / 128) + k.val)

/-- The gradient of the convolution's weight. -/
theorem small_conv (k d : ℕ) (hk : k < 31) : R.dt.small (8 + k) d = ((∑ s : Fin 8192, gluP R.proj (s.val + k) d * R.dt.dcv s.val d : ℝ) : EReal) := by
  rw [gcw_hot R k d hk]
  unfold Dt.small
  rw [if_neg (by omega), if_neg (by omega), if_neg (by omega), if_neg (by omega), if_pos (by omega)]
  refine congrArg _ (Eq.trans ?_ (sum_gcw fun n => R.dt.glu n d * R.dt.dcvP (n + (30 - k) + 1) d))
  refine Finset.sum_congr rfl fun s _ => ?_
  unfold Dt.gcwT
  rw [show (8 * (38 - (8 + k)) + s.val) / 8 = 30 - k by omega, show (8 * (38 - (8 + k)) + s.val) % 8 = s.val by omega]

/-- The gradient of the gating weights. -/
theorem gws_sum (h p q : ℕ) : R.dt.gwsT 32 h p q
    = ∑ a : Fin 64, ∑ k : Fin 128, R.dt.dmx (128 * a.val + p) (128 * h + k.val) * R.dt.vn (128 * a.val + q) (128 * h + k.val) :=
  sum_chunks fun n => ∑ k : Fin 128, R.dt.dmx (n + p) (128 * h + k.val) * R.dt.vn (n + q) (128 * h + k.val)

/-! ### Host sums over several axes -/

/-- A host sum whose terms are listed by `e`. -/
theorem hostReduceAdd_list {s t : Shape} {axes : List (Fin s.rank)} (h : s.ReducesTo axes t) (x : s.Idx → EReal) (init : EReal) (j : t.Idx)
    {ι : Type} [Fintype ι] (e : ι → s.Idx) (he : Function.Injective e) (hj : ∀ i, h.drop i = j ↔ ∃ k, e k = i) :
    Ideal.hostReduceAdd h x init j = init + ∑ k, x (e k) := by
  classical
  unfold Ideal.hostReduceAdd
  rw [show Finset.univ.filter (fun i => h.drop i = j) = Finset.univ.image e from Finset.ext fun i => by simp [hj], Finset.sum_image fun a _ b _ hab => he hab]

/-- Over two axes of size one, the taps and the channels left. -/
theorem hostReduceAdd_taps (h : (⟨4, ![1, 1, 31, 1024]⟩ : Shape).ReducesTo [0, 1] ⟨2, ![31, 1024]⟩) (x : (⟨4, ![1, 1, 31, 1024]⟩ : Shape).Idx → EReal)
    (init : EReal) (k : Fin 31) (d : Fin 1024) : Ideal.hostReduceAdd h x init (ix2 k d) = init + x (ix4 0 0 k d) := by
  refine hostReduceAdd_one h x init _ _ fun i => ?_
  have h0 : (h.drop i 0 : Nat) = i 2 := Shape.ReducesTo.drop_apply_val h i 0
  have h1 : (h.drop i 1 : Nat) = i 3 := Shape.ReducesTo.drop_apply_val h i 1
  constructor
  · intro e
    rw [e] at h0 h1
    rw [eq_ix4 i, Subsingleton.elim (α := Fin 1) (i 0) 0, Subsingleton.elim (α := Fin 1) (i 1) 0, Fin.ext (a := i 2) (b := k) h0.symm, Fin.ext (a := i 3) (b := d) h1.symm]
  · rintro rfl
    rw [eq_ix2 (h.drop _), Fin.ext (a := h.drop (ix4 0 0 k d) 0) (b := k) h0, Fin.ext (a := h.drop (ix4 0 0 k d) 1) (b := d) h1]

/-- Over three axes of size one, the position in the chunk and the head left. -/
theorem hostReduceAdd_heads (h : (⟨5, ![1, 1, 128, 8, 1]⟩ : Shape).ReducesTo [0, 1, 4] ⟨2, ![128, 8]⟩) (x : (⟨5, ![1, 1, 128, 8, 1]⟩ : Shape).Idx → EReal)
    (init : EReal) (k : Fin 128) (d : Fin 8) : Ideal.hostReduceAdd h x init (ix2 k d) = init + x (ix5 0 0 k d 0) := by
  refine hostReduceAdd_one h x init _ _ fun i => ?_
  have h0 : (h.drop i 0 : Nat) = i 2 := Shape.ReducesTo.drop_apply_val h i 0
  have h1 : (h.drop i 1 : Nat) = i 3 := Shape.ReducesTo.drop_apply_val h i 1
  constructor
  · intro e
    rw [e] at h0 h1
    rw [eq_ix5 i, Subsingleton.elim (α := Fin 1) (i 0) 0, Subsingleton.elim (α := Fin 1) (i 1) 0, Subsingleton.elim (α := Fin 1) (i 4) 0,
      Fin.ext (a := i 2) (b := k) h0.symm, Fin.ext (a := i 3) (b := d) h1.symm]
  · rintro rfl
    rw [eq_ix2 (h.drop _), Fin.ext (a := h.drop (ix5 0 0 k d 0) 0) (b := k) h0, Fin.ext (a := h.drop (ix5 0 0 k d 0) 1) (b := d) h1]

/-- Over the chunks and a head's channels. -/
theorem hostReduceAdd_chunks (h : (⟨5, ![1, 64, 128, 8, 128]⟩ : Shape).ReducesTo [1, 4] ⟨3, ![1, 128, 8]⟩) (x : (⟨5, ![1, 64, 128, 8, 128]⟩ : Shape).Idx → EReal)
    (init : EReal) (p : Fin 128) (a : Fin 8) : Ideal.hostReduceAdd h x init (ix3 0 p a) = init + ∑ u : Fin 64, ∑ q : Fin 128, x (ix5 0 u p a q) := by
  rw [hostReduceAdd_list h x init (ix3 0 p a) (fun k : Fin 64 × Fin 128 => ix5 0 k.1 p a k.2) (fun k k' e => Prod.ext (congrFun e 1) (congrFun e 4)) fun i => ?_, Fintype.sum_prod_type]
  have h0 : (h.drop i 0 : Nat) = i 0 := Shape.ReducesTo.drop_apply_val h i 0
  have h1 : (h.drop i 1 : Nat) = i 2 := Shape.ReducesTo.drop_apply_val h i 1
  have h2 : (h.drop i 2 : Nat) = i 3 := Shape.ReducesTo.drop_apply_val h i 2
  constructor
  · intro e
    rw [e] at h1 h2
    refine ⟨(i 1, i 4), ?_⟩
    rw [eq_ix5 i, Subsingleton.elim (α := Fin 1) (i 0) 0, Fin.ext (a := i 2) (b := p) h1.symm, Fin.ext (a := i 3) (b := a) h2.symm]
    rfl
  · rintro ⟨k, rfl⟩
    rw [eq_ix3 (h.drop _), Subsingleton.elim (α := Fin 1) (h.drop _ 0) 0, Fin.ext (a := h.drop (ix5 0 k.1 p a k.2) 1) (b := p) h1, Fin.ext (a := h.drop (ix5 0 k.1 p a k.2) 2) (b := a) h2]

end Cert.Mix

end
-- ==== Proof.MixRef.lean ====
/-
  The reference of the branch's backward call, stage by stage on arguments of real entries: first the forward lines.
-/
module

public import proofs.«01_k».proof.Proof.MixSums
public import proofs.«01_k».proof.Proof.Gen.MixReferenceIdeal.Read

@[expose] public section

set_option maxRecDepth 65536

noncomputable section

namespace Cert.MixRef

open Cert.MixReferenceIdeal Cert.MixReferenceIdeal.Gen Cert.MixReferenceIdeal.Read Idealize.ShloMosaic
open Cert.RealLib Cert.Mix

variable {x0 : (⟨S8192x6144, .bf16⟩ : BufTy).Contents (Elt Ideal)} {x1 : (⟨S8192x2048, .bf16⟩ : BufTy).Contents (Elt Ideal)}
  {x2 : (⟨S1x31x1024, .f32⟩ : BufTy).Contents (Elt Ideal)} {x3 x4 x5 x6 x7 : (⟨S1x1024, .f32⟩ : BufTy).Contents (Elt Ideal)}
  {x8 : (⟨S1x8x128x128, .f32⟩ : BufTy).Contents (Elt Ideal)} {x9 : (⟨S1x8x128, .f32⟩ : BufTy).Contents (Elt Ideal)}
  {x10 x11 : (⟨S8x1024, .f32⟩ : BufTy).Contents (Elt Ideal)} {R : Args}

/-- The array of positions and channels holds the numbers `f n d`. -/
def At (X : (⟨S1x8192x1024, .f32⟩ : BufTy).Contents (Elt Ideal)) (f : ℕ → ℕ → ℝ) : Prop :=
  ∀ (n : Fin 8192) (d : Fin 1024), X (ix3 0 n d) = ((f n.val d.val : ℝ) : EReal)

/-- The arguments are these real numbers. -/
structure Real (R : Args) (x0 : (⟨S8192x6144, .bf16⟩ : BufTy).Contents (Elt Ideal)) (x1 : (⟨S8192x2048, .bf16⟩ : BufTy).Contents (Elt Ideal))
    (x2 : (⟨S1x31x1024, .f32⟩ : BufTy).Contents (Elt Ideal)) (x3 x4 x5 x6 x7 : (⟨S1x1024, .f32⟩ : BufTy).Contents (Elt Ideal))
    (x8 : (⟨S1x8x128x128, .f32⟩ : BufTy).Contents (Elt Ideal)) (x9 : (⟨S1x8x128, .f32⟩ : BufTy).Contents (Elt Ideal))
    (x10 x11 : (⟨S8x1024, .f32⟩ : BufTy).Contents (Elt Ideal)) : Prop where
  proj : ∀ (n : Fin 8192) (d : Fin 6144), x0 (ix2 n d) = ((R.proj n.val d.val : ℝ) : EReal)
  dy : ∀ (n : Fin 8192) (d : Fin 2048), x1 (ix2 n d) = ((R.dy n.val d.val : ℝ) : EReal)
  w : ∀ (k : Fin 31) (d : Fin 1024), x2 (ix3 0 k d) = ((R.w 0 k.val d.val : ℝ) : EReal)
  cb : ∀ d : Fin 1024, x3 (ix2 0 d) = ((R.cb 0 d.val : ℝ) : EReal)
  clg : ∀ d : Fin 1024, x4 (ix2 0 d) = ((R.clg 0 d.val : ℝ) : EReal)
  clb : ∀ d : Fin 1024, x5 (ix2 0 d) = ((R.clb 0 d.val : ℝ) : EReal)
  slg : ∀ d : Fin 1024, x6 (ix2 0 d) = ((R.slg 0 d.val : ℝ) : EReal)
  slb : ∀ d : Fin 1024, x7 (ix2 0 d) = ((R.slb 0 d.val : ℝ) : EReal)
  ws : ∀ (a : Fin 8) (p q : Fin 128), x8 (ix4 0 a p q) = ((R.ws 0 a.val p.val q.val : ℝ) : EReal)
  bs : ∀ (a : Fin 8) (p : Fin 128), x9 (ix3 0 a p) = ((R.bs 0 a.val p.val : ℝ) : EReal)
  gf : ∀ (n : Fin 8) (d : Fin 1024), x10 (ix2 n d) = R.gf n.val d.val
  se : ∀ (n : Fin 8) (d : Fin 1024), x11 (ix2 n d) = R.se n.val d.val

/-! ### Lines that occur several times -/

theorem sig_at (x : ℝ) : Ideal.div 1 (1 + Ideal.exp (-(x : EReal))) = ((sgR x : ℝ) : EReal) := by
  rw [← EReal.coe_one, ← EReal.coe_neg, Ideal.exp_coe, ← EReal.coe_add, div_coe_coe _ _ (by positivity), sig_eq]

/-- Arrays of positions and channels, and of one number per position. -/
abbrev A := FVec Ideal S1x8192x1024 .f32
abbrev K := FVec Ideal S1x8192x1 .f32

/-- The logistic function. -/
def sig (X : A) : A := Host.divf (broadcastInDim S1x8192x1024 ![] bcast_S_S1x8192x1024 (constant S_ .f32 0x3F800000#32))
  (addf (broadcastInDim S1x8192x1024 ![] bcast_S_S1x8192x1024 (constant S_ .f32 0x3F800000#32)) (Host.exp (Host.negf X)))
/-- The derivative of `x ↦ x σ(x)` times a cotangent. -/
def dsil (X C : A) : A := addf (mulf C (sig X)) (mulf (mulf X C) (mulf (sig X)
  (subf (broadcastInDim S1x8192x1024 ![] bcast_S_S1x8192x1024 (constant S_ .f32 0x3F800000#32)) (sig X))))
/-- The mean over the channels. -/
def mean (X : A) : K := Host.divf (broadcastInDim S1x8192x1 ![0, 1] bcast_S1x8192_S1x8192x1_0_1
    (Host.reduceAdd X (constant S_ .f32 0x00000000#32) reducesTo_S1x8192x1024_S1x8192_d2 h_S_))
  (broadcastInDim S1x8192x1 ![] bcast_S_S1x8192x1 (constant S_ .f32 0x44800000#32))
/-- The centred row. -/
def cen (X : A) : A := subf X (broadcastInDim S1x8192x1024 ![0, 1, 2] bcast_S1x8192x1_S1x8192x1024_0_1_2 (mean X))
/-- The variance plus the small constant, its reciprocal root, and the normalised row. -/
def var (X : A) : K := addf (mean (mulf (cen X) (cen X))) (broadcastInDim S1x8192x1 ![] bcast_S_S1x8192x1 (constant S_ .f32 0x358637BD#32))
def rs (X : A) : K := Host.rsqrt (var X)
def nh (X : A) : A := mulf (cen X) (broadcastInDim S1x8192x1024 ![0, 1, 2] bcast_S1x8192x1_S1x8192x1024_0_1_2 (rs X))
/-- A gain or bias in every row. -/
def row (g : FVec Ideal S1x1024 .f32) : A := broadcastInDim S1x8192x1024 ![0, 1, 2] bcast_S1x1x1024_S1x8192x1024_0_1_2
  (broadcastInDim S1x1x1024 ![2] bcast_S1024_S1x1x1024_2 (shapeCast S1024 g shapeCasts_S1x1024_S1024))
/-- The factor of the centred row in the gradient. -/
def fac (X D : A) : FVec Ideal S8192 .f32 := Host.reduceAdd (Host.divf (mulf (shapeCast S1x8192x1 (Host.reduceAdd (mulf (cen X) D) (constant S_ .f32 0x00000000#32)
    reducesTo_S1x8192x1024_S1x8192_d2 h_S_) shapeCasts_S1x8192_S1x8192x1)
    (mulf (broadcastInDim S1x8192x1 ![] bcast_S_S1x8192x1 (constant S_ .f32 0xBF000000#32)) (Host.divf (rs X) (var X))))
  (broadcastInDim S1x8192x1 ![] bcast_S_S1x8192x1 (constant S_ .f32 0x44800000#32))) (constant S_ .f32 0x00000000#32) reducesTo_S1x8192x1_S8192_d0_2 h_S_
/-- A number per position in every channel. -/
def col (x : FVec Ideal S8192 .f32) : A := broadcastInDim S1x8192x1024 ![0, 1] bcast_S1x8192_S1x8192x1024_0_1 (broadcastInDim S1x8192 ![1] bcast_S8192_S1x8192_1 x)
/-- The gradient at the centred row. -/
def bkc (X D : A) : A := addf (addf (mulf D (broadcastInDim S1x8192x1024 ![0, 1, 2] bcast_S1x8192x1_S1x8192x1024_0_1_2 (rs X))) (mulf (cen X) (col (fac X D))))
  (mulf (col (fac X D)) (cen X))
/-- The gradient at the row. -/
def bk (X D : A) : A := addf (bkc X D) (col (Host.reduceAdd (Host.divf (shapeCast S1x8192x1 (Host.reduceAdd (Host.negf (bkc X D)) (constant S_ .f32 0x00000000#32)
    reducesTo_S1x8192x1024_S1x8192_d2 h_S_) shapeCasts_S1x8192_S1x8192x1)
  (broadcastInDim S1x8192x1 ![] bcast_S_S1x8192x1 (constant S_ .f32 0x44800000#32))) (constant S_ .f32 0x00000000#32) reducesTo_S1x8192x1_S8192_d0_2 h_S_))
/-- The sum over the positions. -/
def tot (X : A) : FVec Ideal S1024 .f32 := Host.reduceAdd (shapeCast S1x1x1024 (Host.reduceAdd X (constant S_ .f32 0x00000000#32)
  reducesTo_S1x8192x1024_S1x1024_d1 h_S_) shapeCasts_S1x1024_S1x1x1024) (constant S_ .f32 0x00000000#32) reducesTo_S1x1x1024_S1024_d0_1 h_S_

section Lines

variable {X D : A} {f d : ℕ → ℕ → ℝ} (hX : At X f) (hD : At D d)

include hX

theorem At.get (n : Fin 8192) (c : Fin 1024) : X (ix3 0 n c) = ((f n.val c.val : ℝ) : EReal) := hX n c

theorem At.sig : At (sig X) fun n c => sgR (f n c) := fun n c => by
  pointwise [MixRef.sig]
  rw [hX]
  exact sig_at _

theorem At.sil : At (mulf X (MixRef.sig X)) fun n c => f n c * sgR (f n c) := fun n c => by
  have e := hX.sig n c
  pointwise []
  rw [hX, e, ← EReal.coe_mul]

theorem At.dsil (hD : At D d) : At (dsil X D) fun n c => d n c * dslR (f n c) := fun n c => by
  have e := hX.sig n c
  pointwise [MixRef.dsil]
  rw [hX, hD, e, ← EReal.coe_one, ← EReal.coe_sub, ← EReal.coe_mul, ← EReal.coe_mul, ← EReal.coe_mul, ← EReal.coe_mul, ← EReal.coe_add]
  congr 1
  unfold dslR
  ring

theorem At.mean (n : Fin 8192) : mean X (ix3 0 n 0) = ((mnR (f n.val) : ℝ) : EReal) := by
  pointwise [MixRef.mean]
  simp only [hX.get, lit_1024, coe_sum]
  rw [div_coe_coe _ _ (by norm_num)]
  rfl

theorem At.cen : At (cen X) fun n c => f n c - mnR (f n) := fun n c => by
  have e := At.mean hX n
  pointwise [MixRef.cen]
  rw [hX, e, ← EReal.coe_sub]

theorem At.var (n : Fin 8192) : var X (ix3 0 n 0) = ((varR (f n.val) + epsR : ℝ) : EReal) := by
  have e2 : At (mulf (MixRef.cen X) (MixRef.cen X)) fun n c => (f n c - mnR (f n)) * (f n c - mnR (f n)) := fun n c => by
    have e := hX.cen n c
    pointwise []
    rw [e, ← EReal.coe_mul]
  have e := At.mean e2 n
  pointwise [MixRef.var]
  rw [e, lit_eps, ← EReal.coe_add]
  rfl

theorem At.rs (n : Fin 8192) : rs X (ix3 0 n 0) = ((rstdR (f n.val) : ℝ) : EReal) := by
  have e := At.var hX n
  pointwise [MixRef.rs]
  rw [e, rsqrt_pos _ (varR_pos _)]
  rfl

theorem At.nh : At (nh X) fun n => nhR (f n) := fun n c => by
  have e := At.rs hX n
  have e1 := hX.cen n c
  pointwise [MixRef.nh]
  rw [e, e1, ← EReal.coe_mul]
  rfl

theorem At.tot (c : Fin 1024) : tot X (ix1 c) = ((∑ n : Fin 8192, f n.val c.val : ℝ) : EReal) := by
  unfold MixRef.tot
  pointwise []
  rw [hostReduceAdd_unit_01]
  pointwise []
  simp only [hX.get, coe_sum]

/-- The factor of the centred row. -/
def facR (f d : ℕ → ℕ → ℝ) (n : ℕ) : ℝ := (∑ k : Fin 1024, (f n k.val - mnR (f n)) * d n k.val) * (-(1 / 2) * (rstdR (f n) / (varR (f n) + epsR))) / 1024

theorem At.fac (hD : At D d) (n : Fin 8192) : fac X D (ix1 n) = ((facR f d n.val : ℝ) : EReal) := by
  unfold MixRef.fac
  pointwise []
  rw [hostReduceAdd_unit_02]
  pointwise []
  simp only [hX.cen.get, hD.get, At.rs hX, At.var hX, lit_1024, lit_neg_half, ← EReal.coe_mul, coe_sum]
  rw [div_coe_coe _ _ (varR_pos _).ne', ← EReal.coe_mul, ← EReal.coe_mul, div_coe_coe _ _ (by norm_num)]
  rfl

theorem At.bkc (hD : At D d) : At (bkc X D) fun n c => d n c * rstdR (f n) + (f n c - mnR (f n)) * facR f d n + facR f d n * (f n c - mnR (f n)) := fun n c => by
  have e := At.fac hX hD n
  pointwise [MixRef.bkc, MixRef.col]
  simp only [e, hX.cen.get, hD.get, At.rs hX, ← EReal.coe_mul, ← EReal.coe_add]

/-- The gradient through the norm, of the cotangent `d` times the gain. -/
theorem At.bk {g : ℕ → ℝ} (hD : At D fun n c => d n c * g c) : At (bk X D) fun n => lnG g (f n) (d n) := fun n c => by
  have e := At.bkc hX hD
  unfold MixRef.bk MixRef.col
  pointwise []
  rw [hostReduceAdd_unit_02]
  pointwise []
  simp only [e.get, lit_1024, ← EReal.coe_neg, coe_sum]
  rw [div_coe_coe _ _ (by norm_num), ← EReal.coe_add]
  congr 1
  exact lnG_eq g (f n.val) (d n.val) c.val _ rfl

end Lines

variable (h : Real R x0 x1 x2 x3 x4 x5 x6 x7 x8 x9 x10 x11)

include h

/-! ### The slices of the projection and of the cotangent -/

theorem v2 : At (val_main_v2 (F := Ideal) x0) R.proj := fun n d => by
  pointwise [val_main_v2, val_main_v1, val_main_v0]
  exact h.proj _ _
theorem v3 : At (val_main_v3 (F := Ideal) x0) fun n d => R.proj n (1024 + d) := fun n d => by
  pointwise [val_main_v3, val_main_v1, val_main_v0]
  exact h.proj _ _
theorem v4 : At (val_main_v4 (F := Ideal) x0) R.dt.gc := fun n d => by
  pointwise [val_main_v4, val_main_v1, val_main_v0]
  exact h.proj _ _
theorem v5 : At (val_main_v5 (F := Ideal) x0) fun n d => R.proj n (3072 + d) := fun n d => by
  pointwise [val_main_v5, val_main_v1, val_main_v0]
  exact h.proj _ _
theorem v6 : At (val_main_v6 (F := Ideal) x0) R.dt.v := fun n d => by
  pointwise [val_main_v6, val_main_v1, val_main_v0]
  exact h.proj _ _
theorem v7 : At (val_main_v7 (F := Ideal) x0) R.dt.gs := fun n d => by
  pointwise [val_main_v7, val_main_v1, val_main_v0]
  exact h.proj _ _
theorem v110 : At (val_main_v110 (F := Ideal) x1) R.dy := fun n d => by
  pointwise [val_main_v110, val_main_v109, val_main_v108]
  exact h.dy _ _
theorem v111 : At (val_main_v111 (F := Ideal) x1) fun n d => R.dy n (1024 + d) := fun n d => by
  pointwise [val_main_v111, val_main_v109, val_main_v108]
  exact h.dy _ _

/-! ### The gated linear unit and the convolution -/

theorem v17 : At (val_main_v17 (F := Ideal) x0) fun n d => sgR (R.proj n (1024 + d)) := (v3 h).sig
theorem v20 : At (val_main_v20 (F := Ideal) x0) fun n d => sgR (R.proj n (1024 + d)) * (1 - sgR (R.proj n (1024 + d))) := fun n d => by
  pointwise [val_main_v20, val_main_v19, val_main_v18, val_main_cst_1]
  rw [v17 h, ← EReal.coe_one, ← EReal.coe_sub, ← EReal.coe_mul]
theorem v21 : At (val_main_v21 (F := Ideal) x0) R.dt.glu := fun n d => by
  pointwise [val_main_v21]
  rw [v17 h, v2 h, ← EReal.coe_mul]
  rfl

end Cert.MixRef

end
-- ==== Proof.MixRefConv.lean ====
/-
  The reference of the branch's backward call: the convolution branch and its gradients.
-/
module

public import proofs.«01_k».proof.Proof.MixRef

@[expose] public section

set_option maxRecDepth 65536

noncomputable section

namespace Cert.MixRef

open Cert.MixReferenceIdeal Cert.MixReferenceIdeal.Gen Cert.MixReferenceIdeal.Read Idealize.ShloMosaic
open Cert.RealLib Cert.Mix

variable {x0 : (⟨S8192x6144, .bf16⟩ : BufTy).Contents (Elt Ideal)} {x1 : (⟨S8192x2048, .bf16⟩ : BufTy).Contents (Elt Ideal)}
  {x2 : (⟨S1x31x1024, .f32⟩ : BufTy).Contents (Elt Ideal)} {x3 x4 x5 x6 x7 : (⟨S1x1024, .f32⟩ : BufTy).Contents (Elt Ideal)}
  {x8 : (⟨S1x8x128x128, .f32⟩ : BufTy).Contents (Elt Ideal)} {x9 : (⟨S1x8x128, .f32⟩ : BufTy).Contents (Elt Ideal)}
  {x10 x11 : (⟨S8x1024, .f32⟩ : BufTy).Contents (Elt Ideal)} {R : Args}

variable (h : Real R x0 x1 x2 x3 x4 x5 x6 x7 x8 x9 x10 x11)

/-! ### The taps -/

theorem uitofp_one : FloatOps.uitofp (F := Ideal) .f32 (BitVec.ofBool true) = ((1 : ℝ) : EReal) := by
  show ((((BitVec.ofBool true).toNat : ℕ) : ℝ) : EReal) = _
  rw [show (BitVec.ofBool true).toNat = 1 from rfl, Nat.cast_one]
theorem uitofp_zero : FloatOps.uitofp (F := Ideal) .f32 (BitVec.ofBool false) = ((0 : ℝ) : EReal) := by
  show ((((BitVec.ofBool false).toNat : ℕ) : ℝ) : EReal) = _
  norm_num

/-- A position is the one a tap reaches. -/
theorem hot_at (s t : Fin 8192) (k : Fin 31) : val_main_v29 (F := Ideal) (ix3 s t k) = ((hot s.val t.val k.val : ℝ) : EReal) := by
  have e : val_main_v29 (F := Ideal) (ix3 s t k) = FloatOps.uitofp (F := Ideal) .f32 (IntOp.cmpi .eq (BitVec.ofNat 32 t.val)
      (IntOp.subi (IntOp.addi (BitVec.ofNat 32 s.val) (BitVec.ofNat 32 k.val)) 15#32)) := by
    pointwise [val_main_v29, val_main_v28, val_main_v27, val_main_v26, val_main_c, val_main_v25, val_main_v24, val_main_v23, val_main_v22]
  rw [e]
  have e1 : IntOp.subi (IntOp.addi (BitVec.ofNat 32 s.val) (BitVec.ofNat 32 k.val)) 15#32 = BitVec.ofNat 32 (s.val + k.val) - 15#32 :=
    congrArg (· - 15#32) (BitVec.ofNat_add _ _).symm
  have e2 : (BitVec.ofNat 32 t.val = BitVec.ofNat 32 (s.val + k.val) - 15#32) ↔ t.val + 15 = s.val + k.val := by
    have := s.isLt; have := t.isLt; have := k.isLt
    rw [← BitVec.toNat_inj, BitVec.toNat_sub, BitVec.toNat_ofNat, BitVec.toNat_ofNat, BitVec.toNat_ofNat]
    omega
  rw [e1, WordCmp.cmpi_eq_eq]
  unfold hot
  by_cases ht : t.val + 15 = s.val + k.val
  · rw [if_pos ht, decide_eq_true (e2.2 ht)]
    exact uitofp_one
  · rw [if_neg ht, decide_eq_false fun e => ht (e2.1 e)]
    exact uitofp_zero

include h

theorem v31 (n : Fin 8192) (k : Fin 31) (d : Fin 1024) : val_main_v31 (F := Ideal) x0 (ix4 0 n k d) = ((gluP R.proj (n.val + k.val) d.val : ℝ) : EReal) := by
  pointwise [val_main_v31, val_main_v30]
  simp only [(v21 h).get, hot_at, ← EReal.coe_mul, coe_sum]
  rw [gluP_hot]

theorem v38 : At (val_main_v38 (F := Ideal) x0 x2 x3) R.dt.cv := fun n d => by
  pointwise [val_main_v38, val_main_v37, val_main_v36, val_main_v35, val_main_v34, val_main_v33, val_main_v32, val_main_v9, val_main_v8, val_main_cst_2]
  simp only [v31 h, h.w, h.cb, ← EReal.coe_mul, ← EReal.coe_add, coe_sum]
  rfl

/-! ### The norm and the gate -/

theorem e44 : val_main_v44 (F := Ideal) x0 x2 x3 = cen (val_main_v38 (F := Ideal) x0 x2 x3) := rfl
theorem e57 : val_main_v57 (F := Ideal) x0 x2 x3 = nh (val_main_v38 (F := Ideal) x0 x2 x3) := rfl

theorem v57 : At (val_main_v57 (F := Ideal) x0 x2 x3) fun n => nhR (R.dt.cv n) := by rw [e57 h]; exact (v38 h).nh

theorem v63 : At (val_main_v63 (F := Ideal) x0 x2 x3 x4 x5) R.dt.ln := fun n d => by
  pointwise [val_main_v63, val_main_v62, val_main_v61, val_main_v60, val_main_v59, val_main_v58, val_main_v11, val_main_v10]
  rw [(v57 h).get, h.clg, h.clb, ← EReal.coe_mul, ← EReal.coe_add]
  rfl

theorem e165 : val_main_v165 (F := Ideal) x0 x1 = mulf (val_main_v110 (F := Ideal) x1) (mulf (val_main_v4 (F := Ideal) x0) (sig (val_main_v4 (F := Ideal) x0))) := rfl
theorem e164 : val_main_v164 (F := Ideal) x0 x1 x2 x3 x4 x5 = mulf (mulf (val_main_v63 (F := Ideal) x0 x2 x3 x4 x5) (sig (val_main_v63 (F := Ideal) x0 x2 x3 x4 x5))) (val_main_v110 (F := Ideal) x1) := rfl
theorem e166 : val_main_v166 (F := Ideal) x0 x1 x2 x3 x4 x5 = dsil (val_main_v4 (F := Ideal) x0) (val_main_v164 (F := Ideal) x0 x1 x2 x3 x4 x5) := rfl
theorem e167 : val_main_v167 (F := Ideal) x0 x1 x2 x3 x4 x5 = dsil (val_main_v63 (F := Ideal) x0 x2 x3 x4 x5) (val_main_v165 (F := Ideal) x0 x1) := rfl

theorem v165 : At (val_main_v165 (F := Ideal) x0 x1) fun n d => R.dy n d * (R.dt.gc n d * sgR (R.dt.gc n d)) := fun n d => by
  rw [e165 h]
  pointwise []
  rw [(v110 h).get, (v4 h).sig.get, (v4 h).get, ← EReal.coe_mul, ← EReal.coe_mul]

theorem v164 : At (val_main_v164 (F := Ideal) x0 x1 x2 x3 x4 x5) fun n d => R.dt.ln n d * sgR (R.dt.ln n d) * R.dy n d := fun n d => by
  rw [e164 h]
  pointwise []
  rw [(v110 h).get, (v63 h).sig.get, (v63 h).get, ← EReal.coe_mul, ← EReal.coe_mul]

/-- The cotangent at the branch's gate. -/
theorem v166 : At (val_main_v166 (F := Ideal) x0 x1 x2 x3 x4 x5) fun n d => R.dt.ln n d * sgR (R.dt.ln n d) * R.dy n d * dslR (R.dt.gc n d) := by
  rw [e166 h]; exact (v4 h).dsil (v164 h)
/-- The cotangent at the norm. -/
theorem v167 : At (val_main_v167 (F := Ideal) x0 x1 x2 x3 x4 x5) R.dt.dln := by
  rw [e167 h]
  refine fun n d => ((v63 h).dsil (v165 h) n d).trans (congrArg _ ?_)
  show R.dy n.val d.val * (R.dt.gc n.val d.val * sgR (R.dt.gc n.val d.val)) * dslR (R.dt.ln n.val d.val) = R.dt.dln n.val d.val
  unfold Dt.dln dlnR Dt.ln
  rw [← mul_assoc]
  rfl

theorem v175 : At (val_main_v175 (F := Ideal) x0 x1 x2 x3 x4 x5) fun n d => R.dt.dln n d * R.clg 0 d := fun n d => by
  pointwise [val_main_v175, val_main_v174, val_main_v58, val_main_v10]
  rw [(v167 h).get, h.clg, ← EReal.coe_mul]

theorem e200 : val_main_v200 (F := Ideal) x0 x1 x2 x3 x4 x5 = bk (val_main_v38 (F := Ideal) x0 x2 x3) (val_main_v175 (F := Ideal) x0 x1 x2 x3 x4 x5) := rfl

/-- The cotangent at the convolution. -/
theorem v200 : At (val_main_v200 (F := Ideal) x0 x1 x2 x3 x4 x5) R.dt.dcv := by rw [e200 h]; exact (v38 h).bk (v175 h)

/-! ### The convolution's gradients -/

theorem v213 : At (val_main_v213 (F := Ideal) x0 x1 x2 x3 x4 x5) R.dt.dglu := fun n d => by
  pointwise [val_main_v213, val_main_v212, val_main_v211, val_main_v209, val_main_v208, val_main_v204, val_main_v32, val_main_v8]
  simp only [(v200 h).get, h.w, hot_at, ← EReal.coe_mul, coe_sum]
  rw [dglu_hot]

theorem v215 : At (val_main_v215 (F := Ideal) x0 x1 x2 x3 x4 x5) fun n d => R.dt.dglu n d * sgR (R.proj n (1024 + d)) := fun n d => by
  pointwise [val_main_v215]
  rw [(v213 h).get, (v17 h).get, ← EReal.coe_mul]
theorem v216 : At (val_main_v216 (F := Ideal) x0 x1 x2 x3 x4 x5) fun n d => R.proj n d * R.dt.dglu n d * (sgR (R.proj n (1024 + d)) * (1 - sgR (R.proj n (1024 + d)))) := fun n d => by
  pointwise [val_main_v216, val_main_v214]
  rw [(v213 h).get, (v2 h).get, (v20 h).get, ← EReal.coe_mul, ← EReal.coe_mul]

/-- The gradient of a tap's weight. -/
theorem v210 (k : Fin 31) (d : Fin 1024) : val_main_v210 (F := Ideal) x0 x1 x2 x3 x4 x5 (ix2 k d) = ((∑ n : Fin 8192, gluP R.proj (n.val + k.val) d.val * R.dt.dcv n.val d.val : ℝ) : EReal) := by
  pointwise [val_main_v210, val_main_cst_40]
  rw [hostReduceAdd_taps]
  pointwise [val_main_v207, val_main_v206, val_main_v205, val_main_v204, val_main_cst_39]
  simp only [(v200 h).get, v31 h, ← EReal.coe_mul, coe_sum]

theorem e203 : val_main_v203 (F := Ideal) x0 x1 x2 x3 x4 x5 = tot (val_main_v200 (F := Ideal) x0 x1 x2 x3 x4 x5) := rfl
theorem e170 : val_main_v170 (F := Ideal) x0 x1 x2 x3 x4 x5 = tot (val_main_v167 (F := Ideal) x0 x1 x2 x3 x4 x5) := rfl
theorem e176 : val_main_v176 (F := Ideal) x0 x1 x2 x3 x4 x5 = tot (val_main_v171 (F := Ideal) x0 x1 x2 x3 x4 x5) := rfl
theorem v171 : At (val_main_v171 (F := Ideal) x0 x1 x2 x3 x4 x5) fun n d => R.dt.dln n d * nhR (R.dt.cv n) d := fun n d => by
  pointwise [val_main_v171]
  rw [(v167 h).get, (v57 h).get, ← EReal.coe_mul, mul_comm]

end Cert.MixRef

end
-- ==== Proof.MixRefGate.lean ====
/-
  The reference of the branch's backward call: the spatial gate and its gradients.
-/
module

public import proofs.«01_k».proof.Proof.MixRef

@[expose] public section

set_option maxRecDepth 65536

noncomputable section

namespace Cert.MixRef

open Cert.MixReferenceIdeal Cert.MixReferenceIdeal.Gen Cert.MixReferenceIdeal.Read Idealize.ShloMosaic
open Cert.RealLib Cert.Mix

variable {x0 : (⟨S8192x6144, .bf16⟩ : BufTy).Contents (Elt Ideal)} {x1 : (⟨S8192x2048, .bf16⟩ : BufTy).Contents (Elt Ideal)}
  {x2 : (⟨S1x31x1024, .f32⟩ : BufTy).Contents (Elt Ideal)} {x3 x4 x5 x6 x7 : (⟨S1x1024, .f32⟩ : BufTy).Contents (Elt Ideal)}
  {x8 : (⟨S1x8x128x128, .f32⟩ : BufTy).Contents (Elt Ideal)} {x9 : (⟨S1x8x128, .f32⟩ : BufTy).Contents (Elt Ideal)}
  {x10 x11 : (⟨S8x1024, .f32⟩ : BufTy).Contents (Elt Ideal)} {R : Args}

variable (h : Real R x0 x1 x2 x3 x4 x5 x6 x7 x8 x9 x10 x11)

/-! ### A product over the chunks and a head's channels -/

/-- The product's dimensions. -/
abbrev gwsDims := dot_S8x1x64x128x128_S1x64x128x8x128_S8x128x128_123_014_4_2_0_3

/-- Its contraction indices are the pairs of a chunk and a channel. -/
def pairs : Fin 64 × Fin 128 ≃ gwsDims.contr.Idx where
  toFun x := fun i => match i with
    | ⟨0, _⟩ => (0 : Fin 1)
    | ⟨1, _⟩ => x.1
    | ⟨2, _⟩ => x.2
    | ⟨_ + 3, hi⟩ => absurd (show _ + 3 < 3 from hi) (by omega)
  invFun k := (k ⟨1, by decide⟩, k ⟨2, by decide⟩)
  left_inv x := rfl
  right_inv k := by
    funext i
    match i with
    | ⟨0, _⟩ => exact Subsingleton.elim (α := Fin 1) _ _
    | ⟨1, _⟩ => rfl
    | ⟨2, _⟩ => rfl
    | ⟨_ + 3, hi⟩ => exact absurd (show _ + 3 < 3 from hi) (by omega)

theorem gws_product (L : FVec Ideal S8x1x64x128x128 .f32) (M : FVec Ideal S1x64x128x8x128 .f32) (a : Fin 8) (p q : Fin 128) :
    (Host.dotGeneral gwsDims none L M : FVec Ideal S8x128x128 .f32) (ix3 a p q) = ∑ u : Fin 64, ∑ k : Fin 128, L (ix5 a 0 u k p) * M (ix5 0 u q a k) := by
  show Ideal.matmul gwsDims L M (fun _ => 0) (ix3 a p q) = _
  unfold Ideal.matmul
  rw [zero_add, ← Equiv.sum_comp pairs, Fintype.sum_prod_type]
  refine Finset.sum_congr rfl fun u _ => Finset.sum_congr rfl fun k _ => congrArg₂ (fun i j => L i * M j) ?_ ?_
  · funext b
    match b with
    | ⟨0, _⟩ => rfl
    | ⟨1, _⟩ => rfl
    | ⟨2, _⟩ => rfl
    | ⟨3, _⟩ => rfl
    | ⟨4, _⟩ => rfl
  · funext b
    match b with
    | ⟨0, _⟩ => rfl
    | ⟨1, _⟩ => rfl
    | ⟨2, _⟩ => rfl
    | ⟨3, _⟩ => rfl
    | ⟨4, _⟩ => rfl

include h

/-! ### The norm and the mixing of a chunk -/

theorem e76 : val_main_v76 (F := Ideal) x0 = cen (val_main_v6 (F := Ideal) x0) := rfl
theorem e89 : val_main_v89 (F := Ideal) x0 = nh (val_main_v6 (F := Ideal) x0) := rfl

theorem v89 : At (val_main_v89 (F := Ideal) x0) fun n => nhR (R.dt.v n) := by rw [e89 h]; exact (v6 h).nh

theorem v95 : At (val_main_v95 (F := Ideal) x0 x6 x7) R.dt.vn := fun n d => by
  pointwise [val_main_v95, val_main_v94, val_main_v93, val_main_v92, val_main_v91, val_main_v90, val_main_v68, val_main_v67]
  rw [(v89 h).get, h.slg, h.slb, ← EReal.coe_mul, ← EReal.coe_add]
  rfl

theorem v96 (u : Fin 64) (p : Fin 128) (a : Fin 8) (q : Fin 128) : val_main_v96 (F := Ideal) x0 x6 x7 (ix5 0 u p a q)
    = ((R.dt.vn (128 * u.val + p.val) (128 * a.val + q.val) : ℝ) : EReal) := by
  pointwise [val_main_v96]
  rw [(v95 h).get]
  refine congrArg _ (congrArg₂ R.dt.vn ?_ ?_) <;> exact congrArg (· + _) (mul_comm _ _)

theorem v102 (u : Fin 64) (p : Fin 128) (a : Fin 8) (q : Fin 128) : val_main_v102 (F := Ideal) x0 x6 x7 x8 x9 (ix5 0 u p a q)
    = ((R.dt.mix (128 * u.val + p.val) (128 * a.val + q.val) : ℝ) : EReal) := by
  pointwise [val_main_v102, val_main_v101, val_main_v100, val_main_v99, val_main_v98, val_main_v97, val_main_v70, val_main_v69]
  simp only [v96 h, h.ws, h.bs, ← EReal.coe_mul, coe_sum, ← EReal.coe_add]
  unfold Dt.mix
  have e1 : (128 * u.val + p.val) % 128 = p.val := by omega
  have e2 : (128 * a.val + q.val) / 128 = a.val := by omega
  have e3 : 128 * u.val + p.val - p.val = 128 * u.val := by omega
  rw [e1, e2, e3]
  refine congrArg _ (congrArg (· + _) (Finset.sum_congr rfl fun k _ => mul_comm _ _))

theorem v103 : At (val_main_v103 (F := Ideal) x0 x6 x7 x8 x9) R.dt.mix := fun n d => by
  pointwise [val_main_v103]
  rw [v102 h]
  exact congrArg _ (congrArg₂ R.dt.mix (Nat.div_add_mod _ _) (Nat.div_add_mod _ _))

/-! ### The gate's gradients -/

theorem e113 : val_main_v113 (F := Ideal) x0 x1 = mulf (val_main_v111 (F := Ideal) x1) (mulf (val_main_v7 (F := Ideal) x0) (sig (val_main_v7 (F := Ideal) x0))) := rfl
theorem v113 : At (val_main_v113 (F := Ideal) x0 x1) fun n d => R.dy n (1024 + d) * (R.dt.gs n d * sgR (R.dt.gs n d)) := fun n d => by
  rw [e113 h]
  pointwise []
  rw [(v111 h).get, (v7 h).sig.get, (v7 h).get, ← EReal.coe_mul, ← EReal.coe_mul]
theorem v112 : At (val_main_v112 (F := Ideal) x0 x1 x6 x7 x8 x9) fun n d => R.proj n (3072 + d) * R.dt.mix n d * R.dy n (1024 + d) := fun n d => by
  pointwise [val_main_v112, val_main_v104]
  rw [(v5 h).get, (v103 h).get, (v111 h).get, ← EReal.coe_mul, ← EReal.coe_mul]
theorem e114 : val_main_v114 (F := Ideal) x0 x1 x6 x7 x8 x9 = dsil (val_main_v7 (F := Ideal) x0) (val_main_v112 (F := Ideal) x0 x1 x6 x7 x8 x9) := rfl
theorem v114 : At (val_main_v114 (F := Ideal) x0 x1 x6 x7 x8 x9) fun n d => R.proj n (3072 + d) * R.dt.mix n d * R.dy n (1024 + d) * dslR (R.dt.gs n d) := by
  rw [e114 h]; exact (v7 h).dsil (v112 h)
theorem v116 : At (val_main_v116 (F := Ideal) x0 x1 x6 x7 x8 x9) fun n d => R.dy n (1024 + d) * (R.dt.gs n d * sgR (R.dt.gs n d)) * R.dt.mix n d := fun n d => by
  pointwise [val_main_v116]
  rw [(v113 h).get, (v103 h).get, ← EReal.coe_mul]
/-- The cotangent at the mixed chunk. -/
theorem v115 : At (val_main_v115 (F := Ideal) x0 x1) R.dt.dmx := fun n d => by
  pointwise [val_main_v115]
  rw [(v5 h).get, (v113 h).get, ← EReal.coe_mul]
  refine congrArg _ ?_
  show R.proj n.val (3072 + d.val) * (R.dy n.val (1024 + d.val) * _) = R.dy n.val (1024 + d.val) * R.proj n.val (3072 + d.val) * _
  ring

theorem v117 (u : Fin 64) (p : Fin 128) (a : Fin 8) (q : Fin 128) : val_main_v117 (F := Ideal) x0 x1 (ix5 0 u p a q)
    = ((R.dt.dmx (128 * u.val + p.val) (128 * a.val + q.val) : ℝ) : EReal) := by
  pointwise [val_main_v117]
  rw [(v115 h).get]
  refine congrArg _ (congrArg₂ R.dt.dmx ?_ ?_) <;> exact congrArg (· + _) (mul_comm _ _)

/-- The gradient of the gating bias. -/
theorem v121 (a : Fin 8) (p : Fin 128) : val_main_v121 (F := Ideal) x0 x1 (ix2 a p)
    = ((∑ u : Fin 64, ∑ q : Fin 128, R.dt.dmx (128 * u.val + p.val) (128 * a.val + q.val) : ℝ) : EReal) := by
  pointwise [val_main_v121, val_main_v120, val_main_cst_16]
  rw [hostReduceAdd_heads]
  pointwise [val_main_v119, val_main_v118, val_main_cst_15]
  rw [hostReduceAdd_chunks]
  simp only [v117 h, coe_sum, zero_add]

/-- The gradient of the gating weights. -/
theorem v123 (a : Fin 8) (p q : Fin 128) : val_main_v123 (F := Ideal) x0 x1 x6 x7 (ix3 a p q) = ((R.dt.gwsT 32 a.val p.val q.val : ℝ) : EReal) := by
  unfold val_main_v123
  rw [gws_product]
  pointwise [val_main_v122]
  simp only [v117 h, v96 h, ← EReal.coe_mul, coe_sum]
  rw [gws_sum]

theorem v126 : At (val_main_v126 (F := Ideal) x0 x1 x8) R.dt.dvn := fun n d => by
  pointwise [val_main_v126, val_main_v125, val_main_v124, val_main_v122, val_main_v69]
  simp only [v117 h, h.ws, ← EReal.coe_mul, coe_sum]
  unfold Dt.dvn
  rw [Nat.div_add_mod, show n.val - n.val % 128 = 128 * (n.val / 128) by omega]
  exact congrArg _ (Finset.sum_congr rfl fun k _ => mul_comm _ _)

theorem v134 : At (val_main_v134 (F := Ideal) x0 x1 x6 x8) fun n d => R.dt.dvn n d * R.slg 0 d := fun n d => by
  pointwise [val_main_v134, val_main_v133, val_main_v90, val_main_v67]
  rw [(v126 h).get, h.slg, ← EReal.coe_mul]

theorem e159 : val_main_v159 (F := Ideal) x0 x1 x6 x8 = bk (val_main_v6 (F := Ideal) x0) (val_main_v134 (F := Ideal) x0 x1 x6 x8) := rfl
theorem v159 : At (val_main_v159 (F := Ideal) x0 x1 x6 x8) fun n => lnG (R.slg 0) (R.dt.v n) (R.dt.dvn n) := by rw [e159 h]; exact (v6 h).bk (v134 h)

theorem e129 : val_main_v129 (F := Ideal) x0 x1 x8 = tot (val_main_v126 (F := Ideal) x0 x1 x8) := rfl
theorem e135 : val_main_v135 (F := Ideal) x0 x1 x8 = tot (val_main_v130 (F := Ideal) x0 x1 x8) := rfl
theorem v130 : At (val_main_v130 (F := Ideal) x0 x1 x8) fun n d => R.dt.dvn n d * nhR (R.dt.v n) d := fun n d => by
  pointwise [val_main_v130]
  rw [(v126 h).get, (v89 h).get, ← EReal.coe_mul, mul_comm]

end Cert.MixRef

end
-- ==== Proof.MixRefOut.lean ====
/-
  The reference of the branch's backward call: its three results.
-/
module

public import proofs.«01_k».proof.Proof.MixRefConv
public import proofs.«01_k».proof.Proof.MixRefGate

@[expose] public section

set_option maxRecDepth 65536

noncomputable section

namespace Cert.MixRef

open Cert.MixReferenceIdeal Cert.MixReferenceIdeal.Gen Cert.MixReferenceIdeal.Read Idealize.ShloMosaic
open Cert.RealLib Cert.Mix

variable {x0 : (⟨S8192x6144, .bf16⟩ : BufTy).Contents (Elt Ideal)} {x1 : (⟨S8192x2048, .bf16⟩ : BufTy).Contents (Elt Ideal)}
  {x2 : (⟨S1x31x1024, .f32⟩ : BufTy).Contents (Elt Ideal)} {x3 x4 x5 x6 x7 : (⟨S1x1024, .f32⟩ : BufTy).Contents (Elt Ideal)}
  {x8 : (⟨S1x8x128x128, .f32⟩ : BufTy).Contents (Elt Ideal)} {x9 : (⟨S1x8x128, .f32⟩ : BufTy).Contents (Elt Ideal)}
  {x10 x11 : (⟨S8x1024, .f32⟩ : BufTy).Contents (Elt Ideal)} {R : Args}

variable (h : Real R x0 x1 x2 x3 x4 x5 x6 x7 x8 x9 x10 x11)

include h

/-- The gradient of the projection. -/
theorem v230 (n : Fin 8192) (d : Fin 6144) : val_main_v230 (F := Ideal) x0 x1 x2 x3 x4 x5 x6 x7 x8 x9 (ix2 n d) = ((R.dt.dp n.val d.val : ℝ) : EReal) := by
  pointwise [val_main_v230, val_main_v229, val_main_v221]
  unfold Dt.dp
  rcases lt_or_ge (d.val) 1024 with c0 | c0
  · rw [dif_pos c0, if_pos (show d.val < 1024 by omega)]
    exact (v215 h).get _ _
  rw [dif_neg c0.not_gt, if_neg (show ¬ d.val < 1024 by omega)]
  rcases lt_or_ge (d.val - 1024) 1024 with c1 | c1
  · rw [dif_pos c1, if_pos (show d.val < 2048 by omega)]
    rw [(v216 h).get]
    refine congrArg _ ?_
    show R.proj n.val (d.val - 1024) * R.dt.dglu n.val (d.val - 1024) * (sgR (R.proj n.val (1024 + (d.val - 1024))) * (1 - sgR (R.proj n.val (1024 + (d.val - 1024))))) = _
    rw [show 1024 + (d.val - 1024) = d.val by omega]
    show _ = R.dt.dglu n.val (d.val - 1024) * R.proj n.val (d.val - 1024) * sgR (R.proj n.val d.val) * (1 - sgR (R.proj n.val d.val))
    ring
  rw [dif_neg c1.not_gt, if_neg (show ¬ d.val < 2048 by omega)]
  rcases lt_or_ge (d.val - 1024 - 1024) 1024 with c2 | c2
  · rw [dif_pos c2, if_pos (show d.val < 3072 by omega)]
    rw [(v166 h).get]
    refine congrArg _ ?_
    show R.dt.ln n.val (d.val - 1024 - 1024) * sgR (R.dt.ln n.val (d.val - 1024 - 1024)) * R.dt.dy n.val (d.val - 1024 - 1024) * dslR (R.dt.gc n.val (d.val - 1024 - 1024)) = _
    rw [show d.val - 1024 - 1024 = d.val - 2048 by omega]
    ring
  rw [dif_neg c2.not_gt, if_neg (show ¬ d.val < 3072 by omega)]
  rcases lt_or_ge (d.val - 1024 - 1024 - 1024) 1024 with c3 | c3
  · rw [dif_pos c3, if_pos (show d.val < 4096 by omega)]
    rw [(v116 h).get]
    refine congrArg _ ?_
    show R.dt.dy n.val (1024 + (d.val - 1024 - 1024 - 1024)) * (R.dt.gs n.val (d.val - 1024 - 1024 - 1024) * sgR (R.dt.gs n.val (d.val - 1024 - 1024 - 1024)))
      * R.dt.mix n.val (d.val - 1024 - 1024 - 1024) = _
    rw [show d.val - 1024 - 1024 - 1024 = d.val - 3072 by omega]
    ring
  rw [dif_neg c3.not_gt, if_neg (show ¬ d.val < 4096 by omega)]
  rcases lt_or_ge (d.val - 1024 - 1024 - 1024 - 1024) 1024 with c4 | c4
  · rw [dif_pos c4, if_pos (show d.val < 5120 by omega)]
    rw [(v159 h).get]
    show ((lnG R.dt.slg (R.dt.v n.val) (R.dt.dvn n.val) (d.val - 1024 - 1024 - 1024 - 1024) : ℝ) : EReal) = _
    rw [show d.val - 1024 - 1024 - 1024 - 1024 = d.val - 4096 by omega]
  rw [dif_neg c4.not_gt, if_neg (show ¬ d.val < 5120 by omega)]
  rw [(v114 h).get]
  refine congrArg _ ?_
  show R.dt.proj n.val (3072 + (d.val - 1024 - 1024 - 1024 - 1024 - 1024)) * R.dt.mix n.val (d.val - 1024 - 1024 - 1024 - 1024 - 1024)
    * R.dt.dy n.val (1024 + (d.val - 1024 - 1024 - 1024 - 1024 - 1024)) * dslR (R.dt.gs n.val (d.val - 1024 - 1024 - 1024 - 1024 - 1024)) = _
  rw [show d.val - 1024 - 1024 - 1024 - 1024 - 1024 = d.val - 5120 by omega]
  ring

/-- The rows of small results. -/
theorem v228 (r : Fin 40) (d : Fin 1024) : val_main_v228 (F := Ideal) x0 x1 x2 x3 x4 x5 x8 x10 x11 (ix2 r d) = R.dt.small r.val d.val := by
  pointwise [val_main_v228]
  pointwise [val_main_v223, val_main_v222, val_main_cst_41, val_main_v219, val_main_v218, val_main_v217, val_main_v163, val_main_v162, val_main_v224, val_main_v160, val_main_v225, val_main_v226, val_main_v220, val_main_v227, val_main_cst_42]
  have acc : ∀ a (ha : a < 5), r.val = a + 1 → R.dt.small r.val d.val = ((∑ n : Fin 8192, R.dt.q a n.val d.val : ℝ) : EReal) := fun a ha e => by rw [e]; exact small_acc R a d.val ha
  rcases lt_or_ge (r.val) 1 with c0 | c0
  · rw [dif_pos c0]
    rw [show r.val = 0 by omega]
    simp only [h.se]
    rfl
  rw [dif_neg c0.not_gt]
  rcases lt_or_ge (r.val - 1) 1 with c1 | c1
  · rw [dif_pos c1]
    rw [e203 h, (v200 h).tot, acc 0 (by omega) (by omega)]
    rfl
  rw [dif_neg c1.not_gt]
  rcases lt_or_ge (r.val - 1 - 1) 1 with c2 | c2
  · rw [dif_pos c2]
    rw [e176 h, (v171 h).tot, acc 1 (by omega) (by omega)]
    rfl
  rw [dif_neg c2.not_gt]
  rcases lt_or_ge (r.val - 1 - 1 - 1) 1 with c3 | c3
  · rw [dif_pos c3]
    rw [e170 h, (v167 h).tot, acc 2 (by omega) (by omega)]
    rfl
  rw [dif_neg c3.not_gt]
  rcases lt_or_ge (r.val - 1 - 1 - 1 - 1) 1 with c4 | c4
  · rw [dif_pos c4]
    rw [e135 h, (v130 h).tot, acc 3 (by omega) (by omega)]
    rfl
  rw [dif_neg c4.not_gt]
  rcases lt_or_ge (r.val - 1 - 1 - 1 - 1 - 1) 1 with c5 | c5
  · rw [dif_pos c5]
    rw [e129 h, (v126 h).tot, acc 4 (by omega) (by omega)]
    rfl
  rw [dif_neg c5.not_gt]
  rcases lt_or_ge (r.val - 1 - 1 - 1 - 1 - 1 - 1) 1 with c6 | c6
  · rw [dif_pos c6]
    rw [v121 h, show r.val = 6 by omega, small_bias R d.val d.isLt]
  rw [dif_neg c6.not_gt]
  rcases lt_or_ge (r.val - 1 - 1 - 1 - 1 - 1 - 1 - 1) 1 with c7 | c7
  · rw [dif_pos c7]
    rw [h.gf]
    show R.gf (r.val - 1 - 1 - 1 - 1 - 1 - 1 - 1) d.val = _
    rw [show r.val = 7 by omega]
    rfl
  rw [dif_neg c7.not_gt]
  rcases lt_or_ge (r.val - 1 - 1 - 1 - 1 - 1 - 1 - 1 - 1) 31 with c8 | c8
  · rw [dif_pos c8]
    rw [v210 h]
    refine Eq.trans ?_ ((small_conv R (r.val - 1 - 1 - 1 - 1 - 1 - 1 - 1 - 1) d.val c8).symm.trans (congrArg (R.dt.small · d.val) ?_))
    · rfl
    · omega
  rw [dif_neg c8.not_gt]
  rw [show r.val = 39 by omega]
  rfl

/-- The gradient of the gating weights. -/
theorem v231 (a : Fin 8) (p q : Fin 128) : val_main_v231 (F := Ideal) x0 x1 x6 x7 (ix3 a p q) = ((R.dt.gwsT 32 a.val p.val q.val : ℝ) : EReal) := by
  pointwise [val_main_v231, val_main_v161]
  exact v123 h a p q

end Cert.MixRef

end
-- ==== Proof.MixClaim.lean ====
/-
  The branch's backward kernel computes what its reference computes, wherever the arguments that enter the gradients are finite.
-/
module

public import proofs.«01_k».proof.Defs
public import proofs.«01_k».proof.Proof.MixVals
public import proofs.«01_k».proof.Proof.MixRefOut
public import proofs.«01_k».proof.Proof.MixFrames
public import proofs.«01_k».proof.Proof.Gen.MixReferenceIdeal.Run
public import proofs.«01_k».proof.Proof.Gen.MixReferenceIdeal
public import proofs.«01_k».proof.Proof.Gen.Pre_finite_bb
public import Idealize.ShloMosaic.Lib.Claim

@[expose] public section

set_option maxRecDepth 65536

noncomputable section

namespace Cert.MixClaim

open Cert.RealLib Cert.Mix Idealize.ShloMosaic Idealize.ShloMosaic.TcCoe Idealize.SL.Sem

/-! ### Arrays as functions of natural numbers -/

def nat2 {N M : ℕ} (x : (⟨2, ![N, M]⟩ : Shape).Idx → EReal) (n d : ℕ) : EReal := if h : n < N ∧ d < M then x (ix2 ⟨n, h.1⟩ ⟨d, h.2⟩) else 0
def nat3 {K N M : ℕ} (x : (⟨3, ![K, N, M]⟩ : Shape).Idx → EReal) (k n d : ℕ) : EReal :=
  if h : k < K ∧ n < N ∧ d < M then x (ix3 ⟨k, h.1⟩ ⟨n, h.2.1⟩ ⟨d, h.2.2⟩) else 0
def nat4 {L K N M : ℕ} (x : (⟨4, ![L, K, N, M]⟩ : Shape).Idx → EReal) (l k n d : ℕ) : EReal :=
  if h : l < L ∧ k < K ∧ n < N ∧ d < M then x (ix4 ⟨l, h.1⟩ ⟨k, h.2.1⟩ ⟨n, h.2.2.1⟩ ⟨d, h.2.2.2⟩) else 0

section
variable {L K N M : ℕ}

theorem nat2_ix (x : (⟨2, ![N, M]⟩ : Shape).Idx → EReal) (n : Fin N) (d : Fin M) : nat2 x n.val d.val = x (ix2 n d) := dif_pos ⟨n.isLt, d.isLt⟩
theorem nat3_ix (x : (⟨3, ![K, N, M]⟩ : Shape).Idx → EReal) (k : Fin K) (n : Fin N) (d : Fin M) : nat3 x k.val n.val d.val = x (ix3 k n d) :=
  dif_pos ⟨k.isLt, n.isLt, d.isLt⟩
theorem nat4_ix (x : (⟨4, ![L, K, N, M]⟩ : Shape).Idx → EReal) (l : Fin L) (k : Fin K) (n : Fin N) (d : Fin M) : nat4 x l.val k.val n.val d.val = x (ix4 l k n d) :=
  dif_pos ⟨l.isLt, k.isLt, n.isLt, d.isLt⟩

theorem coe_toReal {x : EReal} (h : ∃ r : ℝ, x = (r : EReal)) : x = ((x.toReal : ℝ) : EReal) := by
  obtain ⟨r, rfl⟩ := h
  rw [EReal.toReal_coe]

/-- An array of real entries, as the real numbers. -/
abbrev IsReal {s : Shape} (x : s.Idx → EReal) : Prop := ∃ f : s.Idx → ℝ, ∀ i, x i = ((f i : ℝ) : EReal)

theorem real2 {x : (⟨2, ![N, M]⟩ : Shape).Idx → EReal} (h : IsReal x) (n : Fin N) (d : Fin M) : x (ix2 n d) = (((nat2 x n.val d.val).toReal : ℝ) : EReal) := by
  rw [nat2_ix]; exact coe_toReal (h.elim fun f hf => ⟨_, hf _⟩)
theorem real3 {x : (⟨3, ![K, N, M]⟩ : Shape).Idx → EReal} (h : IsReal x) (k : Fin K) (n : Fin N) (d : Fin M) : x (ix3 k n d) = (((nat3 x k.val n.val d.val).toReal : ℝ) : EReal) := by
  rw [nat3_ix]; exact coe_toReal (h.elim fun f hf => ⟨_, hf _⟩)
theorem real4 {x : (⟨4, ![L, K, N, M]⟩ : Shape).Idx → EReal} (h : IsReal x) (l : Fin L) (k : Fin K) (n : Fin N) (d : Fin M) :
    x (ix4 l k n d) = (((nat4 x l.val k.val n.val d.val).toReal : ℝ) : EReal) := by
  rw [nat4_ix]; exact coe_toReal (h.elim fun f hf => ⟨_, hf _⟩)

theorem arr2 {x : (⟨2, ![N, M]⟩ : Shape).Idx → EReal} (h : IsReal x) : x = re2 fun n d => (nat2 x n d).toReal := ext2 (real2 h)
theorem arr3 {x : (⟨3, ![K, N, M]⟩ : Shape).Idx → EReal} (h : IsReal x) : x = re3 fun k n d => (nat3 x k n d).toReal := ext3 (real3 h)
theorem arrE (x : (⟨2, ![N, M]⟩ : Shape).Idx → EReal) : x = ex2 (nat2 x) := funext fun i => by
  obtain ⟨n, d, rfl⟩ : ∃ (n : Fin N) (d : Fin M), i = ix2 n d := ⟨i 0, i 1, eq_ix2 i⟩
  exact (nat2_ix x n d).symm
end

/-! ### The precondition -/

section
open Pre_finite_bb
variable [Cert.Pre_finite_bb.Facts]

set_option maxHeartbeats 4000000 in
/-- Where the precondition holds the arguments it names are arrays of real numbers. -/
theorem reals {x0 : FVec Ideal S8192x6144 .bf16} {x1 : FVec Ideal S8192x2048 .bf16} {x2 : FVec Ideal S1x31x1024 .f32} {x3 x4 x5 x6 x7 : FVec Ideal S1x1024 .f32}
    {x8 : FVec Ideal S1x8x128x128 .f32} {x9 : FVec Ideal S1x8x128 .f32} {x10 x11 : FVec Ideal S8x1024 .f32}
    (h : fn (F := Ideal) x0 x1 x2 x3 x4 x5 x6 x7 x8 x9 x10 x11 = fun _ => 1#1) :
    IsReal x0 ∧ IsReal x1 ∧ IsReal x2 ∧ IsReal x3 ∧ IsReal x4 ∧ IsReal x5 ∧ IsReal x6 ∧ IsReal x7 ∧ IsReal x8 ∧ IsReal x9 := by
  have h' := congrFun h ix0
  obtain ⟨h', e9⟩ := IntOp.andi_eq_one.mp h'
  obtain ⟨h', e8⟩ := IntOp.andi_eq_one.mp h'
  obtain ⟨h', e7⟩ := IntOp.andi_eq_one.mp h'
  obtain ⟨h', e6⟩ := IntOp.andi_eq_one.mp h'
  obtain ⟨h', e5⟩ := IntOp.andi_eq_one.mp h'
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  haveI : Subsingleton S_.Idx := ⟨fun a b => funext fun k => k.elim0⟩
  exact ⟨real_of_all x0 _ rfl _ (fun _ => rfl) _ _ _ _ e0, real_of_all x1 _ rfl _ (fun _ => rfl) _ _ _ _ e1,
    real_of_all x2 _ rfl _ (fun _ => rfl) _ _ _ _ e2, real_of_all x3 _ rfl _ (fun _ => rfl) _ _ _ _ e3,
    real_of_all x4 _ rfl _ (fun _ => rfl) _ _ _ _ e4, real_of_all x5 _ rfl _ (fun _ => rfl) _ _ _ _ e5,
    real_of_all x6 _ rfl _ (fun _ => rfl) _ _ _ _ e6, real_of_all x7 _ rfl _ (fun _ => rfl) _ _ _ _ e7,
    real_of_all x8 _ rfl _ (fun _ => rfl) _ _ _ _ e8, real_of_all x9 _ rfl _ (fun _ => rfl) _ _ _ _ e9⟩
end

section
open Cert.MixKernelIdeal

variable (m : (ℓ : Loc nD τ sig) → Buf (Elt Ideal) ℓ)

/-- The arguments of a device as functions of natural numbers. -/
def args (c : Dev nD) : Args where
  proj n d := (nat2 (m (c, Proc.tc.devRef main_arg0) : FVec Ideal S8192x6144 .bf16) n d).toReal
  dy n d := (nat2 (m (c, Proc.tc.devRef main_arg1) : FVec Ideal S8192x2048 .bf16) n d).toReal
  w k n d := (nat3 (m (c, Proc.tc.devRef main_arg2) : FVec Ideal S1x31x1024 .f32) k n d).toReal
  cb n d := (nat2 (m (c, Proc.tc.devRef main_arg3) : FVec Ideal S1x1024 .f32) n d).toReal
  clg n d := (nat2 (m (c, Proc.tc.devRef main_arg4) : FVec Ideal S1x1024 .f32) n d).toReal
  clb n d := (nat2 (m (c, Proc.tc.devRef main_arg5) : FVec Ideal S1x1024 .f32) n d).toReal
  slg n d := (nat2 (m (c, Proc.tc.devRef main_arg6) : FVec Ideal S1x1024 .f32) n d).toReal
  slb n d := (nat2 (m (c, Proc.tc.devRef main_arg7) : FVec Ideal S1x1024 .f32) n d).toReal
  ws l k n d := (nat4 (m (c, Proc.tc.devRef main_arg8) : FVec Ideal S1x8x128x128 .f32) l k n d).toReal
  bs k n d := (nat3 (m (c, Proc.tc.devRef main_arg9) : FVec Ideal S1x8x128 .f32) k n d).toReal
  gf := nat2 (m (c, Proc.tc.devRef main_arg10) : FVec Ideal S8x1024 .f32)
  se := nat2 (m (c, Proc.tc.devRef main_arg11) : FVec Ideal S8x1024 .f32)

variable [Cert.Pre_finite_bb.Facts]

/-- Where the precondition holds the kernel's arguments are those functions. -/
theorem args_in (h : Cert.Pre_MixKernelIdeal_finite_bb m) (c : Dev nD) : (args m c).In m c := by
  obtain ⟨h0, h1, h2, h3, h4, h5, h6, h7, h8, h9⟩ := reals (h c)
  exact ⟨arr2 h0, arr2 h1, arr3 h2, arr2 h3, arr2 h4, arr2 h5, arr2 h6, arr2 h7, fun a p q => real4 h8 0 a p q, arr3 h9, arrE _, arrE _⟩

/-- And so are the reference's. -/
theorem args_real (h : Cert.Pre_MixKernelIdeal_finite_bb m) (c : Dev nD) : MixRef.Real (args m c)
    (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11)) := by
  obtain ⟨h0, h1, h2, h3, h4, h5, h6, h7, h8, h9⟩ := reals (h c)
  exact ⟨real2 h0, real2 h1, real3 h2 0, real2 h3 0, real2 h4 0, real2 h5 0, real2 h6 0, real2 h7 0, fun a p q => real4 h8 0 a p q, real3 h9 0,
    fun n d => (nat2_ix _ n d).symm, fun n d => (nat2_ix _ n d).symm⟩
end

/-! ### The claim -/

/-- The branch's reference runs, keeps its arguments and declares no semaphore. -/
theorem frame_reference : Cert.quiescent_MixReferenceIdeal (hMixReferenceIdeal := Cert.MixReferenceIdeal.Gen.facts) :=
  fun m ρ _ => (θ_run Cert.MixReferenceIdeal.defs _ _).mono
    (fun r h => ⟨fun c => (h c).2.2.2, sem_eq_zero_of_no_sems (by decide) r.2⟩) (Cert.MixReferenceIdeal.Value.run m ρ)

set_option maxHeartbeats 4000000 in
/-- The results of the two programs are equal. -/
theorem value [hp : Cert.Pre_finite_bb.Facts] : Cert.algebraic_MixKernelIdeal_MixReferenceIdeal_pre_finite_bb
    (hMixKernelIdeal := Cert.MixKernelIdeal.Gen.facts) (hMixReferenceIdeal := Cert.MixReferenceIdeal.Gen.facts) := by
  intro m ρ m' ρ' hpre hag
  refine ⟨_, _, _, (θ_run _ _ _).mono (fun r hr c => ⟨(hr.1 c).1, (hr.1 c).2.1, (hr.1 c).2.2, hr.2.1 c⟩)
    (θ_run_and (kernel_run ρ fun c => args_in m hpre c) (frame_main (F := Ideal) (m := m) ρ)),
    (θ_run _ _ _).mono (fun r hr c => ?_) (MixReferenceIdeal.Value.run m' ρ')⟩
  have H := args_real m hpre c
  obtain ⟨a0, a1, a2, a3, a4, a5, a6, a7, a8, a9, a10, a11⟩ := hag c
  obtain ⟨r0, r1, r2, k⟩ := hr c
  have e0 := r0.trans (MixReferenceIdeal.Read.val_main_v230_eq (StableHlo.launchContents m' c))
  have e1 := r1.trans (MixReferenceIdeal.Read.val_main_v228_eq (StableHlo.launchContents m' c))
  have e2 := r2.trans (MixReferenceIdeal.Read.val_main_v231_eq (StableHlo.launchContents m' c))
  have b0 : StableHlo.launchContents m' c (Proc.devRef .tc MixReferenceIdeal.main_arg0) = m (c, Proc.tc.devRef MixKernelIdeal.main_arg0) := a0
  have b1 : StableHlo.launchContents m' c (Proc.devRef .tc MixReferenceIdeal.main_arg1) = m (c, Proc.tc.devRef MixKernelIdeal.main_arg1) := a1
  have b2 : StableHlo.launchContents m' c (Proc.devRef .tc MixReferenceIdeal.main_arg2) = m (c, Proc.tc.devRef MixKernelIdeal.main_arg2) := a2
  have b3 : StableHlo.launchContents m' c (Proc.devRef .tc MixReferenceIdeal.main_arg3) = m (c, Proc.tc.devRef MixKernelIdeal.main_arg3) := a3
  have b4 : StableHlo.launchContents m' c (Proc.devRef .tc MixReferenceIdeal.main_arg4) = m (c, Proc.tc.devRef MixKernelIdeal.main_arg4) := a4
  have b5 : StableHlo.launchContents m' c (Proc.devRef .tc MixReferenceIdeal.main_arg5) = m (c, Proc.tc.devRef MixKernelIdeal.main_arg5) := a5
  have b6 : StableHlo.launchContents m' c (Proc.devRef .tc MixReferenceIdeal.main_arg6) = m (c, Proc.tc.devRef MixKernelIdeal.main_arg6) := a6
  have b7 : StableHlo.launchContents m' c (Proc.devRef .tc MixReferenceIdeal.main_arg7) = m (c, Proc.tc.devRef MixKernelIdeal.main_arg7) := a7
  have b8 : StableHlo.launchContents m' c (Proc.devRef .tc MixReferenceIdeal.main_arg8) = m (c, Proc.tc.devRef MixKernelIdeal.main_arg8) := a8
  have b9 : StableHlo.launchContents m' c (Proc.devRef .tc MixReferenceIdeal.main_arg9) = m (c, Proc.tc.devRef MixKernelIdeal.main_arg9) := a9
  have b10 : StableHlo.launchContents m' c (Proc.devRef .tc MixReferenceIdeal.main_arg10) = m (c, Proc.tc.devRef MixKernelIdeal.main_arg10) := a10
  have b11 : StableHlo.launchContents m' c (Proc.devRef .tc MixReferenceIdeal.main_arg11) = m (c, Proc.tc.devRef MixKernelIdeal.main_arg11) := a11
  rw [b0, b1, b2, b3, b4, b5, b6, b7, b8, b9] at e0
  rw [b0, b1, b2, b3, b4, b5, b8, b10, b11] at e1
  rw [b0, b1, b6, b7] at e2
  refine ⟨e0.trans (funext fun i => ?_), e1.trans (funext fun i => ?_), e2.trans (funext fun i => ?_), k⟩
  · obtain ⟨a, b, rfl⟩ : ∃ (a : Fin 8192) (b : Fin 6144), i = ix2 a b := ⟨i 0, i 1, eq_ix2 i⟩
    exact MixRef.v230 H a b
  · obtain ⟨a, b, rfl⟩ : ∃ (a : Fin 40) (b : Fin 1024), i = ix2 a b := ⟨i 0, i 1, eq_ix2 i⟩
    exact MixRef.v228 H a b
  · obtain ⟨a, p, q, rfl⟩ : ∃ (a : Fin 8) (p q : Fin 128), i = ix3 a p q := ⟨i 0, i 1, i 2, eq_ix3 i⟩
    exact MixRef.v231 H a p q

end Cert.MixClaim

end
-- ==== Proof.FwdProg.lean ====
/- The body of the branch's forward kernel, told in stages: the eight lane blocks of the convolution, its norm
   and gate, and the eight heads of the spatial gate. Each stage is a function of its position, so that one
   statement about a stage serves every lane block or head. -/
module

public import proofs.«01_k».proof.Proof.MixBody
public import proofs.«01_k».proof.Proof.Gen.FwdKernelIdeal.Skeleton

@[expose] public section

set_option maxRecDepth 65536

noncomputable section

namespace Cert.Fwd

open Idealize.ShloMosaic Idealize.SL.Sem Cert.FwdKernelIdeal Cert.FwdKernelIdeal.Gen
open Cert.Mix (lit sgm mean256 wide256 row256 shifted tapA block asB mixed up offT inb_sh inb_offT_128 inb_hd inb_bs inb_pmU inb_pmS inb_pmA inb_pmB)

variable {F : FTy → Type} [FloatOps F]

/-- A program of the kernel's core. -/
abbrev Pg (F : FTy → Type) [FloatOps F] (α : Type) := Prog (TpuEff nD τ sig (Elt F) Λ₀ .tc) α

/-- The arrays the body is called with. -/
structure Mems where
  pm : Memref sig .tc .vmem S256x6144 .bf16
  pp : Memref sig .tc .vmem S16x2048 .bf16
  pn : Memref sig .tc .vmem S16x2048 .bf16
  cw : Memref sig .tc .vmem S4x31x256 .f32
  cb : Memref sig .tc .vmem S1x1024 .f32
  clg : Memref sig .tc .vmem S1x1024 .f32
  clb : Memref sig .tc .vmem S1x1024 .f32
  slg : Memref sig .tc .vmem S1x1024 .f32
  slb : Memref sig .tc .vmem S1x1024 .f32
  ws : Memref sig .tc .vmem S8x128x128 .f32
  bst : Memref sig .tc .vmem S128x8 .f32
  y : Memref sig .tc .vmem S256x2048 .bf16
  cv : Memref sig .tc .vmem S256x1024 .f32
  sh : Memref sig .tc .vmem S8x288x128 .f32
  hy : y.IsWhole

/-- A read of the block of `m` at `off` of shape `s'`. -/
def ld {s : Shape} {e : EltTy} (m : Memref sig .tc .vmem s e) (off size : Fin s.rank → ℕ)
    (inb : ∀ a, off a + size a ≤ s.size a) (hn : 0 < (Rect.unit off size inb).toLoadRect.shape.numel) :
    Pg F ((Rect.unit off size inb).toLoadRect.shape.Idx → Elt F e) :=
  Prog.lift (.load m (Rect.unit off size inb).toLoadRect (View.loadsAt_vmem hn))

/-- A write of 32-bit elements to the block of `m` at `off`, which reads the block first and forgets it. -/
def put {s : Shape} {e : EltTy} (m : Memref sig .tc .vmem s e) (he : e.bits = 32) (off size : Fin s.rank → ℕ)
    (inb : ∀ a, off a + size a ≤ s.size a) (hn : 0 < (Rect.unit off size inb).shape.numel)
    (w : (Rect.unit off size inb).shape.Idx → Elt F e) : Pg F PUnit :=
  ld m off size inb hn >>= fun _ =>
    Prog.lift (.store m (Rect.unit off size inb) w Finset.univ (View.stores_vmem_bits_univ hn he) (.inl rfl))

/-- The same for the rounded result `y`. -/
def putY (M : Mems) (off size : Fin 2 → ℕ) (inb : ∀ a, off a + size a ≤ S256x2048.size a)
    (hn : 0 < (Rect.unit (s := S256x2048) off size inb).shape.numel)
    (pk : (Rect.unit (s := S256x2048) off size inb).PackedRows (EltTy.packing .bf16))
    (w : (Rect.unit (s := S256x2048) off size inb).shape.Idx → Elt F .bf16) : Pg F PUnit :=
  ld M.y off size inb hn >>= fun _ =>
    Prog.lift (.store M.y (Rect.unit (s := S256x2048) off size inb) w Finset.univ
      (View.stores_vmem hn (M.hy.storeExact_slice rfl _ pk) (fun _ => rfl)) (.inl rfl))

/-! ### The values computed -/

/-- `x σ(x)`, through a hyperbolic tangent of half of `x`. -/
def slu {s : Shape} (x : FVec F s .f32) : FVec F s .f32 :=
  addf (mulf (lit s 0x3F000000#32) x) (mulf (mulf (lit s 0x3F000000#32) x) (tanh (mulf (lit s 0x3F000000#32) x)))

def cen (x : FVec F S256x1024 .f32) : FVec F S256x1024 .f32 := subf x (wide256 (mean256 x))
def rsd (x : FVec F S256x1024 .f32) : FVec F S256x1 .f32 :=
  rsqrt (addf (mean256 (mulf (cen x) (cen x))) (lit S256x1 0x358637BD#32))
/-- The norm's rows, scaled and shifted. -/
def lin (g b : Vec F S1x1024 .f32) (x : FVec F S256x1024 .f32) : FVec F S256x1024 .f32 :=
  addf (mulf (mulf (cen x) (wide256 (rsd x))) (row256 g)) (row256 b)

/-- One where the tile has a tile before it, zero at the first. -/
def keepP (i : grid0.Coords) : F .f32 :=
  Scalar.sitofp .f32 (Scalar.extui (Scalar.cmpi .sgt (BitVec.ofNat 32 (i 0).val) 0#32) : BitVec 32)
/-- One where the tile has a tile after it, zero at the last. -/
def keepN (i : grid0.Coords) : F .f32 :=
  Scalar.sitofp .f32 (Scalar.extui (Scalar.cmpi .slt (BitVec.ofNat 32 (i 0).val) 31#32) : BitVec 32)

/-- The gated rows of a halo, cleared where there is no tile. -/
def gluH (a g : Vec F S16x128 .bf16) (k : F .f32) : FVec F S16x128 .f32 :=
  mulf (mulf (extf .f32 a bitsLt_bf16_f32 : FVec F S16x128 .f32) (sgm (extf .f32 g bitsLt_bf16_f32))) (broadcast S16x128 k)
def gluM (a g : Vec F S256x128 .bf16) : FVec F S256x128 .f32 :=
  mulf (extf .f32 a bitsLt_bf16_f32 : FVec F S256x128 .f32) (sgm (extf .f32 g bitsLt_bf16_f32))
/-- A lane block with its halos. -/
def cat3 (p : FVec F S16x128 .f32) (m : FVec F S256x128 .f32) (n : FVec F S16x128 .f32) : FVec F S288x128 .f32 :=
  concatenate S288x128 0 [⟨S16x128, p⟩, ⟨S256x128, m⟩, ⟨S16x128, n⟩] concatenates_S16x128_S256x128_S16x128_S288x128_d0

/-! ### The stages -/

def fill (M : Mems) (v : Vec F S288x128 .f32) : (n : ℕ) → n ≤ 8 → Pg F PUnit
  | 0, _ => pure ⟨⟩
  | n + 1, h => fill M v n (by omega) >>= fun _ =>
      put M.sh rfl ![n, 0, 0] S1x288x128.size (inb_sh n (by omega)) h_S1x288x128 (shifted v n)

/-- The block of `cv` that trip `k` of a lane block writes. -/
def offC (k c : ℕ) : Fin 2 → ℕ := ![(Scalar.indexCast (Scalar.muli (Scf.iv 0#32 1#32 k) 128#32) : Index).toNat, c]
theorem offC_eq : ∀ (k : Fin 2) (c : ℕ), offC k.val c = ![128 * k.val, c] := by
  intro k c
  have h : ∀ k : Fin 2, (Scalar.indexCast (Scalar.muli (Scf.iv 0#32 1#32 k.val) 128#32) : Index).toNat = 128 * k.val := by decide +kernel
  unfold offC
  rw [h]
theorem inb_offC (k : Fin 2) (lb : Fin 8) : ∀ a, offC k.val (128 * lb.val) a + S128x128.size a ≤ S256x1024.size a := by
  rw [offC_eq]
  have hk := k.isLt
  have hl := lb.isLt
  intro a; fin_cases a
  · show 128 * k.val + 128 ≤ 256; omega
  · show 128 * lb.val + 128 ≤ 1024; omega
theorem inb_cw (lb : Fin 8) (j : ℕ) (hj : j < 31) :
    ∀ a, (![lb.val / 2, j, 128 * (lb.val % 2)] : Fin 3 → ℕ) a + S1x1x128.size a ≤ S4x31x256.size a := by
  have h := lb.isLt
  intro a; fin_cases a
  · show lb.val / 2 + 1 ≤ 4; omega
  · show j + 1 ≤ 31; omega
  · show 128 * (lb.val % 2) + 128 ≤ 256; omega
theorem inb_haA (lb : Fin 8) : ∀ a, (![0, 128 * lb.val] : Fin 2 → ℕ) a + S16x128.size a ≤ S16x2048.size a := by
  revert lb; decide
theorem inb_haB (lb : Fin 8) : ∀ a, (![0, 1024 + 128 * lb.val] : Fin 2 → ℕ) a + S16x128.size a ≤ S16x2048.size a := by
  revert lb; decide
theorem inb_cb (lb : Fin 8) : ∀ a, (![0, 128 * lb.val] : Fin 2 → ℕ) a + S1x128.size a ≤ S1x1024.size a := by
  revert lb; decide
theorem inb_y (ch : Fin 2) (hd : Fin 8) : ∀ a, (![128 * ch.val, 1024 + 128 * hd.val] : Fin 2 → ℕ) a + S128x128.size a ≤ S256x2048.size a := by
  revert ch hd; decide
theorem pk_y (ch : Fin 2) (hd : Fin 8) : (Rect.unit (s := S256x2048) ![128 * ch.val, 1024 + 128 * hd.val] S128x128.size (inb_y ch hd)).PackedRows (EltTy.packing .bf16) := by
  revert ch hd; decide

def taps (M : Mems) (lb : Fin 8) (k : Fin 2) (b : Vec F S1x128 .f32) : (n : ℕ) → n ≤ 31 → Pg F (FVec F S128x128 .f32)
  | 0, _ => pure (addf (lit S128x128 0x00000000#32) (broadcastTo S128x128 b broadcasts_S1x128_S128x128))
  | n + 1, h => taps M lb k b n (by omega) >>= fun acc =>
      ld M.sh (offT 128#32 k.val (n + 1)) S1x128x128.size (inb_offT_128 k (n + 1) (by omega)) h_S1x128x128 >>= fun d =>
      ld M.cw ![lb.val / 2, n, 128 * (lb.val % 2)] S1x1x128.size (inb_cw lb n (by omega)) h_S1x1x128 >>= fun w =>
      pure (tapA acc d w)

/-- A trip of the convolution's loop, 128 rows. -/
def trip (M : Mems) (lb : Fin 8) (b : Vec F S1x128 .f32) (k : Fin 2) : Pg F Unit :=
  taps M lb k b 31 (by omega) >>= fun acc =>
    put M.cv rfl (offC k.val (128 * lb.val)) S128x128.size (inb_offC k lb) h_S128x128 acc

def conv (M : Mems) (lb : Fin 8) (b : Vec F S1x128 .f32) : Pg F PUnit :=
  Scf.Loop.for k0_t1_loop k0_t1_ok () (fun k _ => trip M lb b k)

/-- A block of 128 lanes of the convolution. -/
def lane (M : Mems) (i : grid0.Coords) (lb : Fin 8) : Pg F PUnit := do
  let pa ← ld M.pp ![0, 128 * lb.val] S16x128.size (inb_haA lb) h_S16x128
  let pg ← ld M.pp ![0, 1024 + 128 * lb.val] S16x128.size (inb_haB lb) h_S16x128
  let ma ← ld M.pm ![0, 128 * lb.val] S256x128.size (inb_pmA lb) h_S256x128
  let mg ← ld M.pm ![0, 1024 + 128 * lb.val] S256x128.size (inb_pmB lb) h_S256x128
  let na ← ld M.pn ![0, 128 * lb.val] S16x128.size (inb_haA lb) h_S16x128
  let ng ← ld M.pn ![0, 1024 + 128 * lb.val] S16x128.size (inb_haB lb) h_S16x128
  fill M (cat3 (gluH pa pg (keepP i)) (gluM ma mg) (gluH na ng (keepN i))) 8 (Nat.le_refl _)
  let b ← ld M.cb ![0, 128 * lb.val] S1x128.size (inb_cb lb) h_S1x128
  conv M lb b

def lanes (M : Mems) (i : grid0.Coords) : (n : ℕ) → n ≤ 8 → Pg F PUnit
  | 0, _ => pure ⟨⟩
  | n + 1, h => lanes M i n (by omega) >>= fun _ => lane M i ⟨n, by omega⟩

/-- The convolution's norm and gate. -/
def norm (M : Mems) : Pg F PUnit := do
  let x ← ld M.cv ![0, 0] S256x1024.size inb_S256x1024_S256x1024_0_0 h_S256x1024
  let g ← ld M.clg ![0, 0] S1x1024.size inb_S1x1024_S1x1024_0_0 h_S1x1024
  let b ← ld M.clb ![0, 0] S1x1024.size inb_S1x1024_S1x1024_0_0 h_S1x1024
  let c ← ld M.pm ![0, 2048] S256x1024.size inb_S256x6144_S256x1024_0_2048 h_S256x1024
  putY M ![0, 0] S256x1024.size inb_S256x2048_S256x1024_0_0 h_S256x1024 packedbf16_S256x2048_S256x1024_0_0
    (truncf .bf16 (mulf (slu (lin g b (shapeCast S256x1024 x shapeCasts_S256x1024_S256x1024)))
      (slu (extf .f32 c bitsLt_bf16_f32))) bitsLt_bf16_f32)

/-- One chunk of 128 rows of a head. -/
def chunk (M : Mems) (vn : FVec F S256x1024 .bf16) (ch : Fin 2) (hd : Fin 8) (w : Vec F S1x128x128 .f32) (b : Vec F S128x1 .f32) : Pg F PUnit := do
  let u ← ld M.pm ![128 * ch.val, 3072 + 128 * hd.val] S128x128.size (inb_pmU ch hd) h_S128x128
  let gs ← ld M.pm ![128 * ch.val, 5120 + 128 * hd.val] S128x128.size (inb_pmS ch hd) h_S128x128
  putY M ![128 * ch.val, 1024 + 128 * hd.val] S128x128.size (inb_y ch hd) h_S128x128 (pk_y ch hd)
    (truncf .bf16 (mulf (mulf (up u) (mixed w b (block vn ch hd))) (slu (up gs))) bitsLt_bf16_f32)

def head (M : Mems) (vn : FVec F S256x1024 .bf16) (hd : Fin 8) : Pg F PUnit := do
  let w ← ld M.ws ![hd.val, 0, 0] S1x128x128.size (inb_hd hd) h_S1x128x128
  let b ← ld M.bst ![0, hd.val] S128x1.size (inb_bs hd) h_S128x1
  chunk M vn 0 hd w b
  chunk M vn 1 hd w b

def heads (M : Mems) (vn : FVec F S256x1024 .bf16) : (n : ℕ) → n ≤ 8 → Pg F PUnit
  | 0, _ => pure ⟨⟩
  | n + 1, h => heads M vn n (by omega) >>= fun _ => head M vn ⟨n, by omega⟩

/-- The spatial gate of a tile. -/
def gate (M : Mems) : Pg F PUnit := do
  let x ← ld M.pm ![0, 4096] S256x1024.size inb_S256x6144_S256x1024_0_4096 h_S256x1024
  let g ← ld M.slg ![0, 0] S1x1024.size inb_S1x1024_S1x1024_0_0 h_S1x1024
  let b ← ld M.slb ![0, 0] S1x1024.size inb_S1x1024_S1x1024_0_0 h_S1x1024
  heads M (truncf .bf16 (lin g b (extf .f32 x bitsLt_bf16_f32)) bitsLt_bf16_f32) 8 (Nat.le_refl _)

/-- The whole body at grid point `i`. -/
def body (M : Mems) (i : grid0.Coords) : Pg F PUnit := do
  lanes M i 8 (Nat.le_refl _)
  norm M
  gate M

end Cert.Fwd

end
-- ==== Proof.FwdRun.lean ====
/- How a program over the body's arrays runs: `St` is the contents of the arrays, `Own` the ownership of all of
   them, and `Runs P S a S'` says that `P` run from `S` ends with the value `a` at the contents `S'`. -/
module

public import proofs.«01_k».proof.Proof.FwdProg
public import proofs.«01_k».proof.Proof.MixRun
public import Idealize.ShloMosaic.Lib.Scf
public import Idealize.ShloMosaic.Lib.Memref
public import Idealize.ShloMosaic.Lib.Pipeline.Kit

@[expose] public section

set_option maxRecDepth 65536

noncomputable section

namespace Cert.Fwd

open Idealize.ShloMosaic Idealize.SL Idealize.SL.Sem Cert.FwdKernelIdeal Cert.FwdKernelIdeal.Gen
open Idealize.SL.BI (sProp bigSep)
open scoped Idealize.SL.BI
open Idealize.SL.BI.BIBase Idealize.SL.BI.Laws Idealize.SL.ProofMode
open Idealize.SL.RA
open Idealize.ShloMosaic.TcCoe
open Cert.Mix (upd upd_emb upd_miss blk)

variable {F : FTy → Type} [FloatOps F]

local notation "𝕄" => MT nD τ sig Unit (Elt F) ℕ (UR sig nD τ) ℕ

/-- The contents of the body's arrays. -/
structure St (F : FTy → Type) [FloatOps F] where
  pm : S256x6144.Idx → Elt F .bf16
  pp : S16x2048.Idx → Elt F .bf16
  pn : S16x2048.Idx → Elt F .bf16
  cw : S4x31x256.Idx → Elt F .f32
  cb : S1x1024.Idx → Elt F .f32
  clg : S1x1024.Idx → Elt F .f32
  clb : S1x1024.Idx → Elt F .f32
  slg : S1x1024.Idx → Elt F .f32
  slb : S1x1024.Idx → Elt F .f32
  ws : S8x128x128.Idx → Elt F .f32
  bst : S128x8.Idx → Elt F .f32
  y : S256x2048.Idx → Elt F .bf16
  cv : S256x1024.Idx → Elt F .f32
  sh : S8x288x128.Idx → Elt F .f32

/-! The contents with one array replaced. -/
def St.setY (S : St F) (X : S256x2048.Idx → Elt F .bf16) : St F := { S with y := X }
def St.setCv (S : St F) (X : S256x1024.Idx → Elt F .f32) : St F := { S with cv := X }
def St.setSh (S : St F) (X : S8x288x128.Idx → Elt F .f32) : St F := { S with sh := X }

/-- Every array is owned, at the contents `S`. -/
def Own (c : Dev nD) (M : Mems) (S : St F) : sProp 𝕄 :=
  iprop(owns c M.pm fullShare S.pm ∗ owns c M.pp fullShare S.pp ∗ owns c M.pn fullShare S.pn ∗ owns c M.cw fullShare S.cw ∗ owns c M.cb fullShare S.cb ∗ owns c M.clg fullShare S.clg ∗ owns c M.clb fullShare S.clb ∗ owns c M.slg fullShare S.slg ∗ owns c M.slb fullShare S.slb ∗ owns c M.ws fullShare S.ws ∗ owns c M.bst fullShare S.bst ∗ owns c M.y fullShare S.y ∗ owns c M.cv fullShare S.cv ∗ owns c M.sh fullShare S.sh)

/-- `P` run from the contents `S` ends with `a` at the contents `S'`. -/
def Runs (c : Dev nD) (M : Mems) {α : Type} (P : Pg F α) (S : St F) (a : α) (S' : St F) : Prop :=
  ∀ Q : α → sProp 𝕄, (Own c M S' ⊢ Q a) → (Own c M S ⊢ wp frame (wpE (defs₀ (F := F)) Variants.none (c : Thread nD τ) none) Set.univ P Q)

variable {c : Dev nD} {M : Mems}

theorem Runs.ret {α : Type} (a : α) (S : St F) : Runs c M (pure a) S a S := fun Q h => by
  show _ ⊢ wp _ _ _ (.ret a) Q
  rw [wp_ret]; refine h.trans ?_
  iintro H; imodintro; iexact H

theorem Runs.bind {α β : Type} {P : Pg F α} {k : α → Pg F β} {S S' S'' : St F} {a : α} {b : β} (h : Runs c M P S a S')
    (hk : Runs c M (k a) S' b S'') : Runs c M (P >>= k) S b S'' := fun Q hQ => by
  rw [wp_bind]; exact h _ (hk Q hQ)

/-- One array among those owned. -/
def Fld (c : Dev nD) (M : Mems) {s : Shape} {e : EltTy} (m : Memref sig .tc .vmem s e) (get : St F → s.Idx → Elt F e)
    (set : St F → (s.Idx → Elt F e) → St F) : Prop :=
  ∀ S, Own c M S ⊢ iprop(owns (c : Thread nD τ) m fullShare (get S) ∗ (∀ X, owns (c : Thread nD τ) m fullShare X -∗ Own c M (set S X)))

theorem acc_head {X : Type} (A : X → sProp 𝕄) (x : X) (R : sProp 𝕄) :
    iprop(A x ∗ R) ⊢ iprop(A x ∗ (∀ y, A y -∗ iprop(A y ∗ R))) := by
  iintro ⟨H, HR⟩
  isplitl [H]; · iexact H
  iintro %y Hy
  isplitl [Hy]; · iexact Hy
  iexact HR

theorem acc_last {X : Type} (A : X → sProp 𝕄) (x : X) : A x ⊢ iprop(A x ∗ (∀ y, A y -∗ A y)) := by
  iintro H
  isplitl [H]; · iexact H
  iintro %y Hy
  iexact Hy

theorem acc_tail {X : Type} (A : X → sProp 𝕄) (x : X) (P R : sProp 𝕄) (R' : X → sProp 𝕄)
    (h : R ⊢ iprop(A x ∗ (∀ y, A y -∗ R' y))) :
    iprop(P ∗ R) ⊢ iprop(A x ∗ (∀ y, A y -∗ iprop(P ∗ R' y))) := by
  iintro ⟨HP, HR⟩
  ihave HR := h $$ HR
  icases HR with ⟨HA, HR⟩
  isplitl [HA]; · iexact HA
  iintro %y Hy
  isplitl [HP]; · iexact HP
  iapply HR; iexact Hy

theorem fld_pm : Fld c M M.pm (St.pm (F := F)) (fun S X => {S with pm := X}) :=
  fun S => acc_head _ _ _
theorem fld_pp : Fld c M M.pp (St.pp (F := F)) (fun S X => {S with pp := X}) :=
  fun S => acc_tail _ _ _ _ _ (acc_head _ _ _)
theorem fld_pn : Fld c M M.pn (St.pn (F := F)) (fun S X => {S with pn := X}) :=
  fun S => acc_tail _ _ _ _ _ (acc_tail _ _ _ _ _ (acc_head _ _ _))
theorem fld_cw : Fld c M M.cw (St.cw (F := F)) (fun S X => {S with cw := X}) :=
  fun S => acc_tail _ _ _ _ _ (acc_tail _ _ _ _ _ (acc_tail _ _ _ _ _ (acc_head _ _ _)))
theorem fld_cb : Fld c M M.cb (St.cb (F := F)) (fun S X => {S with cb := X}) :=
  fun S => acc_tail _ _ _ _ _ (acc_tail _ _ _ _ _ (acc_tail _ _ _ _ _ (acc_tail _ _ _ _ _ (acc_head _ _ _))))
theorem fld_clg : Fld c M M.clg (St.clg (F := F)) (fun S X => {S with clg := X}) :=
  fun S => acc_tail _ _ _ _ _ (acc_tail _ _ _ _ _ (acc_tail _ _ _ _ _ (acc_tail _ _ _ _ _ (acc_tail _ _ _ _ _ (acc_head _ _ _)))))
theorem fld_clb : Fld c M M.clb (St.clb (F := F)) (fun S X => {S with clb := X}) :=
  fun S => acc_tail _ _ _ _ _ (acc_tail _ _ _ _ _ (acc_tail _ _ _ _ _ (acc_tail _ _ _ _ _ (acc_tail _ _ _ _ _ (acc_tail _ _ _ _ _ (acc_head _ _ _))))))
theorem fld_slg : Fld c M M.slg (St.slg (F := F)) (fun S X => {S with slg := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))
theorem fld_slb : Fld c M M.slb (St.slb (F := F)) (fun S X => {S with slb := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))
theorem fld_ws : Fld c M M.ws (St.ws (F := F)) (fun S X => {S with ws := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))
theorem fld_bst : Fld c M M.bst (St.bst (F := F)) (fun S X => {S with bst := X}) :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))
theorem fld_y : Fld c M M.y (St.y (F := F)) St.setY :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _)))))))))))
theorem fld_cv : Fld c M M.cv (St.cv (F := F)) St.setCv :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_head _ _ _))))))))))))
theorem fld_sh : Fld c M M.sh (St.sh (F := F)) St.setSh :=
  fun S => acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_tail _ _ _ _ _ (acc_last _ _)))))))))))))

theorem Runs.ld {s : Shape} {e : EltTy} {m : Memref sig .tc .vmem s e} {get : St F → s.Idx → Elt F e} {set : St F → (s.Idx → Elt F e) → St F}
    (hf : Fld c M m get set) (hgs : ∀ S, set S (get S) = S) (off size : Fin s.rank → ℕ) (inb : ∀ a, off a + size a ≤ s.size a)
    (hn : 0 < (Rect.unit off size inb).toLoadRect.shape.numel) (S : St F) :
    Runs c M (Fwd.ld m off size inb hn) S (blk (get S) off size inb) S := fun Q hQ => by
  refine (hf S).trans ?_
  show _ ⊢ wp _ _ _ (.op _ .ret) Q
  unfold owns
  iintro ⟨⟨%f, %hf', Hm⟩, HR⟩
  iapply (wp_load (defs := defs₀ (F := F)) Variants.none (c : Thread nD τ) none Set.univ (m := m) (View.setOn_subset_set _ _)) $$ [Hm]
  · iexact Hm
  iintro Hm
  rw [wp_ret]
  imodintro
  have hv : m.view.readAt (Elt F) (Rect.unit off size inb).toLoadRect f = blk (get S) off size inb := by
    funext x; rw [View.readAt_apply, hf']; rfl
  rw [hv]
  have hQ' : Own c M (set S (get S)) ⊢ Q (blk (get S) off size inb) := by rw [hgs]; exact hQ
  iapply hQ'
  iapply HR
  iexists f; isplitr
  · ipureintro; exact hf'
  · iexact Hm

/-- What a store to a block leaves. -/
theorem Runs.store {s : Shape} {e : EltTy} {m : Memref sig .tc .vmem s e} {get : St F → s.Idx → Elt F e} {set : St F → (s.Idx → Elt F e) → St F}
    (hf : Fld c M m get set) (r : Rect s) (w : r.shape.Idx → Elt F e) (hx hm) (S : St F) :
    Runs c M (Prog.lift (.store m r w Finset.univ hx hm)) S ⟨⟩ (set S (upd (get S) r w)) := fun Q hQ => by
  refine (hf S).trans ?_
  show _ ⊢ wp _ _ _ (.op _ .ret) Q
  unfold owns
  iintro ⟨⟨%f, %hf', Hm⟩, HR⟩
  iapply (wp_store (defs := defs₀ (F := F)) Variants.none (c : Thread nD τ) none Set.univ (m := m) (r := r) (w := w) (S := m.view.set)
    ((m.view.slice r).setOn_subset_set _ |>.trans (by rw [View.set_slice]; exact View.setOn_subset_set _ _))) $$ [Hm]
  · iexact Hm
  iintro Hm
  rw [wp_ret]
  imodintro
  iapply hQ
  iapply HR
  iexists _; isplitr
  rotate_left
  · iexact Hm
  · ipureintro
    funext y
    by_cases h : ∃ x, r.emb x = y
    · obtain ⟨x, rfl⟩ := h
      rw [upd_emb]; exact View.read_slice_write_emb r _ w (Finset.mem_univ x)
    · rw [upd_miss _ _ _ _ h, ← hf']
      refine View.read_slice_write_of_not_mem r _ w _ fun hm => h ?_
      obtain ⟨x, -, hx⟩ := Finset.mem_map.mp hm
      exact ⟨x, hx⟩

/-- A write of a block: the block is read first and forgotten. -/
theorem Runs.put {s : Shape} {e : EltTy} {m : Memref sig .tc .vmem s e} {get : St F → s.Idx → Elt F e} {set : St F → (s.Idx → Elt F e) → St F}
    (hf : Fld c M m get set) (hgs : ∀ S, set S (get S) = S) (he : e.bits = 32) (off size : Fin s.rank → ℕ)
    (inb : ∀ a, off a + size a ≤ s.size a) (hn : 0 < (Rect.unit off size inb).shape.numel) (w : (Rect.unit off size inb).shape.Idx → Elt F e) (S : St F) :
    Runs c M (Fwd.put m he off size inb hn w) S ⟨⟩ (set S (upd (get S) (Rect.unit off size inb) w)) :=
  (Runs.ld hf hgs off size inb hn S).bind (Runs.store hf _ w _ _ S)

theorem Runs.putY (off size : Fin 2 → ℕ) (inb : ∀ a, off a + size a ≤ S256x2048.size a) (hn pk)
    (w : (Rect.unit (s := S256x2048) off size inb).shape.Idx → Elt F .bf16) (S : St F) :
    Runs c M (Fwd.putY M off size inb hn pk w) S ⟨⟩ (S.setY (upd S.y (Rect.unit (s := S256x2048) off size inb) w)) :=
  (Runs.ld (fld_y (F := F)) (fun _ => rfl) off size inb hn S).bind (Runs.store (fld_y (F := F)) _ w _ _ S)

/-- A counted loop, by an invariant over the trips. -/
theorem Runs.loop {w : ℕ} {σ : Type} (l : Scf.Loop w) (hok : l.OK) (body : Fin l.trips → σ → Pg F σ) (I : ℕ → σ → St F → Prop)
    (hstep : ∀ (k : Fin l.trips) (a : σ) (S : St F), I k.val a S → ∃ a' S', Runs c M (body k a) S a' S' ∧ I (k.val + 1) a' S')
    (a : σ) (S : St F) (h0 : I 0 a S) : ∃ a' S', Runs c M (Scf.Loop.for l hok a body) S a' S' ∧ I l.trips a' S' := by
  suffices H : ∀ (n k : ℕ) (hk : k + n = l.trips) (a : σ) (S : St F), I k a S →
      ∃ a' S', Runs c M (Scf.forFrom body ((List.finRange l.trips).drop k) a) S a' S' ∧ I l.trips a' S' by
    obtain ⟨a', S', h⟩ := H l.trips 0 (Nat.zero_add _) a S h0
    refine ⟨a', S', ?_⟩
    rw [Scf.Loop.for, Scf.for_eq]; exact h
  intro n
  induction n with
  | zero =>
    intro k hk a S h
    obtain rfl : k = l.trips := hk
    rw [List.drop_of_length_le (by simp)]
    exact ⟨a, S, Runs.ret a S, h⟩
  | succ n ih =>
    intro k hk a S h
    have hlt : k < l.trips := by omega
    obtain ⟨a₁, S₁, h₁, h₁'⟩ := hstep ⟨k, hlt⟩ a S h
    obtain ⟨a₂, S₂, h₂, h₂'⟩ := ih (k + 1) (by omega) a₁ S₁ h₁'
    refine ⟨a₂, S₂, ?_, h₂'⟩
    rw [List.drop_eq_getElem_cons (by simpa using hlt), List.getElem_finRange, Fin.cast_mk, Scf.forFrom_cons]
    exact h₁.bind h₂

/-- `P` run from the contents `S` ends with some value and contents of which `Φ` holds. -/
def Reach (c : Dev nD) (M : Mems) {α : Type} (P : Pg F α) (S : St F) (Φ : α → St F → Prop) : Prop :=
  ∃ a S', Runs c M P S a S' ∧ Φ a S'

theorem Reach.ret {α : Type} {a : α} {S : St F} {Φ : α → St F → Prop} (h : Φ a S) : Reach c M (pure a) S Φ := ⟨a, S, Runs.ret a S, h⟩

theorem Reach.bind {α β : Type} {P : Pg F α} {k : α → Pg F β} {S : St F} {Φ : β → St F → Prop}
    (h : Reach c M P S fun a S' => Reach c M (k a) S' Φ) : Reach c M (P >>= k) S Φ := by
  obtain ⟨a, S', h1, b, S'', h2, h3⟩ := h
  exact ⟨b, S'', h1.bind h2, h3⟩

theorem Reach.mono {α : Type} {P : Pg F α} {S : St F} {Φ Ψ : α → St F → Prop} (h : Reach c M P S Φ) (hΦ : ∀ a S', Φ a S' → Ψ a S') :
    Reach c M P S Ψ := by
  obtain ⟨a, S', h1, h2⟩ := h
  exact ⟨a, S', h1, hΦ a S' h2⟩

theorem Reach.ld {s : Shape} {e : EltTy} {m : Memref sig .tc .vmem s e} {get : St F → s.Idx → Elt F e} {set : St F → (s.Idx → Elt F e) → St F}
    (hf : Fld c M m get set) (hgs : ∀ S, set S (get S) = S) {off size : Fin s.rank → ℕ} {inb : ∀ a, off a + size a ≤ s.size a}
    {hn : 0 < (Rect.unit off size inb).toLoadRect.shape.numel} {S : St F} {Φ : _ → St F → Prop}
    (h : ∀ X, X = blk (get S) off size inb → Φ X S) : Reach c M (Fwd.ld m off size inb hn) S Φ :=
  ⟨_, _, Runs.ld hf hgs off size inb hn S, h _ rfl⟩

theorem Reach.put {s : Shape} {e : EltTy} {m : Memref sig .tc .vmem s e} {get : St F → s.Idx → Elt F e} {set : St F → (s.Idx → Elt F e) → St F}
    (hf : Fld c M m get set) (hgs : ∀ S, set S (get S) = S) {he : e.bits = 32} {off size : Fin s.rank → ℕ}
    {inb : ∀ a, off a + size a ≤ s.size a} {hn : 0 < (Rect.unit off size inb).shape.numel} {w : (Rect.unit off size inb).shape.Idx → Elt F e}
    {S : St F} {Φ : PUnit → St F → Prop} (h : ∀ X, X = upd (get S) (Rect.unit off size inb) w → Φ ⟨⟩ (set S X)) :
    Reach c M (Fwd.put m he off size inb hn w) S Φ :=
  ⟨_, _, Runs.put hf hgs he off size inb hn w S, h _ rfl⟩

theorem Reach.putY {off size : Fin 2 → ℕ} {inb : ∀ a, off a + size a ≤ S256x2048.size a} {hn pk}
    {w : (Rect.unit (s := S256x2048) off size inb).shape.Idx → Elt F .bf16} {S : St F} {Φ : PUnit → St F → Prop}
    (h : ∀ X, X = upd S.y (Rect.unit (s := S256x2048) off size inb) w → Φ ⟨⟩ (S.setY X)) :
    Reach c M (Fwd.putY M off size inb hn pk w) S Φ :=
  ⟨_, _, Runs.putY off size inb hn pk w S, h _ rfl⟩

theorem Reach.loop {w : ℕ} {σ : Type} {l : Scf.Loop w} {hok : l.OK} {body : Fin l.trips → σ → Pg F σ} (I : ℕ → σ → St F → Prop)
    (hstep : ∀ (k : Fin l.trips) (a : σ) (S : St F), I k.val a S → Reach c M (body k a) S (I (k.val + 1)))
    {a : σ} {S : St F} (h0 : I 0 a S) : Reach c M (Scf.Loop.for l hok a body) S (I l.trips) :=
  Runs.loop l hok body I hstep a S h0

end Cert.Fwd

end
-- ==== Proof.FwdKeep.lean ====
/- The body writes none of its input arrays: whatever the arithmetic, it runs to its end and leaves the eleven
   input arrays as they were. -/
module

public import proofs.«01_k».proof.Proof.FwdRun

@[expose] public section

set_option maxRecDepth 65536
set_option synthInstance.maxSize 4096
set_option synthInstance.maxHeartbeats 400000

noncomputable section

namespace Cert.Fwd

open Idealize.ShloMosaic Idealize.SL Idealize.SL.Sem Cert.FwdKernelIdeal Cert.FwdKernelIdeal.Gen
open Idealize.ShloMosaic.TcCoe

variable {F : FTy → Type} [FloatOps F] {c : Dev nD} {M : Mems}

/-- Two contents agree on the input arrays. -/
def St.Same (S S' : St F) : Prop := ∃ y cv sh, S' = { S with y := y, cv := cv, sh := sh }

theorem St.Same.refl (S : St F) : S.Same S := ⟨S.y, S.cv, S.sh, rfl⟩
theorem St.Same.trans {S S' S'' : St F} (h : S.Same S') (h' : S'.Same S'') : S.Same S'' := by
  obtain ⟨_, _, _, rfl⟩ := h
  obtain ⟨y, cv, sh, rfl⟩ := h'
  exact ⟨y, cv, sh, rfl⟩

/-- `P` runs to its end and writes no input array. -/
class Keeps (c : Dev nD) (M : Mems) {α : Type} (P : Pg F α) : Prop where
  reach : ∀ S, Reach c M P S fun _ S' => S.Same S'

instance Keeps.ret {α : Type} (a : α) : Keeps (F := F) c M (pure a) := ⟨fun S => Reach.ret (.refl S)⟩
instance Keeps.bind {α β : Type} {P : Pg F α} {k : α → Pg F β} [hP : Keeps c M P] [hk : ∀ a, Keeps c M (k a)] : Keeps c M (P >>= k) :=
  ⟨fun S => Reach.bind ((hP.reach S).mono fun a S' h => ((hk a).reach S').mono fun _ _ h' => h.trans h')⟩
instance Keeps.ite {α : Type} {p : Prop} [Decidable p] {P Q : Pg F α} [hP : Keeps c M P] [hQ : Keeps c M Q] :
    Keeps c M (if _h : p then P else Q) := by
  by_cases h : p
  · rw [dif_pos h]; exact hP
  · rw [dif_neg h]; exact hQ
instance Keeps.loop {w : ℕ} {σ : Type} {l : Scf.Loop w} {hok : l.OK} {body : Fin l.trips → σ → Pg F σ} [h : ∀ k a, Keeps c M (body k a)]
    (a : σ) : Keeps c M (Scf.Loop.for l hok a body) :=
  ⟨fun S => Reach.loop (fun _ _ S' => S.Same S') (fun k a S' hS => ((h k a).reach S').mono fun _ _ h' => hS.trans h') (.refl S)⟩

theorem Keeps.ld {s : Shape} {e : EltTy} {m : Memref sig .tc .vmem s e} {get : St F → s.Idx → Elt F e} {set : St F → (s.Idx → Elt F e) → St F}
    (hf : Fld c M m get set) (hgs : ∀ S, set S (get S) = S) {off size : Fin s.rank → ℕ} {inb : ∀ a, off a + size a ≤ s.size a}
    {hn : 0 < (Rect.unit off size inb).toLoadRect.shape.numel} : Keeps (F := F) c M (Fwd.ld m off size inb hn) :=
  ⟨fun S => Reach.ld hf hgs fun _ _ => .refl S⟩
theorem Keeps.put {s : Shape} {e : EltTy} {m : Memref sig .tc .vmem s e} {get : St F → s.Idx → Elt F e} {set : St F → (s.Idx → Elt F e) → St F}
    (hf : Fld c M m get set) (hgs : ∀ S, set S (get S) = S) (hs : ∀ (S : St F) X, S.Same (set S X)) {he : e.bits = 32} {off size : Fin s.rank → ℕ}
    {inb : ∀ a, off a + size a ≤ s.size a} {hn : 0 < (Rect.unit off size inb).shape.numel} {w : (Rect.unit off size inb).shape.Idx → Elt F e} :
    Keeps (F := F) c M (Fwd.put m he off size inb hn w) :=
  ⟨fun S => Reach.put hf hgs fun X _ => hs S X⟩
instance Keeps.putY {off size : Fin 2 → ℕ} {inb : ∀ a, off a + size a ≤ S256x2048.size a} {hn pk}
    {w : (Rect.unit (s := S256x2048) off size inb).shape.Idx → Elt F .bf16} : Keeps (F := F) c M (Fwd.putY M off size inb hn pk w) :=
  ⟨fun S => Reach.putY fun X _ => ⟨X, S.cv, S.sh, rfl⟩⟩

instance {off size inb hn} : Keeps (F := F) c M (Fwd.ld M.pm off size inb hn) := Keeps.ld fld_pm fun _ => rfl
instance {off size inb hn} : Keeps (F := F) c M (Fwd.ld M.pp off size inb hn) := Keeps.ld fld_pp fun _ => rfl
instance {off size inb hn} : Keeps (F := F) c M (Fwd.ld M.pn off size inb hn) := Keeps.ld fld_pn fun _ => rfl
instance {off size inb hn} : Keeps (F := F) c M (Fwd.ld M.cw off size inb hn) := Keeps.ld fld_cw fun _ => rfl
instance {off size inb hn} : Keeps (F := F) c M (Fwd.ld M.cb off size inb hn) := Keeps.ld fld_cb fun _ => rfl
instance {off size inb hn} : Keeps (F := F) c M (Fwd.ld M.clg off size inb hn) := Keeps.ld fld_clg fun _ => rfl
instance {off size inb hn} : Keeps (F := F) c M (Fwd.ld M.clb off size inb hn) := Keeps.ld fld_clb fun _ => rfl
instance {off size inb hn} : Keeps (F := F) c M (Fwd.ld M.slg off size inb hn) := Keeps.ld fld_slg fun _ => rfl
instance {off size inb hn} : Keeps (F := F) c M (Fwd.ld M.slb off size inb hn) := Keeps.ld fld_slb fun _ => rfl
instance {off size inb hn} : Keeps (F := F) c M (Fwd.ld M.ws off size inb hn) := Keeps.ld fld_ws fun _ => rfl
instance {off size inb hn} : Keeps (F := F) c M (Fwd.ld M.bst off size inb hn) := Keeps.ld fld_bst fun _ => rfl
instance {off size inb hn} : Keeps (F := F) c M (Fwd.ld M.y off size inb hn) := Keeps.ld fld_y fun _ => rfl
instance {off size inb hn} : Keeps (F := F) c M (Fwd.ld M.cv off size inb hn) := Keeps.ld fld_cv fun _ => rfl
instance {off size inb hn} : Keeps (F := F) c M (Fwd.ld M.sh off size inb hn) := Keeps.ld fld_sh fun _ => rfl
instance keeps_put_cv {he off size inb hn w} : Keeps (F := F) c M (Fwd.put M.cv he off size inb hn w) :=
  Keeps.put fld_cv (fun _ => rfl) fun S X => ⟨S.y, X, S.sh, rfl⟩
instance keeps_put_sh {he off size inb hn w} : Keeps (F := F) c M (Fwd.put M.sh he off size inb hn w) :=
  Keeps.put fld_sh (fun _ => rfl) fun S X => ⟨S.y, S.cv, X, rfl⟩

attribute [local irreducible] Fwd.put Fwd.putY Fwd.ld

instance keeps_fill (v : Vec F S288x128 .f32) (n : ℕ) (h : n ≤ 8) : Keeps (F := F) c M (fill M v n h) := by
  induction n with
  | zero => unfold fill; infer_instance
  | succ n ih =>
    haveI := ih (by omega); unfold fill
    repeat' (first | infer_instance | refine @Keeps.bind _ _ _ _ _ _ _ _ ?_ fun _ => ?_ | exact keeps_put_sh)
instance keeps_taps (lb : Fin 8) (k : Fin 2) (b : Vec F S1x128 .f32) (n : ℕ) (h : n ≤ 31) : Keeps (F := F) c M (taps M lb k b n h) := by
  induction n with
  | zero => unfold taps; infer_instance
  | succ n ih =>
    haveI := ih (by omega); unfold taps
    repeat' (first | infer_instance | refine @Keeps.bind _ _ _ _ _ _ _ _ ?_ fun _ => ?_)
instance keeps_trip (lb : Fin 8) (b : Vec F S1x128 .f32) (k : Fin 2) : Keeps (F := F) c M (trip M lb b k) := by
  unfold trip
  repeat' (first | infer_instance | refine @Keeps.bind _ _ _ _ _ _ _ _ ?_ fun _ => ?_ | exact keeps_put_cv)
instance keeps_conv (lb : Fin 8) (b : Vec F S1x128 .f32) : Keeps (F := F) c M (conv M lb b) := by
  unfold conv
  exact Keeps.loop (l := k0_t1_loop) (h := fun k _ => keeps_trip lb b k) ()
instance keeps_lane (i : grid0.Coords) (lb : Fin 8) : Keeps (F := F) c M (lane M i lb) := by
  unfold lane
  repeat' (first | infer_instance | refine @Keeps.bind _ _ _ _ _ _ _ _ ?_ fun _ => ?_)
instance keeps_lanes (i : grid0.Coords) (n : ℕ) (h : n ≤ 8) : Keeps (F := F) c M (lanes M i n h) := by
  induction n with
  | zero => unfold lanes; infer_instance
  | succ n ih =>
    haveI := ih (by omega); unfold lanes
    repeat' (first | infer_instance | refine @Keeps.bind _ _ _ _ _ _ _ _ ?_ fun _ => ?_)
instance keeps_norm  : Keeps (F := F) c M (norm M ) := by
  unfold norm
  repeat' (first | infer_instance | refine @Keeps.bind _ _ _ _ _ _ _ _ ?_ fun _ => ?_)
instance keeps_chunk (vn : FVec F S256x1024 .bf16) (ch : Fin 2) (hd : Fin 8) (w : Vec F S1x128x128 .f32) (b : Vec F S128x1 .f32) : Keeps (F := F) c M (chunk M vn ch hd w b) := by
  unfold chunk
  repeat' (first | infer_instance | refine @Keeps.bind _ _ _ _ _ _ _ _ ?_ fun _ => ?_)
instance keeps_head (vn : FVec F S256x1024 .bf16) (hd : Fin 8) : Keeps (F := F) c M (head M vn hd) := by
  unfold head
  repeat' (first | infer_instance | refine @Keeps.bind _ _ _ _ _ _ _ _ ?_ fun _ => ?_)
instance keeps_heads (vn : FVec F S256x1024 .bf16) (n : ℕ) (h : n ≤ 8) : Keeps (F := F) c M (heads M vn n h) := by
  induction n with
  | zero => unfold heads; infer_instance
  | succ n ih =>
    haveI := ih (by omega); unfold heads
    repeat' (first | infer_instance | refine @Keeps.bind _ _ _ _ _ _ _ _ ?_ fun _ => ?_)
instance keeps_gate  : Keeps (F := F) c M (gate M ) := by
  unfold gate
  repeat' (first | infer_instance | refine @Keeps.bind _ _ _ _ _ _ _ _ ?_ fun _ => ?_)
/-- The whole body runs to its end and writes no input array. -/
theorem keeps_body (i : grid0.Coords) : Keeps (F := F) c M (body M i) := by
  unfold body
  repeat' (first | infer_instance | refine @Keeps.bind _ _ _ _ _ _ _ _ ?_ fun _ => ?_)

end Cert.Fwd

end
-- ==== Proof.FwdBodyEq.lean ====
module

public import proofs.«01_k».proof.Proof.FwdProg
public import Idealize.ShloMosaic.Lib.Tactic

@[expose] public section

set_option maxRecDepth 1000000
set_option maxHeartbeats 0

noncomputable section

namespace Cert.Fwd

open Idealize.ShloMosaic Idealize.SL.Sem Cert.FwdKernelIdeal Cert.FwdKernelIdeal.Gen

variable {F : FTy → Type} [FloatOps F]

/-- The printed body is the stages in turn. -/
theorem body_eq (i : grid0.Coords) (arg1 : Memref sig .tc .vmem S256x6144 .bf16) (harg1 : arg1.IsWhole) (arg2 : Memref sig .tc .vmem S16x2048 .bf16) (harg2 : arg2.IsWhole) (arg3 : Memref sig .tc .vmem S16x2048 .bf16) (harg3 : arg3.IsWhole) (arg4 : Memref sig .tc .vmem S4x31x256 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S8x128x128 .f32) (harg10 : arg10.IsWhole) (arg11 : Memref sig .tc .vmem S128x8 .f32) (harg11 : arg11.IsWhole) (arg12 : Memref sig .tc .vmem S256x2048 .bf16) (harg12 : arg12.IsWhole) (arg13 : Memref sig .tc .vmem S256x1024 .f32) (harg13 : arg13.IsWhole) (arg14 : Memref sig .tc .vmem S8x288x128 .f32) (harg14 : arg14.IsWhole) :
    cc0_branch_fwd (F := F) i arg1 harg1 arg2 harg2 arg3 harg3 arg4 harg4 arg5 harg5 arg6 harg6 arg7 harg7 arg8 harg8 arg9 harg9 arg10 harg10 arg11 harg11 arg12 harg12 arg13 harg13 arg14 harg14 = body ⟨arg1, arg2, arg3, arg4, arg5, arg6, arg7, arg8, arg9, arg10, arg11, arg12, arg13, arg14, harg12⟩ i := by
  simp only [cc0_branch_fwd, k0_part93, k0_part67, k0_part69, k0_part71, k0_part72, k0_part74, k0_part76, k0_part77, k0_part79, k0_part81, k0_part83,
    body, lanes, lane, conv, Scf.Loop.for, Scf.for_eq]
  sl_kernel_rfl

end Cert.Fwd

end
-- ==== Proof.FwdLaunch.lean ====
/- The launch of the branch's forward kernel, at any arithmetic: from a law that each grid point keeps, what the
   arrays hold when the program has ended. The frame of the program is the law that asks nothing. -/
module

public import proofs.«01_k».proof.Proof.FwdKeep
public import proofs.«01_k».proof.Proof.FwdBodyEq
public import proofs.«01_k».proof.Proof.Gen.FwdKernelIdeal.Frame
public import Idealize.ShloMosaic.Lib.Pipeline.DatRel
public import Idealize.ShloMosaic.Lib.Pipeline.ArrRel

@[expose] public section

set_option maxRecDepth 65536

noncomputable section

namespace Cert.Fwd

open Idealize.ShloMosaic Idealize.ShloMosaic.TcCoe Idealize.SL Idealize.SL.Sem Cert.FwdKernelIdeal Cert.FwdKernelIdeal.Gen
open Idealize.SL.RA Idealize.SL.BI
open scoped Idealize.SL.BI
open Idealize.SL.BI.BIBase Idealize.SL.BI.Laws Idealize.SL.ProofMode
open Idealize.ShloMosaic.Pipeline (Dat RDat)

variable {F : FTy → Type} [FloatOps F]

local notation "𝕄" => MT nD τ sig Unit (Elt F) ℕ (UR sig nD τ) ℕ

/-- The arrays the body is called with at point `t`. -/
abbrev memsAt (t : Fin cfg0.N) : Mems :=
  ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), win0_11.stage (cfg0.slots t 11), win0_12.stage (cfg0.slots t 12), Memref.whole cc0_scratch0,
    hstage0_11 ((cfg0.slots t 11).cast nbuf0_11)⟩

variable (m : (ℓ : Loc nD τ sig) → Buf (Elt F) ℓ) (ρ : Dev nD → PrngReg)

/-- The contents at point `t`: the blocks of the inputs, and the given outputs and scratch. -/
def stAt (c : Dev nD) (t : Fin cfg0.N) (y : S256x2048.Idx → Elt F .bf16) (cv : S256x1024.Idx → Elt F .f32) (sh : S8x288x128.Idx → Elt F .f32) : St F :=
  { pm := iblk m c 0 t, pp := iblk m c 1 t, pn := iblk m c 2 t, cw := iblk m c 3 t, cb := iblk m c 4 t, clg := iblk m c 5 t, clb := iblk m c 6 t, slg := iblk m c 7 t, slb := iblk m c 8 t, ws := iblk m c 9 t, bst := iblk m c 10 t,
    y := y, cv := cv, sh := sh }

/-- What each point leaves in the two arrays it writes back. -/
structure Law where
  y : Dev nD → Fin cfg0.N → (S256x2048.Idx → Elt F .bf16) → Prop
  cv : Dev nD → Fin cfg0.N → (S256x1024.Idx → Elt F .f32) → Prop
  step : ∀ (c : Dev nD) (M : Mems) (t : Fin cfg0.N) (S : St F), (∃ y cv sh, S = stAt m c t y cv sh) →
    Reach c M (body M (grid0.coords t)) S fun _ S' => (∃ y cv sh, S' = stAt m c t y cv sh) ∧ y c t S'.y ∧ cv c t S'.cv

variable {m}

/-- The scratch between points holds anything. -/
def phi (c : Dev nD) : sProp 𝕄 :=
  iprop((∃ sh, owns (c : Thread nD τ) (Memref.whole cc0_scratch0) fullShare sh) ∗ (∃ r, prngReg c r))

/-- The launch's proof data: the inputs' blocks stay in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨_ + 13, h⟩ => absurd h (Nat.not_lt.2 (Nat.le_add_left _ _))
  Φ _ := phi c
  q w := Pipeline.shareOf spec0 w
  owed _ := 0

/-- The outputs are named by what the law says of them alone. -/
def marks : Fin cfg0.W → Bool := fun w => match w with
  | ⟨11, _⟩ => true
  | ⟨12, _⟩ => true
  | _ => false

/-- What the body leaves in the outputs. -/
def left (K : Law m) (c : Dev nD) (w : Fin cfg0.W) (t : Fin cfg0.N) : ((cfg0.win w).block.Idx → Elt F (cfg0.win w).elt) → Prop := match w with
  | ⟨11, _⟩ => fun X => K.y c t X
  | ⟨12, _⟩ => fun X => K.cv c t X
  | _ => fun _ => True

theorem A_eq (c : Dev nD) (w : Fin cfg0.W) : (dats (m := m) 0 c).A w = V m c (Pipeline.arrRef spec0 w) := by
  dsimp only [dats]

theorem before_0 (c : Dev nD) (t : Fin cfg0.N) (d) : (dats (m := m) 0 c).before 0 t d = iblk m c 0 t :=
  before0_0_of m (dats 0 c) (A_eq c 0) (fun t => by dsimp only [dats]) t d
theorem before_1 (c : Dev nD) (t : Fin cfg0.N) (d) : (dats (m := m) 0 c).before 1 t d = iblk m c 1 t :=
  before0_1_of m (dats 0 c) (A_eq c 1) (fun t => by dsimp only [dats]) t d
theorem before_2 (c : Dev nD) (t : Fin cfg0.N) (d) : (dats (m := m) 0 c).before 2 t d = iblk m c 2 t :=
  before0_2_of m (dats 0 c) (A_eq c 2) (fun t => by dsimp only [dats]) t d
theorem before_3 (c : Dev nD) (t : Fin cfg0.N) (d) : (dats (m := m) 0 c).before 3 t d = iblk m c 3 t :=
  before0_3_of m (dats 0 c) (A_eq c 3) (fun t => by dsimp only [dats]) t d
theorem before_4 (c : Dev nD) (t : Fin cfg0.N) (d) : (dats (m := m) 0 c).before 4 t d = iblk m c 4 t :=
  before0_4_of m (dats 0 c) (A_eq c 4) (fun t => by dsimp only [dats]) t d
theorem before_5 (c : Dev nD) (t : Fin cfg0.N) (d) : (dats (m := m) 0 c).before 5 t d = iblk m c 5 t :=
  before0_5_of m (dats 0 c) (A_eq c 5) (fun t => by dsimp only [dats]) t d
theorem before_6 (c : Dev nD) (t : Fin cfg0.N) (d) : (dats (m := m) 0 c).before 6 t d = iblk m c 6 t :=
  before0_6_of m (dats 0 c) (A_eq c 6) (fun t => by dsimp only [dats]) t d
theorem before_7 (c : Dev nD) (t : Fin cfg0.N) (d) : (dats (m := m) 0 c).before 7 t d = iblk m c 7 t :=
  before0_7_of m (dats 0 c) (A_eq c 7) (fun t => by dsimp only [dats]) t d
theorem before_8 (c : Dev nD) (t : Fin cfg0.N) (d) : (dats (m := m) 0 c).before 8 t d = iblk m c 8 t :=
  before0_8_of m (dats 0 c) (A_eq c 8) (fun t => by dsimp only [dats]) t d
theorem before_9 (c : Dev nD) (t : Fin cfg0.N) (d) : (dats (m := m) 0 c).before 9 t d = iblk m c 9 t :=
  before0_9_of m (dats 0 c) (A_eq c 9) (fun t => by dsimp only [dats]) t d
theorem before_10 (c : Dev nD) (t : Fin cfg0.N) (d) : (dats (m := m) 0 c).before 10 t d = iblk m c 10 t :=
  before0_10_of m (dats 0 c) (A_eq c 10) (fun t => by dsimp only [dats]) t d

theorem defs₀_row (t : Fin cfg0.N) : defs₀ (F := F) .tc cfg0.body (cfg0.bodyArgs t (cfg0.slots t)) = bodyAt0 t := by
  unfold defs₀; rw [Defs.onTc_tc]

end Cert.Fwd

end
-- ==== Proof.FwdFrame.lean ====
/- The body's triple at each grid point, and the run of the whole program under a law. -/
module

public import proofs.«01_k».proof.Proof.FwdLaunch

@[expose] public section

set_option maxRecDepth 65536

noncomputable section

namespace Cert.Fwd

open Idealize.ShloMosaic Idealize.ShloMosaic.TcCoe Idealize.SL Idealize.SL.Sem Cert.FwdKernelIdeal Cert.FwdKernelIdeal.Gen
open Idealize.SL.RA Idealize.SL.BI
open scoped Idealize.SL.BI
open Idealize.SL.BI.BIBase Idealize.SL.BI.Laws Idealize.SL.ProofMode
open Idealize.ShloMosaic.Pipeline (Dat RDat)

variable {F : FTy → Type} [FloatOps F]

local notation "𝕄" => MT nD τ sig Unit (Elt F) ℕ (UR sig nD τ) ℕ

variable {m : (ℓ : Loc nD τ sig) → Buf (Elt F) ℓ} (ρ : Dev nD → PrngReg) (K : Law m)

/-- The body at point `t` is the body read in stages. -/
theorem bodyAt_eq (t : Fin cfg0.N) : bodyAt0 (F := F) t = body (memsAt t) (grid0.coords t) :=
  body_eq _ _ _ _ _ _ _ _ _ _ _ _ _ _ _ _ _ _ _ _ _ _ _ _ _ _ _ _ _

/-- A run leaves what stands beside it. -/
theorem beside (c : Dev nD) {p : Prog (TpuEff nD τ sig (Elt F) Λ₀ .tc) PUnit} {P Q A : sProp 𝕄}
    (h : P ⊢ wp frame (wpE (defs₀ (F := F)) Variants.none (c : Thread nD τ) none) Set.univ p fun _ => Q) :
    iprop(P ∗ A) ⊢ wp frame (wpE (defs₀ (F := F)) Variants.none (c : Thread nD τ) none) Set.univ p fun _ => iprop(Q ∗ A) :=
  (sep_mono h .rfl).trans (wp_frame_r _ _ _)

/-- What the law gives of a run of the body at point `t`, beside anything else. -/
theorem step_run (c : Dev nD) (t : Fin cfg0.N) (Y cv sh) (A : sProp 𝕄) : ∃ y' cv' sh',
    (iprop(Own c (memsAt t) (stAt m c t Y cv sh) ∗ A) ⊢ wp frame (wpE (defs₀ (F := F)) Variants.none (c : Thread nD τ) none) Set.univ (body (memsAt t) (grid0.coords t))
      fun _ => iprop(Own c (memsAt t) (stAt m c t y' cv' sh') ∗ A)) ∧ K.y c t y' ∧ K.cv c t cv' := by
  have h := K.step c (memsAt t) t (stAt m c t Y cv sh) ⟨Y, cv, sh, rfl⟩
  obtain ⟨a, S', hrun, ⟨y', cv', sh', hS⟩, hy, hcv⟩ := h
  rw [hS] at hrun hy hcv
  exact ⟨y', cv', sh', beside c (hrun (fun _ => Own c (memsAt t) (stAt m c t y' cv' sh')) .rfl), hy, hcv⟩

set_option maxHeartbeats 400000 in
/-- Point `t` keeps the law: from the inputs' blocks it leaves the outputs as the law says. -/
theorem triple (c : Dev nD) (t : Fin cfg0.N) :
    iprop(phi c ∗ (dats (m := m) 0 c).owesAt () t.castSucc ∗ (∃ d, owns (c : Thread nD τ) (stage0_0 (cfg0.slots t 0)) fullShare ((dats (m := m) 0 c).before 0 t d)) ∗ (∃ d, owns (c : Thread nD τ) (stage0_1 (cfg0.slots t 1)) fullShare ((dats (m := m) 0 c).before 1 t d)) ∗ (∃ d, owns (c : Thread nD τ) (stage0_2 (cfg0.slots t 2)) fullShare ((dats (m := m) 0 c).before 2 t d)) ∗ (∃ d, owns (c : Thread nD τ) (stage0_3 (cfg0.slots t 3)) fullShare ((dats (m := m) 0 c).before 3 t d)) ∗ (∃ d, owns (c : Thread nD τ) (stage0_4 (cfg0.slots t 4)) fullShare ((dats (m := m) 0 c).before 4 t d)) ∗ (∃ d, owns (c : Thread nD τ) (stage0_5 (cfg0.slots t 5)) fullShare ((dats (m := m) 0 c).before 5 t d)) ∗ (∃ d, owns (c : Thread nD τ) (stage0_6 (cfg0.slots t 6)) fullShare ((dats (m := m) 0 c).before 6 t d)) ∗ (∃ d, owns (c : Thread nD τ) (stage0_7 (cfg0.slots t 7)) fullShare ((dats (m := m) 0 c).before 7 t d)) ∗ (∃ d, owns (c : Thread nD τ) (stage0_8 (cfg0.slots t 8)) fullShare ((dats (m := m) 0 c).before 8 t d)) ∗ (∃ d, owns (c : Thread nD τ) (stage0_9 (cfg0.slots t 9)) fullShare ((dats (m := m) 0 c).before 9 t d)) ∗ (∃ d, owns (c : Thread nD τ) (stage0_10 (cfg0.slots t 10)) fullShare ((dats (m := m) 0 c).before 10 t d)) ∗ (∃ Y, ⌜((dats (m := m) 0 c).toRRel marks (left K c)).Finds 11 t Y⌝ ∗ owns (c : Thread nD τ) (stage0_11 (cfg0.slots t 11)) fullShare (Y)) ∗ (∃ Y, ⌜((dats (m := m) 0 c).toRRel marks (left K c)).Finds 12 t Y⌝ ∗ owns (c : Thread nD τ) (stage0_12 (cfg0.slots t 12)) fullShare (Y))) ⊢
    wp frame (wpE (defs₀ (F := F)) Variants.none (c : Thread nD τ) none) Set.univ (body (memsAt t) (grid0.coords t)) fun _ =>
      iprop(phi c ∗ (dats (m := m) 0 c).owesAt () t.succ ∗ owns (c : Thread nD τ) (stage0_0 (cfg0.slots t 0)) fullShare (iblk m c 0 t) ∗ owns (c : Thread nD τ) (stage0_1 (cfg0.slots t 1)) fullShare (iblk m c 1 t) ∗ owns (c : Thread nD τ) (stage0_2 (cfg0.slots t 2)) fullShare (iblk m c 2 t) ∗ owns (c : Thread nD τ) (stage0_3 (cfg0.slots t 3)) fullShare (iblk m c 3 t) ∗ owns (c : Thread nD τ) (stage0_4 (cfg0.slots t 4)) fullShare (iblk m c 4 t) ∗ owns (c : Thread nD τ) (stage0_5 (cfg0.slots t 5)) fullShare (iblk m c 5 t) ∗ owns (c : Thread nD τ) (stage0_6 (cfg0.slots t 6)) fullShare (iblk m c 6 t) ∗ owns (c : Thread nD τ) (stage0_7 (cfg0.slots t 7)) fullShare (iblk m c 7 t) ∗ owns (c : Thread nD τ) (stage0_8 (cfg0.slots t 8)) fullShare (iblk m c 8 t) ∗ owns (c : Thread nD τ) (stage0_9 (cfg0.slots t 9)) fullShare (iblk m c 9 t) ∗ owns (c : Thread nD τ) (stage0_10 (cfg0.slots t 10)) fullShare (iblk m c 10 t) ∗ (∃ X, ⌜K.y c t X⌝ ∗ owns (c : Thread nD τ) (stage0_11 (cfg0.slots t 11)) fullShare (X)) ∗ (∃ X, ⌜K.cv c t X⌝ ∗ owns (c : Thread nD τ) (stage0_12 (cfg0.slots t 12)) fullShare (X))) := by
  unfold phi
  iintro ⟨⟨⟨%sh, C0⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %h11, H11⟩, ⟨%Y12, %h12, H12⟩⟩
  rw [before_0, before_1, before_2, before_3, before_4, before_5, before_6, before_7, before_8, before_9, before_10]
  obtain ⟨y', cv', sh', key, hy, hcv⟩ := step_run K c t Y11 Y12 sh (iprop((dats (m := m) 0 c).owesAt () t.castSucc ∗ ∃ r, prngReg c r))
  iapply wp_wand_r
  isplitl
  · iapply key
    dsimp only [Own, memsAt, stAt]
    iframe
  · iintro %_ ⟨HH, HO, HR⟩
    dsimp only [Own, memsAt, stAt]
    icases HH with ⟨H0, H1, H2, H3, H4, H5, H6, H7, H8, H9, H10, H11, H12, C0⟩
    iframe
    isplitl [C0]
    · iexists sh'
      iexact C0
    isplitl [HO]
    · iexact HO
    isplitl [H11]
    · iexists y'
      iframe
      ipureintro
      exact hy
    iexists cv'
    iframe
    ipureintro
    exact hcv

/-- What holds of a program holds of an equal one. -/
theorem at_eq (c : Dev nD) {p q : Prog (TpuEff nD τ sig (Elt F) Λ₀ .tc) PUnit} (e : p = q) {P : sProp 𝕄} {Q : PUnit → sProp 𝕄}
    (h : P ⊢ wp frame (wpE (defs₀ (F := F)) Variants.none (c : Thread nD τ) none) Set.univ q Q) :
    P ⊢ wp frame (wpE (defs₀ (F := F)) Variants.none (c : Thread nD τ) none) Set.univ p Q := by
  subst e
  exact h

set_option maxHeartbeats 4000000 in
/-- The same as the launch asks it. -/
theorem body_obl (c : Dev nD) :
    Pipeline.BodyObligationRel (dats (m := m) 0 c) (defs₀ (F := F)) Variants.none () Set.univ marks (left K c) := fun t => by
  rw [bigSep_W0, bigSep_W0, defs₀_row]
  exact triple_restated (at_eq c (bodyAt_eq t) (triple K c t)) rfl .rfl fun _ => .rfl

/-- At the start the scratch holds anything. -/
theorem hin (c : Dev nD) : Pipeline.ΦA (U := UR sig nD τ) (Val := Elt F) spec0 c ⊢ (((dats (m := m) 0 c).toRRel marks (left K c)).Φ 0 : sProp 𝕄) := by
  have h : (Pipeline.ΦA (U := UR sig nD τ) (Val := Elt F) spec0 c : sProp 𝕄) ⊢ phi c := by
    unfold Pipeline.ΦA phi
    rw [scopedRest0_eq]
    simp only [owns_whole]
    exact .rfl
  exact h

/-- At the end it is given back. -/
theorem hout (c : Dev nD) : (((dats (m := m) 0 c).toRRel marks (left K c)).Φ (Fin.last cfg0.N) : sProp 𝕄) ⊢ Pipeline.ΦA spec0 c := by
  have h : phi c ⊢ (Pipeline.ΦA (U := UR sig nD τ) (Val := Elt F) spec0 c : sProp 𝕄) := by
    unfold Pipeline.ΦA phi
    rw [scopedRest0_eq]
    simp only [owns_whole]
    exact .rfl
  exact h

set_option backward.isDefEq.respectTransparency.types false in
/-- The whole program under the law: it ends with every buffer it does not write as it was, and with the outputs as
    the law says. -/
theorem run : θ_run defs (onTc main) (s₀ m ρ) fun r =>
    RDat.FramePost (cfgs 0) (fun c => (dats (m := m) 0 c).toRRel marks (left K c)) (V m) r ∧ r.2.sem = fun _ => 0 :=
  RDat.θ_run_frame_track_shared (Q' := _) cfgs (0 : Fin 1) launch₀0 defs₀ Variants.none (fun c => (dats (m := m) 0 c).toRRel marks (left K c)) m ρ main
    (hbody := fun c => (body_obl K c).toRRel) (hq := fun _ _ _ => rfl) (howed := fun _ _ => rfl) (V := V m) (hmain := hmain m Variants.none)
    (hA := A_eq) (hin := hin K) (hout := hout K) (hQ' := fun _ h => h)

/-- What has the same inputs as the contents at a point is the contents at that point. -/
theorem St.Same.stAt {c : Dev nD} {t : Fin cfg0.N} {S S' : St F} (h : S.Same S') (hS : ∃ y cv sh, S = stAt m c t y cv sh) :
    ∃ y cv sh, S' = Fwd.stAt m c t y cv sh := by
  obtain ⟨y, cv, sh, h⟩ := h
  obtain ⟨_, _, _, hS⟩ := hS
  refine ⟨y, cv, sh, ?_⟩
  rw [h, hS]
  rfl

/-- The law that asks nothing. -/
def noLaw (m : (ℓ : Loc nD τ sig) → Buf (Elt F) ℓ) : Law m where
  y _ _ _ := True
  cv _ _ _ := True
  step c M t S h := ((keeps_body _).reach S).mono fun _ S' h' => ⟨h'.stAt h, trivial, trivial⟩

set_option maxHeartbeats 4000000 in
/-- The program ends, with its arguments as they were and nothing in flight. -/
theorem frame_main : θ_run (defs (F := F)) (onTc (τ := τ) main) (s₀ m ρ) fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8)) ∧ r.2.sem = fun _ => 0 :=
  (θ_run defs _ _).mono (fun r h => ⟨fun c => ⟨(RDat.FramePost.arr_in h.1 c 2 rfl).trans ((A_eq c 2).trans (V_main_arg0 m c)),
    ((h.1 c).2 main_arg1 (Pipeline.mem_restRefs_of main_arg1 (by decide) (by decide))).trans (V_main_arg1 m c),
    (RDat.FramePost.arr_in h.1 c 4 rfl).trans ((A_eq c 4).trans (V_main_arg2 m c)),
    (RDat.FramePost.arr_in h.1 c 5 rfl).trans ((A_eq c 5).trans (V_main_arg3 m c)),
    (RDat.FramePost.arr_in h.1 c 6 rfl).trans ((A_eq c 6).trans (V_main_arg4 m c)),
    (RDat.FramePost.arr_in h.1 c 7 rfl).trans ((A_eq c 7).trans (V_main_arg5 m c)),
    (RDat.FramePost.arr_in h.1 c 8 rfl).trans ((A_eq c 8).trans (V_main_arg6 m c)),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩, h.2⟩) (run ρ (noLaw m))

end Cert.Fwd

end
-- ==== Proof.FwdFrames.lean ====
/- The frames of the branch's forward kernel: one run for both printed programs, which are the same text. -/
module

public import proofs.«01_k».proof.Defs
public import proofs.«01_k».proof.Proof.FwdFrame
public import proofs.«01_k».proof.Proof.Gen.FwdKernel
public import Idealize.ShloMosaic.Lib.Tactic

@[expose] public section

set_option maxRecDepth 65536

noncomputable section

namespace Cert.Fwd

open Idealize.ShloMosaic Idealize.SL.Sem

/-- The idealized kernel ends with its arguments unchanged and nothing in flight. -/
theorem frame_ideal : Cert.quiescent_FwdKernelIdeal := fun m ρ _ => frame_main (F := Ideal) (m := m) ρ

/-- The kernel's claim at machine arithmetic is the idealized text's at machine arithmetic: the two programs are the
    same text. -/
theorem kernel_eq : Cert.quiescent_FwdKernel =
    ∀ (m : (ℓ : Loc FwdKernelIdeal.nD FwdKernelIdeal.τ FwdKernelIdeal.sig) → Buf (Elt Bits) ℓ) (g : Dev FwdKernelIdeal.nD → PrngReg), True →
      θ_run (FwdKernelIdeal.defs (F := Bits)) (onTc (τ := FwdKernelIdeal.τ) (FwdKernelIdeal.main (F := Bits))) ⟨m, fun _ => 0, g⟩ fun r =>
        (∀ c : Dev FwdKernelIdeal.nD, r.2.mem ((c.tc : Thread FwdKernelIdeal.nD FwdKernelIdeal.τ).loc FwdKernelIdeal.main_arg0) = m ((c.tc : Thread FwdKernelIdeal.nD FwdKernelIdeal.τ).loc FwdKernelIdeal.main_arg0) ∧ r.2.mem ((c.tc : Thread FwdKernelIdeal.nD FwdKernelIdeal.τ).loc FwdKernelIdeal.main_arg1) = m ((c.tc : Thread FwdKernelIdeal.nD FwdKernelIdeal.τ).loc FwdKernelIdeal.main_arg1) ∧ r.2.mem ((c.tc : Thread FwdKernelIdeal.nD FwdKernelIdeal.τ).loc FwdKernelIdeal.main_arg2) = m ((c.tc : Thread FwdKernelIdeal.nD FwdKernelIdeal.τ).loc FwdKernelIdeal.main_arg2) ∧ r.2.mem ((c.tc : Thread FwdKernelIdeal.nD FwdKernelIdeal.τ).loc FwdKernelIdeal.main_arg3) = m ((c.tc : Thread FwdKernelIdeal.nD FwdKernelIdeal.τ).loc FwdKernelIdeal.main_arg3) ∧ r.2.mem ((c.tc : Thread FwdKernelIdeal.nD FwdKernelIdeal.τ).loc FwdKernelIdeal.main_arg4) = m ((c.tc : Thread FwdKernelIdeal.nD FwdKernelIdeal.τ).loc FwdKernelIdeal.main_arg4) ∧ r.2.mem ((c.tc : Thread FwdKernelIdeal.nD FwdKernelIdeal.τ).loc FwdKernelIdeal.main_arg5) = m ((c.tc : Thread FwdKernelIdeal.nD FwdKernelIdeal.τ).loc FwdKernelIdeal.main_arg5) ∧ r.2.mem ((c.tc : Thread FwdKernelIdeal.nD FwdKernelIdeal.τ).loc FwdKernelIdeal.main_arg6) = m ((c.tc : Thread FwdKernelIdeal.nD FwdKernelIdeal.τ).loc FwdKernelIdeal.main_arg6) ∧ r.2.mem ((c.tc : Thread FwdKernelIdeal.nD FwdKernelIdeal.τ).loc FwdKernelIdeal.main_arg7) = m ((c.tc : Thread FwdKernelIdeal.nD FwdKernelIdeal.τ).loc FwdKernelIdeal.main_arg7) ∧ r.2.mem ((c.tc : Thread FwdKernelIdeal.nD FwdKernelIdeal.τ).loc FwdKernelIdeal.main_arg8) = m ((c.tc : Thread FwdKernelIdeal.nD FwdKernelIdeal.τ).loc FwdKernelIdeal.main_arg8)) ∧ r.2.sem = fun _ => 0 := by
  sl_kernel_rfl

/-- So does the kernel at machine arithmetic. -/
theorem frame_kernel : Cert.quiescent_FwdKernel := kernel_eq.mpr fun m ρ _ => frame_main (F := Bits) (m := m) ρ

end Cert.Fwd
-- ==== Proof.FwdData.lean ====
/- Arrays of extended reals under the forward kernel's operations, and what the forward call computes as formulas of
   its arguments: the projection and the gains and biases of the convolution's norm are real numbers, the rest may be
   any extended reals. A row normalised by its mean and variance is real whatever the row. -/
module

public import proofs.«01_k».proof.Proof.FwdRun
public import proofs.«01_k».proof.Proof.MixHost

@[expose] public section

set_option maxRecDepth 65536

noncomputable section

namespace Cert.Fwd

open Idealize.ShloMosaic Idealize.SL.Sem Cert.FwdKernelIdeal Cert.FwdKernelIdeal.Gen Cert.RealLib
open Cert.Mix (lit sgm mean256 wide256 row256 shifted tapA block asB mixed up M2 re2 re3 re2_ix re3_ix ext2 ext3 re2_congr ex2 ex2_ix ex2_re sgR gluP
  mnR varR rstdR varR_pos blk HasE)

/-! ### Arrays of extended reals -/

theorem exx {n m : ℕ} {X : (⟨2, ![n, m]⟩ : Shape).Idx → EReal} {f : ℕ → ℕ → EReal}
    (h : ∀ (r : Fin n) (c : Fin m), X (ix2 r c) = f r.val c.val) : X = ex2 f := by
  funext x
  obtain ⟨r, c, rfl⟩ : ∃ (r : Fin n) (c : Fin m), x = ix2 r c := ⟨x 0, x 1, eq_ix2 x⟩
  exact h r c
theorem ex2_congr {n m : ℕ} {f g : ℕ → ℕ → EReal} (h : ∀ r c, r < n → c < m → f r c = g r c) :
    (ex2 f : (⟨2, ![n, m]⟩ : Shape).Idx → EReal) = ex2 g := by
  funext x; exact h _ _ (x 0).isLt (x 1).isLt

/-- The three-way array of the extended reals `f k r c`. -/
def ex3 {k n m : ℕ} (f : ℕ → ℕ → ℕ → EReal) : (⟨3, ![k, n, m]⟩ : Shape).Idx → EReal := fun x => f (x 0).val (x 1).val (x 2).val
theorem ex3_ix {k n m : ℕ} (f : ℕ → ℕ → ℕ → EReal) (i : Fin k) (r : Fin n) (c : Fin m) : ex3 f (ix3 i r c) = f i.val r.val c.val := rfl
theorem blk_ex3 {K N M n m : ℕ} {X : (⟨3, ![K, N, M]⟩ : Shape).Idx → EReal} {f : ℕ → ℕ → ℕ → EReal} (h : X = ex3 f) (o o₀ o₁ : ℕ) (inb) :
    (blk (s := ⟨3, ![K, N, M]⟩) X ![o, o₀, o₁] (⟨3, ![1, n, m]⟩ : Shape).size inb : (⟨3, ![1, n, m]⟩ : Shape).Idx → EReal)
      = ex3 (fun h r c => f (o + h) (o₀ + r) (o₁ + c)) := by
  subst h
  funext x
  show f (o + 1 * (x 0).val) (o₀ + 1 * (x 1).val) (o₁ + 1 * (x 2).val) = _
  rw [Nat.one_mul, Nat.one_mul, Nat.one_mul]; rfl

/-- A store at an offset that is known by an equation. -/
theorem HasE.put_at {N M n m : ℕ} {X X' : (⟨2, ![N, M]⟩ : Shape).Idx → EReal} {R f} (h : HasE X R f) {off : Fin 2 → ℕ} {o₀ o₁ : ℕ} (ho : off = ![o₀, o₁])
    {inb} {w : (⟨2, ![n, m]⟩ : Shape).Idx → EReal}
    (e : X' = Mix.upd X (Rect.unit (s := ⟨2, ![N, M]⟩) off (⟨2, ![n, m]⟩ : Shape).size inb) w) (g : ℕ → ℕ → EReal) (hw : w = ex2 g)
    (hg : ∀ r c, r < n → c < m → g r c = f (o₀ + r) (o₁ + c)) :
    HasE X' (fun r c => R r c ∨ (o₀ ≤ r ∧ r < o₀ + n ∧ o₁ ≤ c ∧ c < o₁ + m)) f := by
  subst ho; exact h.put o₀ o₁ e g hw hg

/-! ### A normalised row -/

/-- The mean of a row. -/
def mnE (v : ℕ → EReal) : EReal := Ideal.div (∑ c : Fin 1024, v c.val) ((1024 : ℝ) : EReal)
/-- The centred row. -/
def cenE (v : ℕ → EReal) (c : ℕ) : EReal := v c - mnE v
/-- The reciprocal root of its variance. -/
def rsE (v : ℕ → EReal) : EReal := Ideal.rsqrt (mnE (fun c => cenE v c * cenE v c) + ((epsR : ℝ) : EReal))
/-- The normalised row, scaled and shifted. -/
def lnE (g b v : ℕ → EReal) (c : ℕ) : EReal := cenE v c * rsE v * g c + b c

theorem real_of_add {x y : EReal} (h : ∃ r : ℝ, x + y = r) : (∃ r : ℝ, x = r) ∧ ∃ r : ℝ, y = r := by
  obtain ⟨r, h⟩ := h
  induction x with
  | bot => simp at h
  | top => induction y with
    | bot => simp at h
    | top => simp at h
    | coe y => simp at h
  | coe x => induction y with
    | bot => simp at h
    | top => simp at h
    | coe y => exact ⟨⟨x, rfl⟩, ⟨y, rfl⟩⟩

theorem real_of_sum {ι : Type} (s : Finset ι) (f : ι → EReal) (h : ∃ r : ℝ, ∑ k ∈ s, f k = r) : ∀ k ∈ s, ∃ r : ℝ, f k = r := by
  classical
  induction s using Finset.induction_on with
  | empty => simp
  | insert a s ha ih =>
    rw [Finset.sum_insert ha] at h
    obtain ⟨h1, h2⟩ := real_of_add h
    intro k hk
    rcases Finset.mem_insert.1 hk with rfl | hk
    · exact h1
    · exact ih h2 k hk

theorem mn_coe (f : ℕ → ℝ) (v : ℕ → EReal) (h : ∀ c : Fin 1024, v c.val = ((f c.val : ℝ) : EReal)) : mnE v = ((mnR f : ℝ) : EReal) := by
  unfold mnE
  simp only [h, coe_sum]
  exact div_coe_coe _ _ (by norm_num)

theorem inf_div (x : EReal) (h : ¬ ∃ r : ℝ, x = r) : Ideal.div x ((1024 : ℝ) : EReal) = x := by
  rw [Ideal.div_coe (by norm_num)]
  induction x with
  | bot => exact EReal.bot_mul_coe_of_pos (by norm_num)
  | top => exact EReal.top_mul_coe_of_pos (by norm_num)
  | coe x => exact absurd ⟨x, rfl⟩ h

/-- A centred row is real times its reciprocal deviation, whatever the row. -/
theorem nh_real (v : ℕ → EReal) (c : Fin 1024) : ∃ r : ℝ, cenE v c.val * rsE v = r := by
  by_cases h : ∃ r : ℝ, ∑ c : Fin 1024, v c.val = r
  · have hv := real_of_sum _ _ h
    have hv : ∀ n, ∃ r : ℝ, n < 1024 → v n = r := fun n => by
      by_cases hn : n < 1024
      · obtain ⟨r, hr⟩ := hv ⟨n, hn⟩ (Finset.mem_univ _)
        exact ⟨r, fun _ => hr⟩
      · exact ⟨0, fun h => absurd h hn⟩
    choose f hf using hv
    have e1 := mn_coe f v fun c => hf c.val c.isLt
    have e2 : ∀ c : Fin 1024, cenE v c.val = ((f c.val - mnR f : ℝ) : EReal) := fun c => by
      unfold cenE; rw [e1, hf c.val c.isLt, ← EReal.coe_sub]
    have e3 := mn_coe (fun c => (f c - mnR f) * (f c - mnR f)) (fun c => cenE v c * cenE v c) fun c => by rw [e2 c, ← EReal.coe_mul]
    refine ⟨(f c.val - mnR f) * rstdR f, ?_⟩
    unfold rsE
    rw [e3, e2 c, ← EReal.coe_add, show (mnR fun c => (f c - mnR f) * (f c - mnR f)) = varR f from rfl, rsqrt_pos _ (varR_pos f), ← EReal.coe_mul]
    rfl
  · have hm : mnE v = ∑ c : Fin 1024, v c.val := inf_div _ h
    have hm' : ¬ ∃ r : ℝ, mnE v = r := by rw [hm]; exact h
    have hc : ∀ n, cenE v n * cenE v n = ⊤ := fun n => by
      unfold cenE
      generalize mnE v = y at hm'
      generalize v n = x
      induction y with
      | bot => induction x with
        | bot => simp
        | top => simp
        | coe x => simp
      | top => induction x with
        | bot => simp
        | top => simp
        | coe x => simp
      | coe y => exact absurd ⟨y, rfl⟩ hm'
    have hs : ∑ c : Fin 1024, cenE v c.val * cenE v c.val = ⊤ := by
      have h1 : ¬ ∃ r : ℝ, ∑ c : Fin 1024, cenE v c.val * cenE v c.val = r := fun hr => by
        obtain ⟨r, hr⟩ := real_of_sum _ _ hr 0 (Finset.mem_univ _)
        rw [hc] at hr
        exact absurd hr (by simp)
      have h2 : (0 : EReal) ≤ ∑ c : Fin 1024, cenE v c.val * cenE v c.val := Finset.sum_nonneg fun c _ => by rw [hc]; exact le_top
      generalize (∑ c : Fin 1024, cenE v c.val * cenE v c.val) = x at h1 h2
      induction x with
      | bot => exact absurd h2 (by simp)
      | top => rfl
      | coe x => exact absurd ⟨x, rfl⟩ h1
    refine ⟨0, ?_⟩
    unfold rsE mnE
    rw [hs, inf_div _ (by simp)]
    rw [show (⊤ : EReal) + ((epsR : ℝ) : EReal) = ⊤ from EReal.top_add_coe _]
    rw [show Ideal.rsqrt ⊤ = 0 from rfl, mul_zero]
    rfl

theorem ln_coe (g b : ℕ → ℝ) (v : ℕ → EReal) (c : ℕ) (hc : c < 1024) :
    lnE (fun c => g c) (fun c => b c) v c = ((lnE (fun c => g c) (fun c => b c) v c).toReal : EReal) := by
  obtain ⟨r, hr⟩ := nh_real v ⟨c, hc⟩
  unfold lnE
  rw [show cenE v c * rsE v = r from hr, ← EReal.coe_mul, ← EReal.coe_add]
  rfl

/-! ### The body's operations -/

theorem slu_re {n m : ℕ} (f : ℕ → ℕ → ℝ) : slu (F := Ideal) (s := ⟨2, ![n, m]⟩) (re2 f) = re2 (fun r c => f r c * sgR (f r c)) := by
  unfold slu
  rw [Mix.lith_re, Mix.mulf_re, Mix.tanh_re, Mix.mulf_re, Mix.addf_re]
  exact re2_congr fun r c _ _ => by unfold sgR; ring

section
variable (x g b : ℕ → ℕ → EReal)

theorem mean256_ex : mean256 (F := Ideal) (ex2 x) = ex2 (fun r _ => mnE (x r)) := exx fun r z => by
  unfold mean256; rw [Mix.litn_re]
  exact congrArg (fun s => Ideal.div s ((1024 : ℝ) : EReal)) (Mix.rowSum256 _ r z)
theorem wide256_ex : wide256 (F := Ideal) (ex2 x) = ex2 (fun r _ => x r 0) := exx fun r c => by
  unfold wide256; generalize hA : (ex2 x : FVec Ideal S256x1 .f32) = A; pointwise []; subst hA; rfl
theorem row256_ex : row256 (F := Ideal) (ex2 x) = ex2 (fun _ c => x 0 c) := exx fun r c => by
  unfold row256; generalize hA : (ex2 x : FVec Ideal S1x1024 .f32) = A; pointwise []; subst hA; rfl
theorem cen_ex : cen (F := Ideal) (ex2 x) = ex2 (fun r => cenE (x r)) := by
  unfold cen; rw [mean256_ex, wide256_ex]; rfl
theorem rsd_ex : rsd (F := Ideal) (ex2 x) = ex2 (fun r _ => rsE (x r)) := by
  unfold rsd
  rw [cen_ex, Mix.lite_re, show (mulf (ex2 fun r => cenE (x r) : FVec Ideal S256x1024 .f32) (ex2 fun r => cenE (x r)) : FVec Ideal S256x1024 .f32)
    = ex2 (fun r c => cenE (x r) c * cenE (x r) c) from rfl, mean256_ex]
  rfl
theorem lin_ex : lin (F := Ideal) (ex2 g) (ex2 b) (ex2 x) = ex2 (fun r => lnE (g 0) (b 0) (x r)) := by
  unfold lin; rw [cen_ex, rsd_ex, wide256_ex, row256_ex, row256_ex]; rfl
theorem block_ex (ch : Fin 2) (hd : Fin 8) : block (F := Ideal) (ex2 x) ch hd = ex2 (fun r c => x (128 * ch.val + r) (128 * hd.val + c)) := exx fun r c => rfl
theorem asB_ex (w : ℕ → ℕ → ℕ → EReal) : asB (F := Ideal) (ex3 w) = ex2 (w 0) := exx fun r c => by
  unfold asB
  generalize hA : (ex3 w : FVec Ideal S1x128x128 .f32) = A
  pointwise []; subst hA; rfl
theorem mm_ex (a b : ℕ → ℕ → EReal) :
    matmul (F := Ideal) (φ₁ := .bf16) (φ₂ := .bf16) Cert.MixKernelIdeal.dot_S128x128_S128x128_S128x128_1_0_0_1_n_n none (ex2 a : FVec Ideal S128x128 .bf16) (ex2 b : FVec Ideal S128x128 .bf16) (constant S128x128 .f32 0x00000000#32)
      = ex2 (fun r c => ∑ k : Fin 128, a r k.val * b k.val c) := exx fun r c => by
  generalize hA : (ex2 a : FVec Ideal S128x128 .bf16) = A
  generalize hB : (ex2 b : FVec Ideal S128x128 .bf16) = B
  pointwise [id]; subst hA hB
  rfl
theorem mixed_ex (w : ℕ → ℕ → ℕ → EReal) (b v : ℕ → ℕ → EReal) :
    mixed (F := Ideal) (ex3 w) (ex2 b) (ex2 v) = ex2 (fun r c => ∑ k : Fin 128, w 0 r k.val * v k.val c + b r 0) := by
  unfold mixed
  rw [asB_ex, mm_ex, show (broadcastTo S128x128 (shapeCast S128x1 (ex2 b : FVec Ideal S128x1 .f32) Cert.MixKernelIdeal.Gen.shapeCasts_S128x1_S128x1)
    Cert.MixKernelIdeal.Gen.broadcasts_S128x1_S128x128 : M2 128 128) = ex2 (fun r _ => b r 0) from exx fun r c => ?_]
  · rfl
  generalize hA : (ex2 b : FVec Ideal S128x1 .f32) = A; pointwise [id]; subst hA; rfl
theorem tapA_ex (a : ℕ → ℕ → EReal) (d : ℕ → ℕ → ℕ → ℝ) (w : ℕ → ℕ → ℕ → EReal) :
    tapA (F := Ideal) (ex2 a) (re3 d) (ex3 w) = ex2 (fun r c => a r c + ((d 0 r c : ℝ) : EReal) * w 0 0 c) := exx fun r c => by
  unfold tapA
  generalize hA : (ex2 a : FVec Ideal S128x128 .f32) = A
  generalize hB : (re3 d : FVec Ideal S1x128x128 .f32) = B
  generalize hC : (ex3 w : FVec Ideal S1x1x128 .f32) = C
  pointwise []; subst hA hB hC
  rfl
theorem bias_ex (b : ℕ → ℕ → EReal) :
    (addf (lit S128x128 0x00000000#32) (broadcastTo S128x128 (ex2 b : FVec Ideal S1x128 .f32) broadcasts_S1x128_S128x128) : M2 128 128)
      = ex2 (fun _ c => b 0 c) := exx fun r c => by
  rw [Mix.lit0_re]
  generalize hA : (ex2 b : FVec Ideal S1x128 .f32) = A
  generalize hB : (re2 (fun _ _ => 0) : FVec Ideal S128x128 .f32) = B
  pointwise []; subst hA hB
  rw [re2_ix, EReal.coe_zero, zero_add]; rfl
end

theorem cat3_re (p m n : ℕ → ℕ → ℝ) :
    cat3 (F := Ideal) (re2 p) (re2 m) (re2 n) = re2 (fun r c => if r < 16 then p r c else if r < 272 then m (r - 16) c else n (r - 272) c) := by
  refine ext2 fun r c => ?_; unfold cat3
  generalize hA : (re2 p : FVec Ideal S16x128 .f32) = A
  generalize hB : (re2 m : FVec Ideal S256x128 .f32) = B
  generalize hC : (re2 n : FVec Ideal S16x128 .f32) = C
  pointwise []
  subst hA hB hC
  simp only [re2_ix]
  by_cases h1 : r.val < 16
  · rw [dif_pos h1, if_pos h1]
  · rw [dif_neg h1, if_neg h1]
    by_cases h2 : r.val < 272
    · rw [dif_pos (show r.val - 16 < 256 by omega), if_pos h2]
    · rw [dif_neg (show ¬ r.val - 16 < 256 by omega), if_neg h2, show r.val - 16 - 256 = r.val - 272 by omega]

theorem keepP_bits : ∀ n : Fin 32, Scalar.cmpi CmpIPredicate.sgt (BitVec.ofNat 32 n.val) 0#32 = if 0 < n.val then 1#1 else 0#1 := by decide +kernel
theorem keepN_bits : ∀ n : Fin 32, Scalar.cmpi CmpIPredicate.slt (BitVec.ofNat 32 n.val) 31#32 = if n.val < 31 then 1#1 else 0#1 := by decide +kernel
theorem bit_one : (Scalar.sitofp .f32 (Scalar.extui (1#1 : BitVec 1) : BitVec 32) : Ideal .f32) = ((1 : ℝ) : EReal) := by
  show (((((1#1 : BitVec 1).setWidth 32).toInt : ℤ) : ℝ) : EReal) = _
  rw [show ((1#1 : BitVec 1).setWidth 32).toInt = 1 from by decide, Int.cast_one]
theorem bit_zero : (Scalar.sitofp .f32 (Scalar.extui (0#1 : BitVec 1) : BitVec 32) : Ideal .f32) = ((0 : ℝ) : EReal) := by
  show (((((0#1 : BitVec 1).setWidth 32).toInt : ℤ) : ℝ) : EReal) = _
  rw [show ((0#1 : BitVec 1).setWidth 32).toInt = 0 from by decide, Int.cast_zero]
theorem keepP_eq (i : grid0.Coords) : keepP (F := Ideal) i = ((if 0 < (i 0).val then 1 else 0 : ℝ) : EReal) := by
  unfold keepP
  rw [keepP_bits (i 0)]
  split
  · exact bit_one
  · exact bit_zero
theorem keepN_eq (i : grid0.Coords) : keepN (F := Ideal) i = ((if (i 0).val < 31 then 1 else 0 : ℝ) : EReal) := by
  unfold keepN
  rw [keepN_bits (i 0)]
  split
  · exact bit_one
  · exact bit_zero

theorem gluM_re (a g : ℕ → ℕ → ℝ) : gluM (F := Ideal) (re2 a) (re2 g) = re2 (fun r c => a r c * sgR (g r c)) := by
  unfold gluM; rw [Mix.extf_re, Mix.extf_re, Mix.sgm_re, Mix.mulf_re]
theorem gluH_re (a g : ℕ → ℕ → ℝ) (k : ℝ) : gluH (F := Ideal) (re2 a) (re2 g) ((k : ℝ) : EReal) = re2 (fun r c => a r c * sgR (g r c) * k) := by
  unfold gluH; rw [Mix.extf_re, Mix.extf_re, Mix.sgm_re, Mix.mulf_re]
  exact Mix.mulf_re _ (fun _ _ => k)

/-! ### The results -/

/-- The arguments: `proj`, `clg`, `clb` real numbers, the others extended reals; `w j c` is tap `j` of channel `c`. -/
structure Dt where
  proj : ℕ → ℕ → ℝ
  w : ℕ → ℕ → EReal
  cb : ℕ → EReal
  clg : ℕ → ℝ
  clb : ℕ → ℝ
  slg : ℕ → EReal
  slb : ℕ → EReal
  ws : ℕ → ℕ → ℕ → EReal
  bs : ℕ → ℕ → EReal

namespace Dt
variable (D : Dt)

/-- The convolution. -/
def cv (n c : ℕ) : EReal := D.cb c + ∑ j ∈ Finset.range 31, ((gluP D.proj (n + j) c : ℝ) : EReal) * D.w j c
/-- Its norm, which is real. -/
def ln (n c : ℕ) : ℝ := (lnE (fun c => D.clg c) (fun c => D.clb c) (D.cv n) c).toReal
/-- The gate's norm. -/
def vn (n : ℕ) : ℕ → EReal := lnE D.slg D.slb fun c => ((D.proj n (4096 + c) : ℝ) : EReal)
/-- The mixed chunk plus its bias. -/
def mix (n c : ℕ) : EReal := ∑ k : Fin 128, D.ws (c / 128) (n % 128) k.val * D.vn (n - n % 128 + k.val) c + D.bs (c / 128) (n % 128)
/-- The two branches side by side. -/
def y (n c : ℕ) : EReal :=
  if c < 1024 then ((D.ln n c * sgR (D.ln n c) * (D.proj n (2048 + c) * sgR (D.proj n (2048 + c))) : ℝ) : EReal)
  else ((D.proj n (3072 + (c - 1024)) : ℝ) : EReal) * D.mix n (c - 1024)
    * ((D.proj n (5120 + (c - 1024)) * sgR (D.proj n (5120 + (c - 1024))) : ℝ) : EReal)
/-- The gated rows with sixteen rows of zeros before and after. -/
def gl (m c : ℕ) : ℝ := if 16 ≤ m ∧ m < 8208 then D.proj (m - 16) c * sgR (D.proj (m - 16) (1024 + c)) else 0
theorem gl_succ (m c : ℕ) : D.gl (m + 1) c = gluP D.proj m c := by
  unfold gl gluP
  by_cases h : 15 ≤ m ∧ m < 8207
  · rw [if_pos (by omega), if_pos h, show m + 1 - 16 = m - 15 from by omega]
  · rw [if_neg (by omega), if_neg h]
end Dt

/-- What the windows on the inputs hold at grid point `t`. -/
def Ins (D : Dt) (t : ℕ) (S : St Ideal) : Prop :=
  S.pm = re2 (fun r c => D.proj (256 * t + r) c) ∧ S.pp = re2 (fun r c => D.proj (16 * (16 * t - 1) + r) c) ∧
  S.pn = re2 (fun r c => D.proj (16 * min (16 * t + 16) 511 + r) c) ∧
  S.cw = ex3 (fun s j c => D.w j (256 * s + c)) ∧ S.cb = ex2 (fun _ c => D.cb c) ∧ S.clg = re2 (fun _ c => D.clg c) ∧ S.clb = re2 (fun _ c => D.clb c) ∧
  S.slg = ex2 (fun _ c => D.slg c) ∧ S.slb = ex2 (fun _ c => D.slb c) ∧ S.ws = ex3 D.ws ∧ S.bst = ex2 (fun p h => D.bs h p)

end Cert.Fwd

end
-- ==== Proof.FwdLane.lean ====
/- The lane blocks of the forward convolution. -/
module

public import proofs.«01_k».proof.Proof.FwdData
public import proofs.«01_k».proof.Proof.MixLane

@[expose] public section

set_option maxRecDepth 65536

noncomputable section

namespace Cert.Fwd

open Idealize.ShloMosaic Idealize.SL Idealize.SL.Sem Cert.FwdKernelIdeal Cert.FwdKernelIdeal.Gen Cert.RealLib
open Cert.Mix (lit sgm shifted shifted_re tapA M2 re2 re3 re2_ix re3_ix ext2 re2_congr ex2 ex2_ix blk_ex2 sgR gluP
  HasE Has3 rolled blk_of blk_at3 offT_128)

variable {c : Dev nD} {M : Mems} {D : Dt}

/-- The eight shifted copies of a lane block and its halos. -/
theorem fill_reach (v : Vec Ideal S288x128 .f32) (S : St Ideal) : ∀ (n : ℕ) (h : n ≤ 8),
    Reach c M (fill M v n h) S fun _ S' => ∃ sh, S' = S.setSh sh ∧
      ∀ f, v = re2 f → Has3 sh (fun k => k < n) (rolled f)
  | 0, _ => Reach.ret ⟨S.sh, rfl, fun f _ _ _ _ h => absurd h (Nat.not_lt_zero _)⟩
  | n + 1, h => by
    refine Reach.bind ((fill_reach v S n (by omega)).mono ?_)
    rintro - _ ⟨sh, rfl, hsh⟩
    refine Reach.put fld_sh (fun _ => rfl) fun X eX => ⟨X, rfl, fun f hv => ?_⟩
    rw [eX, hv, shifted_re f n (by omega)]
    intro k r c hk
    exact ((hsh f hv).upd n _ _ fun r c _ _ => rfl) k r c (by omega)

/-- The bias and the taps up to the `n`-th. -/
theorem taps_reach (lb : Fin 8) (k : Fin 2) (b : Vec Ideal S1x128 .f32) (S : St Ideal) : ∀ (n : ℕ) (h : n ≤ 31),
    Reach c M (taps M lb k b n h) S fun a S' => S' = S ∧
      ∀ (f : ℕ → ℕ → ℝ) (w : ℕ → ℕ → EReal) (β : ℕ → EReal), S.sh = re3 (rolled f) → S.cw = ex3 (fun s j c => w j (256 * s + c)) →
        b = ex2 (fun _ c => β c) →
        a = ex2 (fun r c => β c + ∑ j ∈ Finset.range n, ((f (128 * k.val + r + j + 1) c : ℝ) : EReal) * w j (128 * lb.val + c))
  | 0, _ => Reach.ret ⟨rfl, fun f w β _ _ hb => by
      show addf _ _ = _
      rw [hb, bias_ex]
      exact ex2_congr fun r c _ _ => by rw [Finset.sum_range_zero, add_zero]⟩
  | n + 1, h => by
    refine Reach.bind ((taps_reach lb k b S n (by omega)).mono ?_)
    rintro a _ ⟨rfl, ha⟩
    refine Reach.bind (Reach.ld fld_sh (fun _ => rfl) fun d ed => ?_)
    refine Reach.bind (Reach.ld fld_cw (fun _ => rfl) fun w ew => ?_)
    refine Reach.ret ⟨rfl, fun f W β hs hw hb => ?_⟩
    rw [ha f W β hs hw hb, show d = _ from ed.trans (blk_at3 hs (offT_128 k ⟨n + 1, by omega⟩) _), show w = _ from ew.trans (blk_ex3 hw ..), tapA_ex]
    refine ex2_congr fun r c hr hc => ?_
    rw [Finset.sum_range_succ, ← add_assoc (β c)]
    have hl := lb.isLt; have hk := k.isLt
    show _ + ((f ((128 * k.val + 8 * ((n + 1) / 8) + r + ((n + 1) % 8 + 0)) % 288) (0 + c) : ℝ) : EReal)
      * W (n + 0) (256 * (lb.val / 2 + 0) + (128 * (lb.val % 2) + c)) = _ + _
    rw [show (128 * k.val + 8 * ((n + 1) / 8) + r + ((n + 1) % 8 + 0)) % 288 = 128 * k.val + r + n + 1 from by
        rw [Nat.mod_eq_of_lt (by omega)]; omega,
      show 256 * (lb.val / 2 + 0) + (128 * (lb.val % 2) + c) = 128 * lb.val + c from by omega, Nat.zero_add]
    rfl

/-- The convolution of the lane block. -/
abbrev convE (lb : ℕ) (f : ℕ → ℕ → ℝ) (w : ℕ → ℕ → EReal) (β : ℕ → EReal) : ℕ → ℕ → EReal := fun r c =>
  β c + ∑ j ∈ Finset.range 31, ((f (r + j + 1) c : ℝ) : EReal) * w j (128 * lb + c)

theorem trip_reach (lb : Fin 8) (k : Fin 2) (b : Vec Ideal S1x128 .f32) (S : St Ideal) :
    Reach c M (trip M lb b k) S fun _ S' => ∃ cv, S' = S.setCv cv ∧
      ∀ (f : ℕ → ℕ → ℝ) (w : ℕ → ℕ → EReal) (β : ℕ → EReal), S.sh = re3 (rolled f) → S.cw = ex3 (fun s j c => w j (256 * s + c)) →
        b = ex2 (fun _ c => β c) → ∀ R F, (∀ r c, r < 256 → c < 128 → convE lb.val f w β r c = F r (128 * lb.val + c)) → HasE S.cv R F →
          HasE cv (fun r c => R r c ∨ (128 * k.val ≤ r ∧ r < 128 * k.val + 128 ∧ 128 * lb.val ≤ c ∧ c < 128 * lb.val + 128)) F := by
  refine Reach.bind ((taps_reach lb k b S 31 (by omega)).mono ?_)
  rintro a _ ⟨rfl, ha⟩
  refine Reach.put fld_cv (fun _ => rfl) fun X eX => ⟨X, rfl, fun f w β hs hw hb R F hF hR => ?_⟩
  have hk := k.isLt
  exact HasE.put_at hR (offC_eq k _) eX _ (ha f w β hs hw hb) fun r c hr hc => hF (128 * k.val + r) c (by omega) hc

theorem conv_reach (lb : Fin 8) (b : Vec Ideal S1x128 .f32) (S : St Ideal) :
    Reach c M (conv M lb b) S fun _ S' => ∃ cv, S' = S.setCv cv ∧
      ∀ (f : ℕ → ℕ → ℝ) (w : ℕ → ℕ → EReal) (β : ℕ → EReal), S.sh = re3 (rolled f) → S.cw = ex3 (fun s j c => w j (256 * s + c)) →
        b = ex2 (fun _ c => β c) → ∀ R F, (∀ r c, r < 256 → c < 128 → convE lb.val f w β r c = F r (128 * lb.val + c)) → HasE S.cv R F →
          HasE cv (fun r c => R r c ∨ (r < 256 ∧ 128 * lb.val ≤ c ∧ c < 128 * lb.val + 128)) F := by
  refine Reach.mono (Reach.loop (fun n _ S' => ∃ cv, S' = S.setCv cv ∧
      ∀ (f : ℕ → ℕ → ℝ) (w : ℕ → ℕ → EReal) (β : ℕ → EReal), S.sh = re3 (rolled f) → S.cw = ex3 (fun s j c => w j (256 * s + c)) →
        b = ex2 (fun _ c => β c) → ∀ R F, (∀ r c, r < 256 → c < 128 → convE lb.val f w β r c = F r (128 * lb.val + c)) → HasE S.cv R F →
          HasE cv (fun r c => R r c ∨ (r < 128 * n ∧ 128 * lb.val ≤ c ∧ c < 128 * lb.val + 128)) F)
      (fun k _ S' hI => ?_) ⟨S.cv, rfl, fun f w β _ _ _ R F _ hR => hR.mono fun r c _ _ h => by
        rcases h with h | h
        · exact h
        · exact absurd h.1 (by omega)⟩) ?_
  · obtain ⟨cv, rfl, hd⟩ := hI
    refine (trip_reach lb k b (S.setCv cv)).mono ?_
    rintro - _ ⟨cv', rfl, hd'⟩
    refine ⟨cv', rfl, fun f w β hs hw hb R F hF hR => ?_⟩
    exact (hd' f w β hs hw hb _ F hF (hd f w β hs hw hb R F hF hR)).mono fun r c hr hc h => by
      show (R r c ∨ (r < 128 * k.val ∧ _)) ∨ _
      rcases h with h | h
      · exact .inl (.inl h)
      · have : r < 128 * (k.val + 1) := h.1
        by_cases h1 : r < 128 * k.val
        · exact .inl (.inr ⟨h1, h.2⟩)
        · exact .inr ⟨by omega, by omega, h.2.1, h.2.2⟩
  · rintro - _ ⟨cv, rfl, hd⟩
    exact ⟨cv, rfl, hd⟩

theorem ins_setCvSh (D : Dt) (t : ℕ) (S : St Ideal) (sh cv) : Ins D t ((S.setSh sh).setCv cv) = Ins D t S := by cases S; rfl
theorem set_set (S : St Ideal) (sh cv sh' cv') : (((S.setSh sh).setCv cv).setSh sh').setCv cv' = (S.setSh sh').setCv cv' := by cases S; rfl
theorem set_self (S : St Ideal) : S = (S.setSh S.sh).setCv S.cv := by cases S; rfl

/-- The lane block's rows with their halos are rows of the gated projection. -/
theorem cat_gl (D : Dt) (t lb r c : ℕ) (ht : t < 32) (hr : r < 288) :
    (if r < 16 then D.proj (16 * (16 * t - 1) + r) (128 * lb + c) * sgR (D.proj (16 * (16 * t - 1) + r) (1024 + 128 * lb + c)) * (if 0 < t then 1 else 0 : ℝ)
      else if r < 272 then D.proj (256 * t + (r - 16)) (128 * lb + c) * sgR (D.proj (256 * t + (r - 16)) (1024 + 128 * lb + c))
      else D.proj (16 * min (16 * t + 16) 511 + (r - 272)) (128 * lb + c) * sgR (D.proj (16 * min (16 * t + 16) 511 + (r - 272)) (1024 + 128 * lb + c))
        * (if t < 31 then 1 else 0 : ℝ)) = D.gl (256 * t + r) (128 * lb + c) := by
  unfold Dt.gl
  rw [Nat.add_assoc 1024]
  by_cases h1 : r < 16
  · rw [if_pos h1]
    by_cases h2 : 0 < t
    · rw [if_pos h2, if_pos (by omega), mul_one, show 16 * (16 * t - 1) + r = 256 * t + r - 16 from by omega]
    · rw [if_neg h2, if_neg (by omega), mul_zero]
  · rw [if_neg h1]
    by_cases h2 : r < 272
    · rw [if_pos h2, if_pos (by omega), show 256 * t + (r - 16) = 256 * t + r - 16 from by omega]
    · rw [if_neg h2]
      by_cases h3 : t < 31
      · rw [if_pos h3, if_pos (by omega), mul_one, show 16 * min (16 * t + 16) 511 + (r - 272) = 256 * t + r - 16 from by omega]
      · rw [if_neg h3, if_neg (by omega), mul_zero]

/-- One lane block. -/
theorem lane_reach (i : grid0.Coords) (lb : Fin 8) (S : St Ideal) :
    Reach c M (lane M i lb) S fun _ S' => ∃ sh cv, S' = (S.setSh sh).setCv cv ∧
      (Ins D (i 0).val S → ∀ R, HasE S.cv R (fun r c => D.cv (256 * (i 0).val + r) c) →
        HasE cv (fun r c => R r c ∨ (r < 256 ∧ 128 * lb.val ≤ c ∧ c < 128 * lb.val + 128)) (fun r c => D.cv (256 * (i 0).val + r) c)) := by
  unfold lane
  refine Reach.bind (Reach.ld fld_pp (fun _ => rfl) fun pa epa => ?_)
  refine Reach.bind (Reach.ld fld_pp (fun _ => rfl) fun pg epg => ?_)
  refine Reach.bind (Reach.ld fld_pm (fun _ => rfl) fun ma ema => ?_)
  refine Reach.bind (Reach.ld fld_pm (fun _ => rfl) fun mg emg => ?_)
  refine Reach.bind (Reach.ld fld_pn (fun _ => rfl) fun na ena => ?_)
  refine Reach.bind (Reach.ld fld_pn (fun _ => rfl) fun ng eng => ?_)
  refine Reach.bind ((fill_reach _ _ 8 (Nat.le_refl _)).mono ?_)
  rintro - _ ⟨sh, rfl, hsh⟩
  refine Reach.bind (Reach.ld fld_cb (fun _ => rfl) fun b eb => ?_)
  refine (conv_reach lb b _).mono ?_
  rintro - _ ⟨cv, rfl, hcv⟩
  refine ⟨sh, cv, rfl, fun hI R hR => ?_⟩
  obtain ⟨h1, h2, h3, h4, h5, -⟩ := hI
  have ht : (i 0).val < 32 := (i 0).isLt
  have hv : cat3 (gluH pa pg (keepP i)) (gluM ma mg) (gluH na ng (keepN i)) = re2 (fun r c => D.gl (256 * (i 0).val + r) (128 * lb.val + c)) := by
    rw [show pa = _ from epa.trans (blk_of h2 ..), show pg = _ from epg.trans (blk_of h2 ..), show ma = _ from ema.trans (blk_of h1 ..),
      show mg = _ from emg.trans (blk_of h1 ..), show na = _ from ena.trans (blk_of h3 ..), show ng = _ from eng.trans (blk_of h3 ..),
      keepP_eq, keepN_eq, gluH_re, gluM_re, gluH_re, cat3_re]
    refine re2_congr fun r c hr hc => ?_
    simp only [Nat.zero_add]
    exact cat_gl D _ lb.val r c ht hr
  have hs := (hsh _ hv).all fun k hk => hk
  refine hcv _ D.w (fun c => D.cb (128 * lb.val + c)) hs h4 (eb.trans (blk_ex2 h5 ..)) R _ (fun r c hr hc => ?_) hR
  unfold convE Dt.cv
  refine congrArg _ (Finset.sum_congr rfl fun j _ => ?_)
  rw [← D.gl_succ]
  show ((D.gl (256 * (i 0).val + (r + j + 1)) (128 * lb.val + c) : ℝ) : EReal) * _ = _
  rw [show 256 * (i 0).val + (r + j + 1) = 256 * (i 0).val + r + j + 1 from by omega]

/-- The first `n` lane blocks. -/
theorem lanes_reach (i : grid0.Coords) (S : St Ideal) : ∀ (n : ℕ) (h : n ≤ 8),
    Reach c M (lanes M i n h) S fun _ S' => ∃ sh cv, S' = (S.setSh sh).setCv cv ∧
      (Ins D (i 0).val S → HasE cv (fun r c => c < 128 * n) (fun r c => D.cv (256 * (i 0).val + r) c))
  | 0, _ => Reach.ret ⟨S.sh, S.cv, set_self S, fun _ => (HasE.none _ _).mono fun r c _ _ h => absurd h (by omega)⟩
  | n + 1, h => by
    refine Reach.bind ((lanes_reach i S n (by omega)).mono ?_)
    rintro - _ ⟨sh, cv, rfl, hS⟩
    refine (lane_reach (D := D) i ⟨n, by omega⟩ _).mono ?_
    rintro - _ ⟨sh', cv', rfl, hS'⟩
    refine ⟨sh', cv', set_set .., fun hI => ?_⟩
    exact (hS' ((ins_setCvSh ..).mpr hI) _ (hS hI)).mono fun r c hr _ h => by
      show c < 128 * n ∨ (r < 256 ∧ 128 * n ≤ c ∧ c < 128 * n + 128)
      omega

end Cert.Fwd

end
-- ==== Proof.FwdGate.lean ====
/- The convolution's norm and gate, the spatial gate, and the whole tile of the forward kernel. -/
module

public import proofs.«01_k».proof.Proof.FwdLane

@[expose] public section

set_option maxRecDepth 65536

noncomputable section

namespace Cert.Fwd

open Idealize.ShloMosaic Idealize.SL Idealize.SL.Sem Cert.FwdKernelIdeal Cert.FwdKernelIdeal.Gen Cert.RealLib
open Cert.Mix (lit sgm block mixed up M2 re2 re3 re2_ix re3_ix ext2 re2_congr ex2 ex2_ix ex2_re blk_ex2 sgR gluP HasE blk_of)

variable {c : Dev nD} {M : Mems} {D : Dt}

theorem ins_setY (D : Dt) (t : ℕ) (S : St Ideal) (y) : Ins D t (S.setY y) = Ins D t S := by cases S; rfl
theorem setY_setY (S : St Ideal) (y y') : (S.setY y).setY y' = S.setY y' := by cases S; rfl
theorem setY_self (S : St Ideal) : S = S.setY S.y := by cases S; rfl

theorem chunkV_re (u gs : ℕ → ℕ → ℝ) (mx : ℕ → ℕ → EReal) :
    (truncf .bf16 (mulf (mulf (up (F := Ideal) (re2 u)) (ex2 mx : FVec Ideal S128x128 .f32)) (slu (up (re2 gs)))) bitsLt_bf16_f32 : FVec Ideal S128x128 .bf16)
      = ex2 (fun r c => ((u r c : ℝ) : EReal) * mx r c * ((gs r c * sgR (gs r c) : ℝ) : EReal)) := by
  rw [Mix.up_re, Mix.up_re, slu_re]; rfl

theorem normV_re (x : ℕ → ℕ → EReal) (g b : ℕ → ℝ) (q : ℕ → ℕ → ℝ) :
    (truncf .bf16 (mulf (slu (lin (F := Ideal) (re2 (fun _ c => g c)) (re2 (fun _ c => b c)) (shapeCast S256x1024 (ex2 x : FVec Ideal S256x1024 .f32) shapeCasts_S256x1024_S256x1024)))
      (slu (extf .f32 (re2 q : FVec Ideal S256x1024 .bf16) bitsLt_bf16_f32))) bitsLt_bf16_f32 : FVec Ideal S256x1024 .bf16)
      = re2 (fun r c => (lnE (fun c => g c) (fun c => b c) (x r) c).toReal * sgR (lnE (fun c => g c) (fun c => b c) (x r) c).toReal * (q r c * sgR (q r c))) := by
  have e : lin (F := Ideal) (re2 (fun _ c => g c)) (re2 (fun _ c => b c)) (shapeCast S256x1024 (ex2 x : FVec Ideal S256x1024 .f32) shapeCasts_S256x1024_S256x1024)
      = re2 (fun r c => (lnE (fun c => g c) (fun c => b c) (x r) c).toReal) := by
    rw [shapeCast_self]
    refine (lin_ex x (fun _ c => g c) (fun _ c => b c)).trans (ex2_congr (g := fun r c => (((lnE (fun c => g c) (fun c => b c) (x r) c).toReal : ℝ) : EReal)) fun r c _ hc => ?_)
    exact ln_coe g b (x r) c hc
  rw [e, Mix.extf_re, slu_re, slu_re, Mix.mulf_re, Mix.truncf_re]

/-- The convolution's norm and gate. -/
theorem norm_reach (t : ℕ) (S : St Ideal) :
    Reach c M (norm M) S fun _ S' => ∃ y, S' = S.setY y ∧
      (Ins D t S → S.cv = ex2 (fun r c => D.cv (256 * t + r) c) → HasE y (fun r c => c < 1024) (fun r c => D.y (256 * t + r) c)) := by
  unfold norm
  refine Reach.bind (Reach.ld fld_cv (fun _ => rfl) fun x ex => ?_)
  refine Reach.bind (Reach.ld fld_clg (fun _ => rfl) fun g eg => ?_)
  refine Reach.bind (Reach.ld fld_clb (fun _ => rfl) fun b eb => ?_)
  refine Reach.bind (Reach.ld fld_pm (fun _ => rfl) fun q eq => ?_)
  refine Reach.putY fun y ey => ⟨y, rfl, fun hI hcv => ?_⟩
  obtain ⟨h1, -, -, -, -, h6, h7, -⟩ := hI
  have hx : x = ex2 (fun r => D.cv (256 * t + r)) := ex.trans ((blk_ex2 hcv ..).trans (ex2_congr fun r c _ _ => by rw [Nat.zero_add, Nat.zero_add]))
  have hg : g = re2 (fun _ c => D.clg c) := eg.trans ((blk_of h6 ..).trans (re2_congr fun r c _ _ => by rw [Nat.zero_add]))
  have hb : b = re2 (fun _ c => D.clb c) := eb.trans ((blk_of h7 ..).trans (re2_congr fun r c _ _ => by rw [Nat.zero_add]))
  have hq : q = re2 (fun r c => D.proj (256 * t + r) (2048 + c)) := eq.trans ((blk_of h1 ..).trans (re2_congr fun r c _ _ => by rw [Nat.zero_add]))
  refine ((HasE.none S.y (fun r c => D.y (256 * t + r) c)).put 0 0 ey (fun r c => ((D.ln (256 * t + r) c * sgR (D.ln (256 * t + r) c)
      * (D.proj (256 * t + r) (2048 + c) * sgR (D.proj (256 * t + r) (2048 + c))) : ℝ) : EReal)) ?_ fun r c hr hc => ?_).mono fun r c hr hc h => ?_
  · rw [hx, hg, hb, hq]; exact normV_re ..
  · rw [Nat.zero_add, Nat.zero_add]; unfold Dt.y; rw [if_pos hc]
  · exact .inr ⟨by omega, by omega, by omega, by omega⟩

/-- The mixed chunk at a row of the tile's chunk `ch`. -/
theorem mix_at (D : Dt) (t : ℕ) (ch : Fin 2) (hd : Fin 8) (p c : ℕ) (hp : p < 128) (hc : c < 128) :
    ∑ k : Fin 128, D.ws hd.val p k.val * D.vn (256 * t + (128 * ch.val + k.val)) (128 * hd.val + c) + D.bs hd.val p
      = D.mix (256 * t + (128 * ch.val + p)) (128 * hd.val + c) := by
  unfold Dt.mix
  rw [show (128 * hd.val + c) / 128 = hd.val from by omega, show (256 * t + (128 * ch.val + p)) % 128 = p from by omega]
  refine congrArg (· + _) (Finset.sum_congr rfl fun k _ => ?_)
  rw [show 256 * t + (128 * ch.val + p) - p + k.val = 256 * t + (128 * ch.val + k.val) from by omega]

/-- One chunk of a head. -/
theorem chunk_reach (vn : FVec Ideal S256x1024 .bf16) (ch : Fin 2) (hd : Fin 8) (w : Vec Ideal S1x128x128 .f32) (b : Vec Ideal S128x1 .f32)
    (t : ℕ) (S : St Ideal) :
    Reach c M (chunk M vn ch hd w b) S fun _ S' => ∃ y, S' = S.setY y ∧
      (Ins D t S → vn = ex2 (fun r => D.vn (256 * t + r)) → w = ex3 (fun _ p q => D.ws hd.val p q) → b = ex2 (fun p _ => D.bs hd.val p) →
        ∀ R, HasE S.y R (fun r c => D.y (256 * t + r) c) →
          HasE y (fun r c => R r c ∨ (128 * ch.val ≤ r ∧ r < 128 * ch.val + 128 ∧ 1024 + 128 * hd.val ≤ c ∧ c < 1024 + 128 * hd.val + 128))
            (fun r c => D.y (256 * t + r) c)) := by
  unfold chunk
  refine Reach.bind (Reach.ld fld_pm (fun _ => rfl) fun u eu => ?_)
  refine Reach.bind (Reach.ld fld_pm (fun _ => rfl) fun gs egs => ?_)
  refine Reach.putY fun y ey => ⟨y, rfl, fun hI hvn hw hb R hR => ?_⟩
  obtain ⟨h1, -⟩ := hI
  have hh := hd.isLt
  have hu : u = re2 (fun p c => D.proj (256 * t + (128 * ch.val + p)) (3072 + 128 * hd.val + c)) := eu.trans (blk_of h1 ..)
  have hgs : gs = re2 (fun p c => D.proj (256 * t + (128 * ch.val + p)) (5120 + 128 * hd.val + c)) := egs.trans (blk_of h1 ..)
  have hmx : mixed w b (block vn ch hd) = ex2 (fun p c => D.mix (256 * t + (128 * ch.val + p)) (128 * hd.val + c)) := by
    rw [hw, hb, hvn]
    refine (congrArg (mixed (F := Ideal) _ _) (block_ex (fun r => D.vn (256 * t + r)) ch hd)).trans ((mixed_ex ..).trans (ex2_congr fun p c hp hc => mix_at D t ch hd p c hp hc))
  refine hR.put (128 * ch.val) (1024 + 128 * hd.val) ey _ (by rw [hmx, hu, hgs]; exact chunkV_re ..) fun r c hr hc => ?_
  unfold Dt.y
  rw [if_neg (by omega), show 1024 + 128 * hd.val + c - 1024 = 128 * hd.val + c from by omega, Nat.add_assoc 3072, Nat.add_assoc 5120]

/-- One head. -/
theorem head_reach (vn : FVec Ideal S256x1024 .bf16) (hd : Fin 8) (t : ℕ) (S : St Ideal) :
    Reach c M (head M vn hd) S fun _ S' => ∃ y, S' = S.setY y ∧
      (Ins D t S → vn = ex2 (fun r => D.vn (256 * t + r)) → ∀ R, HasE S.y R (fun r c => D.y (256 * t + r) c) →
          HasE y (fun r c => R r c ∨ (1024 + 128 * hd.val ≤ c ∧ c < 1024 + 128 * hd.val + 128)) (fun r c => D.y (256 * t + r) c)) := by
  unfold head
  refine Reach.bind (Reach.ld fld_ws (fun _ => rfl) fun w ew => ?_)
  refine Reach.bind (Reach.ld fld_bst (fun _ => rfl) fun b eb => ?_)
  refine Reach.bind ((chunk_reach (D := D) vn 0 hd w b t S).mono ?_)
  rintro - _ ⟨y0, rfl, h0⟩
  refine (chunk_reach (D := D) vn 1 hd w b t _).mono ?_
  rintro - _ ⟨y, rfl, h1⟩
  refine ⟨y, setY_setY .., fun hI hvn R hR => ?_⟩
  obtain ⟨-, -, -, -, -, -, -, -, -, iw, ib⟩ := id hI
  have hw : w = ex3 (fun _ p q => D.ws hd.val p q) := by
    refine ew.trans ((blk_ex3 iw ..).trans ?_)
    funext x
    show D.ws (hd.val + (x 0).val) (0 + (x 1).val) (0 + (x 2).val) = D.ws hd.val (x 1).val (x 2).val
    have : (x 0).val < 1 := (x 0).isLt
    rw [Nat.zero_add, Nat.zero_add, show hd.val + (x 0).val = hd.val from by omega]
  have hb : b = ex2 (fun p _ => D.bs hd.val p) :=
    eb.trans ((blk_ex2 ib ..).trans (ex2_congr fun p c _ hc => by rw [Nat.zero_add, show hd.val + c = hd.val from by omega]))
  refine (h1 ((ins_setY ..).mpr hI) hvn hw hb _ (h0 hI hvn hw hb R hR)).mono fun r c hr _ h => ?_
  rcases h with h | h
  · exact .inl (.inl h)
  · by_cases h' : r < 128
    · exact .inl (.inr ⟨by show 128 * 0 ≤ r; omega, by show r < 128 * 0 + 128; omega, h⟩)
    · exact .inr ⟨by show 128 * 1 ≤ r; omega, by show r < 128 * 1 + 128; omega, h⟩

/-- The first `n` heads. -/
theorem heads_reach (vn : FVec Ideal S256x1024 .bf16) (t : ℕ) (S : St Ideal) : ∀ (n : ℕ) (h : n ≤ 8),
    Reach c M (heads M vn n h) S fun _ S' => ∃ y, S' = S.setY y ∧
      (Ins D t S → vn = ex2 (fun r => D.vn (256 * t + r)) → HasE S.y (fun _ c => c < 1024) (fun r c => D.y (256 * t + r) c) →
          HasE y (fun r c => c < 1024 + 128 * n) (fun r c => D.y (256 * t + r) c))
  | 0, _ => Reach.ret ⟨S.y, setY_self S, fun _ _ h => h⟩
  | n + 1, h => by
    refine Reach.bind ((heads_reach vn t S n (by omega)).mono ?_)
    rintro - _ ⟨y, rfl, hS⟩
    refine (head_reach (D := D) vn ⟨n, by omega⟩ t _).mono ?_
    rintro - _ ⟨y', rfl, hS'⟩
    refine ⟨y', setY_setY .., fun hI hvn h0 => (hS' ((ins_setY ..).mpr hI) hvn _ (hS hI hvn h0)).mono fun r c hr _ h => ?_⟩
    show c < 1024 + 128 * n ∨ (1024 + 128 * n ≤ c ∧ c < 1024 + 128 * n + 128)
    omega

/-- The spatial gate. -/
theorem gate_reach (t : ℕ) (S : St Ideal) :
    Reach c M (gate M) S fun _ S' => ∃ y, S' = S.setY y ∧
      (Ins D t S → HasE S.y (fun _ c => c < 1024) (fun r c => D.y (256 * t + r) c) → y = ex2 (fun r c => D.y (256 * t + r) c)) := by
  unfold gate
  refine Reach.bind (Reach.ld fld_pm (fun _ => rfl) fun x ex => ?_)
  refine Reach.bind (Reach.ld fld_slg (fun _ => rfl) fun g eg => ?_)
  refine Reach.bind (Reach.ld fld_slb (fun _ => rfl) fun b eb => ?_)
  refine (heads_reach (D := D) _ t S 8 (Nat.le_refl _)).mono ?_
  rintro - _ ⟨y, rfl, hS⟩
  refine ⟨y, rfl, fun hI h0 => ?_⟩
  obtain ⟨h1, -, -, -, -, -, -, h8, h9, -⟩ := id hI
  have hx : x = re2 (fun r c => D.proj (256 * t + r) (4096 + c)) := ex.trans ((blk_of h1 ..).trans (re2_congr fun r c _ _ => by rw [Nat.zero_add]))
  have hg : g = ex2 (fun _ c => D.slg c) := eg.trans ((blk_ex2 h8 ..).trans (ex2_congr fun r c _ _ => by rw [Nat.zero_add]))
  have hb : b = ex2 (fun _ c => D.slb c) := eb.trans ((blk_ex2 h9 ..).trans (ex2_congr fun r c _ _ => by rw [Nat.zero_add]))
  refine (hS hI ?_ h0).all fun r c hr hc => by omega
  rw [hx, hg, hb]
  exact lin_ex (fun r c => ((D.proj (256 * t + r) (4096 + c) : ℝ) : EReal)) (fun _ c => D.slg c) (fun _ c => D.slb c)

/-- A whole tile. -/
theorem body_reach (i : grid0.Coords) (S : St Ideal) :
    Reach c M (body M i) S fun _ S' => ∃ sh cv y, S' = ((S.setSh sh).setCv cv).setY y ∧
      (Ins D (i 0).val S → cv = ex2 (fun r c => D.cv (256 * (i 0).val + r) c) ∧ y = ex2 (fun r c => D.y (256 * (i 0).val + r) c)) := by
  unfold body
  refine Reach.bind ((lanes_reach (D := D) i S 8 (Nat.le_refl _)).mono ?_)
  rintro - _ ⟨sh, cv, rfl, h1⟩
  refine Reach.bind ((norm_reach (D := D) (i 0).val _).mono ?_)
  rintro - _ ⟨y, rfl, h2⟩
  refine (gate_reach (D := D) (i 0).val _).mono ?_
  rintro - _ ⟨y', rfl, h3⟩
  refine ⟨sh, cv, y', setY_setY .., fun hI => ?_⟩
  have hcv := (h1 hI).all fun r c hr hc => by omega
  have hI' := (ins_setCvSh D (i 0).val S sh cv).mpr hI
  exact ⟨hcv, h3 ((ins_setY ..).mpr hI') (h2 hI' hcv)⟩

end Cert.Fwd

end
-- ==== Proof.FwdBlocks.lean ====
/- What the windows on the inputs of the branch's forward call hold at each grid point, and the changes of layout of the
   weights before it. -/
module

public import proofs.«01_k».proof.Proof.FwdGate
public import proofs.«01_k».proof.Proof.FwdFrame
public import Idealize.ShloMosaic.Lib.Pipeline.ValueKit
public import Idealize.ShloMosaic.Lib.Pipeline.ReadBack

@[expose] public section

set_option maxRecDepth 65536

noncomputable section

namespace Cert.Fwd

open Cert.FwdKernelIdeal Cert.FwdKernelIdeal.Gen Cert.RealLib Idealize.ShloMosaic Idealize.ShloMosaic.TcCoe Idealize.SL.Sem
open Cert.Mix (re2 re2_ix ext2 ext3 ex2 ex2_ix)

theorem exx3 {k n m : ℕ} {X : (⟨3, ![k, n, m]⟩ : Shape).Idx → EReal} {f : ℕ → ℕ → ℕ → EReal}
    (h : ∀ (i : Fin k) (r : Fin n) (c : Fin m), X (ix3 i r c) = f i.val r.val c.val) : X = ex3 f := by
  funext x
  obtain ⟨i, r, c, rfl⟩ : ∃ (i : Fin k) (r : Fin n) (c : Fin m), x = ix3 i r c := ⟨x 0, x 1, x 2, eq_ix3 x⟩
  exact h i r c

theorem eq2 {n m : ℕ} {X Y : (⟨2, ![n, m]⟩ : Shape).Idx → EReal} (h : ∀ (r : Fin n) (c : Fin m), X (ix2 r c) = Y (ix2 r c)) : X = Y := by
  funext x
  obtain ⟨r, c, rfl⟩ : ∃ (r : Fin n) (c : Fin m), x = ix2 r c := ⟨x 0, x 1, eq_ix2 x⟩
  exact h r c
theorem eq3 {k n m : ℕ} {X Y : (⟨3, ![k, n, m]⟩ : Shape).Idx → EReal}
    (h : ∀ (i : Fin k) (r : Fin n) (c : Fin m), X (ix3 i r c) = Y (ix3 i r c)) : X = Y := by
  funext x
  obtain ⟨i, r, c, rfl⟩ : ∃ (i : Fin k) (r : Fin n) (c : Fin m), x = ix3 i r c := ⟨x 0, x 1, x 2, eq_ix3 x⟩
  exact h i r c

theorem coords_val : ∀ t : Fin cfg0.N, (grid0.coords t 0).val = t.val := by decide +kernel
theorem lt32 (t : Fin cfg0.N) : t.val < 32 := t.isLt

/-! ## The windows' blocks -/

theorem idx0 : ∀ t : Fin cfg0.N, win0_0.index t = ![t.val, 0] := by decide +kernel
theorem idx1 : ∀ t : Fin cfg0.N, win0_1.index t = ![16 * t.val - 1, 0] := by decide +kernel
theorem idx2 : ∀ t : Fin cfg0.N, win0_2.index t = ![min (16 * t.val + 16) 511, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0, 0] := by decide +kernel
theorem idx10 : ∀ t : Fin cfg0.N, win0_10.index t = ![0, 0] := by decide +kernel

variable (m : (ℓ : Loc nD τ sig) → Buf (Elt Ideal) ℓ) (c : Dev nD) (t : Fin cfg0.N)

theorem blk0 (f : ℕ → ℕ → ℝ) (h : V m c main_arg0 = (re2 f : FVec Ideal S8192x6144 .bf16)) : iblk m c 0 t = (re2 fun r d => f (256 * t.val + r) (d) : FVec Ideal S256x6144 .bf16) := by
  have ht := lt32 t
  refine ext2 fun r d => Eq.trans (b := V m c main_arg0 (ix2 ⟨256 * t.val + r.val, by omega⟩ ⟨d.val, by omega⟩)) ?_ (by rw [h, re2_ix])
  generalize hV : V m c main_arg0 = X
  blk_ext [iblk, hV, idx0 t]
theorem blk1 (f : ℕ → ℕ → ℝ) (h : V m c main_arg0 = (re2 f : FVec Ideal S8192x6144 .bf16)) : iblk m c 1 t = (re2 fun r d => f (16 * (16 * t.val - 1) + r) (d) : FVec Ideal S16x2048 .bf16) := by
  have ht := lt32 t
  refine ext2 fun r d => Eq.trans (b := V m c main_arg0 (ix2 ⟨16 * (16 * t.val - 1) + r.val, by omega⟩ ⟨d.val, by omega⟩)) ?_ (by rw [h, re2_ix])
  generalize hV : V m c main_arg0 = X
  blk_ext [iblk, hV, idx1 t]
theorem blk2 (f : ℕ → ℕ → ℝ) (h : V m c main_arg0 = (re2 f : FVec Ideal S8192x6144 .bf16)) : iblk m c 2 t = (re2 fun r d => f (16 * min (16 * t.val + 16) 511 + r) (d) : FVec Ideal S16x2048 .bf16) := by
  have ht := lt32 t
  refine ext2 fun r d => Eq.trans (b := V m c main_arg0 (ix2 ⟨16 * min (16 * t.val + 16) 511 + r.val, by omega⟩ ⟨d.val, by omega⟩)) ?_ (by rw [h, re2_ix])
  generalize hV : V m c main_arg0 = X
  blk_ext [iblk, hV, idx2 t]
/-- A window that holds its whole array. -/
theorem blk3 : iblk m c 3 t = (V m c main_v2 : FVec Ideal S4x31x256 .f32) := by
  refine eq3 fun a r d => ?_
  generalize hV : V m c main_v2 = X
  blk_ext [iblk, hV, idx3 t]
theorem blk4 : iblk m c 4 t = (V m c main_arg2 : FVec Ideal S1x1024 .f32) := by
  refine eq2 fun r d => ?_
  generalize hV : V m c main_arg2 = X
  blk_ext [iblk, hV, idx4 t]
theorem blk5 : iblk m c 5 t = (V m c main_arg3 : FVec Ideal S1x1024 .f32) := by
  refine eq2 fun r d => ?_
  generalize hV : V m c main_arg3 = X
  blk_ext [iblk, hV, idx5 t]
theorem blk6 : iblk m c 6 t = (V m c main_arg4 : FVec Ideal S1x1024 .f32) := by
  refine eq2 fun r d => ?_
  generalize hV : V m c main_arg4 = X
  blk_ext [iblk, hV, idx6 t]
theorem blk7 : iblk m c 7 t = (V m c main_arg5 : FVec Ideal S1x1024 .f32) := by
  refine eq2 fun r d => ?_
  generalize hV : V m c main_arg5 = X
  blk_ext [iblk, hV, idx7 t]
theorem blk8 : iblk m c 8 t = (V m c main_arg6 : FVec Ideal S1x1024 .f32) := by
  refine eq2 fun r d => ?_
  generalize hV : V m c main_arg6 = X
  blk_ext [iblk, hV, idx8 t]
theorem blk9 : iblk m c 9 t = (V m c main_v3 : FVec Ideal S8x128x128 .f32) := by
  refine eq3 fun a r d => ?_
  generalize hV : V m c main_v3 = X
  blk_ext [iblk, hV, idx9 t]
theorem blk10 : iblk m c 10 t = (V m c main_v5 : FVec Ideal S128x8 .f32) := by
  refine eq2 fun r d => ?_
  generalize hV : V m c main_v5 = X
  blk_ext [iblk, hV, idx10 t]

/-! ## All of them -/

/-- The arguments of the program are those of the specification. -/
structure Dt.In (D : Dt) : Prop where
  proj : m (c, Proc.tc.devRef main_arg0) = (re2 D.proj : FVec Ideal S8192x6144 .bf16)
  w : m (c, Proc.tc.devRef main_arg1) = (ex3 (fun _ j d => D.w j d) : FVec Ideal S1x31x1024 .f32)
  cb : m (c, Proc.tc.devRef main_arg2) = (ex2 (fun _ d => D.cb d) : FVec Ideal S1x1024 .f32)
  clg : m (c, Proc.tc.devRef main_arg3) = (re2 (fun _ d => D.clg d) : FVec Ideal S1x1024 .f32)
  clb : m (c, Proc.tc.devRef main_arg4) = (re2 (fun _ d => D.clb d) : FVec Ideal S1x1024 .f32)
  slg : m (c, Proc.tc.devRef main_arg5) = (ex2 (fun _ d => D.slg d) : FVec Ideal S1x1024 .f32)
  slb : m (c, Proc.tc.devRef main_arg6) = (ex2 (fun _ d => D.slb d) : FVec Ideal S1x1024 .f32)
  ws : ∀ (a : Fin 8) (p q : Fin 128), m (c, Proc.tc.devRef main_arg7) (ix4 0 a p q) = D.ws a.val p.val q.val
  bs : m (c, Proc.tc.devRef main_arg8) = (ex3 (fun _ a p => D.bs a p) : FVec Ideal S1x8x128 .f32)

variable {m c}

/-- The taps by column group, as the call finds them. -/
theorem V2 {D : Dt} (h : D.In m c) : V m c main_v2 = (ex3 fun s j d => D.w j (256 * s + d) : FVec Ideal S4x31x256 .f32) := by
  refine exx3 fun s j d => ?_
  unfold_abbrev_sides
  simp only [hostOps0, List.flatten_cons, List.flatten_nil, List.append_nil, List.cons_append, List.nil_append]
  after_results_simp
  rw [h.w]
  generalize hW : (ex3 (fun _ j d => D.w j d) : FVec Ideal S1x31x1024 .f32) = W
  refine Eq.trans (b := W (ix3 0 j ⟨s.val * 256 + d.val, by omega⟩)) ?_ (by subst hW; rw [ex3_ix, Nat.mul_comm 256])
  pointwise []

/-- The mixing weights. -/
theorem V3 {D : Dt} (h : D.In m c) : V m c main_v3 = (ex3 D.ws : FVec Ideal S8x128x128 .f32) := by
  refine exx3 fun a p q => ?_
  unfold_abbrev_sides
  simp only [hostOps0, List.flatten_cons, List.flatten_nil, List.append_nil, List.cons_append, List.nil_append]
  after_results_simp
  refine Eq.trans ?_ (h.ws a p q)
  pointwise []

/-- The mixing biases transposed. -/
theorem V5 {D : Dt} (h : D.In m c) : V m c main_v5 = (ex2 fun p a => D.bs a p : FVec Ideal S128x8 .f32) := by
  refine exx fun p a => ?_
  unfold_abbrev_sides
  simp only [hostOps0, List.flatten_cons, List.flatten_nil, List.append_nil, List.cons_append, List.nil_append]
  after_results_simp
  rw [h.bs]
  generalize hB : (ex3 (fun _ a p => D.bs a p) : FVec Ideal S1x8x128 .f32) = B
  refine Eq.trans (b := B (ix3 0 a p)) ?_ (by subst hB; rfl)
  pointwise []

/-- The windows on the inputs hold what the specification's step at `t` reads. -/
theorem ins {D : Dt} (h : D.In m c) (y cv sh) : Ins D t.val (stAt m c t y cv sh) := by
  have hp := (V_main_arg0 m c).trans h.proj
  exact ⟨blk0 m c t _ hp, blk1 m c t _ hp, blk2 m c t _ hp, (blk3 m c t).trans (V2 h), (blk4 m c t).trans ((V_main_arg2 m c).trans h.cb),
    (blk5 m c t).trans ((V_main_arg3 m c).trans h.clg), (blk6 m c t).trans ((V_main_arg4 m c).trans h.clb), (blk7 m c t).trans ((V_main_arg5 m c).trans h.slg),
    (blk8 m c t).trans ((V_main_arg6 m c).trans h.slb), (blk9 m c t).trans (V3 h), (blk10 m c t).trans (V5 h)⟩

end Cert.Fwd

end
-- ==== Proof.FwdVals.lean ====
/- The values of the branch's forward call at ideal arithmetic. -/
module

public import proofs.«01_k».proof.Proof.FwdBlocks

@[expose] public section

set_option maxRecDepth 65536

noncomputable section

namespace Cert.Fwd

open Cert.FwdKernelIdeal Cert.FwdKernelIdeal.Gen Cert.RealLib Idealize.ShloMosaic Idealize.ShloMosaic.TcCoe Idealize.SL.Sem
open Idealize.ShloMosaic.Pipeline (Dat RDat)
open Cert.Mix (ex2)

variable {m : (ℓ : Loc nD τ sig) → Buf (Elt Ideal) ℓ} (ρ : Dev nD → PrngReg) {D : Dev nD → Dt}

/-- What the body changes of the contents at a point. -/
theorem set_stAt (c : Dev nD) (t : Fin cfg0.N) (y cv sh y' cv' sh') :
    (((stAt m c t y cv sh).setSh sh').setCv cv').setY y' = stAt m c t y' cv' sh' := rfl

/-- The law of the values. -/
def valLaw (h : ∀ c, (D c).In m c) : Law m where
  y c t X := X = ex2 fun r d => (D c).y (256 * t.val + r) d
  cv c t X := X = ex2 fun r d => (D c).cv (256 * t.val + r) d
  step c M t S hS := by
    obtain ⟨y, cv, sh, rfl⟩ := hS
    have e := coords_val t
    refine (body_reach (D := D c) (grid0.coords t) _).mono ?_
    rintro _ S' ⟨sh', cv', y', hS', H⟩
    rw [e] at H
    rw [set_stAt] at hS'
    obtain ⟨h1, h2⟩ := H (ins t (h c) y cv sh)
    subst hS'
    exact ⟨⟨_, _, _, rfl⟩, h2, h1⟩

theorem idx11 (t : Fin cfg0.N) : win0_11.index t = ![t.val, 0] := by revert t; decide +kernel
theorem idx12 (t : Fin cfg0.N) : win0_12.index t = ![t.val, 0] := by revert t; decide +kernel

section Arrays

variable (h : ∀ c, (D c).In m c) (c : Dev nD) (after : (w : Fin cfg0.W) → Fin cfg0.N → (cfg0.win w).block.Idx → Elt Ideal (cfg0.win w).elt)
  (hL : ∀ w u, (cfg0.win w).flush u = true → ((dats (m := m) 0 c).toRRel marks (left (valLaw h) c)).Leaves w u (after w u))

include hL

/-- The branches, as the tiles leave them. -/
theorem arr11 : (((dats (m := m) 0 c).toRRel marks (left (valLaw h) c)).withAfter after).arrAt 11 cfg0.N = ex2 (D c).y := by
  refine Dat.arrAt_eq_of_covers _ 11 _ (by decide +kernel) fun p hf k => ?_
  have e1 : after 11 p = ex2 fun r d => (D c).y (256 * p.val + r) d := (dats (m := m) 0 c).toRRel_leaves rfl (hL 11 p hf)
  obtain ⟨r, d, rfl⟩ : ∃ (r : Fin 256) (d : Fin 2048), k = ix2 r d := ⟨k 0, k 1, eq_ix2 k⟩
  have hp : p.val < 32 := lt32 p
  have e : (win0_11.blk p).view.emb (ix2 r d) = ix2 ⟨256 * p.val + r.val, by omega⟩ d := by blk_ext [idx11 p]
  blk_simp
  rw [RDat.withAfter_after, e1, e]
  rfl

/-- The convolution, as the tiles leave it. -/
theorem arr12 : (((dats (m := m) 0 c).toRRel marks (left (valLaw h) c)).withAfter after).arrAt 12 cfg0.N = ex2 (D c).cv := by
  refine Dat.arrAt_eq_of_covers _ 12 _ (by decide +kernel) fun p hf k => ?_
  have e1 : after 12 p = ex2 fun r d => (D c).cv (256 * p.val + r) d := (dats (m := m) 0 c).toRRel_leaves rfl (hL 12 p hf)
  obtain ⟨r, d, rfl⟩ : ∃ (r : Fin 256) (d : Fin 1024), k = ix2 r d := ⟨k 0, k 1, eq_ix2 k⟩
  have hp : p.val < 32 := lt32 p
  have e : (win0_12.blk p).view.emb (ix2 r d) = ix2 ⟨256 * p.val + r.val, by omega⟩ d := by blk_ext [idx12 p]
  blk_simp
  rw [RDat.withAfter_after, e1, e]
  rfl

end Arrays

set_option maxHeartbeats 4000000 in
/-- The call's two results. -/
theorem kernel_run (h : ∀ c, (D c).In m c) : θ_run (defs (F := Ideal)) (onTc (τ := τ) main) (s₀ m ρ) fun r => (∀ c : Dev nD,
    r.2.mem ((c : Thread nD τ).loc main_v6_0) = ex2 (D c).y
    ∧ r.2.mem ((c : Thread nD τ).loc main_v6_1) = ex2 (D c).cv) := by
  refine (θ_run defs _ _).mono (fun r hr c => ?_) (run ρ (valLaw h))
  obtain ⟨after, hL, hA⟩ := RDat.FramePost.exists_exact hr.1 c
  exact ⟨(hA 11).trans (arr11 h c after hL), (hA 12).trans (arr12 h c after hL)⟩

end Cert.Fwd

end
-- ==== Proof.FwdRef.lean ====
/- The reference of the branch's forward call, stage by stage: the two results are the specification's. -/
module

public import proofs.«01_k».proof.Proof.FwdData
public import proofs.«01_k».proof.Proof.MixRefConv
public import proofs.«01_k».proof.Proof.Gen.FwdReferenceIdeal.Read

@[expose] public section

set_option maxRecDepth 65536

noncomputable section

namespace Cert.FwdRef

open Cert.FwdReferenceIdeal Cert.FwdReferenceIdeal.Gen Cert.FwdReferenceIdeal.Read Idealize.ShloMosaic
open Cert.RealLib Cert.Fwd
open Cert.Mix (sgR gluP hot sum_hot ex2 ex2_ix)
open Cert.MixRef (At A mean cen rs nh sig)

/-- The arguments of the reference are those of the specification. -/
structure Arg (D : Dt) (x0 : (⟨S8192x6144, .bf16⟩ : BufTy).Contents (Elt Ideal)) (x1 : (⟨S1x31x1024, .f32⟩ : BufTy).Contents (Elt Ideal))
    (x2 x3 x4 x5 x6 : (⟨S1x1024, .f32⟩ : BufTy).Contents (Elt Ideal))
    (x7 : (⟨S1x8x128x128, .f32⟩ : BufTy).Contents (Elt Ideal)) (x8 : (⟨S1x8x128, .f32⟩ : BufTy).Contents (Elt Ideal)) : Prop where
  proj : ∀ (n : Fin 8192) (d : Fin 6144), x0 (ix2 n d) = ((D.proj n.val d.val : ℝ) : EReal)
  w : ∀ (k : Fin 31) (d : Fin 1024), x1 (ix3 0 k d) = D.w k.val d.val
  cb : ∀ d : Fin 1024, x2 (ix2 0 d) = D.cb d.val
  clg : ∀ d : Fin 1024, x3 (ix2 0 d) = ((D.clg d.val : ℝ) : EReal)
  clb : ∀ d : Fin 1024, x4 (ix2 0 d) = ((D.clb d.val : ℝ) : EReal)
  slg : ∀ d : Fin 1024, x5 (ix2 0 d) = D.slg d.val
  slb : ∀ d : Fin 1024, x6 (ix2 0 d) = D.slb d.val
  ws : ∀ (a : Fin 8) (p q : Fin 128), x7 (ix4 0 a p q) = D.ws a.val p.val q.val
  bs : ∀ (a : Fin 8) (p : Fin 128), x8 (ix3 0 a p) = D.bs a.val p.val

/-! ### A normalised row of extended reals -/

section Row
variable {X : A} {f : ℕ → ℕ → EReal} (hX : ∀ (n : Fin 8192) (d : Fin 1024), X (ix3 0 n d) = f n.val d.val)
include hX

theorem mean_at (n : Fin 8192) : mean X (ix3 0 n 0) = mnE (f n.val) := by
  pointwise [MixRef.mean]
  simp only [hX, lit_1024]
  rfl
theorem cen_at (n : Fin 8192) (d : Fin 1024) : cen X (ix3 0 n d) = cenE (f n.val) d.val := by
  have e := mean_at hX n
  pointwise [MixRef.cen]
  rw [hX, e]
  rfl
theorem rs_at (n : Fin 8192) : rs X (ix3 0 n 0) = rsE (f n.val) := by
  have e2 : ∀ (n : Fin 8192) (d : Fin 1024), (mulf (cen X) (cen X) : A) (ix3 0 n d) = (fun n c => cenE (f n) c * cenE (f n) c) n.val d.val := fun n d => by
    have e := cen_at hX n d
    pointwise []
    rw [e]
  have e := mean_at (f := fun n c => cenE (f n) c * cenE (f n) c) e2 n
  pointwise [MixRef.rs, MixRef.var]
  rw [e, lit_eps]
  rfl
theorem nh_at (n : Fin 8192) (d : Fin 1024) : nh X (ix3 0 n d) = cenE (f n.val) d.val * rsE (f n.val) := by
  have e := rs_at hX n
  have e1 := cen_at hX n d
  pointwise [MixRef.nh]
  rw [e, e1]
end Row

variable {x0 : (⟨S8192x6144, .bf16⟩ : BufTy).Contents (Elt Ideal)} {x1 : (⟨S1x31x1024, .f32⟩ : BufTy).Contents (Elt Ideal)}
    {x2 x3 x4 x5 x6 : (⟨S1x1024, .f32⟩ : BufTy).Contents (Elt Ideal)}
    {x7 : (⟨S1x8x128x128, .f32⟩ : BufTy).Contents (Elt Ideal)} {x8 : (⟨S1x8x128, .f32⟩ : BufTy).Contents (Elt Ideal)} {D : Dt}
variable (h : Arg D x0 x1 x2 x3 x4 x5 x6 x7 x8)

include h

/-! ### The slices of the projection -/

theorem v2 : At (val_main_v2 (F := Ideal) x0) D.proj := fun n d => by
  pointwise [val_main_v2, val_main_v1, val_main_v0]
  exact h.proj _ _
theorem v3 : At (val_main_v3 (F := Ideal) x0) fun n d => D.proj n (1024 + d) := fun n d => by
  pointwise [val_main_v3, val_main_v1, val_main_v0]
  exact h.proj _ _
theorem v4 : At (val_main_v4 (F := Ideal) x0) fun n d => D.proj n (2048 + d) := fun n d => by
  pointwise [val_main_v4, val_main_v1, val_main_v0]
  exact h.proj _ _
theorem v5 : At (val_main_v5 (F := Ideal) x0) fun n d => D.proj n (3072 + d) := fun n d => by
  pointwise [val_main_v5, val_main_v1, val_main_v0]
  exact h.proj _ _
theorem v6 : At (val_main_v6 (F := Ideal) x0) fun n d => D.proj n (4096 + d) := fun n d => by
  pointwise [val_main_v6, val_main_v1, val_main_v0]
  exact h.proj _ _
theorem v7 : At (val_main_v7 (F := Ideal) x0) fun n d => D.proj n (5120 + d) := fun n d => by
  pointwise [val_main_v7, val_main_v1, val_main_v0]
  exact h.proj _ _

/-! ### The convolution -/

theorem v17 : At (val_main_v17 (F := Ideal) x0) fun n d => sgR (D.proj n (1024 + d)) := (v3 h).sig
theorem v18 : At (val_main_v18 (F := Ideal) x0) fun n d => D.proj n d * sgR (D.proj n (1024 + d)) := fun n d => by
  pointwise [val_main_v18]
  rw [v17 h, v2 h, ← EReal.coe_mul]

omit h in
/-- A position is the one a tap reaches. -/
theorem hot_at (s t : Fin 8192) (k : Fin 31) : val_main_v26 (F := Ideal) (ix3 s t k) = ((hot s.val t.val k.val : ℝ) : EReal) := MixRef.hot_at s t k

theorem v28 (n : Fin 8192) (k : Fin 31) (d : Fin 1024) : val_main_v28 (F := Ideal) x0 (ix4 0 n k d) = ((gluP D.proj (n.val + k.val) d.val : ℝ) : EReal) := by
  pointwise [val_main_v28, val_main_v27]
  simp only [(v18 h).get, hot_at, ← EReal.coe_mul, coe_sum]
  exact congrArg _ (sum_hot (fun n => D.proj n d.val * sgR (D.proj n (1024 + d.val))) n.val k.val)

/-- The convolution. -/
theorem v35 (n : Fin 8192) (d : Fin 1024) : val_main_v35 (F := Ideal) x0 x1 x2 (ix3 0 n d) = D.cv n.val d.val := by
  pointwise [val_main_v35, val_main_v34, val_main_v33, val_main_v32, val_main_v31, val_main_v30, val_main_v29, val_main_v9, val_main_v8, val_main_cst_1]
  simp only [v28 h, h.w, h.cb]
  unfold Dt.cv
  rw [Finset.sum_range fun j => ((gluP D.proj (n.val + j) d.val : ℝ) : EReal) * D.w j d.val]
  exact add_comm _ _

/-! ### Its norm and the first gate -/

theorem e51 : val_main_v51 (F := Ideal) x0 x1 x2 = nh (val_main_v35 (F := Ideal) x0 x1 x2) := rfl

theorem v57 : At (val_main_v57 (F := Ideal) x0 x1 x2 x3 x4) D.ln := fun n d => by
  pointwise [val_main_v57, val_main_v56, val_main_v55, val_main_v54, val_main_v53, val_main_v52, val_main_v11, val_main_v10]
  rw [e51 h, nh_at (v35 h), h.clg, h.clb]
  exact ln_coe D.clg D.clb (D.cv n.val) d.val d.isLt

theorem e58 : val_main_v58 (F := Ideal) x0 x1 x2 x3 x4 = mulf (val_main_v57 (F := Ideal) x0 x1 x2 x3 x4) (sig (val_main_v57 (F := Ideal) x0 x1 x2 x3 x4)) := rfl
theorem e59 : val_main_v59 (F := Ideal) x0 = mulf (val_main_v4 (F := Ideal) x0) (sig (val_main_v4 (F := Ideal) x0)) := rfl
theorem e96 : val_main_v96 (F := Ideal) x0 = mulf (val_main_v7 (F := Ideal) x0) (sig (val_main_v7 (F := Ideal) x0)) := rfl

theorem v60 : At (val_main_v60 (F := Ideal) x0 x1 x2 x3 x4)
    fun n d => D.ln n d * sgR (D.ln n d) * (D.proj n (2048 + d) * sgR (D.proj n (2048 + d))) := fun n d => by
  pointwise [val_main_v60]
  rw [e58 h, e59 h, (v57 h).sil, (v4 h).sil, ← EReal.coe_mul]

/-! ### The mixing of a chunk and the second gate -/

theorem e80 : val_main_v80 (F := Ideal) x0 = nh (val_main_v6 (F := Ideal) x0) := rfl

theorem v86 (n : Fin 8192) (d : Fin 1024) : val_main_v86 (F := Ideal) x0 x5 x6 (ix3 0 n d) = D.vn n.val d.val := by
  pointwise [val_main_v86, val_main_v85, val_main_v84, val_main_v83, val_main_v82, val_main_v81, val_main_v62, val_main_v61]
  rw [e80 h, nh_at (f := fun n d => ((D.proj n (4096 + d) : ℝ) : EReal)) (v6 h), h.slg, h.slb]
  rfl

theorem v87 (u : Fin 64) (p : Fin 128) (a : Fin 8) (q : Fin 128) : val_main_v87 (F := Ideal) x0 x5 x6 (ix5 0 u p a q)
    = D.vn (128 * u.val + p.val) (128 * a.val + q.val) := by
  pointwise [val_main_v87]
  rw [v86 h]
  refine congrArg₂ D.vn ?_ ?_ <;> exact congrArg (· + _) (mul_comm _ _)

theorem v93 (u : Fin 64) (p : Fin 128) (a : Fin 8) (q : Fin 128) : val_main_v93 (F := Ideal) x0 x5 x6 x7 x8 (ix5 0 u p a q)
    = D.mix (128 * u.val + p.val) (128 * a.val + q.val) := by
  pointwise [val_main_v93, val_main_v92, val_main_v91, val_main_v90, val_main_v89, val_main_v88, val_main_v64, val_main_v63]
  simp only [v87 h, h.ws, h.bs]
  unfold Dt.mix
  have e1 : (128 * u.val + p.val) % 128 = p.val := by omega
  have e2 : (128 * a.val + q.val) / 128 = a.val := by omega
  have e3 : 128 * u.val + p.val - p.val = 128 * u.val := by omega
  rw [e1, e2, e3]
  exact congrArg (· + _) (Finset.sum_congr rfl fun k _ => mul_comm _ _)

theorem v94 (n : Fin 8192) (d : Fin 1024) : val_main_v94 (F := Ideal) x0 x5 x6 x7 x8 (ix3 0 n d) = D.mix n.val d.val := by
  pointwise [val_main_v94]
  rw [v93 h]
  refine congrArg₂ D.mix ?_ ?_
  · exact Nat.div_add_mod _ _
  · exact Nat.div_add_mod _ _

theorem v97 (n : Fin 8192) (d : Fin 1024) : val_main_v97 (F := Ideal) x0 x5 x6 x7 x8 (ix3 0 n d)
    = ((D.proj n.val (3072 + d.val) : ℝ) : EReal) * D.mix n.val d.val * ((D.proj n.val (5120 + d.val) * sgR (D.proj n.val (5120 + d.val)) : ℝ) : EReal) := by
  pointwise [val_main_v97, val_main_v95]
  rw [e96 h, (v7 h).sil, v5 h, v94 h]

/-! ### The two results -/

/-- The gated branches side by side. -/
theorem v128 (n : Fin 8192) (d : Fin 2048) : val_main_v128 (F := Ideal) x0 x1 x2 x3 x4 x5 x6 x7 x8 (ix2 n d) = D.y n.val d.val := by
  pointwise [val_main_v128, val_main_v127, val_main_v98]
  unfold Dt.y
  by_cases c : d.val < 1024
  · rw [dif_pos c, if_pos c]
    exact (v60 h).get _ _
  · rw [dif_neg c, if_neg c]
    exact v97 h _ _

theorem e129 : val_main_v129 (F := Ideal) x0 x1 x2 = shapeCast _ (val_main_v35 (F := Ideal) x0 x1 x2) shapeCasts_S1x8192x1024_S8192x1024 := rfl

/-- The convolution, returned for the backward pass. -/
theorem v129 (n : Fin 8192) (d : Fin 1024) : val_main_v129 (F := Ideal) x0 x1 x2 (ix2 n d) = D.cv n.val d.val := by
  have e := v35 h n d
  rw [e129 h]
  pointwise []
  exact e

end Cert.FwdRef

end
-- ==== Proof.FwdClaim.lean ====
/- The branch's forward kernel computes what its reference computes, wherever the projection and the convolution norm's
   scale and shift are finite. -/
module

public import proofs.«01_k».proof.Defs
public import proofs.«01_k».proof.Proof.FwdVals
public import proofs.«01_k».proof.Proof.FwdRef
public import proofs.«01_k».proof.Proof.FwdFrames
public import proofs.«01_k».proof.Proof.MixClaim
public import proofs.«01_k».proof.Proof.Gen.FwdReferenceIdeal.Run
public import proofs.«01_k».proof.Proof.Gen.FwdReferenceIdeal
public import proofs.«01_k».proof.Proof.Gen.Pre_finite_fwd
public import Idealize.ShloMosaic.Lib.Claim

@[expose] public section

set_option maxRecDepth 65536

noncomputable section

namespace Cert.FwdClaim

open Cert.RealLib Cert.Fwd Cert.MixClaim Idealize.ShloMosaic Idealize.ShloMosaic.TcCoe Idealize.SL.Sem
open Cert.Mix (re2 ex2 ex2_ix)

section
open Pre_finite_fwd
variable [Cert.Pre_finite_fwd.Facts]

/-- Where the precondition holds the arguments it names are arrays of real numbers. -/
theorem reals {x0 : FVec Ideal S8192x6144 .bf16} {x1 : FVec Ideal S1x31x1024 .f32} {x2 x3 x4 x5 x6 : FVec Ideal S1x1024 .f32}
    {x7 : FVec Ideal S1x8x128x128 .f32} {x8 : FVec Ideal S1x8x128 .f32}
    (h : fn (F := Ideal) x0 x1 x2 x3 x4 x5 x6 x7 x8 = fun _ => 1#1) : IsReal x0 ∧ IsReal x3 ∧ IsReal x4 := by
  have h' := congrFun h ix0
  obtain ⟨h', e2⟩ := IntOp.andi_eq_one.mp h'
  obtain ⟨e0, e1⟩ := IntOp.andi_eq_one.mp h'
  haveI : Subsingleton S_.Idx := ⟨fun a b => funext fun k => k.elim0⟩
  exact ⟨real_of_all x0 _ rfl _ (fun _ => rfl) _ _ _ _ e0, real_of_all x3 _ rfl _ (fun _ => rfl) _ _ _ _ e1,
    real_of_all x4 _ rfl _ (fun _ => rfl) _ _ _ _ e2⟩
end

/-! ### Arrays with one leading index -/

theorem row {M : ℕ} (x : (⟨2, ![1, M]⟩ : Shape).Idx → EReal) : x = ex2 (fun _ d => nat2 x 0 d) := exx fun r c => by
  have e : r = 0 := Subsingleton.elim _ _
  subst e; exact (nat2_ix x 0 c).symm
theorem plane {N M : ℕ} (x : (⟨3, ![1, N, M]⟩ : Shape).Idx → EReal) : x = ex3 (fun _ n d => nat3 x 0 n d) := exx3 fun k n d => by
  have e : k = 0 := Subsingleton.elim _ _
  subst e; exact (nat3_ix x 0 n d).symm
theorem rowR {M : ℕ} {x : (⟨2, ![1, M]⟩ : Shape).Idx → EReal} (h : IsReal x) : x = re2 (fun _ d => (nat2 x 0 d).toReal) := Mix.ext2 fun r c => by
  have e : r = 0 := Subsingleton.elim _ _
  subst e; exact real2 h 0 c

section
open Cert.FwdKernelIdeal

variable (m : (ℓ : Loc nD τ sig) → Buf (Elt Ideal) ℓ)

/-- The arguments of a device as functions of natural numbers. -/
def args (c : Dev nD) : Dt where
  proj n d := (nat2 (m (c, Proc.tc.devRef main_arg0) : FVec Ideal S8192x6144 .bf16) n d).toReal
  w k d := nat3 (m (c, Proc.tc.devRef main_arg1) : FVec Ideal S1x31x1024 .f32) 0 k d
  cb d := nat2 (m (c, Proc.tc.devRef main_arg2) : FVec Ideal S1x1024 .f32) 0 d
  clg d := (nat2 (m (c, Proc.tc.devRef main_arg3) : FVec Ideal S1x1024 .f32) 0 d).toReal
  clb d := (nat2 (m (c, Proc.tc.devRef main_arg4) : FVec Ideal S1x1024 .f32) 0 d).toReal
  slg d := nat2 (m (c, Proc.tc.devRef main_arg5) : FVec Ideal S1x1024 .f32) 0 d
  slb d := nat2 (m (c, Proc.tc.devRef main_arg6) : FVec Ideal S1x1024 .f32) 0 d
  ws a p q := nat4 (m (c, Proc.tc.devRef main_arg7) : FVec Ideal S1x8x128x128 .f32) 0 a p q
  bs a p := nat3 (m (c, Proc.tc.devRef main_arg8) : FVec Ideal S1x8x128 .f32) 0 a p

variable [Cert.Pre_finite_fwd.Facts]

/-- Where the precondition holds the kernel's arguments are those functions. -/
theorem args_in (h : Cert.Pre_FwdKernelIdeal_finite_fwd m) (c : Dev nD) : (args m c).In m c := by
  obtain ⟨h0, h3, h4⟩ := reals (h c)
  exact ⟨arr2 h0, plane _, row _, rowR h3, rowR h4, row _, row _, fun a p q => (nat4_ix _ 0 a p q).symm, plane _⟩

/-- And so are the reference's. -/
theorem args_ref (h : Cert.Pre_FwdKernelIdeal_finite_fwd m) (c : Dev nD) : FwdRef.Arg (args m c)
    (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) := by
  obtain ⟨h0, h3, h4⟩ := reals (h c)
  exact ⟨real2 h0, fun k d => (nat3_ix _ 0 k d).symm, fun d => (nat2_ix _ 0 d).symm, real2 h3 0, real2 h4 0, fun d => (nat2_ix _ 0 d).symm,
    fun d => (nat2_ix _ 0 d).symm, fun a p q => (nat4_ix _ 0 a p q).symm, fun a p => (nat3_ix _ 0 a p).symm⟩
end

/-- The reference runs, keeps its arguments and declares no semaphore. -/
theorem frame_reference : Cert.quiescent_FwdReferenceIdeal (hFwdReferenceIdeal := Cert.FwdReferenceIdeal.Gen.facts) :=
  fun m ρ _ => (θ_run Cert.FwdReferenceIdeal.defs _ _).mono
    (fun r h => ⟨fun c => (h c).2.2, sem_eq_zero_of_no_sems (by decide) r.2⟩) (Cert.FwdReferenceIdeal.Value.run m ρ)

set_option maxHeartbeats 4000000 in
/-- The results of the two programs are equal. -/
theorem value [hp : Cert.Pre_finite_fwd.Facts] : Cert.algebraic_FwdKernelIdeal_FwdReferenceIdeal_pre_finite_fwd
    (hFwdKernelIdeal := Cert.FwdKernelIdeal.Gen.facts) (hFwdReferenceIdeal := Cert.FwdReferenceIdeal.Gen.facts) := by
  intro m ρ m' ρ' hpre hag
  refine ⟨_, _, (θ_run _ _ _).mono (fun r hr c => ⟨(hr.1 c).1, (hr.1 c).2, hr.2.1 c⟩)
    (θ_run_and (kernel_run ρ fun c => args_in m hpre c) (frame_main (F := Ideal) (m := m) ρ)),
    (θ_run _ _ _).mono (fun r hr c => ?_) (FwdReferenceIdeal.Value.run m' ρ')⟩
  have H := args_ref m hpre c
  obtain ⟨a0, a1, a2, a3, a4, a5, a6, a7, a8⟩ := hag c
  obtain ⟨r0, r1, k⟩ := hr c
  have e0 := r0.trans (FwdReferenceIdeal.Read.val_main_v128_eq m' c)
  have e1 := r1.trans (FwdReferenceIdeal.Read.val_main_v129_eq _ _ _)
  rw [a0, a1, a2, a3, a4, a5, a6, a7, a8] at e0
  rw [a0, a1, a2] at e1
  refine ⟨e0.trans (funext fun i => ?_), e1.trans (funext fun i => ?_), k⟩
  · obtain ⟨a, b, rfl⟩ : ∃ (a : Fin 8192) (b : Fin 2048), i = ix2 a b := ⟨i 0, i 1, eq_ix2 i⟩
    exact FwdRef.v128 H a b
  · obtain ⟨a, b, rfl⟩ : ∃ (a : Fin 8192) (b : Fin 1024), i = ix2 a b := ⟨i 0, i 1, eq_ix2 i⟩
    exact FwdRef.v129 H a b

end Cert.FwdClaim

end
-- ==== Proof.InbMath.lean ====
/-
  The input projection with the first norm, in real numbers: the quantities that both programs of its backward call
  compute, and the identity by which their two texts of the norm's gradient agree.
-/
module

public import proofs.«01_k».proof.Proof.RealLib

@[expose] public section

noncomputable section

namespace Cert.InbMath

open Cert.RealLib

variable (x : Fin 8192 → Fin 1024 → ℝ) (p : Fin 8192 → Fin 6144 → ℝ) (w : Fin 1024 → Fin 6144 → ℝ) (g : Fin 1024 → ℝ)

/-- The gradient at the norm's output, through the projection. -/
def dh (r : Fin 8192) (d : Fin 1024) : ℝ := ∑ e, p r e * w d e
/-- The mean square of a row, with the small number under the root. -/
def ms (r : Fin 8192) : ℝ := (∑ d, x r d * x r d) / 1024 + epsR
/-- The reciprocal root mean square. -/
def rs (r : Fin 8192) : ℝ := (Real.sqrt (ms x r))⁻¹
/-- The row divided by its root mean square. -/
def nrm (r : Fin 8192) (d : Fin 1024) : ℝ := x r d * rs x r
/-- The gradient at the normalised row. -/
def dn (r : Fin 8192) (d : Fin 1024) : ℝ := dh p w r d * g d
/-- The norm's gradient at the row. -/
def dx (r : Fin 8192) (d : Fin 1024) : ℝ := rs x r * (dn p w g r d - nrm x r d * ((∑ k, dn p w g r k * nrm x r k) / 1024))

theorem ms_pos (r : Fin 8192) : 0 < ms x r := by
  have h : 0 ≤ ∑ d, x r d * x r d := Finset.sum_nonneg fun d _ => mul_self_nonneg _
  have := epsR_pos
  unfold ms
  positivity

/-- What differentiation of the root gives, a product and two equal terms from the square, is that gradient. -/
theorem dx_eq (r : Fin 8192) (d : Fin 1024) (q : ℝ)
    (hq : q = (∑ k, x r k * dn p w g r k) * (-(1 / 2) * (rs x r / ms x r)) / 1024) :
    dn p w g r d * rs x r + x r d * q + q * x r d = dx x p w g r d := by
  have h2 : rs x r * rs x r = (ms x r)⁻¹ := inv_sqrt_mul_self _ (ms_pos x r)
  have hs : ∑ k, dn p w g r k * nrm x r k = (∑ k, x r k * dn p w g r k) * rs x r := by
    rw [Finset.sum_mul]
    exact Finset.sum_congr rfl fun k _ => by unfold nrm; ring
  unfold dx
  rw [hq, hs, div_eq_mul_inv (rs x r) (ms x r), ← h2]
  unfold nrm
  ring

end Cert.InbMath
-- ==== Proof.InbPay.lean ====
/-
  The payloads of the input projection's backward kernel in real numbers: on the rows `ρ r` of a tile each payload is
  the quantity of `InbMath` on those rows.
-/
module

public import proofs.«01_k».proof.Proof.InbMath
public import proofs.«01_k».proof.Proof.Gen.InbKernelIdeal.Value
public import Idealize.ShloMosaic.Lib.Pointwise

@[expose] public section

set_option maxRecDepth 16384

noncomputable section

namespace Cert.InbPay

open Cert.InbKernelIdeal Cert.InbKernelIdeal.Gen Cert.RealLib Idealize.ShloMosaic Idealize.ShloMosaic.TcCoe Idealize.SL.Sem

variable {x : Fin 8192 → Fin 1024 → ℝ} {p : Fin 8192 → Fin 6144 → ℝ} {w : Fin 1024 → Fin 6144 → ℝ} {g : Fin 1024 → ℝ}
variable {ρ : Fin 512 → Fin 8192}

/-- A sum over 6144 is the sum of its four runs of 1536. -/
theorem sum_four (f : Fin 6144 → ℝ) :
    ∑ e, f e = ((∑ e : Fin 1536, f ⟨e.val, by omega⟩ + ∑ e : Fin 1536, f ⟨1536 + e.val, by omega⟩)
      + ∑ e : Fin 1536, f ⟨3072 + e.val, by omega⟩) + ∑ e : Fin 1536, f ⟨4608 + e.val, by omega⟩ := by
  rw [Fin.sum_univ_add (a := 4608) (b := 1536) f, Fin.sum_univ_add (a := 3072) (b := 1536) fun i => f (Fin.castAdd 1536 i),
    Fin.sum_univ_add (a := 1536) (b := 1536) fun i => f (Fin.castAdd 1536 (Fin.castAdd 1536 i))]
  rfl

/-- The gradient at the norm's output, from the four column runs of the projection's gradient and of its weight. -/
theorem pay7 {p0 p1 p2 p3 : Vec Ideal S512x1536 .bf16} {w0 w1 w2 w3 : Vec Ideal S1x1024x1536 .bf16}
    (hp0 : ∀ r e, p0 (ix2 r e) = ((p (ρ r) ⟨e.val, by omega⟩ : ℝ) : EReal)) (hw0 : ∀ d e, w0 (ix3 0 d e) = ((w d ⟨e.val, by omega⟩ : ℝ) : EReal))
    (hp1 : ∀ r e, p1 (ix2 r e) = ((p (ρ r) ⟨1536 + e.val, by omega⟩ : ℝ) : EReal)) (hw1 : ∀ d e, w1 (ix3 0 d e) = ((w d ⟨1536 + e.val, by omega⟩ : ℝ) : EReal))
    (hp2 : ∀ r e, p2 (ix2 r e) = ((p (ρ r) ⟨3072 + e.val, by omega⟩ : ℝ) : EReal)) (hw2 : ∀ d e, w2 (ix3 0 d e) = ((w d ⟨3072 + e.val, by omega⟩ : ℝ) : EReal))
    (hp3 : ∀ r e, p3 (ix2 r e) = ((p (ρ r) ⟨4608 + e.val, by omega⟩ : ℝ) : EReal)) (hw3 : ∀ d e, w3 (ix3 0 d e) = ((w d ⟨4608 + e.val, by omega⟩ : ℝ) : EReal))
    (r : Fin 512) (d : Fin 1024) :
    k0_pay7 (F := Ideal) p0 w0 p1 w1 p2 w2 p3 w3 (ix2 r d) = ((InbMath.dh p w (ρ r) d : ℝ) : EReal) := by
  pointwise [k0_pay7]
  simp only [hp0, hp1, hp2, hp3, hw0, hw1, hw2, hw3, lit_zero, ← EReal.coe_mul, ← EReal.coe_add, coe_sum]
  unfold InbMath.dh
  rw [sum_four]

section
variable {X : Vec Ideal S512x1024 .f32} (hx : ∀ r d, X (ix2 r d) = ((x (ρ r) d : ℝ) : EReal))

include hx

theorem pay8 (r : Fin 512) (d : Fin 1024) : k0_pay8 (F := Ideal) X (ix2 r d) = ((x (ρ r) d : ℝ) : EReal) := by
  pointwise [k0_pay8]
  exact hx r d

/-- The sum of a row's squares. -/
theorem pay9 (r : Fin 512) : k0_pay9 (F := Ideal) X (ix1 r) = ((∑ d, x (ρ r) d * x (ρ r) d : ℝ) : EReal) := by
  pointwise [k0_pay9]
  simp only [pay8 hx, ← EReal.coe_mul, coe_sum]

theorem pay1 (r : Fin 512) : k0_pay1 (F := Ideal) (k0_pay9 X) (ix2 r 0) = ((InbMath.rs x (ρ r) : ℝ) : EReal) := by
  have e : ((∑ d, x (ρ r) d * x (ρ r) d) / 1024 + epsR : ℝ) = InbMath.ms x (ρ r) := rfl
  pointwise [k0_pay1]
  rw [pay9 hx, lit_1024, lit_eps, div_coe_coe _ _ (by norm_num), ← EReal.coe_add, e, rsqrt_pos _ (InbMath.ms_pos x (ρ r))]
  rfl

theorem pay2 (r : Fin 512) (d : Fin 1024) :
    k0_pay2 (F := Ideal) (k0_pay8 X) (k0_pay9 X) (ix2 r d) = ((InbMath.nrm x (ρ r) d : ℝ) : EReal) := by
  pointwise [k0_pay2]
  rw [pay8 hx, pay1 hx, ← EReal.coe_mul]
  rfl

variable {D : FVec Ideal S512x1024 .f32} (hD : ∀ r d, D (ix2 r d) = ((InbMath.dh p w (ρ r) d : ℝ) : EReal))

include hD

/-- One tile's addition to the gradient of the norm's gain, eight partial sums. -/
theorem pay3 (acc : Vec Ideal S8x1024 .f32) (j : Fin 8) (d : Fin 1024) :
    k0_pay3 (F := Ideal) D (k0_pay8 X) (k0_pay9 X) acc (ix2 j d) = acc (ix2 j d)
      + ((∑ q : Fin 64, InbMath.dh p w (ρ ⟨q.val * 8 + j.val, by omega⟩) d
            * InbMath.nrm x (ρ ⟨q.val * 8 + j.val, by omega⟩) d : ℝ) : EReal) := by
  pointwise [k0_pay3]
  simp only [pay2 hx, hD, ← EReal.coe_mul, coe_sum]

/-- The gradient at the layer's input: the residual's plus the norm's. -/
theorem pay4 {G : Vec Ideal S1x1024 .f32} (hg : ∀ d, G (ix2 0 d) = ((g d : ℝ) : EReal)) (R : Vec Ideal S512x1024 .f32)
    (r : Fin 512) (d : Fin 1024) :
    k0_pay4 (F := Ideal) D (k0_pay8 X) (k0_pay9 X) G R (ix2 r d) = R (ix2 r d) + ((InbMath.dx x p w g (ρ r) d : ℝ) : EReal) := by
  pointwise [k0_pay4]
  simp only [pay2 hx, pay1 hx, hD, hg, lit_1024, ← EReal.coe_mul, coe_sum]
  rw [div_coe_coe _ _ (by norm_num), ← EReal.coe_mul, ← EReal.coe_sub, ← EReal.coe_mul]
  rfl

end

/-- The eight partial sums, summed and repeated on every row, plus what the first call found. -/
theorem pay5 (a b : Vec Ideal S8x1024 .f32) (j : Fin 8) (d : Fin 1024) :
    k0_pay5 (F := Ideal) a b (ix2 j d) = (∑ k : Fin 8, a (ix2 k d)) + b (ix2 j d) := by
  pointwise [k0_pay5]

/-- The zero block. -/
theorem pay6 (i : S8x1024.Idx) : k0_pay6 (F := Ideal) i = 0 := by
  unfold k0_pay6
  exact lit_zero

end Cert.InbPay
-- ==== Proof.InbBlocks.lean ====
/-
  The input blocks of the input projection's backward kernel: what each window holds at tile `t`, as entries of @main's
  arguments.
-/
module

public import proofs.«01_k».proof.Proof.InbPay
public import Idealize.ShloMosaic.Lib.Pipeline.ValueKit
public import Idealize.ShloMosaic.Lib.Pipeline.ReadBack

@[expose] public section

set_option maxRecDepth 16384

noncomputable section

namespace Cert.InbBlocks

open Cert.InbKernelIdeal Cert.InbKernelIdeal.Gen Cert.RealLib Idealize.ShloMosaic Idealize.ShloMosaic.TcCoe Idealize.SL.Sem

/-! ## The host's changes of shape, at an index -/

theorem cast_x (A : Vec Ideal S1x8192x1024 .f32) (r : Fin 8192) (d : Fin 1024) :
    shapeCast S8192x1024 A shapeCasts_S1x8192x1024_S8192x1024 (ix2 r d) = A (ix3 0 r d) := by
  pointwise [id]

theorem cast_w (A : Vec Ideal S1x1024x6144 .f32) (k : Fin 4) (d : Fin 1024) (e : Fin 1536) :
    truncf (F := Ideal) .bf16 (transpose S4x1024x1536 [1, 0, 2] (shapeCast S1024x4x1536
        (shapeCast S1024x6144 A shapeCasts_S1x1024x6144_S1024x6144 : Vec Ideal S1024x6144 .f32) shapeCasts_S1024x6144_S1024x4x1536
        : Vec Ideal S1024x4x1536 .f32) transposes_S1024x4x1536_S4x1024x1536_1_0_2 : Vec Ideal S4x1024x1536 .f32) bitsLt_bf16_f32 (ix3 k d e)
      = A (ix3 0 d ⟨k.val * 1536 + e.val, by omega⟩) := by
  pointwise [id]

/-! ## The column runs of the gradient's tile and of the weight, at an index -/

section
variable (P : Vec Ideal S512x6144 .bf16) (W : Vec Ideal S4x1024x1536 .bf16)

theorem lp0 (r : Fin 512) (e : Fin 1536) :
    View.ld P (Rect.unit ![0, 0] ![512, 1536] inb_S512x6144_S512x1536_0_0) (ix2 r e) = P (ix2 r ⟨e.val, by omega⟩) := by
  pointwise []
theorem lp1 (r : Fin 512) (e : Fin 1536) :
    View.ld P (Rect.unit ![0, 1536] ![512, 1536] inb_S512x6144_S512x1536_0_1536) (ix2 r e) = P (ix2 r ⟨1536 + e.val, by omega⟩) := by
  pointwise []
theorem lp2 (r : Fin 512) (e : Fin 1536) :
    View.ld P (Rect.unit ![0, 3072] ![512, 1536] inb_S512x6144_S512x1536_0_3072) (ix2 r e) = P (ix2 r ⟨3072 + e.val, by omega⟩) := by
  pointwise []
theorem lp3 (r : Fin 512) (e : Fin 1536) :
    View.ld P (Rect.unit ![0, 4608] ![512, 1536] inb_S512x6144_S512x1536_0_4608) (ix2 r e) = P (ix2 r ⟨4608 + e.val, by omega⟩) := by
  pointwise []
theorem lw0 (d : Fin 1024) (e : Fin 1536) :
    View.ld W (Rect.unit ![0, 0, 0] ![1, 1024, 1536] inb_S4x1024x1536_S1x1024x1536_0_0_0) (ix3 0 d e) = W (ix3 0 d e) := by
  pointwise []
theorem lw1 (d : Fin 1024) (e : Fin 1536) :
    View.ld W (Rect.unit ![1, 0, 0] ![1, 1024, 1536] inb_S4x1024x1536_S1x1024x1536_1_0_0) (ix3 0 d e) = W (ix3 1 d e) := by
  pointwise []
theorem lw2 (d : Fin 1024) (e : Fin 1536) :
    View.ld W (Rect.unit ![2, 0, 0] ![1, 1024, 1536] inb_S4x1024x1536_S1x1024x1536_2_0_0) (ix3 0 d e) = W (ix3 2 d e) := by
  pointwise []
theorem lw3 (d : Fin 1024) (e : Fin 1536) :
    View.ld W (Rect.unit ![3, 0, 0] ![1, 1024, 1536] inb_S4x1024x1536_S1x1024x1536_3_0_0) (ix3 0 d e) = W (ix3 3 d e) := by
  pointwise []
end

/-! ## The windows -/

theorem idx0 : ∀ t : Fin cfg0.N, win0_0.index t = ![8 + t.val, 0] := by decide +kernel
theorem idx1 : ∀ t : Fin cfg0.N, win0_1.index t = ![8 + t.val, 0] := by decide +kernel
theorem idx2 : ∀ t : Fin cfg0.N, win0_2.index t = ![8 + t.val, 0] := by decide +kernel
theorem idx3 : ∀ t : Fin cfg0.N, win0_3.index t = ![0, 0] := by decide +kernel
theorem idx4 : ∀ t : Fin cfg0.N, win0_4.index t = ![0, 0, 0] := by decide +kernel
theorem idx5 : ∀ t : Fin cfg0.N, win0_5.index t = ![0, 0] := by decide +kernel

/-- Row `r` of tile `t`: the call's tiles are the second half of the array. -/
def row (t : Fin cfg0.N) (r : Fin 512) : Fin 8192 :=
  ⟨(8 + t.val) * 512 + r.val, by have := t.isLt; have : cfg0.N = 8 := N_0; omega⟩

variable (m : (ℓ : Loc nD τ sig) → Buf (Elt Ideal) ℓ) (c : Dev nD) (t : Fin cfg0.N)

theorem V0 (r : Fin 8192) (d : Fin 1024) : V m c main_v0 (ix2 r d) = m (c, Proc.tc.devRef main_arg0) (ix3 0 r d) := by
  unfold_abbrev_sides
  after_results
  exact cast_x _ r d

theorem V4 (k : Fin 4) (d : Fin 1024) (e : Fin 1536) :
    V m c main_v4 (ix3 k d e) = m (c, Proc.tc.devRef main_arg2) (ix3 0 d ⟨k.val * 1536 + e.val, by omega⟩) := by
  unfold_abbrev_sides
  after_results
  exact cast_w _ k d e

theorem blk0 (r : Fin 512) (e : Fin 6144) : iblk m c 0 t (ix2 r e) = m (c, Proc.tc.devRef main_arg3) (ix2 (row t r) e) := by
  blk_ext [iblk, V, idx0 t, row]

theorem blk1 (r : Fin 512) (d : Fin 1024) : iblk m c 1 t (ix2 r d) = m (c, Proc.tc.devRef main_arg0) (ix3 0 (row t r) d) := by
  refine Eq.trans ?_ (V0 m c (row t r) d)
  generalize hV : V m c main_v0 = X
  blk_ext [iblk, hV, idx1 t, row]

theorem blk2 (r : Fin 512) (d : Fin 1024) : iblk m c 2 t (ix2 r d) = m (c, Proc.tc.devRef main_arg4) (ix2 (row t r) d) := by
  blk_ext [iblk, V, idx2 t, row]

theorem blk3 (d : Fin 1024) : iblk m c 3 t (ix2 0 d) = m (c, Proc.tc.devRef main_arg1) (ix2 0 d) := by
  blk_ext [iblk, V, idx3 t]

theorem blk4 (k : Fin 4) (d : Fin 1024) (e : Fin 1536) :
    iblk m c 4 t (ix3 k d e) = m (c, Proc.tc.devRef main_arg2) (ix3 0 d ⟨k.val * 1536 + e.val, by omega⟩) := by
  refine Eq.trans ?_ (V4 m c k d e)
  generalize hV : V m c main_v4 = X
  blk_ext [iblk, hV, idx4 t]

theorem blk5 (j : Fin 8) (d : Fin 1024) : iblk m c 5 t (ix2 j d) = m (c, Proc.tc.devRef main_arg6) (ix2 j d) := by
  blk_ext [iblk, V, idx5 t]

end Cert.InbBlocks
-- ==== Proof.InbOuts.lean ====
/-
  What the input projection's backward kernel leaves in its output blocks and in its accumulator at each tile.
-/
module

public import proofs.«01_k».proof.Proof.InbBlocks

@[expose] public section

set_option maxRecDepth 16384

noncomputable section

namespace Cert.InbOuts

open Cert.InbKernelIdeal Cert.InbKernelIdeal.Gen Cert.RealLib Cert.InbBlocks Idealize.ShloMosaic Idealize.ShloMosaic.TcCoe Idealize.SL.Sem

variable (m : (ℓ : Loc nD τ sig) → Buf (Elt Ideal) ℓ) (c : Dev nD)

/-- The arguments on device `c` that enter products hold the real arrays `x`, `p`, `w`, `g`; `R` is the residual's
    gradient, `P` and `G` the first call's two results; these may be infinite. -/
structure Holds (x : Fin 8192 → Fin 1024 → ℝ) (p : Fin 8192 → Fin 6144 → ℝ) (w : Fin 1024 → Fin 6144 → ℝ) (g : Fin 1024 → ℝ)
    (R P : Fin 8192 → Fin 1024 → EReal) (G : Fin 8 → Fin 1024 → EReal) : Prop where
  x : ∀ r d, (m (c, Proc.tc.devRef main_arg0) : Vec Ideal S1x8192x1024 .f32) (ix3 0 r d) = ((x r d : ℝ) : EReal)
  g : ∀ d, (m (c, Proc.tc.devRef main_arg1) : Vec Ideal S1x1024 .f32) (ix2 0 d) = ((g d : ℝ) : EReal)
  w : ∀ d e, (m (c, Proc.tc.devRef main_arg2) : Vec Ideal S1x1024x6144 .f32) (ix3 0 d e) = ((w d e : ℝ) : EReal)
  p : ∀ r e, (m (c, Proc.tc.devRef main_arg3) : Vec Ideal S8192x6144 .bf16) (ix2 r e) = ((p r e : ℝ) : EReal)
  R : ∀ r d, (m (c, Proc.tc.devRef main_arg4) : Vec Ideal S8192x1024 .f32) (ix2 r d) = R r d
  P : ∀ r d, (m (c, Proc.tc.devRef main_arg5) : Vec Ideal S8192x1024 .f32) (ix2 r d) = P r d
  G : ∀ j d, (m (c, Proc.tc.devRef main_arg6) : Vec Ideal S8x1024 .f32) (ix2 j d) = G j d

variable {m c} {x : Fin 8192 → Fin 1024 → ℝ} {p : Fin 8192 → Fin 6144 → ℝ} {w : Fin 1024 → Fin 6144 → ℝ} {g : Fin 1024 → ℝ}
variable {R P : Fin 8192 → Fin 1024 → EReal} {G : Fin 8 → Fin 1024 → EReal}
variable (h : Holds m c x p w g R P G) (t : Fin cfg0.N)

/-- The tile's gradient at the norm's output, as the kernel's payload over the tile's input blocks. -/
abbrev tileD : FVec Ideal S512x1024 .f32 :=
  k0_pay7 (F := Ideal)
    (View.ld (iblk m c 0 t) (Rect.unit ![0, 0] ![512, 1536] inb_S512x6144_S512x1536_0_0))
    (View.ld (iblk m c 4 t) (Rect.unit ![0, 0, 0] ![1, 1024, 1536] inb_S4x1024x1536_S1x1024x1536_0_0_0))
    (View.ld (iblk m c 0 t) (Rect.unit ![0, 1536] ![512, 1536] inb_S512x6144_S512x1536_0_1536))
    (View.ld (iblk m c 4 t) (Rect.unit ![1, 0, 0] ![1, 1024, 1536] inb_S4x1024x1536_S1x1024x1536_1_0_0))
    (View.ld (iblk m c 0 t) (Rect.unit ![0, 3072] ![512, 1536] inb_S512x6144_S512x1536_0_3072))
    (View.ld (iblk m c 4 t) (Rect.unit ![2, 0, 0] ![1, 1024, 1536] inb_S4x1024x1536_S1x1024x1536_2_0_0))
    (View.ld (iblk m c 0 t) (Rect.unit ![0, 4608] ![512, 1536] inb_S512x6144_S512x1536_0_4608))
    (View.ld (iblk m c 4 t) (Rect.unit ![3, 0, 0] ![1, 1024, 1536] inb_S4x1024x1536_S1x1024x1536_3_0_0))

include h

theorem b0 (r : Fin 512) (e : Fin 6144) : iblk m c 0 t (ix2 r e) = ((p (row t r) e : ℝ) : EReal) := (blk0 m c t r e).trans (h.p _ _)
theorem b1 (r : Fin 512) (d : Fin 1024) : iblk m c 1 t (ix2 r d) = ((x (row t r) d : ℝ) : EReal) := (blk1 m c t r d).trans (h.x _ _)
theorem b3 (d : Fin 1024) : iblk m c 3 t (ix2 0 d) = ((g d : ℝ) : EReal) := (blk3 m c t d).trans (h.g _)

theorem hD (r : Fin 512) (d : Fin 1024) : tileD (m := m) (c := c) t (ix2 r d) = ((InbMath.dh p w (row t r) d : ℝ) : EReal) :=
  InbPay.pay7 (fun r e => (lp0 _ r e).trans (b0 h t r _))
    (fun d e => ((lw0 _ d e).trans (blk4 m c t 0 d e)).trans ((h.w d _).trans (by congr 3; simp)))
    (fun r e => (lp1 _ r e).trans (b0 h t r _)) (fun d e => ((lw1 _ d e).trans (blk4 m c t 1 d e)).trans (h.w d _))
    (fun r e => (lp2 _ r e).trans (b0 h t r _)) (fun d e => ((lw2 _ d e).trans (blk4 m c t 2 d e)).trans (h.w d _))
    (fun r e => (lp3 _ r e).trans (b0 h t r _)) (fun d e => ((lw3 _ d e).trans (blk4 m c t 3 d e)).trans (h.w d _)) r d

/-- The gradient's tile: the residual's plus the norm's. -/
theorem out_dx (r : Fin 512) (d : Fin 1024) :
    (outsAt0 m c t.val t.isLt).1 (ix2 r d)
      = R (row t r) d + ((InbMath.dx x p w g (row t r) d : ℝ) : EReal) := by
  have e := (InbPay.pay4 (b1 h t) (hD h t) (b3 h t) (iblk m c 2 t) r d).trans (congrArg (· + _) ((blk2 m c t r d).trans (h.R _ _)))
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

omit h in
/-- The tile's addition to row `j` of the gain gradient's eight partial sums. -/
abbrev term (x : Fin 8192 → Fin 1024 → ℝ) (p : Fin 8192 → Fin 6144 → ℝ) (w : Fin 1024 → Fin 6144 → ℝ)
    (t : Fin cfg0.N) (j : Fin 8) (d : Fin 1024) : ℝ :=
  ∑ q : Fin 64, InbMath.dh p w (row t ⟨q.val * 8 + j.val, by omega⟩) d * InbMath.nrm x (row t ⟨q.val * 8 + j.val, by omega⟩) d

/-- The accumulator after the first tile. -/
theorem acc_first (h0 : t.val % 8 = 0) (j : Fin 8) (d : Fin 1024) :
    (outsAt0 m c t.val t.isLt).2.2 (ix2 j d) = 0 + ((term x p w t j d : ℝ) : EReal) := by
  rw [outsAt0_A m c t h0 (by omega)]
  frame_open
  simp (disch := decide) only [↓ View.readCov_skip, ↓ View.readCov_cons_toLoadRect, ↓ View.readCov_fill]
  frame_out
  refine (InbPay.pay3 (b1 h t) (hD h t) _ j d).trans ?_
  rw [InbPay.pay6]

/-- After a later tile: what it held plus the tile's. -/
theorem acc_next (h0 : ¬t.val % 8 = 0) (j : Fin 8) (d : Fin 1024) :
    (outsAt0 m c t.val t.isLt).2.2 (ix2 j d)
      = (outsAt0 m c (t.val - 1) (by have := t.isLt; omega)).2.2 (ix2 j d) + ((term x p w t j d : ℝ) : EReal) := by
  by_cases h1 : t.val % 8 = 7
  · rw [outsAt0_C m c t h0 h1]
    frame_open
    simp (disch := decide) only [↓ View.readCov_skip, ↓ View.readCov_cons_toLoadRect, ↓ View.readCov_fill]
    frame_out
    rw [read_unread_whole]
    exact InbPay.pay3 (b1 h t) (hD h t) _ j d
  · rw [outsAt0_B m c t h0 h1]
    frame_open
    simp (disch := decide) only [↓ View.readCov_skip, ↓ View.readCov_cons_toLoadRect, ↓ View.readCov_fill]
    frame_out
    rw [read_unread_whole]
    exact InbPay.pay3 (b1 h t) (hD h t) _ j d

/-- The gain's gradient at the last tile: the accumulator's eight rows summed, plus what the first call found. -/
theorem gn_last (h0 : ¬t.val % 8 = 0) (h1 : t.val % 8 = 7) (j : Fin 8) (d : Fin 1024) :
    (outsAt0 m c t.val t.isLt).2.1 (ix2 j d) = (∑ k : Fin 8, (outsAt0 m c t.val t.isLt).2.2 (ix2 k d)) + G j d := by
  rw [Finset.sum_congr rfl fun k _ => acc_next h t h0 k d, outsAt0_C m c t h0 h1]
  frame_open
  simp (disch := decide) only [↓ View.readCov_skip, ↓ View.readCov_cons_toLoadRect, ↓ View.readCov_fill]
  frame_out
  rw [InbPay.pay5, blk5, h.G, read_unread_whole]
  exact congrArg (· + _) (Finset.sum_congr rfl fun k _ => InbPay.pay3 (b1 h t) (hD h t) _ k d)

end Cert.InbOuts
-- ==== Proof.InbArr.lean ====
/-
  The two result arrays of the input projection's backward kernel after the run.
-/
module

public import proofs.«01_k».proof.Proof.InbOuts

@[expose] public section

set_option maxRecDepth 16384

noncomputable section

namespace Cert.InbArr

open Cert.InbKernelIdeal Cert.InbKernelIdeal.Gen Cert.RealLib Cert.InbBlocks Cert.InbOuts Idealize.ShloMosaic Idealize.ShloMosaic.TcCoe Idealize.SL.Sem

variable {m : (ℓ : Loc nD τ sig) → Buf (Elt Ideal) ℓ} {c : Dev nD}
variable {x : Fin 8192 → Fin 1024 → ℝ} {p : Fin 8192 → Fin 6144 → ℝ} {w : Fin 1024 → Fin 6144 → ℝ} {g : Fin 1024 → ℝ}
variable {R P : Fin 8192 → Fin 1024 → EReal} {G : Fin 8 → Fin 1024 → EReal}

/-- The eight tiles' rows are the second half of the array's rows. -/
theorem sum_rows (f : Fin 8192 → ℝ) : ∑ t : Fin cfg0.N, ∑ r : Fin 512, f (row t r) = ∑ r : Fin 4096, f ⟨4096 + r.val, by omega⟩ :=
  Fin.sum_mul_add_congr (S := cfg0.N) (n := 512) (f := fun r : Fin 4096 => f ⟨4096 + r.val, by omega⟩)
    (fun t r _ => congrArg f (Fin.ext (by simp only [row]; omega))) (by rw [show cfg0.N = 8 from N_0])

/-- The rows of a tile, eight at a time. -/
theorem sum_eights (f : Fin 512 → ℝ) : ∑ k : Fin 8, ∑ q : Fin 64, f ⟨q.val * 8 + k.val, by omega⟩ = ∑ r, f r := by
  rw [Finset.sum_comm]
  exact Fin.sum_mul_add_congr (S := 64) (n := 8) (f := f) (fun _ _ _ => rfl) rfl

theorem idx6 : ∀ t : Fin cfg0.N, win0_6.index t = ![8 + t.val, 0] := by decide +kernel

theorem flush6 : ∀ t : Fin cfg0.N, (cfg0.win 6).flush t = true := by decide +kernel

variable (h : Holds m c x p w g R P G)
include h

/-- The gain's gradient after the last tile. -/
theorem gn_end (j : Fin 8) (d : Fin 1024) :
    (outsAt0 m c t0_7.val t0_7.isLt).2.1 (ix2 j d)
      = ((∑ r : Fin 4096, InbMath.dh p w ⟨4096 + r.val, by omega⟩ d * InbMath.nrm x ⟨4096 + r.val, by omega⟩ d : ℝ) : EReal) + G j d := by
  rw [gn_last h t0_7 (by decide) (by decide)]
  have e : ∀ k : Fin 8, (outsAt0 m c t0_7.val t0_7.isLt).2.2 (ix2 k d) = ((∑ t : Fin cfg0.N, term x p w t k d : ℝ) : EReal) := fun k => by
    rw [Pipeline.eq_sum_fin_of_reset_step_last (N := cfg0.N) (fun n hn => (outsAt0 m c n hn).2.2 (ix2 k d)) 8 0
      (fun t => ((term x p w t k d : ℝ) : EReal)) (fun t h0 => acc_first h t h0 k d) (fun t h0 => acc_next h t h0 k d)
      (le_of_eq N_0) t0_7 rfl, coe_sum, zero_add]
  rw [Finset.sum_congr rfl fun k _ => e k, coe_sum, Finset.sum_comm,
    Finset.sum_congr rfl fun t _ => sum_eights fun r => InbMath.dh p w (row t r) d * InbMath.nrm x (row t r) d,
    sum_rows fun r => InbMath.dh p w r d * InbMath.nrm x r d]

/-- The gain's gradient, in each of eight equal rows, added to what the first call found. -/
theorem arr7 : (dats m 0 c).arrAt 7 cfg0.N = fun i : S8x1024.Idx =>
    ((∑ r : Fin 4096, InbMath.dh p w ⟨4096 + r.val, by omega⟩ (i 1) * InbMath.nrm x ⟨4096 + r.val, by omega⟩ (i 1) : ℝ) : EReal)
      + G (i 0) (i 1) := by
  refine (dats m 0 c).arrAt_eq_of_after_last 7 t0_7 (by decide +kernel) _ fun k => ?_
  obtain ⟨e, d, rfl⟩ : ∃ (e : Fin 8) (d : Fin 1024), k = ix2 e d := ⟨k 0, k 1, eq_ix2 k⟩
  blk_simp
  rw [after0_7]
  exact gn_end h e d

/-- The first half of the rows is the first call's result, untouched. -/
theorem arr6_low (r : Fin 8192) (d : Fin 1024) (hr : r.val < 4096) : (dats m 0 c).arrAt 6 cfg0.N (ix2 r d) = P r d := by
  have e : V m c main_v6_0 (ix2 r d) = m (c, Proc.tc.devRef main_arg5) (ix2 r d) := by
    unfold_abbrev_sides
    after_results
    rfl
  refine (Value.entry6 m c (ix2 r d) fun t _ hm => ?_).trans (e.trans (h.P r d))
  mem_blk [idx6 t] at hm
  have e0 : (ix2 r d 0).val = r.val := rfl
  omega

/-- The second half is the layer's gradient. -/
theorem arr6_high (r : Fin 8192) (d : Fin 1024) (hr : ¬r.val < 4096) :
    (dats m 0 c).arrAt 6 cfg0.N (ix2 r d) = R r d + ((InbMath.dx x p w g r d : ℝ) : EReal) := by
  have hN : cfg0.N = 8 := N_0
  obtain ⟨t, q, rfl⟩ : ∃ (t : Fin cfg0.N) (q : Fin 512), r = row t q :=
    ⟨⟨r.val / 512 - 8, by omega⟩, ⟨r.val % 512, by omega⟩, Fin.ext (by simp only [row]; omega)⟩
  have e : (win0_6.blk t).view.emb (ix2 q d) = ix2 (row t q) d := by blk_ext [idx6 t, row]
  rw [← e]
  refine ((dats m 0 c).arrAt_emb_eq_flushed 6 Value.disjoint6 t (flush6 t) (ix2 q d)).trans ?_
  rw [Value.flushed6]
  exact out_dx h t q d

end Cert.InbArr
-- ==== Proof.InbRef.lean ====
/-
  The reference of the input projection's backward call, stage by stage at finite arguments: the gradients that
  `InbMath` names, on the second half of the rows.
-/
module

public import proofs.«01_k».proof.Proof.InbMath
public import proofs.«01_k».proof.Proof.Gen.InbReferenceIdeal.Read

@[expose] public section

set_option maxRecDepth 16384

noncomputable section

namespace Cert.InbRef

open Cert.InbReferenceIdeal Cert.InbReferenceIdeal.Gen Cert.InbReferenceIdeal.Read Idealize.ShloMosaic
open Cert.RealLib Cert.InbMath

variable {x0 : (⟨S1x8192x1024, .f32⟩ : BufTy).Contents (Elt Ideal)} {x1 : (⟨S1x1024, .f32⟩ : BufTy).Contents (Elt Ideal)}
  {x2 : (⟨S1x1024x6144, .f32⟩ : BufTy).Contents (Elt Ideal)} {x3 : (⟨S8192x6144, .bf16⟩ : BufTy).Contents (Elt Ideal)}
  {x4 x5 : (⟨S8192x1024, .f32⟩ : BufTy).Contents (Elt Ideal)} {x6 : (⟨S8x1024, .f32⟩ : BufTy).Contents (Elt Ideal)}
  {x : Fin 8192 → Fin 1024 → ℝ} {p : Fin 8192 → Fin 6144 → ℝ} {w : Fin 1024 → Fin 6144 → ℝ} {g : Fin 1024 → ℝ}
  (h0 : ∀ r d, x0 (ix3 0 r d) = ((x r d : ℝ) : EReal)) (h1 : ∀ d, x1 (ix2 0 d) = ((g d : ℝ) : EReal))
  (h2 : ∀ d e, x2 (ix3 0 d e) = ((w d e : ℝ) : EReal)) (h3 : ∀ r e, x3 (ix2 r e) = ((p r e : ℝ) : EReal))

/-- Row `r` of the second half. -/
abbrev up (r : Fin 4096) : Fin 8192 := ⟨4096 + r.val, by omega⟩

include h0

theorem v5 (r : Fin 4096) (d : Fin 1024) : val_main_v5 (F := Ideal) x0 (ix3 0 r d) = ((x (up r) d : ℝ) : EReal) := by
  pointwise [val_main_v5]
  exact h0 _ _

theorem v13 (r : Fin 4096) : val_main_v13 (F := Ideal) x0 (ix3 0 r 0) = ((ms x (up r) : ℝ) : EReal) := by
  pointwise [val_main_v13, val_main_v12, val_main_v11, val_main_v10, val_main_v9, val_main_v8, val_main_v7, val_main_cst, val_main_cst_0, val_main_cst_1]
  simp only [v5 h0, lit_1024, lit_eps, ← EReal.coe_mul, ← EReal.coe_add, coe_sum]
  rw [div_coe_coe _ _ (by norm_num), ← EReal.coe_add]
  rfl

theorem v14 (r : Fin 4096) : val_main_v14 (F := Ideal) x0 (ix3 0 r 0) = ((rs x (up r) : ℝ) : EReal) := by
  pointwise [val_main_v14]
  rw [v13 h0, rsqrt_pos _ (ms_pos ..)]
  rfl

theorem v17 (r : Fin 4096) : val_main_v17 (F := Ideal) x0 (ix3 0 r 0) = ((-(1 / 2) * (rs x (up r) / ms x (up r)) : ℝ) : EReal) := by
  pointwise [val_main_v17, val_main_v16, val_main_v15, val_main_cst_2]
  rw [v13 h0, v14 h0, lit_neg_half, div_coe_coe _ _ (ms_pos ..).ne', ← EReal.coe_mul]

theorem v19 (r : Fin 4096) (d : Fin 1024) : val_main_v19 (F := Ideal) x0 (ix3 0 r d) = ((nrm x (up r) d : ℝ) : EReal) := by
  pointwise [val_main_v19, val_main_v18]
  rw [v5 h0, v14 h0, ← EReal.coe_mul]
  rfl

include h2 h3

theorem v27 (r : Fin 4096) (d : Fin 1024) : val_main_v27 (F := Ideal) x2 x3 (ix3 0 r d) = ((dh p w (up r) d : ℝ) : EReal) := by
  pointwise [val_main_v27, val_main_v23, val_main_v4, val_main_v3, val_main_v2]
  simp only [h2, h3, ← EReal.coe_mul, coe_sum]
  rfl

include h1

theorem v33 (r : Fin 4096) (d : Fin 1024) : val_main_v33 (F := Ideal) x1 x2 x3 (ix3 0 r d) = ((dn p w g (up r) d : ℝ) : EReal) := by
  pointwise [val_main_v33, val_main_v32, val_main_v20, val_main_v6]
  rw [v27 h0 h2 h3, h1, ← EReal.coe_mul]
  rfl

theorem v44 (r : Fin 4096) : val_main_v44 (F := Ideal) x0 x1 x2 x3 (ix1 r)
    = (((∑ k, x (up r) k * dn p w g (up r) k) * (-(1 / 2) * (rs x (up r) / ms x (up r))) / 1024 : ℝ) : EReal) := by
  pointwise [val_main_v44, val_main_cst_7]
  rw [hostReduceAdd_unit_02]
  pointwise [val_main_v43, val_main_v42, val_main_v41, val_main_v37, val_main_v36, val_main_v35, val_main_cst_5, val_main_cst_6]
  simp only [v5 h0, v33 h0 h1 h2 h3, v17 h0, lit_1024, ← EReal.coe_mul, coe_sum]
  rw [div_coe_coe _ _ (by norm_num)]

/-- The gradient at the layer's input, on the second half of the rows. -/
theorem v50 (r : Fin 4096) (d : Fin 1024) : val_main_v50 (F := Ideal) x0 x1 x2 x3 x4 (ix3 0 r d)
    = x4 (ix2 (up r) d) + ((dx x p w g (up r) d : ℝ) : EReal) := by
  pointwise [val_main_v50, val_main_v49, val_main_v48, val_main_v47, val_main_v46, val_main_v45, val_main_v40, val_main_v39, val_main_v38,
    val_main_v1, val_main_v0]
  simp only [v44 h0 h1 h2 h3, v5 h0, v33 h0 h1 h2 h3, v14 h0, ← EReal.coe_mul]
  rw [add_assoc, add_assoc, ← EReal.coe_add, ← EReal.coe_add, ← add_assoc, dx_eq _ _ _ _ _ _ _ rfl]

/-- The first result: the first half of the rows as the first call left them, the second half the gradient. -/
theorem v54_low (r : Fin 8192) (d : Fin 1024) (h : r.val < 4096) : val_main_v54 (F := Ideal) x0 x1 x2 x3 x4 x5 (ix2 r d) = x5 (ix2 r d) := by
  pointwise [val_main_v54]
  rw [dif_pos h]
  pointwise [val_main_v52]

theorem v54_high (r : Fin 8192) (d : Fin 1024) (h : ¬r.val < 4096) : val_main_v54 (F := Ideal) x0 x1 x2 x3 x4 x5 (ix2 r d)
    = x4 (ix2 r d) + ((dx x p w g r d : ℝ) : EReal) := by
  pointwise [val_main_v54]
  rw [dif_neg h]
  pointwise [val_main_v53]
  refine (v50 h0 h1 h2 h3 _ d).trans ?_
  have e : up ⟨r.val - 4096, by omega⟩ = r := Fin.ext (by simp only [up]; omega)
  rw [e]

/-- The second result: what the first call found plus the sum over the second half of the rows. -/
theorem v56 (j : Fin 8) (d : Fin 1024) : val_main_v56 (F := Ideal) x0 x2 x3 x6 (ix2 j d)
    = x6 (ix2 j d) + ((∑ r : Fin 4096, dh p w (up r) d * nrm x (up r) d : ℝ) : EReal) := by
  pointwise [val_main_v56, val_main_v55, val_main_v51, val_main_v34, val_main_cst_4]
  rw [hostReduceAdd_unit_01]
  pointwise [val_main_v31, val_main_v30, val_main_v29, val_main_cst_3]
  simp only [v19 h0, v27 h0 h2 h3, ← EReal.coe_mul, coe_sum]
  exact congrArg (fun z : ℝ => x6 (ix2 j d) + ((z : ℝ) : EReal)) (Finset.sum_congr rfl fun r _ => mul_comm _ _)

end Cert.InbRef
-- ==== Proof.InbClaim.lean ====
/-
  The second backward call of the input projection computes what its reference computes, wherever the arguments that
  enter products are finite.
-/
module

public import proofs.«01_k».proof.Defs
public import proofs.«01_k».proof.Proof.InbArr
public import proofs.«01_k».proof.Proof.InbRef
public import proofs.«01_k».proof.Proof.Gen.InbKernelIdeal
public import proofs.«01_k».proof.Proof.Gen.InbReferenceIdeal
public import proofs.«01_k».proof.Proof.Gen.InbReferenceIdeal.Run

@[expose] public section

set_option maxRecDepth 16384

noncomputable section

namespace Cert.InbClaim

open Cert.RealLib Idealize.ShloMosaic Idealize.ShloMosaic.TcCoe Idealize.SL.Sem

/-- The reference runs, keeps its arguments and declares no semaphore. -/
theorem frame_reference : Cert.quiescent_InbReferenceIdeal (hInbReferenceIdeal := Cert.InbReferenceIdeal.Gen.facts) :=
  fun m ρ _ => (θ_run Cert.InbReferenceIdeal.defs _ _).mono
    (fun r h => ⟨fun c => (h c).2.2, sem_eq_zero_of_no_sems (by decide) r.2⟩) (Cert.InbReferenceIdeal.Value.run m ρ)

section
variable [Cert.Pre_finite_inb.Facts]

/-- Where the precondition holds the four arguments it names are arrays of real numbers. -/
theorem reals {x0 : FVec Ideal Pre_finite_inb.S1x8192x1024 .f32} {x1 : FVec Ideal Pre_finite_inb.S1x1024 .f32}
    {x2 : FVec Ideal Pre_finite_inb.S1x1024x6144 .f32} {x3 : FVec Ideal Pre_finite_inb.S8192x6144 .bf16}
    {x4 x5 : FVec Ideal Pre_finite_inb.S8192x1024 .f32} {x6 : FVec Ideal Pre_finite_inb.S8x1024 .f32}
    (h : Pre_finite_inb.fn (F := Ideal) x0 x1 x2 x3 x4 x5 x6 = fun _ => 1#1) :
    (∃ f : _ → ℝ, ∀ i, x0 i = ((f i : ℝ) : EReal)) ∧ (∃ f : _ → ℝ, ∀ i, x1 i = ((f i : ℝ) : EReal))
      ∧ (∃ f : _ → ℝ, ∀ i, x2 i = ((f i : ℝ) : EReal)) ∧ ∃ f : _ → ℝ, ∀ i, x3 i = ((f i : ℝ) : EReal) := by
  have h' := congrFun h ix0
  obtain ⟨h', e3⟩ := IntOp.andi_eq_one.mp h'
  obtain ⟨h', e2⟩ := IntOp.andi_eq_one.mp h'
  obtain ⟨e0, e1⟩ := IntOp.andi_eq_one.mp h'
  haveI : Subsingleton Pre_finite_inb.S_.Idx := ⟨fun a b => funext fun k => k.elim0⟩
  exact ⟨real_of_all x0 _ rfl _ (fun _ => rfl) _ _ _ _ e0, real_of_all x1 _ rfl _ (fun _ => rfl) _ _ _ _ e1,
    real_of_all x2 _ rfl _ (fun _ => rfl) _ _ _ _ e2, real_of_all x3 _ rfl _ (fun _ => rfl) _ _ _ _ e3⟩
end

open Cert.InbKernelIdeal (nD τ sig main_arg0 main_arg1 main_arg2 main_arg3 main_arg4 main_arg5 main_arg6) in
/-- The arguments of a device, where the precondition holds of them. -/
theorem holds [Cert.Pre_finite_inb.Facts] (m : (ℓ : Loc nD τ sig) → Buf (Elt Ideal) ℓ) (h : Cert.Pre_InbKernelIdeal_finite_inb m) (c : Dev nD) :
    ∃ x p w g R P G, InbOuts.Holds m c x p w g R P G := by
  obtain ⟨⟨x, hx⟩, ⟨g, hg⟩, ⟨w, hw⟩, ⟨p, hp⟩⟩ := reals (h c)
  exact ⟨fun r d => x (ix3 0 r d), fun r e => p (ix2 r e), fun d e => w (ix3 0 d e), fun d => g (ix2 0 d), _, _, _,
    ⟨fun _ _ => hx _, fun _ => hg _, fun _ _ => hw _, fun _ _ => hp _, fun _ _ => rfl, fun _ _ => rfl, fun _ _ => rfl⟩⟩

/-- The results of the two programs are equal. -/
theorem value [hp : Cert.Pre_finite_inb.Facts] : Cert.algebraic_InbKernelIdeal_InbReferenceIdeal_pre_finite_inb
    (hInbKernelIdeal := Cert.InbKernelIdeal.Gen.facts) (hInbReferenceIdeal := Cert.InbReferenceIdeal.Gen.facts) := by
  intro m ρ m' ρ' hpre hag
  refine ⟨_, _, InbKernelIdeal.Value.run_blocks m ρ, (θ_run _ _ _).mono (fun r hr c => ?_) (InbReferenceIdeal.Value.run m' ρ')⟩
  obtain ⟨x, p, w, g, R, P, G, H⟩ := holds m hpre c
  obtain ⟨a0, a1, a2, a3, a4, a5, a6⟩ := hag c
  obtain ⟨r0, r1, k⟩ := hr c
  rw [InbReferenceIdeal.Read.val_main_v54_eq, a0, a1, a2, a3, a4, a5] at r0
  rw [InbReferenceIdeal.Read.val_main_v56_eq, a0, a2, a3, a6] at r1
  refine ⟨r0.trans (funext fun i => ?_), r1.trans ?_, k⟩
  · obtain ⟨a, b, rfl⟩ : ∃ (a : Fin 8192) (b : Fin 1024), i = ix2 a b := ⟨i 0, i 1, eq_ix2 i⟩
    by_cases h : a.val < 4096
    · exact ((InbRef.v54_low H.x H.g H.w H.p a b h).trans (H.P a b)).trans (InbArr.arr6_low H a b h).symm
    · exact ((InbRef.v54_high H.x H.g H.w H.p a b h).trans (congrArg (· + _) (H.R a b))).trans (InbArr.arr6_high H a b h).symm
  · refine Eq.trans (funext fun i => ?_) (InbArr.arr7 H).symm
    obtain ⟨a, b, rfl⟩ : ∃ (a : Fin 8) (b : Fin 1024), i = ix2 a b := ⟨i 0, i 1, eq_ix2 i⟩
    exact ((InbRef.v56 H.x H.g H.w H.p a b).trans (congrArg (· + _) (H.G a b))).trans (add_comm _ _)

end Cert.InbClaim
-- ==== Proof.InaBlocks.lean ====
/-
  The first call of the input projection's backward kernel: its payloads are those of the second call, but for the last
  tile's, which adds nothing; and what each window holds at tile `t`, as entries of @main's arguments.
-/
module

public import proofs.«01_k».proof.Proof.InbBlocks
public import proofs.«01_k».proof.Proof.Gen.InaKernelIdeal.Frame

@[expose] public section

set_option maxRecDepth 16384

noncomputable section

namespace Cert.InaBlocks

open Cert.InaKernelIdeal Cert.InaKernelIdeal.Gen Cert.RealLib Idealize.ShloMosaic Idealize.ShloMosaic.TcCoe Idealize.SL.Sem

/-! ## The payloads -/

theorem pay6_eq : k0_pay6 (F := Ideal) = InbKernelIdeal.Gen.k0_pay6 := rfl

/-- The eight partial sums, summed and repeated on every row. -/
theorem pay5 (a : Vec Ideal S8x1024 .f32) (j : Fin 8) (d : Fin 1024) :
    k0_pay5 (F := Ideal) a (ix2 j d) = ∑ k : Fin 8, a (ix2 k d) := by
  pointwise [k0_pay5]

/-! ## The windows -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0, 0] := by decide +kernel

/-- Row `r` of tile `t`: the call's tiles are the first half of the array. -/
def row (t : Fin cfg0.N) (r : Fin 512) : Fin 8192 :=
  ⟨t.val * 512 + r.val, by have := t.isLt; have : cfg0.N = 8 := N_0; omega⟩

variable (m : (ℓ : Loc nD τ sig) → Buf (Elt Ideal) ℓ) (c : Dev nD) (t : Fin cfg0.N)

theorem Vx (r : Fin 8192) (d : Fin 1024) : V m c main_v0 (ix2 r d) = m (c, Proc.tc.devRef main_arg0) (ix3 0 r d) := by
  simp only [V, V0, hostOps0, List.flatten_cons, List.flatten_nil, List.append_nil]
  after_results
  exact InbBlocks.cast_x _ r d

theorem Vw (k : Fin 4) (d : Fin 1024) (e : Fin 1536) :
    V m c main_v4 (ix3 k d e) = m (c, Proc.tc.devRef main_arg2) (ix3 0 d ⟨k.val * 1536 + e.val, by omega⟩) := by
  simp only [V, V0, hostOps0, List.flatten_cons, List.flatten_nil, List.append_nil]
  after_results
  exact InbBlocks.cast_w _ k d e

theorem blk0 (r : Fin 512) (e : Fin 6144) : iblk m c 0 t (ix2 r e) = m (c, Proc.tc.devRef main_arg3) (ix2 (row t r) e) := by
  blk_ext [iblk, V, idx0 t, row]

theorem blk1 (r : Fin 512) (d : Fin 1024) : iblk m c 1 t (ix2 r d) = m (c, Proc.tc.devRef main_arg0) (ix3 0 (row t r) d) := by
  refine Eq.trans ?_ (Vx m c (row t r) d)
  generalize hV : V m c main_v0 = X
  blk_ext [iblk, hV, idx1 t, row]

theorem blk2 (r : Fin 512) (d : Fin 1024) : iblk m c 2 t (ix2 r d) = m (c, Proc.tc.devRef main_arg4) (ix2 (row t r) d) := by
  blk_ext [iblk, V, idx2 t, row]

theorem blk3 (d : Fin 1024) : iblk m c 3 t (ix2 0 d) = m (c, Proc.tc.devRef main_arg1) (ix2 0 d) := by
  blk_ext [iblk, V, idx3 t]

theorem blk4 (k : Fin 4) (d : Fin 1024) (e : Fin 1536) :
    iblk m c 4 t (ix3 k d e) = m (c, Proc.tc.devRef main_arg2) (ix3 0 d ⟨k.val * 1536 + e.val, by omega⟩) := by
  refine Eq.trans ?_ (Vw m c k d e)
  generalize hV : V m c main_v4 = X
  blk_ext [iblk, hV, idx4 t]

end Cert.InaBlocks
-- ==== Proof.InaOuts.lean ====
/-
  What the first call of the input projection's backward kernel leaves in its output blocks and in its accumulator at each
  tile.
-/
module

public import proofs.«01_k».proof.Proof.InaBlocks

@[expose] public section

set_option maxRecDepth 16384

noncomputable section

namespace Cert.InaOuts

open Cert.InaKernelIdeal Cert.InaKernelIdeal.Gen Cert.RealLib Cert.InaBlocks Idealize.ShloMosaic Idealize.ShloMosaic.TcCoe Idealize.SL.Sem

variable (m : (ℓ : Loc nD τ sig) → Buf (Elt Ideal) ℓ) (c : Dev nD)

/-- The arguments on device `c` that enter products hold the real arrays `x`, `p`, `w`, `g`; `R` is the residual's
    gradient, which may be infinite. -/
structure Holds (x : Fin 8192 → Fin 1024 → ℝ) (p : Fin 8192 → Fin 6144 → ℝ) (w : Fin 1024 → Fin 6144 → ℝ) (g : Fin 1024 → ℝ)
    (R : Fin 8192 → Fin 1024 → EReal) : Prop where
  x : ∀ r d, (m (c, Proc.tc.devRef main_arg0) : Vec Ideal S1x8192x1024 .f32) (ix3 0 r d) = ((x r d : ℝ) : EReal)
  g : ∀ d, (m (c, Proc.tc.devRef main_arg1) : Vec Ideal S1x1024 .f32) (ix2 0 d) = ((g d : ℝ) : EReal)
  w : ∀ d e, (m (c, Proc.tc.devRef main_arg2) : Vec Ideal S1x1024x6144 .f32) (ix3 0 d e) = ((w d e : ℝ) : EReal)
  p : ∀ r e, (m (c, Proc.tc.devRef main_arg3) : Vec Ideal S8192x6144 .bf16) (ix2 r e) = ((p r e : ℝ) : EReal)
  R : ∀ r d, (m (c, Proc.tc.devRef main_arg4) : Vec Ideal S8192x1024 .f32) (ix2 r d) = R r d

variable {m c} {x : Fin 8192 → Fin 1024 → ℝ} {p : Fin 8192 → Fin 6144 → ℝ} {w : Fin 1024 → Fin 6144 → ℝ} {g : Fin 1024 → ℝ}
variable {R : Fin 8192 → Fin 1024 → EReal}
variable (h : Holds m c x p w g R) (t : Fin cfg0.N)

/-- The tile's gradient at the norm's output, as the kernel's payload over the tile's input blocks. -/
abbrev tileD : FVec Ideal S512x1024 .f32 :=
  k0_pay7 (F := Ideal)
    (View.ld (iblk m c 0 t) (Rect.unit ![0, 0] ![512, 1536] inb_S512x6144_S512x1536_0_0))
    (View.ld (iblk m c 4 t) (Rect.unit ![0, 0, 0] ![1, 1024, 1536] inb_S4x1024x1536_S1x1024x1536_0_0_0))
    (View.ld (iblk m c 0 t) (Rect.unit ![0, 1536] ![512, 1536] inb_S512x6144_S512x1536_0_1536))
    (View.ld (iblk m c 4 t) (Rect.unit ![1, 0, 0] ![1, 1024, 1536] inb_S4x1024x1536_S1x1024x1536_1_0_0))
    (View.ld (iblk m c 0 t) (Rect.unit ![0, 3072] ![512, 1536] inb_S512x6144_S512x1536_0_3072))
    (View.ld (iblk m c 4 t) (Rect.unit ![2, 0, 0] ![1, 1024, 1536] inb_S4x1024x1536_S1x1024x1536_2_0_0))
    (View.ld (iblk m c 0 t) (Rect.unit ![0, 4608] ![512, 1536] inb_S512x6144_S512x1536_0_4608))
    (View.ld (iblk m c 4 t) (Rect.unit ![3, 0, 0] ![1, 1024, 1536] inb_S4x1024x1536_S1x1024x1536_3_0_0))

include h

theorem b0 (r : Fin 512) (e : Fin 6144) : iblk m c 0 t (ix2 r e) = ((p (row t r) e : ℝ) : EReal) := (blk0 m c t r e).trans (h.p _ _)
theorem b1 (r : Fin 512) (d : Fin 1024) : iblk m c 1 t (ix2 r d) = ((x (row t r) d : ℝ) : EReal) := (blk1 m c t r d).trans (h.x _ _)
theorem b3 (d : Fin 1024) : iblk m c 3 t (ix2 0 d) = ((g d : ℝ) : EReal) := (blk3 m c t d).trans (h.g _)

theorem hD (r : Fin 512) (d : Fin 1024) : tileD (m := m) (c := c) t (ix2 r d) = ((InbMath.dh p w (row t r) d : ℝ) : EReal) :=
  InbPay.pay7 (fun r e => (InbBlocks.lp0 _ r e).trans (b0 h t r _))
    (fun d e => ((InbBlocks.lw0 _ d e).trans (blk4 m c t 0 d e)).trans ((h.w d _).trans (by congr 3; simp)))
    (fun r e => (InbBlocks.lp1 _ r e).trans (b0 h t r _)) (fun d e => ((InbBlocks.lw1 _ d e).trans (blk4 m c t 1 d e)).trans (h.w d _))
    (fun r e => (InbBlocks.lp2 _ r e).trans (b0 h t r _)) (fun d e => ((InbBlocks.lw2 _ d e).trans (blk4 m c t 2 d e)).trans (h.w d _))
    (fun r e => (InbBlocks.lp3 _ r e).trans (b0 h t r _)) (fun d e => ((InbBlocks.lw3 _ d e).trans (blk4 m c t 3 d e)).trans (h.w d _)) r d

/-- The gradient's tile: the residual's plus the norm's. -/
theorem out_dx (r : Fin 512) (d : Fin 1024) :
    (outsAt0 m c t.val t.isLt).1 (ix2 r d)
      = R (row t r) d + ((InbMath.dx x p w g (row t r) d : ℝ) : EReal) := by
  have e := (InbPay.pay4 (b1 h t) (hD h t) (b3 h t) (iblk m c 2 t) r d).trans (congrArg (· + _) ((blk2 m c t r d).trans (h.R _ _)))
  by_cases h0 : t.val % 8 = 0
  · rw [outsAt0_A m c t h0 (by omega)]
    frame_out
    exact e
  · by_cases h1 : t.val % 8 = 7
    · rw [outsAt0_C m c t h0 h1]
      frame_out
      exact e
    · rw [outsAt0_B m c t h0 h1]
      frame_out
      exact e

omit h in
/-- The tile's addition to row `j` of the gain gradient's eight partial sums. -/
abbrev term (x : Fin 8192 → Fin 1024 → ℝ) (p : Fin 8192 → Fin 6144 → ℝ) (w : Fin 1024 → Fin 6144 → ℝ)
    (t : Fin cfg0.N) (j : Fin 8) (d : Fin 1024) : ℝ :=
  ∑ q : Fin 64, InbMath.dh p w (row t ⟨q.val * 8 + j.val, by omega⟩) d * InbMath.nrm x (row t ⟨q.val * 8 + j.val, by omega⟩) d

/-- The accumulator after the first tile. -/
theorem acc_first (h0 : t.val % 8 = 0) (j : Fin 8) (d : Fin 1024) :
    (outsAt0 m c t.val t.isLt).2.2 (ix2 j d) = 0 + ((term x p w t j d : ℝ) : EReal) := by
  rw [outsAt0_A m c t h0 (by omega)]
  frame_open
  simp (disch := decide) only [↓ View.readCov_skip, ↓ View.readCov_cons_toLoadRect, ↓ View.readCov_fill]
  frame_out
  refine (InbPay.pay3 (b1 h t) (hD h t) _ j d).trans ?_
  rw [pay6_eq, InbPay.pay6]

/-- After a later tile: what it held plus the tile's. -/
theorem acc_next (h0 : ¬t.val % 8 = 0) (j : Fin 8) (d : Fin 1024) :
    (outsAt0 m c t.val t.isLt).2.2 (ix2 j d)
      = (outsAt0 m c (t.val - 1) (by have := t.isLt; omega)).2.2 (ix2 j d) + ((term x p w t j d : ℝ) : EReal) := by
  by_cases h1 : t.val % 8 = 7
  · rw [outsAt0_C m c t h0 h1]
    frame_open
    simp (disch := decide) only [↓ View.readCov_skip, ↓ View.readCov_cons_toLoadRect, ↓ View.readCov_fill]
    frame_out
    rw [read_unread_whole]
    exact InbPay.pay3 (b1 h t) (hD h t) _ j d
  · rw [outsAt0_B m c t h0 h1]
    frame_open
    simp (disch := decide) only [↓ View.readCov_skip, ↓ View.readCov_cons_toLoadRect, ↓ View.readCov_fill]
    frame_out
    rw [read_unread_whole]
    exact InbPay.pay3 (b1 h t) (hD h t) _ j d

/-- The gain's gradient at the last tile: the accumulator's eight rows summed. -/
theorem gn_last (h0 : ¬t.val % 8 = 0) (h1 : t.val % 8 = 7) (j : Fin 8) (d : Fin 1024) :
    (outsAt0 m c t.val t.isLt).2.1 (ix2 j d) = ∑ k : Fin 8, (outsAt0 m c t.val t.isLt).2.2 (ix2 k d) := by
  rw [Finset.sum_congr rfl fun k _ => acc_next h t h0 k d, outsAt0_C m c t h0 h1]
  frame_open
  simp (disch := decide) only [↓ View.readCov_skip, ↓ View.readCov_cons_toLoadRect, ↓ View.readCov_fill]
  frame_out
  rw [pay5, read_unread_whole]
  exact Finset.sum_congr rfl fun k _ => InbPay.pay3 (b1 h t) (hD h t) _ k d

end Cert.InaOuts
-- ==== Proof.InaArr.lean ====
/-
  The two results of the first call of the input projection's backward kernel after the run: the rows of its first array
  that it writes, and the gain's gradient.
-/
module

public import proofs.«01_k».proof.Proof.InaOuts
public import proofs.«01_k».proof.Proof.InbArr

@[expose] public section

set_option maxRecDepth 16384

noncomputable section

namespace Cert.InaArr

open Cert.InaKernelIdeal Cert.InaKernelIdeal.Gen Cert.RealLib Cert.InaBlocks Cert.InaOuts Idealize.ShloMosaic Idealize.ShloMosaic.TcCoe Idealize.SL.Sem

variable {m : (ℓ : Loc nD τ sig) → Buf (Elt Ideal) ℓ} {c : Dev nD}
variable {x : Fin 8192 → Fin 1024 → ℝ} {p : Fin 8192 → Fin 6144 → ℝ} {w : Fin 1024 → Fin 6144 → ℝ} {g : Fin 1024 → ℝ}
variable {R : Fin 8192 → Fin 1024 → EReal}

/-- The eight tiles' rows are the first half of the array's rows. -/
theorem sum_rows (f : Fin 8192 → ℝ) : ∑ t : Fin cfg0.N, ∑ r : Fin 512, f (row t r) = ∑ r : Fin 4096, f ⟨r.val, by omega⟩ :=
  Fin.sum_mul_add_congr (S := cfg0.N) (n := 512) (f := fun r : Fin 4096 => f ⟨r.val, by omega⟩)
    (fun t r _ => congrArg f (Fin.ext (by simp only [row]))) (by rw [show cfg0.N = 8 from N_0])

theorem idx5 : ∀ t : Fin cfg0.N, win0_5.index t = ![t.val, 0] := by decide +kernel

theorem flush5 : ∀ t : Fin cfg0.N, (cfg0.win 5).flush t = true := by decide +kernel

theorem flushed5 (t : Fin cfg0.N) : (dats m 0 c).flushed 5 t = (cfg0.win 5).cut (grid0.coords t) ((outsAt0 m c t.val t.isLt).1) := by
  show (cfg0.win 5).cut (grid0.coords t) ((dats m 0 c).after 5 t) = _
  rw [after0_5]

/-- No two tiles write the same rows. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h =>
    hne ((by decide +kernel : ∀ t t' : Fin grid0.N, win0_5.index t = win0_5.index t' → t = t') t t' h)

variable (h : Holds m c x p w g R)
include h

/-- The gain's gradient after the last tile. -/
theorem gn_end (j : Fin 8) (d : Fin 1024) :
    (outsAt0 m c t0_7.val t0_7.isLt).2.1 (ix2 j d)
      = ((∑ r : Fin 4096, InbMath.dh p w ⟨r.val, by omega⟩ d * InbMath.nrm x ⟨r.val, by omega⟩ d : ℝ) : EReal) := by
  rw [gn_last h t0_7 (by decide) (by decide)]
  have e : ∀ k : Fin 8, (outsAt0 m c t0_7.val t0_7.isLt).2.2 (ix2 k d) = ((∑ t : Fin cfg0.N, term x p w t k d : ℝ) : EReal) := fun k => by
    rw [Pipeline.eq_sum_fin_of_reset_step_last (N := cfg0.N) (fun n hn => (outsAt0 m c n hn).2.2 (ix2 k d)) 8 0
      (fun t => ((term x p w t k d : ℝ) : EReal)) (fun t h0 => acc_first h t h0 k d) (fun t h0 => acc_next h t h0 k d)
      (le_of_eq N_0) t0_7 rfl, coe_sum, zero_add]
  rw [Finset.sum_congr rfl fun k _ => e k, coe_sum, Finset.sum_comm,
    Finset.sum_congr rfl fun t _ => InbArr.sum_eights fun r => InbMath.dh p w (row t r) d * InbMath.nrm x (row t r) d,
    sum_rows fun r => InbMath.dh p w r d * InbMath.nrm x r d]

/-- The gain's gradient, in each of eight equal rows. -/
theorem arr6 : (dats m 0 c).arrAt 6 cfg0.N = fun i : S8x1024.Idx =>
    ((∑ r : Fin 4096, InbMath.dh p w ⟨r.val, by omega⟩ (i 1) * InbMath.nrm x ⟨r.val, by omega⟩ (i 1) : ℝ) : EReal) := by
  refine (dats m 0 c).arrAt_eq_of_after_last 6 t0_7 (by decide +kernel) _ fun k => ?_
  obtain ⟨e, d, rfl⟩ : ∃ (e : Fin 8) (d : Fin 1024), k = ix2 e d := ⟨k 0, k 1, eq_ix2 k⟩
  blk_simp
  rw [after0_6]
  exact gn_end h e d

/-- The first half of the rows is the layer's gradient. -/
theorem arr5 (r : Fin 4096) (d : Fin 1024) :
    (dats m 0 c).arrAt 5 cfg0.N (ix2 ⟨r.val, by omega⟩ d) = R ⟨r.val, by omega⟩ d + ((InbMath.dx x p w g ⟨r.val, by omega⟩ d : ℝ) : EReal) := by
  have hN : cfg0.N = 8 := N_0
  obtain ⟨t, q, e⟩ : ∃ (t : Fin cfg0.N) (q : Fin 512), (⟨r.val, by omega⟩ : Fin 8192) = row t q :=
    ⟨⟨r.val / 512, by omega⟩, ⟨r.val % 512, by omega⟩, Fin.ext (by simp only [row]; omega)⟩
  rw [e]
  have e : (win0_5.blk t).view.emb (ix2 q d) = ix2 (row t q) d := by blk_ext [idx5 t, row]
  rw [← e]
  refine ((dats m 0 c).arrAt_emb_eq_flushed 5 disjoint5 t (flush5 t) (ix2 q d)).trans ?_
  rw [flushed5]
  exact out_dx h t q d

omit h in
/-- The run: the first result is the first half of the rows of the first array, the second the second array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c : Thread nD τ).loc main_v7)
          = extractStridedSlice S4096x1024 ![0, 0] ((dats m 0 c).arrAt 5 cfg0.N : Vec Ideal S8192x1024 .f32) slices_S8192x1024_S4096x1024_0_0)
      ∧ r.2.mem ((c : Thread nD τ).loc main_v6_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨?_, (h.1 c).1 6, h.2 c⟩) (θ_run_and (run_main m ρ) (unchanged m ρ))
  refine ((h.1 c).2 main_v7 (Pipeline.mem_restRefs_of main_v7 (by decide) (by decide))).trans ?_
  unfold Pipeline.afterTail₀
  simp only [hostOps1, List.flatten_cons, List.flatten_nil, List.append_nil]
  after_results
  exact congrArg (fun A : Vec Ideal S8192x1024 .f32 => extractStridedSlice S4096x1024 ![0, 0] A slices_S8192x1024_S4096x1024_0_0)
    (Pipeline.withArrays_arr spec0 (by decide) c (V0 m c) (fun w => (dats m 0 c).arrAt w cfg0.N) 5)

end Cert.InaArr
-- ==== Proof.InaRef.lean ====
/-
  The reference of the input projection's first backward call. It is the reference of the second call on arguments whose
  halves of positions are exchanged, so what was shown of that one gives its two results.
-/
module

public import proofs.«01_k».proof.Proof.InbRef
public import proofs.«01_k».proof.Proof.Gen.InaReferenceIdeal.Read

@[expose] public section

set_option maxRecDepth 16384

noncomputable section

namespace Cert.InaRef

open Cert.InaReferenceIdeal Cert.InaReferenceIdeal.Gen Cert.InaReferenceIdeal.Read Idealize.ShloMosaic
open Cert.RealLib Cert.InbMath

/-- Position `r` in the other half. -/
abbrev other (r : Fin 8192) : Fin 8192 := ⟨(r.val + 4096) % 8192, by omega⟩

/-- Row `r` of the first half. -/
abbrev lo (r : Fin 4096) : Fin 8192 := ⟨r.val, by omega⟩

theorem other_up (r : Fin 4096) : other (InbRef.up r) = lo r := Fin.ext (by simp only [other, InbRef.up, lo]; omega)

/-- An array whose halves of positions are exchanged. -/
abbrev swap3 (x : Vec Ideal S1x8192x1024 .f32) : Vec Ideal S1x8192x1024 .f32 := fun i => x (ix3 (i 0) (other (i 1)) (i 2))
abbrev swap2 {n : Nat} {e : EltTy} (x : Vec Ideal ⟨2, ![8192, n]⟩ e) : Vec Ideal ⟨2, ![8192, n]⟩ e := fun i => x (ix2 (other (i 0)) (i 1))

variable (x0 : (⟨S1x8192x1024, .f32⟩ : BufTy).Contents (Elt Ideal)) (x1 : (⟨S1x1024, .f32⟩ : BufTy).Contents (Elt Ideal))
  (x2 : (⟨S1x1024x6144, .f32⟩ : BufTy).Contents (Elt Ideal)) (x3 : (⟨S8192x6144, .bf16⟩ : BufTy).Contents (Elt Ideal))
  (x4 : (⟨S8192x1024, .f32⟩ : BufTy).Contents (Elt Ideal))

theorem v5 : val_main_v5 (F := Ideal) x0 = InbReferenceIdeal.Read.val_main_v5 (F := Ideal) (swap3 x0) := by
  funext i
  obtain ⟨a, r, d, rfl⟩ : ∃ (a : Fin 1) (r : Fin 4096) (d : Fin 1024), i = ix3 a r d := ⟨i 0, i 1, i 2, eq_ix3 i⟩
  obtain rfl : a = 0 := Subsingleton.elim _ _
  trans x0 (ix3 0 (lo r) d)
  · pointwise [val_main_v5]
  · symm
    pointwise [InbReferenceIdeal.Read.val_main_v5]
    exact congrArg (fun q => x0 (ix3 0 q d)) (other_up r)

theorem v4 : val_main_v4 (F := Ideal) x3 = InbReferenceIdeal.Read.val_main_v4 (F := Ideal) (swap2 x3) := by
  funext i
  obtain ⟨a, r, e, rfl⟩ : ∃ (a : Fin 1) (r : Fin 4096) (e : Fin 6144), i = ix3 a r e := ⟨i 0, i 1, i 2, eq_ix3 i⟩
  obtain rfl : a = 0 := Subsingleton.elim _ _
  trans x3 (ix2 (lo r) e)
  · pointwise [val_main_v4, val_main_v3, val_main_v2]
  · symm
    pointwise [InbReferenceIdeal.Read.val_main_v4, InbReferenceIdeal.Read.val_main_v3, InbReferenceIdeal.Read.val_main_v2]
    exact congrArg (fun q => x3 (ix2 q e)) (other_up r)

theorem v1 : val_main_v1 (F := Ideal) x4 = InbReferenceIdeal.Read.val_main_v1 (F := Ideal) (swap2 x4) := by
  funext i
  obtain ⟨a, r, d, rfl⟩ : ∃ (a : Fin 1) (r : Fin 4096) (d : Fin 1024), i = ix3 a r d := ⟨i 0, i 1, i 2, eq_ix3 i⟩
  obtain rfl : a = 0 := Subsingleton.elim _ _
  trans x4 (ix2 (lo r) d)
  · pointwise [val_main_v1, val_main_v0]
  · symm
    pointwise [InbReferenceIdeal.Read.val_main_v1, InbReferenceIdeal.Read.val_main_v0]
    exact congrArg (fun q => x4 (ix2 q d)) (other_up r)

theorem v14 : val_main_v14 (F := Ideal) x0 = InbReferenceIdeal.Read.val_main_v14 (F := Ideal) (swap3 x0) := by
  delta val_main_v14 val_main_v13 val_main_v12 val_main_v11 val_main_v10 val_main_v9 val_main_v8 val_main_v7
  rw [v5]
  rfl

theorem v17 : val_main_v17 (F := Ideal) x0 = InbReferenceIdeal.Read.val_main_v17 (F := Ideal) (swap3 x0) := by
  delta val_main_v17 val_main_v16 val_main_v15 val_main_v13 val_main_v12 val_main_v11 val_main_v10 val_main_v9 val_main_v8 val_main_v7
  rw [v14, v5]
  rfl

theorem v33 : val_main_v33 (F := Ideal) x1 x2 x3 = InbReferenceIdeal.Read.val_main_v33 (F := Ideal) x1 x2 (swap2 x3) := by
  delta val_main_v33 val_main_v27
  rw [v4]
  rfl

theorem v44 : val_main_v44 (F := Ideal) x0 x1 x2 x3 = InbReferenceIdeal.Read.val_main_v44 (F := Ideal) (swap3 x0) x1 x2 (swap2 x3) := by
  delta val_main_v44 val_main_v43 val_main_v42 val_main_v41 val_main_v37 val_main_v36 val_main_v35
  rw [v33, v17, v5]
  rfl

theorem v50 : val_main_v50 (F := Ideal) x0 x1 x2 x3 x4
    = InbReferenceIdeal.Read.val_main_v50 (F := Ideal) (swap3 x0) x1 x2 (swap2 x3) (swap2 x4) := by
  delta val_main_v50 val_main_v49 val_main_v48 val_main_v47 val_main_v46 val_main_v45 val_main_v40 val_main_v39 val_main_v38
  rw [v44, v33, v14, v5, v1]
  rfl

/-- The second result, as the part of the other reference's second result that its own call adds. -/
theorem v53 : val_main_v53 (F := Ideal) x0 x2 x3 = InbReferenceIdeal.Read.val_main_v55 (F := Ideal) (swap3 x0) x2 (swap2 x3) := by
  delta val_main_v53 val_main_v51 val_main_v34 val_main_v31 val_main_v30 val_main_v29 val_main_v27 val_main_v19 val_main_v18
  rw [v14, v5, v4]
  rfl

variable {x0 x1 x2 x3 x4} {x : Fin 8192 → Fin 1024 → ℝ} {p : Fin 8192 → Fin 6144 → ℝ} {w : Fin 1024 → Fin 6144 → ℝ} {g : Fin 1024 → ℝ}
  (h0 : ∀ r d, x0 (ix3 0 r d) = ((x r d : ℝ) : EReal)) (h1 : ∀ d, x1 (ix2 0 d) = ((g d : ℝ) : EReal))
  (h2 : ∀ d e, x2 (ix3 0 d e) = ((w d e : ℝ) : EReal)) (h3 : ∀ r e, x3 (ix2 r e) = ((p r e : ℝ) : EReal))
include h0 h1 h2 h3

/-- The second result: the sum over the first half of the rows, in each of eight equal rows. -/
theorem gain (j : Fin 8) (d : Fin 1024) : val_main_v53 (F := Ideal) x0 x2 x3 (ix2 j d)
    = ((∑ r : Fin 4096, dh p w (lo r) d * nrm x (lo r) d : ℝ) : EReal) := by
  have e := InbRef.v56 (x0 := swap3 x0) (x3 := swap2 x3) (x6 := fun _ => (0 : EReal)) (x := fun r => x (other r)) (p := fun r => p (other r))
    (fun r d => h0 _ d) h1 h2 (fun r e => h3 _ e) j d
  rw [v53]
  refine ((zero_add _).symm.trans e).trans ?_
  rw [zero_add]
  exact congrArg Real.toEReal (Finset.sum_congr rfl fun r _ => by rw [← other_up]; rfl)

/-- The first result: the gradient at the layer's input, on the first half of the rows. -/
theorem grad (r : Fin 4096) (d : Fin 1024) : val_main_v52 (F := Ideal) x0 x1 x2 x3 x4 (ix2 r d)
    = x4 (ix2 (lo r) d) + ((dx x p w g (lo r) d : ℝ) : EReal) := by
  have e := InbRef.v50 (x0 := swap3 x0) (x3 := swap2 x3) (x4 := swap2 x4) (x := fun r => x (other r)) (p := fun r => p (other r))
    (fun r d => h0 _ d) h1 h2 (fun r e => h3 _ e) r d
  pointwise [val_main_v52]
  rw [v50]
  refine e.trans ?_
  rw [← other_up]
  rfl

end Cert.InaRef
-- ==== Proof.InaClaim.lean ====
/-
  The first backward call of the input projection computes what its reference computes, wherever the arguments that
  enter products are finite.
-/
module

public import proofs.«01_k».proof.Defs
public import proofs.«01_k».proof.Proof.InaArr
public import proofs.«01_k».proof.Proof.InaRef
public import proofs.«01_k».proof.Proof.Gen.InaKernelIdeal
public import proofs.«01_k».proof.Proof.Gen.InaReferenceIdeal
public import proofs.«01_k».proof.Proof.Gen.InaReferenceIdeal.Run

@[expose] public section

set_option maxRecDepth 16384

noncomputable section

namespace Cert.InaClaim

open Cert.RealLib Idealize.ShloMosaic Idealize.ShloMosaic.TcCoe Idealize.SL.Sem

/-- The reference runs, keeps its arguments and declares no semaphore. -/
theorem frame_reference : Cert.quiescent_InaReferenceIdeal (hInaReferenceIdeal := Cert.InaReferenceIdeal.Gen.facts) :=
  fun m ρ _ => (θ_run Cert.InaReferenceIdeal.defs _ _).mono
    (fun r h => ⟨fun c => (h c).2.2, sem_eq_zero_of_no_sems (by decide) r.2⟩) (Cert.InaReferenceIdeal.Value.run m ρ)

section
variable [Cert.Pre_finite_ina.Facts]

/-- Where the precondition holds the four arguments it names are arrays of real numbers. -/
theorem reals {x0 : FVec Ideal Pre_finite_ina.S1x8192x1024 .f32} {x1 : FVec Ideal Pre_finite_ina.S1x1024 .f32}
    {x2 : FVec Ideal Pre_finite_ina.S1x1024x6144 .f32} {x3 : FVec Ideal Pre_finite_ina.S8192x6144 .bf16}
    {x4 : FVec Ideal Pre_finite_ina.S8192x1024 .f32}
    (h : Pre_finite_ina.fn (F := Ideal) x0 x1 x2 x3 x4 = fun _ => 1#1) :
    (∃ f : _ → ℝ, ∀ i, x0 i = ((f i : ℝ) : EReal)) ∧ (∃ f : _ → ℝ, ∀ i, x1 i = ((f i : ℝ) : EReal))
      ∧ (∃ f : _ → ℝ, ∀ i, x2 i = ((f i : ℝ) : EReal)) ∧ ∃ f : _ → ℝ, ∀ i, x3 i = ((f i : ℝ) : EReal) := by
  have h' := congrFun h ix0
  obtain ⟨h', e3⟩ := IntOp.andi_eq_one.mp h'
  obtain ⟨h', e2⟩ := IntOp.andi_eq_one.mp h'
  obtain ⟨e0, e1⟩ := IntOp.andi_eq_one.mp h'
  haveI : Subsingleton Pre_finite_ina.S_.Idx := ⟨fun a b => funext fun k => k.elim0⟩
  exact ⟨real_of_all x0 _ rfl _ (fun _ => rfl) _ _ _ _ e0, real_of_all x1 _ rfl _ (fun _ => rfl) _ _ _ _ e1,
    real_of_all x2 _ rfl _ (fun _ => rfl) _ _ _ _ e2, real_of_all x3 _ rfl _ (fun _ => rfl) _ _ _ _ e3⟩
end

open Cert.InaKernelIdeal (nD τ sig main_arg0 main_arg1 main_arg2 main_arg3 main_arg4) in
/-- The arguments of a device, where the precondition holds of them. -/
theorem holds [Cert.Pre_finite_ina.Facts] (m : (ℓ : Loc nD τ sig) → Buf (Elt Ideal) ℓ) (h : Cert.Pre_InaKernelIdeal_finite_ina m) (c : Dev nD) :
    ∃ x p w g R, InaOuts.Holds m c x p w g R := by
  obtain ⟨⟨x, hx⟩, ⟨g, hg⟩, ⟨w, hw⟩, ⟨p, hp⟩⟩ := reals (h c)
  exact ⟨fun r d => x (ix3 0 r d), fun r e => p (ix2 r e), fun d e => w (ix3 0 d e), fun d => g (ix2 0 d), _,
    ⟨fun _ _ => hx _, fun _ => hg _, fun _ _ => hw _, fun _ _ => hp _, fun _ _ => rfl⟩⟩

/-- The results of the two programs are equal. -/
theorem value [hp : Cert.Pre_finite_ina.Facts] : Cert.algebraic_InaKernelIdeal_InaReferenceIdeal_pre_finite_ina
    (hInaKernelIdeal := Cert.InaKernelIdeal.Gen.facts) (hInaReferenceIdeal := Cert.InaReferenceIdeal.Gen.facts) := by
  intro m ρ m' ρ' hpre hag
  refine ⟨_, _, InaArr.run m ρ, (θ_run _ _ _).mono (fun r hr c => ?_) (InaReferenceIdeal.Value.run m' ρ')⟩
  obtain ⟨x, p, w, g, R, H⟩ := holds m hpre c
  obtain ⟨a0, a1, a2, a3, a4⟩ := hag c
  obtain ⟨r0, r1, k⟩ := hr c
  rw [InaReferenceIdeal.Read.val_main_v52_eq, a0, a1, a2, a3, a4] at r0
  rw [InaReferenceIdeal.Read.val_main_v53_eq, a0, a2, a3] at r1
  refine ⟨r0.trans (funext fun i => ?_), r1.trans ?_, k⟩
  · obtain ⟨a, b, rfl⟩ : ∃ (a : Fin 4096) (b : Fin 1024), i = ix2 a b := ⟨i 0, i 1, eq_ix2 i⟩
    refine ((InaRef.grad H.x H.g H.w H.p a b).trans (congrArg (· + _) (H.R _ b))).trans ((InaArr.arr5 H a b).symm.trans ?_)
    symm
    pointwise []
  · refine Eq.trans (funext fun i => ?_) (InaArr.arr6 H).symm
    obtain ⟨a, b, rfl⟩ : ∃ (a : Fin 8) (b : Fin 1024), i = ix2 a b := ⟨i 0, i 1, eq_ix2 i⟩
    exact InaRef.gain H.x H.g H.w H.p a b

end Cert.InaClaim
-- ==== Proof.lean ====
/- The proof of the certificate: the frames of the programs as generated, the idealization without rewrites, and the
   value of the out-projection's call (`OutClaim`); the frames of the branch's backward call (`MixFrames`) and its value (`MixClaim`);
   those of the branch's forward call (`FwdFrames`, `FwdClaim`); the input projection's two backward calls (`InaClaim`, `InbClaim`). -/
module

public import proofs.«01_k».proof.Proof.OutClaim
public import proofs.«01_k».proof.Proof.MixFrames
public import proofs.«01_k».proof.Proof.MixClaim
public import proofs.«01_k».proof.Proof.FwdFrames
public import proofs.«01_k».proof.Proof.FwdClaim
public import proofs.«01_k».proof.Proof.InbClaim
public import proofs.«01_k».proof.Proof.InaClaim
public import proofs.«01_k».proof.Defs
public import proofs.«01_k».proof.Proof.Gen.InbKernel
public import proofs.«01_k».proof.Proof.Gen.InbKernel.Frame
public import proofs.«01_k».proof.Proof.Gen.InbKernelIdeal.Frame
public import proofs.«01_k».proof.Proof.Gen.InbKernelIdeal.Value
public import proofs.«01_k».proof.Proof.Gen.Pre_finite_inb
public import proofs.«01_k».proof.Proof.Gen.InbReferenceIdeal
public import proofs.«01_k».proof.Proof.Gen.InbReferenceIdeal.Run
public import proofs.«01_k».proof.Proof.Gen.InbReferenceIdeal.Read
public import proofs.«01_k».proof.Proof.Gen.InaKernel
public import proofs.«01_k».proof.Proof.Gen.InaKernel.Frame
public import proofs.«01_k».proof.Proof.Gen.InaKernelIdeal.Frame
public import proofs.«01_k».proof.Proof.Gen.Pre_finite_ina
public import proofs.«01_k».proof.Proof.Gen.InaReferenceIdeal
public import proofs.«01_k».proof.Proof.Gen.InaReferenceIdeal.Run
public import proofs.«01_k».proof.Proof.Gen.InaReferenceIdeal.Read
public import proofs.«01_k».proof.Proof.Gen.FwdKernel
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.Pre_finite_fwd
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.OutKernel
public import proofs.«01_k».proof.Proof.Gen.OutKernel.Frame
public import proofs.«01_k».proof.Proof.Gen.OutKernelIdeal.Frame
public import proofs.«01_k».proof.Proof.Gen.OutReferenceIdeal
public import proofs.«01_k».proof.Proof.Gen.Pre_finite_out
public import proofs.«01_k».proof.Proof.Gen.Pre_finite_bb
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.OutReferenceIdeal.Run

@[expose] public section

noncomputable section

namespace Cert.Proof

open Idealize.ShloMosaic Idealize.SL.Sem

/-- The out-projection's reference runs, keeps its arguments and declares no semaphore. -/
theorem frame_out_reference : Cert.quiescent_OutReferenceIdeal (hOutReferenceIdeal := Cert.OutReferenceIdeal.Gen.facts) :=
  fun m ρ _ => (θ_run Cert.OutReferenceIdeal.defs _ _).mono
    (fun r h => ⟨fun c => (h c).2.2.2.2.2, sem_eq_zero_of_no_sems (by decide) r.2⟩) (Cert.OutReferenceIdeal.Value.run m ρ)

theorem claim : Cert.Claim :=
  ⟨Cert.OutKernel.Gen.facts, Cert.OutKernelIdeal.Gen.facts, Cert.OutReferenceIdeal.Gen.facts, Cert.MixKernel.Gen.facts, Cert.MixKernelIdeal.Gen.facts,
    Cert.MixReferenceIdeal.Gen.facts, Cert.FwdKernel.Gen.facts, Cert.FwdKernelIdeal.Gen.facts, Cert.FwdReferenceIdeal.Gen.facts,
    Cert.InbKernel.Gen.facts, Cert.InbKernelIdeal.Gen.facts, Cert.InbReferenceIdeal.Gen.facts,
    Cert.InaKernel.Gen.facts, Cert.InaKernelIdeal.Gen.facts, Cert.InaReferenceIdeal.Gen.facts,
    Cert.Pre_finite_out.Gen.facts, Cert.Pre_finite_bb.Gen.facts, Cert.Pre_finite_fwd.Gen.facts, Cert.Pre_finite_inb.Gen.facts, Cert.Pre_finite_ina.Gen.facts,
    fun m ρ _ => Cert.OutKernel.Gen.frame m ρ, fun m ρ _ => Cert.OutKernelIdeal.Gen.frame m ρ, fun m ρ _ => Cert.OutKernelIdeal.Gen.frame m ρ,
    frame_out_reference, fun m ρ _ => frame_out_reference m ρ trivial,
    Cert.Mix.frame_kernel, Cert.Mix.frame_ideal, fun m ρ _ => Cert.Mix.frame_ideal m ρ trivial,
    MixClaim.frame_reference, fun m ρ _ => MixClaim.frame_reference m ρ trivial,
    Cert.Fwd.frame_kernel, Cert.Fwd.frame_ideal, fun m ρ _ => Cert.Fwd.frame_ideal m ρ trivial,
    FwdClaim.frame_reference, fun m ρ _ => FwdClaim.frame_reference m ρ trivial,
    fun m ρ _ => Cert.InbKernel.Gen.frame m ρ, fun m ρ _ => Cert.InbKernelIdeal.Gen.frame m ρ, fun m ρ _ => Cert.InbKernelIdeal.Gen.frame m ρ,
    InbClaim.frame_reference, fun m ρ _ => InbClaim.frame_reference m ρ trivial,
    fun m ρ _ => Cert.InaKernel.Gen.frame m ρ, fun m ρ _ => Cert.InaKernelIdeal.Gen.frame m ρ, fun m ρ _ => Cert.InaKernelIdeal.Gen.frame m ρ,
    InaClaim.frame_reference, fun m ρ _ => InaClaim.frame_reference m ρ trivial,
    trivial, OutClaim.value, trivial, MixClaim.value, trivial, FwdClaim.value, trivial, InbClaim.value, trivial, InaClaim.value⟩

end Cert.Proof

end
